-- ==== Defs.lean ====
def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdIdeal_finite_out [hPre_finite_out : Cert.Pre_finite_out.Facts] (m : (ℓ : Loc Cert.OutBwdIdeal.nD Cert.OutBwdIdeal.τ Cert.OutBwdIdeal.sig) → Buf (Elt Ideal) ℓ) : Prop :=
  ∀ c : Dev Cert.OutBwdIdeal.nD,
    (Cert.Pre_finite_out.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3))).1 = (fun _ => 1#1)
    ∧ (Cert.Pre_finite_out.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3))).2.1 = (fun _ => 1#1)
    ∧ (Cert.Pre_finite_out.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3))).2.2.1 = (fun _ => 1#1)
    ∧ (Cert.Pre_finite_out.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3))).2.2.2 = (fun _ => 1#1)

def Pre_OutGradIdeal (m : (ℓ : Loc Cert.OutGradIdeal.nD Cert.OutGradIdeal.τ Cert.OutGradIdeal.sig) → Buf (Elt Ideal) ℓ) : Prop :=
  True

def Pre_OutGradIdeal_finite_out [hPre_finite_out : Cert.Pre_finite_out.Facts] (m : (ℓ : Loc Cert.OutGradIdeal.nD Cert.OutGradIdeal.τ Cert.OutGradIdeal.sig) → Buf (Elt Ideal) ℓ) : Prop :=
  ∀ c : Dev Cert.OutGradIdeal.nD,
    (Cert.Pre_finite_out.fn (F := Ideal) (m ((c.tc : Thread Cert.OutGradIdeal.nD Cert.OutGradIdeal.τ).loc Cert.OutGradIdeal.main_arg0)) (m ((c.tc : Thread Cert.OutGradIdeal.nD Cert.OutGradIdeal.τ).loc Cert.OutGradIdeal.main_arg1)) (m ((c.tc : Thread Cert.OutGradIdeal.nD Cert.OutGradIdeal.τ).loc Cert.OutGradIdeal.main_arg2)) (m ((c.tc : Thread Cert.OutGradIdeal.nD Cert.OutGradIdeal.τ).loc Cert.OutGradIdeal.main_arg3))).1 = (fun _ => 1#1)
    ∧ (Cert.Pre_finite_out.fn (F := Ideal) (m ((c.tc : Thread Cert.OutGradIdeal.nD Cert.OutGradIdeal.τ).loc Cert.OutGradIdeal.main_arg0)) (m ((c.tc : Thread Cert.OutGradIdeal.nD Cert.OutGradIdeal.τ).loc Cert.OutGradIdeal.main_arg1)) (m ((c.tc : Thread Cert.OutGradIdeal.nD Cert.OutGradIdeal.τ).loc Cert.OutGradIdeal.main_arg2)) (m ((c.tc : Thread Cert.OutGradIdeal.nD Cert.OutGradIdeal.τ).loc Cert.OutGradIdeal.main_arg3))).2.1 = (fun _ => 1#1)
    ∧ (Cert.Pre_finite_out.fn (F := Ideal) (m ((c.tc : Thread Cert.OutGradIdeal.nD Cert.OutGradIdeal.τ).loc Cert.OutGradIdeal.main_arg0)) (m ((c.tc : Thread Cert.OutGradIdeal.nD Cert.OutGradIdeal.τ).loc Cert.OutGradIdeal.main_arg1)) (m ((c.tc : Thread Cert.OutGradIdeal.nD Cert.OutGradIdeal.τ).loc Cert.OutGradIdeal.main_arg2)) (m ((c.tc : Thread Cert.OutGradIdeal.nD Cert.OutGradIdeal.τ).loc Cert.OutGradIdeal.main_arg3))).2.2.1 = (fun _ => 1#1)
    ∧ (Cert.Pre_finite_out.fn (F := Ideal) (m ((c.tc : Thread Cert.OutGradIdeal.nD Cert.OutGradIdeal.τ).loc Cert.OutGradIdeal.main_arg0)) (m ((c.tc : Thread Cert.OutGradIdeal.nD Cert.OutGradIdeal.τ).loc Cert.OutGradIdeal.main_arg1)) (m ((c.tc : Thread Cert.OutGradIdeal.nD Cert.OutGradIdeal.τ).loc Cert.OutGradIdeal.main_arg2)) (m ((c.tc : Thread Cert.OutGradIdeal.nD Cert.OutGradIdeal.τ).loc Cert.OutGradIdeal.main_arg3))).2.2.2 = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_attn [hPre_finite_attn : Cert.Pre_finite_attn.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.2.2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.2.2.2 = (fun _ => 1#1)

def Pre_AttnGradIdeal (m : (ℓ : Loc Cert.AttnGradIdeal.nD Cert.AttnGradIdeal.τ Cert.AttnGradIdeal.sig) → Buf (Elt Ideal) ℓ) : Prop :=
  True

def Pre_AttnGradIdeal_finite_attn [hPre_finite_attn : Cert.Pre_finite_attn.Facts] (m : (ℓ : Loc Cert.AttnGradIdeal.nD Cert.AttnGradIdeal.τ Cert.AttnGradIdeal.sig) → Buf (Elt Ideal) ℓ) : Prop :=
  ∀ c : Dev Cert.AttnGradIdeal.nD,
    (Cert.Pre_finite_attn.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4)) (m ((c.tc : Thread Cert.AttnGradIdeal.nD Cert.AttnGradIdeal.τ).loc Cert.AttnGradIdeal.main_arg5))).1 = (fun _ => 1#1)
    ∧ (Cert.Pre_finite_attn.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4)) (m ((c.tc : Thread Cert.AttnGradIdeal.nD Cert.AttnGradIdeal.τ).loc Cert.AttnGradIdeal.main_arg5))).2.1 = (fun _ => 1#1)
    ∧ (Cert.Pre_finite_attn.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4)) (m ((c.tc : Thread Cert.AttnGradIdeal.nD Cert.AttnGradIdeal.τ).loc Cert.AttnGradIdeal.main_arg5))).2.2.1 = (fun _ => 1#1)
    ∧ (Cert.Pre_finite_attn.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4)) (m ((c.tc : Thread Cert.AttnGradIdeal.nD Cert.AttnGradIdeal.τ).loc Cert.AttnGradIdeal.main_arg5))).2.2.2.1 = (fun _ => 1#1)
    ∧ (Cert.Pre_finite_attn.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4)) (m ((c.tc : Thread Cert.AttnGradIdeal.nD Cert.AttnGradIdeal.τ).loc Cert.AttnGradIdeal.main_arg5))).2.2.2.2.1 = (fun _ => 1#1)
    ∧ (Cert.Pre_finite_attn.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4)) (m ((c.tc : Thread Cert.AttnGradIdeal.nD Cert.AttnGradIdeal.τ).loc Cert.AttnGradIdeal.main_arg5))).2.2.2.2.2 = (fun _ => 1#1)

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_finite_in [hPre_finite_in : Cert.Pre_finite_in.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8))).1 = (fun _ => 1#1)
    ∧ (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8))).2.1 = (fun _ => 1#1)
    ∧ (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8))).2.2.1 = (fun _ => 1#1)
    ∧ (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8))).2.2.2.1 = (fun _ => 1#1)
    ∧ (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8))).2.2.2.2.1 = (fun _ => 1#1)
    ∧ (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8))).2.2.2.2.2.1 = (fun _ => 1#1)
    ∧ (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8))).2.2.2.2.2.2 = (fun _ => 1#1)

def Pre_InGradIdeal (m : (ℓ : Loc Cert.InGradIdeal.nD Cert.InGradIdeal.τ Cert.InGradIdeal.sig) → Buf (Elt Ideal) ℓ) : Prop :=
  True

def Pre_InGradIdeal_finite_in [hPre_finite_in : Cert.Pre_finite_in.Facts] (m : (ℓ : Loc Cert.InGradIdeal.nD Cert.InGradIdeal.τ Cert.InGradIdeal.sig) → Buf (Elt Ideal) ℓ) : Prop :=
  ∀ c : Dev Cert.InGradIdeal.nD,
    (Cert.Pre_finite_in.fn (F := Ideal) (m ((c.tc : Thread Cert.InGradIdeal.nD Cert.InGradIdeal.τ).loc Cert.InGradIdeal.main_arg0)) (m ((c.tc : Thread Cert.InGradIdeal.nD Cert.InGradIdeal.τ).loc Cert.InGradIdeal.main_arg1)) (m ((c.tc : Thread Cert.InGradIdeal.nD Cert.InGradIdeal.τ).loc Cert.InGradIdeal.main_arg2)) (m ((c.tc : Thread Cert.InGradIdeal.nD Cert.InGradIdeal.τ).loc Cert.InGradIdeal.main_arg3)) (m ((c.tc : Thread Cert.InGradIdeal.nD Cert.InGradIdeal.τ).loc Cert.InGradIdeal.main_arg4)) (m ((c.tc : Thread Cert.InGradIdeal.nD Cert.InGradIdeal.τ).loc Cert.InGradIdeal.main_arg5)) (m ((c.tc : Thread Cert.InGradIdeal.nD Cert.InGradIdeal.τ).loc Cert.InGradIdeal.main_arg6)) (m ((c.tc : Thread Cert.InGradIdeal.nD Cert.InGradIdeal.τ).loc Cert.InGradIdeal.main_arg7)) (m ((c.tc : Thread Cert.InGradIdeal.nD Cert.InGradIdeal.τ).loc Cert.InGradIdeal.main_arg8))).1 = (fun _ => 1#1)
    ∧ (Cert.Pre_finite_in.fn (F := Ideal) (m ((c.tc : Thread Cert.InGradIdeal.nD Cert.InGradIdeal.τ).loc Cert.InGradIdeal.main_arg0)) (m ((c.tc : Thread Cert.InGradIdeal.nD Cert.InGradIdeal.τ).loc Cert.InGradIdeal.main_arg1)) (m ((c.tc : Thread Cert.InGradIdeal.nD Cert.InGradIdeal.τ).loc Cert.InGradIdeal.main_arg2)) (m ((c.tc : Thread Cert.InGradIdeal.nD Cert.InGradIdeal.τ).loc Cert.InGradIdeal.main_arg3)) (m ((c.tc : Thread Cert.InGradIdeal.nD Cert.InGradIdeal.τ).loc Cert.InGradIdeal.main_arg4)) (m ((c.tc : Thread Cert.InGradIdeal.nD Cert.InGradIdeal.τ).loc Cert.InGradIdeal.main_arg5)) (m ((c.tc : Thread Cert.InGradIdeal.nD Cert.InGradIdeal.τ).loc Cert.InGradIdeal.main_arg6)) (m ((c.tc : Thread Cert.InGradIdeal.nD Cert.InGradIdeal.τ).loc Cert.InGradIdeal.main_arg7)) (m ((c.tc : Thread Cert.InGradIdeal.nD Cert.InGradIdeal.τ).loc Cert.InGradIdeal.main_arg8))).2.1 = (fun _ => 1#1)
    ∧ (Cert.Pre_finite_in.fn (F := Ideal) (m ((c.tc : Thread Cert.InGradIdeal.nD Cert.InGradIdeal.τ).loc Cert.InGradIdeal.main_arg0)) (m ((c.tc : Thread Cert.InGradIdeal.nD Cert.InGradIdeal.τ).loc Cert.InGradIdeal.main_arg1)) (m ((c.tc : Thread Cert.InGradIdeal.nD Cert.InGradIdeal.τ).loc Cert.InGradIdeal.main_arg2)) (m ((c.tc : Thread Cert.InGradIdeal.nD Cert.InGradIdeal.τ).loc Cert.InGradIdeal.main_arg3)) (m ((c.tc : Thread Cert.InGradIdeal.nD Cert.InGradIdeal.τ).loc Cert.InGradIdeal.main_arg4)) (m ((c.tc : Thread Cert.InGradIdeal.nD Cert.InGradIdeal.τ).loc Cert.InGradIdeal.main_arg5)) (m ((c.tc : Thread Cert.InGradIdeal.nD Cert.InGradIdeal.τ).loc Cert.InGradIdeal.main_arg6)) (m ((c.tc : Thread Cert.InGradIdeal.nD Cert.InGradIdeal.τ).loc Cert.InGradIdeal.main_arg7)) (m ((c.tc : Thread Cert.InGradIdeal.nD Cert.InGradIdeal.τ).loc Cert.InGradIdeal.main_arg8))).2.2.1 = (fun _ => 1#1)
    ∧ (Cert.Pre_finite_in.fn (F := Ideal) (m ((c.tc : Thread Cert.InGradIdeal.nD Cert.InGradIdeal.τ).loc Cert.InGradIdeal.main_arg0)) (m ((c.tc : Thread Cert.InGradIdeal.nD Cert.InGradIdeal.τ).loc Cert.InGradIdeal.main_arg1)) (m ((c.tc : Thread Cert.InGradIdeal.nD Cert.InGradIdeal.τ).loc Cert.InGradIdeal.main_arg2)) (m ((c.tc : Thread Cert.InGradIdeal.nD Cert.InGradIdeal.τ).loc Cert.InGradIdeal.main_arg3)) (m ((c.tc : Thread Cert.InGradIdeal.nD Cert.InGradIdeal.τ).loc Cert.InGradIdeal.main_arg4)) (m ((c.tc : Thread Cert.InGradIdeal.nD Cert.InGradIdeal.τ).loc Cert.InGradIdeal.main_arg5)) (m ((c.tc : Thread Cert.InGradIdeal.nD Cert.InGradIdeal.τ).loc Cert.InGradIdeal.main_arg6)) (m ((c.tc : Thread Cert.InGradIdeal.nD Cert.InGradIdeal.τ).loc Cert.InGradIdeal.main_arg7)) (m ((c.tc : Thread Cert.InGradIdeal.nD Cert.InGradIdeal.τ).loc Cert.InGradIdeal.main_arg8))).2.2.2.1 = (fun _ => 1#1)
    ∧ (Cert.Pre_finite_in.fn (F := Ideal) (m ((c.tc : Thread Cert.InGradIdeal.nD Cert.InGradIdeal.τ).loc Cert.InGradIdeal.main_arg0)) (m ((c.tc : Thread Cert.InGradIdeal.nD Cert.InGradIdeal.τ).loc Cert.InGradIdeal.main_arg1)) (m ((c.tc : Thread Cert.InGradIdeal.nD Cert.InGradIdeal.τ).loc Cert.InGradIdeal.main_arg2)) (m ((c.tc : Thread Cert.InGradIdeal.nD Cert.InGradIdeal.τ).loc Cert.InGradIdeal.main_arg3)) (m ((c.tc : Thread Cert.InGradIdeal.nD Cert.InGradIdeal.τ).loc Cert.InGradIdeal.main_arg4)) (m ((c.tc : Thread Cert.InGradIdeal.nD Cert.InGradIdeal.τ).loc Cert.InGradIdeal.main_arg5)) (m ((c.tc : Thread Cert.InGradIdeal.nD Cert.InGradIdeal.τ).loc Cert.InGradIdeal.main_arg6)) (m ((c.tc : Thread Cert.InGradIdeal.nD Cert.InGradIdeal.τ).loc Cert.InGradIdeal.main_arg7)) (m ((c.tc : Thread Cert.InGradIdeal.nD Cert.InGradIdeal.τ).loc Cert.InGradIdeal.main_arg8))).2.2.2.2.1 = (fun _ => 1#1)
    ∧ (Cert.Pre_finite_in.fn (F := Ideal) (m ((c.tc : Thread Cert.InGradIdeal.nD Cert.InGradIdeal.τ).loc Cert.InGradIdeal.main_arg0)) (m ((c.tc : Thread Cert.InGradIdeal.nD Cert.InGradIdeal.τ).loc Cert.InGradIdeal.main_arg1)) (m ((c.tc : Thread Cert.InGradIdeal.nD Cert.InGradIdeal.τ).loc Cert.InGradIdeal.main_arg2)) (m ((c.tc : Thread Cert.InGradIdeal.nD Cert.InGradIdeal.τ).loc Cert.InGradIdeal.main_arg3)) (m ((c.tc : Thread Cert.InGradIdeal.nD Cert.InGradIdeal.τ).loc Cert.InGradIdeal.main_arg4)) (m ((c.tc : Thread Cert.InGradIdeal.nD Cert.InGradIdeal.τ).loc Cert.InGradIdeal.main_arg5)) (m ((c.tc : Thread Cert.InGradIdeal.nD Cert.InGradIdeal.τ).loc Cert.InGradIdeal.main_arg6)) (m ((c.tc : Thread Cert.InGradIdeal.nD Cert.InGradIdeal.τ).loc Cert.InGradIdeal.main_arg7)) (m ((c.tc : Thread Cert.InGradIdeal.nD Cert.InGradIdeal.τ).loc Cert.InGradIdeal.main_arg8))).2.2.2.2.2.1 = (fun _ => 1#1)
    ∧ (Cert.Pre_finite_in.fn (F := Ideal) (m ((c.tc : Thread Cert.InGradIdeal.nD Cert.InGradIdeal.τ).loc Cert.InGradIdeal.main_arg0)) (m ((c.tc : Thread Cert.InGradIdeal.nD Cert.InGradIdeal.τ).loc Cert.InGradIdeal.main_arg1)) (m ((c.tc : Thread Cert.InGradIdeal.nD Cert.InGradIdeal.τ).loc Cert.InGradIdeal.main_arg2)) (m ((c.tc : Thread Cert.InGradIdeal.nD Cert.InGradIdeal.τ).loc Cert.InGradIdeal.main_arg3)) (m ((c.tc : Thread Cert.InGradIdeal.nD Cert.InGradIdeal.τ).loc Cert.InGradIdeal.main_arg4)) (m ((c.tc : Thread Cert.InGradIdeal.nD Cert.InGradIdeal.τ).loc Cert.InGradIdeal.main_arg5)) (m ((c.tc : Thread Cert.InGradIdeal.nD Cert.InGradIdeal.τ).loc Cert.InGradIdeal.main_arg6)) (m ((c.tc : Thread Cert.InGradIdeal.nD Cert.InGradIdeal.τ).loc Cert.InGradIdeal.main_arg7)) (m ((c.tc : Thread Cert.InGradIdeal.nD Cert.InGradIdeal.τ).loc Cert.InGradIdeal.main_arg8))).2.2.2.2.2.2 = (fun _ => 1#1)

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdIdeal_finite_glu [hPre_finite_glu : Cert.Pre_finite_glu.Facts] (m : (ℓ : Loc Cert.GluBwdIdeal.nD Cert.GluBwdIdeal.τ Cert.GluBwdIdeal.sig) → Buf (Elt Ideal) ℓ) : Prop :=
  ∀ c : Dev Cert.GluBwdIdeal.nD,
    (Cert.Pre_finite_glu.fn (F := Ideal) (m ((c.tc : Thread Cert.GluBwdIdeal.nD Cert.GluBwdIdeal.τ).loc Cert.GluBwdIdeal.main_arg0)) (m ((c.tc : Thread Cert.GluBwdIdeal.nD Cert.GluBwdIdeal.τ).loc Cert.GluBwdIdeal.main_arg1)) (m ((c.tc : Thread Cert.GluBwdIdeal.nD Cert.GluBwdIdeal.τ).loc Cert.GluBwdIdeal.main_arg2)) (m ((c.tc : Thread Cert.GluBwdIdeal.nD Cert.GluBwdIdeal.τ).loc Cert.GluBwdIdeal.main_arg3)) (m ((c.tc : Thread Cert.GluBwdIdeal.nD Cert.GluBwdIdeal.τ).loc Cert.GluBwdIdeal.main_arg4)) (m ((c.tc : Thread Cert.GluBwdIdeal.nD Cert.GluBwdIdeal.τ).loc Cert.GluBwdIdeal.main_arg5)) (m ((c.tc : Thread Cert.GluBwdIdeal.nD Cert.GluBwdIdeal.τ).loc Cert.GluBwdIdeal.main_arg6))).1 = (fun _ => 1#1)
    ∧ (Cert.Pre_finite_glu.fn (F := Ideal) (m ((c.tc : Thread Cert.GluBwdIdeal.nD Cert.GluBwdIdeal.τ).loc Cert.GluBwdIdeal.main_arg0)) (m ((c.tc : Thread Cert.GluBwdIdeal.nD Cert.GluBwdIdeal.τ).loc Cert.GluBwdIdeal.main_arg1)) (m ((c.tc : Thread Cert.GluBwdIdeal.nD Cert.GluBwdIdeal.τ).loc Cert.GluBwdIdeal.main_arg2)) (m ((c.tc : Thread Cert.GluBwdIdeal.nD Cert.GluBwdIdeal.τ).loc Cert.GluBwdIdeal.main_arg3)) (m ((c.tc : Thread Cert.GluBwdIdeal.nD Cert.GluBwdIdeal.τ).loc Cert.GluBwdIdeal.main_arg4)) (m ((c.tc : Thread Cert.GluBwdIdeal.nD Cert.GluBwdIdeal.τ).loc Cert.GluBwdIdeal.main_arg5)) (m ((c.tc : Thread Cert.GluBwdIdeal.nD Cert.GluBwdIdeal.τ).loc Cert.GluBwdIdeal.main_arg6))).2.1 = (fun _ => 1#1)
    ∧ (Cert.Pre_finite_glu.fn (F := Ideal) (m ((c.tc : Thread Cert.GluBwdIdeal.nD Cert.GluBwdIdeal.τ).loc Cert.GluBwdIdeal.main_arg0)) (m ((c.tc : Thread Cert.GluBwdIdeal.nD Cert.GluBwdIdeal.τ).loc Cert.GluBwdIdeal.main_arg1)) (m ((c.tc : Thread Cert.GluBwdIdeal.nD Cert.GluBwdIdeal.τ).loc Cert.GluBwdIdeal.main_arg2)) (m ((c.tc : Thread Cert.GluBwdIdeal.nD Cert.GluBwdIdeal.τ).loc Cert.GluBwdIdeal.main_arg3)) (m ((c.tc : Thread Cert.GluBwdIdeal.nD Cert.GluBwdIdeal.τ).loc Cert.GluBwdIdeal.main_arg4)) (m ((c.tc : Thread Cert.GluBwdIdeal.nD Cert.GluBwdIdeal.τ).loc Cert.GluBwdIdeal.main_arg5)) (m ((c.tc : Thread Cert.GluBwdIdeal.nD Cert.GluBwdIdeal.τ).loc Cert.GluBwdIdeal.main_arg6))).2.2.1 = (fun _ => 1#1)
    ∧ (Cert.Pre_finite_glu.fn (F := Ideal) (m ((c.tc : Thread Cert.GluBwdIdeal.nD Cert.GluBwdIdeal.τ).loc Cert.GluBwdIdeal.main_arg0)) (m ((c.tc : Thread Cert.GluBwdIdeal.nD Cert.GluBwdIdeal.τ).loc Cert.GluBwdIdeal.main_arg1)) (m ((c.tc : Thread Cert.GluBwdIdeal.nD Cert.GluBwdIdeal.τ).loc Cert.GluBwdIdeal.main_arg2)) (m ((c.tc : Thread Cert.GluBwdIdeal.nD Cert.GluBwdIdeal.τ).loc Cert.GluBwdIdeal.main_arg3)) (m ((c.tc : Thread Cert.GluBwdIdeal.nD Cert.GluBwdIdeal.τ).loc Cert.GluBwdIdeal.main_arg4)) (m ((c.tc : Thread Cert.GluBwdIdeal.nD Cert.GluBwdIdeal.τ).loc Cert.GluBwdIdeal.main_arg5)) (m ((c.tc : Thread Cert.GluBwdIdeal.nD Cert.GluBwdIdeal.τ).loc Cert.GluBwdIdeal.main_arg6))).2.2.2.1 = (fun _ => 1#1)
    ∧ (Cert.Pre_finite_glu.fn (F := Ideal) (m ((c.tc : Thread Cert.GluBwdIdeal.nD Cert.GluBwdIdeal.τ).loc Cert.GluBwdIdeal.main_arg0)) (m ((c.tc : Thread Cert.GluBwdIdeal.nD Cert.GluBwdIdeal.τ).loc Cert.GluBwdIdeal.main_arg1)) (m ((c.tc : Thread Cert.GluBwdIdeal.nD Cert.GluBwdIdeal.τ).loc Cert.GluBwdIdeal.main_arg2)) (m ((c.tc : Thread Cert.GluBwdIdeal.nD Cert.GluBwdIdeal.τ).loc Cert.GluBwdIdeal.main_arg3)) (m ((c.tc : Thread Cert.GluBwdIdeal.nD Cert.GluBwdIdeal.τ).loc Cert.GluBwdIdeal.main_arg4)) (m ((c.tc : Thread Cert.GluBwdIdeal.nD Cert.GluBwdIdeal.τ).loc Cert.GluBwdIdeal.main_arg5)) (m ((c.tc : Thread Cert.GluBwdIdeal.nD Cert.GluBwdIdeal.τ).loc Cert.GluBwdIdeal.main_arg6))).2.2.2.2.1 = (fun _ => 1#1)
    ∧ (Cert.Pre_finite_glu.fn (F := Ideal) (m ((c.tc : Thread Cert.GluBwdIdeal.nD Cert.GluBwdIdeal.τ).loc Cert.GluBwdIdeal.main_arg0)) (m ((c.tc : Thread Cert.GluBwdIdeal.nD Cert.GluBwdIdeal.τ).loc Cert.GluBwdIdeal.main_arg1)) (m ((c.tc : Thread Cert.GluBwdIdeal.nD Cert.GluBwdIdeal.τ).loc Cert.GluBwdIdeal.main_arg2)) (m ((c.tc : Thread Cert.GluBwdIdeal.nD Cert.GluBwdIdeal.τ).loc Cert.GluBwdIdeal.main_arg3)) (m ((c.tc : Thread Cert.GluBwdIdeal.nD Cert.GluBwdIdeal.τ).loc Cert.GluBwdIdeal.main_arg4)) (m ((c.tc : Thread Cert.GluBwdIdeal.nD Cert.GluBwdIdeal.τ).loc Cert.GluBwdIdeal.main_arg5)) (m ((c.tc : Thread Cert.GluBwdIdeal.nD Cert.GluBwdIdeal.τ).loc Cert.GluBwdIdeal.main_arg6))).2.2.2.2.2.1 = (fun _ => 1#1)
    ∧ (Cert.Pre_finite_glu.fn (F := Ideal) (m ((c.tc : Thread Cert.GluBwdIdeal.nD Cert.GluBwdIdeal.τ).loc Cert.GluBwdIdeal.main_arg0)) (m ((c.tc : Thread Cert.GluBwdIdeal.nD Cert.GluBwdIdeal.τ).loc Cert.GluBwdIdeal.main_arg1)) (m ((c.tc : Thread Cert.GluBwdIdeal.nD Cert.GluBwdIdeal.τ).loc Cert.GluBwdIdeal.main_arg2)) (m ((c.tc : Thread Cert.GluBwdIdeal.nD Cert.GluBwdIdeal.τ).loc Cert.GluBwdIdeal.main_arg3)) (m ((c.tc : Thread Cert.GluBwdIdeal.nD Cert.GluBwdIdeal.τ).loc Cert.GluBwdIdeal.main_arg4)) (m ((c.tc : Thread Cert.GluBwdIdeal.nD Cert.GluBwdIdeal.τ).loc Cert.GluBwdIdeal.main_arg5)) (m ((c.tc : Thread Cert.GluBwdIdeal.nD Cert.GluBwdIdeal.τ).loc Cert.GluBwdIdeal.main_arg6))).2.2.2.2.2.2 = (fun _ => 1#1)

def Pre_GluGradIdeal (m : (ℓ : Loc Cert.GluGradIdeal.nD Cert.GluGradIdeal.τ Cert.GluGradIdeal.sig) → Buf (Elt Ideal) ℓ) : Prop :=
  True

def Pre_GluGradIdeal_finite_glu [hPre_finite_glu : Cert.Pre_finite_glu.Facts] (m : (ℓ : Loc Cert.GluGradIdeal.nD Cert.GluGradIdeal.τ Cert.GluGradIdeal.sig) → Buf (Elt Ideal) ℓ) : Prop :=
  ∀ c : Dev Cert.GluGradIdeal.nD,
    (Cert.Pre_finite_glu.fn (F := Ideal) (m ((c.tc : Thread Cert.GluGradIdeal.nD Cert.GluGradIdeal.τ).loc Cert.GluGradIdeal.main_arg0)) (m ((c.tc : Thread Cert.GluGradIdeal.nD Cert.GluGradIdeal.τ).loc Cert.GluGradIdeal.main_arg1)) (m ((c.tc : Thread Cert.GluGradIdeal.nD Cert.GluGradIdeal.τ).loc Cert.GluGradIdeal.main_arg2)) (m ((c.tc : Thread Cert.GluGradIdeal.nD Cert.GluGradIdeal.τ).loc Cert.GluGradIdeal.main_arg3)) (m ((c.tc : Thread Cert.GluGradIdeal.nD Cert.GluGradIdeal.τ).loc Cert.GluGradIdeal.main_arg4)) (m ((c.tc : Thread Cert.GluGradIdeal.nD Cert.GluGradIdeal.τ).loc Cert.GluGradIdeal.main_arg5)) (m ((c.tc : Thread Cert.GluGradIdeal.nD Cert.GluGradIdeal.τ).loc Cert.GluGradIdeal.main_arg6))).1 = (fun _ => 1#1)
    ∧ (Cert.Pre_finite_glu.fn (F := Ideal) (m ((c.tc : Thread Cert.GluGradIdeal.nD Cert.GluGradIdeal.τ).loc Cert.GluGradIdeal.main_arg0)) (m ((c.tc : Thread Cert.GluGradIdeal.nD Cert.GluGradIdeal.τ).loc Cert.GluGradIdeal.main_arg1)) (m ((c.tc : Thread Cert.GluGradIdeal.nD Cert.GluGradIdeal.τ).loc Cert.GluGradIdeal.main_arg2)) (m ((c.tc : Thread Cert.GluGradIdeal.nD Cert.GluGradIdeal.τ).loc Cert.GluGradIdeal.main_arg3)) (m ((c.tc : Thread Cert.GluGradIdeal.nD Cert.GluGradIdeal.τ).loc Cert.GluGradIdeal.main_arg4)) (m ((c.tc : Thread Cert.GluGradIdeal.nD Cert.GluGradIdeal.τ).loc Cert.GluGradIdeal.main_arg5)) (m ((c.tc : Thread Cert.GluGradIdeal.nD Cert.GluGradIdeal.τ).loc Cert.GluGradIdeal.main_arg6))).2.1 = (fun _ => 1#1)
    ∧ (Cert.Pre_finite_glu.fn (F := Ideal) (m ((c.tc : Thread Cert.GluGradIdeal.nD Cert.GluGradIdeal.τ).loc Cert.GluGradIdeal.main_arg0)) (m ((c.tc : Thread Cert.GluGradIdeal.nD Cert.GluGradIdeal.τ).loc Cert.GluGradIdeal.main_arg1)) (m ((c.tc : Thread Cert.GluGradIdeal.nD Cert.GluGradIdeal.τ).loc Cert.GluGradIdeal.main_arg2)) (m ((c.tc : Thread Cert.GluGradIdeal.nD Cert.GluGradIdeal.τ).loc Cert.GluGradIdeal.main_arg3)) (m ((c.tc : Thread Cert.GluGradIdeal.nD Cert.GluGradIdeal.τ).loc Cert.GluGradIdeal.main_arg4)) (m ((c.tc : Thread Cert.GluGradIdeal.nD Cert.GluGradIdeal.τ).loc Cert.GluGradIdeal.main_arg5)) (m ((c.tc : Thread Cert.GluGradIdeal.nD Cert.GluGradIdeal.τ).loc Cert.GluGradIdeal.main_arg6))).2.2.1 = (fun _ => 1#1)
    ∧ (Cert.Pre_finite_glu.fn (F := Ideal) (m ((c.tc : Thread Cert.GluGradIdeal.nD Cert.GluGradIdeal.τ).loc Cert.GluGradIdeal.main_arg0)) (m ((c.tc : Thread Cert.GluGradIdeal.nD Cert.GluGradIdeal.τ).loc Cert.GluGradIdeal.main_arg1)) (m ((c.tc : Thread Cert.GluGradIdeal.nD Cert.GluGradIdeal.τ).loc Cert.GluGradIdeal.main_arg2)) (m ((c.tc : Thread Cert.GluGradIdeal.nD Cert.GluGradIdeal.τ).loc Cert.GluGradIdeal.main_arg3)) (m ((c.tc : Thread Cert.GluGradIdeal.nD Cert.GluGradIdeal.τ).loc Cert.GluGradIdeal.main_arg4)) (m ((c.tc : Thread Cert.GluGradIdeal.nD Cert.GluGradIdeal.τ).loc Cert.GluGradIdeal.main_arg5)) (m ((c.tc : Thread Cert.GluGradIdeal.nD Cert.GluGradIdeal.τ).loc Cert.GluGradIdeal.main_arg6))).2.2.2.1 = (fun _ => 1#1)
    ∧ (Cert.Pre_finite_glu.fn (F := Ideal) (m ((c.tc : Thread Cert.GluGradIdeal.nD Cert.GluGradIdeal.τ).loc Cert.GluGradIdeal.main_arg0)) (m ((c.tc : Thread Cert.GluGradIdeal.nD Cert.GluGradIdeal.τ).loc Cert.GluGradIdeal.main_arg1)) (m ((c.tc : Thread Cert.GluGradIdeal.nD Cert.GluGradIdeal.τ).loc Cert.GluGradIdeal.main_arg2)) (m ((c.tc : Thread Cert.GluGradIdeal.nD Cert.GluGradIdeal.τ).loc Cert.GluGradIdeal.main_arg3)) (m ((c.tc : Thread Cert.GluGradIdeal.nD Cert.GluGradIdeal.τ).loc Cert.GluGradIdeal.main_arg4)) (m ((c.tc : Thread Cert.GluGradIdeal.nD Cert.GluGradIdeal.τ).loc Cert.GluGradIdeal.main_arg5)) (m ((c.tc : Thread Cert.GluGradIdeal.nD Cert.GluGradIdeal.τ).loc Cert.GluGradIdeal.main_arg6))).2.2.2.2.1 = (fun _ => 1#1)
    ∧ (Cert.Pre_finite_glu.fn (F := Ideal) (m ((c.tc : Thread Cert.GluGradIdeal.nD Cert.GluGradIdeal.τ).loc Cert.GluGradIdeal.main_arg0)) (m ((c.tc : Thread Cert.GluGradIdeal.nD Cert.GluGradIdeal.τ).loc Cert.GluGradIdeal.main_arg1)) (m ((c.tc : Thread Cert.GluGradIdeal.nD Cert.GluGradIdeal.τ).loc Cert.GluGradIdeal.main_arg2)) (m ((c.tc : Thread Cert.GluGradIdeal.nD Cert.GluGradIdeal.τ).loc Cert.GluGradIdeal.main_arg3)) (m ((c.tc : Thread Cert.GluGradIdeal.nD Cert.GluGradIdeal.τ).loc Cert.GluGradIdeal.main_arg4)) (m ((c.tc : Thread Cert.GluGradIdeal.nD Cert.GluGradIdeal.τ).loc Cert.GluGradIdeal.main_arg5)) (m ((c.tc : Thread Cert.GluGradIdeal.nD Cert.GluGradIdeal.τ).loc Cert.GluGradIdeal.main_arg6))).2.2.2.2.2.1 = (fun _ => 1#1)
    ∧ (Cert.Pre_finite_glu.fn (F := Ideal) (m ((c.tc : Thread Cert.GluGradIdeal.nD Cert.GluGradIdeal.τ).loc Cert.GluGradIdeal.main_arg0)) (m ((c.tc : Thread Cert.GluGradIdeal.nD Cert.GluGradIdeal.τ).loc Cert.GluGradIdeal.main_arg1)) (m ((c.tc : Thread Cert.GluGradIdeal.nD Cert.GluGradIdeal.τ).loc Cert.GluGradIdeal.main_arg2)) (m ((c.tc : Thread Cert.GluGradIdeal.nD Cert.GluGradIdeal.τ).loc Cert.GluGradIdeal.main_arg3)) (m ((c.tc : Thread Cert.GluGradIdeal.nD Cert.GluGradIdeal.τ).loc Cert.GluGradIdeal.main_arg4)) (m ((c.tc : Thread Cert.GluGradIdeal.nD Cert.GluGradIdeal.τ).loc Cert.GluGradIdeal.main_arg5)) (m ((c.tc : Thread Cert.GluGradIdeal.nD Cert.GluGradIdeal.τ).loc Cert.GluGradIdeal.main_arg6))).2.2.2.2.2.2 = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn [hPre_finite_ffn : Cert.Pre_finite_ffn.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.2.2 = (fun _ => 1#1)

def Pre_FfnGradIdeal (m : (ℓ : Loc Cert.FfnGradIdeal.nD Cert.FfnGradIdeal.τ Cert.FfnGradIdeal.sig) → Buf (Elt Ideal) ℓ) : Prop :=
  True

def Pre_FfnGradIdeal_finite_ffn [hPre_finite_ffn : Cert.Pre_finite_ffn.Facts] (m : (ℓ : Loc Cert.FfnGradIdeal.nD Cert.FfnGradIdeal.τ Cert.FfnGradIdeal.sig) → Buf (Elt Ideal) ℓ) : Prop :=
  ∀ c : Dev Cert.FfnGradIdeal.nD,
    (Cert.Pre_finite_ffn.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).1 = (fun _ => 1#1)
    ∧ (Cert.Pre_finite_ffn.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).2.1 = (fun _ => 1#1)
    ∧ (Cert.Pre_finite_ffn.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).2.2.1 = (fun _ => 1#1)
    ∧ (Cert.Pre_finite_ffn.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).2.2.2.1 = (fun _ => 1#1)
    ∧ (Cert.Pre_finite_ffn.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).2.2.2.2.1 = (fun _ => 1#1)
    ∧ (Cert.Pre_finite_ffn.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).2.2.2.2.2 = (fun _ => 1#1)

def Pre_ParamBwd (m : (ℓ : Loc Cert.ParamBwd.nD Cert.ParamBwd.τ Cert.ParamBwd.sig) → Buf (Elt Bits) ℓ) : Prop :=
  True

def Pre_ParamBwdIdeal (m : (ℓ : Loc Cert.ParamBwdIdeal.nD Cert.ParamBwdIdeal.τ Cert.ParamBwdIdeal.sig) → Buf (Elt Ideal) ℓ) : Prop :=
  True

def Pre_ParamGradIdeal (m : (ℓ : Loc Cert.ParamGradIdeal.nD Cert.ParamGradIdeal.τ Cert.ParamGradIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnOutIdeal (m : (ℓ : Loc Cert.AttnOutIdeal.nD Cert.AttnOutIdeal.τ Cert.AttnOutIdeal.sig) → Buf (Elt Ideal) ℓ) : Prop :=
  True

def Pre_CoreBwd (m : (ℓ : Loc Cert.CoreBwd.nD Cert.CoreBwd.τ Cert.CoreBwd.sig) → Buf (Elt Bits) ℓ) : Prop :=
  True

def Pre_CoreBwdIdeal (m : (ℓ : Loc Cert.CoreBwdIdeal.nD Cert.CoreBwdIdeal.τ Cert.CoreBwdIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixOutIdeal (m : (ℓ : Loc Cert.MixOutIdeal.nD Cert.MixOutIdeal.τ Cert.MixOutIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InOutIdeal (m : (ℓ : Loc Cert.InOutIdeal.nD Cert.InOutIdeal.τ Cert.InOutIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluOutIdeal (m : (ℓ : Loc Cert.GluOutIdeal.nD Cert.GluOutIdeal.τ Cert.GluOutIdeal.sig) → Buf (Elt Ideal) ℓ) : Prop :=
  True

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ r.2.sem = fun _ => 0)

def quiescent_OutBwdIdeal_pre_finite_out [hOutBwdIdeal : Cert.OutBwdIdeal.Facts] [hPre_finite_out : Cert.Pre_finite_out.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal_finite_out m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1)
      ∧ r.2.mem ((c.tc : Thread Cert.OutGradIdeal.nD Cert.OutGradIdeal.τ).loc Cert.OutGradIdeal.main_arg2) = m ((c.tc : Thread Cert.OutGradIdeal.nD Cert.OutGradIdeal.τ).loc Cert.OutGradIdeal.main_arg2)
      ∧ r.2.mem ((c.tc : Thread Cert.OutGradIdeal.nD Cert.OutGradIdeal.τ).loc Cert.OutGradIdeal.main_arg3) = m ((c.tc : Thread Cert.OutGradIdeal.nD Cert.OutGradIdeal.τ).loc Cert.OutGradIdeal.main_arg3))
      ∧ r.2.sem = fun _ => 0)

def quiescent_OutGradIdeal_pre_finite_out [hOutGradIdeal : Cert.OutGradIdeal.Facts] [hPre_finite_out : Cert.Pre_finite_out.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal_finite_out m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1)
      ∧ r.2.mem ((c.tc : Thread Cert.OutGradIdeal.nD Cert.OutGradIdeal.τ).loc Cert.OutGradIdeal.main_arg2) = m ((c.tc : Thread Cert.OutGradIdeal.nD Cert.OutGradIdeal.τ).loc Cert.OutGradIdeal.main_arg2)
      ∧ r.2.mem ((c.tc : Thread Cert.OutGradIdeal.nD Cert.OutGradIdeal.τ).loc Cert.OutGradIdeal.main_arg3) = m ((c.tc : Thread Cert.OutGradIdeal.nD Cert.OutGradIdeal.τ).loc Cert.OutGradIdeal.main_arg3))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4)
      ∧ r.2.mem ((c.tc : Thread Cert.AttnBwd.nD Cert.AttnBwd.τ).loc Cert.AttnBwd.main_arg5) = m ((c.tc : Thread Cert.AttnBwd.nD Cert.AttnBwd.τ).loc Cert.AttnBwd.main_arg5))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnBwdIdeal_pre_finite_attn [hAttnBwdIdeal : Cert.AttnBwdIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_attn m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnGradIdeal [hAttnGradIdeal : Cert.AttnGradIdeal.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
      ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3)
      ∧ r.2.mem ((c.tc : Thread Cert.AttnGradIdeal.nD Cert.AttnGradIdeal.τ).loc Cert.AttnGradIdeal.main_arg4) = m ((c.tc : Thread Cert.AttnGradIdeal.nD Cert.AttnGradIdeal.τ).loc Cert.AttnGradIdeal.main_arg4)
      ∧ r.2.mem ((c.tc : Thread Cert.AttnGradIdeal.nD Cert.AttnGradIdeal.τ).loc Cert.AttnGradIdeal.main_arg5) = m ((c.tc : Thread Cert.AttnGradIdeal.nD Cert.AttnGradIdeal.τ).loc Cert.AttnGradIdeal.main_arg5))
      ∧ r.2.sem = fun _ => 0)

def quiescent_AttnGradIdeal_pre_finite_attn [hAttnGradIdeal : Cert.AttnGradIdeal.Facts] [hPre_finite_attn : Cert.Pre_finite_attn.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal_finite_attn m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
      ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3)
      ∧ r.2.mem ((c.tc : Thread Cert.AttnGradIdeal.nD Cert.AttnGradIdeal.τ).loc Cert.AttnGradIdeal.main_arg4) = m ((c.tc : Thread Cert.AttnGradIdeal.nD Cert.AttnGradIdeal.τ).loc Cert.AttnGradIdeal.main_arg4)
      ∧ r.2.mem ((c.tc : Thread Cert.AttnGradIdeal.nD Cert.AttnGradIdeal.τ).loc Cert.AttnGradIdeal.main_arg5) = m ((c.tc : Thread Cert.AttnGradIdeal.nD Cert.AttnGradIdeal.τ).loc Cert.AttnGradIdeal.main_arg5))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7)
      ∧ r.2.mem ((c.tc : Thread Cert.InBwd.nD Cert.InBwd.τ).loc Cert.InBwd.main_arg8) = m ((c.tc : Thread Cert.InBwd.nD Cert.InBwd.τ).loc Cert.InBwd.main_arg8))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8))
      ∧ r.2.sem = fun _ => 0)

def quiescent_InBwdIdeal_pre_finite_in [hInBwdIdeal : Cert.InBwdIdeal.Facts] [hPre_finite_in : Cert.Pre_finite_in.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_finite_in m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
      ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4)
      ∧ r.2.mem ((c.tc : Thread Cert.InGradIdeal.nD Cert.InGradIdeal.τ).loc Cert.InGradIdeal.main_arg5) = m ((c.tc : Thread Cert.InGradIdeal.nD Cert.InGradIdeal.τ).loc Cert.InGradIdeal.main_arg5)
      ∧ r.2.mem ((c.tc : Thread Cert.InGradIdeal.nD Cert.InGradIdeal.τ).loc Cert.InGradIdeal.main_arg6) = m ((c.tc : Thread Cert.InGradIdeal.nD Cert.InGradIdeal.τ).loc Cert.InGradIdeal.main_arg6)
      ∧ r.2.mem ((c.tc : Thread Cert.InGradIdeal.nD Cert.InGradIdeal.τ).loc Cert.InGradIdeal.main_arg7) = m ((c.tc : Thread Cert.InGradIdeal.nD Cert.InGradIdeal.τ).loc Cert.InGradIdeal.main_arg7)
      ∧ r.2.mem ((c.tc : Thread Cert.InGradIdeal.nD Cert.InGradIdeal.τ).loc Cert.InGradIdeal.main_arg8) = m ((c.tc : Thread Cert.InGradIdeal.nD Cert.InGradIdeal.τ).loc Cert.InGradIdeal.main_arg8))
      ∧ r.2.sem = fun _ => 0)

def quiescent_InGradIdeal_pre_finite_in [hInGradIdeal : Cert.InGradIdeal.Facts] [hPre_finite_in : Cert.Pre_finite_in.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal_finite_in m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
      ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4)
      ∧ r.2.mem ((c.tc : Thread Cert.InGradIdeal.nD Cert.InGradIdeal.τ).loc Cert.InGradIdeal.main_arg5) = m ((c.tc : Thread Cert.InGradIdeal.nD Cert.InGradIdeal.τ).loc Cert.InGradIdeal.main_arg5)
      ∧ r.2.mem ((c.tc : Thread Cert.InGradIdeal.nD Cert.InGradIdeal.τ).loc Cert.InGradIdeal.main_arg6) = m ((c.tc : Thread Cert.InGradIdeal.nD Cert.InGradIdeal.τ).loc Cert.InGradIdeal.main_arg6)
      ∧ r.2.mem ((c.tc : Thread Cert.InGradIdeal.nD Cert.InGradIdeal.τ).loc Cert.InGradIdeal.main_arg7) = m ((c.tc : Thread Cert.InGradIdeal.nD Cert.InGradIdeal.τ).loc Cert.InGradIdeal.main_arg7)
      ∧ r.2.mem ((c.tc : Thread Cert.InGradIdeal.nD Cert.InGradIdeal.τ).loc Cert.InGradIdeal.main_arg8) = m ((c.tc : Thread Cert.InGradIdeal.nD Cert.InGradIdeal.τ).loc Cert.InGradIdeal.main_arg8))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1)
      ∧ r.2.mem ((c.tc : Thread Cert.GluBwd.nD Cert.GluBwd.τ).loc Cert.GluBwd.main_arg2) = m ((c.tc : Thread Cert.GluBwd.nD Cert.GluBwd.τ).loc Cert.GluBwd.main_arg2)
      ∧ r.2.mem ((c.tc : Thread Cert.GluBwd.nD Cert.GluBwd.τ).loc Cert.GluBwd.main_arg3) = m ((c.tc : Thread Cert.GluBwd.nD Cert.GluBwd.τ).loc Cert.GluBwd.main_arg3)
      ∧ r.2.mem ((c.tc : Thread Cert.GluBwd.nD Cert.GluBwd.τ).loc Cert.GluBwd.main_arg4) = m ((c.tc : Thread Cert.GluBwd.nD Cert.GluBwd.τ).loc Cert.GluBwd.main_arg4)
      ∧ r.2.mem ((c.tc : Thread Cert.GluBwd.nD Cert.GluBwd.τ).loc Cert.GluBwd.main_arg5) = m ((c.tc : Thread Cert.GluBwd.nD Cert.GluBwd.τ).loc Cert.GluBwd.main_arg5)
      ∧ r.2.mem ((c.tc : Thread Cert.GluBwd.nD Cert.GluBwd.τ).loc Cert.GluBwd.main_arg6) = m ((c.tc : Thread Cert.GluBwd.nD Cert.GluBwd.τ).loc Cert.GluBwd.main_arg6))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
      ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
      ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4)
      ∧ r.2.mem ((c.tc : Thread Cert.GluBwdIdeal.nD Cert.GluBwdIdeal.τ).loc Cert.GluBwdIdeal.main_arg5) = m ((c.tc : Thread Cert.GluBwdIdeal.nD Cert.GluBwdIdeal.τ).loc Cert.GluBwdIdeal.main_arg5)
      ∧ r.2.mem ((c.tc : Thread Cert.GluBwdIdeal.nD Cert.GluBwdIdeal.τ).loc Cert.GluBwdIdeal.main_arg6) = m ((c.tc : Thread Cert.GluBwdIdeal.nD Cert.GluBwdIdeal.τ).loc Cert.GluBwdIdeal.main_arg6))
      ∧ r.2.sem = fun _ => 0)

def quiescent_GluBwdIdeal_pre_finite_glu [hGluBwdIdeal : Cert.GluBwdIdeal.Facts] [hPre_finite_glu : Cert.Pre_finite_glu.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal_finite_glu m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
      ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
      ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4)
      ∧ r.2.mem ((c.tc : Thread Cert.GluBwdIdeal.nD Cert.GluBwdIdeal.τ).loc Cert.GluBwdIdeal.main_arg5) = m ((c.tc : Thread Cert.GluBwdIdeal.nD Cert.GluBwdIdeal.τ).loc Cert.GluBwdIdeal.main_arg5)
      ∧ r.2.mem ((c.tc : Thread Cert.GluBwdIdeal.nD Cert.GluBwdIdeal.τ).loc Cert.GluBwdIdeal.main_arg6) = m ((c.tc : Thread Cert.GluBwdIdeal.nD Cert.GluBwdIdeal.τ).loc Cert.GluBwdIdeal.main_arg6))
      ∧ r.2.sem = fun _ => 0)

def quiescent_GluGradIdeal [hGluGradIdeal : Cert.GluGradIdeal.Facts] : Prop :=
  ∀ (m : (ℓ : Loc Cert.GluGradIdeal.nD Cert.GluGradIdeal.τ Cert.GluGradIdeal.sig) → Buf (Elt Ideal) ℓ) (g : Dev Cert.GluGradIdeal.nD → PrngReg), Pre_GluGradIdeal m →
    θ_run (Cert.GluGradIdeal.defs (F := Ideal)) (onTc (τ := Cert.GluGradIdeal.τ) (Cert.GluGradIdeal.main (F := Ideal))) ⟨m, fun _ => 0, g⟩ (fun r => (∀ c : Dev Cert.GluGradIdeal.nD,
      r.2.mem ((c.tc : Thread Cert.GluGradIdeal.nD Cert.GluGradIdeal.τ).loc Cert.GluGradIdeal.main_arg0) = m ((c.tc : Thread Cert.GluGradIdeal.nD Cert.GluGradIdeal.τ).loc Cert.GluGradIdeal.main_arg0)
      ∧ r.2.mem ((c.tc : Thread Cert.GluGradIdeal.nD Cert.GluGradIdeal.τ).loc Cert.GluGradIdeal.main_arg1) = m ((c.tc : Thread Cert.GluGradIdeal.nD Cert.GluGradIdeal.τ).loc Cert.GluGradIdeal.main_arg1)
      ∧ r.2.mem ((c.tc : Thread Cert.GluGradIdeal.nD Cert.GluGradIdeal.τ).loc Cert.GluGradIdeal.main_arg2) = m ((c.tc : Thread Cert.GluGradIdeal.nD Cert.GluGradIdeal.τ).loc Cert.GluGradIdeal.main_arg2)
      ∧ r.2.mem ((c.tc : Thread Cert.GluGradIdeal.nD Cert.GluGradIdeal.τ).loc Cert.GluGradIdeal.main_arg3) = m ((c.tc : Thread Cert.GluGradIdeal.nD Cert.GluGradIdeal.τ).loc Cert.GluGradIdeal.main_arg3)
      ∧ r.2.mem ((c.tc : Thread Cert.GluGradIdeal.nD Cert.GluGradIdeal.τ).loc Cert.GluGradIdeal.main_arg4) = m ((c.tc : Thread Cert.GluGradIdeal.nD Cert.GluGradIdeal.τ).loc Cert.GluGradIdeal.main_arg4)
      ∧ r.2.mem ((c.tc : Thread Cert.GluGradIdeal.nD Cert.GluGradIdeal.τ).loc Cert.GluGradIdeal.main_arg5) = m ((c.tc : Thread Cert.GluGradIdeal.nD Cert.GluGradIdeal.τ).loc Cert.GluGradIdeal.main_arg5)
      ∧ r.2.mem ((c.tc : Thread Cert.GluGradIdeal.nD Cert.GluGradIdeal.τ).loc Cert.GluGradIdeal.main_arg6) = m ((c.tc : Thread Cert.GluGradIdeal.nD Cert.GluGradIdeal.τ).loc Cert.GluGradIdeal.main_arg6))
      ∧ r.2.sem = fun _ => 0)

def quiescent_GluGradIdeal_pre_finite_glu [hGluGradIdeal : Cert.GluGradIdeal.Facts] [hPre_finite_glu : Cert.Pre_finite_glu.Facts] : Prop :=
  ∀ (m : (ℓ : Loc Cert.GluGradIdeal.nD Cert.GluGradIdeal.τ Cert.GluGradIdeal.sig) → Buf (Elt Ideal) ℓ) (g : Dev Cert.GluGradIdeal.nD → PrngReg), Pre_GluGradIdeal_finite_glu m →
    θ_run (Cert.GluGradIdeal.defs (F := Ideal)) (onTc (τ := Cert.GluGradIdeal.τ) (Cert.GluGradIdeal.main (F := Ideal))) ⟨m, fun _ => 0, g⟩ (fun r => (∀ c : Dev Cert.GluGradIdeal.nD,
      r.2.mem ((c.tc : Thread Cert.GluGradIdeal.nD Cert.GluGradIdeal.τ).loc Cert.GluGradIdeal.main_arg0) = m ((c.tc : Thread Cert.GluGradIdeal.nD Cert.GluGradIdeal.τ).loc Cert.GluGradIdeal.main_arg0)
      ∧ r.2.mem ((c.tc : Thread Cert.GluGradIdeal.nD Cert.GluGradIdeal.τ).loc Cert.GluGradIdeal.main_arg1) = m ((c.tc : Thread Cert.GluGradIdeal.nD Cert.GluGradIdeal.τ).loc Cert.GluGradIdeal.main_arg1)
      ∧ r.2.mem ((c.tc : Thread Cert.GluGradIdeal.nD Cert.GluGradIdeal.τ).loc Cert.GluGradIdeal.main_arg2) = m ((c.tc : Thread Cert.GluGradIdeal.nD Cert.GluGradIdeal.τ).loc Cert.GluGradIdeal.main_arg2)
      ∧ r.2.mem ((c.tc : Thread Cert.GluGradIdeal.nD Cert.GluGradIdeal.τ).loc Cert.GluGradIdeal.main_arg3) = m ((c.tc : Thread Cert.GluGradIdeal.nD Cert.GluGradIdeal.τ).loc Cert.GluGradIdeal.main_arg3)
      ∧ r.2.mem ((c.tc : Thread Cert.GluGradIdeal.nD Cert.GluGradIdeal.τ).loc Cert.GluGradIdeal.main_arg4) = m ((c.tc : Thread Cert.GluGradIdeal.nD Cert.GluGradIdeal.τ).loc Cert.GluGradIdeal.main_arg4)
      ∧ r.2.mem ((c.tc : Thread Cert.GluGradIdeal.nD Cert.GluGradIdeal.τ).loc Cert.GluGradIdeal.main_arg5) = m ((c.tc : Thread Cert.GluGradIdeal.nD Cert.GluGradIdeal.τ).loc Cert.GluGradIdeal.main_arg5)
      ∧ r.2.mem ((c.tc : Thread Cert.GluGradIdeal.nD Cert.GluGradIdeal.τ).loc Cert.GluGradIdeal.main_arg6) = m ((c.tc : Thread Cert.GluGradIdeal.nD Cert.GluGradIdeal.τ).loc Cert.GluGradIdeal.main_arg6))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_finite_ffn [hFfnBwdIdeal : Cert.FfnBwdIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnGradIdeal [hFfnGradIdeal : Cert.FfnGradIdeal.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
      ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
      ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5))
      ∧ r.2.sem = fun _ => 0)

def quiescent_FfnGradIdeal_pre_finite_ffn [hFfnGradIdeal : Cert.FfnGradIdeal.Facts] [hPre_finite_ffn : Cert.Pre_finite_ffn.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal_finite_ffn m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
      ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
      ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5))
      ∧ r.2.sem = fun _ => 0)

def quiescent_ParamBwd [hParamBwd : Cert.ParamBwd.Facts] : Prop :=
  ∀ (m : (ℓ : Loc Cert.ParamBwd.nD Cert.ParamBwd.τ Cert.ParamBwd.sig) → Buf (Elt Bits) ℓ) (g : Dev Cert.ParamBwd.nD → PrngReg), Pre_ParamBwd m →
    θ_run (Cert.ParamBwd.defs (F := Bits)) (onTc (τ := Cert.ParamBwd.τ) (Cert.ParamBwd.main (F := Bits))) ⟨m, fun _ => 0, g⟩ (fun r => (∀ c : Dev Cert.ParamBwd.nD,
      r.2.mem ((c.tc : Thread Cert.ParamBwd.nD Cert.ParamBwd.τ).loc Cert.ParamBwd.main_arg0) = m ((c.tc : Thread Cert.ParamBwd.nD Cert.ParamBwd.τ).loc Cert.ParamBwd.main_arg0)
      ∧ r.2.mem ((c.tc : Thread Cert.ParamBwd.nD Cert.ParamBwd.τ).loc Cert.ParamBwd.main_arg1) = m ((c.tc : Thread Cert.ParamBwd.nD Cert.ParamBwd.τ).loc Cert.ParamBwd.main_arg1)
      ∧ r.2.mem ((c.tc : Thread Cert.ParamBwd.nD Cert.ParamBwd.τ).loc Cert.ParamBwd.main_arg2) = m ((c.tc : Thread Cert.ParamBwd.nD Cert.ParamBwd.τ).loc Cert.ParamBwd.main_arg2)
      ∧ r.2.mem ((c.tc : Thread Cert.ParamBwd.nD Cert.ParamBwd.τ).loc Cert.ParamBwd.main_arg3) = m ((c.tc : Thread Cert.ParamBwd.nD Cert.ParamBwd.τ).loc Cert.ParamBwd.main_arg3)
      ∧ r.2.mem ((c.tc : Thread Cert.ParamBwd.nD Cert.ParamBwd.τ).loc Cert.ParamBwd.main_arg4) = m ((c.tc : Thread Cert.ParamBwd.nD Cert.ParamBwd.τ).loc Cert.ParamBwd.main_arg4)
      ∧ r.2.mem ((c.tc : Thread Cert.ParamBwd.nD Cert.ParamBwd.τ).loc Cert.ParamBwd.main_arg5) = m ((c.tc : Thread Cert.ParamBwd.nD Cert.ParamBwd.τ).loc Cert.ParamBwd.main_arg5)
      ∧ r.2.mem ((c.tc : Thread Cert.ParamBwd.nD Cert.ParamBwd.τ).loc Cert.ParamBwd.main_arg6) = m ((c.tc : Thread Cert.ParamBwd.nD Cert.ParamBwd.τ).loc Cert.ParamBwd.main_arg6)
      ∧ r.2.mem ((c.tc : Thread Cert.ParamBwd.nD Cert.ParamBwd.τ).loc Cert.ParamBwd.main_arg7) = m ((c.tc : Thread Cert.ParamBwd.nD Cert.ParamBwd.τ).loc Cert.ParamBwd.main_arg7)
      ∧ r.2.mem ((c.tc : Thread Cert.ParamBwd.nD Cert.ParamBwd.τ).loc Cert.ParamBwd.main_arg8) = m ((c.tc : Thread Cert.ParamBwd.nD Cert.ParamBwd.τ).loc Cert.ParamBwd.main_arg8)
      ∧ r.2.mem ((c.tc : Thread Cert.ParamBwd.nD Cert.ParamBwd.τ).loc Cert.ParamBwd.main_arg9) = m ((c.tc : Thread Cert.ParamBwd.nD Cert.ParamBwd.τ).loc Cert.ParamBwd.main_arg9)
      ∧ r.2.mem ((c.tc : Thread Cert.ParamBwd.nD Cert.ParamBwd.τ).loc Cert.ParamBwd.main_arg10) = m ((c.tc : Thread Cert.ParamBwd.nD Cert.ParamBwd.τ).loc Cert.ParamBwd.main_arg10)
      ∧ r.2.mem ((c.tc : Thread Cert.ParamBwd.nD Cert.ParamBwd.τ).loc Cert.ParamBwd.main_arg11) = m ((c.tc : Thread Cert.ParamBwd.nD Cert.ParamBwd.τ).loc Cert.ParamBwd.main_arg11))
      ∧ r.2.sem = fun _ => 0)

def quiescent_ParamBwdIdeal [hParamBwdIdeal : Cert.ParamBwdIdeal.Facts] : Prop :=
  ∀ (m : (ℓ : Loc Cert.ParamBwdIdeal.nD Cert.ParamBwdIdeal.τ Cert.ParamBwdIdeal.sig) → Buf (Elt Ideal) ℓ) (g : Dev Cert.ParamBwdIdeal.nD → PrngReg), Pre_ParamBwdIdeal m →
    θ_run (Cert.ParamBwdIdeal.defs (F := Ideal)) (onTc (τ := Cert.ParamBwdIdeal.τ) (Cert.ParamBwdIdeal.main (F := Ideal))) ⟨m, fun _ => 0, g⟩ (fun r => (∀ c : Dev Cert.ParamBwdIdeal.nD,
      r.2.mem ((c.tc : Thread Cert.ParamBwdIdeal.nD Cert.ParamBwdIdeal.τ).loc Cert.ParamBwdIdeal.main_arg0) = m ((c.tc : Thread Cert.ParamBwdIdeal.nD Cert.ParamBwdIdeal.τ).loc Cert.ParamBwdIdeal.main_arg0)
      ∧ r.2.mem ((c.tc : Thread Cert.ParamBwdIdeal.nD Cert.ParamBwdIdeal.τ).loc Cert.ParamBwdIdeal.main_arg1) = m ((c.tc : Thread Cert.ParamBwdIdeal.nD Cert.ParamBwdIdeal.τ).loc Cert.ParamBwdIdeal.main_arg1)
      ∧ r.2.mem ((c.tc : Thread Cert.ParamBwdIdeal.nD Cert.ParamBwdIdeal.τ).loc Cert.ParamBwdIdeal.main_arg2) = m ((c.tc : Thread Cert.ParamBwdIdeal.nD Cert.ParamBwdIdeal.τ).loc Cert.ParamBwdIdeal.main_arg2)
      ∧ r.2.mem ((c.tc : Thread Cert.ParamBwdIdeal.nD Cert.ParamBwdIdeal.τ).loc Cert.ParamBwdIdeal.main_arg3) = m ((c.tc : Thread Cert.ParamBwdIdeal.nD Cert.ParamBwdIdeal.τ).loc Cert.ParamBwdIdeal.main_arg3)
      ∧ r.2.mem ((c.tc : Thread Cert.ParamBwdIdeal.nD Cert.ParamBwdIdeal.τ).loc Cert.ParamBwdIdeal.main_arg4) = m ((c.tc : Thread Cert.ParamBwdIdeal.nD Cert.ParamBwdIdeal.τ).loc Cert.ParamBwdIdeal.main_arg4)
      ∧ r.2.mem ((c.tc : Thread Cert.ParamBwdIdeal.nD Cert.ParamBwdIdeal.τ).loc Cert.ParamBwdIdeal.main_arg5) = m ((c.tc : Thread Cert.ParamBwdIdeal.nD Cert.ParamBwdIdeal.τ).loc Cert.ParamBwdIdeal.main_arg5)
      ∧ r.2.mem ((c.tc : Thread Cert.ParamBwdIdeal.nD Cert.ParamBwdIdeal.τ).loc Cert.ParamBwdIdeal.main_arg6) = m ((c.tc : Thread Cert.ParamBwdIdeal.nD Cert.ParamBwdIdeal.τ).loc Cert.ParamBwdIdeal.main_arg6)
      ∧ r.2.mem ((c.tc : Thread Cert.ParamBwdIdeal.nD Cert.ParamBwdIdeal.τ).loc Cert.ParamBwdIdeal.main_arg7) = m ((c.tc : Thread Cert.ParamBwdIdeal.nD Cert.ParamBwdIdeal.τ).loc Cert.ParamBwdIdeal.main_arg7)
      ∧ r.2.mem ((c.tc : Thread Cert.ParamBwdIdeal.nD Cert.ParamBwdIdeal.τ).loc Cert.ParamBwdIdeal.main_arg8) = m ((c.tc : Thread Cert.ParamBwdIdeal.nD Cert.ParamBwdIdeal.τ).loc Cert.ParamBwdIdeal.main_arg8)
      ∧ r.2.mem ((c.tc : Thread Cert.ParamBwdIdeal.nD Cert.ParamBwdIdeal.τ).loc Cert.ParamBwdIdeal.main_arg9) = m ((c.tc : Thread Cert.ParamBwdIdeal.nD Cert.ParamBwdIdeal.τ).loc Cert.ParamBwdIdeal.main_arg9)
      ∧ r.2.mem ((c.tc : Thread Cert.ParamBwdIdeal.nD Cert.ParamBwdIdeal.τ).loc Cert.ParamBwdIdeal.main_arg10) = m ((c.tc : Thread Cert.ParamBwdIdeal.nD Cert.ParamBwdIdeal.τ).loc Cert.ParamBwdIdeal.main_arg10)
      ∧ r.2.mem ((c.tc : Thread Cert.ParamBwdIdeal.nD Cert.ParamBwdIdeal.τ).loc Cert.ParamBwdIdeal.main_arg11) = m ((c.tc : Thread Cert.ParamBwdIdeal.nD Cert.ParamBwdIdeal.τ).loc Cert.ParamBwdIdeal.main_arg11))
      ∧ r.2.sem = fun _ => 0)

def quiescent_ParamGradIdeal [hParamGradIdeal : Cert.ParamGradIdeal.Facts] : Prop :=
  ∀ (m : (ℓ : Loc Cert.ParamGradIdeal.nD Cert.ParamGradIdeal.τ Cert.ParamGradIdeal.sig) → Buf (Elt Ideal) ℓ) (g : Dev Cert.ParamGradIdeal.nD → PrngReg), Pre_ParamGradIdeal m →
    θ_run (Cert.ParamGradIdeal.defs (F := Ideal)) (onTc (τ := Cert.ParamGradIdeal.τ) (Cert.ParamGradIdeal.main (F := Ideal))) ⟨m, fun _ => 0, g⟩ (fun r => (∀ c : Dev Cert.ParamGradIdeal.nD,
      r.2.mem ((c.tc : Thread Cert.ParamGradIdeal.nD Cert.ParamGradIdeal.τ).loc Cert.ParamGradIdeal.main_arg0) = m ((c.tc : Thread Cert.ParamGradIdeal.nD Cert.ParamGradIdeal.τ).loc Cert.ParamGradIdeal.main_arg0)
      ∧ r.2.mem ((c.tc : Thread Cert.ParamGradIdeal.nD Cert.ParamGradIdeal.τ).loc Cert.ParamGradIdeal.main_arg1) = m ((c.tc : Thread Cert.ParamGradIdeal.nD Cert.ParamGradIdeal.τ).loc Cert.ParamGradIdeal.main_arg1)
      ∧ r.2.mem ((c.tc : Thread Cert.ParamGradIdeal.nD Cert.ParamGradIdeal.τ).loc Cert.ParamGradIdeal.main_arg2) = m ((c.tc : Thread Cert.ParamGradIdeal.nD Cert.ParamGradIdeal.τ).loc Cert.ParamGradIdeal.main_arg2)
      ∧ r.2.mem ((c.tc : Thread Cert.ParamGradIdeal.nD Cert.ParamGradIdeal.τ).loc Cert.ParamGradIdeal.main_arg3) = m ((c.tc : Thread Cert.ParamGradIdeal.nD Cert.ParamGradIdeal.τ).loc Cert.ParamGradIdeal.main_arg3)
      ∧ r.2.mem ((c.tc : Thread Cert.ParamGradIdeal.nD Cert.ParamGradIdeal.τ).loc Cert.ParamGradIdeal.main_arg4) = m ((c.tc : Thread Cert.ParamGradIdeal.nD Cert.ParamGradIdeal.τ).loc Cert.ParamGradIdeal.main_arg4)
      ∧ r.2.mem ((c.tc : Thread Cert.ParamGradIdeal.nD Cert.ParamGradIdeal.τ).loc Cert.ParamGradIdeal.main_arg5) = m ((c.tc : Thread Cert.ParamGradIdeal.nD Cert.ParamGradIdeal.τ).loc Cert.ParamGradIdeal.main_arg5)
      ∧ r.2.mem ((c.tc : Thread Cert.ParamGradIdeal.nD Cert.ParamGradIdeal.τ).loc Cert.ParamGradIdeal.main_arg6) = m ((c.tc : Thread Cert.ParamGradIdeal.nD Cert.ParamGradIdeal.τ).loc Cert.ParamGradIdeal.main_arg6)
      ∧ r.2.mem ((c.tc : Thread Cert.ParamGradIdeal.nD Cert.ParamGradIdeal.τ).loc Cert.ParamGradIdeal.main_arg7) = m ((c.tc : Thread Cert.ParamGradIdeal.nD Cert.ParamGradIdeal.τ).loc Cert.ParamGradIdeal.main_arg7)
      ∧ r.2.mem ((c.tc : Thread Cert.ParamGradIdeal.nD Cert.ParamGradIdeal.τ).loc Cert.ParamGradIdeal.main_arg8) = m ((c.tc : Thread Cert.ParamGradIdeal.nD Cert.ParamGradIdeal.τ).loc Cert.ParamGradIdeal.main_arg8)
      ∧ r.2.mem ((c.tc : Thread Cert.ParamGradIdeal.nD Cert.ParamGradIdeal.τ).loc Cert.ParamGradIdeal.main_arg9) = m ((c.tc : Thread Cert.ParamGradIdeal.nD Cert.ParamGradIdeal.τ).loc Cert.ParamGradIdeal.main_arg9)
      ∧ r.2.mem ((c.tc : Thread Cert.ParamGradIdeal.nD Cert.ParamGradIdeal.τ).loc Cert.ParamGradIdeal.main_arg10) = m ((c.tc : Thread Cert.ParamGradIdeal.nD Cert.ParamGradIdeal.τ).loc Cert.ParamGradIdeal.main_arg10)
      ∧ r.2.mem ((c.tc : Thread Cert.ParamGradIdeal.nD Cert.ParamGradIdeal.τ).loc Cert.ParamGradIdeal.main_arg11) = m ((c.tc : Thread Cert.ParamGradIdeal.nD Cert.ParamGradIdeal.τ).loc Cert.ParamGradIdeal.main_arg11))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3)
      ∧ r.2.mem ((c.tc : Thread Cert.AttnFwd.nD Cert.AttnFwd.τ).loc Cert.AttnFwd.main_arg4) = m ((c.tc : Thread Cert.AttnFwd.nD Cert.AttnFwd.τ).loc Cert.AttnFwd.main_arg4))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4))
      ∧ r.2.sem = fun _ => 0)

def quiescent_CoreBwd [hCoreBwd : Cert.CoreBwd.Facts] : Prop :=
  ∀ (m : (ℓ : Loc Cert.CoreBwd.nD Cert.CoreBwd.τ Cert.CoreBwd.sig) → Buf (Elt Bits) ℓ) (g : Dev Cert.CoreBwd.nD → PrngReg), Pre_CoreBwd m →
    θ_run (Cert.CoreBwd.defs (F := Bits)) (onTc (τ := Cert.CoreBwd.τ) (Cert.CoreBwd.main (F := Bits))) ⟨m, fun _ => 0, g⟩ (fun r => (∀ c : Dev Cert.CoreBwd.nD,
      r.2.mem ((c.tc : Thread Cert.CoreBwd.nD Cert.CoreBwd.τ).loc Cert.CoreBwd.main_arg0) = m ((c.tc : Thread Cert.CoreBwd.nD Cert.CoreBwd.τ).loc Cert.CoreBwd.main_arg0)
      ∧ r.2.mem ((c.tc : Thread Cert.CoreBwd.nD Cert.CoreBwd.τ).loc Cert.CoreBwd.main_arg1) = m ((c.tc : Thread Cert.CoreBwd.nD Cert.CoreBwd.τ).loc Cert.CoreBwd.main_arg1)
      ∧ r.2.mem ((c.tc : Thread Cert.CoreBwd.nD Cert.CoreBwd.τ).loc Cert.CoreBwd.main_arg2) = m ((c.tc : Thread Cert.CoreBwd.nD Cert.CoreBwd.τ).loc Cert.CoreBwd.main_arg2)
      ∧ r.2.mem ((c.tc : Thread Cert.CoreBwd.nD Cert.CoreBwd.τ).loc Cert.CoreBwd.main_arg3) = m ((c.tc : Thread Cert.CoreBwd.nD Cert.CoreBwd.τ).loc Cert.CoreBwd.main_arg3)
      ∧ r.2.mem ((c.tc : Thread Cert.CoreBwd.nD Cert.CoreBwd.τ).loc Cert.CoreBwd.main_arg4) = m ((c.tc : Thread Cert.CoreBwd.nD Cert.CoreBwd.τ).loc Cert.CoreBwd.main_arg4)
      ∧ r.2.mem ((c.tc : Thread Cert.CoreBwd.nD Cert.CoreBwd.τ).loc Cert.CoreBwd.main_arg5) = m ((c.tc : Thread Cert.CoreBwd.nD Cert.CoreBwd.τ).loc Cert.CoreBwd.main_arg5)
      ∧ r.2.mem ((c.tc : Thread Cert.CoreBwd.nD Cert.CoreBwd.τ).loc Cert.CoreBwd.main_arg6) = m ((c.tc : Thread Cert.CoreBwd.nD Cert.CoreBwd.τ).loc Cert.CoreBwd.main_arg6)
      ∧ r.2.mem ((c.tc : Thread Cert.CoreBwd.nD Cert.CoreBwd.τ).loc Cert.CoreBwd.main_arg7) = m ((c.tc : Thread Cert.CoreBwd.nD Cert.CoreBwd.τ).loc Cert.CoreBwd.main_arg7)
      ∧ r.2.mem ((c.tc : Thread Cert.CoreBwd.nD Cert.CoreBwd.τ).loc Cert.CoreBwd.main_arg8) = m ((c.tc : Thread Cert.CoreBwd.nD Cert.CoreBwd.τ).loc Cert.CoreBwd.main_arg8))
      ∧ r.2.sem = fun _ => 0)

def quiescent_CoreBwdIdeal [hCoreBwdIdeal : Cert.CoreBwdIdeal.Facts] : Prop :=
  ∀ (m : (ℓ : Loc Cert.CoreBwdIdeal.nD Cert.CoreBwdIdeal.τ Cert.CoreBwdIdeal.sig) → Buf (Elt Ideal) ℓ) (g : Dev Cert.CoreBwdIdeal.nD → PrngReg), Pre_CoreBwdIdeal m →
    θ_run (Cert.CoreBwdIdeal.defs (F := Ideal)) (onTc (τ := Cert.CoreBwdIdeal.τ) (Cert.CoreBwdIdeal.main (F := Ideal))) ⟨m, fun _ => 0, g⟩ (fun r => (∀ c : Dev Cert.CoreBwdIdeal.nD,
      r.2.mem ((c.tc : Thread Cert.CoreBwdIdeal.nD Cert.CoreBwdIdeal.τ).loc Cert.CoreBwdIdeal.main_arg0) = m ((c.tc : Thread Cert.CoreBwdIdeal.nD Cert.CoreBwdIdeal.τ).loc Cert.CoreBwdIdeal.main_arg0)
      ∧ r.2.mem ((c.tc : Thread Cert.CoreBwdIdeal.nD Cert.CoreBwdIdeal.τ).loc Cert.CoreBwdIdeal.main_arg1) = m ((c.tc : Thread Cert.CoreBwdIdeal.nD Cert.CoreBwdIdeal.τ).loc Cert.CoreBwdIdeal.main_arg1)
      ∧ r.2.mem ((c.tc : Thread Cert.CoreBwdIdeal.nD Cert.CoreBwdIdeal.τ).loc Cert.CoreBwdIdeal.main_arg2) = m ((c.tc : Thread Cert.CoreBwdIdeal.nD Cert.CoreBwdIdeal.τ).loc Cert.CoreBwdIdeal.main_arg2)
      ∧ r.2.mem ((c.tc : Thread Cert.CoreBwdIdeal.nD Cert.CoreBwdIdeal.τ).loc Cert.CoreBwdIdeal.main_arg3) = m ((c.tc : Thread Cert.CoreBwdIdeal.nD Cert.CoreBwdIdeal.τ).loc Cert.CoreBwdIdeal.main_arg3)
      ∧ r.2.mem ((c.tc : Thread Cert.CoreBwdIdeal.nD Cert.CoreBwdIdeal.τ).loc Cert.CoreBwdIdeal.main_arg4) = m ((c.tc : Thread Cert.CoreBwdIdeal.nD Cert.CoreBwdIdeal.τ).loc Cert.CoreBwdIdeal.main_arg4)
      ∧ r.2.mem ((c.tc : Thread Cert.CoreBwdIdeal.nD Cert.CoreBwdIdeal.τ).loc Cert.CoreBwdIdeal.main_arg5) = m ((c.tc : Thread Cert.CoreBwdIdeal.nD Cert.CoreBwdIdeal.τ).loc Cert.CoreBwdIdeal.main_arg5)
      ∧ r.2.mem ((c.tc : Thread Cert.CoreBwdIdeal.nD Cert.CoreBwdIdeal.τ).loc Cert.CoreBwdIdeal.main_arg6) = m ((c.tc : Thread Cert.CoreBwdIdeal.nD Cert.CoreBwdIdeal.τ).loc Cert.CoreBwdIdeal.main_arg6)
      ∧ r.2.mem ((c.tc : Thread Cert.CoreBwdIdeal.nD Cert.CoreBwdIdeal.τ).loc Cert.CoreBwdIdeal.main_arg7) = m ((c.tc : Thread Cert.CoreBwdIdeal.nD Cert.CoreBwdIdeal.τ).loc Cert.CoreBwdIdeal.main_arg7)
      ∧ r.2.mem ((c.tc : Thread Cert.CoreBwdIdeal.nD Cert.CoreBwdIdeal.τ).loc Cert.CoreBwdIdeal.main_arg8) = m ((c.tc : Thread Cert.CoreBwdIdeal.nD Cert.CoreBwdIdeal.τ).loc Cert.CoreBwdIdeal.main_arg8))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2)
      ∧ r.2.mem ((c.tc : Thread Cert.InFwd.nD Cert.InFwd.τ).loc Cert.InFwd.main_arg3) = m ((c.tc : Thread Cert.InFwd.nD Cert.InFwd.τ).loc Cert.InFwd.main_arg3))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
      ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3))
      ∧ r.2.sem = fun _ => 0)

def quiescent_InOutIdeal [hInOutIdeal : Cert.InOutIdeal.Facts] : Prop :=
  ∀ (m : (ℓ : Loc Cert.InOutIdeal.nD Cert.InOutIdeal.τ Cert.InOutIdeal.sig) → Buf (Elt Ideal) ℓ) (g : Dev Cert.InOutIdeal.nD → PrngReg), Pre_InOutIdeal m →
    θ_run (Cert.InOutIdeal.defs (F := Ideal)) (onTc (τ := Cert.InOutIdeal.τ) (Cert.InOutIdeal.main (F := Ideal))) ⟨m, fun _ => 0, g⟩ (fun r => (∀ c : Dev Cert.InOutIdeal.nD,
      r.2.mem ((c.tc : Thread Cert.InOutIdeal.nD Cert.InOutIdeal.τ).loc Cert.InOutIdeal.main_arg0) = m ((c.tc : Thread Cert.InOutIdeal.nD Cert.InOutIdeal.τ).loc Cert.InOutIdeal.main_arg0)
      ∧ r.2.mem ((c.tc : Thread Cert.InOutIdeal.nD Cert.InOutIdeal.τ).loc Cert.InOutIdeal.main_arg1) = m ((c.tc : Thread Cert.InOutIdeal.nD Cert.InOutIdeal.τ).loc Cert.InOutIdeal.main_arg1)
      ∧ r.2.mem ((c.tc : Thread Cert.InOutIdeal.nD Cert.InOutIdeal.τ).loc Cert.InOutIdeal.main_arg2) = m ((c.tc : Thread Cert.InOutIdeal.nD Cert.InOutIdeal.τ).loc Cert.InOutIdeal.main_arg2)
      ∧ r.2.mem ((c.tc : Thread Cert.InOutIdeal.nD Cert.InOutIdeal.τ).loc Cert.InOutIdeal.main_arg3) = m ((c.tc : Thread Cert.InOutIdeal.nD Cert.InOutIdeal.τ).loc Cert.InOutIdeal.main_arg3))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2)
      ∧ r.2.mem ((c.tc : Thread Cert.GluFwd.nD Cert.GluFwd.τ).loc Cert.GluFwd.main_arg3) = m ((c.tc : Thread Cert.GluFwd.nD Cert.GluFwd.τ).loc Cert.GluFwd.main_arg3)
      ∧ r.2.mem ((c.tc : Thread Cert.GluFwd.nD Cert.GluFwd.τ).loc Cert.GluFwd.main_arg4) = m ((c.tc : Thread Cert.GluFwd.nD Cert.GluFwd.τ).loc Cert.GluFwd.main_arg4)
      ∧ r.2.mem ((c.tc : Thread Cert.GluFwd.nD Cert.GluFwd.τ).loc Cert.GluFwd.main_arg5) = m ((c.tc : Thread Cert.GluFwd.nD Cert.GluFwd.τ).loc Cert.GluFwd.main_arg5))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
      ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3)
      ∧ r.2.mem ((c.tc : Thread Cert.GluFwdIdeal.nD Cert.GluFwdIdeal.τ).loc Cert.GluFwdIdeal.main_arg4) = m ((c.tc : Thread Cert.GluFwdIdeal.nD Cert.GluFwdIdeal.τ).loc Cert.GluFwdIdeal.main_arg4)
      ∧ r.2.mem ((c.tc : Thread Cert.GluFwdIdeal.nD Cert.GluFwdIdeal.τ).loc Cert.GluFwdIdeal.main_arg5) = m ((c.tc : Thread Cert.GluFwdIdeal.nD Cert.GluFwdIdeal.τ).loc Cert.GluFwdIdeal.main_arg5))
      ∧ r.2.sem = fun _ => 0)

def quiescent_GluOutIdeal [hGluOutIdeal : Cert.GluOutIdeal.Facts] : Prop :=
  ∀ (m : (ℓ : Loc Cert.GluOutIdeal.nD Cert.GluOutIdeal.τ Cert.GluOutIdeal.sig) → Buf (Elt Ideal) ℓ) (g : Dev Cert.GluOutIdeal.nD → PrngReg), Pre_GluOutIdeal m →
    θ_run (Cert.GluOutIdeal.defs (F := Ideal)) (onTc (τ := Cert.GluOutIdeal.τ) (Cert.GluOutIdeal.main (F := Ideal))) ⟨m, fun _ => 0, g⟩ (fun r => (∀ c : Dev Cert.GluOutIdeal.nD,
      r.2.mem ((c.tc : Thread Cert.GluOutIdeal.nD Cert.GluOutIdeal.τ).loc Cert.GluOutIdeal.main_arg0) = m ((c.tc : Thread Cert.GluOutIdeal.nD Cert.GluOutIdeal.τ).loc Cert.GluOutIdeal.main_arg0)
      ∧ r.2.mem ((c.tc : Thread Cert.GluOutIdeal.nD Cert.GluOutIdeal.τ).loc Cert.GluOutIdeal.main_arg1) = m ((c.tc : Thread Cert.GluOutIdeal.nD Cert.GluOutIdeal.τ).loc Cert.GluOutIdeal.main_arg1)
      ∧ r.2.mem ((c.tc : Thread Cert.GluOutIdeal.nD Cert.GluOutIdeal.τ).loc Cert.GluOutIdeal.main_arg2) = m ((c.tc : Thread Cert.GluOutIdeal.nD Cert.GluOutIdeal.τ).loc Cert.GluOutIdeal.main_arg2)
      ∧ r.2.mem ((c.tc : Thread Cert.GluOutIdeal.nD Cert.GluOutIdeal.τ).loc Cert.GluOutIdeal.main_arg3) = m ((c.tc : Thread Cert.GluOutIdeal.nD Cert.GluOutIdeal.τ).loc Cert.GluOutIdeal.main_arg3)
      ∧ r.2.mem ((c.tc : Thread Cert.GluOutIdeal.nD Cert.GluOutIdeal.τ).loc Cert.GluOutIdeal.main_arg4) = m ((c.tc : Thread Cert.GluOutIdeal.nD Cert.GluOutIdeal.τ).loc Cert.GluOutIdeal.main_arg4)
      ∧ r.2.mem ((c.tc : Thread Cert.GluOutIdeal.nD Cert.GluOutIdeal.τ).loc Cert.GluOutIdeal.main_arg5) = m ((c.tc : Thread Cert.GluOutIdeal.nD Cert.GluOutIdeal.τ).loc Cert.GluOutIdeal.main_arg5))
      ∧ r.2.sem = fun _ => 0)

def preserves_OutBwd_OutBwdIdeal : Prop :=
  True

def algebraic_OutBwdIdeal_OutGradIdeal_pre_finite_out [hOutBwdIdeal : Cert.OutBwdIdeal.Facts] [hOutGradIdeal : Cert.OutGradIdeal.Facts] [hPre_finite_out : Cert.Pre_finite_out.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutGradIdeal.nD Cert.OutGradIdeal.τ Cert.OutGradIdeal.sig) → Buf (Elt Ideal) ℓ) (g' : Dev Cert.OutGradIdeal.nD → PrngReg), Pre_OutBwdIdeal_finite_out m →
    (∀ c : Dev Cert.OutBwdIdeal.nD,
      m' ((c.tc : Thread Cert.OutGradIdeal.nD Cert.OutGradIdeal.τ).loc Cert.OutGradIdeal.main_arg0) = m ((c.tc : Thread Cert.OutBwdIdeal.nD Cert.OutBwdIdeal.τ).loc Cert.OutBwdIdeal.main_arg0)
      ∧ m' ((c.tc : Thread Cert.OutGradIdeal.nD Cert.OutGradIdeal.τ).loc Cert.OutGradIdeal.main_arg1) = m ((c.tc : Thread Cert.OutBwdIdeal.nD Cert.OutBwdIdeal.τ).loc Cert.OutBwdIdeal.main_arg1)
      ∧ m' ((c.tc : Thread Cert.OutGradIdeal.nD Cert.OutGradIdeal.τ).loc Cert.OutGradIdeal.main_arg2) = m ((c.tc : Thread Cert.OutBwdIdeal.nD Cert.OutBwdIdeal.τ).loc Cert.OutBwdIdeal.main_arg2)
      ∧ m' ((c.tc : Thread Cert.OutGradIdeal.nD Cert.OutGradIdeal.τ).loc Cert.OutGradIdeal.main_arg3) = m ((c.tc : Thread Cert.OutBwdIdeal.nD Cert.OutBwdIdeal.τ).loc Cert.OutBwdIdeal.main_arg3)) →
    ∃ (v0 : (c : Dev Cert.OutBwdIdeal.nD) → Buf (Elt Ideal) ((c.tc : Thread Cert.OutBwdIdeal.nD Cert.OutBwdIdeal.τ).loc Cert.OutBwdIdeal.main_v4_0)) (v1 : (c : Dev Cert.OutBwdIdeal.nD) → Buf (Elt Ideal) ((c.tc : Thread Cert.OutBwdIdeal.nD Cert.OutBwdIdeal.τ).loc Cert.OutBwdIdeal.main_v4_1)) (v2 : (c : Dev Cert.OutBwdIdeal.nD) → Buf (Elt Ideal) ((c.tc : Thread Cert.OutBwdIdeal.nD Cert.OutBwdIdeal.τ).loc Cert.OutBwdIdeal.main_v4_2)) (v3 : (c : Dev Cert.OutBwdIdeal.nD) → Buf (Elt Ideal) ((c.tc : Thread Cert.OutBwdIdeal.nD Cert.OutBwdIdeal.τ).loc Cert.OutBwdIdeal.main_v4_3)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v4_0) = v0 c
          ∧ r.2.mem ((c.tc : Thread Cert.OutBwdIdeal.nD Cert.OutBwdIdeal.τ).loc Cert.OutBwdIdeal.main_v4_1) = v1 c
          ∧ r.2.mem ((c.tc : Thread Cert.OutBwdIdeal.nD Cert.OutBwdIdeal.τ).loc Cert.OutBwdIdeal.main_v4_2) = v2 c
          ∧ r.2.mem ((c.tc : Thread Cert.OutBwdIdeal.nD Cert.OutBwdIdeal.τ).loc Cert.OutBwdIdeal.main_v4_3) = v3 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ θ_run (Cert.OutGradIdeal.defs (F := Ideal)) (onTc (τ := Cert.OutGradIdeal.τ) (Cert.OutGradIdeal.main (F := Ideal))) ⟨m', fun _ => 0, g'⟩ (fun r => ∀ c : Dev Cert.OutGradIdeal.nD,
          r.2.mem ((c.tc : Thread Cert.OutGradIdeal.nD Cert.OutGradIdeal.τ).loc Cert.OutGradIdeal.main_v44) = v0 c
          ∧ r.2.mem ((c.tc : Thread Cert.OutGradIdeal.nD Cert.OutGradIdeal.τ).loc Cert.OutGradIdeal.main_v43) = v1 c
          ∧ r.2.mem ((c.tc : Thread Cert.OutGradIdeal.nD Cert.OutGradIdeal.τ).loc Cert.OutGradIdeal.main_v45) = v2 c
          ∧ r.2.mem ((c.tc : Thread Cert.OutGradIdeal.nD Cert.OutGradIdeal.τ).loc Cert.OutGradIdeal.main_v46) = v3 c
          ∧ r.2.mem ((c.tc : Thread Cert.OutGradIdeal.nD Cert.OutGradIdeal.τ).loc Cert.OutGradIdeal.main_arg0) = m' ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m' ((c.tc : Thread Cert.OutGradIdeal.nD Cert.OutGradIdeal.τ).loc Cert.OutGradIdeal.main_arg1)
          ∧ r.2.mem ((c.tc : Thread Cert.OutGradIdeal.nD Cert.OutGradIdeal.τ).loc Cert.OutGradIdeal.main_arg2) = m' ((c.tc : Thread Cert.OutGradIdeal.nD Cert.OutGradIdeal.τ).loc Cert.OutGradIdeal.main_arg2)
          ∧ r.2.mem ((c.tc : Thread Cert.OutGradIdeal.nD Cert.OutGradIdeal.τ).loc Cert.OutGradIdeal.main_arg3) = m' ((c.tc : Thread Cert.OutGradIdeal.nD Cert.OutGradIdeal.τ).loc Cert.OutGradIdeal.main_arg3))

def preserves_AttnBwd_AttnBwdIdeal : Prop :=
  True

def algebraic_AttnBwdIdeal_AttnGradIdeal_pre_finite_attn [hAttnBwdIdeal : Cert.AttnBwdIdeal.Facts] [hAttnGradIdeal : Cert.AttnGradIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnGradIdeal.nD Cert.AttnGradIdeal.τ Cert.AttnGradIdeal.sig) → Buf (Elt Ideal) ℓ) (g' : Dev Cert.AttnGradIdeal.nD → PrngReg), Pre_AttnBwdIdeal_finite_attn m →
    (∀ c : Dev Cert.AttnBwdIdeal.nD,
      m' ((c.tc : Thread Cert.AttnGradIdeal.nD Cert.AttnGradIdeal.τ).loc Cert.AttnGradIdeal.main_arg0) = m ((c.tc : Thread Cert.AttnBwdIdeal.nD Cert.AttnBwdIdeal.τ).loc Cert.AttnBwdIdeal.main_arg0)
      ∧ m' ((c.tc : Thread Cert.AttnGradIdeal.nD Cert.AttnGradIdeal.τ).loc Cert.AttnGradIdeal.main_arg1) = m ((c.tc : Thread Cert.AttnBwdIdeal.nD Cert.AttnBwdIdeal.τ).loc Cert.AttnBwdIdeal.main_arg1)
      ∧ m' ((c.tc : Thread Cert.AttnGradIdeal.nD Cert.AttnGradIdeal.τ).loc Cert.AttnGradIdeal.main_arg2) = m ((c.tc : Thread Cert.AttnBwdIdeal.nD Cert.AttnBwdIdeal.τ).loc Cert.AttnBwdIdeal.main_arg2)
      ∧ m' ((c.tc : Thread Cert.AttnGradIdeal.nD Cert.AttnGradIdeal.τ).loc Cert.AttnGradIdeal.main_arg3) = m ((c.tc : Thread Cert.AttnBwdIdeal.nD Cert.AttnBwdIdeal.τ).loc Cert.AttnBwdIdeal.main_arg3)
      ∧ m' ((c.tc : Thread Cert.AttnGradIdeal.nD Cert.AttnGradIdeal.τ).loc Cert.AttnGradIdeal.main_arg4) = m ((c.tc : Thread Cert.AttnBwdIdeal.nD Cert.AttnBwdIdeal.τ).loc Cert.AttnBwdIdeal.main_arg4)
      ∧ m' ((c.tc : Thread Cert.AttnGradIdeal.nD Cert.AttnGradIdeal.τ).loc Cert.AttnGradIdeal.main_arg5) = m ((c.tc : Thread Cert.AttnBwdIdeal.nD Cert.AttnBwdIdeal.τ).loc Cert.AttnBwdIdeal.main_arg5)) →
    ∃ (v0 : (c : Dev Cert.AttnBwdIdeal.nD) → Buf (Elt Ideal) ((c.tc : Thread Cert.AttnBwdIdeal.nD Cert.AttnBwdIdeal.τ).loc Cert.AttnBwdIdeal.main_v74_0)) (v1 : (c : Dev Cert.AttnBwdIdeal.nD) → Buf (Elt Ideal) ((c.tc : Thread Cert.AttnBwdIdeal.nD Cert.AttnBwdIdeal.τ).loc Cert.AttnBwdIdeal.main_v74_1)) (v2 : (c : Dev Cert.AttnBwdIdeal.nD) → Buf (Elt Ideal) ((c.tc : Thread Cert.AttnBwdIdeal.nD Cert.AttnBwdIdeal.τ).loc Cert.AttnBwdIdeal.main_v74_2)) (v3 : (c : Dev Cert.AttnBwdIdeal.nD) → Buf (Elt Ideal) ((c.tc : Thread Cert.AttnBwdIdeal.nD Cert.AttnBwdIdeal.τ).loc Cert.AttnBwdIdeal.main_v74_3)) (v4 : (c : Dev Cert.AttnBwdIdeal.nD) → Buf (Elt Ideal) ((c.tc : Thread Cert.AttnBwdIdeal.nD Cert.AttnBwdIdeal.τ).loc Cert.AttnBwdIdeal.main_v74_4)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v74_0) = v0 c
          ∧ r.2.mem ((c.tc : Thread Cert.AttnBwdIdeal.nD Cert.AttnBwdIdeal.τ).loc Cert.AttnBwdIdeal.main_v74_1) = v1 c
          ∧ r.2.mem ((c.tc : Thread Cert.AttnBwdIdeal.nD Cert.AttnBwdIdeal.τ).loc Cert.AttnBwdIdeal.main_v74_2) = v2 c
          ∧ r.2.mem ((c.tc : Thread Cert.AttnBwdIdeal.nD Cert.AttnBwdIdeal.τ).loc Cert.AttnBwdIdeal.main_v74_3) = v3 c
          ∧ r.2.mem ((c.tc : Thread Cert.AttnBwdIdeal.nD Cert.AttnBwdIdeal.τ).loc Cert.AttnBwdIdeal.main_v74_4) = v4 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
          ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ θ_run (Cert.AttnGradIdeal.defs (F := Ideal)) (onTc (τ := Cert.AttnGradIdeal.τ) (Cert.AttnGradIdeal.main (F := Ideal))) ⟨m', fun _ => 0, g'⟩ (fun r => ∀ c : Dev Cert.AttnGradIdeal.nD,
          r.2.mem ((c.tc : Thread Cert.AttnGradIdeal.nD Cert.AttnGradIdeal.τ).loc Cert.AttnGradIdeal.main_v192) = v0 c
          ∧ r.2.mem ((c.tc : Thread Cert.AttnGradIdeal.nD Cert.AttnGradIdeal.τ).loc Cert.AttnGradIdeal.main_v191) = v1 c
          ∧ r.2.mem ((c.tc : Thread Cert.AttnGradIdeal.nD Cert.AttnGradIdeal.τ).loc Cert.AttnGradIdeal.main_v184) = v2 c
          ∧ r.2.mem ((c.tc : Thread Cert.AttnGradIdeal.nD Cert.AttnGradIdeal.τ).loc Cert.AttnGradIdeal.main_v194) = v3 c
          ∧ r.2.mem ((c.tc : Thread Cert.AttnGradIdeal.nD Cert.AttnGradIdeal.τ).loc Cert.AttnGradIdeal.main_v195) = v4 c
          ∧ r.2.mem ((c.tc : Thread Cert.AttnGradIdeal.nD Cert.AttnGradIdeal.τ).loc Cert.AttnGradIdeal.main_arg0) = m' ((c.tc : Thread Cert.AttnGradIdeal.nD Cert.AttnGradIdeal.τ).loc Cert.AttnGradIdeal.main_arg0)
          ∧ r.2.mem ((c.tc : Thread Cert.AttnGradIdeal.nD Cert.AttnGradIdeal.τ).loc Cert.AttnGradIdeal.main_arg1) = m' ((c.tc : Thread Cert.AttnGradIdeal.nD Cert.AttnGradIdeal.τ).loc Cert.AttnGradIdeal.main_arg1)
          ∧ r.2.mem ((c.tc : Thread Cert.AttnGradIdeal.nD Cert.AttnGradIdeal.τ).loc Cert.AttnGradIdeal.main_arg2) = m' ((c.tc : Thread Cert.AttnGradIdeal.nD Cert.AttnGradIdeal.τ).loc Cert.AttnGradIdeal.main_arg2)
          ∧ r.2.mem ((c.tc : Thread Cert.AttnGradIdeal.nD Cert.AttnGradIdeal.τ).loc Cert.AttnGradIdeal.main_arg3) = m' ((c.tc : Thread Cert.AttnGradIdeal.nD Cert.AttnGradIdeal.τ).loc Cert.AttnGradIdeal.main_arg3)
          ∧ r.2.mem ((c.tc : Thread Cert.AttnGradIdeal.nD Cert.AttnGradIdeal.τ).loc Cert.AttnGradIdeal.main_arg4) = m' ((c.tc : Thread Cert.AttnGradIdeal.nD Cert.AttnGradIdeal.τ).loc Cert.AttnGradIdeal.main_arg4)
          ∧ r.2.mem ((c.tc : Thread Cert.AttnGradIdeal.nD Cert.AttnGradIdeal.τ).loc Cert.AttnGradIdeal.main_arg5) = m' ((c.tc : Thread Cert.AttnGradIdeal.nD Cert.AttnGradIdeal.τ).loc Cert.AttnGradIdeal.main_arg5))

def preserves_InBwd_InBwdIdeal : Prop :=
  True

def algebraic_InBwdIdeal_InGradIdeal_pre_finite_in [hInBwdIdeal : Cert.InBwdIdeal.Facts] [hInGradIdeal : Cert.InGradIdeal.Facts] [hPre_finite_in : Cert.Pre_finite_in.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InGradIdeal.nD Cert.InGradIdeal.τ Cert.InGradIdeal.sig) → Buf (Elt Ideal) ℓ) (g' : Dev Cert.InGradIdeal.nD → PrngReg), Pre_InBwdIdeal_finite_in m →
    (∀ c : Dev Cert.InBwdIdeal.nD,
      m' ((c.tc : Thread Cert.InGradIdeal.nD Cert.InGradIdeal.τ).loc Cert.InGradIdeal.main_arg0) = m ((c.tc : Thread Cert.InBwdIdeal.nD Cert.InBwdIdeal.τ).loc Cert.InBwdIdeal.main_arg0)
      ∧ m' ((c.tc : Thread Cert.InGradIdeal.nD Cert.InGradIdeal.τ).loc Cert.InGradIdeal.main_arg1) = m ((c.tc : Thread Cert.InBwdIdeal.nD Cert.InBwdIdeal.τ).loc Cert.InBwdIdeal.main_arg1)
      ∧ m' ((c.tc : Thread Cert.InGradIdeal.nD Cert.InGradIdeal.τ).loc Cert.InGradIdeal.main_arg2) = m ((c.tc : Thread Cert.InBwdIdeal.nD Cert.InBwdIdeal.τ).loc Cert.InBwdIdeal.main_arg2)
      ∧ m' ((c.tc : Thread Cert.InGradIdeal.nD Cert.InGradIdeal.τ).loc Cert.InGradIdeal.main_arg3) = m ((c.tc : Thread Cert.InBwdIdeal.nD Cert.InBwdIdeal.τ).loc Cert.InBwdIdeal.main_arg3)
      ∧ m' ((c.tc : Thread Cert.InGradIdeal.nD Cert.InGradIdeal.τ).loc Cert.InGradIdeal.main_arg4) = m ((c.tc : Thread Cert.InBwdIdeal.nD Cert.InBwdIdeal.τ).loc Cert.InBwdIdeal.main_arg4)
      ∧ m' ((c.tc : Thread Cert.InGradIdeal.nD Cert.InGradIdeal.τ).loc Cert.InGradIdeal.main_arg5) = m ((c.tc : Thread Cert.InBwdIdeal.nD Cert.InBwdIdeal.τ).loc Cert.InBwdIdeal.main_arg5)
      ∧ m' ((c.tc : Thread Cert.InGradIdeal.nD Cert.InGradIdeal.τ).loc Cert.InGradIdeal.main_arg6) = m ((c.tc : Thread Cert.InBwdIdeal.nD Cert.InBwdIdeal.τ).loc Cert.InBwdIdeal.main_arg6)
      ∧ m' ((c.tc : Thread Cert.InGradIdeal.nD Cert.InGradIdeal.τ).loc Cert.InGradIdeal.main_arg7) = m ((c.tc : Thread Cert.InBwdIdeal.nD Cert.InBwdIdeal.τ).loc Cert.InBwdIdeal.main_arg7)
      ∧ m' ((c.tc : Thread Cert.InGradIdeal.nD Cert.InGradIdeal.τ).loc Cert.InGradIdeal.main_arg8) = m ((c.tc : Thread Cert.InBwdIdeal.nD Cert.InBwdIdeal.τ).loc Cert.InBwdIdeal.main_arg8)) →
    ∃ (v0 : (c : Dev Cert.InBwdIdeal.nD) → Buf (Elt Ideal) ((c.tc : Thread Cert.InBwdIdeal.nD Cert.InBwdIdeal.τ).loc Cert.InBwdIdeal.main_v34_0)) (v1 : (c : Dev Cert.InBwdIdeal.nD) → Buf (Elt Ideal) ((c.tc : Thread Cert.InBwdIdeal.nD Cert.InBwdIdeal.τ).loc Cert.InBwdIdeal.main_v34_1)) (v2 : (c : Dev Cert.InBwdIdeal.nD) → Buf (Elt Ideal) ((c.tc : Thread Cert.InBwdIdeal.nD Cert.InBwdIdeal.τ).loc Cert.InBwdIdeal.main_v34_2)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v34_0) = v0 c
          ∧ r.2.mem ((c.tc : Thread Cert.InBwdIdeal.nD Cert.InBwdIdeal.τ).loc Cert.InBwdIdeal.main_v34_1) = v1 c
          ∧ r.2.mem ((c.tc : Thread Cert.InBwdIdeal.nD Cert.InBwdIdeal.τ).loc Cert.InBwdIdeal.main_v34_2) = v2 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
          ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8))
      ∧ θ_run (Cert.InGradIdeal.defs (F := Ideal)) (onTc (τ := Cert.InGradIdeal.τ) (Cert.InGradIdeal.main (F := Ideal))) ⟨m', fun _ => 0, g'⟩ (fun r => ∀ c : Dev Cert.InGradIdeal.nD,
          r.2.mem ((c.tc : Thread Cert.InGradIdeal.nD Cert.InGradIdeal.τ).loc Cert.InGradIdeal.main_v161) = v0 c
          ∧ r.2.mem ((c.tc : Thread Cert.InGradIdeal.nD Cert.InGradIdeal.τ).loc Cert.InGradIdeal.main_v162) = v1 c
          ∧ r.2.mem ((c.tc : Thread Cert.InGradIdeal.nD Cert.InGradIdeal.τ).loc Cert.InGradIdeal.main_v163) = v2 c
          ∧ r.2.mem ((c.tc : Thread Cert.InGradIdeal.nD Cert.InGradIdeal.τ).loc Cert.InGradIdeal.main_arg0) = m' ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m' ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m' ((c.tc : Thread Cert.InGradIdeal.nD Cert.InGradIdeal.τ).loc Cert.InGradIdeal.main_arg2)
          ∧ r.2.mem ((c.tc : Thread Cert.InGradIdeal.nD Cert.InGradIdeal.τ).loc Cert.InGradIdeal.main_arg3) = m' ((c.tc : Thread Cert.InGradIdeal.nD Cert.InGradIdeal.τ).loc Cert.InGradIdeal.main_arg3)
          ∧ r.2.mem ((c.tc : Thread Cert.InGradIdeal.nD Cert.InGradIdeal.τ).loc Cert.InGradIdeal.main_arg4) = m' ((c.tc : Thread Cert.InGradIdeal.nD Cert.InGradIdeal.τ).loc Cert.InGradIdeal.main_arg4)
          ∧ r.2.mem ((c.tc : Thread Cert.InGradIdeal.nD Cert.InGradIdeal.τ).loc Cert.InGradIdeal.main_arg5) = m' ((c.tc : Thread Cert.InGradIdeal.nD Cert.InGradIdeal.τ).loc Cert.InGradIdeal.main_arg5)
          ∧ r.2.mem ((c.tc : Thread Cert.InGradIdeal.nD Cert.InGradIdeal.τ).loc Cert.InGradIdeal.main_arg6) = m' ((c.tc : Thread Cert.InGradIdeal.nD Cert.InGradIdeal.τ).loc Cert.InGradIdeal.main_arg6)
          ∧ r.2.mem ((c.tc : Thread Cert.InGradIdeal.nD Cert.InGradIdeal.τ).loc Cert.InGradIdeal.main_arg7) = m' ((c.tc : Thread Cert.InGradIdeal.nD Cert.InGradIdeal.τ).loc Cert.InGradIdeal.main_arg7)
          ∧ r.2.mem ((c.tc : Thread Cert.InGradIdeal.nD Cert.InGradIdeal.τ).loc Cert.InGradIdeal.main_arg8) = m' ((c.tc : Thread Cert.InGradIdeal.nD Cert.InGradIdeal.τ).loc Cert.InGradIdeal.main_arg8))

def preserves_GluBwd_GluBwdIdeal : Prop :=
  True

def algebraic_GluBwdIdeal_GluGradIdeal_pre_finite_glu [hGluBwdIdeal : Cert.GluBwdIdeal.Facts] [hGluGradIdeal : Cert.GluGradIdeal.Facts] [hPre_finite_glu : Cert.Pre_finite_glu.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluGradIdeal.nD Cert.GluGradIdeal.τ Cert.GluGradIdeal.sig) → Buf (Elt Ideal) ℓ) (g' : Dev Cert.GluGradIdeal.nD → PrngReg), Pre_GluBwdIdeal_finite_glu m →
    (∀ c : Dev Cert.GluBwdIdeal.nD,
      m' ((c.tc : Thread Cert.GluGradIdeal.nD Cert.GluGradIdeal.τ).loc Cert.GluGradIdeal.main_arg0) = m ((c.tc : Thread Cert.GluBwdIdeal.nD Cert.GluBwdIdeal.τ).loc Cert.GluBwdIdeal.main_arg0)
      ∧ m' ((c.tc : Thread Cert.GluGradIdeal.nD Cert.GluGradIdeal.τ).loc Cert.GluGradIdeal.main_arg1) = m ((c.tc : Thread Cert.GluBwdIdeal.nD Cert.GluBwdIdeal.τ).loc Cert.GluBwdIdeal.main_arg1)
      ∧ m' ((c.tc : Thread Cert.GluGradIdeal.nD Cert.GluGradIdeal.τ).loc Cert.GluGradIdeal.main_arg2) = m ((c.tc : Thread Cert.GluBwdIdeal.nD Cert.GluBwdIdeal.τ).loc Cert.GluBwdIdeal.main_arg2)
      ∧ m' ((c.tc : Thread Cert.GluGradIdeal.nD Cert.GluGradIdeal.τ).loc Cert.GluGradIdeal.main_arg3) = m ((c.tc : Thread Cert.GluBwdIdeal.nD Cert.GluBwdIdeal.τ).loc Cert.GluBwdIdeal.main_arg3)
      ∧ m' ((c.tc : Thread Cert.GluGradIdeal.nD Cert.GluGradIdeal.τ).loc Cert.GluGradIdeal.main_arg4) = m ((c.tc : Thread Cert.GluBwdIdeal.nD Cert.GluBwdIdeal.τ).loc Cert.GluBwdIdeal.main_arg4)
      ∧ m' ((c.tc : Thread Cert.GluGradIdeal.nD Cert.GluGradIdeal.τ).loc Cert.GluGradIdeal.main_arg5) = m ((c.tc : Thread Cert.GluBwdIdeal.nD Cert.GluBwdIdeal.τ).loc Cert.GluBwdIdeal.main_arg5)
      ∧ m' ((c.tc : Thread Cert.GluGradIdeal.nD Cert.GluGradIdeal.τ).loc Cert.GluGradIdeal.main_arg6) = m ((c.tc : Thread Cert.GluBwdIdeal.nD Cert.GluBwdIdeal.τ).loc Cert.GluBwdIdeal.main_arg6)) →
    ∃ (v0 : (c : Dev Cert.GluBwdIdeal.nD) → Buf (Elt Ideal) ((c.tc : Thread Cert.GluBwdIdeal.nD Cert.GluBwdIdeal.τ).loc Cert.GluBwdIdeal.main_v33_0)) (v1 : (c : Dev Cert.GluBwdIdeal.nD) → Buf (Elt Ideal) ((c.tc : Thread Cert.GluBwdIdeal.nD Cert.GluBwdIdeal.τ).loc Cert.GluBwdIdeal.main_v33_1)) (v2 : (c : Dev Cert.GluBwdIdeal.nD) → Buf (Elt Ideal) ((c.tc : Thread Cert.GluBwdIdeal.nD Cert.GluBwdIdeal.τ).loc Cert.GluBwdIdeal.main_v33_2)) (v3 : (c : Dev Cert.GluBwdIdeal.nD) → Buf (Elt Ideal) ((c.tc : Thread Cert.GluBwdIdeal.nD Cert.GluBwdIdeal.τ).loc Cert.GluBwdIdeal.main_v33_3)) (v4 : (c : Dev Cert.GluBwdIdeal.nD) → Buf (Elt Ideal) ((c.tc : Thread Cert.GluBwdIdeal.nD Cert.GluBwdIdeal.τ).loc Cert.GluBwdIdeal.main_v33_4)) (v5 : (c : Dev Cert.GluBwdIdeal.nD) → Buf (Elt Ideal) ((c.tc : Thread Cert.GluBwdIdeal.nD Cert.GluBwdIdeal.τ).loc Cert.GluBwdIdeal.main_v33_5)) (v6 : (c : Dev Cert.GluBwdIdeal.nD) → Buf (Elt Ideal) ((c.tc : Thread Cert.GluBwdIdeal.nD Cert.GluBwdIdeal.τ).loc Cert.GluBwdIdeal.main_v33_6)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v33_0) = v0 c
          ∧ r.2.mem ((c.tc : Thread Cert.GluBwdIdeal.nD Cert.GluBwdIdeal.τ).loc Cert.GluBwdIdeal.main_v33_1) = v1 c
          ∧ r.2.mem ((c.tc : Thread Cert.GluBwdIdeal.nD Cert.GluBwdIdeal.τ).loc Cert.GluBwdIdeal.main_v33_2) = v2 c
          ∧ r.2.mem ((c.tc : Thread Cert.GluBwdIdeal.nD Cert.GluBwdIdeal.τ).loc Cert.GluBwdIdeal.main_v33_3) = v3 c
          ∧ r.2.mem ((c.tc : Thread Cert.GluBwdIdeal.nD Cert.GluBwdIdeal.τ).loc Cert.GluBwdIdeal.main_v33_4) = v4 c
          ∧ r.2.mem ((c.tc : Thread Cert.GluBwdIdeal.nD Cert.GluBwdIdeal.τ).loc Cert.GluBwdIdeal.main_v33_5) = v5 c
          ∧ r.2.mem ((c.tc : Thread Cert.GluBwdIdeal.nD Cert.GluBwdIdeal.τ).loc Cert.GluBwdIdeal.main_v33_6) = v6 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
          ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
          ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
          ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4)
          ∧ r.2.mem ((c.tc : Thread Cert.GluBwdIdeal.nD Cert.GluBwdIdeal.τ).loc Cert.GluBwdIdeal.main_arg5) = m ((c.tc : Thread Cert.GluBwdIdeal.nD Cert.GluBwdIdeal.τ).loc Cert.GluBwdIdeal.main_arg5)
          ∧ r.2.mem ((c.tc : Thread Cert.GluBwdIdeal.nD Cert.GluBwdIdeal.τ).loc Cert.GluBwdIdeal.main_arg6) = m ((c.tc : Thread Cert.GluBwdIdeal.nD Cert.GluBwdIdeal.τ).loc Cert.GluBwdIdeal.main_arg6))
      ∧ θ_run (Cert.GluGradIdeal.defs (F := Ideal)) (onTc (τ := Cert.GluGradIdeal.τ) (Cert.GluGradIdeal.main (F := Ideal))) ⟨m', fun _ => 0, g'⟩ (fun r => ∀ c : Dev Cert.GluGradIdeal.nD,
          r.2.mem ((c.tc : Thread Cert.GluGradIdeal.nD Cert.GluGradIdeal.τ).loc Cert.GluGradIdeal.main_v113) = v0 c
          ∧ r.2.mem ((c.tc : Thread Cert.GluGradIdeal.nD Cert.GluGradIdeal.τ).loc Cert.GluGradIdeal.main_v117) = v1 c
          ∧ r.2.mem ((c.tc : Thread Cert.GluGradIdeal.nD Cert.GluGradIdeal.τ).loc Cert.GluGradIdeal.main_v121) = v2 c
          ∧ r.2.mem ((c.tc : Thread Cert.GluGradIdeal.nD Cert.GluGradIdeal.τ).loc Cert.GluGradIdeal.main_v124) = v3 c
          ∧ r.2.mem ((c.tc : Thread Cert.GluGradIdeal.nD Cert.GluGradIdeal.τ).loc Cert.GluGradIdeal.main_v125) = v4 c
          ∧ r.2.mem ((c.tc : Thread Cert.GluGradIdeal.nD Cert.GluGradIdeal.τ).loc Cert.GluGradIdeal.main_v126) = v5 c
          ∧ r.2.mem ((c.tc : Thread Cert.GluGradIdeal.nD Cert.GluGradIdeal.τ).loc Cert.GluGradIdeal.main_v127) = v6 c
          ∧ r.2.mem ((c.tc : Thread Cert.GluGradIdeal.nD Cert.GluGradIdeal.τ).loc Cert.GluGradIdeal.main_arg0) = m' ((c.tc : Thread Cert.GluGradIdeal.nD Cert.GluGradIdeal.τ).loc Cert.GluGradIdeal.main_arg0)
          ∧ r.2.mem ((c.tc : Thread Cert.GluGradIdeal.nD Cert.GluGradIdeal.τ).loc Cert.GluGradIdeal.main_arg1) = m' ((c.tc : Thread Cert.GluGradIdeal.nD Cert.GluGradIdeal.τ).loc Cert.GluGradIdeal.main_arg1)
          ∧ r.2.mem ((c.tc : Thread Cert.GluGradIdeal.nD Cert.GluGradIdeal.τ).loc Cert.GluGradIdeal.main_arg2) = m' ((c.tc : Thread Cert.GluGradIdeal.nD Cert.GluGradIdeal.τ).loc Cert.GluGradIdeal.main_arg2)
          ∧ r.2.mem ((c.tc : Thread Cert.GluGradIdeal.nD Cert.GluGradIdeal.τ).loc Cert.GluGradIdeal.main_arg3) = m' ((c.tc : Thread Cert.GluGradIdeal.nD Cert.GluGradIdeal.τ).loc Cert.GluGradIdeal.main_arg3)
          ∧ r.2.mem ((c.tc : Thread Cert.GluGradIdeal.nD Cert.GluGradIdeal.τ).loc Cert.GluGradIdeal.main_arg4) = m' ((c.tc : Thread Cert.GluGradIdeal.nD Cert.GluGradIdeal.τ).loc Cert.GluGradIdeal.main_arg4)
          ∧ r.2.mem ((c.tc : Thread Cert.GluGradIdeal.nD Cert.GluGradIdeal.τ).loc Cert.GluGradIdeal.main_arg5) = m' ((c.tc : Thread Cert.GluGradIdeal.nD Cert.GluGradIdeal.τ).loc Cert.GluGradIdeal.main_arg5)
          ∧ r.2.mem ((c.tc : Thread Cert.GluGradIdeal.nD Cert.GluGradIdeal.τ).loc Cert.GluGradIdeal.main_arg6) = m' ((c.tc : Thread Cert.GluGradIdeal.nD Cert.GluGradIdeal.τ).loc Cert.GluGradIdeal.main_arg6))

def preserves_FfnBwd_FfnBwdIdeal : Prop :=
  True

def algebraic_FfnBwdIdeal_FfnGradIdeal_pre_finite_ffn [hFfnBwdIdeal : Cert.FfnBwdIdeal.Facts] [hFfnGradIdeal : Cert.FfnGradIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnGradIdeal.nD Cert.FfnGradIdeal.τ Cert.FfnGradIdeal.sig) → Buf (Elt Ideal) ℓ) (g' : Dev Cert.FfnGradIdeal.nD → PrngReg), Pre_FfnBwdIdeal_finite_ffn m →
    (∀ c : Dev Cert.FfnBwdIdeal.nD,
      m' ((c.tc : Thread Cert.FfnGradIdeal.nD Cert.FfnGradIdeal.τ).loc Cert.FfnGradIdeal.main_arg0) = m ((c.tc : Thread Cert.FfnBwdIdeal.nD Cert.FfnBwdIdeal.τ).loc Cert.FfnBwdIdeal.main_arg0)
      ∧ m' ((c.tc : Thread Cert.FfnGradIdeal.nD Cert.FfnGradIdeal.τ).loc Cert.FfnGradIdeal.main_arg1) = m ((c.tc : Thread Cert.FfnBwdIdeal.nD Cert.FfnBwdIdeal.τ).loc Cert.FfnBwdIdeal.main_arg1)
      ∧ m' ((c.tc : Thread Cert.FfnGradIdeal.nD Cert.FfnGradIdeal.τ).loc Cert.FfnGradIdeal.main_arg2) = m ((c.tc : Thread Cert.FfnBwdIdeal.nD Cert.FfnBwdIdeal.τ).loc Cert.FfnBwdIdeal.main_arg2)
      ∧ m' ((c.tc : Thread Cert.FfnGradIdeal.nD Cert.FfnGradIdeal.τ).loc Cert.FfnGradIdeal.main_arg3) = m ((c.tc : Thread Cert.FfnBwdIdeal.nD Cert.FfnBwdIdeal.τ).loc Cert.FfnBwdIdeal.main_arg3)
      ∧ m' ((c.tc : Thread Cert.FfnGradIdeal.nD Cert.FfnGradIdeal.τ).loc Cert.FfnGradIdeal.main_arg4) = m ((c.tc : Thread Cert.FfnBwdIdeal.nD Cert.FfnBwdIdeal.τ).loc Cert.FfnBwdIdeal.main_arg4)
      ∧ m' ((c.tc : Thread Cert.FfnGradIdeal.nD Cert.FfnGradIdeal.τ).loc Cert.FfnGradIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v18_0)) (v1 : (c : Dev Cert.FfnBwdIdeal.nD) → Buf (Elt Ideal) ((c.tc : Thread Cert.FfnBwdIdeal.nD Cert.FfnBwdIdeal.τ).loc Cert.FfnBwdIdeal.main_v18_1)) (v2 : (c : Dev Cert.FfnBwdIdeal.nD) → Buf (Elt Ideal) ((c.tc : Thread Cert.FfnBwdIdeal.nD Cert.FfnBwdIdeal.τ).loc Cert.FfnBwdIdeal.main_v18_2)) (v3 : (c : Dev Cert.FfnBwdIdeal.nD) → Buf (Elt Ideal) ((c.tc : Thread Cert.FfnBwdIdeal.nD Cert.FfnBwdIdeal.τ).loc Cert.FfnBwdIdeal.main_v18_3)) (v4 : (c : Dev Cert.FfnBwdIdeal.nD) → Buf (Elt Ideal) ((c.tc : Thread Cert.FfnBwdIdeal.nD Cert.FfnBwdIdeal.τ).loc Cert.FfnBwdIdeal.main_v18_4)) (v5 : (c : Dev Cert.FfnBwdIdeal.nD) → Buf (Elt Ideal) ((c.tc : Thread Cert.FfnBwdIdeal.nD Cert.FfnBwdIdeal.τ).loc Cert.FfnBwdIdeal.main_v18_5)) (v6 : (c : Dev Cert.FfnBwdIdeal.nD) → Buf (Elt Ideal) ((c.tc : Thread Cert.FfnBwdIdeal.nD Cert.FfnBwdIdeal.τ).loc Cert.FfnBwdIdeal.main_v18_6)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v18_0) = v0 c
          ∧ r.2.mem ((c.tc : Thread Cert.FfnBwdIdeal.nD Cert.FfnBwdIdeal.τ).loc Cert.FfnBwdIdeal.main_v18_1) = v1 c
          ∧ r.2.mem ((c.tc : Thread Cert.FfnBwdIdeal.nD Cert.FfnBwdIdeal.τ).loc Cert.FfnBwdIdeal.main_v18_2) = v2 c
          ∧ r.2.mem ((c.tc : Thread Cert.FfnBwdIdeal.nD Cert.FfnBwdIdeal.τ).loc Cert.FfnBwdIdeal.main_v18_3) = v3 c
          ∧ r.2.mem ((c.tc : Thread Cert.FfnBwdIdeal.nD Cert.FfnBwdIdeal.τ).loc Cert.FfnBwdIdeal.main_v18_4) = v4 c
          ∧ r.2.mem ((c.tc : Thread Cert.FfnBwdIdeal.nD Cert.FfnBwdIdeal.τ).loc Cert.FfnBwdIdeal.main_v18_5) = v5 c
          ∧ r.2.mem ((c.tc : Thread Cert.FfnBwdIdeal.nD Cert.FfnBwdIdeal.τ).loc Cert.FfnBwdIdeal.main_v18_6) = v6 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnGradIdeal.defs (F := Ideal)) (onTc (τ := Cert.FfnGradIdeal.τ) (Cert.FfnGradIdeal.main (F := Ideal))) ⟨m', fun _ => 0, g'⟩ (fun r => ∀ c : Dev Cert.FfnGradIdeal.nD,
          r.2.mem ((c.tc : Thread Cert.FfnGradIdeal.nD Cert.FfnGradIdeal.τ).loc Cert.FfnGradIdeal.main_v107) = v0 c
          ∧ r.2.mem ((c.tc : Thread Cert.FfnGradIdeal.nD Cert.FfnGradIdeal.τ).loc Cert.FfnGradIdeal.main_v109) = v1 c
          ∧ r.2.mem ((c.tc : Thread Cert.FfnGradIdeal.nD Cert.FfnGradIdeal.τ).loc Cert.FfnGradIdeal.main_v110) = v2 c
          ∧ r.2.mem ((c.tc : Thread Cert.FfnGradIdeal.nD Cert.FfnGradIdeal.τ).loc Cert.FfnGradIdeal.main_v111) = v3 c
          ∧ r.2.mem ((c.tc : Thread Cert.FfnGradIdeal.nD Cert.FfnGradIdeal.τ).loc Cert.FfnGradIdeal.main_v112) = v4 c
          ∧ r.2.mem ((c.tc : Thread Cert.FfnGradIdeal.nD Cert.FfnGradIdeal.τ).loc Cert.FfnGradIdeal.main_v113) = v5 c
          ∧ r.2.mem ((c.tc : Thread Cert.FfnGradIdeal.nD Cert.FfnGradIdeal.τ).loc Cert.FfnGradIdeal.main_v114) = v6 c
          ∧ r.2.mem ((c.tc : Thread Cert.FfnGradIdeal.nD Cert.FfnGradIdeal.τ).loc Cert.FfnGradIdeal.main_arg0) = m' ((c.tc : Thread Cert.FfnGradIdeal.nD Cert.FfnGradIdeal.τ).loc Cert.FfnGradIdeal.main_arg0)
          ∧ r.2.mem ((c.tc : Thread Cert.FfnGradIdeal.nD Cert.FfnGradIdeal.τ).loc Cert.FfnGradIdeal.main_arg1) = m' ((c.tc : Thread Cert.FfnGradIdeal.nD Cert.FfnGradIdeal.τ).loc Cert.FfnGradIdeal.main_arg1)
          ∧ r.2.mem ((c.tc : Thread Cert.FfnGradIdeal.nD Cert.FfnGradIdeal.τ).loc Cert.FfnGradIdeal.main_arg2) = m' ((c.tc : Thread Cert.FfnGradIdeal.nD Cert.FfnGradIdeal.τ).loc Cert.FfnGradIdeal.main_arg2)
          ∧ r.2.mem ((c.tc : Thread Cert.FfnGradIdeal.nD Cert.FfnGradIdeal.τ).loc Cert.FfnGradIdeal.main_arg3) = m' ((c.tc : Thread Cert.FfnGradIdeal.nD Cert.FfnGradIdeal.τ).loc Cert.FfnGradIdeal.main_arg3)
          ∧ r.2.mem ((c.tc : Thread Cert.FfnGradIdeal.nD Cert.FfnGradIdeal.τ).loc Cert.FfnGradIdeal.main_arg4) = m' ((c.tc : Thread Cert.FfnGradIdeal.nD Cert.FfnGradIdeal.τ).loc Cert.FfnGradIdeal.main_arg4)
          ∧ r.2.mem ((c.tc : Thread Cert.FfnGradIdeal.nD Cert.FfnGradIdeal.τ).loc Cert.FfnGradIdeal.main_arg5) = m' ((c.tc : Thread Cert.FfnGradIdeal.nD Cert.FfnGradIdeal.τ).loc Cert.FfnGradIdeal.main_arg5))

def preserves_ParamBwd_ParamBwdIdeal : Prop :=
  True

def algebraic_ParamBwdIdeal_ParamGradIdeal [hParamBwdIdeal : Cert.ParamBwdIdeal.Facts] [hParamGradIdeal : Cert.ParamGradIdeal.Facts] : Prop :=
  ∀ (m : (ℓ : Loc Cert.ParamBwdIdeal.nD Cert.ParamBwdIdeal.τ Cert.ParamBwdIdeal.sig) → Buf (Elt Ideal) ℓ) (g : Dev Cert.ParamBwdIdeal.nD → PrngReg)
    (m' : (ℓ : Loc Cert.ParamGradIdeal.nD Cert.ParamGradIdeal.τ Cert.ParamGradIdeal.sig) → Buf (Elt Ideal) ℓ) (g' : Dev Cert.ParamGradIdeal.nD → PrngReg), Pre_ParamBwdIdeal m →
    (∀ c : Dev Cert.ParamBwdIdeal.nD,
      m' ((c.tc : Thread Cert.ParamGradIdeal.nD Cert.ParamGradIdeal.τ).loc Cert.ParamGradIdeal.main_arg0) = m ((c.tc : Thread Cert.ParamBwdIdeal.nD Cert.ParamBwdIdeal.τ).loc Cert.ParamBwdIdeal.main_arg0)
      ∧ m' ((c.tc : Thread Cert.ParamGradIdeal.nD Cert.ParamGradIdeal.τ).loc Cert.ParamGradIdeal.main_arg1) = m ((c.tc : Thread Cert.ParamBwdIdeal.nD Cert.ParamBwdIdeal.τ).loc Cert.ParamBwdIdeal.main_arg1)
      ∧ m' ((c.tc : Thread Cert.ParamGradIdeal.nD Cert.ParamGradIdeal.τ).loc Cert.ParamGradIdeal.main_arg2) = m ((c.tc : Thread Cert.ParamBwdIdeal.nD Cert.ParamBwdIdeal.τ).loc Cert.ParamBwdIdeal.main_arg2)
      ∧ m' ((c.tc : Thread Cert.ParamGradIdeal.nD Cert.ParamGradIdeal.τ).loc Cert.ParamGradIdeal.main_arg3) = m ((c.tc : Thread Cert.ParamBwdIdeal.nD Cert.ParamBwdIdeal.τ).loc Cert.ParamBwdIdeal.main_arg3)
      ∧ m' ((c.tc : Thread Cert.ParamGradIdeal.nD Cert.ParamGradIdeal.τ).loc Cert.ParamGradIdeal.main_arg4) = m ((c.tc : Thread Cert.ParamBwdIdeal.nD Cert.ParamBwdIdeal.τ).loc Cert.ParamBwdIdeal.main_arg4)
      ∧ m' ((c.tc : Thread Cert.ParamGradIdeal.nD Cert.ParamGradIdeal.τ).loc Cert.ParamGradIdeal.main_arg5) = m ((c.tc : Thread Cert.ParamBwdIdeal.nD Cert.ParamBwdIdeal.τ).loc Cert.ParamBwdIdeal.main_arg5)
      ∧ m' ((c.tc : Thread Cert.ParamGradIdeal.nD Cert.ParamGradIdeal.τ).loc Cert.ParamGradIdeal.main_arg6) = m ((c.tc : Thread Cert.ParamBwdIdeal.nD Cert.ParamBwdIdeal.τ).loc Cert.ParamBwdIdeal.main_arg6)
      ∧ m' ((c.tc : Thread Cert.ParamGradIdeal.nD Cert.ParamGradIdeal.τ).loc Cert.ParamGradIdeal.main_arg7) = m ((c.tc : Thread Cert.ParamBwdIdeal.nD Cert.ParamBwdIdeal.τ).loc Cert.ParamBwdIdeal.main_arg7)
      ∧ m' ((c.tc : Thread Cert.ParamGradIdeal.nD Cert.ParamGradIdeal.τ).loc Cert.ParamGradIdeal.main_arg8) = m ((c.tc : Thread Cert.ParamBwdIdeal.nD Cert.ParamBwdIdeal.τ).loc Cert.ParamBwdIdeal.main_arg8)
      ∧ m' ((c.tc : Thread Cert.ParamGradIdeal.nD Cert.ParamGradIdeal.τ).loc Cert.ParamGradIdeal.main_arg9) = m ((c.tc : Thread Cert.ParamBwdIdeal.nD Cert.ParamBwdIdeal.τ).loc Cert.ParamBwdIdeal.main_arg9)
      ∧ m' ((c.tc : Thread Cert.ParamGradIdeal.nD Cert.ParamGradIdeal.τ).loc Cert.ParamGradIdeal.main_arg10) = m ((c.tc : Thread Cert.ParamBwdIdeal.nD Cert.ParamBwdIdeal.τ).loc Cert.ParamBwdIdeal.main_arg10)
      ∧ m' ((c.tc : Thread Cert.ParamGradIdeal.nD Cert.ParamGradIdeal.τ).loc Cert.ParamGradIdeal.main_arg11) = m ((c.tc : Thread Cert.ParamBwdIdeal.nD Cert.ParamBwdIdeal.τ).loc Cert.ParamBwdIdeal.main_arg11)) →
    ∃ (v0 : (c : Dev Cert.ParamBwdIdeal.nD) → Buf (Elt Ideal) ((c.tc : Thread Cert.ParamBwdIdeal.nD Cert.ParamBwdIdeal.τ).loc Cert.ParamBwdIdeal.main_v30)),
      θ_run (Cert.ParamBwdIdeal.defs (F := Ideal)) (onTc (τ := Cert.ParamBwdIdeal.τ) (Cert.ParamBwdIdeal.main (F := Ideal))) ⟨m, fun _ => 0, g⟩ (fun r => ∀ c : Dev Cert.ParamBwdIdeal.nD,
          r.2.mem ((c.tc : Thread Cert.ParamBwdIdeal.nD Cert.ParamBwdIdeal.τ).loc Cert.ParamBwdIdeal.main_v30) = v0 c
          ∧ r.2.mem ((c.tc : Thread Cert.ParamBwdIdeal.nD Cert.ParamBwdIdeal.τ).loc Cert.ParamBwdIdeal.main_arg0) = m ((c.tc : Thread Cert.ParamBwdIdeal.nD Cert.ParamBwdIdeal.τ).loc Cert.ParamBwdIdeal.main_arg0)
          ∧ r.2.mem ((c.tc : Thread Cert.ParamBwdIdeal.nD Cert.ParamBwdIdeal.τ).loc Cert.ParamBwdIdeal.main_arg1) = m ((c.tc : Thread Cert.ParamBwdIdeal.nD Cert.ParamBwdIdeal.τ).loc Cert.ParamBwdIdeal.main_arg1)
          ∧ r.2.mem ((c.tc : Thread Cert.ParamBwdIdeal.nD Cert.ParamBwdIdeal.τ).loc Cert.ParamBwdIdeal.main_arg2) = m ((c.tc : Thread Cert.ParamBwdIdeal.nD Cert.ParamBwdIdeal.τ).loc Cert.ParamBwdIdeal.main_arg2)
          ∧ r.2.mem ((c.tc : Thread Cert.ParamBwdIdeal.nD Cert.ParamBwdIdeal.τ).loc Cert.ParamBwdIdeal.main_arg3) = m ((c.tc : Thread Cert.ParamBwdIdeal.nD Cert.ParamBwdIdeal.τ).loc Cert.ParamBwdIdeal.main_arg3)
          ∧ r.2.mem ((c.tc : Thread Cert.ParamBwdIdeal.nD Cert.ParamBwdIdeal.τ).loc Cert.ParamBwdIdeal.main_arg4) = m ((c.tc : Thread Cert.ParamBwdIdeal.nD Cert.ParamBwdIdeal.τ).loc Cert.ParamBwdIdeal.main_arg4)
          ∧ r.2.mem ((c.tc : Thread Cert.ParamBwdIdeal.nD Cert.ParamBwdIdeal.τ).loc Cert.ParamBwdIdeal.main_arg5) = m ((c.tc : Thread Cert.ParamBwdIdeal.nD Cert.ParamBwdIdeal.τ).loc Cert.ParamBwdIdeal.main_arg5)
          ∧ r.2.mem ((c.tc : Thread Cert.ParamBwdIdeal.nD Cert.ParamBwdIdeal.τ).loc Cert.ParamBwdIdeal.main_arg6) = m ((c.tc : Thread Cert.ParamBwdIdeal.nD Cert.ParamBwdIdeal.τ).loc Cert.ParamBwdIdeal.main_arg6)
          ∧ r.2.mem ((c.tc : Thread Cert.ParamBwdIdeal.nD Cert.ParamBwdIdeal.τ).loc Cert.ParamBwdIdeal.main_arg7) = m ((c.tc : Thread Cert.ParamBwdIdeal.nD Cert.ParamBwdIdeal.τ).loc Cert.ParamBwdIdeal.main_arg7)
          ∧ r.2.mem ((c.tc : Thread Cert.ParamBwdIdeal.nD Cert.ParamBwdIdeal.τ).loc Cert.ParamBwdIdeal.main_arg8) = m ((c.tc : Thread Cert.ParamBwdIdeal.nD Cert.ParamBwdIdeal.τ).loc Cert.ParamBwdIdeal.main_arg8)
          ∧ r.2.mem ((c.tc : Thread Cert.ParamBwdIdeal.nD Cert.ParamBwdIdeal.τ).loc Cert.ParamBwdIdeal.main_arg9) = m ((c.tc : Thread Cert.ParamBwdIdeal.nD Cert.ParamBwdIdeal.τ).loc Cert.ParamBwdIdeal.main_arg9)
          ∧ r.2.mem ((c.tc : Thread Cert.ParamBwdIdeal.nD Cert.ParamBwdIdeal.τ).loc Cert.ParamBwdIdeal.main_arg10) = m ((c.tc : Thread Cert.ParamBwdIdeal.nD Cert.ParamBwdIdeal.τ).loc Cert.ParamBwdIdeal.main_arg10)
          ∧ r.2.mem ((c.tc : Thread Cert.ParamBwdIdeal.nD Cert.ParamBwdIdeal.τ).loc Cert.ParamBwdIdeal.main_arg11) = m ((c.tc : Thread Cert.ParamBwdIdeal.nD Cert.ParamBwdIdeal.τ).loc Cert.ParamBwdIdeal.main_arg11))
      ∧ θ_run (Cert.ParamGradIdeal.defs (F := Ideal)) (onTc (τ := Cert.ParamGradIdeal.τ) (Cert.ParamGradIdeal.main (F := Ideal))) ⟨m', fun _ => 0, g'⟩ (fun r => ∀ c : Dev Cert.ParamGradIdeal.nD,
          r.2.mem ((c.tc : Thread Cert.ParamGradIdeal.nD Cert.ParamGradIdeal.τ).loc Cert.ParamGradIdeal.main_v191) = v0 c
          ∧ r.2.mem ((c.tc : Thread Cert.ParamGradIdeal.nD Cert.ParamGradIdeal.τ).loc Cert.ParamGradIdeal.main_arg0) = m' ((c.tc : Thread Cert.ParamGradIdeal.nD Cert.ParamGradIdeal.τ).loc Cert.ParamGradIdeal.main_arg0)
          ∧ r.2.mem ((c.tc : Thread Cert.ParamGradIdeal.nD Cert.ParamGradIdeal.τ).loc Cert.ParamGradIdeal.main_arg1) = m' ((c.tc : Thread Cert.ParamGradIdeal.nD Cert.ParamGradIdeal.τ).loc Cert.ParamGradIdeal.main_arg1)
          ∧ r.2.mem ((c.tc : Thread Cert.ParamGradIdeal.nD Cert.ParamGradIdeal.τ).loc Cert.ParamGradIdeal.main_arg2) = m' ((c.tc : Thread Cert.ParamGradIdeal.nD Cert.ParamGradIdeal.τ).loc Cert.ParamGradIdeal.main_arg2)
          ∧ r.2.mem ((c.tc : Thread Cert.ParamGradIdeal.nD Cert.ParamGradIdeal.τ).loc Cert.ParamGradIdeal.main_arg3) = m' ((c.tc : Thread Cert.ParamGradIdeal.nD Cert.ParamGradIdeal.τ).loc Cert.ParamGradIdeal.main_arg3)
          ∧ r.2.mem ((c.tc : Thread Cert.ParamGradIdeal.nD Cert.ParamGradIdeal.τ).loc Cert.ParamGradIdeal.main_arg4) = m' ((c.tc : Thread Cert.ParamGradIdeal.nD Cert.ParamGradIdeal.τ).loc Cert.ParamGradIdeal.main_arg4)
          ∧ r.2.mem ((c.tc : Thread Cert.ParamGradIdeal.nD Cert.ParamGradIdeal.τ).loc Cert.ParamGradIdeal.main_arg5) = m' ((c.tc : Thread Cert.ParamGradIdeal.nD Cert.ParamGradIdeal.τ).loc Cert.ParamGradIdeal.main_arg5)
          ∧ r.2.mem ((c.tc : Thread Cert.ParamGradIdeal.nD Cert.ParamGradIdeal.τ).loc Cert.ParamGradIdeal.main_arg6) = m' ((c.tc : Thread Cert.ParamGradIdeal.nD Cert.ParamGradIdeal.τ).loc Cert.ParamGradIdeal.main_arg6)
          ∧ r.2.mem ((c.tc : Thread Cert.ParamGradIdeal.nD Cert.ParamGradIdeal.τ).loc Cert.ParamGradIdeal.main_arg7) = m' ((c.tc : Thread Cert.ParamGradIdeal.nD Cert.ParamGradIdeal.τ).loc Cert.ParamGradIdeal.main_arg7)
          ∧ r.2.mem ((c.tc : Thread Cert.ParamGradIdeal.nD Cert.ParamGradIdeal.τ).loc Cert.ParamGradIdeal.main_arg8) = m' ((c.tc : Thread Cert.ParamGradIdeal.nD Cert.ParamGradIdeal.τ).loc Cert.ParamGradIdeal.main_arg8)
          ∧ r.2.mem ((c.tc : Thread Cert.ParamGradIdeal.nD Cert.ParamGradIdeal.τ).loc Cert.ParamGradIdeal.main_arg9) = m' ((c.tc : Thread Cert.ParamGradIdeal.nD Cert.ParamGradIdeal.τ).loc Cert.ParamGradIdeal.main_arg9)
          ∧ r.2.mem ((c.tc : Thread Cert.ParamGradIdeal.nD Cert.ParamGradIdeal.τ).loc Cert.ParamGradIdeal.main_arg10) = m' ((c.tc : Thread Cert.ParamGradIdeal.nD Cert.ParamGradIdeal.τ).loc Cert.ParamGradIdeal.main_arg10)
          ∧ r.2.mem ((c.tc : Thread Cert.ParamGradIdeal.nD Cert.ParamGradIdeal.τ).loc Cert.ParamGradIdeal.main_arg11) = m' ((c.tc : Thread Cert.ParamGradIdeal.nD Cert.ParamGradIdeal.τ).loc Cert.ParamGradIdeal.main_arg11))

def preserves_AttnFwd_AttnFwdIdeal : Prop :=
  IdealRules.named_const.Statement Cert.AttnFwdIdeal.κ "mask" .f32 0xF149F2CA#32 ⊥

def algebraic_AttnFwdIdeal_AttnOutIdeal [hAttnFwdIdeal : Cert.AttnFwdIdeal.Facts] [hAttnOutIdeal : Cert.AttnOutIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnOutIdeal.nD Cert.AttnOutIdeal.τ Cert.AttnOutIdeal.sig) → Buf (Elt Ideal) ℓ) (g' : Dev Cert.AttnOutIdeal.nD → PrngReg), Pre_AttnFwdIdeal m →
    (∀ c : Dev Cert.AttnFwdIdeal.nD,
      m' ((c.tc : Thread Cert.AttnOutIdeal.nD Cert.AttnOutIdeal.τ).loc Cert.AttnOutIdeal.main_arg0) = m ((c.tc : Thread Cert.AttnFwdIdeal.nD Cert.AttnFwdIdeal.τ).loc Cert.AttnFwdIdeal.main_arg0)
      ∧ m' ((c.tc : Thread Cert.AttnOutIdeal.nD Cert.AttnOutIdeal.τ).loc Cert.AttnOutIdeal.main_arg1) = m ((c.tc : Thread Cert.AttnFwdIdeal.nD Cert.AttnFwdIdeal.τ).loc Cert.AttnFwdIdeal.main_arg1)
      ∧ m' ((c.tc : Thread Cert.AttnOutIdeal.nD Cert.AttnOutIdeal.τ).loc Cert.AttnOutIdeal.main_arg2) = m ((c.tc : Thread Cert.AttnFwdIdeal.nD Cert.AttnFwdIdeal.τ).loc Cert.AttnFwdIdeal.main_arg2)
      ∧ m' ((c.tc : Thread Cert.AttnOutIdeal.nD Cert.AttnOutIdeal.τ).loc Cert.AttnOutIdeal.main_arg3) = m ((c.tc : Thread Cert.AttnFwdIdeal.nD Cert.AttnFwdIdeal.τ).loc Cert.AttnFwdIdeal.main_arg3)
      ∧ m' ((c.tc : Thread Cert.AttnOutIdeal.nD Cert.AttnOutIdeal.τ).loc Cert.AttnOutIdeal.main_arg4) = m ((c.tc : Thread Cert.AttnFwdIdeal.nD Cert.AttnFwdIdeal.τ).loc Cert.AttnFwdIdeal.main_arg4)) →
    ∃ (v0 : (c : Dev Cert.AttnFwdIdeal.nD) → Buf (Elt Ideal) ((c.tc : Thread Cert.AttnFwdIdeal.nD Cert.AttnFwdIdeal.τ).loc Cert.AttnFwdIdeal.main_v4_0)) (v1 : (c : Dev Cert.AttnFwdIdeal.nD) → Buf (Elt Ideal) ((c.tc : Thread Cert.AttnFwdIdeal.nD Cert.AttnFwdIdeal.τ).loc Cert.AttnFwdIdeal.main_v4_1)) (v2 : (c : Dev Cert.AttnFwdIdeal.nD) → Buf (Elt Ideal) ((c.tc : Thread Cert.AttnFwdIdeal.nD Cert.AttnFwdIdeal.τ).loc Cert.AttnFwdIdeal.main_v4_2)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v4_0) = v0 c
          ∧ r.2.mem ((c.tc : Thread Cert.AttnFwdIdeal.nD Cert.AttnFwdIdeal.τ).loc Cert.AttnFwdIdeal.main_v4_1) = v1 c
          ∧ r.2.mem ((c.tc : Thread Cert.AttnFwdIdeal.nD Cert.AttnFwdIdeal.τ).loc Cert.AttnFwdIdeal.main_v4_2) = v2 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
          ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ θ_run (Cert.AttnOutIdeal.defs (F := Ideal)) (onTc (τ := Cert.AttnOutIdeal.τ) (Cert.AttnOutIdeal.main (F := Ideal))) ⟨m', fun _ => 0, g'⟩ (fun r => ∀ c : Dev Cert.AttnOutIdeal.nD,
          r.2.mem ((c.tc : Thread Cert.AttnOutIdeal.nD Cert.AttnOutIdeal.τ).loc Cert.AttnOutIdeal.main_v68) = v0 c
          ∧ r.2.mem ((c.tc : Thread Cert.AttnOutIdeal.nD Cert.AttnOutIdeal.τ).loc Cert.AttnOutIdeal.main_v83) = v1 c
          ∧ r.2.mem ((c.tc : Thread Cert.AttnOutIdeal.nD Cert.AttnOutIdeal.τ).loc Cert.AttnOutIdeal.main_v148) = v2 c
          ∧ r.2.mem ((c.tc : Thread Cert.AttnOutIdeal.nD Cert.AttnOutIdeal.τ).loc Cert.AttnOutIdeal.main_arg0) = m' ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m' ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m' ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m' ((c.tc : Thread Cert.AttnOutIdeal.nD Cert.AttnOutIdeal.τ).loc Cert.AttnOutIdeal.main_arg3)
          ∧ r.2.mem ((c.tc : Thread Cert.AttnOutIdeal.nD Cert.AttnOutIdeal.τ).loc Cert.AttnOutIdeal.main_arg4) = m' ((c.tc : Thread Cert.AttnOutIdeal.nD Cert.AttnOutIdeal.τ).loc Cert.AttnOutIdeal.main_arg4))

def preserves_CoreBwd_CoreBwdIdeal : Prop :=
  True

def preserves_MixFwd_MixFwdIdeal : Prop :=
  True

def algebraic_MixFwdIdeal_MixOutIdeal [hMixFwdIdeal : Cert.MixFwdIdeal.Facts] [hMixOutIdeal : Cert.MixOutIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixOutIdeal.nD Cert.MixOutIdeal.τ Cert.MixOutIdeal.sig) → Buf (Elt Ideal) ℓ) (g' : Dev Cert.MixOutIdeal.nD → PrngReg), Pre_MixFwdIdeal m →
    (∀ c : Dev Cert.MixFwdIdeal.nD,
      m' ((c.tc : Thread Cert.MixOutIdeal.nD Cert.MixOutIdeal.τ).loc Cert.MixOutIdeal.main_arg0) = m ((c.tc : Thread Cert.MixFwdIdeal.nD Cert.MixFwdIdeal.τ).loc Cert.MixFwdIdeal.main_arg0)
      ∧ m' ((c.tc : Thread Cert.MixOutIdeal.nD Cert.MixOutIdeal.τ).loc Cert.MixOutIdeal.main_arg1) = m ((c.tc : Thread Cert.MixFwdIdeal.nD Cert.MixFwdIdeal.τ).loc Cert.MixFwdIdeal.main_arg1)
      ∧ m' ((c.tc : Thread Cert.MixOutIdeal.nD Cert.MixOutIdeal.τ).loc Cert.MixOutIdeal.main_arg2) = m ((c.tc : Thread Cert.MixFwdIdeal.nD Cert.MixFwdIdeal.τ).loc Cert.MixFwdIdeal.main_arg2)
      ∧ m' ((c.tc : Thread Cert.MixOutIdeal.nD Cert.MixOutIdeal.τ).loc Cert.MixOutIdeal.main_arg3) = m ((c.tc : Thread Cert.MixFwdIdeal.nD Cert.MixFwdIdeal.τ).loc Cert.MixFwdIdeal.main_arg3)
      ∧ m' ((c.tc : Thread Cert.MixOutIdeal.nD Cert.MixOutIdeal.τ).loc Cert.MixOutIdeal.main_arg4) = m ((c.tc : Thread Cert.MixFwdIdeal.nD Cert.MixFwdIdeal.τ).loc Cert.MixFwdIdeal.main_arg4)
      ∧ m' ((c.tc : Thread Cert.MixOutIdeal.nD Cert.MixOutIdeal.τ).loc Cert.MixOutIdeal.main_arg5) = m ((c.tc : Thread Cert.MixFwdIdeal.nD Cert.MixFwdIdeal.τ).loc Cert.MixFwdIdeal.main_arg5)) →
    ∃ (v0 : (c : Dev Cert.MixFwdIdeal.nD) → Buf (Elt Ideal) ((c.tc : Thread Cert.MixFwdIdeal.nD Cert.MixFwdIdeal.τ).loc Cert.MixFwdIdeal.main_v7_0)) (v1 : (c : Dev Cert.MixFwdIdeal.nD) → Buf (Elt Ideal) ((c.tc : Thread Cert.MixFwdIdeal.nD Cert.MixFwdIdeal.τ).loc Cert.MixFwdIdeal.main_v7_1)) (v2 : (c : Dev Cert.MixFwdIdeal.nD) → Buf (Elt Ideal) ((c.tc : Thread Cert.MixFwdIdeal.nD Cert.MixFwdIdeal.τ).loc Cert.MixFwdIdeal.main_v7_2)) (v3 : (c : Dev Cert.MixFwdIdeal.nD) → Buf (Elt Ideal) ((c.tc : Thread Cert.MixFwdIdeal.nD Cert.MixFwdIdeal.τ).loc Cert.MixFwdIdeal.main_v7_3)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v7_0) = v0 c
          ∧ r.2.mem ((c.tc : Thread Cert.MixFwdIdeal.nD Cert.MixFwdIdeal.τ).loc Cert.MixFwdIdeal.main_v7_1) = v1 c
          ∧ r.2.mem ((c.tc : Thread Cert.MixFwdIdeal.nD Cert.MixFwdIdeal.τ).loc Cert.MixFwdIdeal.main_v7_2) = v2 c
          ∧ r.2.mem ((c.tc : Thread Cert.MixFwdIdeal.nD Cert.MixFwdIdeal.τ).loc Cert.MixFwdIdeal.main_v7_3) = v3 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5))
      ∧ θ_run (Cert.MixOutIdeal.defs (F := Ideal)) (onTc (τ := Cert.MixOutIdeal.τ) (Cert.MixOutIdeal.main (F := Ideal))) ⟨m', fun _ => 0, g'⟩ (fun r => ∀ c : Dev Cert.MixOutIdeal.nD,
          r.2.mem ((c.tc : Thread Cert.MixOutIdeal.nD Cert.MixOutIdeal.τ).loc Cert.MixOutIdeal.main_v18) = v0 c
          ∧ r.2.mem ((c.tc : Thread Cert.MixOutIdeal.nD Cert.MixOutIdeal.τ).loc Cert.MixOutIdeal.main_v2) = v1 c
          ∧ r.2.mem ((c.tc : Thread Cert.MixOutIdeal.nD Cert.MixOutIdeal.τ).loc Cert.MixOutIdeal.main_v17) = v2 c
          ∧ r.2.mem ((c.tc : Thread Cert.MixOutIdeal.nD Cert.MixOutIdeal.τ).loc Cert.MixOutIdeal.main_v33) = v3 c
          ∧ r.2.mem ((c.tc : Thread Cert.MixOutIdeal.nD Cert.MixOutIdeal.τ).loc Cert.MixOutIdeal.main_arg0) = m' ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m' ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m' ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m' ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m' ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m' ((c.tc : Thread Cert.MixOutIdeal.nD Cert.MixOutIdeal.τ).loc Cert.MixOutIdeal.main_arg5))

def preserves_InFwd_InFwdIdeal : Prop :=
  True

def algebraic_InFwdIdeal_InOutIdeal [hInFwdIdeal : Cert.InFwdIdeal.Facts] [hInOutIdeal : Cert.InOutIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InOutIdeal.nD Cert.InOutIdeal.τ Cert.InOutIdeal.sig) → Buf (Elt Ideal) ℓ) (g' : Dev Cert.InOutIdeal.nD → PrngReg), Pre_InFwdIdeal m →
    (∀ c : Dev Cert.InFwdIdeal.nD,
      m' ((c.tc : Thread Cert.InOutIdeal.nD Cert.InOutIdeal.τ).loc Cert.InOutIdeal.main_arg0) = m ((c.tc : Thread Cert.InFwdIdeal.nD Cert.InFwdIdeal.τ).loc Cert.InFwdIdeal.main_arg0)
      ∧ m' ((c.tc : Thread Cert.InOutIdeal.nD Cert.InOutIdeal.τ).loc Cert.InOutIdeal.main_arg1) = m ((c.tc : Thread Cert.InFwdIdeal.nD Cert.InFwdIdeal.τ).loc Cert.InFwdIdeal.main_arg1)
      ∧ m' ((c.tc : Thread Cert.InOutIdeal.nD Cert.InOutIdeal.τ).loc Cert.InOutIdeal.main_arg2) = m ((c.tc : Thread Cert.InFwdIdeal.nD Cert.InFwdIdeal.τ).loc Cert.InFwdIdeal.main_arg2)
      ∧ m' ((c.tc : Thread Cert.InOutIdeal.nD Cert.InOutIdeal.τ).loc Cert.InOutIdeal.main_arg3) = m ((c.tc : Thread Cert.InFwdIdeal.nD Cert.InFwdIdeal.τ).loc Cert.InFwdIdeal.main_arg3)) →
    ∃ (v0 : (c : Dev Cert.InFwdIdeal.nD) → Buf (Elt Ideal) ((c.tc : Thread Cert.InFwdIdeal.nD Cert.InFwdIdeal.τ).loc Cert.InFwdIdeal.main_v31_0)) (v1 : (c : Dev Cert.InFwdIdeal.nD) → Buf (Elt Ideal) ((c.tc : Thread Cert.InFwdIdeal.nD Cert.InFwdIdeal.τ).loc Cert.InFwdIdeal.main_v31_1)) (v2 : (c : Dev Cert.InFwdIdeal.nD) → Buf (Elt Ideal) ((c.tc : Thread Cert.InFwdIdeal.nD Cert.InFwdIdeal.τ).loc Cert.InFwdIdeal.main_v31_2)) (v3 : (c : Dev Cert.InFwdIdeal.nD) → Buf (Elt Ideal) ((c.tc : Thread Cert.InFwdIdeal.nD Cert.InFwdIdeal.τ).loc Cert.InFwdIdeal.main_v31_3)) (v4 : (c : Dev Cert.InFwdIdeal.nD) → Buf (Elt Ideal) ((c.tc : Thread Cert.InFwdIdeal.nD Cert.InFwdIdeal.τ).loc Cert.InFwdIdeal.main_v31_4)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v31_0) = v0 c
          ∧ r.2.mem ((c.tc : Thread Cert.InFwdIdeal.nD Cert.InFwdIdeal.τ).loc Cert.InFwdIdeal.main_v31_1) = v1 c
          ∧ r.2.mem ((c.tc : Thread Cert.InFwdIdeal.nD Cert.InFwdIdeal.τ).loc Cert.InFwdIdeal.main_v31_2) = v2 c
          ∧ r.2.mem ((c.tc : Thread Cert.InFwdIdeal.nD Cert.InFwdIdeal.τ).loc Cert.InFwdIdeal.main_v31_3) = v3 c
          ∧ r.2.mem ((c.tc : Thread Cert.InFwdIdeal.nD Cert.InFwdIdeal.τ).loc Cert.InFwdIdeal.main_v31_4) = v4 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
          ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3))
      ∧ θ_run (Cert.InOutIdeal.defs (F := Ideal)) (onTc (τ := Cert.InOutIdeal.τ) (Cert.InOutIdeal.main (F := Ideal))) ⟨m', fun _ => 0, g'⟩ (fun r => ∀ c : Dev Cert.InOutIdeal.nD,
          r.2.mem ((c.tc : Thread Cert.InOutIdeal.nD Cert.InOutIdeal.τ).loc Cert.InOutIdeal.main_v90) = v0 c
          ∧ r.2.mem ((c.tc : Thread Cert.InOutIdeal.nD Cert.InOutIdeal.τ).loc Cert.InOutIdeal.main_v89) = v1 c
          ∧ r.2.mem ((c.tc : Thread Cert.InOutIdeal.nD Cert.InOutIdeal.τ).loc Cert.InOutIdeal.main_v91) = v2 c
          ∧ r.2.mem ((c.tc : Thread Cert.InOutIdeal.nD Cert.InOutIdeal.τ).loc Cert.InOutIdeal.main_v92) = v3 c
          ∧ r.2.mem ((c.tc : Thread Cert.InOutIdeal.nD Cert.InOutIdeal.τ).loc Cert.InOutIdeal.main_v94) = v4 c
          ∧ r.2.mem ((c.tc : Thread Cert.InOutIdeal.nD Cert.InOutIdeal.τ).loc Cert.InOutIdeal.main_arg0) = m' ((c.tc : Thread Cert.InOutIdeal.nD Cert.InOutIdeal.τ).loc Cert.InOutIdeal.main_arg0)
          ∧ r.2.mem ((c.tc : Thread Cert.InOutIdeal.nD Cert.InOutIdeal.τ).loc Cert.InOutIdeal.main_arg1) = m' ((c.tc : Thread Cert.InOutIdeal.nD Cert.InOutIdeal.τ).loc Cert.InOutIdeal.main_arg1)
          ∧ r.2.mem ((c.tc : Thread Cert.InOutIdeal.nD Cert.InOutIdeal.τ).loc Cert.InOutIdeal.main_arg2) = m' ((c.tc : Thread Cert.InOutIdeal.nD Cert.InOutIdeal.τ).loc Cert.InOutIdeal.main_arg2)
          ∧ r.2.mem ((c.tc : Thread Cert.InOutIdeal.nD Cert.InOutIdeal.τ).loc Cert.InOutIdeal.main_arg3) = m' ((c.tc : Thread Cert.InOutIdeal.nD Cert.InOutIdeal.τ).loc Cert.InOutIdeal.main_arg3))

def preserves_GluFwd_GluFwdIdeal : Prop :=
  True

def algebraic_GluFwdIdeal_GluOutIdeal [hGluFwdIdeal : Cert.GluFwdIdeal.Facts] [hGluOutIdeal : Cert.GluOutIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluOutIdeal.nD Cert.GluOutIdeal.τ Cert.GluOutIdeal.sig) → Buf (Elt Ideal) ℓ) (g' : Dev Cert.GluOutIdeal.nD → PrngReg), Pre_GluFwdIdeal m →
    (∀ c : Dev Cert.GluFwdIdeal.nD,
      m' ((c.tc : Thread Cert.GluOutIdeal.nD Cert.GluOutIdeal.τ).loc Cert.GluOutIdeal.main_arg0) = m ((c.tc : Thread Cert.GluFwdIdeal.nD Cert.GluFwdIdeal.τ).loc Cert.GluFwdIdeal.main_arg0)
      ∧ m' ((c.tc : Thread Cert.GluOutIdeal.nD Cert.GluOutIdeal.τ).loc Cert.GluOutIdeal.main_arg1) = m ((c.tc : Thread Cert.GluFwdIdeal.nD Cert.GluFwdIdeal.τ).loc Cert.GluFwdIdeal.main_arg1)
      ∧ m' ((c.tc : Thread Cert.GluOutIdeal.nD Cert.GluOutIdeal.τ).loc Cert.GluOutIdeal.main_arg2) = m ((c.tc : Thread Cert.GluFwdIdeal.nD Cert.GluFwdIdeal.τ).loc Cert.GluFwdIdeal.main_arg2)
      ∧ m' ((c.tc : Thread Cert.GluOutIdeal.nD Cert.GluOutIdeal.τ).loc Cert.GluOutIdeal.main_arg3) = m ((c.tc : Thread Cert.GluFwdIdeal.nD Cert.GluFwdIdeal.τ).loc Cert.GluFwdIdeal.main_arg3)
      ∧ m' ((c.tc : Thread Cert.GluOutIdeal.nD Cert.GluOutIdeal.τ).loc Cert.GluOutIdeal.main_arg4) = m ((c.tc : Thread Cert.GluFwdIdeal.nD Cert.GluFwdIdeal.τ).loc Cert.GluFwdIdeal.main_arg4)
      ∧ m' ((c.tc : Thread Cert.GluOutIdeal.nD Cert.GluOutIdeal.τ).loc Cert.GluOutIdeal.main_arg5) = m ((c.tc : Thread Cert.GluFwdIdeal.nD Cert.GluFwdIdeal.τ).loc Cert.GluFwdIdeal.main_arg5)) →
    ∃ (v0 : (c : Dev Cert.GluFwdIdeal.nD) → Buf (Elt Ideal) ((c.tc : Thread Cert.GluFwdIdeal.nD Cert.GluFwdIdeal.τ).loc Cert.GluFwdIdeal.main_v10_0)) (v1 : (c : Dev Cert.GluFwdIdeal.nD) → Buf (Elt Ideal) ((c.tc : Thread Cert.GluFwdIdeal.nD Cert.GluFwdIdeal.τ).loc Cert.GluFwdIdeal.main_v10_1)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v10_0) = v0 c
          ∧ r.2.mem ((c.tc : Thread Cert.GluFwdIdeal.nD Cert.GluFwdIdeal.τ).loc Cert.GluFwdIdeal.main_v10_1) = v1 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
          ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3)
          ∧ r.2.mem ((c.tc : Thread Cert.GluFwdIdeal.nD Cert.GluFwdIdeal.τ).loc Cert.GluFwdIdeal.main_arg4) = m ((c.tc : Thread Cert.GluFwdIdeal.nD Cert.GluFwdIdeal.τ).loc Cert.GluFwdIdeal.main_arg4)
          ∧ r.2.mem ((c.tc : Thread Cert.GluFwdIdeal.nD Cert.GluFwdIdeal.τ).loc Cert.GluFwdIdeal.main_arg5) = m ((c.tc : Thread Cert.GluFwdIdeal.nD Cert.GluFwdIdeal.τ).loc Cert.GluFwdIdeal.main_arg5))
      ∧ θ_run (Cert.GluOutIdeal.defs (F := Ideal)) (onTc (τ := Cert.GluOutIdeal.τ) (Cert.GluOutIdeal.main (F := Ideal))) ⟨m', fun _ => 0, g'⟩ (fun r => ∀ c : Dev Cert.GluOutIdeal.nD,
          r.2.mem ((c.tc : Thread Cert.GluOutIdeal.nD Cert.GluOutIdeal.τ).loc Cert.GluOutIdeal.main_v27) = v0 c
          ∧ r.2.mem ((c.tc : Thread Cert.GluOutIdeal.nD Cert.GluOutIdeal.τ).loc Cert.GluOutIdeal.main_v30) = v1 c
          ∧ r.2.mem ((c.tc : Thread Cert.GluOutIdeal.nD Cert.GluOutIdeal.τ).loc Cert.GluOutIdeal.main_arg0) = m' ((c.tc : Thread Cert.GluOutIdeal.nD Cert.GluOutIdeal.τ).loc Cert.GluOutIdeal.main_arg0)
          ∧ r.2.mem ((c.tc : Thread Cert.GluOutIdeal.nD Cert.GluOutIdeal.τ).loc Cert.GluOutIdeal.main_arg1) = m' ((c.tc : Thread Cert.GluOutIdeal.nD Cert.GluOutIdeal.τ).loc Cert.GluOutIdeal.main_arg1)
          ∧ r.2.mem ((c.tc : Thread Cert.GluOutIdeal.nD Cert.GluOutIdeal.τ).loc Cert.GluOutIdeal.main_arg2) = m' ((c.tc : Thread Cert.GluOutIdeal.nD Cert.GluOutIdeal.τ).loc Cert.GluOutIdeal.main_arg2)
          ∧ r.2.mem ((c.tc : Thread Cert.GluOutIdeal.nD Cert.GluOutIdeal.τ).loc Cert.GluOutIdeal.main_arg3) = m' ((c.tc : Thread Cert.GluOutIdeal.nD Cert.GluOutIdeal.τ).loc Cert.GluOutIdeal.main_arg3)
          ∧ r.2.mem ((c.tc : Thread Cert.GluOutIdeal.nD Cert.GluOutIdeal.τ).loc Cert.GluOutIdeal.main_arg4) = m' ((c.tc : Thread Cert.GluOutIdeal.nD Cert.GluOutIdeal.τ).loc Cert.GluOutIdeal.main_arg4)
          ∧ r.2.mem ((c.tc : Thread Cert.GluOutIdeal.nD Cert.GluOutIdeal.τ).loc Cert.GluOutIdeal.main_arg5) = m' ((c.tc : Thread Cert.GluOutIdeal.nD Cert.GluOutIdeal.τ).loc Cert.GluOutIdeal.main_arg5))

def Claim : Prop :=
  ∃ (hOutBwd : Cert.OutBwd.Facts) (hOutBwdIdeal : Cert.OutBwdIdeal.Facts) (hOutGradIdeal : Cert.OutGradIdeal.Facts) (hAttnBwd : Cert.AttnBwd.Facts) (hAttnBwdIdeal : Cert.AttnBwdIdeal.Facts) (hAttnGradIdeal : Cert.AttnGradIdeal.Facts) (hInBwd : Cert.InBwd.Facts) (hInBwdIdeal : Cert.InBwdIdeal.Facts) (hInGradIdeal : Cert.InGradIdeal.Facts) (hGluBwd : Cert.GluBwd.Facts) (hGluBwdIdeal : Cert.GluBwdIdeal.Facts) (hGluGradIdeal : Cert.GluGradIdeal.Facts) (hFfnBwd : Cert.FfnBwd.Facts) (hFfnBwdIdeal : Cert.FfnBwdIdeal.Facts) (hFfnGradIdeal : Cert.FfnGradIdeal.Facts) (hParamBwd : Cert.ParamBwd.Facts) (hParamBwdIdeal : Cert.ParamBwdIdeal.Facts) (hParamGradIdeal : Cert.ParamGradIdeal.Facts) (hAttnFwd : Cert.AttnFwd.Facts) (hAttnFwdIdeal : Cert.AttnFwdIdeal.Facts) (hAttnOutIdeal : Cert.AttnOutIdeal.Facts) (hCoreBwd : Cert.CoreBwd.Facts) (hCoreBwdIdeal : Cert.CoreBwdIdeal.Facts) (hMixFwd : Cert.MixFwd.Facts) (hMixFwdIdeal : Cert.MixFwdIdeal.Facts) (hMixOutIdeal : Cert.MixOutIdeal.Facts) (hInFwd : Cert.InFwd.Facts) (hInFwdIdeal : Cert.InFwdIdeal.Facts) (hInOutIdeal : Cert.InOutIdeal.Facts) (hGluFwd : Cert.GluFwd.Facts) (hGluFwdIdeal : Cert.GluFwdIdeal.Facts) (hGluOutIdeal : Cert.GluOutIdeal.Facts) (hPre_finite_out : Cert.Pre_finite_out.Facts) (hPre_finite_attn : Cert.Pre_finite_attn.Facts) (hPre_finite_in : Cert.Pre_finite_in.Facts) (hPre_finite_glu : Cert.Pre_finite_glu.Facts) (hPre_finite_ffn : Cert.Pre_finite_ffn.Facts),
    quiescent_OutBwd (hOutBwd := hOutBwd)
    ∧ quiescent_OutBwdIdeal (hOutBwdIdeal := hOutBwdIdeal)
    ∧ quiescent_OutBwdIdeal_pre_finite_out (hOutBwdIdeal := hOutBwdIdeal) (hPre_finite_out := hPre_finite_out)
    ∧ quiescent_OutGradIdeal (hOutGradIdeal := hOutGradIdeal)
    ∧ quiescent_OutGradIdeal_pre_finite_out (hOutGradIdeal := hOutGradIdeal) (hPre_finite_out := hPre_finite_out)
    ∧ quiescent_AttnBwd (hAttnBwd := hAttnBwd)
    ∧ quiescent_AttnBwdIdeal (hAttnBwdIdeal := hAttnBwdIdeal)
    ∧ quiescent_AttnBwdIdeal_pre_finite_attn (hAttnBwdIdeal := hAttnBwdIdeal) (hPre_finite_attn := hPre_finite_attn)
    ∧ quiescent_AttnGradIdeal (hAttnGradIdeal := hAttnGradIdeal)
    ∧ quiescent_AttnGradIdeal_pre_finite_attn (hAttnGradIdeal := hAttnGradIdeal) (hPre_finite_attn := hPre_finite_attn)
    ∧ quiescent_InBwd (hInBwd := hInBwd)
    ∧ quiescent_InBwdIdeal (hInBwdIdeal := hInBwdIdeal)
    ∧ quiescent_InBwdIdeal_pre_finite_in (hInBwdIdeal := hInBwdIdeal) (hPre_finite_in := hPre_finite_in)
    ∧ quiescent_InGradIdeal (hInGradIdeal := hInGradIdeal)
    ∧ quiescent_InGradIdeal_pre_finite_in (hInGradIdeal := hInGradIdeal) (hPre_finite_in := hPre_finite_in)
    ∧ quiescent_GluBwd (hGluBwd := hGluBwd)
    ∧ quiescent_GluBwdIdeal (hGluBwdIdeal := hGluBwdIdeal)
    ∧ quiescent_GluBwdIdeal_pre_finite_glu (hGluBwdIdeal := hGluBwdIdeal) (hPre_finite_glu := hPre_finite_glu)
    ∧ quiescent_GluGradIdeal (hGluGradIdeal := hGluGradIdeal)
    ∧ quiescent_GluGradIdeal_pre_finite_glu (hGluGradIdeal := hGluGradIdeal) (hPre_finite_glu := hPre_finite_glu)
    ∧ quiescent_FfnBwd (hFfnBwd := hFfnBwd)
    ∧ quiescent_FfnBwdIdeal (hFfnBwdIdeal := hFfnBwdIdeal)
    ∧ quiescent_FfnBwdIdeal_pre_finite_ffn (hFfnBwdIdeal := hFfnBwdIdeal) (hPre_finite_ffn := hPre_finite_ffn)
    ∧ quiescent_FfnGradIdeal (hFfnGradIdeal := hFfnGradIdeal)
    ∧ quiescent_FfnGradIdeal_pre_finite_ffn (hFfnGradIdeal := hFfnGradIdeal) (hPre_finite_ffn := hPre_finite_ffn)
    ∧ quiescent_ParamBwd (hParamBwd := hParamBwd)
    ∧ quiescent_ParamBwdIdeal (hParamBwdIdeal := hParamBwdIdeal)
    ∧ quiescent_ParamGradIdeal (hParamGradIdeal := hParamGradIdeal)
    ∧ quiescent_AttnFwd (hAttnFwd := hAttnFwd)
    ∧ quiescent_AttnFwdIdeal (hAttnFwdIdeal := hAttnFwdIdeal)
    ∧ quiescent_AttnOutIdeal (hAttnOutIdeal := hAttnOutIdeal)
    ∧ quiescent_CoreBwd (hCoreBwd := hCoreBwd)
    ∧ quiescent_CoreBwdIdeal (hCoreBwdIdeal := hCoreBwdIdeal)
    ∧ quiescent_MixFwd (hMixFwd := hMixFwd)
    ∧ quiescent_MixFwdIdeal (hMixFwdIdeal := hMixFwdIdeal)
    ∧ quiescent_MixOutIdeal (hMixOutIdeal := hMixOutIdeal)
    ∧ quiescent_InFwd (hInFwd := hInFwd)
    ∧ quiescent_InFwdIdeal (hInFwdIdeal := hInFwdIdeal)
    ∧ quiescent_InOutIdeal (hInOutIdeal := hInOutIdeal)
    ∧ quiescent_GluFwd (hGluFwd := hGluFwd)
    ∧ quiescent_GluFwdIdeal (hGluFwdIdeal := hGluFwdIdeal)
    ∧ quiescent_GluOutIdeal (hGluOutIdeal := hGluOutIdeal)
    ∧ preserves_OutBwd_OutBwdIdeal
    ∧ algebraic_OutBwdIdeal_OutGradIdeal_pre_finite_out (hOutBwdIdeal := hOutBwdIdeal) (hOutGradIdeal := hOutGradIdeal) (hPre_finite_out := hPre_finite_out)
    ∧ preserves_AttnBwd_AttnBwdIdeal
    ∧ algebraic_AttnBwdIdeal_AttnGradIdeal_pre_finite_attn (hAttnBwdIdeal := hAttnBwdIdeal) (hAttnGradIdeal := hAttnGradIdeal) (hPre_finite_attn := hPre_finite_attn)
    ∧ preserves_InBwd_InBwdIdeal
    ∧ algebraic_InBwdIdeal_InGradIdeal_pre_finite_in (hInBwdIdeal := hInBwdIdeal) (hInGradIdeal := hInGradIdeal) (hPre_finite_in := hPre_finite_in)
    ∧ preserves_GluBwd_GluBwdIdeal
    ∧ algebraic_GluBwdIdeal_GluGradIdeal_pre_finite_glu (hGluBwdIdeal := hGluBwdIdeal) (hGluGradIdeal := hGluGradIdeal) (hPre_finite_glu := hPre_finite_glu)
    ∧ preserves_FfnBwd_FfnBwdIdeal
    ∧ algebraic_FfnBwdIdeal_FfnGradIdeal_pre_finite_ffn (hFfnBwdIdeal := hFfnBwdIdeal) (hFfnGradIdeal := hFfnGradIdeal) (hPre_finite_ffn := hPre_finite_ffn)
    ∧ preserves_ParamBwd_ParamBwdIdeal
    ∧ algebraic_ParamBwdIdeal_ParamGradIdeal (hParamBwdIdeal := hParamBwdIdeal) (hParamGradIdeal := hParamGradIdeal)
    ∧ preserves_AttnFwd_AttnFwdIdeal
    ∧ algebraic_AttnFwdIdeal_AttnOutIdeal (hAttnFwdIdeal := hAttnFwdIdeal) (hAttnOutIdeal := hAttnOutIdeal)
    ∧ preserves_CoreBwd_CoreBwdIdeal
    ∧ preserves_MixFwd_MixFwdIdeal
    ∧ algebraic_MixFwdIdeal_MixOutIdeal (hMixFwdIdeal := hMixFwdIdeal) (hMixOutIdeal := hMixOutIdeal)
    ∧ preserves_InFwd_InFwdIdeal
    ∧ algebraic_InFwdIdeal_InOutIdeal (hInFwdIdeal := hInFwdIdeal) (hInOutIdeal := hInOutIdeal)
    ∧ preserves_GluFwd_GluFwdIdeal
    ∧ algebraic_GluFwdIdeal_GluOutIdeal (hGluFwdIdeal := hGluFwdIdeal) (hGluOutIdeal := hGluOutIdeal)
-- ==== Pre_finite_attn.lean ====
abbrev S2048x512 : Shape := ⟨2, ![2048, 512]⟩
abbrev S2048x128 : Shape := ⟨2, ![2048, 128]⟩
abbrev S1x8 : Shape := ⟨2, ![1, 8]⟩
abbrev S1x512 : Shape := ⟨2, ![1, 512]⟩
abbrev S_ : Shape := ⟨0, ![]⟩

class Facts : Prop where
  bcast_S_S2048x512 : S_.BroadcastsInDim S2048x512 (![] : Fin 0 → Fin S2048x512.rank)
  bcast_S_S2048x128 : S_.BroadcastsInDim S2048x128 (![] : Fin 0 → Fin S2048x128.rank)
  bcast_S_S1x8 : S_.BroadcastsInDim S1x8 (![] : Fin 0 → Fin S1x8.rank)
  bcast_S_S1x512 : S_.BroadcastsInDim S1x512 (![] : Fin 0 → Fin S1x512.rank)

variable [Facts]

def fn {F : FTy → Type} [FloatOps F] (main_arg0 : FVec F S2048x512 .f32) (main_arg1 : FVec F S2048x128 .f32) (main_arg2 : FVec F S2048x128 .f32) (main_arg3 : FVec F S1x8 .f32) (main_arg4 : FVec F S1x512 .f32) (main_arg5 : FVec F S2048x512 .f32) : IVec S2048x512 1 × IVec S2048x128 1 × IVec S2048x128 1 × IVec S1x8 1 × IVec S1x512 1 × IVec S2048x512 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S2048x128 .f32 := Host.absf main_arg1
  let main_cst_0 : FVec F S_ .f32 := constant S_ .f32 0x7F800000#32
  let main_v4 : FVec F S2048x128 .f32 := broadcastInDim S2048x128 ![] bcast_S_S2048x128 main_cst_0
  let main_v5 : IVec S2048x128 1 := cmpf .olt main_v3 main_v4
  let main_v6 : FVec F S2048x128 .f32 := Host.absf main_arg2
  let main_cst_1 : FVec F S_ .f32 := constant S_ .f32 0x7F800000#32
  let main_v7 : FVec F S2048x128 .f32 := broadcastInDim S2048x128 ![] bcast_S_S2048x128 main_cst_1
  let main_v8 : IVec S2048x128 1 := cmpf .olt main_v6 main_v7
  let main_v9 : FVec F S1x8 .f32 := Host.absf main_arg3
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_v12 : FVec F S1x512 .f32 := Host.absf main_arg4
  let main_cst_3 : FVec F S_ .f32 := constant S_ .f32 0x7F800000#32
  let main_v13 : FVec F S1x512 .f32 := broadcastInDim S1x512 ![] bcast_S_S1x512 main_cst_3
  let main_v14 : IVec S1x512 1 := cmpf .olt main_v12 main_v13
  let main_v15 : FVec F S2048x512 .f32 := Host.absf main_arg5
  let main_cst_4 : FVec F S_ .f32 := constant S_ .f32 0x7F800000#32
  let main_v16 : FVec F S2048x512 .f32 := broadcastInDim S2048x512 ![] bcast_S_S2048x512 main_cst_4
  let main_v17 : IVec S2048x512 1 := cmpf .olt main_v15 main_v16
  (main_v2, main_v5, main_v8, main_v11, main_v14, main_v17)
-- ==== Pre_finite_ffn.lean ====
abbrev S2048x1024 : Shape := ⟨2, ![2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)
  bcast_S_S1x2816x1024 : S_.BroadcastsInDim S1x2816x1024 (![] : Fin 0 → Fin S1x2816x1024.rank)

variable [Facts]

def fn {F : FTy → Type} [FloatOps F] (main_arg0 : FVec F S2048x1024 .f32) (main_arg1 : FVec F S2048x1024 .f32) (main_arg2 : FVec F S1x1024 .f32) (main_arg3 : FVec F S1x1024x5632 .f32) (main_arg4 : FVec F S1x2816x1024 .f32) (main_arg5 : FVec F S1x1024 .f32) : IVec S2048x1024 1 × IVec S2048x1024 1 × IVec S1x1024 1 × IVec S1x1024x5632 1 × IVec S1x2816x1024 1 × IVec S1x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x5632 .f32 := Host.absf main_arg3
  let main_cst_2 : FVec F S_ .f32 := constant S_ .f32 0x7F800000#32
  let main_v10 : FVec F S1x1024x5632 .f32 := broadcastInDim S1x1024x5632 ![] bcast_S_S1x1024x5632 main_cst_2
  let main_v11 : IVec S1x1024x5632 1 := cmpf .olt main_v9 main_v10
  let main_v12 : FVec F S1x2816x1024 .f32 := Host.absf main_arg4
  let main_cst_3 : FVec F S_ .f32 := constant S_ .f32 0x7F800000#32
  let main_v13 : FVec F S1x2816x1024 .f32 := broadcastInDim S1x2816x1024 ![] bcast_S_S1x2816x1024 main_cst_3
  let main_v14 : IVec S1x2816x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Pre_finite_glu.lean ====
abbrev S2048x512 : Shape := ⟨2, ![2048, 512]⟩
abbrev S1x32x16 : Shape := ⟨3, ![1, 32, 16]⟩
abbrev S1x512x1024 : Shape := ⟨3, ![1, 512, 1024]⟩
abbrev S1x1024 : Shape := ⟨2, ![1, 1024]⟩
abbrev S1x512 : Shape := ⟨2, ![1, 512]⟩
abbrev S_ : Shape := ⟨0, ![]⟩

class Facts : Prop where
  bcast_S_S2048x512 : S_.BroadcastsInDim S2048x512 (![] : Fin 0 → Fin S2048x512.rank)
  bcast_S_S1x32x16 : S_.BroadcastsInDim S1x32x16 (![] : Fin 0 → Fin S1x32x16.rank)
  bcast_S_S1x512x1024 : S_.BroadcastsInDim S1x512x1024 (![] : Fin 0 → Fin S1x512x1024.rank)
  bcast_S_S1x1024 : S_.BroadcastsInDim S1x1024 (![] : Fin 0 → Fin S1x1024.rank)
  bcast_S_S1x512 : S_.BroadcastsInDim S1x512 (![] : Fin 0 → Fin S1x512.rank)

variable [Facts]

def fn_part1 {F : FTy → Type} [FloatOps F] (main_arg6 : FVec F S2048x512 .f32) (main_v2 : IVec S2048x512 1) (main_v5 : IVec S2048x512 1) (main_v8 : IVec S1x32x16 1) (main_v11 : IVec S1x512x1024 1) (main_v14 : IVec S1x1024 1) (main_v17 : IVec S1x512 1) : IVec S2048x512 1 × IVec S2048x512 1 × IVec S1x32x16 1 × IVec S1x512x1024 1 × IVec S1x1024 1 × IVec S1x512 1 × IVec S2048x512 1 :=
  let main_v18 : FVec F S2048x512 .f32 := Host.absf main_arg6
  let main_cst_5 : FVec F S_ .f32 := constant S_ .f32 0x7F800000#32
  let main_v19 : FVec F S2048x512 .f32 := broadcastInDim S2048x512 ![] bcast_S_S2048x512 main_cst_5
  let main_v20 : IVec S2048x512 1 := cmpf .olt main_v18 main_v19
  (main_v2, main_v5, main_v8, main_v11, main_v14, main_v17, main_v20)

def fn {F : FTy → Type} [FloatOps F] (main_arg0 : FVec F S2048x512 .f32) (main_arg1 : FVec F S2048x512 .f32) (main_arg2 : FVec F S1x32x16 .f32) (main_arg3 : FVec F S1x512x1024 .f32) (main_arg4 : FVec F S1x1024 .f32) (main_arg5 : FVec F S1x512 .f32) (main_arg6 : FVec F S2048x512 .f32) : IVec S2048x512 1 × IVec S2048x512 1 × IVec S1x32x16 1 × IVec S1x512x1024 1 × IVec S1x1024 1 × IVec S1x512 1 × IVec S2048x512 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S2048x512 .f32 := Host.absf main_arg1
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_v6 : FVec F S1x32x16 .f32 := Host.absf main_arg2
  let main_cst_1 : FVec F S_ .f32 := constant S_ .f32 0x7F800000#32
  let main_v7 : FVec F S1x32x16 .f32 := broadcastInDim S1x32x16 ![] bcast_S_S1x32x16 main_cst_1
  let main_v8 : IVec S1x32x16 1 := cmpf .olt main_v6 main_v7
  let main_v9 : FVec F S1x512x1024 .f32 := Host.absf main_arg3
  let main_cst_2 : FVec F S_ .f32 := constant S_ .f32 0x7F800000#32
  let main_v10 : FVec F S1x512x1024 .f32 := broadcastInDim S1x512x1024 ![] bcast_S_S1x512x1024 main_cst_2
  let main_v11 : IVec S1x512x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x512 .f32 := Host.absf main_arg5
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  fn_part1 (F := F) main_arg6 main_v2 main_v5 main_v8 main_v11 main_v14 main_v17
-- ==== Pre_finite_in.lean ====
abbrev S2048x1024 : Shape := ⟨2, ![2048, 1024]⟩
abbrev S2048 : Shape := ⟨1, ![2048]⟩
abbrev S1x1024 : Shape := ⟨2, ![1, 1024]⟩
abbrev S1x1024x1280 : Shape := ⟨3, ![1, 1024, 1280]⟩
abbrev S2048x512 : Shape := ⟨2, ![2048, 512]⟩
abbrev S2048x128 : Shape := ⟨2, ![2048, 128]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)
  bcast_S_S1x1024x1280 : S_.BroadcastsInDim S1x1024x1280 (![] : Fin 0 → Fin S1x1024x1280.rank)
  bcast_S_S2048x512 : S_.BroadcastsInDim S2048x512 (![] : Fin 0 → Fin S2048x512.rank)
  bcast_S_S2048x128 : S_.BroadcastsInDim S2048x128 (![] : Fin 0 → Fin S2048x128.rank)

variable [Facts]

def fn_part1 {F : FTy → Type} [FloatOps F] (main_arg8 : FVec F S2048x128 .f32) (main_v2 : IVec S2048x1024 1) (main_v5 : IVec S1x1024 1) (main_v8 : IVec S1x1024x1280 1) (main_v11 : IVec S2048x512 1) (main_v14 : IVec S2048x512 1) (main_v17 : IVec S2048x128 1) : IVec S2048x1024 1 × IVec S1x1024 1 × IVec S1x1024x1280 1 × IVec S2048x512 1 × IVec S2048x512 1 × IVec S2048x128 1 × IVec S2048x128 1 :=
  let main_v18 : FVec F S2048x128 .f32 := Host.absf main_arg8
  let main_cst_5 : FVec F S_ .f32 := constant S_ .f32 0x7F800000#32
  let main_v19 : FVec F S2048x128 .f32 := broadcastInDim S2048x128 ![] bcast_S_S2048x128 main_cst_5
  let main_v20 : IVec S2048x128 1 := cmpf .olt main_v18 main_v19
  (main_v2, main_v5, main_v8, main_v11, main_v14, main_v17, main_v20)

def fn {F : FTy → Type} [FloatOps F] (main_arg0 : FVec F S2048x1024 .f32) (main_arg1 : IVec S2048 32) (main_arg2 : FVec F S1x1024 .f32) (main_arg3 : FVec F S1x1024x1280 .f32) (main_arg4 : FVec F S2048x1024 .f32) (main_arg5 : FVec F S2048x512 .f32) (main_arg6 : FVec F S2048x512 .f32) (main_arg7 : FVec F S2048x128 .f32) (main_arg8 : FVec F S2048x128 .f32) : IVec S2048x1024 1 × IVec S1x1024 1 × IVec S1x1024x1280 1 × IVec S2048x512 1 × IVec S2048x512 1 × IVec S2048x128 1 × IVec S2048x128 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x1280 .f32 := Host.absf main_arg3
  let main_cst_1 : FVec F S_ .f32 := constant S_ .f32 0x7F800000#32
  let main_v7 : FVec F S1x1024x1280 .f32 := broadcastInDim S1x1024x1280 ![] bcast_S_S1x1024x1280 main_cst_1
  let main_v8 : IVec S1x1024x1280 1 := cmpf .olt main_v6 main_v7
  let main_v9 : FVec F S2048x512 .f32 := Host.absf main_arg5
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_v12 : FVec F S2048x512 .f32 := Host.absf main_arg6
  let main_cst_3 : FVec F S_ .f32 := constant S_ .f32 0x7F800000#32
  let main_v13 : FVec F S2048x512 .f32 := broadcastInDim S2048x512 ![] bcast_S_S2048x512 main_cst_3
  let main_v14 : IVec S2048x512 1 := cmpf .olt main_v12 main_v13
  let main_v15 : FVec F S2048x128 .f32 := Host.absf main_arg7
  let main_cst_4 : FVec F S_ .f32 := constant S_ .f32 0x7F800000#32
  let main_v16 : FVec F S2048x128 .f32 := broadcastInDim S2048x128 ![] bcast_S_S2048x128 main_cst_4
  let main_v17 : IVec S2048x128 1 := cmpf .olt main_v15 main_v16
  fn_part1 (F := F) main_arg8 main_v2 main_v5 main_v8 main_v11 main_v14 main_v17
-- ==== Pre_finite_out.lean ====
abbrev S2048x1024 : Shape := ⟨2, ![2048, 1024]⟩
abbrev S1x1024x1024 : Shape := ⟨3, ![1, 1024, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S1x1024x1024 : S_.BroadcastsInDim S1x1024x1024 (![] : Fin 0 → Fin S1x1024x1024.rank)
  bcast_S_S1x1024 : S_.BroadcastsInDim S1x1024 (![] : Fin 0 → Fin S1x1024.rank)

variable [Facts]

def fn {F : FTy → Type} [FloatOps F] (main_arg0 : FVec F S2048x1024 .f32) (main_arg1 : FVec F S1x1024x1024 .f32) (main_arg2 : FVec F S1x1024 .f32) (main_arg3 : FVec F S2048x1024 .f32) : IVec S2048x1024 1 × IVec S1x1024x1024 1 × IVec S1x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x1024x1024 .f32 := Host.absf main_arg1
  let main_cst_0 : FVec F S_ .f32 := constant S_ .f32 0x7F800000#32
  let main_v4 : FVec F S1x1024x1024 .f32 := broadcastInDim S1x1024x1024 ![] bcast_S_S1x1024x1024 main_cst_0
  let main_v5 : IVec S1x1024x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  (main_v2, main_v5, main_v8, main_v11)
-- ==== OutBwd.lean ====
abbrev S2048x1024 : Shape := ⟨2, ![2048, 1024]⟩
abbrev S1x1024x1024 : Shape := ⟨3, ![1, 1024, 1024]⟩
abbrev S1x1024 : Shape := ⟨2, ![1, 1024]⟩
abbrev S1024x1024 : Shape := ⟨2, ![1024, 1024]⟩
abbrev S256x4096 : Shape := ⟨2, ![256, 4096]⟩
abbrev S2048x512 : Shape := ⟨2, ![2048, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1024 : Shape := ⟨1, ![1024]⟩

abbrev nBuf : Space → Nat
  | .hbm => 12
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1x1024x1024, .f32⟩
  | .hbm, ⟨2, _⟩ => ⟨S1x1024, .f32⟩
  | .hbm, ⟨3, _⟩ => ⟨S2048x1024, .f32⟩
  | .hbm, ⟨4, _⟩ => ⟨S1024x1024, .f32⟩
  | .hbm, ⟨5, _⟩ => ⟨S1024x1024, .bf16⟩
  | .hbm, ⟨6, _⟩ => ⟨S2048x1024, .bf16⟩
  | .hbm, ⟨7, _⟩ => ⟨S2048x1024, .f32⟩
  | .hbm, ⟨8, _⟩ => ⟨S2048x1024, .bf16⟩
  | .hbm, ⟨9, _⟩ => ⟨S256x4096, .f32⟩
  | .hbm, ⟨10, _⟩ => ⟨S2048x512, .f32⟩
  | .hbm, ⟨11, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v30 : BitVec 32 := Scalar.extui v0
  let c0_i32_10 : BitVec 32 := 0#32
  let v31 : BitVec 1 := Scalar.cmpi .ne v30 c0_i32_10
  v31

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v32 : BitVec 1 := Scalar.xori v0 v_true
  let v33 : BitVec 32 := Scalar.extui v32
  let c0_i32_11 : BitVec 32 := 0#32
  let v34 : BitVec 1 := Scalar.cmpi .ne v33 c0_i32_11
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== OutGradIdeal.lean ====
abbrev S2048x1024 : Shape := ⟨2, ![2048, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x512 : Shape := ⟨2, ![2048, 512]⟩
abbrev S8x256x512 : Shape := ⟨3, ![8, 256, 512]⟩
abbrev S256x8x512 : Shape := ⟨3, ![256, 8, 512]⟩
abbrev S256x4096 : Shape := ⟨2, ![256, 4096]⟩

abbrev nBuf : Space → Nat
  | .hbm => 60
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024x1024, .f32⟩
  | .hbm, ⟨2, _⟩ => ⟨S1x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x512, .f32⟩
  | .hbm, ⟨54, _⟩ => ⟨S8x256x512, .f32⟩
  | .hbm, ⟨55, _⟩ => ⟨S256x8x512, .f32⟩
  | .hbm, ⟨56, _⟩ => ⟨S256x4096, .f32⟩
  | .hbm, ⟨57, _⟩ => ⟨S2048x1024, .bf16⟩
  | .hbm, ⟨58, _⟩ => ⟨S2048x512, .f32⟩
  | .hbm, ⟨59, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== AttnBwd.lean ====
abbrev S2048x512 : Shape := ⟨2, ![2048, 512]⟩
abbrev S2048x128 : Shape := ⟨2, ![2048, 128]⟩
abbrev S1x8 : Shape := ⟨2, ![1, 8]⟩
abbrev S1x512 : Shape := ⟨2, ![1, 512]⟩
abbrev S8 : Shape := ⟨1, ![8]⟩
abbrev S16x128x2x4x64 : Shape := ⟨5, ![16, 128, 2, 4, 64]⟩
abbrev S16x128x2x64 : Shape := ⟨4, ![16, 128, 2, 64]⟩
abbrev S1x128x2x64 : Shape := ⟨4, ![1, 128, 2, 64]⟩
abbrev S_ : Shape := ⟨0, ![]⟩
abbrev S15x128x2x64 : Shape := ⟨4, ![15, 128, 2, 64]⟩
abbrev S16x256x2x64 : Shape := ⟨4, ![16, 256, 2, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x2x4x1x1 : Shape := ⟨5, ![1, 2, 4, 1, 1]⟩
abbrev S16x2x256x128x4 : Shape := ⟨5, ![16, 2, 256, 128, 4]⟩
abbrev S16x2x4x128x256 : Shape := ⟨5, ![16, 2, 4, 128, 256]⟩
abbrev S16x1x1x128x256 : Shape := ⟨5, ![16, 1, 1, 128, 256]⟩
abbrev S16x2x4x128 : Shape := ⟨4, ![16, 2, 4, 128]⟩
abbrev S16x2x4x128x1 : Shape := ⟨5, ![16, 2, 4, 128, 1]⟩
abbrev S16x2x64x4x128 : Shape := ⟨5, ![16, 2, 64, 4, 128]⟩
abbrev S16x2x512x256 : Shape := ⟨4, ![16, 2, 512, 256]⟩
abbrev S1x128 : Shape := ⟨2, ![1, 128]⟩
abbrev S128x512 : Shape := ⟨2, ![128, 512]⟩
abbrev S128x128 : Shape := ⟨2, ![128, 128]⟩
abbrev S1x2x512x256 : Shape := ⟨4, ![1, 2, 512, 256]⟩
abbrev S512 : Shape := ⟨1, ![512]⟩
abbrev S256x128 : Shape := ⟨2, ![256, 128]⟩
abbrev S256x256 : Shape := ⟨2, ![256, 256]⟩
abbrev S1x1x256x256 : Shape := ⟨4, ![1, 1, 256, 256]⟩
abbrev S256x1 : Shape := ⟨2, ![256, 1]⟩
abbrev S1 : Shape := ⟨1, ![1]⟩
abbrev S1x1 : Shape := ⟨2, ![1, 1]⟩

abbrev nBuf : Space → Nat
  | .hbm => 103
  | .vmem => 23
  | .smem => 0
  | _ => 0

abbrev bufTy : (tb : Table) → Fin (tcTables nBuf tb) → BufTy
  | .hbm, ⟨0, _⟩ => ⟨S2048x512, .f32⟩
  | .hbm, ⟨1, _⟩ => ⟨S2048x128, .f32⟩
  | .hbm, ⟨2, _⟩ => ⟨S2048x128, .f32⟩
  | .hbm, ⟨3, _⟩ => ⟨S1x8, .f32⟩
  | .hbm, ⟨4, _⟩ => ⟨S1x512, .f32⟩
  | .hbm, ⟨5, _⟩ => ⟨S2048x512, .f32⟩
  | .hbm, ⟨6, _⟩ => ⟨S8, .f32⟩
  | .hbm, ⟨7, _⟩ => ⟨S16x128x2x4x64, .f32⟩
  | .hbm, ⟨8, _⟩ => ⟨S16x128x2x64, .f32⟩
  | .hbm, ⟨9, _⟩ => ⟨S1x128x2x64, .f32⟩
  | .hbm, ⟨10, _⟩ => ⟨S_, .f32⟩
  | .hbm, ⟨11, _⟩ => ⟨S1x128x2x64, .f32⟩
  | .hbm, ⟨12, _⟩ => ⟨S15x128x2x64, .f32⟩
  | .hbm, ⟨13, _⟩ => ⟨S16x128x2x64, .f32⟩
  | .hbm, ⟨14, _⟩ => ⟨S16x256x2x64, .f32⟩
  | .hbm, ⟨15, _⟩ => ⟨S16x128x2x64, .f32⟩
  | .hbm, ⟨16, _⟩ => ⟨S1x128x2x64, .f32⟩
  | .hbm, ⟨17, _⟩ => ⟨S_, .f32⟩
  | .hbm, ⟨18, _⟩ => ⟨S1x128x2x64, .f32⟩
  | .hbm, ⟨19, _⟩ => ⟨S15x128x2x64, .f32⟩
  | .hbm, ⟨20, _⟩ => ⟨S16x128x2x64, .f32⟩
  | .hbm, ⟨21, _⟩ => ⟨S16x256x2x64, .f32⟩
  | .hbm, ⟨22, _⟩ => ⟨S128, .i32⟩
  | .hbm, ⟨23, _⟩ => ⟨S128x1, .i32⟩
  | .hbm, ⟨24, _⟩ => ⟨S256, .i32⟩
  | .hbm, ⟨25, _⟩ => ⟨S1x256, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S128x256, .i32⟩
  | .hbm, ⟨30, _⟩ => ⟨S128x256, .i32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i1⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S128x256, .i1⟩
  | .hbm, ⟨39, _⟩ => ⟨S16, .i32⟩
  | .hbm, ⟨40, _⟩ => ⟨S16x1x1, .i32⟩
  | .hbm, ⟨41, _⟩ => ⟨S_, .i32⟩
  | .hbm, ⟨42, _⟩ => ⟨S16x1x1, .i32⟩
  | .hbm, ⟨43, _⟩ => ⟨S16x1x1, .i32⟩
  | .hbm, ⟨44, _⟩ => ⟨S_, .i32⟩
  | .hbm, ⟨45, _⟩ => ⟨S16x1x1, .i32⟩
  | .hbm, ⟨46, _⟩ => ⟨S16x1x1, .i32⟩
  | .hbm, ⟨47, _⟩ => ⟨S1x1x256, .i32⟩
  | .hbm, ⟨48, _⟩ => ⟨S16x1x256, .i32⟩
  | .hbm, ⟨49, _⟩ => ⟨S16x1x256, .i32⟩
  | .hbm, ⟨50, _⟩ => ⟨S16x1x256, .i32⟩
  | .hbm, ⟨51, _⟩ => ⟨S_, .i32⟩
  | .hbm, ⟨52, _⟩ => ⟨S16x1x256, .i32⟩
  | .hbm, ⟨53, _⟩ => ⟨S16x1x256, .i1⟩
  | .hbm, ⟨54, _⟩ => ⟨S1x128x256, .i1⟩
  | .hbm, ⟨55, _⟩ => ⟨S16x128x256, .i1⟩
  | .hbm, ⟨56, _⟩ => ⟨S16x128x256, .i1⟩
  | .hbm, ⟨57, _⟩ => ⟨S16x128x256, .i1⟩
  | .hbm, ⟨58, _⟩ => ⟨S1x2x4x1x1, .f32⟩
  | .hbm, ⟨59, _⟩ => ⟨S16x2x256x128x4, .f32⟩
  | .hbm, ⟨60, _⟩ => ⟨S16x2x4x128x256, .f32⟩
  | .hbm, ⟨61, _⟩ => ⟨S_, .f32⟩
  | .hbm, ⟨62, _⟩ => ⟨S16x2x4x128x256, .f32⟩
  | .hbm, ⟨63, _⟩ => ⟨S16x2x4x128x256, .f32⟩
  | .hbm, ⟨64, _⟩ => ⟨S16x1x1x128x256, .i1⟩
  | .hbm, ⟨65, _⟩ => ⟨S_, .f32⟩
  | .hbm, ⟨66, _⟩ => ⟨S_, .f32⟩
  | .hbm, ⟨67, _⟩ => ⟨S16x2x4x128x256, .i1⟩
  | .hbm, ⟨68, _⟩ => ⟨S16x2x4x128x256, .f32⟩
  | .hbm, ⟨69, _⟩ => ⟨S16x2x4x128x256, .f32⟩
  | .hbm, ⟨70, _⟩ => ⟨S_, .f32⟩
  | .hbm, ⟨71, _⟩ => ⟨S16x2x4x128, .f32⟩
  | .hbm, ⟨72, _⟩ => ⟨S16x2x4x128x1, .f32⟩
  | .hbm, ⟨73, _⟩ => ⟨S16x2x4x128x1, .f32⟩
  | .hbm, ⟨74, _⟩ => ⟨S16x2x4x128x1, .f32⟩
  | .hbm, ⟨75, _⟩ => ⟨S16x2x4x128x256, .f32⟩
  | .hbm, ⟨76, _⟩ => ⟨S16x2x4x128x256, .f32⟩
  | .hbm, ⟨77, _⟩ => ⟨S16x2x4x128x256, .f32⟩
  | .hbm, ⟨78, _⟩ => ⟨S16x2x4x128x1, .f32⟩
  | .hbm, ⟨79, _⟩ => ⟨S16x2x4x128x1, .f32⟩
  | .hbm, ⟨80, _⟩ => ⟨S16x2x4x128x1, .f32⟩
  | .hbm, ⟨81, _⟩ => ⟨S_, .f32⟩
  | .hbm, ⟨82, _⟩ => ⟨S16x2x4x128, .f32⟩
  | .hbm, ⟨83, _⟩ => ⟨S16x2x4x128x1, .f32⟩
  | .hbm, ⟨84, _⟩ => ⟨S16x2x4x128x1, .f32⟩
  | .hbm, ⟨85, _⟩ => ⟨S16x2x4x128x256, .f32⟩
  | .hbm, ⟨86, _⟩ => ⟨S16x2x4x128x256, .f32⟩
  | .hbm, ⟨87, _⟩ => ⟨S16x2x4x128x1, .f32⟩
  | .hbm, ⟨88, _⟩ => ⟨S16x2x64x4x128, .f32⟩
  | .hbm, ⟨89, _⟩ => ⟨S16x128x2x4x64, .f32⟩
  | .hbm, ⟨90, _⟩ => ⟨S2048x512, .f32⟩
  | .hbm, ⟨91, _⟩ => ⟨S_, .i32⟩
  | .hbm, ⟨92, _⟩ => ⟨S1x256, .i32⟩
  | .hbm, ⟨93, _⟩ => ⟨S1x256, .i1⟩
  | .hbm, ⟨94, _⟩ => ⟨S16x2x4x128x256, .i1⟩
  | .hbm, ⟨95, _⟩ => ⟨S16x2x4x128x256, .f32⟩
  | .hbm, ⟨96, _⟩ => ⟨S16x2x4x128x256, .f32⟩
  | .hbm, ⟨97, _⟩ => ⟨S16x2x512x256, .f32⟩
  | .hbm, ⟨98, _⟩ => ⟨S2048x512, .f32⟩
  | .hbm, ⟨99, _⟩ => ⟨S2048x128, .f32⟩
  | .hbm, ⟨100, _⟩ => ⟨S2048x128, .f32⟩
  | .hbm, ⟨101, _⟩ => ⟨S1x128, .f32⟩
  | .hbm, ⟨102, _⟩ => ⟨S1x512, .f32⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S1x2x512x256, .f32⟩
  | .local _ .vmem, ⟨15, _⟩ => ⟨S1x2x512x256, .f32⟩
  | .local _ .vmem, ⟨16, _⟩ => ⟨S1x512, .f32⟩
  | .local _ .vmem, ⟨17, _⟩ => ⟨S128x512, .f32⟩
  | .local _ .vmem, ⟨18, _⟩ => ⟨S128x512, .f32⟩
  | .local _ .vmem, ⟨19, _⟩ => ⟨S2048x128, .f32⟩
  | .local _ .vmem, ⟨20, _⟩ => ⟨S2048x128, .f32⟩
  | .local _ .vmem, ⟨21, _⟩ => ⟨S1x128, .f32⟩
  | .local _ .vmem, ⟨22, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_1 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_3 : Ref sig .tc := ⟨.hbm, 41, rfl⟩
abbrev main_v30 : Ref sig .tc := ⟨.hbm, 42, rfl⟩
abbrev main_v31 : Ref sig .tc := ⟨.hbm, 43, rfl⟩
abbrev main_c_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c_10 : Ref sig .tc := ⟨.hbm, 91, rfl⟩
abbrev main_v70 : Ref sig .tc := ⟨.hbm, 92, rfl⟩
abbrev main_v71 : Ref sig .tc := ⟨.hbm, 93, rfl⟩
abbrev main_call1_v0 : Ref sig .tc := ⟨.hbm, 94, rfl⟩
abbrev main_call1_v1 : Ref sig .tc := ⟨.hbm, 95, rfl⟩
abbrev main_v72 : Ref sig .tc := ⟨.hbm, 96, rfl⟩
abbrev main_v73 : Ref sig .tc := ⟨.hbm, 97, rfl⟩
abbrev main_v74_0 : Ref sig .tc := ⟨.hbm, 98, rfl⟩
abbrev main_v74_1 : Ref sig .tc := ⟨.hbm, 99, rfl⟩
abbrev main_v74_2 : Ref sig .tc := ⟨.hbm, 100, rfl⟩
abbrev main_v74_3 : Ref sig .tc := ⟨.hbm, 101, rfl⟩
abbrev main_v74_4 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c1_i32_183 : BitVec 32 := 1#32
  let v543 : BitVec 32 := Scalar.subi arg0 c1_i32_183
  let c0_i32_184 : BitVec 32 := 0#32
  let v544 : BitVec 32 := Scalar.maxsi v543 c0_i32_184
  let c128_i32 : BitVec 32 := 128#32
  let v545 : BitVec 32 := Scalar.muli v544 c128_i32
  v545
def k0_mult2 (i : grid0.Coords) : BitVec 32 :=
  let arg0 : BitVec 32 := BitVec.ofNat 32 (i 0).val
  let c128_i32_185 : BitVec 32 := 128#32
  let v547 : BitVec 32 := Scalar.muli arg0 c128_i32_185
  v547
def k0_off1 (i : grid0.Coords) : Fin 2 → Nat :=
  let arg0 : BitVec 32 := BitVec.ofNat 32 (i 0).val
  let c1_i32_183 : BitVec 32 := 1#32
  let v543 : BitVec 32 := Scalar.subi arg0 c1_i32_183
  let c0_i32_184 : BitVec 32 := 0#32
  let v544 : BitVec 32 := Scalar.maxsi v543 c0_i32_184
  let c128_i32 : BitVec 32 := 128#32
  let v545 : BitVec 32 := Scalar.muli v544 c128_i32
  let v546 : BitVec 32 := v545
  let v549 : Index := Scalar.indexCast v546
  let c0_186 : Index := 0#32
  ![v549.toNat, 0]
def k0_off2 (i : grid0.Coords) : Fin 2 → Nat :=
  let arg0 : BitVec 32 := BitVec.ofNat 32 (i 0).val
  let c128_i32_185 : BitVec 32 := 128#32
  let v547 : BitVec 32 := Scalar.muli arg0 c128_i32_185
  let v548 : BitVec 32 := v547
  let v556 : Index := Scalar.indexCast v548
  let c0_188 : Index := 0#32
  ![v556.toNat, 0]
def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v32 : BitVec 32 := Scalar.extui v0
  let c0_i32_11 : BitVec 32 := 0#32
  let v33 : BitVec 1 := Scalar.cmpi .ne v32 c0_i32_11
  v33

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v34 : BitVec 1 := Scalar.xori v0 v_true
  let v35 : BitVec 32 := Scalar.extui v34
  let c0_i32_12 : BitVec 32 := 0#32
  let v36 : BitVec 1 := Scalar.cmpi .ne v35 c0_i32_12
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== AttnGradIdeal.lean ====
abbrev S2048x512 : Shape := ⟨2, ![2048, 512]⟩
abbrev S2048x128 : Shape := ⟨2, ![2048, 128]⟩
abbrev S1x8 : Shape := ⟨2, ![1, 8]⟩
abbrev S1x512 : Shape := ⟨2, ![1, 512]⟩
abbrev S8 : Shape := ⟨1, ![8]⟩
abbrev S16x128x2x4x64 : Shape := ⟨5, ![16, 128, 2, 4, 64]⟩
abbrev S16x128x2x64 : Shape := ⟨4, ![16, 128, 2, 64]⟩
abbrev S1x128x2x64 : Shape := ⟨4, ![1, 128, 2, 64]⟩
abbrev S_ : Shape := ⟨0, ![]⟩
abbrev S15x128x2x64 : Shape := ⟨4, ![15, 128, 2, 64]⟩
abbrev S16x256x2x64 : Shape := ⟨4, ![16, 256, 2, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x2x4x1x1 : Shape := ⟨5, ![1, 2, 4, 1, 1]⟩
abbrev S16x2x256x128x4 : Shape := ⟨5, ![16, 2, 256, 128, 4]⟩
abbrev S16x2x4x128x256 : Shape := ⟨5, ![16, 2, 4, 128, 256]⟩
abbrev S16x1x1x128x256 : Shape := ⟨5, ![16, 1, 1, 128, 256]⟩
abbrev S16x2x4x128 : Shape := ⟨4, ![16, 2, 4, 128]⟩
abbrev S16x2x4x128x1 : Shape := ⟨5, ![16, 2, 4, 128, 1]⟩
abbrev S16x2x64x4x128 : Shape := ⟨5, ![16, 2, 64, 4, 128]⟩
abbrev S512 : Shape := ⟨1, ![512]⟩
abbrev S2048 : Shape := ⟨1, ![2048]⟩
abbrev S2048x1 : Shape := ⟨2, ![2048, 1]⟩
abbrev S16x2x64x256 : Shape := ⟨4, ![16, 2, 64, 256]⟩
abbrev S2x4x1 : Shape := ⟨3, ![2, 4, 1]⟩
abbrev S16x2x128x4x64 : Shape := ⟨5, ![16, 2, 128, 4, 64]⟩
abbrev S16x2x256x64 : Shape := ⟨4, ![16, 2, 256, 64]⟩
abbrev S1x128 : Shape := ⟨2, ![1, 128]⟩

abbrev nBuf : Space → Nat
  | .hbm => 251
  | .vmem => 0
  | .smem => 0
  | _ => 0

abbrev hbmTy0_0 (i : Nat) : BufTy := match i % 128 with
  | 0 => ⟨S2048x512, .f32⟩
  | 1 => ⟨S2048x128, .f32⟩
  | 2 => ⟨S2048x128, .f32⟩
  | 3 => ⟨S1x8, .f32⟩
  | 4 => ⟨S1x512, .f32⟩
  | 5 => ⟨S2048x512, .f32⟩
  | 6 => ⟨S8, .f32⟩
  | 7 => ⟨S16x128x2x4x64, .f32⟩
  | 8 => ⟨S16x128x2x64, .f32⟩
  | 9 => ⟨S1x128x2x64, .f32⟩
  | 10 => ⟨S_, .f32⟩
  | 11 => ⟨S1x128x2x64, .f32⟩
  | 12 => ⟨S15x128x2x64, .f32⟩
  | 13 => ⟨S16x128x2x64, .f32⟩
  | 14 => ⟨S_, .f32⟩
  | 15 => ⟨S1x128x2x64, .f32⟩
  | 16 => ⟨S16x256x2x64, .f32⟩
  | 17 => ⟨S16x128x2x64, .f32⟩
  | 18 => ⟨S1x128x2x64, .f32⟩
  | 19 => ⟨S_, .f32⟩
  | 20 => ⟨S1x128x2x64, .f32⟩
  | 21 => ⟨S15x128x2x64, .f32⟩
  | 22 => ⟨S16x128x2x64, .f32⟩
  | 23 => ⟨S_, .f32⟩
  | 24 => ⟨S1x128x2x64, .f32⟩
  | 25 => ⟨S16x256x2x64, .f32⟩
  | 26 => ⟨S128, .i32⟩
  | 27 => ⟨S128x1, .i32⟩
  | 28 => ⟨S256, .i32⟩
  | 29 => ⟨S1x256, .i32⟩
  | 30 => ⟨S_, .i32⟩
  | 31 => ⟨S128x1, .i32⟩
  | 32 => ⟨S128x1, .i32⟩
  | 33 => ⟨S128x256, .i32⟩
  | 34 => ⟨S128x256, .i32⟩
  | 35 => ⟨S128x256, .i32⟩
  | 36 => ⟨S_, .i32⟩
  | 37 => ⟨S128x256, .i32⟩
  | 38 => ⟨S128x256, .i1⟩
  | 39 => ⟨S_, .i32⟩
  | 40 => ⟨S128x256, .i32⟩
  | 41 => ⟨S128x256, .i1⟩
  | 42 => ⟨S128x256, .i1⟩
  | 43 => ⟨S16, .i32⟩
  | 44 => ⟨S16x1x1, .i32⟩
  | 45 => ⟨S_, .i32⟩
  | 46 => ⟨S16x1x1, .i32⟩
  | 47 => ⟨S16x1x1, .i32⟩
  | 48 => ⟨S_, .i32⟩
  | 49 => ⟨S16x1x1, .i32⟩
  | 50 => ⟨S16x1x1, .i32⟩
  | 51 => ⟨S1x1x256, .i32⟩
  | 52 => ⟨S16x1x256, .i32⟩
  | 53 => ⟨S16x1x256, .i32⟩
  | 54 => ⟨S16x1x256, .i32⟩
  | 55 => ⟨S_, .i32⟩
  | 56 => ⟨S16x1x256, .i32⟩
  | 57 => ⟨S16x1x256, .i1⟩
  | 58 => ⟨S1x128x256, .i1⟩
  | 59 => ⟨S16x128x256, .i1⟩
  | 60 => ⟨S16x128x256, .i1⟩
  | 61 => ⟨S16x128x256, .i1⟩
  | 62 => ⟨S1x2x4x1x1, .f32⟩
  | 63 => ⟨S16x2x256x128x4, .f32⟩
  | 64 => ⟨S16x2x4x128x256, .f32⟩
  | 65 => ⟨S_, .f32⟩
  | 66 => ⟨S16x2x4x128x256, .f32⟩
  | 67 => ⟨S16x2x4x128x256, .f32⟩
  | 68 => ⟨S16x1x1x128x256, .i1⟩
  | 69 => ⟨S_, .f32⟩
  | 70 => ⟨S_, .f32⟩
  | 71 => ⟨S16x2x4x128x256, .i1⟩
  | 72 => ⟨S16x2x4x128x256, .f32⟩
  | 73 => ⟨S16x2x4x128x256, .f32⟩
  | 74 => ⟨S_, .f32⟩
  | 75 => ⟨S16x2x4x128x256, .f32⟩
  | 76 => ⟨S_, .f32⟩
  | 77 => ⟨S16x2x4x128, .f32⟩
  | 78 => ⟨S16x2x4x128x1, .f32⟩
  | 79 => ⟨S16x2x4x128x256, .f32⟩
  | 80 => ⟨S16x2x4x128x256, .i1⟩
  | 81 => ⟨S16x2x4x128x256, .f32⟩
  | 82 => ⟨S_, .f32⟩
  | 83 => ⟨S16x2x4x128, .f32⟩
  | 84 => ⟨S16x2x4x128x1, .f32⟩
  | 85 => ⟨S16x2x4x128x1, .f32⟩
  | 86 => ⟨S16x2x4x128x1, .f32⟩
  | 87 => ⟨S16x2x4x128x1, .f32⟩
  | 88 => ⟨S16x2x4x128x1, .i1⟩
  | 89 => ⟨S16x2x4x128x1, .f32⟩
  | 90 => ⟨S16x2x4x128x1, .i1⟩
  | 91 => ⟨S_, .f32⟩
  | 92 => ⟨S16x2x4x128x1, .f32⟩
  | 93 => ⟨S_, .f32⟩
  | 94 => ⟨S16x2x4x128x1, .f32⟩
  | 95 => ⟨S_, .f32⟩
  | 96 => ⟨S16x2x4x128x1, .f32⟩
  | 97 => ⟨S16x2x4x128x1, .f32⟩
  | 98 => ⟨S16x2x4x128x1, .f32⟩
  | 99 => ⟨S16x2x4x128x1, .f32⟩
  | 100 => ⟨S16x2x4x128x1, .i1⟩
  | 101 => ⟨S16x2x4x128x1, .f32⟩
  | 102 => ⟨S16x2x4x128x1, .i1⟩
  | 103 => ⟨S_, .f32⟩
  | 104 => ⟨S16x2x4x128x1, .f32⟩
  | 105 => ⟨S_, .f32⟩
  | 106 => ⟨S16x2x4x128x1, .f32⟩
  | 107 => ⟨S_, .f32⟩
  | 108 => ⟨S16x2x4x128x1, .f32⟩
  | 109 => ⟨S16x2x4x128x1, .f32⟩
  | 110 => ⟨S16x2x4x128x1, .f32⟩
  | 111 => ⟨S16x2x4x128x256, .f32⟩
  | 112 => ⟨S16x2x4x128x256, .f32⟩
  | 113 => ⟨S16x2x4x128x256, .f32⟩
  | 114 => ⟨S_, .f32⟩
  | 115 => ⟨S16x2x4x128, .f32⟩
  | 116 => ⟨S16x2x4x128x1, .f32⟩
  | 117 => ⟨S16x2x4x128x1, .f32⟩
  | 118 => ⟨S16x2x4x128x1, .f32⟩
  | 119 => ⟨S16x2x4x128x1, .f32⟩
  | 120 => ⟨S16x2x4x128x1, .f32⟩
  | 121 => ⟨S16x2x4x128x256, .f32⟩
  | 122 => ⟨S16x2x4x128x256, .f32⟩
  | 123 => ⟨S16x2x4x128x1, .f32⟩
  | 124 => ⟨S_, .f32⟩
  | 125 => ⟨S16x2x4x128x1, .f32⟩
  | 126 => ⟨S16x2x4x128x1, .f32⟩
  | 127 => ⟨S16x2x64x4x128, .f32⟩
  | _ => ⟨S2048x512, .f32⟩

abbrev hbmTy0_1 (i : Nat) : BufTy := match i % 128 with
  | 0 => ⟨S16x128x2x4x64, .f32⟩
  | 1 => ⟨S2048x512, .f32⟩
  | 2 => ⟨S512, .f32⟩
  | 3 => ⟨S2048x512, .f32⟩
  | 4 => ⟨S_, .f32⟩
  | 5 => ⟨S2048, .f32⟩
  | 6 => ⟨S2048x1, .f32⟩
  | 7 => ⟨S_, .f32⟩
  | 8 => ⟨S2048x1, .f32⟩
  | 9 => ⟨S2048x1, .f32⟩
  | 10 => ⟨S_, .f32⟩
  | 11 => ⟨S2048x1, .f32⟩
  | 12 => ⟨S2048x1, .f32⟩
  | 13 => ⟨S2048x1, .f32⟩
  | 14 => ⟨S2048x1, .f32⟩
  | 15 => ⟨S_, .f32⟩
  | 16 => ⟨S2048x1, .f32⟩
  | 17 => ⟨S2048x1, .f32⟩
  | 18 => ⟨S2048x512, .f32⟩
  | 19 => ⟨S2048x512, .f32⟩
  | 20 => ⟨S1x512, .f32⟩
  | 21 => ⟨S2048x512, .f32⟩
  | 22 => ⟨S2048x512, .f32⟩
  | 23 => ⟨S2048x512, .f32⟩
  | 24 => ⟨S_, .f32⟩
  | 25 => ⟨S512, .f32⟩
  | 26 => ⟨S1x512, .f32⟩
  | 27 => ⟨S2048x512, .f32⟩
  | 28 => ⟨S2048x512, .f32⟩
  | 29 => ⟨S_, .f32⟩
  | 30 => ⟨S512, .f32⟩
  | 31 => ⟨S2048x512, .f32⟩
  | 32 => ⟨S_, .f32⟩
  | 33 => ⟨S2048, .f32⟩
  | 34 => ⟨S2048x1, .f32⟩
  | 35 => ⟨S2048x512, .f32⟩
  | 36 => ⟨S2048x512, .f32⟩
  | 37 => ⟨S2048x1, .f32⟩
  | 38 => ⟨S_, .f32⟩
  | 39 => ⟨S2048x1, .f32⟩
  | 40 => ⟨S2048x1, .f32⟩
  | 41 => ⟨S_, .f32⟩
  | 42 => ⟨S2048, .f32⟩
  | 43 => ⟨S2048x512, .f32⟩
  | 44 => ⟨S2048x512, .f32⟩
  | 45 => ⟨S2048x512, .f32⟩
  | 46 => ⟨S2048x512, .f32⟩
  | 47 => ⟨S2048x512, .f32⟩
  | 48 => ⟨S16x128x2x4x64, .f32⟩
  | 49 => ⟨S16x2x64x4x128, .f32⟩
  | 50 => ⟨S16x2x4x128x256, .f32⟩
  | 51 => ⟨S16x2x64x256, .f32⟩
  | 52 => ⟨S16x256x2x64, .f32⟩
  | 53 => ⟨S16x2x4x128x256, .f32⟩
  | 54 => ⟨S16x2x4x128x256, .f32⟩
  | 55 => ⟨S16x2x4x128x256, .f32⟩
  | 56 => ⟨S_, .f32⟩
  | 57 => ⟨S16x2x4x128, .f32⟩
  | 58 => ⟨S16x2x4x128x1, .f32⟩
  | 59 => ⟨S16x2x4x128x1, .f32⟩
  | 60 => ⟨S16x2x4x128x256, .f32⟩
  | 61 => ⟨S16x2x4x128x256, .f32⟩
  | 62 => ⟨S16x2x4x128x1, .f32⟩
  | 63 => ⟨S_, .f32⟩
  | 64 => ⟨S2x4x1, .f32⟩
  | 65 => ⟨S1x2x4x1x1, .f32⟩
  | 66 => ⟨S16x2x4x128x1, .f32⟩
  | 67 => ⟨S_, .f32⟩
  | 68 => ⟨S16x2x4x128, .f32⟩
  | 69 => ⟨S16x2x4x128x256, .f32⟩
  | 70 => ⟨S16x2x4x128x256, .f32⟩
  | 71 => ⟨S16x2x4x128x256, .f32⟩
  | 72 => ⟨S16x2x4x128x256, .f32⟩
  | 73 => ⟨S_, .f32⟩
  | 74 => ⟨S16x2x4x128, .f32⟩
  | 75 => ⟨S16x2x4x128x1, .f32⟩
  | 76 => ⟨S16x2x4x128x1, .f32⟩
  | 77 => ⟨S16x2x4x128x1, .f32⟩
  | 78 => ⟨S_, .f32⟩
  | 79 => ⟨S2x4x1, .f32⟩
  | 80 => ⟨S1x2x4x1x1, .f32⟩
  | 81 => ⟨S1x2x4x1x1, .f32⟩
  | 82 => ⟨S16x2x4x128x1, .f32⟩
  | 83 => ⟨S_, .f32⟩
  | 84 => ⟨S16x2x4x128, .f32⟩
  | 85 => ⟨S16x2x4x128, .f32⟩
  | 86 => ⟨S16x2x4x128x256, .f32⟩
  | 87 => ⟨S16x2x4x128x256, .f32⟩
  | 88 => ⟨S16x2x4x128x256, .f32⟩
  | 89 => ⟨S_, .f32⟩
  | 90 => ⟨S16x2x4x128x256, .f32⟩
  | 91 => ⟨S16x2x4x128x256, .f32⟩
  | 92 => ⟨S_, .f32⟩
  | 93 => ⟨S16x2x4x128x256, .f32⟩
  | 94 => ⟨S16x2x4x128x256, .f32⟩
  | 95 => ⟨S16x2x256x128x4, .f32⟩
  | 96 => ⟨S16x2x128x4x64, .f32⟩
  | 97 => ⟨S16x128x2x4x64, .f32⟩
  | 98 => ⟨S16x2x256x64, .f32⟩
  | 99 => ⟨S16x256x2x64, .f32⟩
  | 100 => ⟨S8, .f32⟩
  | 101 => ⟨S16x128x2x64, .f32⟩
  | 102 => ⟨S16x128x2x64, .f32⟩
  | 103 => ⟨S1x128x2x64, .f32⟩
  | 104 => ⟨S15x128x2x64, .f32⟩
  | 105 => ⟨S_, .f32⟩
  | 106 => ⟨S16x128x2x64, .f32⟩
  | 107 => ⟨S16x128x2x64, .f32⟩
  | 108 => ⟨S2048x128, .f32⟩
  | 109 => ⟨S16x128x2x64, .f32⟩
  | 110 => ⟨S16x128x2x64, .f32⟩
  | 111 => ⟨S1x128x2x64, .f32⟩
  | 112 => ⟨S15x128x2x64, .f32⟩
  | 113 => ⟨S_, .f32⟩
  | 114 => ⟨S16x128x2x64, .f32⟩
  | 115 => ⟨S16x128x2x64, .f32⟩
  | 116 => ⟨S2048x128, .f32⟩
  | 117 => ⟨S2048x512, .f32⟩
  | 118 => ⟨S_, .i32⟩
  | 119 => ⟨S_, .f32⟩
  | 120 => ⟨S128, .f32⟩
  | 121 => ⟨S1x128, .f32⟩
  | 122 => ⟨S1x512, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_call0_v0 : Ref sig .tc := ⟨.hbm, 70, rfl⟩
abbrev main_v52_1 : Ref sig .tc := ⟨.hbm, 71, rfl⟩
abbrev main_call0_v2 : Ref sig .tc := ⟨.hbm, 72, rfl⟩
abbrev main_v52_0 : Ref sig .tc := ⟨.hbm, 73, rfl⟩
abbrev main_call0_cst : Ref sig .tc := ⟨.hbm, 74, rfl⟩
abbrev main_v52_2 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_12 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_cst_16 : Ref sig .tc := ⟨.hbm, 105, rfl⟩
abbrev main_v76 : Ref sig .tc := ⟨.hbm, 106, rfl⟩
abbrev main_cst_17 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_18 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_19 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_20 : Ref sig .tc := ⟨.hbm, 132, rfl⟩
abbrev main_v99 : Ref sig .tc := ⟨.hbm, 133, rfl⟩
abbrev main_v100 : Ref sig .tc := ⟨.hbm, 134, rfl⟩
abbrev main_cst_21 : Ref sig .tc := ⟨.hbm, 135, rfl⟩
abbrev main_v101 : Ref sig .tc := ⟨.hbm, 136, rfl⟩
abbrev main_v102 : Ref sig .tc := ⟨.hbm, 137, rfl⟩
abbrev main_cst_22 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_23 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_cst_24 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_cst_25 : Ref sig .tc := ⟨.hbm, 157, rfl⟩
abbrev main_v119 : Ref sig .tc := ⟨.hbm, 158, rfl⟩
abbrev main_v120 : Ref sig .tc := ⟨.hbm, 159, rfl⟩
abbrev main_cst_26 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_27 : Ref sig .tc := ⟨.hbm, 166, rfl⟩
abbrev main_v126 : Ref sig .tc := ⟨.hbm, 167, rfl⟩
abbrev main_v127 : Ref sig .tc := ⟨.hbm, 168, rfl⟩
abbrev main_cst_28 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_cst_29 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_cst_30 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_cst_31 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_cst_32 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_cst_33 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_cst_34 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_call1_cst : Ref sig .tc := ⟨.hbm, 217, rfl⟩
abbrev main_call1_v0 : Ref sig .tc := ⟨.hbm, 218, rfl⟩
abbrev main_v169 : Ref sig .tc := ⟨.hbm, 219, rfl⟩
abbrev main_cst_35 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_cst_36 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_cst_37 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_c_38 : Ref sig .tc := ⟨.hbm, 246, rfl⟩
abbrev main_call2_v0 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩

abbrev nD : Nat := 1
abbrev τ : Topo := Topo.v7x

variable {F : FTy → Type} [FloatOps F]
-- ==== InBwd.lean ====
abbrev S2048x1024 : Shape := ⟨2, ![2048, 1024]⟩
abbrev S2048 : Shape := ⟨1, ![2048]⟩
abbrev S1x1024 : Shape := ⟨2, ![1, 1024]⟩
abbrev S1x1024x1280 : Shape := ⟨3, ![1, 1024, 1280]⟩
abbrev S2048x512 : Shape := ⟨2, ![2048, 512]⟩
abbrev S2048x128 : Shape := ⟨2, ![2048, 128]⟩
abbrev S8 : Shape := ⟨1, ![8]⟩
abbrev S_ : Shape := ⟨0, ![]⟩
abbrev S48 : Shape := ⟨1, ![48]⟩
abbrev S16 : Shape := ⟨1, ![16]⟩
abbrev S64 : Shape := ⟨1, ![64]⟩
abbrev S128 : Shape := ⟨1, ![128]⟩
abbrev S1x128 : Shape := ⟨2, ![1, 128]⟩
abbrev S2048x1 : Shape := ⟨2, ![2048, 1]⟩
abbrev S8x256x512 : Shape := ⟨3, ![8, 256, 512]⟩
abbrev S256x8x512 : Shape := ⟨3, ![256, 8, 512]⟩
abbrev S256x4096 : Shape := ⟨2, ![256, 4096]⟩
abbrev S1024x1280 : Shape := ⟨2, ![1024, 1280]⟩
abbrev S1280x1024 : Shape := ⟨2, ![1280, 1024]⟩
abbrev S2048x1280 : Shape := ⟨2, ![2048, 1280]⟩
abbrev S256x512 : Shape := ⟨2, ![256, 512]⟩
abbrev S256x128 : Shape := ⟨2, ![256, 128]⟩
abbrev S256x1024 : Shape := ⟨2, ![256, 1024]⟩
abbrev S256x1280 : Shape := ⟨2, ![256, 1280]⟩
abbrev S1x512 : Shape := ⟨2, ![1, 512]⟩
abbrev S256 : Shape := ⟨1, ![256]⟩
abbrev S256x1 : Shape := ⟨2, ![256, 1]⟩
abbrev S1024 : Shape := ⟨1, ![1024]⟩

abbrev nBuf : Space → Nat
  | .hbm => 51
  | .vmem => 23
  | .smem => 0
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S1x1024, .f32⟩
  | .hbm, ⟨3, _⟩ => ⟨S1x1024x1280, .f32⟩
  | .hbm, ⟨4, _⟩ => ⟨S2048x1024, .f32⟩
  | .hbm, ⟨5, _⟩ => ⟨S2048x512, .f32⟩
  | .hbm, ⟨6, _⟩ => ⟨S2048x512, .f32⟩
  | .hbm, ⟨7, _⟩ => ⟨S2048x128, .f32⟩
  | .hbm, ⟨8, _⟩ => ⟨S2048x128, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S48, .f32⟩
  | .hbm, ⟨22, _⟩ => ⟨S_, .f32⟩
  | .hbm, ⟨23, _⟩ => ⟨S8, .f32⟩
  | .hbm, ⟨24, _⟩ => ⟨S16, .f32⟩
  | .hbm, ⟨25, _⟩ => ⟨S64, .f32⟩
  | .hbm, ⟨26, _⟩ => ⟨S128, .f32⟩
  | .hbm, ⟨27, _⟩ => ⟨S1x128, .f32⟩
  | .hbm, ⟨28, _⟩ => ⟨S8, .f32⟩
  | .hbm, ⟨29, _⟩ => ⟨S16, .f32⟩
  | .hbm, ⟨30, _⟩ => ⟨S64, .f32⟩
  | .hbm, ⟨31, _⟩ => ⟨S128, .f32⟩
  | .hbm, ⟨32, _⟩ => ⟨S1x128, .f32⟩
  | .hbm, ⟨33, _⟩ => ⟨S2048x1, .i32⟩
  | .hbm, ⟨34, _⟩ => ⟨S2048x1, .f32⟩
  | .hbm, ⟨35, _⟩ => ⟨S2048x128, .f32⟩
  | .hbm, ⟨36, _⟩ => ⟨S2048x128, .f32⟩
  | .hbm, ⟨37, _⟩ => ⟨S2048x128, .f32⟩
  | .hbm, ⟨38, _⟩ => ⟨S2048x128, .f32⟩
  | .hbm, ⟨39, _⟩ => ⟨S2048x128, .f32⟩
  | .hbm, ⟨40, _⟩ => ⟨S2048x128, .f32⟩
  | .hbm, ⟨41, _⟩ => ⟨S2048x128, .f32⟩
  | .hbm, ⟨42, _⟩ => ⟨S8x256x512, .f32⟩
  | .hbm, ⟨43, _⟩ => ⟨S256x8x512, .f32⟩
  | .hbm, ⟨44, _⟩ => ⟨S256x4096, .f32⟩
  | .hbm, ⟨45, _⟩ => ⟨S1024x1280, .f32⟩
  | .hbm, ⟨46, _⟩ => ⟨S1280x1024, .f32⟩
  | .hbm, ⟨47, _⟩ => ⟨S1280x1024, .bf16⟩
  | .hbm, ⟨48, _⟩ => ⟨S2048x1280, .bf16⟩
  | .hbm, ⟨49, _⟩ => ⟨S2048x1024, .f32⟩
  | .hbm, ⟨50, _⟩ => ⟨S1x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S1280x1024, .bf16⟩
  | .local _ .vmem, ⟨18, _⟩ => ⟨S256x1280, .bf16⟩
  | .local _ .vmem, ⟨19, _⟩ => ⟨S256x1280, .bf16⟩
  | .local _ .vmem, ⟨20, _⟩ => ⟨S256x1024, .f32⟩
  | .local _ .vmem, ⟨21, _⟩ => ⟨S256x1024, .f32⟩
  | .local _ .vmem, ⟨22, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34_0 : Ref sig .tc := ⟨.hbm, 48, rfl⟩
abbrev main_v34_1 : Ref sig .tc := ⟨.hbm, 49, rfl⟩
abbrev main_v34_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v83 : BitVec 32 := Scalar.extui v0
  let c0_i32_32 : BitVec 32 := 0#32
  let v84 : BitVec 1 := Scalar.cmpi .ne v83 c0_i32_32
  v84

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v85 : BitVec 1 := Scalar.xori v0 v_true
  let v86 : BitVec 32 := Scalar.extui v85
  let c0_i32_33 : BitVec 32 := 0#32
  let v87 : BitVec 1 := Scalar.cmpi .ne v86 c0_i32_33
  v87

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1280x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1280 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== InGradIdeal.lean ====
abbrev S2048x1024 : Shape := ⟨2, ![2048, 1024]⟩
abbrev S2048 : Shape := ⟨1, ![2048]⟩
abbrev S1x1024 : Shape := ⟨2, ![1, 1024]⟩
abbrev S1x1024x1280 : Shape := ⟨3, ![1, 1024, 1280]⟩
abbrev S2048x512 : Shape := ⟨2, ![2048, 512]⟩
abbrev S2048x128 : Shape := ⟨2, ![2048, 128]⟩
abbrev S1024 : Shape := ⟨1, ![1024]⟩
abbrev S_ : Shape := ⟨0, ![]⟩
abbrev S2048x1 : Shape := ⟨2, ![2048, 1]⟩
abbrev S1024x1280 : Shape := ⟨2, ![1024, 1280]⟩
abbrev S2048x1280 : Shape := ⟨2, ![2048, 1280]⟩
abbrev S2048x8x64 : Shape := ⟨3, ![2048, 8, 64]⟩
abbrev S8 : Shape := ⟨1, ![8]⟩
abbrev S1x8 : Shape := ⟨2, ![1, 8]⟩
abbrev S2048x8 : Shape := ⟨2, ![2048, 8]⟩
abbrev S2048x1x8 : Shape := ⟨3, ![2048, 1, 8]⟩
abbrev S2048x8x8 : Shape := ⟨3, ![2048, 8, 8]⟩
abbrev S2048x8x48 : Shape := ⟨3, ![2048, 8, 48]⟩
abbrev S2048x2x64 : Shape := ⟨3, ![2048, 2, 64]⟩
abbrev S2048x2x8 : Shape := ⟨3, ![2048, 2, 8]⟩
abbrev S2048x2x48 : Shape := ⟨3, ![2048, 2, 48]⟩

abbrev nBuf : Space → Nat
  | .hbm => 198
  | .vmem => 0
  | .smem => 0
  | _ => 0

abbrev hbmTy0_0 (i : Nat) : BufTy := match i % 128 with
  | 0 => ⟨S2048x1024, .f32⟩
  | 1 => ⟨S2048, .i32⟩
  | 2 => ⟨S1x1024, .f32⟩
  | 3 => ⟨S1x1024x1280, .f32⟩
  | 4 => ⟨S2048x1024, .f32⟩
  | 5 => ⟨S2048x512, .f32⟩
  | 6 => ⟨S2048x512, .f32⟩
  | 7 => ⟨S2048x128, .f32⟩
  | 8 => ⟨S2048x128, .f32⟩
  | 9 => ⟨S1024, .f32⟩
  | 10 => ⟨S2048x1024, .f32⟩
  | 11 => ⟨S_, .f32⟩
  | 12 => ⟨S2048, .f32⟩
  | 13 => ⟨S2048x1, .f32⟩
  | 14 => ⟨S_, .f32⟩
  | 15 => ⟨S2048x1, .f32⟩
  | 16 => ⟨S2048x1, .f32⟩
  | 17 => ⟨S_, .f32⟩
  | 18 => ⟨S2048x1, .f32⟩
  | 19 => ⟨S2048x1, .f32⟩
  | 20 => ⟨S2048x1, .f32⟩
  | 21 => ⟨S2048x1, .f32⟩
  | 22 => ⟨S_, .f32⟩
  | 23 => ⟨S2048x1, .f32⟩
  | 24 => ⟨S2048x1, .f32⟩
  | 25 => ⟨S2048x1024, .f32⟩
  | 26 => ⟨S2048x1024, .f32⟩
  | 27 => ⟨S1x1024, .f32⟩
  | 28 => ⟨S2048x1024, .f32⟩
  | 29 => ⟨S2048x1024, .f32⟩
  | 30 => ⟨S1024x1280, .f32⟩
  | 31 => ⟨S2048x1280, .f32⟩
  | 32 => ⟨S2048x512, .f32⟩
  | 33 => ⟨S2048x512, .f32⟩
  | 34 => ⟨S2048x8x64, .f32⟩
  | 35 => ⟨S8, .f32⟩
  | 36 => ⟨S8, .f32⟩
  | 37 => ⟨S_, .f32⟩
  | 38 => ⟨S8, .f32⟩
  | 39 => ⟨S8, .f32⟩
  | 40 => ⟨S_, .f32⟩
  | 41 => ⟨S8, .f32⟩
  | 42 => ⟨S8, .f32⟩
  | 43 => ⟨S_, .f32⟩
  | 44 => ⟨S8, .f32⟩
  | 45 => ⟨S8, .f32⟩
  | 46 => ⟨S2048, .f32⟩
  | 47 => ⟨S2048x1, .f32⟩
  | 48 => ⟨S1x8, .f32⟩
  | 49 => ⟨S2048x8, .f32⟩
  | 50 => ⟨S2048x8, .f32⟩
  | 51 => ⟨S2048x8, .f32⟩
  | 52 => ⟨S2048x8, .f32⟩
  | 53 => ⟨S2048x1x8, .f32⟩
  | 54 => ⟨S2048x8, .f32⟩
  | 55 => ⟨S2048x1x8, .f32⟩
  | 56 => ⟨S2048x8x8, .f32⟩
  | 57 => ⟨S2048x8x8, .f32⟩
  | 58 => ⟨S2048x8x8, .f32⟩
  | 59 => ⟨S2048x8x8, .f32⟩
  | 60 => ⟨S2048x8x8, .f32⟩
  | 61 => ⟨S2048x8x8, .f32⟩
  | 62 => ⟨S2048x8x8, .f32⟩
  | 63 => ⟨S2048x8x8, .f32⟩
  | 64 => ⟨S2048x8x8, .f32⟩
  | 65 => ⟨S2048x8x8, .f32⟩
  | 66 => ⟨S2048x8x8, .f32⟩
  | 67 => ⟨S2048x8x8, .f32⟩
  | 68 => ⟨S2048x8x48, .f32⟩
  | 69 => ⟨S2048x8x64, .f32⟩
  | 70 => ⟨S2048x512, .f32⟩
  | 71 => ⟨S2048x128, .f32⟩
  | 72 => ⟨S2048x2x64, .f32⟩
  | 73 => ⟨S8, .f32⟩
  | 74 => ⟨S8, .f32⟩
  | 75 => ⟨S_, .f32⟩
  | 76 => ⟨S8, .f32⟩
  | 77 => ⟨S8, .f32⟩
  | 78 => ⟨S_, .f32⟩
  | 79 => ⟨S8, .f32⟩
  | 80 => ⟨S8, .f32⟩
  | 81 => ⟨S_, .f32⟩
  | 82 => ⟨S8, .f32⟩
  | 83 => ⟨S8, .f32⟩
  | 84 => ⟨S2048, .f32⟩
  | 85 => ⟨S2048x1, .f32⟩
  | 86 => ⟨S1x8, .f32⟩
  | 87 => ⟨S2048x8, .f32⟩
  | 88 => ⟨S2048x8, .f32⟩
  | 89 => ⟨S2048x8, .f32⟩
  | 90 => ⟨S2048x8, .f32⟩
  | 91 => ⟨S2048x1x8, .f32⟩
  | 92 => ⟨S2048x8, .f32⟩
  | 93 => ⟨S2048x1x8, .f32⟩
  | 94 => ⟨S2048x2x8, .f32⟩
  | 95 => ⟨S2048x2x8, .f32⟩
  | 96 => ⟨S2048x2x8, .f32⟩
  | 97 => ⟨S2048x2x8, .f32⟩
  | 98 => ⟨S2048x2x8, .f32⟩
  | 99 => ⟨S2048x2x8, .f32⟩
  | 100 => ⟨S2048x2x8, .f32⟩
  | 101 => ⟨S2048x2x8, .f32⟩
  | 102 => ⟨S2048x2x8, .f32⟩
  | 103 => ⟨S2048x2x8, .f32⟩
  | 104 => ⟨S2048x2x8, .f32⟩
  | 105 => ⟨S2048x2x8, .f32⟩
  | 106 => ⟨S2048x2x48, .f32⟩
  | 107 => ⟨S2048x2x64, .f32⟩
  | 108 => ⟨S2048x128, .f32⟩
  | 109 => ⟨S2048x128, .f32⟩
  | 110 => ⟨S_, .f32⟩
  | 111 => ⟨S2048x1280, .f32⟩
  | 112 => ⟨S2048x2x64, .f32⟩
  | 113 => ⟨S2048x2x8, .f32⟩
  | 114 => ⟨S2048x2x8, .f32⟩
  | 115 => ⟨S2048x2x48, .f32⟩
  | 116 => ⟨S_, .f32⟩
  | 117 => ⟨S2048x2x64, .f32⟩
  | 118 => ⟨S2048x2x8, .f32⟩
  | 119 => ⟨S2048x2x8, .f32⟩
  | 120 => ⟨S2048x2x8, .f32⟩
  | 121 => ⟨S2048x2x8, .f32⟩
  | 122 => ⟨S2048x2x8, .f32⟩
  | 123 => ⟨S2048x2x8, .f32⟩
  | 124 => ⟨S2048x2x8, .f32⟩
  | 125 => ⟨S2048x2x8, .f32⟩
  | 126 => ⟨S2048x2x8, .f32⟩
  | 127 => ⟨S2048x2x8, .f32⟩
  | _ => ⟨S2048x1024, .f32⟩

abbrev hbmTy0_1 (i : Nat) : BufTy := match i % 128 with
  | 0 => ⟨S2048x2x8, .f32⟩
  | 1 => ⟨S_, .f32⟩
  | 2 => ⟨S2048x2x64, .f32⟩
  | 3 => ⟨S2048x2x64, .f32⟩
  | 4 => ⟨S_, .f32⟩
  | 5 => ⟨S2048x2x64, .f32⟩
  | 6 => ⟨S2048x2x64, .f32⟩
  | 7 => ⟨S2048x128, .f32⟩
  | 8 => ⟨S_, .f32⟩
  | 9 => ⟨S2048x1280, .f32⟩
  | 10 => ⟨S2048x1280, .f32⟩
  | 11 => ⟨S2048x8x64, .f32⟩
  | 12 => ⟨S2048x8x8, .f32⟩
  | 13 => ⟨S2048x8x8, .f32⟩
  | 14 => ⟨S2048x8x48, .f32⟩
  | 15 => ⟨S_, .f32⟩
  | 16 => ⟨S2048x8x64, .f32⟩
  | 17 => ⟨S2048x8x8, .f32⟩
  | 18 => ⟨S2048x8x8, .f32⟩
  | 19 => ⟨S2048x8x8, .f32⟩
  | 20 => ⟨S2048x8x8, .f32⟩
  | 21 => ⟨S2048x8x8, .f32⟩
  | 22 => ⟨S2048x8x8, .f32⟩
  | 23 => ⟨S2048x8x8, .f32⟩
  | 24 => ⟨S2048x8x8, .f32⟩
  | 25 => ⟨S2048x8x8, .f32⟩
  | 26 => ⟨S2048x8x8, .f32⟩
  | 27 => ⟨S2048x8x8, .f32⟩
  | 28 => ⟨S_, .f32⟩
  | 29 => ⟨S2048x8x64, .f32⟩
  | 30 => ⟨S2048x8x64, .f32⟩
  | 31 => ⟨S_, .f32⟩
  | 32 => ⟨S2048x8x64, .f32⟩
  | 33 => ⟨S2048x8x64, .f32⟩
  | 34 => ⟨S2048x512, .f32⟩
  | 35 => ⟨S_, .f32⟩
  | 36 => ⟨S2048x1280, .f32⟩
  | 37 => ⟨S2048x1280, .f32⟩
  | 38 => ⟨S_, .f32⟩
  | 39 => ⟨S2048x1280, .f32⟩
  | 40 => ⟨S2048x1280, .f32⟩
  | 41 => ⟨S2048x1024, .f32⟩
  | 42 => ⟨S2048x1024, .f32⟩
  | 43 => ⟨S_, .f32⟩
  | 44 => ⟨S1024, .f32⟩
  | 45 => ⟨S1x1024, .f32⟩
  | 46 => ⟨S2048x1024, .f32⟩
  | 47 => ⟨S2048x1024, .f32⟩
  | 48 => ⟨S_, .f32⟩
  | 49 => ⟨S1024, .f32⟩
  | 50 => ⟨S2048x1024, .f32⟩
  | 51 => ⟨S_, .f32⟩
  | 52 => ⟨S2048, .f32⟩
  | 53 => ⟨S2048x1, .f32⟩
  | 54 => ⟨S2048x1024, .f32⟩
  | 55 => ⟨S2048x1024, .f32⟩
  | 56 => ⟨S2048x1, .f32⟩
  | 57 => ⟨S_, .f32⟩
  | 58 => ⟨S2048x1, .f32⟩
  | 59 => ⟨S2048x1, .f32⟩
  | 60 => ⟨S_, .f32⟩
  | 61 => ⟨S2048, .f32⟩
  | 62 => ⟨S2048x1024, .f32⟩
  | 63 => ⟨S2048x1024, .f32⟩
  | 64 => ⟨S2048x1024, .f32⟩
  | 65 => ⟨S2048x1024, .f32⟩
  | 66 => ⟨S2048x1024, .f32⟩
  | 67 => ⟨S2048x1280, .bf16⟩
  | 68 => ⟨S2048x1024, .f32⟩
  | 69 => ⟨S1x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_6 : Ref sig .tc := ⟨.hbm, 75, rfl⟩
abbrev main_v59 : Ref sig .tc := ⟨.hbm, 76, rfl⟩
abbrev main_v60 : Ref sig .tc := ⟨.hbm, 77, rfl⟩
abbrev main_cst_7 : Ref sig .tc := ⟨.hbm, 78, rfl⟩
abbrev main_v61 : Ref sig .tc := ⟨.hbm, 79, rfl⟩
abbrev main_v62 : Ref sig .tc := ⟨.hbm, 80, rfl⟩
abbrev main_cst_8 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_9 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_cst_10 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_cst_11 : Ref sig .tc := ⟨.hbm, 129, rfl⟩
abbrev main_v108 : Ref sig .tc := ⟨.hbm, 130, rfl⟩
abbrev main_v109 : Ref sig .tc := ⟨.hbm, 131, rfl⟩
abbrev main_cst_12 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_cst_13 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_cst_14 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_cst_15 : Ref sig .tc := ⟨.hbm, 156, rfl⟩
abbrev main_v131 : Ref sig .tc := ⟨.hbm, 157, rfl⟩
abbrev main_v132 : Ref sig .tc := ⟨.hbm, 158, rfl⟩
abbrev main_cst_16 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_cst_17 : Ref sig .tc := ⟨.hbm, 163, rfl⟩
abbrev main_v136 : Ref sig .tc := ⟨.hbm, 164, rfl⟩
abbrev main_v137 : Ref sig .tc := ⟨.hbm, 165, rfl⟩
abbrev main_cst_18 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_cst_19 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_cst_20 : Ref sig .tc := ⟨.hbm, 176, rfl⟩
abbrev main_v146 : Ref sig .tc := ⟨.hbm, 177, rfl⟩
abbrev main_v147 : Ref sig .tc := ⟨.hbm, 178, rfl⟩
abbrev main_cst_21 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_cst_22 : Ref sig .tc := ⟨.hbm, 185, rfl⟩
abbrev main_v153 : Ref sig .tc := ⟨.hbm, 186, rfl⟩
abbrev main_v154 : Ref sig .tc := ⟨.hbm, 187, rfl⟩
abbrev main_cst_23 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩

abbrev nD : Nat := 1
abbrev τ : Topo := Topo.v7x

variable {F : FTy → Type} [FloatOps F]
-- ==== GluBwd.lean ====
abbrev S2048x512 : Shape := ⟨2, ![2048, 512]⟩
abbrev S1x32x16 : Shape := ⟨3, ![1, 32, 16]⟩
abbrev S1x512x1024 : Shape := ⟨3, ![1, 512, 1024]⟩
abbrev S1x1024 : Shape := ⟨2, ![1, 1024]⟩
abbrev S1x512 : Shape := ⟨2, ![1, 512]⟩
abbrev S8x256x512 : Shape := ⟨3, ![8, 256, 512]⟩
abbrev S256x8x512 : Shape := ⟨3, ![256, 8, 512]⟩
abbrev S512x1024 : Shape := ⟨2, ![512, 1024]⟩
abbrev S1024x512 : Shape := ⟨2, ![1024, 512]⟩
abbrev S_ : Shape := ⟨0, ![]⟩
abbrev S2048x1024 : Shape := ⟨2, ![2048, 1024]⟩
abbrev S256x4096 : Shape := ⟨2, ![256, 4096]⟩
abbrev S32x4096 : Shape := ⟨2, ![32, 4096]⟩
abbrev S256x512 : Shape := ⟨2, ![256, 512]⟩
abbrev S256x1024 : Shape := ⟨2, ![256, 1024]⟩
abbrev S4x256x128 : Shape := ⟨3, ![4, 256, 128]⟩
abbrev S32x128 : Shape := ⟨2, ![32, 128]⟩
abbrev S1x32x128 : Shape := ⟨3, ![1, 32, 128]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S512 : Shape := ⟨1, ![512]⟩
abbrev S1024 : Shape := ⟨1, ![1024]⟩

abbrev nBuf : Space → Nat
  | .hbm => 51
  | .vmem => 23
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S1x32x16, .f32⟩
  | .hbm, ⟨3, _⟩ => ⟨S1x512x1024, .f32⟩
  | .hbm, ⟨4, _⟩ => ⟨S1x1024, .f32⟩
  | .hbm, ⟨5, _⟩ => ⟨S1x512, .f32⟩
  | .hbm, ⟨6, _⟩ => ⟨S2048x512, .f32⟩
  | .hbm, ⟨7, _⟩ => ⟨S8x256x512, .f32⟩
  | .hbm, ⟨8, _⟩ => ⟨S256x8x512, .f32⟩
  | .hbm, ⟨9, _⟩ => ⟨S2048x512, .f32⟩
  | .hbm, ⟨10, _⟩ => ⟨S8x256x512, .f32⟩
  | .hbm, ⟨11, _⟩ => ⟨S256x8x512, .f32⟩
  | .hbm, ⟨12, _⟩ => ⟨S2048x512, .f32⟩
  | .hbm, ⟨13, _⟩ => ⟨S1x512, .f32⟩
  | .hbm, ⟨14, _⟩ => ⟨S512x1024, .f32⟩
  | .hbm, ⟨15, _⟩ => ⟨S1024x512, .f32⟩
  | .hbm, ⟨16, _⟩ => ⟨S1024x512, .bf16⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S_, .f32⟩
  | .hbm, ⟨21, _⟩ => ⟨S2048x512, .f32⟩
  | .hbm, ⟨22, _⟩ => ⟨S2048x512, .f32⟩
  | .hbm, ⟨23, _⟩ => ⟨S_, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .bf16⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S8x256x512, .f32⟩
  | .hbm, ⟨42, _⟩ => ⟨S256x8x512, .f32⟩
  | .hbm, ⟨43, _⟩ => ⟨S256x4096, .f32⟩
  | .hbm, ⟨44, _⟩ => ⟨S2048x512, .bf16⟩
  | .hbm, ⟨45, _⟩ => ⟨S2048x1024, .bf16⟩
  | .hbm, ⟨46, _⟩ => ⟨S2048x512, .bf16⟩
  | .hbm, ⟨47, _⟩ => ⟨S2048x512, .f32⟩
  | .hbm, ⟨48, _⟩ => ⟨S1x512, .f32⟩
  | .hbm, ⟨49, _⟩ => ⟨S1x1024, .f32⟩
  | .hbm, ⟨50, _⟩ => ⟨S1x512, .f32⟩
  | .local _ .vmem, ⟨0, _⟩ => ⟨S32x4096, .f32⟩
  | .local _ .vmem, ⟨1, _⟩ => ⟨S32x4096, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1024x512, .bf16⟩
  | .local _ .vmem, ⟨10, _⟩ => ⟨S1x512, .f32⟩
  | .local _ .vmem, ⟨11, _⟩ => ⟨S256x512, .bf16⟩
  | .local _ .vmem, ⟨12, _⟩ => ⟨S256x512, .bf16⟩
  | .local _ .vmem, ⟨13, _⟩ => ⟨S256x1024, .bf16⟩
  | .local _ .vmem, ⟨14, _⟩ => ⟨S256x1024, .bf16⟩
  | .local _ .vmem, ⟨15, _⟩ => ⟨S256x512, .bf16⟩
  | .local _ .vmem, ⟨16, _⟩ => ⟨S256x512, .bf16⟩
  | .local _ .vmem, ⟨17, _⟩ => ⟨S256x512, .f32⟩
  | .local _ .vmem, ⟨18, _⟩ => ⟨S256x512, .f32⟩
  | .local _ .vmem, ⟨19, _⟩ => ⟨S1x512, .f32⟩
  | .local _ .vmem, ⟨20, _⟩ => ⟨S1x1024, .f32⟩
  | .local _ .vmem, ⟨21, _⟩ => ⟨S1x512, .f32⟩
  | .local _ .vmem, ⟨22, _⟩ => ⟨S4x256x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33_0 : Ref sig .tc := ⟨.hbm, 44, rfl⟩
abbrev main_v33_1 : Ref sig .tc := ⟨.hbm, 45, rfl⟩
abbrev main_v33_2 : Ref sig .tc := ⟨.hbm, 46, rfl⟩
abbrev main_v33_3 : Ref sig .tc := ⟨.hbm, 47, rfl⟩
abbrev main_v33_4 : Ref sig .tc := ⟨.hbm, 48, rfl⟩
abbrev main_v33_5 : Ref sig .tc := ⟨.hbm, 49, rfl⟩
abbrev main_v33_6 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v202 : BitVec 32 := Scalar.extui v0
  let c0_i32_142 : BitVec 32 := 0#32
  let v203 : BitVec 1 := Scalar.cmpi .ne v202 c0_i32_142
  v203

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v204 : BitVec 1 := Scalar.xori v0 v_true
  let v205 : BitVec 32 := Scalar.extui v204
  let c0_i32_143 : BitVec 32 := 0#32
  let v206 : BitVec 1 := Scalar.cmpi .ne v205 c0_i32_143
  v206

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v216 : BitVec 32 := Scalar.extui v0
  let c0_i32_146 : BitVec 32 := 0#32
  let v217 : BitVec 1 := Scalar.cmpi .ne v216 c0_i32_146
  v217

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_147 : BitVec 1 := 1#1
  let v218 : BitVec 1 := Scalar.xori v0 true_147
  let v219 : BitVec 32 := Scalar.extui v218
  let c0_i32_148 : BitVec 32 := 0#32
  let v220 : BitVec 1 := Scalar.cmpi .ne v219 c0_i32_148
  v220

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v278 : BitVec 32 := Scalar.extui v0
  let c0_i32_175 : BitVec 32 := 0#32
  let v279 : BitVec 1 := Scalar.cmpi .ne v278 c0_i32_175
  v279

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_176 : BitVec 1 := 1#1
  let v280 : BitVec 1 := Scalar.xori v0 true_176
  let v281 : BitVec 32 := Scalar.extui v280
  let c0_i32_177 : BitVec 32 := 0#32
  let v282 : BitVec 1 := Scalar.cmpi .ne v281 c0_i32_177
  v282

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== GluGradIdeal.lean ====
abbrev S2048x512 : Shape := ⟨2, ![2048, 512]⟩
abbrev S1x32x16 : Shape := ⟨3, ![1, 32, 16]⟩
abbrev S1x512x1024 : Shape := ⟨3, ![1, 512, 1024]⟩
abbrev S1x1024 : Shape := ⟨2, ![1, 1024]⟩
abbrev S1x512 : Shape := ⟨2, ![1, 512]⟩
abbrev S32x16 : Shape := ⟨2, ![32, 16]⟩
abbrev S512 : Shape := ⟨1, ![512]⟩
abbrev S_ : Shape := ⟨0, ![]⟩
abbrev S1024 : Shape := ⟨1, ![1024]⟩
abbrev S512x1024 : Shape := ⟨2, ![512, 1024]⟩
abbrev S2048x1024 : Shape := ⟨2, ![2048, 1024]⟩
abbrev S2048 : Shape := ⟨1, ![2048]⟩
abbrev S2048x1 : Shape := ⟨2, ![2048, 1]⟩
abbrev S8x256x512 : Shape := ⟨3, ![8, 256, 512]⟩
abbrev S256x8x512 : Shape := ⟨3, ![256, 8, 512]⟩
abbrev S8x256x1024 : Shape := ⟨3, ![8, 256, 1024]⟩
abbrev S256x8x1024 : Shape := ⟨3, ![256, 8, 1024]⟩

abbrev nBuf : Space → Nat
  | .hbm => 163
  | .vmem => 0
  | .smem => 0
  | _ => 0

abbrev hbmTy0_0 (i : Nat) : BufTy := match i % 128 with
  | 0 => ⟨S2048x512, .f32⟩
  | 1 => ⟨S2048x512, .f32⟩
  | 2 => ⟨S1x32x16, .f32⟩
  | 3 => ⟨S1x512x1024, .f32⟩
  | 4 => ⟨S1x1024, .f32⟩
  | 5 => ⟨S1x512, .f32⟩
  | 6 => ⟨S2048x512, .f32⟩
  | 7 => ⟨S32x16, .f32⟩
  | 8 => ⟨S512, .f32⟩
  | 9 => ⟨S1x512, .f32⟩
  | 10 => ⟨S2048x512, .f32⟩
  | 11 => ⟨S2048x512, .f32⟩
  | 12 => ⟨S2048x512, .f32⟩
  | 13 => ⟨S2048x512, .f32⟩
  | 14 => ⟨S2048x512, .f32⟩
  | 15 => ⟨S2048x512, .f32⟩
  | 16 => ⟨S_, .f32⟩
  | 17 => ⟨S2048x512, .f32⟩
  | 18 => ⟨S2048x512, .f32⟩
  | 19 => ⟨S_, .f32⟩
  | 20 => ⟨S2048x512, .f32⟩
  | 21 => ⟨S2048x512, .f32⟩
  | 22 => ⟨S2048x512, .f32⟩
  | 23 => ⟨S_, .f32⟩
  | 24 => ⟨S2048x512, .f32⟩
  | 25 => ⟨S2048x512, .f32⟩
  | 26 => ⟨S2048x512, .f32⟩
  | 27 => ⟨S_, .f32⟩
  | 28 => ⟨S2048x512, .f32⟩
  | 29 => ⟨S2048x512, .f32⟩
  | 30 => ⟨S_, .f32⟩
  | 31 => ⟨S2048x512, .f32⟩
  | 32 => ⟨S2048x512, .f32⟩
  | 33 => ⟨S2048x512, .f32⟩
  | 34 => ⟨S_, .f32⟩
  | 35 => ⟨S2048x512, .f32⟩
  | 36 => ⟨S2048x512, .f32⟩
  | 37 => ⟨S_, .f32⟩
  | 38 => ⟨S2048x512, .f32⟩
  | 39 => ⟨S2048x512, .f32⟩
  | 40 => ⟨S2048x512, .f32⟩
  | 41 => ⟨S1024, .f32⟩
  | 42 => ⟨S512x1024, .f32⟩
  | 43 => ⟨S2048x1024, .f32⟩
  | 44 => ⟨S1x1024, .f32⟩
  | 45 => ⟨S2048x1024, .f32⟩
  | 46 => ⟨S2048x1024, .f32⟩
  | 47 => ⟨S512, .f32⟩
  | 48 => ⟨S2048x512, .f32⟩
  | 49 => ⟨S2048x512, .f32⟩
  | 50 => ⟨S2048x512, .f32⟩
  | 51 => ⟨S2048x512, .f32⟩
  | 52 => ⟨S_, .f32⟩
  | 53 => ⟨S2048x512, .f32⟩
  | 54 => ⟨S2048x512, .f32⟩
  | 55 => ⟨S_, .f32⟩
  | 56 => ⟨S2048x512, .f32⟩
  | 57 => ⟨S2048x512, .f32⟩
  | 58 => ⟨S_, .f32⟩
  | 59 => ⟨S2048x512, .f32⟩
  | 60 => ⟨S2048x512, .f32⟩
  | 61 => ⟨S2048x512, .f32⟩
  | 62 => ⟨S2048x512, .f32⟩
  | 63 => ⟨S2048x512, .f32⟩
  | 64 => ⟨S_, .f32⟩
  | 65 => ⟨S2048, .f32⟩
  | 66 => ⟨S2048x1, .f32⟩
  | 67 => ⟨S_, .f32⟩
  | 68 => ⟨S2048x1, .f32⟩
  | 69 => ⟨S2048x1, .f32⟩
  | 70 => ⟨S_, .f32⟩
  | 71 => ⟨S2048x1, .f32⟩
  | 72 => ⟨S2048x1, .f32⟩
  | 73 => ⟨S2048x1, .f32⟩
  | 74 => ⟨S2048x1, .f32⟩
  | 75 => ⟨S_, .f32⟩
  | 76 => ⟨S2048x1, .f32⟩
  | 77 => ⟨S2048x1, .f32⟩
  | 78 => ⟨S2048x512, .f32⟩
  | 79 => ⟨S2048x512, .f32⟩
  | 80 => ⟨S1x512, .f32⟩
  | 81 => ⟨S2048x512, .f32⟩
  | 82 => ⟨S2048x512, .f32⟩
  | 83 => ⟨S2048x512, .f32⟩
  | 84 => ⟨S_, .f32⟩
  | 85 => ⟨S512, .f32⟩
  | 86 => ⟨S1x512, .f32⟩
  | 87 => ⟨S2048x512, .f32⟩
  | 88 => ⟨S2048x512, .f32⟩
  | 89 => ⟨S_, .f32⟩
  | 90 => ⟨S512, .f32⟩
  | 91 => ⟨S2048x512, .f32⟩
  | 92 => ⟨S_, .f32⟩
  | 93 => ⟨S2048, .f32⟩
  | 94 => ⟨S2048x1, .f32⟩
  | 95 => ⟨S2048x512, .f32⟩
  | 96 => ⟨S2048x512, .f32⟩
  | 97 => ⟨S2048x1, .f32⟩
  | 98 => ⟨S_, .f32⟩
  | 99 => ⟨S2048x1, .f32⟩
  | 100 => ⟨S2048x1, .f32⟩
  | 101 => ⟨S_, .f32⟩
  | 102 => ⟨S2048, .f32⟩
  | 103 => ⟨S2048x512, .f32⟩
  | 104 => ⟨S2048x512, .f32⟩
  | 105 => ⟨S2048x512, .f32⟩
  | 106 => ⟨S2048x512, .f32⟩
  | 107 => ⟨S2048x512, .f32⟩
  | 108 => ⟨S2048x512, .f32⟩
  | 109 => ⟨S2048x512, .f32⟩
  | 110 => ⟨S2048x512, .f32⟩
  | 111 => ⟨S_, .f32⟩
  | 112 => ⟨S2048x1024, .f32⟩
  | 113 => ⟨S_, .f32⟩
  | 114 => ⟨S2048x1024, .f32⟩
  | 115 => ⟨S2048x1024, .f32⟩
  | 116 => ⟨S_, .f32⟩
  | 117 => ⟨S1024, .f32⟩
  | 118 => ⟨S1x1024, .f32⟩
  | 119 => ⟨S_, .f32⟩
  | 120 => ⟨S1024, .f32⟩
  | 121 => ⟨S2048x512, .f32⟩
  | 122 => ⟨S2048x512, .f32⟩
  | 123 => ⟨S2048x512, .f32⟩
  | 124 => ⟨S_, .f32⟩
  | 125 => ⟨S2048x512, .f32⟩
  | 126 => ⟨S2048x512, .f32⟩
  | 127 => ⟨S2048x512, .f32⟩
  | _ => ⟨S2048x512, .f32⟩

abbrev hbmTy0_1 (i : Nat) : BufTy := match i % 128 with
  | 0 => ⟨S_, .f32⟩
  | 1 => ⟨S2048x512, .f32⟩
  | 2 => ⟨S2048x512, .f32⟩
  | 3 => ⟨S2048x512, .f32⟩
  | 4 => ⟨S_, .f32⟩
  | 5 => ⟨S2048x512, .f32⟩
  | 6 => ⟨S2048x512, .f32⟩
  | 7 => ⟨S2048x512, .f32⟩
  | 8 => ⟨S2048x512, .f32⟩
  | 9 => ⟨S2048x512, .f32⟩
  | 10 => ⟨S2048x512, .f32⟩
  | 11 => ⟨S2048x512, .f32⟩
  | 12 => ⟨S_, .f32⟩
  | 13 => ⟨S512, .f32⟩
  | 14 => ⟨S1x512, .f32⟩
  | 15 => ⟨S_, .f32⟩
  | 16 => ⟨S512, .f32⟩
  | 17 => ⟨S8x256x512, .f32⟩
  | 18 => ⟨S256x8x512, .f32⟩
  | 19 => ⟨S2048x512, .f32⟩
  | 20 => ⟨S2048x512, .bf16⟩
  | 21 => ⟨S8x256x1024, .f32⟩
  | 22 => ⟨S256x8x1024, .f32⟩
  | 23 => ⟨S2048x1024, .f32⟩
  | 24 => ⟨S2048x1024, .bf16⟩
  | 25 => ⟨S8x256x512, .f32⟩
  | 26 => ⟨S256x8x512, .f32⟩
  | 27 => ⟨S2048x512, .f32⟩
  | 28 => ⟨S2048x512, .bf16⟩
  | 29 => ⟨S8x256x512, .f32⟩
  | 30 => ⟨S256x8x512, .f32⟩
  | 31 => ⟨S2048x512, .f32⟩
  | 32 => ⟨S1x512, .f32⟩
  | 33 => ⟨S1x1024, .f32⟩
  | 34 => ⟨S1x512, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_cst_15 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_16 : Ref sig .tc := ⟨.hbm, 98, rfl⟩
abbrev main_v74 : Ref sig .tc := ⟨.hbm, 99, rfl⟩
abbrev main_v75 : Ref sig .tc := ⟨.hbm, 100, rfl⟩
abbrev main_cst_17 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_18 : Ref sig .tc := ⟨.hbm, 111, rfl⟩
abbrev main_v85 : Ref sig .tc := ⟨.hbm, 112, rfl⟩
abbrev main_cst_19 : Ref sig .tc := ⟨.hbm, 113, rfl⟩
abbrev main_v86 : Ref sig .tc := ⟨.hbm, 114, rfl⟩
abbrev main_v87 : Ref sig .tc := ⟨.hbm, 115, rfl⟩
abbrev main_cst_20 : Ref sig .tc := ⟨.hbm, 116, rfl⟩
abbrev main_v88 : Ref sig .tc := ⟨.hbm, 117, rfl⟩
abbrev main_v89 : Ref sig .tc := ⟨.hbm, 118, rfl⟩
abbrev main_cst_21 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_22 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_23 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_24 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_25 : Ref sig .tc := ⟨.hbm, 140, rfl⟩
abbrev main_v107 : Ref sig .tc := ⟨.hbm, 141, rfl⟩
abbrev main_v108 : Ref sig .tc := ⟨.hbm, 142, rfl⟩
abbrev main_cst_26 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩

abbrev nD : Nat := 1
abbrev τ : Topo := Topo.v7x

variable {F : FTy → Type} [FloatOps F]
-- ==== FfnBwd.lean ====
abbrev S2048x1024 : Shape := ⟨2, ![2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩
abbrev S2048 : Shape := ⟨1, ![2048]⟩
abbrev S2048x1 : Shape := ⟨2, ![2048, 1]⟩
abbrev S1024x5632 : Shape := ⟨2, ![1024, 5632]⟩
abbrev S5632x1024 : Shape := ⟨2, ![5632, 1024]⟩
abbrev S2816x1024 : Shape := ⟨2, ![2816, 1024]⟩
abbrev S2816x2048 : Shape := ⟨2, ![2816, 2048]⟩
abbrev S5632x2048 : Shape := ⟨2, ![5632, 2048]⟩
abbrev S1x128 : Shape := ⟨2, ![1, 128]⟩
abbrev S256x1024 : Shape := ⟨2, ![256, 1024]⟩
abbrev S2816x256 : Shape := ⟨2, ![2816, 256]⟩
abbrev S5632x256 : Shape := ⟨2, ![5632, 256]⟩
abbrev S256x5632 : Shape := ⟨2, ![256, 5632]⟩
abbrev S2 : Shape := ⟨1, ![2]⟩
abbrev S1 : Shape := ⟨1, ![1]⟩
abbrev S256x2816 : Shape := ⟨2, ![256, 2816]⟩
abbrev S256 : Shape := ⟨1, ![256]⟩
abbrev S256x1 : Shape := ⟨2, ![256, 1]⟩
abbrev S1x1 : Shape := ⟨2, ![1, 1]⟩
abbrev S1024 : Shape := ⟨1, ![1024]⟩

abbrev nBuf : Space → Nat
  | .hbm => 34
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .bf16⟩
  | .hbm, ⟨22, _⟩ => ⟨S1024x5632, .f32⟩
  | .hbm, ⟨23, _⟩ => ⟨S5632x1024, .f32⟩
  | .hbm, ⟨24, _⟩ => ⟨S5632x1024, .bf16⟩
  | .hbm, ⟨25, _⟩ => ⟨S2816x1024, .f32⟩
  | .hbm, ⟨26, _⟩ => ⟨S2816x1024, .bf16⟩
  | .hbm, ⟨27, _⟩ => ⟨S2816x2048, .bf16⟩
  | .hbm, ⟨28, _⟩ => ⟨S5632x2048, .bf16⟩
  | .hbm, ⟨29, _⟩ => ⟨S2048x1024, .bf16⟩
  | .hbm, ⟨30, _⟩ => ⟨S2048x1024, .f32⟩
  | .hbm, ⟨31, _⟩ => ⟨S1x128, .f32⟩
  | .hbm, ⟨32, _⟩ => ⟨S1x1024, .f32⟩
  | .hbm, ⟨33, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S2816x256, .bf16⟩
  | .local _ .vmem, ⟨9, _⟩ => ⟨S2816x256, .bf16⟩
  | .local _ .vmem, ⟨10, _⟩ => ⟨S5632x256, .bf16⟩
  | .local _ .vmem, ⟨11, _⟩ => ⟨S5632x256, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S1x128, .f32⟩
  | .local _ .vmem, ⟨17, _⟩ => ⟨S1x1024, .f32⟩
  | .local _ .vmem, ⟨18, _⟩ => ⟨S1x1024, .f32⟩
  | .local _ .vmem, ⟨19, _⟩ => ⟨S5632x1024, .bf16⟩
  | .local _ .vmem, ⟨20, _⟩ => ⟨S2816x1024, .bf16⟩
  | .local _ .vmem, ⟨21, _⟩ => ⟨S256x5632, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev main_v18_5 : Ref sig .tc := ⟨.hbm, 32, rfl⟩
abbrev main_v18_6 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v54 : BitVec 32 := Scalar.extui v0
  let c0_i32_29 : BitVec 32 := 0#32
  let v55 : BitVec 1 := Scalar.cmpi .ne v54 c0_i32_29
  v55

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v56 : BitVec 1 := Scalar.xori v0 v_true
  let v57 : BitVec 32 := Scalar.extui v56
  let c0_i32_30 : BitVec 32 := 0#32
  let v58 : BitVec 1 := Scalar.cmpi .ne v57 c0_i32_30
  v58

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v78 : BitVec 32 := Scalar.extui v0
  let c0_i32_35 : BitVec 32 := 0#32
  let v79 : BitVec 1 := Scalar.cmpi .ne v78 c0_i32_35
  v79

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let true_36 : BitVec 1 := 1#1
  let v80 : BitVec 1 := Scalar.xori v0 true_36
  let v81 : BitVec 32 := Scalar.extui v80
  let c0_i32_37 : BitVec 32 := 0#32
  let v82 : BitVec 1 := Scalar.cmpi .ne v81 c0_i32_37
  v82

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let v139 : BitVec 32 := Scalar.extui v0
  let c0_i32_67 : BitVec 32 := 0#32
  let v140 : BitVec 1 := Scalar.cmpi .ne v139 c0_i32_67
  v140

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let true_68 : BitVec 1 := 1#1
  let v141 : BitVec 1 := Scalar.xori v0 true_68
  let v142 : BitVec 32 := Scalar.extui v141
  let c0_i32_69 : BitVec 32 := 0#32
  let v143 : BitVec 1 := Scalar.cmpi .ne v142 c0_i32_69
  v143

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2816x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5632x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnGradIdeal.lean ====
abbrev S2048x1024 : Shape := ⟨2, ![2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1024x5632 : Shape := ⟨2, ![1024, 5632]⟩
abbrev S2048x5632 : Shape := ⟨2, ![2048, 5632]⟩
abbrev S2048x2816 : Shape := ⟨2, ![2048, 2816]⟩
abbrev S2816x1024 : Shape := ⟨2, ![2816, 1024]⟩
abbrev S2816x2048 : Shape := ⟨2, ![2816, 2048]⟩
abbrev S5632x2048 : Shape := ⟨2, ![5632, 2048]⟩
abbrev S1x128 : Shape := ⟨2, ![1, 128]⟩

abbrev nBuf : Space → Nat
  | .hbm => 164
  | .vmem => 0
  | .smem => 0
  | _ => 0

abbrev hbmTy0_0 (i : Nat) : BufTy := match i % 128 with
  | 0 => ⟨S2048x1024, .f32⟩
  | 1 => ⟨S2048x1024, .f32⟩
  | 2 => ⟨S1x1024, .f32⟩
  | 3 => ⟨S1x1024x5632, .f32⟩
  | 4 => ⟨S1x2816x1024, .f32⟩
  | 5 => ⟨S1x1024, .f32⟩
  | 6 => ⟨S1024, .f32⟩
  | 7 => ⟨S2048x1024, .f32⟩
  | 8 => ⟨S_, .f32⟩
  | 9 => ⟨S2048, .f32⟩
  | 10 => ⟨S2048x1, .f32⟩
  | 11 => ⟨S_, .f32⟩
  | 12 => ⟨S2048x1, .f32⟩
  | 13 => ⟨S2048x1, .f32⟩
  | 14 => ⟨S_, .f32⟩
  | 15 => ⟨S2048x1, .f32⟩
  | 16 => ⟨S2048x1, .f32⟩
  | 17 => ⟨S2048x1, .f32⟩
  | 18 => ⟨S2048x1, .f32⟩
  | 19 => ⟨S_, .f32⟩
  | 20 => ⟨S2048x1, .f32⟩
  | 21 => ⟨S2048x1, .f32⟩
  | 22 => ⟨S2048x1024, .f32⟩
  | 23 => ⟨S2048x1024, .f32⟩
  | 24 => ⟨S1x1024, .f32⟩
  | 25 => ⟨S2048x1024, .f32⟩
  | 26 => ⟨S2048x1024, .f32⟩
  | 27 => ⟨S1024x5632, .f32⟩
  | 28 => ⟨S2048x5632, .f32⟩
  | 29 => ⟨S2048x2816, .f32⟩
  | 30 => ⟨S2048x2816, .f32⟩
  | 31 => ⟨S2048x2816, .f32⟩
  | 32 => ⟨S_, .f32⟩
  | 33 => ⟨S2048x2816, .f32⟩
  | 34 => ⟨S2048x2816, .f32⟩
  | 35 => ⟨S_, .f32⟩
  | 36 => ⟨S2048x2816, .f32⟩
  | 37 => ⟨S2048x2816, .f32⟩
  | 38 => ⟨S_, .f32⟩
  | 39 => ⟨S2048x2816, .f32⟩
  | 40 => ⟨S2048x2816, .f32⟩
  | 41 => ⟨S2048x2816, .f32⟩
  | 42 => ⟨S2048x2816, .f32⟩
  | 43 => ⟨S2048x2816, .f32⟩
  | 44 => ⟨S2048x2816, .f32⟩
  | 45 => ⟨S2816x1024, .f32⟩
  | 46 => ⟨S2048x1024, .f32⟩
  | 47 => ⟨S1024, .f32⟩
  | 48 => ⟨S2048x1024, .f32⟩
  | 49 => ⟨S_, .f32⟩
  | 50 => ⟨S2048, .f32⟩
  | 51 => ⟨S2048x1, .f32⟩
  | 52 => ⟨S_, .f32⟩
  | 53 => ⟨S2048x1, .f32⟩
  | 54 => ⟨S2048x1, .f32⟩
  | 55 => ⟨S_, .f32⟩
  | 56 => ⟨S2048x1, .f32⟩
  | 57 => ⟨S2048x1, .f32⟩
  | 58 => ⟨S2048x1, .f32⟩
  | 59 => ⟨S2048x1, .f32⟩
  | 60 => ⟨S_, .f32⟩
  | 61 => ⟨S2048x1, .f32⟩
  | 62 => ⟨S2048x1, .f32⟩
  | 63 => ⟨S2048x1024, .f32⟩
  | 64 => ⟨S2048x1024, .f32⟩
  | 65 => ⟨S1x1024, .f32⟩
  | 66 => ⟨S2048x1024, .f32⟩
  | 67 => ⟨S2048x1024, .f32⟩
  | 68 => ⟨S2048x1024, .f32⟩
  | 69 => ⟨S2048x1024, .f32⟩
  | 70 => ⟨S2048x1024, .f32⟩
  | 71 => ⟨S_, .f32⟩
  | 72 => ⟨S2048x1024, .f32⟩
  | 73 => ⟨S2048x1024, .f32⟩
  | 74 => ⟨S_, .f32⟩
  | 75 => ⟨S2048, .f32⟩
  | 76 => ⟨S_, .f32⟩
  | 77 => ⟨S2048, .f32⟩
  | 78 => ⟨S2048, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S2048, .f32⟩
  | 87 => ⟨S_, .f32⟩
  | 88 => ⟨S2048, .f32⟩
  | 89 => ⟨S2048, .f32⟩
  | 90 => ⟨S2048x1024, .f32⟩
  | 91 => ⟨S2048x1024, .f32⟩
  | 92 => ⟨S2048x1024, .f32⟩
  | 93 => ⟨S_, .f32⟩
  | 94 => ⟨S1024, .f32⟩
  | 95 => ⟨S1x1024, .f32⟩
  | 96 => ⟨S2048x1024, .f32⟩
  | 97 => ⟨S2048x1024, .f32⟩
  | 98 => ⟨S_, .f32⟩
  | 99 => ⟨S1024, .f32⟩
  | 100 => ⟨S2048x1024, .f32⟩
  | 101 => ⟨S_, .f32⟩
  | 102 => ⟨S2048, .f32⟩
  | 103 => ⟨S2048x1, .f32⟩
  | 104 => ⟨S2048x1024, .f32⟩
  | 105 => ⟨S2048x1024, .f32⟩
  | 106 => ⟨S2048x1, .f32⟩
  | 107 => ⟨S_, .f32⟩
  | 108 => ⟨S2048x1, .f32⟩
  | 109 => ⟨S2048x1, .f32⟩
  | 110 => ⟨S_, .f32⟩
  | 111 => ⟨S2048, .f32⟩
  | 112 => ⟨S2048x1024, .f32⟩
  | 113 => ⟨S2048x1024, .f32⟩
  | 114 => ⟨S2048x1024, .f32⟩
  | 115 => ⟨S2048x1024, .f32⟩
  | 116 => ⟨S2048x1024, .f32⟩
  | 117 => ⟨S2048x2816, .f32⟩
  | 118 => ⟨S2048x2816, .f32⟩
  | 119 => ⟨S2048x2816, .f32⟩
  | 120 => ⟨S_, .f32⟩
  | 121 => ⟨S2048x5632, .f32⟩
  | 122 => ⟨S2048x2816, .f32⟩
  | 123 => ⟨S2048x2816, .f32⟩
  | 124 => ⟨S2048x2816, .f32⟩
  | 125 => ⟨S2048x2816, .f32⟩
  | 126 => ⟨S_, .f32⟩
  | 127 => ⟨S2048x5632, .f32⟩
  | _ => ⟨S2048x1024, .f32⟩

abbrev hbmTy0_1 (i : Nat) : BufTy := match i % 128 with
  | 0 => ⟨S2048x5632, .f32⟩
  | 1 => ⟨S2048x1024, .f32⟩
  | 2 => ⟨S2048x1024, .f32⟩
  | 3 => ⟨S_, .f32⟩
  | 4 => ⟨S1024, .f32⟩
  | 5 => ⟨S1x1024, .f32⟩
  | 6 => ⟨S2048x1024, .f32⟩
  | 7 => ⟨S2048x1024, .f32⟩
  | 8 => ⟨S_, .f32⟩
  | 9 => ⟨S1024, .f32⟩
  | 10 => ⟨S2048x1024, .f32⟩
  | 11 => ⟨S_, .f32⟩
  | 12 => ⟨S2048, .f32⟩
  | 13 => ⟨S2048x1, .f32⟩
  | 14 => ⟨S2048x1024, .f32⟩
  | 15 => ⟨S2048x1024, .f32⟩
  | 16 => ⟨S2048x1, .f32⟩
  | 17 => ⟨S_, .f32⟩
  | 18 => ⟨S2048x1, .f32⟩
  | 19 => ⟨S2048x1, .f32⟩
  | 20 => ⟨S_, .f32⟩
  | 21 => ⟨S2048, .f32⟩
  | 22 => ⟨S2048x1024, .f32⟩
  | 23 => ⟨S2048x1024, .f32⟩
  | 24 => ⟨S2048x1024, .f32⟩
  | 25 => ⟨S2048x1024, .f32⟩
  | 26 => ⟨S2048x1024, .f32⟩
  | 27 => ⟨S2816x2048, .f32⟩
  | 28 => ⟨S2816x2048, .bf16⟩
  | 29 => ⟨S5632x2048, .f32⟩
  | 30 => ⟨S5632x2048, .bf16⟩
  | 31 => ⟨S2048x1024, .bf16⟩
  | 32 => ⟨S2048x1024, .f32⟩
  | 33 => ⟨S1x128, .f32⟩
  | 34 => ⟨S1x1024, .f32⟩
  | 35 => ⟨S1x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v20_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v20_1 : Ref sig .tc := ⟨.hbm, 41, rfl⟩
abbrev main_v20_0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_cst_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_6 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_7 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_cst_9 : Ref sig .tc := ⟨.hbm, 76, rfl⟩
abbrev main_v48 : Ref sig .tc := ⟨.hbm, 77, rfl⟩
abbrev main_v49 : Ref sig .tc := ⟨.hbm, 78, rfl⟩
abbrev main_cst_10 : Ref sig .tc := ⟨.hbm, 79, rfl⟩
abbrev main_v50 : Ref sig .tc := ⟨.hbm, 80, rfl⟩
abbrev main_cst_11 : Ref sig .tc := ⟨.hbm, 81, rfl⟩
abbrev main_v51 : Ref sig .tc := ⟨.hbm, 82, rfl⟩
abbrev main_cst_12 : Ref sig .tc := ⟨.hbm, 83, rfl⟩
abbrev main_cst_13 : Ref sig .tc := ⟨.hbm, 84, rfl⟩
abbrev main_v52 : Ref sig .tc := ⟨.hbm, 85, rfl⟩
abbrev main_v53 : Ref sig .tc := ⟨.hbm, 86, rfl⟩
abbrev main_cst_14 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_15 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_16 : Ref sig .tc := ⟨.hbm, 98, rfl⟩
abbrev main_v63 : Ref sig .tc := ⟨.hbm, 99, rfl⟩
abbrev main_v64 : Ref sig .tc := ⟨.hbm, 100, rfl⟩
abbrev main_cst_17 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_18 : Ref sig .tc := ⟨.hbm, 107, rfl⟩
abbrev main_v70 : Ref sig .tc := ⟨.hbm, 108, rfl⟩
abbrev main_v71 : Ref sig .tc := ⟨.hbm, 109, rfl⟩
abbrev main_cst_19 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_20 : Ref sig .tc := ⟨.hbm, 120, rfl⟩
abbrev main_v81 : Ref sig .tc := ⟨.hbm, 121, rfl⟩
abbrev main_call1_v0 : Ref sig .tc := ⟨.hbm, 122, rfl⟩
abbrev main_call1_v1 : Ref sig .tc := ⟨.hbm, 123, rfl⟩
abbrev main_call1_v2 : Ref sig .tc := ⟨.hbm, 124, rfl⟩
abbrev main_v82 : Ref sig .tc := ⟨.hbm, 125, rfl⟩
abbrev main_cst_21 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_22 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_23 : Ref sig .tc := ⟨.hbm, 136, rfl⟩
abbrev main_v91 : Ref sig .tc := ⟨.hbm, 137, rfl⟩
abbrev main_v92 : Ref sig .tc := ⟨.hbm, 138, rfl⟩
abbrev main_cst_24 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_25 : Ref sig .tc := ⟨.hbm, 145, rfl⟩
abbrev main_v98 : Ref sig .tc := ⟨.hbm, 146, rfl⟩
abbrev main_v99 : Ref sig .tc := ⟨.hbm, 147, rfl⟩
abbrev main_cst_26 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩

abbrev nD : Nat := 1
abbrev τ : Topo := Topo.v7x

variable {F : FTy → Type} [FloatOps F]
-- ==== ParamBwd.lean ====
abbrev S1x32x64 : Shape := ⟨3, ![1, 32, 64]⟩
abbrev S1x32 : Shape := ⟨2, ![1, 32]⟩
abbrev S1x32x64x16 : Shape := ⟨4, ![1, 32, 64, 16]⟩
abbrev S32x64 : Shape := ⟨2, ![32, 64]⟩
abbrev S32x64x16 : Shape := ⟨3, ![32, 64, 16]⟩
abbrev S32x16x64 : Shape := ⟨3, ![32, 16, 64]⟩
abbrev S1x512 : Shape := ⟨2, ![1, 512]⟩
abbrev S512x64 : Shape := ⟨2, ![512, 64]⟩
abbrev S1x2048 : Shape := ⟨2, ![1, 2048]⟩
abbrev S16x32x64 : Shape := ⟨3, ![16, 32, 64]⟩
abbrev S1x16x2048 : Shape := ⟨3, ![1, 16, 2048]⟩
abbrev S8x16x2048 : Shape := ⟨3, ![8, 16, 2048]⟩
abbrev S128x2048 : Shape := ⟨2, ![128, 2048]⟩
abbrev S32x16 : Shape := ⟨2, ![32, 16]⟩
abbrev S1104x128 : Shape := ⟨2, ![1104, 128]⟩
abbrev S64x128 : Shape := ⟨2, ![64, 128]⟩
abbrev S48x128 : Shape := ⟨2, ![48, 128]⟩
abbrev S128x512 : Shape := ⟨2, ![128, 512]⟩
abbrev S128x128 : Shape := ⟨2, ![128, 128]⟩
abbrev S128x64 : Shape := ⟨2, ![128, 64]⟩
abbrev S32x32 : Shape := ⟨2, ![32, 32]⟩
abbrev S32 : Shape := ⟨1, ![32]⟩
abbrev S32x1 : Shape := ⟨2, ![32, 1]⟩
abbrev S512x32 : Shape := ⟨2, ![512, 32]⟩
abbrev S512x128 : Shape := ⟨2, ![512, 128]⟩
abbrev S64x2048 : Shape := ⟨2, ![64, 2048]⟩
abbrev S32x2048 : Shape := ⟨2, ![32, 2048]⟩
abbrev S32x128 : Shape := ⟨2, ![32, 128]⟩
abbrev S128x32 : Shape := ⟨2, ![128, 32]⟩
abbrev S16x32 : Shape := ⟨2, ![16, 32]⟩

abbrev nBuf : Space → Nat
  | .hbm => 43
  | .vmem => 13
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S32x64, .f32⟩
  | .hbm, ⟨6, _⟩ => ⟨S32x64, .f32⟩
  | .hbm, ⟨7, _⟩ => ⟨S32x64x16, .f32⟩
  | .hbm, ⟨8, _⟩ => ⟨S32x64x16, .f32⟩
  | .hbm, ⟨9, _⟩ => ⟨S32x16x64, .f32⟩
  | .hbm, ⟨10, _⟩ => ⟨S32x16x64, .f32⟩
  | .hbm, ⟨11, _⟩ => ⟨S1x512, .f32⟩
  | .hbm, ⟨12, _⟩ => ⟨S32x64, .f32⟩
  | .hbm, ⟨13, _⟩ => ⟨S32x64, .f32⟩
  | .hbm, ⟨14, _⟩ => ⟨S32x64x16, .f32⟩
  | .hbm, ⟨15, _⟩ => ⟨S32x16x64, .f32⟩
  | .hbm, ⟨16, _⟩ => ⟨S512x64, .f32⟩
  | .hbm, ⟨17, _⟩ => ⟨S32x64x16, .f32⟩
  | .hbm, ⟨18, _⟩ => ⟨S32x16x64, .f32⟩
  | .hbm, ⟨19, _⟩ => ⟨S512x64, .f32⟩
  | .hbm, ⟨20, _⟩ => ⟨S1x2048, .f32⟩
  | .hbm, ⟨21, _⟩ => ⟨S1x2048, .f32⟩
  | .hbm, ⟨22, _⟩ => ⟨S32x16x64, .f32⟩
  | .hbm, ⟨23, _⟩ => ⟨S16x32x64, .f32⟩
  | .hbm, ⟨24, _⟩ => ⟨S1x16x2048, .f32⟩
  | .hbm, ⟨25, _⟩ => ⟨S8x16x2048, .f32⟩
  | .hbm, ⟨26, _⟩ => ⟨S128x2048, .f32⟩
  | .hbm, ⟨27, _⟩ => ⟨S32x16x64, .f32⟩
  | .hbm, ⟨28, _⟩ => ⟨S16x32x64, .f32⟩
  | .hbm, ⟨29, _⟩ => ⟨S1x16x2048, .f32⟩
  | .hbm, ⟨30, _⟩ => ⟨S8x16x2048, .f32⟩
  | .hbm, ⟨31, _⟩ => ⟨S128x2048, .f32⟩
  | .hbm, ⟨32, _⟩ => ⟨S16x32x64, .f32⟩
  | .hbm, ⟨33, _⟩ => ⟨S1x16x2048, .f32⟩
  | .hbm, ⟨34, _⟩ => ⟨S8x16x2048, .f32⟩
  | .hbm, ⟨35, _⟩ => ⟨S128x2048, .f32⟩
  | .hbm, ⟨36, _⟩ => ⟨S32x16x64, .f32⟩
  | .hbm, ⟨37, _⟩ => ⟨S16x32x64, .f32⟩
  | .hbm, ⟨38, _⟩ => ⟨S1x16x2048, .f32⟩
  | .hbm, ⟨39, _⟩ => ⟨S8x16x2048, .f32⟩
  | .hbm, ⟨40, _⟩ => ⟨S128x2048, .f32⟩
  | .hbm, ⟨41, _⟩ => ⟨S32x16, .f32⟩
  | .hbm, ⟨42, _⟩ => ⟨S1104x128, .bf16⟩
  | .local _ .vmem, ⟨0, _⟩ => ⟨S1x2048, .f32⟩
  | .local _ .vmem, ⟨1, _⟩ => ⟨S1x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S32x64, .f32⟩
  | .local _ .vmem, ⟨7, _⟩ => ⟨S32x64, .f32⟩
  | .local _ .vmem, ⟨8, _⟩ => ⟨S1x32, .f32⟩
  | .local _ .vmem, ⟨9, _⟩ => ⟨S512x64, .f32⟩
  | .local _ .vmem, ⟨10, _⟩ => ⟨S512x64, .f32⟩
  | .local _ .vmem, ⟨11, _⟩ => ⟨S32x16, .f32⟩
  | .local _ .vmem, ⟨12, _⟩ => ⟨S1104x128, .bf16⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1104x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ParamGradIdeal.lean ====
abbrev S1x32x64 : Shape := ⟨3, ![1, 32, 64]⟩
abbrev S1x32 : Shape := ⟨2, ![1, 32]⟩
abbrev S1x32x64x16 : Shape := ⟨4, ![1, 32, 64, 16]⟩
abbrev S32x64 : Shape := ⟨2, ![32, 64]⟩
abbrev S32x64x16 : Shape := ⟨3, ![32, 64, 16]⟩
abbrev S32x16x64 : Shape := ⟨3, ![32, 16, 64]⟩
abbrev S1x512 : Shape := ⟨2, ![1, 512]⟩
abbrev S_ : Shape := ⟨0, ![]⟩
abbrev S32 : Shape := ⟨1, ![32]⟩
abbrev S32x1 : Shape := ⟨2, ![32, 1]⟩
abbrev S32x64x1 : Shape := ⟨3, ![32, 64, 1]⟩
abbrev S512x64 : Shape := ⟨2, ![512, 64]⟩
abbrev S512x128 : Shape := ⟨2, ![512, 128]⟩
abbrev S32x128 : Shape := ⟨2, ![32, 128]⟩
abbrev S32x16 : Shape := ⟨2, ![32, 16]⟩
abbrev S32x112 : Shape := ⟨2, ![32, 112]⟩
abbrev S16x32 : Shape := ⟨2, ![16, 32]⟩
abbrev S16x96 : Shape := ⟨2, ![16, 96]⟩
abbrev S16x128 : Shape := ⟨2, ![16, 128]⟩
abbrev S1104x128 : Shape := ⟨2, ![1104, 128]⟩

abbrev nBuf : Space → Nat
  | .hbm => 228
  | .vmem => 0
  | .smem => 0
  | _ => 0

abbrev hbmTy0_0 (i : Nat) : BufTy := match i % 128 with
  | 0 => ⟨S1x32x64, .f32⟩
  | 1 => ⟨S1x32x64, .f32⟩
  | 2 => ⟨S1x32, .f32⟩
  | 3 => ⟨S1x32x64x16, .f32⟩
  | 4 => ⟨S1x32x64x16, .f32⟩
  | 5 => ⟨S32x64, .f32⟩
  | 6 => ⟨S32x64, .f32⟩
  | 7 => ⟨S32x64x16, .f32⟩
  | 8 => ⟨S32x64x16, .f32⟩
  | 9 => ⟨S32x16x64, .f32⟩
  | 10 => ⟨S32x16x64, .f32⟩
  | 11 => ⟨S1x512, .f32⟩
  | 12 => ⟨S32x64, .f32⟩
  | 13 => ⟨S_, .f32⟩
  | 14 => ⟨S32x64, .f32⟩
  | 15 => ⟨S32x64, .f32⟩
  | 16 => ⟨S_, .f32⟩
  | 17 => ⟨S32x64, .f32⟩
  | 18 => ⟨S32x64, .i1⟩
  | 19 => ⟨S_, .f32⟩
  | 20 => ⟨S32x64, .f32⟩
  | 21 => ⟨S32x64, .i1⟩
  | 22 => ⟨S_, .f32⟩
  | 23 => ⟨S32x64, .f32⟩
  | 24 => ⟨S_, .f32⟩
  | 25 => ⟨S32x64, .f32⟩
  | 26 => ⟨S_, .f32⟩
  | 27 => ⟨S32x64, .f32⟩
  | 28 => ⟨S32x64, .f32⟩
  | 29 => ⟨S32x64, .f32⟩
  | 30 => ⟨S32x64, .f32⟩
  | 31 => ⟨S32, .f32⟩
  | 32 => ⟨S32, .f32⟩
  | 33 => ⟨S32x1, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S32x64, .f32⟩
  | 47 => ⟨S32x64, .f32⟩
  | 48 => ⟨S32x64, .f32⟩
  | 49 => ⟨S32x64, .f32⟩
  | 50 => ⟨S_, .f32⟩
  | 51 => ⟨S32x64, .f32⟩
  | 52 => ⟨S32x64, .f32⟩
  | 53 => ⟨S32x64, .f32⟩
  | 54 => ⟨S32x64, .f32⟩
  | 55 => ⟨S32x64, .f32⟩
  | 56 => ⟨S32x64, .f32⟩
  | 57 => ⟨S32x64, .f32⟩
  | 58 => ⟨S_, .f32⟩
  | 59 => ⟨S32x64, .f32⟩
  | 60 => ⟨S32x64, .f32⟩
  | 61 => ⟨S32x64, .f32⟩
  | 62 => ⟨S_, .f32⟩
  | 63 => ⟨S32x64, .f32⟩
  | 64 => ⟨S32x64, .f32⟩
  | 65 => ⟨S32x64, .f32⟩
  | 66 => ⟨S32x64, .f32⟩
  | 67 => ⟨S32x64, .f32⟩
  | 68 => ⟨S32x64, .f32⟩
  | 69 => ⟨S_, .f32⟩
  | 70 => ⟨S32x64, .f32⟩
  | 71 => ⟨S32x64, .f32⟩
  | 72 => ⟨S32x64x1, .f32⟩
  | 73 => ⟨S32x64x16, .f32⟩
  | 74 => ⟨S32x64x16, .f32⟩
  | 75 => ⟨S32x64x16, .f32⟩
  | 76 => ⟨S32x64x1, .f32⟩
  | 77 => ⟨S32x64x16, .f32⟩
  | 78 => ⟨S32x64x16, .f32⟩
  | 79 => ⟨S32x64x16, .f32⟩
  | 80 => ⟨S32x64x16, .f32⟩
  | 81 => ⟨S32x64x1, .f32⟩
  | 82 => ⟨S32x64x16, .f32⟩
  | 83 => ⟨S32x64x16, .f32⟩
  | 84 => ⟨S32x64x16, .f32⟩
  | 85 => ⟨S32x64x1, .f32⟩
  | 86 => ⟨S32x64x16, .f32⟩
  | 87 => ⟨S32x64x16, .f32⟩
  | 88 => ⟨S32x64x16, .f32⟩
  | 89 => ⟨S32x64x16, .f32⟩
  | 90 => ⟨S32x64x16, .f32⟩
  | 91 => ⟨S32x64x16, .f32⟩
  | 92 => ⟨S32x64x16, .f32⟩
  | 93 => ⟨S32x64x16, .f32⟩
  | 94 => ⟨S32x64x16, .f32⟩
  | 95 => ⟨S_, .f32⟩
  | 96 => ⟨S32x64, .f32⟩
  | 97 => ⟨S32x64x1, .f32⟩
  | 98 => ⟨S1x32x64x16, .f32⟩
  | 99 => ⟨S_, .f32⟩
  | 100 => ⟨S32x64, .f32⟩
  | 101 => ⟨S32x64x16, .f32⟩
  | 102 => ⟨S32x64x16, .f32⟩
  | 103 => ⟨S32x64x16, .f32⟩
  | 104 => ⟨S_, .f32⟩
  | 105 => ⟨S32x64, .f32⟩
  | 106 => ⟨S32x64x1, .f32⟩
  | 107 => ⟨S1x32x64x16, .f32⟩
  | 108 => ⟨S_, .f32⟩
  | 109 => ⟨S32x64, .f32⟩
  | 110 => ⟨S32x64x16, .f32⟩
  | 111 => ⟨S32x64x16, .f32⟩
  | 112 => ⟨S32x64x16, .f32⟩
  | 113 => ⟨S32x64x16, .f32⟩
  | 114 => ⟨S32x64x16, .f32⟩
  | 115 => ⟨S_, .f32⟩
  | 116 => ⟨S32x64, .f32⟩
  | 117 => ⟨S32x64x1, .f32⟩
  | 118 => ⟨S1x32x64x16, .f32⟩
  | 119 => ⟨S1x32x64x16, .f32⟩
  | 120 => ⟨S_, .f32⟩
  | 121 => ⟨S32x64, .f32⟩
  | 122 => ⟨S32x64, .f32⟩
  | 123 => ⟨S32x64x16, .f32⟩
  | 124 => ⟨S32x64x16, .f32⟩
  | 125 => ⟨S32x64x16, .f32⟩
  | 126 => ⟨S_, .f32⟩
  | 127 => ⟨S32x64, .f32⟩
  | _ => ⟨S1x32x64, .f32⟩

abbrev hbmTy0_1 (i : Nat) : BufTy := match i % 128 with
  | 0 => ⟨S32x64x1, .f32⟩
  | 1 => ⟨S1x32x64x16, .f32⟩
  | 2 => ⟨S1x32x64x16, .f32⟩
  | 3 => ⟨S_, .f32⟩
  | 4 => ⟨S32x64, .f32⟩
  | 5 => ⟨S32x64, .f32⟩
  | 6 => ⟨S32x64, .f32⟩
  | 7 => ⟨S32x64, .f32⟩
  | 8 => ⟨S32x64, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S_, .f32⟩
  | 43 => ⟨S32, .f32⟩
  | 44 => ⟨S32x1, .f32⟩
  | 45 => ⟨S32x64, .f32⟩
  | 46 => ⟨S32x64, .f32⟩
  | 47 => ⟨S32x64, .f32⟩
  | 48 => ⟨S32x64, .f32⟩
  | 49 => ⟨S32x64, .f32⟩
  | 50 => ⟨S32x64, .f32⟩
  | 51 => ⟨S32x64, .f32⟩
  | 52 => ⟨S32x64, .f32⟩
  | 53 => ⟨S32x64, .f32⟩
  | 54 => ⟨S_, .f32⟩
  | 55 => ⟨S32, .f32⟩
  | 56 => ⟨S32x1, .f32⟩
  | 57 => ⟨S32x1, .f32⟩
  | 58 => ⟨S32x64, .f32⟩
  | 59 => ⟨S32x64, .f32⟩
  | 60 => ⟨S32x64, .f32⟩
  | 61 => ⟨S32x64, .f32⟩
  | 62 => ⟨S32x64, .f32⟩
  | 63 => ⟨S_, .f32⟩
  | 64 => ⟨S32, .f32⟩
  | 65 => ⟨S32x1, .f32⟩
  | 66 => ⟨S32x1, .f32⟩
  | 67 => ⟨S32x64, .f32⟩
  | 68 => ⟨S32x64, .f32⟩
  | 69 => ⟨S32x64, .f32⟩
  | 70 => ⟨S_, .f32⟩
  | 71 => ⟨S32, .f32⟩
  | 72 => ⟨S32, .f32⟩
  | 73 => ⟨S1x32, .f32⟩
  | 74 => ⟨S1x32x64, .f32⟩
  | 75 => ⟨S32x64, .f32⟩
  | 76 => ⟨S1x32x64, .f32⟩
  | 77 => ⟨S32x64x16, .f32⟩
  | 78 => ⟨S32x16x64, .f32⟩
  | 79 => ⟨S512x64, .f32⟩
  | 80 => ⟨S512x64, .f32⟩
  | 81 => ⟨S512x128, .f32⟩
  | 82 => ⟨S32x64x16, .f32⟩
  | 83 => ⟨S32x16x64, .f32⟩
  | 84 => ⟨S512x64, .f32⟩
  | 85 => ⟨S512x64, .f32⟩
  | 86 => ⟨S512x128, .f32⟩
  | 87 => ⟨S32x64, .f32⟩
  | 88 => ⟨S32x64, .f32⟩
  | 89 => ⟨S32x128, .f32⟩
  | 90 => ⟨S32x16, .f32⟩
  | 91 => ⟨S_, .f32⟩
  | 92 => ⟨S32x112, .f32⟩
  | 93 => ⟨S32x128, .f32⟩
  | 94 => ⟨S16x32, .f32⟩
  | 95 => ⟨S_, .f32⟩
  | 96 => ⟨S16x96, .f32⟩
  | 97 => ⟨S16x128, .f32⟩
  | 98 => ⟨S1104x128, .f32⟩
  | 99 => ⟨S1104x128, .bf16⟩
  | _ => ⟨S1x32x64, .f32⟩

abbrev hbmTy (i : Nat) : BufTy := match i / 128 with
  | 0 => hbmTy0_0 i
  | 1 => hbmTy0_1 i
  | _ => ⟨S1x32x64, .f32⟩

abbrev bufTy : (tb : Table) → Fin (tcTables nBuf tb) → BufTy
  | .hbm, ⟨i, _⟩ => hbmTy i
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_cst_3 : Ref sig .tc := ⟨.hbm, 24, rfl⟩
abbrev main_v8 : Ref sig .tc := ⟨.hbm, 25, rfl⟩
abbrev main_cst_4 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_9 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_10 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_11 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_12 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_13 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_14 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_15 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_16 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_cst_17 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_cst_18 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_cst_19 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_cst_20 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_cst_21 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_cst_22 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩

abbrev nD : Nat := 1
abbrev τ : Topo := Topo.v7x

variable {F : FTy → Type} [FloatOps F]
-- ==== AttnFwd.lean ====
abbrev S2048x512 : Shape := ⟨2, ![2048, 512]⟩
abbrev S2048x128 : Shape := ⟨2, ![2048, 128]⟩
abbrev S1x8 : Shape := ⟨2, ![1, 8]⟩
abbrev S1x512 : Shape := ⟨2, ![1, 512]⟩
abbrev S8 : Shape := ⟨1, ![8]⟩
abbrev S16x2x512x256 : Shape := ⟨4, ![16, 2, 512, 256]⟩
abbrev S128x512 : Shape := ⟨2, ![128, 512]⟩
abbrev S128x128 : Shape := ⟨2, ![128, 128]⟩
abbrev S1x2x512x256 : Shape := ⟨4, ![1, 2, 512, 256]⟩
abbrev S256x128 : Shape := ⟨2, ![256, 128]⟩
abbrev S128x256 : Shape := ⟨2, ![128, 256]⟩
abbrev S256x256 : Shape := ⟨2, ![256, 256]⟩
abbrev S1x256 : Shape := ⟨2, ![1, 256]⟩
abbrev S512x256 : Shape := ⟨2, ![512, 256]⟩
abbrev S512x1 : Shape := ⟨2, ![512, 1]⟩
abbrev S1 : Shape := ⟨1, ![1]⟩
abbrev S512 : Shape := ⟨1, ![512]⟩
abbrev S1x1x512x256 : Shape := ⟨4, ![1, 1, 512, 256]⟩
abbrev S128 : Shape := ⟨1, ![128]⟩
abbrev S128x1 : Shape := ⟨2, ![128, 1]⟩

abbrev nBuf : Space → Nat
  | .hbm => 12
  | .vmem => 17
  | .smem => 1
  | _ => 0

abbrev bufTy : (tb : Table) → Fin (tcTables nBuf tb) → BufTy
  | .hbm, ⟨0, _⟩ => ⟨S2048x512, .f32⟩
  | .hbm, ⟨1, _⟩ => ⟨S2048x128, .f32⟩
  | .hbm, ⟨2, _⟩ => ⟨S2048x128, .f32⟩
  | .hbm, ⟨3, _⟩ => ⟨S1x8, .f32⟩
  | .hbm, ⟨4, _⟩ => ⟨S1x512, .f32⟩
  | .hbm, ⟨5, _⟩ => ⟨S2048x512, .bf16⟩
  | .hbm, ⟨6, _⟩ => ⟨S2048x128, .bf16⟩
  | .hbm, ⟨7, _⟩ => ⟨S2048x128, .bf16⟩
  | .hbm, ⟨8, _⟩ => ⟨S8, .f32⟩
  | .hbm, ⟨9, _⟩ => ⟨S2048x512, .f32⟩
  | .hbm, ⟨10, _⟩ => ⟨S2048x512, .bf16⟩
  | .hbm, ⟨11, _⟩ => ⟨S16x2x512x256, .f32⟩
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S1x512, .f32⟩
  | .local _ .vmem, ⟨11, _⟩ => ⟨S128x512, .f32⟩
  | .local _ .vmem, ⟨12, _⟩ => ⟨S128x512, .f32⟩
  | .local _ .vmem, ⟨13, _⟩ => ⟨S128x512, .bf16⟩
  | .local _ .vmem, ⟨14, _⟩ => ⟨S128x512, .bf16⟩
  | .local _ .vmem, ⟨15, _⟩ => ⟨S1x2x512x256, .f32⟩
  | .local _ .vmem, ⟨16, _⟩ => ⟨S1x2x512x256, .f32⟩
  | .local _ .smem, ⟨0, _⟩ => ⟨S8, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnFwdIdeal.lean ====
variable {F : FTy → Type} [FloatOps F] [Named F]
def κ : String → Option EReal := fun
  | "mask" => some ⊥
  | _ => none
-- ==== AttnOutIdeal.lean ====
abbrev S2048x512 : Shape := ⟨2, ![2048, 512]⟩
abbrev S2048x128 : Shape := ⟨2, ![2048, 128]⟩
abbrev S1x8 : Shape := ⟨2, ![1, 8]⟩
abbrev S1x512 : Shape := ⟨2, ![1, 512]⟩
abbrev S8 : Shape := ⟨1, ![8]⟩
abbrev S16x128x2x4x64 : Shape := ⟨5, ![16, 128, 2, 4, 64]⟩
abbrev S16x128x2x64 : Shape := ⟨4, ![16, 128, 2, 64]⟩
abbrev S1x128x2x64 : Shape := ⟨4, ![1, 128, 2, 64]⟩
abbrev S_ : Shape := ⟨0, ![]⟩
abbrev S15x128x2x64 : Shape := ⟨4, ![15, 128, 2, 64]⟩
abbrev S16x256x2x64 : Shape := ⟨4, ![16, 256, 2, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x2x4x1x1 : Shape := ⟨5, ![1, 2, 4, 1, 1]⟩
abbrev S16x2x256x128x4 : Shape := ⟨5, ![16, 2, 256, 128, 4]⟩
abbrev S16x2x4x128x256 : Shape := ⟨5, ![16, 2, 4, 128, 256]⟩
abbrev S16x1x1x128x256 : Shape := ⟨5, ![16, 1, 1, 128, 256]⟩
abbrev S16x2x4x128 : Shape := ⟨4, ![16, 2, 4, 128]⟩
abbrev S16x2x4x128x1 : Shape := ⟨5, ![16, 2, 4, 128, 1]⟩
abbrev S16x2x64x4x128 : Shape := ⟨5, ![16, 2, 64, 4, 128]⟩
abbrev S512 : Shape := ⟨1, ![512]⟩
abbrev S2048 : Shape := ⟨1, ![2048]⟩
abbrev S2048x1 : Shape := ⟨2, ![2048, 1]⟩
abbrev S16x2x512x256 : Shape := ⟨4, ![16, 2, 512, 256]⟩

abbrev nBuf : Space → Nat
  | .hbm => 189
  | .vmem => 0
  | .smem => 0
  | _ => 0

abbrev hbmTy0_0 (i : Nat) : BufTy := match i % 128 with
  | 0 => ⟨S2048x512, .f32⟩
  | 1 => ⟨S2048x128, .f32⟩
  | 2 => ⟨S2048x128, .f32⟩
  | 3 => ⟨S1x8, .f32⟩
  | 4 => ⟨S1x512, .f32⟩
  | 5 => ⟨S8, .f32⟩
  | 6 => ⟨S16x128x2x4x64, .f32⟩
  | 7 => ⟨S16x128x2x64, .f32⟩
  | 8 => ⟨S1x128x2x64, .f32⟩
  | 9 => ⟨S_, .f32⟩
  | 10 => ⟨S1x128x2x64, .f32⟩
  | 11 => ⟨S15x128x2x64, .f32⟩
  | 12 => ⟨S16x128x2x64, .f32⟩
  | 13 => ⟨S16x256x2x64, .f32⟩
  | 14 => ⟨S16x128x2x64, .f32⟩
  | 15 => ⟨S1x128x2x64, .f32⟩
  | 16 => ⟨S_, .f32⟩
  | 17 => ⟨S1x128x2x64, .f32⟩
  | 18 => ⟨S15x128x2x64, .f32⟩
  | 19 => ⟨S16x128x2x64, .f32⟩
  | 20 => ⟨S16x256x2x64, .f32⟩
  | 21 => ⟨S128, .i32⟩
  | 22 => ⟨S128x1, .i32⟩
  | 23 => ⟨S256, .i32⟩
  | 24 => ⟨S1x256, .i32⟩
  | 25 => ⟨S_, .i32⟩
  | 26 => ⟨S128x1, .i32⟩
  | 27 => ⟨S128x1, .i32⟩
  | 28 => ⟨S128x256, .i32⟩
  | 29 => ⟨S128x256, .i32⟩
  | 30 => ⟨S128x256, .i32⟩
  | 31 => ⟨S_, .i32⟩
  | 32 => ⟨S128x256, .i32⟩
  | 33 => ⟨S128x256, .i1⟩
  | 34 => ⟨S_, .i32⟩
  | 35 => ⟨S128x256, .i32⟩
  | 36 => ⟨S128x256, .i1⟩
  | 37 => ⟨S128x256, .i1⟩
  | 38 => ⟨S16, .i32⟩
  | 39 => ⟨S16x1x1, .i32⟩
  | 40 => ⟨S_, .i32⟩
  | 41 => ⟨S16x1x1, .i32⟩
  | 42 => ⟨S16x1x1, .i32⟩
  | 43 => ⟨S_, .i32⟩
  | 44 => ⟨S16x1x1, .i32⟩
  | 45 => ⟨S16x1x1, .i32⟩
  | 46 => ⟨S1x1x256, .i32⟩
  | 47 => ⟨S16x1x256, .i32⟩
  | 48 => ⟨S16x1x256, .i32⟩
  | 49 => ⟨S16x1x256, .i32⟩
  | 50 => ⟨S_, .i32⟩
  | 51 => ⟨S16x1x256, .i32⟩
  | 52 => ⟨S16x1x256, .i1⟩
  | 53 => ⟨S1x128x256, .i1⟩
  | 54 => ⟨S16x128x256, .i1⟩
  | 55 => ⟨S16x128x256, .i1⟩
  | 56 => ⟨S16x128x256, .i1⟩
  | 57 => ⟨S1x2x4x1x1, .f32⟩
  | 58 => ⟨S16x2x256x128x4, .f32⟩
  | 59 => ⟨S16x2x4x128x256, .f32⟩
  | 60 => ⟨S_, .f32⟩
  | 61 => ⟨S16x2x4x128x256, .f32⟩
  | 62 => ⟨S16x2x4x128x256, .f32⟩
  | 63 => ⟨S16x1x1x128x256, .i1⟩
  | 64 => ⟨S_, .f32⟩
  | 65 => ⟨S_, .f32⟩
  | 66 => ⟨S16x2x4x128x256, .i1⟩
  | 67 => ⟨S16x2x4x128x256, .f32⟩
  | 68 => ⟨S16x2x4x128x256, .f32⟩
  | 69 => ⟨S_, .f32⟩
  | 70 => ⟨S16x2x4x128, .f32⟩
  | 71 => ⟨S16x2x4x128x1, .f32⟩
  | 72 => ⟨S16x2x4x128x1, .f32⟩
  | 73 => ⟨S16x2x4x128x1, .f32⟩
  | 74 => ⟨S16x2x4x128x256, .f32⟩
  | 75 => ⟨S16x2x4x128x256, .f32⟩
  | 76 => ⟨S16x2x4x128x256, .f32⟩
  | 77 => ⟨S_, .f32⟩
  | 78 => ⟨S16x2x4x128, .f32⟩
  | 79 => ⟨S16x2x4x128x1, .f32⟩
  | 80 => ⟨S16x2x4x128x1, .f32⟩
  | 81 => ⟨S16x2x4x128x1, .f32⟩
  | 82 => ⟨S16x2x4x128x1, .f32⟩
  | 83 => ⟨S16x2x4x128x1, .f32⟩
  | 84 => ⟨S16x2x4x128x256, .f32⟩
  | 85 => ⟨S16x2x4x128x256, .f32⟩
  | 86 => ⟨S16x2x64x4x128, .f32⟩
  | 87 => ⟨S16x128x2x4x64, .f32⟩
  | 88 => ⟨S2048x512, .f32⟩
  | 89 => ⟨S512, .f32⟩
  | 90 => ⟨S2048x512, .f32⟩
  | 91 => ⟨S_, .f32⟩
  | 92 => ⟨S2048, .f32⟩
  | 93 => ⟨S2048x1, .f32⟩
  | 94 => ⟨S_, .f32⟩
  | 95 => ⟨S2048x1, .f32⟩
  | 96 => ⟨S2048x1, .f32⟩
  | 97 => ⟨S_, .f32⟩
  | 98 => ⟨S2048x1, .f32⟩
  | 99 => ⟨S2048x1, .f32⟩
  | 100 => ⟨S2048x1, .f32⟩
  | 101 => ⟨S2048x512, .f32⟩
  | 102 => ⟨S2048x512, .f32⟩
  | 103 => ⟨S1x512, .f32⟩
  | 104 => ⟨S2048x512, .f32⟩
  | 105 => ⟨S2048x512, .f32⟩
  | 106 => ⟨S2048x512, .bf16⟩
  | 107 => ⟨S8, .f32⟩
  | 108 => ⟨S16x128x2x4x64, .f32⟩
  | 109 => ⟨S16x128x2x64, .f32⟩
  | 110 => ⟨S1x128x2x64, .f32⟩
  | 111 => ⟨S_, .f32⟩
  | 112 => ⟨S1x128x2x64, .f32⟩
  | 113 => ⟨S15x128x2x64, .f32⟩
  | 114 => ⟨S16x128x2x64, .f32⟩
  | 115 => ⟨S16x256x2x64, .f32⟩
  | 116 => ⟨S128, .i32⟩
  | 117 => ⟨S128x1, .i32⟩
  | 118 => ⟨S256, .i32⟩
  | 119 => ⟨S1x256, .i32⟩
  | 120 => ⟨S_, .i32⟩
  | 121 => ⟨S128x1, .i32⟩
  | 122 => ⟨S128x1, .i32⟩
  | 123 => ⟨S128x256, .i32⟩
  | 124 => ⟨S128x256, .i32⟩
  | 125 => ⟨S128x256, .i32⟩
  | 126 => ⟨S_, .i32⟩
  | 127 => ⟨S128x256, .i32⟩
  | _ => ⟨S2048x512, .f32⟩

abbrev hbmTy0_1 (i : Nat) : BufTy := match i % 128 with
  | 0 => ⟨S128x256, .i1⟩
  | 1 => ⟨S_, .i32⟩
  | 2 => ⟨S128x256, .i32⟩
  | 3 => ⟨S128x256, .i1⟩
  | 4 => ⟨S128x256, .i1⟩
  | 5 => ⟨S16, .i32⟩
  | 6 => ⟨S16x1x1, .i32⟩
  | 7 => ⟨S_, .i32⟩
  | 8 => ⟨S16x1x1, .i32⟩
  | 9 => ⟨S16x1x1, .i32⟩
  | 10 => ⟨S_, .i32⟩
  | 11 => ⟨S16x1x1, .i32⟩
  | 12 => ⟨S16x1x1, .i32⟩
  | 13 => ⟨S1x1x256, .i32⟩
  | 14 => ⟨S16x1x256, .i32⟩
  | 15 => ⟨S16x1x256, .i32⟩
  | 16 => ⟨S16x1x256, .i32⟩
  | 17 => ⟨S_, .i32⟩
  | 18 => ⟨S16x1x256, .i32⟩
  | 19 => ⟨S16x1x256, .i1⟩
  | 20 => ⟨S1x128x256, .i1⟩
  | 21 => ⟨S16x128x256, .i1⟩
  | 22 => ⟨S16x128x256, .i1⟩
  | 23 => ⟨S16x128x256, .i1⟩
  | 24 => ⟨S1x2x4x1x1, .f32⟩
  | 25 => ⟨S16x2x256x128x4, .f32⟩
  | 26 => ⟨S16x2x4x128x256, .f32⟩
  | 27 => ⟨S_, .f32⟩
  | 28 => ⟨S16x2x4x128x256, .f32⟩
  | 29 => ⟨S16x2x4x128x256, .f32⟩
  | 30 => ⟨S16x1x1x128x256, .i1⟩
  | 31 => ⟨S_, .f32⟩
  | 32 => ⟨S_, .f32⟩
  | 33 => ⟨S16x2x4x128x256, .i1⟩
  | 34 => ⟨S16x2x4x128x256, .f32⟩
  | 35 => ⟨S16x2x4x128x256, .f32⟩
  | 36 => ⟨S_, .f32⟩
  | 37 => ⟨S16x2x4x128, .f32⟩
  | 38 => ⟨S16x2x4x128x1, .f32⟩
  | 39 => ⟨S16x2x4x128x1, .f32⟩
  | 40 => ⟨S16x2x4x128x1, .f32⟩
  | 41 => ⟨S16x2x4x128x256, .f32⟩
  | 42 => ⟨S16x2x4x128x256, .f32⟩
  | 43 => ⟨S16x2x4x128x256, .f32⟩
  | 44 => ⟨S16x2x4x128x1, .f32⟩
  | 45 => ⟨S16x2x4x128x1, .f32⟩
  | 46 => ⟨S16x2x4x128x1, .f32⟩
  | 47 => ⟨S_, .f32⟩
  | 48 => ⟨S16x2x4x128, .f32⟩
  | 49 => ⟨S16x2x4x128x1, .f32⟩
  | 50 => ⟨S16x2x4x128x1, .f32⟩
  | 51 => ⟨S_, .i32⟩
  | 52 => ⟨S1x256, .i32⟩
  | 53 => ⟨S1x256, .i1⟩
  | 54 => ⟨S16x2x4x128x1, .f32⟩
  | 55 => ⟨S16x2x4x128x256, .f32⟩
  | 56 => ⟨S16x2x4x128x256, .f32⟩
  | 57 => ⟨S16x2x4x128x256, .i1⟩
  | 58 => ⟨S16x2x4x128x256, .f32⟩
  | 59 => ⟨S16x2x4x128x256, .f32⟩
  | 60 => ⟨S16x2x512x256, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_1 : Ref sig .tc := ⟨.hbm, 31, rfl⟩
abbrev main_v23 : Ref sig .tc := ⟨.hbm, 32, rfl⟩
abbrev main_v24 : Ref sig .tc := ⟨.hbm, 33, rfl⟩
abbrev main_c_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_3 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_10 : Ref sig .tc := ⟨.hbm, 91, rfl⟩
abbrev main_v71 : Ref sig .tc := ⟨.hbm, 92, rfl⟩
abbrev main_v72 : Ref sig .tc := ⟨.hbm, 93, rfl⟩
abbrev main_cst_11 : Ref sig .tc := ⟨.hbm, 94, rfl⟩
abbrev main_v73 : Ref sig .tc := ⟨.hbm, 95, rfl⟩
abbrev main_v74 : Ref sig .tc := ⟨.hbm, 96, rfl⟩
abbrev main_cst_12 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_13 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_c_14 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_c_15 : Ref sig .tc := ⟨.hbm, 126, rfl⟩
abbrev main_v101 : Ref sig .tc := ⟨.hbm, 127, rfl⟩
abbrev main_v102 : Ref sig .tc := ⟨.hbm, 128, rfl⟩
abbrev main_c_16 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_c_17 : Ref sig .tc := ⟨.hbm, 135, rfl⟩
abbrev main_v108 : Ref sig .tc := ⟨.hbm, 136, rfl⟩
abbrev main_v109 : Ref sig .tc := ⟨.hbm, 137, rfl⟩
abbrev main_c_18 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_c_19 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_cst_20 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_cst_21 : Ref sig .tc := ⟨.hbm, 159, rfl⟩
abbrev main_call1_v0 : Ref sig .tc := ⟨.hbm, 160, rfl⟩
abbrev main_call1_v1 : Ref sig .tc := ⟨.hbm, 161, rfl⟩
abbrev main_call1_v2 : Ref sig .tc := ⟨.hbm, 162, rfl⟩
abbrev main_v128 : Ref sig .tc := ⟨.hbm, 163, rfl⟩
abbrev main_cst_22 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_cst_23 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_c_24 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_call2_v0 : Ref sig .tc := ⟨.hbm, 185, rfl⟩
abbrev main_call2_v1 : Ref sig .tc := ⟨.hbm, 186, rfl⟩
abbrev main_v147 : Ref sig .tc := ⟨.hbm, 187, rfl⟩
abbrev main_v148 : Ref sig .tc := ⟨.hbm, 188, rfl⟩

abbrev nD : Nat := 1
abbrev τ : Topo := Topo.v7x

variable {F : FTy → Type} [FloatOps F]
-- ==== CoreBwd.lean ====
abbrev S1x2048x512 : Shape := ⟨3, ![1, 2048, 512]⟩
abbrev S32x64x16 : Shape := ⟨3, ![32, 64, 16]⟩
abbrev S32x16x64 : Shape := ⟨3, ![32, 16, 64]⟩
abbrev S32x64 : Shape := ⟨2, ![32, 64]⟩
abbrev S2048x512 : Shape := ⟨2, ![2048, 512]⟩
abbrev S16x32x64 : Shape := ⟨3, ![16, 32, 64]⟩
abbrev S1x16x2048 : Shape := ⟨3, ![1, 16, 2048]⟩
abbrev S8x16x2048 : Shape := ⟨3, ![8, 16, 2048]⟩
abbrev S128x2048 : Shape := ⟨2, ![128, 2048]⟩
abbrev S_ : Shape := ⟨0, ![]⟩
abbrev S1x2048 : Shape := ⟨2, ![1, 2048]⟩
abbrev S8x256x512 : Shape := ⟨3, ![8, 256, 512]⟩
abbrev S256x8x512 : Shape := ⟨3, ![256, 8, 512]⟩
abbrev S2048x2048 : Shape := ⟨2, ![2048, 2048]⟩
abbrev S2048x128 : Shape := ⟨2, ![2048, 128]⟩
abbrev S128x512 : Shape := ⟨2, ![128, 512]⟩
abbrev S1x512 : Shape := ⟨2, ![1, 512]⟩
abbrev S8x512 : Shape := ⟨2, ![8, 512]⟩
abbrev S512 : Shape := ⟨1, ![512]⟩
abbrev S16x2048 : Shape := ⟨2, ![16, 2048]⟩

abbrev nBuf : Space → Nat
  | .hbm => 605
  | .vmem => 58
  | .smem => 0
  | _ => 0

abbrev hbmTy0_0 (i : Nat) : BufTy := match i % 128 with
  | 0 => ⟨S1x2048x512, .f32⟩
  | 1 => ⟨S1x2048x512, .f32⟩
  | 2 => ⟨S1x2048x512, .f32⟩
  | 3 => ⟨S32x64x16, .f32⟩
  | 4 => ⟨S32x64x16, .f32⟩
  | 5 => ⟨S32x16x64, .f32⟩
  | 6 => ⟨S32x16x64, .f32⟩
  | 7 => ⟨S32x64, .f32⟩
  | 8 => ⟨S32x64, .f32⟩
  | 9 => ⟨S2048x512, .f32⟩
  | 10 => ⟨S2048x512, .f32⟩
  | 11 => ⟨S2048x512, .f32⟩
  | 12 => ⟨S32x16x64, .f32⟩
  | 13 => ⟨S32x16x64, .f32⟩
  | 14 => ⟨S16x32x64, .f32⟩
  | 15 => ⟨S1x16x2048, .f32⟩
  | 16 => ⟨S8x16x2048, .f32⟩
  | 17 => ⟨S128x2048, .f32⟩
  | 18 => ⟨S128x2048, .i32⟩
  | 19 => ⟨S_, .i32⟩
  | 20 => ⟨S_, .i32⟩
  | 21 => ⟨S128x2048, .i32⟩
  | 22 => ⟨S128x2048, .i32⟩
  | 23 => ⟨S128x2048, .i32⟩
  | 24 => ⟨S_, .i32⟩
  | 25 => ⟨S128x2048, .i32⟩
  | 26 => ⟨S128x2048, .i1⟩
  | 27 => ⟨S128x2048, .i32⟩
  | 28 => ⟨S128x2048, .i32⟩
  | 29 => ⟨S_, .i32⟩
  | 30 => ⟨S128x2048, .i32⟩
  | 31 => ⟨S128x2048, .i1⟩
  | 32 => ⟨S128x2048, .i1⟩
  | 33 => ⟨S_, .i32⟩
  | 34 => ⟨S128x2048, .i32⟩
  | 35 => ⟨S128x2048, .i32⟩
  | 36 => ⟨S128x2048, .i32⟩
  | 37 => ⟨S128x2048, .i32⟩
  | 38 => ⟨S_, .i32⟩
  | 39 => ⟨S_, .i32⟩
  | 40 => ⟨S128x2048, .i32⟩
  | 41 => ⟨S128x2048, .i32⟩
  | 42 => ⟨S128x2048, .i32⟩
  | 43 => ⟨S_, .i32⟩
  | 44 => ⟨S128x2048, .i32⟩
  | 45 => ⟨S128x2048, .i1⟩
  | 46 => ⟨S128x2048, .i32⟩
  | 47 => ⟨S128x2048, .i32⟩
  | 48 => ⟨S_, .i32⟩
  | 49 => ⟨S128x2048, .i32⟩
  | 50 => ⟨S128x2048, .i1⟩
  | 51 => ⟨S128x2048, .i1⟩
  | 52 => ⟨S_, .i32⟩
  | 53 => ⟨S128x2048, .i32⟩
  | 54 => ⟨S128x2048, .i32⟩
  | 55 => ⟨S128x2048, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S128x2048, .i32⟩
  | 63 => ⟨S128x2048, .i32⟩
  | 64 => ⟨S_, .i32⟩
  | 65 => ⟨S128x2048, .i32⟩
  | 66 => ⟨S128x2048, .i1⟩
  | 67 => ⟨S_, .i32⟩
  | 68 => ⟨S128x2048, .i32⟩
  | 69 => ⟨S128x2048, .i1⟩
  | 70 => ⟨S_, .i32⟩
  | 71 => ⟨S_, .i1⟩
  | 72 => ⟨S128x2048, .i1⟩
  | 73 => ⟨S128x2048, .i1⟩
  | 74 => ⟨S128x2048, .i1⟩
  | 75 => ⟨S128x2048, .i32⟩
  | 76 => ⟨S128x2048, .i32⟩
  | 77 => ⟨S128x2048, .i32⟩
  | 78 => ⟨S128x2048, .i1⟩
  | 79 => ⟨S_, .f32⟩
  | 80 => ⟨S_, .f32⟩
  | 81 => ⟨S128x2048, .f32⟩
  | 82 => ⟨S128x2048, .f32⟩
  | 83 => ⟨S128x2048, .bf16⟩
  | 84 => ⟨S16x32x64, .f32⟩
  | 85 => ⟨S1x16x2048, .f32⟩
  | 86 => ⟨S8x16x2048, .f32⟩
  | 87 => ⟨S128x2048, .f32⟩
  | 88 => ⟨S128x2048, .i32⟩
  | 89 => ⟨S_, .i32⟩
  | 90 => ⟨S_, .i32⟩
  | 91 => ⟨S128x2048, .i32⟩
  | 92 => ⟨S128x2048, .i32⟩
  | 93 => ⟨S128x2048, .i32⟩
  | 94 => ⟨S_, .i32⟩
  | 95 => ⟨S128x2048, .i32⟩
  | 96 => ⟨S128x2048, .i1⟩
  | 97 => ⟨S128x2048, .i32⟩
  | 98 => ⟨S128x2048, .i32⟩
  | 99 => ⟨S_, .i32⟩
  | 100 => ⟨S128x2048, .i32⟩
  | 101 => ⟨S128x2048, .i1⟩
  | 102 => ⟨S128x2048, .i1⟩
  | 103 => ⟨S_, .i32⟩
  | 104 => ⟨S128x2048, .i32⟩
  | 105 => ⟨S128x2048, .i32⟩
  | 106 => ⟨S128x2048, .i32⟩
  | 107 => ⟨S128x2048, .i32⟩
  | 108 => ⟨S_, .i32⟩
  | 109 => ⟨S_, .i32⟩
  | 110 => ⟨S128x2048, .i32⟩
  | 111 => ⟨S128x2048, .i32⟩
  | 112 => ⟨S128x2048, .i32⟩
  | 113 => ⟨S_, .i32⟩
  | 114 => ⟨S128x2048, .i32⟩
  | 115 => ⟨S128x2048, .i1⟩
  | 116 => ⟨S128x2048, .i32⟩
  | 117 => ⟨S128x2048, .i32⟩
  | 118 => ⟨S_, .i32⟩
  | 119 => ⟨S128x2048, .i32⟩
  | 120 => ⟨S128x2048, .i1⟩
  | 121 => ⟨S128x2048, .i1⟩
  | 122 => ⟨S_, .i32⟩
  | 123 => ⟨S128x2048, .i32⟩
  | 124 => ⟨S128x2048, .i32⟩
  | 125 => ⟨S128x2048, .i32⟩
  | 126 => ⟨S_, .i32⟩
  | 127 => ⟨S_, .i32⟩
  | _ => ⟨S1x2048x512, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S128x2048, .i32⟩
  | 5 => ⟨S128x2048, .i32⟩
  | 6 => ⟨S_, .i32⟩
  | 7 => ⟨S128x2048, .i32⟩
  | 8 => ⟨S128x2048, .i1⟩
  | 9 => ⟨S_, .i32⟩
  | 10 => ⟨S128x2048, .i32⟩
  | 11 => ⟨S128x2048, .i1⟩
  | 12 => ⟨S_, .i32⟩
  | 13 => ⟨S_, .i1⟩
  | 14 => ⟨S128x2048, .i1⟩
  | 15 => ⟨S128x2048, .i1⟩
  | 16 => ⟨S128x2048, .i1⟩
  | 17 => ⟨S128x2048, .i32⟩
  | 18 => ⟨S128x2048, .i32⟩
  | 19 => ⟨S128x2048, .i32⟩
  | 20 => ⟨S128x2048, .i1⟩
  | 21 => ⟨S_, .f32⟩
  | 22 => ⟨S_, .f32⟩
  | 23 => ⟨S128x2048, .f32⟩
  | 24 => ⟨S128x2048, .f32⟩
  | 25 => ⟨S128x2048, .bf16⟩
  | 26 => ⟨S16x32x64, .f32⟩
  | 27 => ⟨S1x16x2048, .f32⟩
  | 28 => ⟨S8x16x2048, .f32⟩
  | 29 => ⟨S128x2048, .f32⟩
  | 30 => ⟨S128x2048, .i32⟩
  | 31 => ⟨S_, .i32⟩
  | 32 => ⟨S_, .i32⟩
  | 33 => ⟨S128x2048, .i32⟩
  | 34 => ⟨S128x2048, .i32⟩
  | 35 => ⟨S128x2048, .i32⟩
  | 36 => ⟨S_, .i32⟩
  | 37 => ⟨S128x2048, .i32⟩
  | 38 => ⟨S128x2048, .i1⟩
  | 39 => ⟨S128x2048, .i32⟩
  | 40 => ⟨S128x2048, .i32⟩
  | 41 => ⟨S_, .i32⟩
  | 42 => ⟨S128x2048, .i32⟩
  | 43 => ⟨S128x2048, .i1⟩
  | 44 => ⟨S128x2048, .i1⟩
  | 45 => ⟨S_, .i32⟩
  | 46 => ⟨S128x2048, .i32⟩
  | 47 => ⟨S128x2048, .i32⟩
  | 48 => ⟨S128x2048, .i32⟩
  | 49 => ⟨S128x2048, .i32⟩
  | 50 => ⟨S_, .i32⟩
  | 51 => ⟨S_, .i32⟩
  | 52 => ⟨S128x2048, .i32⟩
  | 53 => ⟨S128x2048, .i32⟩
  | 54 => ⟨S128x2048, .i32⟩
  | 55 => ⟨S_, .i32⟩
  | 56 => ⟨S128x2048, .i32⟩
  | 57 => ⟨S128x2048, .i1⟩
  | 58 => ⟨S128x2048, .i32⟩
  | 59 => ⟨S128x2048, .i32⟩
  | 60 => ⟨S_, .i32⟩
  | 61 => ⟨S128x2048, .i32⟩
  | 62 => ⟨S128x2048, .i1⟩
  | 63 => ⟨S128x2048, .i1⟩
  | 64 => ⟨S_, .i32⟩
  | 65 => ⟨S128x2048, .i32⟩
  | 66 => ⟨S128x2048, .i32⟩
  | 67 => ⟨S128x2048, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S128x2048, .i32⟩
  | 75 => ⟨S128x2048, .i32⟩
  | 76 => ⟨S_, .i32⟩
  | 77 => ⟨S128x2048, .i32⟩
  | 78 => ⟨S128x2048, .i1⟩
  | 79 => ⟨S_, .i32⟩
  | 80 => ⟨S128x2048, .i32⟩
  | 81 => ⟨S128x2048, .i1⟩
  | 82 => ⟨S_, .i32⟩
  | 83 => ⟨S_, .i1⟩
  | 84 => ⟨S128x2048, .i1⟩
  | 85 => ⟨S128x2048, .i1⟩
  | 86 => ⟨S128x2048, .i1⟩
  | 87 => ⟨S128x2048, .i32⟩
  | 88 => ⟨S128x2048, .i32⟩
  | 89 => ⟨S128x2048, .i32⟩
  | 90 => ⟨S128x2048, .i1⟩
  | 91 => ⟨S_, .f32⟩
  | 92 => ⟨S_, .f32⟩
  | 93 => ⟨S128x2048, .f32⟩
  | 94 => ⟨S128x2048, .f32⟩
  | 95 => ⟨S128x2048, .bf16⟩
  | 96 => ⟨S16x32x64, .f32⟩
  | 97 => ⟨S1x16x2048, .f32⟩
  | 98 => ⟨S8x16x2048, .f32⟩
  | 99 => ⟨S128x2048, .f32⟩
  | 100 => ⟨S128x2048, .i32⟩
  | 101 => ⟨S_, .i32⟩
  | 102 => ⟨S_, .i32⟩
  | 103 => ⟨S128x2048, .i32⟩
  | 104 => ⟨S128x2048, .i32⟩
  | 105 => ⟨S128x2048, .i32⟩
  | 106 => ⟨S_, .i32⟩
  | 107 => ⟨S128x2048, .i32⟩
  | 108 => ⟨S128x2048, .i1⟩
  | 109 => ⟨S128x2048, .i32⟩
  | 110 => ⟨S128x2048, .i32⟩
  | 111 => ⟨S_, .i32⟩
  | 112 => ⟨S128x2048, .i32⟩
  | 113 => ⟨S128x2048, .i1⟩
  | 114 => ⟨S128x2048, .i1⟩
  | 115 => ⟨S_, .i32⟩
  | 116 => ⟨S128x2048, .i32⟩
  | 117 => ⟨S128x2048, .i32⟩
  | 118 => ⟨S128x2048, .i32⟩
  | 119 => ⟨S128x2048, .i32⟩
  | 120 => ⟨S_, .i32⟩
  | 121 => ⟨S_, .i32⟩
  | 122 => ⟨S128x2048, .i32⟩
  | 123 => ⟨S128x2048, .i32⟩
  | 124 => ⟨S128x2048, .i32⟩
  | 125 => ⟨S_, .i32⟩
  | 126 => ⟨S128x2048, .i32⟩
  | 127 => ⟨S128x2048, .i1⟩
  | _ => ⟨S1x2048x512, .f32⟩

abbrev hbmTy0_2 (i : Nat) : BufTy := match i % 128 with
  | 0 => ⟨S128x2048, .i32⟩
  | 1 => ⟨S128x2048, .i32⟩
  | 2 => ⟨S_, .i32⟩
  | 3 => ⟨S128x2048, .i32⟩
  | 4 => ⟨S128x2048, .i1⟩
  | 5 => ⟨S128x2048, .i1⟩
  | 6 => ⟨S_, .i32⟩
  | 7 => ⟨S128x2048, .i32⟩
  | 8 => ⟨S128x2048, .i32⟩
  | 9 => ⟨S128x2048, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S128x2048, .i32⟩
  | 17 => ⟨S128x2048, .i32⟩
  | 18 => ⟨S_, .i32⟩
  | 19 => ⟨S128x2048, .i32⟩
  | 20 => ⟨S128x2048, .i1⟩
  | 21 => ⟨S_, .i32⟩
  | 22 => ⟨S128x2048, .i32⟩
  | 23 => ⟨S128x2048, .i1⟩
  | 24 => ⟨S_, .i32⟩
  | 25 => ⟨S_, .i1⟩
  | 26 => ⟨S128x2048, .i1⟩
  | 27 => ⟨S128x2048, .i1⟩
  | 28 => ⟨S128x2048, .i1⟩
  | 29 => ⟨S128x2048, .i32⟩
  | 30 => ⟨S128x2048, .i32⟩
  | 31 => ⟨S128x2048, .i32⟩
  | 32 => ⟨S128x2048, .i1⟩
  | 33 => ⟨S_, .f32⟩
  | 34 => ⟨S_, .f32⟩
  | 35 => ⟨S128x2048, .f32⟩
  | 36 => ⟨S128x2048, .f32⟩
  | 37 => ⟨S128x2048, .bf16⟩
  | 38 => ⟨S1x2048, .f32⟩
  | 39 => ⟨S1x2048, .f32⟩
  | 40 => ⟨S8x256x512, .f32⟩
  | 41 => ⟨S256x8x512, .f32⟩
  | 42 => ⟨S2048x512, .f32⟩
  | 43 => ⟨S2048x512, .f32⟩
  | 44 => ⟨S2048x2048, .f32⟩
  | 45 => ⟨S2048x2048, .f32⟩
  | 46 => ⟨S8x256x512, .f32⟩
  | 47 => ⟨S256x8x512, .f32⟩
  | 48 => ⟨S2048x512, .f32⟩
  | 49 => ⟨S2048x512, .bf16⟩
  | 50 => ⟨S8x256x512, .f32⟩
  | 51 => ⟨S256x8x512, .f32⟩
  | 52 => ⟨S2048x512, .f32⟩
  | 53 => ⟨S2048x512, .f32⟩
  | 54 => ⟨S128x2048, .f32⟩
  | 55 => ⟨S128x2048, .f32⟩
  | 56 => ⟨S128x2048, .f32⟩
  | 57 => ⟨S128x2048, .f32⟩
  | 58 => ⟨S1x2048, .f32⟩
  | 59 => ⟨S1x2048, .f32⟩
  | 60 => ⟨S256x8x512, .f32⟩
  | 61 => ⟨S8x256x512, .f32⟩
  | 62 => ⟨S2048x512, .f32⟩
  | 63 => ⟨S1x2048x512, .f32⟩
  | 64 => ⟨S128x2048, .i32⟩
  | 65 => ⟨S_, .i32⟩
  | 66 => ⟨S_, .i32⟩
  | 67 => ⟨S128x2048, .i32⟩
  | 68 => ⟨S128x2048, .i32⟩
  | 69 => ⟨S128x2048, .i32⟩
  | 70 => ⟨S_, .i32⟩
  | 71 => ⟨S128x2048, .i32⟩
  | 72 => ⟨S128x2048, .i1⟩
  | 73 => ⟨S128x2048, .i32⟩
  | 74 => ⟨S128x2048, .i32⟩
  | 75 => ⟨S_, .i32⟩
  | 76 => ⟨S128x2048, .i32⟩
  | 77 => ⟨S128x2048, .i1⟩
  | 78 => ⟨S128x2048, .i1⟩
  | 79 => ⟨S_, .i32⟩
  | 80 => ⟨S128x2048, .i32⟩
  | 81 => ⟨S128x2048, .i32⟩
  | 82 => ⟨S128x2048, .i32⟩
  | 83 => ⟨S128x2048, .i32⟩
  | 84 => ⟨S_, .i32⟩
  | 85 => ⟨S_, .i32⟩
  | 86 => ⟨S128x2048, .i32⟩
  | 87 => ⟨S128x2048, .i32⟩
  | 88 => ⟨S128x2048, .i32⟩
  | 89 => ⟨S_, .i32⟩
  | 90 => ⟨S128x2048, .i32⟩
  | 91 => ⟨S128x2048, .i1⟩
  | 92 => ⟨S128x2048, .i32⟩
  | 93 => ⟨S128x2048, .i32⟩
  | 94 => ⟨S_, .i32⟩
  | 95 => ⟨S128x2048, .i32⟩
  | 96 => ⟨S128x2048, .i1⟩
  | 97 => ⟨S128x2048, .i1⟩
  | 98 => ⟨S_, .i32⟩
  | 99 => ⟨S128x2048, .i32⟩
  | 100 => ⟨S128x2048, .i32⟩
  | 101 => ⟨S128x2048, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S128x2048, .i32⟩
  | 109 => ⟨S128x2048, .i32⟩
  | 110 => ⟨S_, .i32⟩
  | 111 => ⟨S128x2048, .i32⟩
  | 112 => ⟨S128x2048, .i1⟩
  | 113 => ⟨S_, .i32⟩
  | 114 => ⟨S128x2048, .i32⟩
  | 115 => ⟨S128x2048, .i1⟩
  | 116 => ⟨S_, .i32⟩
  | 117 => ⟨S_, .i1⟩
  | 118 => ⟨S128x2048, .i1⟩
  | 119 => ⟨S128x2048, .i1⟩
  | 120 => ⟨S128x2048, .i1⟩
  | 121 => ⟨S128x2048, .i32⟩
  | 122 => ⟨S128x2048, .i32⟩
  | 123 => ⟨S128x2048, .i32⟩
  | 124 => ⟨S128x2048, .i1⟩
  | 125 => ⟨S_, .f32⟩
  | 126 => ⟨S_, .f32⟩
  | 127 => ⟨S128x2048, .f32⟩
  | _ => ⟨S1x2048x512, .f32⟩

abbrev hbmTy0_3 (i : Nat) : BufTy := match i % 128 with
  | 0 => ⟨S128x2048, .f32⟩
  | 1 => ⟨S8x16x2048, .f32⟩
  | 2 => ⟨S_, .f32⟩
  | 3 => ⟨S16x2048, .f32⟩
  | 4 => ⟨S16x32x64, .f32⟩
  | 5 => ⟨S32x16x64, .f32⟩
  | 6 => ⟨S32x64x16, .f32⟩
  | 7 => ⟨S128x2048, .i32⟩
  | 8 => ⟨S_, .i32⟩
  | 9 => ⟨S_, .i32⟩
  | 10 => ⟨S128x2048, .i32⟩
  | 11 => ⟨S128x2048, .i32⟩
  | 12 => ⟨S128x2048, .i32⟩
  | 13 => ⟨S_, .i32⟩
  | 14 => ⟨S128x2048, .i32⟩
  | 15 => ⟨S128x2048, .i1⟩
  | 16 => ⟨S128x2048, .i32⟩
  | 17 => ⟨S128x2048, .i32⟩
  | 18 => ⟨S_, .i32⟩
  | 19 => ⟨S128x2048, .i32⟩
  | 20 => ⟨S128x2048, .i1⟩
  | 21 => ⟨S128x2048, .i1⟩
  | 22 => ⟨S_, .i32⟩
  | 23 => ⟨S128x2048, .i32⟩
  | 24 => ⟨S128x2048, .i32⟩
  | 25 => ⟨S128x2048, .i32⟩
  | 26 => ⟨S128x2048, .i32⟩
  | 27 => ⟨S_, .i32⟩
  | 28 => ⟨S_, .i32⟩
  | 29 => ⟨S128x2048, .i32⟩
  | 30 => ⟨S128x2048, .i32⟩
  | 31 => ⟨S128x2048, .i32⟩
  | 32 => ⟨S_, .i32⟩
  | 33 => ⟨S128x2048, .i32⟩
  | 34 => ⟨S128x2048, .i1⟩
  | 35 => ⟨S128x2048, .i32⟩
  | 36 => ⟨S128x2048, .i32⟩
  | 37 => ⟨S_, .i32⟩
  | 38 => ⟨S128x2048, .i32⟩
  | 39 => ⟨S128x2048, .i1⟩
  | 40 => ⟨S128x2048, .i1⟩
  | 41 => ⟨S_, .i32⟩
  | 42 => ⟨S128x2048, .i32⟩
  | 43 => ⟨S128x2048, .i32⟩
  | 44 => ⟨S128x2048, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S128x2048, .i32⟩
  | 52 => ⟨S128x2048, .i32⟩
  | 53 => ⟨S_, .i32⟩
  | 54 => ⟨S128x2048, .i32⟩
  | 55 => ⟨S128x2048, .i1⟩
  | 56 => ⟨S_, .i32⟩
  | 57 => ⟨S128x2048, .i32⟩
  | 58 => ⟨S128x2048, .i1⟩
  | 59 => ⟨S_, .i32⟩
  | 60 => ⟨S_, .i1⟩
  | 61 => ⟨S128x2048, .i1⟩
  | 62 => ⟨S128x2048, .i1⟩
  | 63 => ⟨S128x2048, .i1⟩
  | 64 => ⟨S128x2048, .i32⟩
  | 65 => ⟨S128x2048, .i32⟩
  | 66 => ⟨S128x2048, .i32⟩
  | 67 => ⟨S128x2048, .i1⟩
  | 68 => ⟨S_, .f32⟩
  | 69 => ⟨S_, .f32⟩
  | 70 => ⟨S128x2048, .f32⟩
  | 71 => ⟨S128x2048, .f32⟩
  | 72 => ⟨S8x16x2048, .f32⟩
  | 73 => ⟨S_, .f32⟩
  | 74 => ⟨S16x2048, .f32⟩
  | 75 => ⟨S16x32x64, .f32⟩
  | 76 => ⟨S32x16x64, .f32⟩
  | 77 => ⟨S32x64x16, .f32⟩
  | 78 => ⟨S128x2048, .i32⟩
  | 79 => ⟨S_, .i32⟩
  | 80 => ⟨S_, .i32⟩
  | 81 => ⟨S128x2048, .i32⟩
  | 82 => ⟨S128x2048, .i32⟩
  | 83 => ⟨S128x2048, .i32⟩
  | 84 => ⟨S_, .i32⟩
  | 85 => ⟨S128x2048, .i32⟩
  | 86 => ⟨S128x2048, .i1⟩
  | 87 => ⟨S128x2048, .i32⟩
  | 88 => ⟨S128x2048, .i32⟩
  | 89 => ⟨S_, .i32⟩
  | 90 => ⟨S128x2048, .i32⟩
  | 91 => ⟨S128x2048, .i1⟩
  | 92 => ⟨S128x2048, .i1⟩
  | 93 => ⟨S_, .i32⟩
  | 94 => ⟨S128x2048, .i32⟩
  | 95 => ⟨S128x2048, .i32⟩
  | 96 => ⟨S128x2048, .i32⟩
  | 97 => ⟨S128x2048, .i32⟩
  | 98 => ⟨S_, .i32⟩
  | 99 => ⟨S_, .i32⟩
  | 100 => ⟨S128x2048, .i32⟩
  | 101 => ⟨S128x2048, .i32⟩
  | 102 => ⟨S128x2048, .i32⟩
  | 103 => ⟨S_, .i32⟩
  | 104 => ⟨S128x2048, .i32⟩
  | 105 => ⟨S128x2048, .i1⟩
  | 106 => ⟨S128x2048, .i32⟩
  | 107 => ⟨S128x2048, .i32⟩
  | 108 => ⟨S_, .i32⟩
  | 109 => ⟨S128x2048, .i32⟩
  | 110 => ⟨S128x2048, .i1⟩
  | 111 => ⟨S128x2048, .i1⟩
  | 112 => ⟨S_, .i32⟩
  | 113 => ⟨S128x2048, .i32⟩
  | 114 => ⟨S128x2048, .i32⟩
  | 115 => ⟨S128x2048, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S128x2048, .i32⟩
  | 123 => ⟨S128x2048, .i32⟩
  | 124 => ⟨S_, .i32⟩
  | 125 => ⟨S128x2048, .i32⟩
  | 126 => ⟨S128x2048, .i1⟩
  | 127 => ⟨S_, .i32⟩
  | _ => ⟨S1x2048x512, .f32⟩

abbrev hbmTy0_4 (i : Nat) : BufTy := match i % 128 with
  | 0 => ⟨S128x2048, .i32⟩
  | 1 => ⟨S128x2048, .i1⟩
  | 2 => ⟨S_, .i32⟩
  | 3 => ⟨S_, .i1⟩
  | 4 => ⟨S128x2048, .i1⟩
  | 5 => ⟨S128x2048, .i1⟩
  | 6 => ⟨S128x2048, .i1⟩
  | 7 => ⟨S128x2048, .i32⟩
  | 8 => ⟨S128x2048, .i32⟩
  | 9 => ⟨S128x2048, .i32⟩
  | 10 => ⟨S128x2048, .i1⟩
  | 11 => ⟨S_, .f32⟩
  | 12 => ⟨S_, .f32⟩
  | 13 => ⟨S128x2048, .f32⟩
  | 14 => ⟨S128x2048, .f32⟩
  | 15 => ⟨S8x16x2048, .f32⟩
  | 16 => ⟨S_, .f32⟩
  | 17 => ⟨S16x2048, .f32⟩
  | 18 => ⟨S16x32x64, .f32⟩
  | 19 => ⟨S32x16x64, .f32⟩
  | 20 => ⟨S128x2048, .i32⟩
  | 21 => ⟨S_, .i32⟩
  | 22 => ⟨S_, .i32⟩
  | 23 => ⟨S128x2048, .i32⟩
  | 24 => ⟨S128x2048, .i32⟩
  | 25 => ⟨S128x2048, .i32⟩
  | 26 => ⟨S_, .i32⟩
  | 27 => ⟨S128x2048, .i32⟩
  | 28 => ⟨S128x2048, .i1⟩
  | 29 => ⟨S128x2048, .i32⟩
  | 30 => ⟨S128x2048, .i32⟩
  | 31 => ⟨S_, .i32⟩
  | 32 => ⟨S128x2048, .i32⟩
  | 33 => ⟨S128x2048, .i1⟩
  | 34 => ⟨S128x2048, .i1⟩
  | 35 => ⟨S_, .i32⟩
  | 36 => ⟨S128x2048, .i32⟩
  | 37 => ⟨S128x2048, .i32⟩
  | 38 => ⟨S128x2048, .i32⟩
  | 39 => ⟨S128x2048, .i32⟩
  | 40 => ⟨S_, .i32⟩
  | 41 => ⟨S_, .i32⟩
  | 42 => ⟨S128x2048, .i32⟩
  | 43 => ⟨S128x2048, .i32⟩
  | 44 => ⟨S128x2048, .i32⟩
  | 45 => ⟨S_, .i32⟩
  | 46 => ⟨S128x2048, .i32⟩
  | 47 => ⟨S128x2048, .i1⟩
  | 48 => ⟨S128x2048, .i32⟩
  | 49 => ⟨S128x2048, .i32⟩
  | 50 => ⟨S_, .i32⟩
  | 51 => ⟨S128x2048, .i32⟩
  | 52 => ⟨S128x2048, .i1⟩
  | 53 => ⟨S128x2048, .i1⟩
  | 54 => ⟨S_, .i32⟩
  | 55 => ⟨S128x2048, .i32⟩
  | 56 => ⟨S128x2048, .i32⟩
  | 57 => ⟨S128x2048, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S128x2048, .i32⟩
  | 65 => ⟨S128x2048, .i32⟩
  | 66 => ⟨S_, .i32⟩
  | 67 => ⟨S128x2048, .i32⟩
  | 68 => ⟨S128x2048, .i1⟩
  | 69 => ⟨S_, .i32⟩
  | 70 => ⟨S128x2048, .i32⟩
  | 71 => ⟨S128x2048, .i1⟩
  | 72 => ⟨S_, .i32⟩
  | 73 => ⟨S_, .i1⟩
  | 74 => ⟨S128x2048, .i1⟩
  | 75 => ⟨S128x2048, .i1⟩
  | 76 => ⟨S128x2048, .i1⟩
  | 77 => ⟨S128x2048, .i32⟩
  | 78 => ⟨S128x2048, .i32⟩
  | 79 => ⟨S128x2048, .i32⟩
  | 80 => ⟨S128x2048, .i1⟩
  | 81 => ⟨S_, .f32⟩
  | 82 => ⟨S_, .f32⟩
  | 83 => ⟨S128x2048, .f32⟩
  | 84 => ⟨S128x2048, .f32⟩
  | 85 => ⟨S8x16x2048, .f32⟩
  | 86 => ⟨S_, .f32⟩
  | 87 => ⟨S16x2048, .f32⟩
  | 88 => ⟨S16x32x64, .f32⟩
  | 89 => ⟨S32x16x64, .f32⟩
  | 90 => ⟨S32x16x64, .f32⟩
  | 91 => ⟨S32x64, .f32⟩
  | 92 => ⟨S32x64, .f32⟩
  | _ => ⟨S1x2048x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x2048x512, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S2048x128, .f32⟩
  | .local _ .vmem, ⟨15, _⟩ => ⟨S2048x128, .f32⟩
  | .local _ .vmem, ⟨16, _⟩ => ⟨S2048x512, .f32⟩
  | .local _ .vmem, ⟨17, _⟩ => ⟨S2048x512, .f32⟩
  | .local _ .vmem, ⟨18, _⟩ => ⟨S2048x512, .f32⟩
  | .local _ .vmem, ⟨19, _⟩ => ⟨S2048x512, .f32⟩
  | .local _ .vmem, ⟨20, _⟩ => ⟨S2048x128, .f32⟩
  | .local _ .vmem, ⟨21, _⟩ => ⟨S2048x128, .f32⟩
  | .local _ .vmem, ⟨22, _⟩ => ⟨S2048x128, .bf16⟩
  | .local _ .vmem, ⟨23, _⟩ => ⟨S2048x128, .bf16⟩
  | .local _ .vmem, ⟨24, _⟩ => ⟨S2048x128, .f32⟩
  | .local _ .vmem, ⟨25, _⟩ => ⟨S2048x128, .f32⟩
  | .local _ .vmem, ⟨26, _⟩ => ⟨S2048x512, .f32⟩
  | .local _ .vmem, ⟨27, _⟩ => ⟨S2048x512, .f32⟩
  | .local _ .vmem, ⟨28, _⟩ => ⟨S2048x512, .f32⟩
  | .local _ .vmem, ⟨29, _⟩ => ⟨S2048x512, .f32⟩
  | .local _ .vmem, ⟨30, _⟩ => ⟨S128x512, .bf16⟩
  | .local _ .vmem, ⟨31, _⟩ => ⟨S128x512, .bf16⟩
  | .local _ .vmem, ⟨32, _⟩ => ⟨S128x512, .bf16⟩
  | .local _ .vmem, ⟨33, _⟩ => ⟨S128x512, .bf16⟩
  | .local _ .vmem, ⟨34, _⟩ => ⟨S128x512, .bf16⟩
  | .local _ .vmem, ⟨35, _⟩ => ⟨S128x512, .bf16⟩
  | .local _ .vmem, ⟨36, _⟩ => ⟨S128x512, .bf16⟩
  | .local _ .vmem, ⟨37, _⟩ => ⟨S128x512, .bf16⟩
  | .local _ .vmem, ⟨38, _⟩ => ⟨S1x512, .f32⟩
  | .local _ .vmem, ⟨39, _⟩ => ⟨S1x512, .f32⟩
  | .local _ .vmem, ⟨40, _⟩ => ⟨S1x512, .f32⟩
  | .local _ .vmem, ⟨41, _⟩ => ⟨S1x512, .f32⟩
  | .local _ .vmem, ⟨42, _⟩ => ⟨S2048x128, .f32⟩
  | .local _ .vmem, ⟨43, _⟩ => ⟨S2048x128, .f32⟩
  | .local _ .vmem, ⟨44, _⟩ => ⟨S128x512, .f32⟩
  | .local _ .vmem, ⟨45, _⟩ => ⟨S128x512, .f32⟩
  | .local _ .vmem, ⟨46, _⟩ => ⟨S128x512, .f32⟩
  | .local _ .vmem, ⟨47, _⟩ => ⟨S128x512, .f32⟩
  | .local _ .vmem, ⟨48, _⟩ => ⟨S128x512, .f32⟩
  | .local _ .vmem, ⟨49, _⟩ => ⟨S128x512, .f32⟩
  | .local _ .vmem, ⟨50, _⟩ => ⟨S128x512, .f32⟩
  | .local _ .vmem, ⟨51, _⟩ => ⟨S128x512, .f32⟩
  | .local _ .vmem, ⟨52, _⟩ => ⟨S1x512, .f32⟩
  | .local _ .vmem, ⟨53, _⟩ => ⟨S1x512, .f32⟩
  | .local _ .vmem, ⟨54, _⟩ => ⟨S1x512, .f32⟩
  | .local _ .vmem, ⟨55, _⟩ => ⟨S1x512, .f32⟩
  | .local _ .vmem, ⟨56, _⟩ => ⟨S2048x512, .f32⟩
  | .local _ .vmem, ⟨57, _⟩ => ⟨S2048x512, .f32⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v10 : Ref sig .tc := ⟨.hbm, 36, rfl⟩
abbrev main_v11 : Ref sig .tc := ⟨.hbm, 37, rfl⟩
abbrev main_c_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v12 : Ref sig .tc := ⟨.hbm, 55, rfl⟩
abbrev main_c_1 : Ref sig .tc := ⟨.hbm, 56, rfl⟩
abbrev main_call2_v0 : Ref sig .tc := ⟨.hbm, 57, rfl⟩
abbrev main_call2_c : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_c_1 : Ref sig .tc := ⟨.hbm, 64, rfl⟩
abbrev main_call2_v5 : Ref sig .tc := ⟨.hbm, 65, rfl⟩
abbrev main_call2_v6 : Ref sig .tc := ⟨.hbm, 66, rfl⟩
abbrev main_call2_c_2 : Ref sig .tc := ⟨.hbm, 67, rfl⟩
abbrev main_call2_v7 : Ref sig .tc := ⟨.hbm, 68, rfl⟩
abbrev main_call2_v8 : Ref sig .tc := ⟨.hbm, 69, rfl⟩
abbrev main_call2_c_3 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_v13 : Ref sig .tc := ⟨.hbm, 77, rfl⟩
abbrev main_v14 : Ref sig .tc := ⟨.hbm, 78, rfl⟩
abbrev main_cst : Ref sig .tc := ⟨.hbm, 79, rfl⟩
abbrev main_call3_v0 : Ref sig .tc := ⟨.hbm, 80, rfl⟩
abbrev main_call3_v1 : Ref sig .tc := ⟨.hbm, 81, rfl⟩
abbrev main_v15 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_c_2 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_call4_v5 : Ref sig .tc := ⟨.hbm, 95, rfl⟩
abbrev main_call4_v6 : Ref sig .tc := ⟨.hbm, 96, rfl⟩
abbrev main_call4_v7 : Ref sig .tc := ⟨.hbm, 97, rfl⟩
abbrev main_call4_v8 : Ref sig .tc := ⟨.hbm, 98, rfl⟩
abbrev main_call4_c : Ref sig .tc := ⟨.hbm, 99, rfl⟩
abbrev main_call4_v9 : Ref sig .tc := ⟨.hbm, 100, rfl⟩
abbrev main_call4_v10 : Ref sig .tc := ⟨.hbm, 101, rfl⟩
abbrev main_call4_v11 : Ref sig .tc := ⟨.hbm, 102, rfl⟩
abbrev main_call4_c_0 : Ref sig .tc := ⟨.hbm, 103, rfl⟩
abbrev main_call4_v12 : Ref sig .tc := ⟨.hbm, 104, rfl⟩
abbrev main_call4_v13 : Ref sig .tc := ⟨.hbm, 105, rfl⟩
abbrev main_v22 : Ref sig .tc := ⟨.hbm, 106, rfl⟩
abbrev main_v23 : Ref sig .tc := ⟨.hbm, 107, rfl⟩
abbrev main_c_3 : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_call5_v5 : Ref sig .tc := ⟨.hbm, 114, rfl⟩
abbrev main_call5_v6 : Ref sig .tc := ⟨.hbm, 115, rfl⟩
abbrev main_call5_v7 : Ref sig .tc := ⟨.hbm, 116, rfl⟩
abbrev main_call5_v8 : Ref sig .tc := ⟨.hbm, 117, rfl⟩
abbrev main_call5_c : Ref sig .tc := ⟨.hbm, 118, rfl⟩
abbrev main_call5_v9 : Ref sig .tc := ⟨.hbm, 119, rfl⟩
abbrev main_call5_v10 : Ref sig .tc := ⟨.hbm, 120, rfl⟩
abbrev main_call5_v11 : Ref sig .tc := ⟨.hbm, 121, rfl⟩
abbrev main_call5_c_0 : Ref sig .tc := ⟨.hbm, 122, rfl⟩
abbrev main_call5_v12 : Ref sig .tc := ⟨.hbm, 123, rfl⟩
abbrev main_call5_v13 : Ref sig .tc := ⟨.hbm, 124, rfl⟩
abbrev main_v24 : Ref sig .tc := ⟨.hbm, 125, rfl⟩
abbrev main_c_4 : Ref sig .tc := ⟨.hbm, 126, rfl⟩
abbrev main_call6_v0 : Ref sig .tc := ⟨.hbm, 127, rfl⟩
abbrev main_call6_c : Ref sig .tc := ⟨.hbm, 128, rfl⟩
abbrev main_call6_v1 : Ref sig .tc := ⟨.hbm, 129, rfl⟩
abbrev main_call6_c_0 : Ref sig .tc := ⟨.hbm, 130, rfl⟩
abbrev main_call6_v2 : Ref sig .tc := ⟨.hbm, 131, rfl⟩
abbrev main_call6_v3 : Ref sig .tc := ⟨.hbm, 132, rfl⟩
abbrev main_call6_v4 : Ref sig .tc := ⟨.hbm, 133, rfl⟩
abbrev main_call6_c_1 : Ref sig .tc := ⟨.hbm, 134, rfl⟩
abbrev main_call6_v5 : Ref sig .tc := ⟨.hbm, 135, rfl⟩
abbrev main_call6_v6 : Ref sig .tc := ⟨.hbm, 136, rfl⟩
abbrev main_call6_c_2 : Ref sig .tc := ⟨.hbm, 137, rfl⟩
abbrev main_call6_v7 : Ref sig .tc := ⟨.hbm, 138, rfl⟩
abbrev main_call6_v8 : Ref sig .tc := ⟨.hbm, 139, rfl⟩
abbrev main_call6_c_3 : Ref sig .tc := ⟨.hbm, 140, rfl⟩
abbrev main_call6_v9 : Ref sig .tc := ⟨.hbm, 141, rfl⟩
abbrev main_call6_v10 : Ref sig .tc := ⟨.hbm, 142, rfl⟩
abbrev main_call6_v11 : Ref sig .tc := ⟨.hbm, 143, rfl⟩
abbrev main_call6_v12 : Ref sig .tc := ⟨.hbm, 144, rfl⟩
abbrev main_call6_v13 : Ref sig .tc := ⟨.hbm, 145, rfl⟩
abbrev main_call6_v14 : Ref sig .tc := ⟨.hbm, 146, rfl⟩
abbrev main_v25 : Ref sig .tc := ⟨.hbm, 147, rfl⟩
abbrev main_v26 : Ref sig .tc := ⟨.hbm, 148, rfl⟩
abbrev main_cst_5 : Ref sig .tc := ⟨.hbm, 149, rfl⟩
abbrev main_call7_v0 : Ref sig .tc := ⟨.hbm, 150, rfl⟩
abbrev main_call7_v1 : Ref sig .tc := ⟨.hbm, 151, rfl⟩
abbrev main_v27 : Ref sig .tc := ⟨.hbm, 152, rfl⟩
abbrev main_v28 : Ref sig .tc := ⟨.hbm, 153, rfl⟩
abbrev main_v29 : Ref sig .tc := ⟨.hbm, 154, rfl⟩
abbrev main_v30 : Ref sig .tc := ⟨.hbm, 155, rfl⟩
abbrev main_v31 : Ref sig .tc := ⟨.hbm, 156, rfl⟩
abbrev main_v32 : Ref sig .tc := ⟨.hbm, 157, rfl⟩
abbrev main_v33 : Ref sig .tc := ⟨.hbm, 158, rfl⟩
abbrev main_c_6 : Ref sig .tc := ⟨.hbm, 159, rfl⟩
abbrev main_call8_v0 : Ref sig .tc := ⟨.hbm, 160, rfl⟩
abbrev main_call8_v1 : Ref sig .tc := ⟨.hbm, 161, rfl⟩
abbrev main_call8_v2 : Ref sig .tc := ⟨.hbm, 162, rfl⟩
abbrev main_call8_v3 : Ref sig .tc := ⟨.hbm, 163, rfl⟩
abbrev main_call8_v4 : Ref sig .tc := ⟨.hbm, 164, rfl⟩
abbrev main_call8_v5 : Ref sig .tc := ⟨.hbm, 165, rfl⟩
abbrev main_call8_v6 : Ref sig .tc := ⟨.hbm, 166, rfl⟩
abbrev main_call8_v7 : Ref sig .tc := ⟨.hbm, 167, rfl⟩
abbrev main_call8_v8 : Ref sig .tc := ⟨.hbm, 168, rfl⟩
abbrev main_call8_c : Ref sig .tc := ⟨.hbm, 169, rfl⟩
abbrev main_call8_v9 : Ref sig .tc := ⟨.hbm, 170, rfl⟩
abbrev main_call8_v10 : Ref sig .tc := ⟨.hbm, 171, rfl⟩
abbrev main_call8_v11 : Ref sig .tc := ⟨.hbm, 172, rfl⟩
abbrev main_call8_c_0 : Ref sig .tc := ⟨.hbm, 173, rfl⟩
abbrev main_call8_v12 : Ref sig .tc := ⟨.hbm, 174, rfl⟩
abbrev main_call8_v13 : Ref sig .tc := ⟨.hbm, 175, rfl⟩
abbrev main_v34 : Ref sig .tc := ⟨.hbm, 176, rfl⟩
abbrev main_v35 : Ref sig .tc := ⟨.hbm, 177, rfl⟩
abbrev main_c_7 : Ref sig .tc := ⟨.hbm, 178, rfl⟩
abbrev main_call9_v0 : Ref sig .tc := ⟨.hbm, 179, rfl⟩
abbrev main_call9_v1 : Ref sig .tc := ⟨.hbm, 180, rfl⟩
abbrev main_call9_v2 : Ref sig .tc := ⟨.hbm, 181, rfl⟩
abbrev main_call9_v3 : Ref sig .tc := ⟨.hbm, 182, rfl⟩
abbrev main_call9_v4 : Ref sig .tc := ⟨.hbm, 183, rfl⟩
abbrev main_call9_v5 : Ref sig .tc := ⟨.hbm, 184, rfl⟩
abbrev main_call9_v6 : Ref sig .tc := ⟨.hbm, 185, rfl⟩
abbrev main_call9_v7 : Ref sig .tc := ⟨.hbm, 186, rfl⟩
abbrev main_call9_v8 : Ref sig .tc := ⟨.hbm, 187, rfl⟩
abbrev main_call9_c : Ref sig .tc := ⟨.hbm, 188, rfl⟩
abbrev main_call9_v9 : Ref sig .tc := ⟨.hbm, 189, rfl⟩
abbrev main_call9_v10 : Ref sig .tc := ⟨.hbm, 190, rfl⟩
abbrev main_call9_v11 : Ref sig .tc := ⟨.hbm, 191, rfl⟩
abbrev main_call9_c_0 : Ref sig .tc := ⟨.hbm, 192, rfl⟩
abbrev main_call9_v12 : Ref sig .tc := ⟨.hbm, 193, rfl⟩
abbrev main_call9_v13 : Ref sig .tc := ⟨.hbm, 194, rfl⟩
abbrev main_v36 : Ref sig .tc := ⟨.hbm, 195, rfl⟩
abbrev main_c_8 : Ref sig .tc := ⟨.hbm, 196, rfl⟩
abbrev main_call10_v0 : Ref sig .tc := ⟨.hbm, 197, rfl⟩
abbrev main_call10_c : Ref sig .tc := ⟨.hbm, 198, rfl⟩
abbrev main_call10_v1 : Ref sig .tc := ⟨.hbm, 199, rfl⟩
abbrev main_call10_c_0 : Ref sig .tc := ⟨.hbm, 200, rfl⟩
abbrev main_call10_v2 : Ref sig .tc := ⟨.hbm, 201, rfl⟩
abbrev main_call10_v3 : Ref sig .tc := ⟨.hbm, 202, rfl⟩
abbrev main_call10_v4 : Ref sig .tc := ⟨.hbm, 203, rfl⟩
abbrev main_call10_c_1 : Ref sig .tc := ⟨.hbm, 204, rfl⟩
abbrev main_call10_v5 : Ref sig .tc := ⟨.hbm, 205, rfl⟩
abbrev main_call10_v6 : Ref sig .tc := ⟨.hbm, 206, rfl⟩
abbrev main_call10_c_2 : Ref sig .tc := ⟨.hbm, 207, rfl⟩
abbrev main_call10_v7 : Ref sig .tc := ⟨.hbm, 208, rfl⟩
abbrev main_call10_v8 : Ref sig .tc := ⟨.hbm, 209, rfl⟩
abbrev main_call10_c_3 : Ref sig .tc := ⟨.hbm, 210, rfl⟩
abbrev main_call10_v9 : Ref sig .tc := ⟨.hbm, 211, rfl⟩
abbrev main_call10_v10 : Ref sig .tc := ⟨.hbm, 212, rfl⟩
abbrev main_call10_v11 : Ref sig .tc := ⟨.hbm, 213, rfl⟩
abbrev main_call10_v12 : Ref sig .tc := ⟨.hbm, 214, rfl⟩
abbrev main_call10_v13 : Ref sig .tc := ⟨.hbm, 215, rfl⟩
abbrev main_call10_v14 : Ref sig .tc := ⟨.hbm, 216, rfl⟩
abbrev main_v37 : Ref sig .tc := ⟨.hbm, 217, rfl⟩
abbrev main_v38 : Ref sig .tc := ⟨.hbm, 218, rfl⟩
abbrev main_cst_9 : Ref sig .tc := ⟨.hbm, 219, rfl⟩
abbrev main_call11_v0 : Ref sig .tc := ⟨.hbm, 220, rfl⟩
abbrev main_call11_v1 : Ref sig .tc := ⟨.hbm, 221, rfl⟩
abbrev main_v39 : Ref sig .tc := ⟨.hbm, 222, rfl⟩
abbrev main_v40 : Ref sig .tc := ⟨.hbm, 223, rfl⟩
abbrev main_v41 : Ref sig .tc := ⟨.hbm, 224, rfl⟩
abbrev main_v42 : Ref sig .tc := ⟨.hbm, 225, rfl⟩
abbrev main_v43 : Ref sig .tc := ⟨.hbm, 226, rfl⟩
abbrev main_v44 : Ref sig .tc := ⟨.hbm, 227, rfl⟩
abbrev main_v45 : Ref sig .tc := ⟨.hbm, 228, rfl⟩
abbrev main_c_10 : Ref sig .tc := ⟨.hbm, 229, rfl⟩
abbrev main_call12_v0 : Ref sig .tc := ⟨.hbm, 230, rfl⟩
abbrev main_call12_v1 : Ref sig .tc := ⟨.hbm, 231, rfl⟩
abbrev main_call12_v2 : Ref sig .tc := ⟨.hbm, 232, rfl⟩
abbrev main_call12_v3 : Ref sig .tc := ⟨.hbm, 233, rfl⟩
abbrev main_call12_v4 : Ref sig .tc := ⟨.hbm, 234, rfl⟩
abbrev main_call12_v5 : Ref sig .tc := ⟨.hbm, 235, rfl⟩
abbrev main_call12_v6 : Ref sig .tc := ⟨.hbm, 236, rfl⟩
abbrev main_call12_v7 : Ref sig .tc := ⟨.hbm, 237, rfl⟩
abbrev main_call12_v8 : Ref sig .tc := ⟨.hbm, 238, rfl⟩
abbrev main_call12_c : Ref sig .tc := ⟨.hbm, 239, rfl⟩
abbrev main_call12_v9 : Ref sig .tc := ⟨.hbm, 240, rfl⟩
abbrev main_call12_v10 : Ref sig .tc := ⟨.hbm, 241, rfl⟩
abbrev main_call12_v11 : Ref sig .tc := ⟨.hbm, 242, rfl⟩
abbrev main_call12_c_0 : Ref sig .tc := ⟨.hbm, 243, rfl⟩
abbrev main_call12_v12 : Ref sig .tc := ⟨.hbm, 244, rfl⟩
abbrev main_call12_v13 : Ref sig .tc := ⟨.hbm, 245, rfl⟩
abbrev main_v46 : Ref sig .tc := ⟨.hbm, 246, rfl⟩
abbrev main_v47 : Ref sig .tc := ⟨.hbm, 247, rfl⟩
abbrev main_c_11 : Ref sig .tc := ⟨.hbm, 248, rfl⟩
abbrev main_call13_v0 : Ref sig .tc := ⟨.hbm, 249, rfl⟩
abbrev main_call13_v1 : Ref sig .tc := ⟨.hbm, 250, rfl⟩
abbrev main_call13_v2 : Ref sig .tc := ⟨.hbm, 251, rfl⟩
abbrev main_call13_v3 : Ref sig .tc := ⟨.hbm, 252, rfl⟩
abbrev main_call13_v4 : Ref sig .tc := ⟨.hbm, 253, rfl⟩
abbrev main_call13_v5 : Ref sig .tc := ⟨.hbm, 254, rfl⟩
abbrev main_call13_v6 : Ref sig .tc := ⟨.hbm, 255, rfl⟩
abbrev main_call13_v7 : Ref sig .tc := ⟨.hbm, 256, rfl⟩
abbrev main_call13_v8 : Ref sig .tc := ⟨.hbm, 257, rfl⟩
abbrev main_call13_c : Ref sig .tc := ⟨.hbm, 258, rfl⟩
abbrev main_call13_v9 : Ref sig .tc := ⟨.hbm, 259, rfl⟩
abbrev main_call13_v10 : Ref sig .tc := ⟨.hbm, 260, rfl⟩
abbrev main_call13_v11 : Ref sig .tc := ⟨.hbm, 261, rfl⟩
abbrev main_call13_c_0 : Ref sig .tc := ⟨.hbm, 262, rfl⟩
abbrev main_call13_v12 : Ref sig .tc := ⟨.hbm, 263, rfl⟩
abbrev main_call13_v13 : Ref sig .tc := ⟨.hbm, 264, rfl⟩
abbrev main_v48 : Ref sig .tc := ⟨.hbm, 265, rfl⟩
abbrev main_c_12 : Ref sig .tc := ⟨.hbm, 266, rfl⟩
abbrev main_call14_v0 : Ref sig .tc := ⟨.hbm, 267, rfl⟩
abbrev main_call14_c : Ref sig .tc := ⟨.hbm, 268, rfl⟩
abbrev main_call14_v1 : Ref sig .tc := ⟨.hbm, 269, rfl⟩
abbrev main_call14_c_0 : Ref sig .tc := ⟨.hbm, 270, rfl⟩
abbrev main_call14_v2 : Ref sig .tc := ⟨.hbm, 271, rfl⟩
abbrev main_call14_v3 : Ref sig .tc := ⟨.hbm, 272, rfl⟩
abbrev main_call14_v4 : Ref sig .tc := ⟨.hbm, 273, rfl⟩
abbrev main_call14_c_1 : Ref sig .tc := ⟨.hbm, 274, rfl⟩
abbrev main_call14_v5 : Ref sig .tc := ⟨.hbm, 275, rfl⟩
abbrev main_call14_v6 : Ref sig .tc := ⟨.hbm, 276, rfl⟩
abbrev main_call14_c_2 : Ref sig .tc := ⟨.hbm, 277, rfl⟩
abbrev main_call14_v7 : Ref sig .tc := ⟨.hbm, 278, rfl⟩
abbrev main_call14_v8 : Ref sig .tc := ⟨.hbm, 279, rfl⟩
abbrev main_call14_c_3 : Ref sig .tc := ⟨.hbm, 280, rfl⟩
abbrev main_call14_v9 : Ref sig .tc := ⟨.hbm, 281, rfl⟩
abbrev main_call14_v10 : Ref sig .tc := ⟨.hbm, 282, rfl⟩
abbrev main_call14_v11 : Ref sig .tc := ⟨.hbm, 283, rfl⟩
abbrev main_call14_v12 : Ref sig .tc := ⟨.hbm, 284, rfl⟩
abbrev main_call14_v13 : Ref sig .tc := ⟨.hbm, 285, rfl⟩
abbrev main_call14_v14 : Ref sig .tc := ⟨.hbm, 286, rfl⟩
abbrev main_v49 : Ref sig .tc := ⟨.hbm, 287, rfl⟩
abbrev main_v50 : Ref sig .tc := ⟨.hbm, 288, rfl⟩
abbrev main_cst_13 : Ref sig .tc := ⟨.hbm, 289, rfl⟩
abbrev main_call15_v0 : Ref sig .tc := ⟨.hbm, 290, rfl⟩
abbrev main_call15_v1 : Ref sig .tc := ⟨.hbm, 291, rfl⟩
abbrev main_v51 : Ref sig .tc := ⟨.hbm, 292, rfl⟩
abbrev main_v52 : Ref sig .tc := ⟨.hbm, 293, rfl⟩
abbrev main_v53 : Ref sig .tc := ⟨.hbm, 294, rfl⟩
abbrev main_v54 : Ref sig .tc := ⟨.hbm, 295, rfl⟩
abbrev main_v55 : Ref sig .tc := ⟨.hbm, 296, rfl⟩
abbrev main_v56 : Ref sig .tc := ⟨.hbm, 297, rfl⟩
abbrev main_v57 : Ref sig .tc := ⟨.hbm, 298, rfl⟩
abbrev main_v58_0 : Ref sig .tc := ⟨.hbm, 299, rfl⟩
abbrev main_v58_1 : Ref sig .tc := ⟨.hbm, 300, rfl⟩
abbrev main_v58_2 : Ref sig .tc := ⟨.hbm, 301, rfl⟩
abbrev main_v59 : Ref sig .tc := ⟨.hbm, 302, rfl⟩
abbrev main_v60 : Ref sig .tc := ⟨.hbm, 303, rfl⟩
abbrev main_v61 : Ref sig .tc := ⟨.hbm, 304, rfl⟩
abbrev main_v62 : Ref sig .tc := ⟨.hbm, 305, rfl⟩
abbrev main_v63 : Ref sig .tc := ⟨.hbm, 306, rfl⟩
abbrev main_v64 : Ref sig .tc := ⟨.hbm, 307, rfl⟩
abbrev main_v65 : Ref sig .tc := ⟨.hbm, 308, rfl⟩
abbrev main_v66_0 : Ref sig .tc := ⟨.hbm, 309, rfl⟩
abbrev main_v66_1 : Ref sig .tc := ⟨.hbm, 310, rfl⟩
abbrev main_v66_2 : Ref sig .tc := ⟨.hbm, 311, rfl⟩
abbrev main_v66_3 : Ref sig .tc := ⟨.hbm, 312, rfl⟩
abbrev main_v66_4 : Ref sig .tc := ⟨.hbm, 313, rfl⟩
abbrev main_v66_5 : Ref sig .tc := ⟨.hbm, 314, rfl⟩
abbrev main_v66_6 : Ref sig .tc := ⟨.hbm, 315, rfl⟩
abbrev main_v67 : Ref sig .tc := ⟨.hbm, 316, rfl⟩
abbrev main_v68 : Ref sig .tc := ⟨.hbm, 317, rfl⟩
abbrev main_v69 : Ref sig .tc := ⟨.hbm, 318, rfl⟩
abbrev main_v70 : Ref sig .tc := ⟨.hbm, 319, rfl⟩
abbrev main_v71 : Ref sig .tc := ⟨.hbm, 320, rfl⟩
abbrev main_c_14 : Ref sig .tc := ⟨.hbm, 321, rfl⟩
abbrev main_call16_v0 : Ref sig .tc := ⟨.hbm, 322, rfl⟩
abbrev main_call16_v1 : Ref sig .tc := ⟨.hbm, 323, rfl⟩
abbrev main_call16_v2 : Ref sig .tc := ⟨.hbm, 324, rfl⟩
abbrev main_call16_v3 : Ref sig .tc := ⟨.hbm, 325, rfl⟩
abbrev main_call16_v4 : Ref sig .tc := ⟨.hbm, 326, rfl⟩
abbrev main_call16_v5 : Ref sig .tc := ⟨.hbm, 327, rfl⟩
abbrev main_call16_v6 : Ref sig .tc := ⟨.hbm, 328, rfl⟩
abbrev main_call16_v7 : Ref sig .tc := ⟨.hbm, 329, rfl⟩
abbrev main_call16_v8 : Ref sig .tc := ⟨.hbm, 330, rfl⟩
abbrev main_call16_c : Ref sig .tc := ⟨.hbm, 331, rfl⟩
abbrev main_call16_v9 : Ref sig .tc := ⟨.hbm, 332, rfl⟩
abbrev main_call16_v10 : Ref sig .tc := ⟨.hbm, 333, rfl⟩
abbrev main_call16_v11 : Ref sig .tc := ⟨.hbm, 334, rfl⟩
abbrev main_call16_c_0 : Ref sig .tc := ⟨.hbm, 335, rfl⟩
abbrev main_call16_v12 : Ref sig .tc := ⟨.hbm, 336, rfl⟩
abbrev main_call16_v13 : Ref sig .tc := ⟨.hbm, 337, rfl⟩
abbrev main_v72 : Ref sig .tc := ⟨.hbm, 338, rfl⟩
abbrev main_v73 : Ref sig .tc := ⟨.hbm, 339, rfl⟩
abbrev main_c_15 : Ref sig .tc := ⟨.hbm, 340, rfl⟩
abbrev main_call17_v0 : Ref sig .tc := ⟨.hbm, 341, rfl⟩
abbrev main_call17_v1 : Ref sig .tc := ⟨.hbm, 342, rfl⟩
abbrev main_call17_v2 : Ref sig .tc := ⟨.hbm, 343, rfl⟩
abbrev main_call17_v3 : Ref sig .tc := ⟨.hbm, 344, rfl⟩
abbrev main_call17_v4 : Ref sig .tc := ⟨.hbm, 345, rfl⟩
abbrev main_call17_v5 : Ref sig .tc := ⟨.hbm, 346, rfl⟩
abbrev main_call17_v6 : Ref sig .tc := ⟨.hbm, 347, rfl⟩
abbrev main_call17_v7 : Ref sig .tc := ⟨.hbm, 348, rfl⟩
abbrev main_call17_v8 : Ref sig .tc := ⟨.hbm, 349, rfl⟩
abbrev main_call17_c : Ref sig .tc := ⟨.hbm, 350, rfl⟩
abbrev main_call17_v9 : Ref sig .tc := ⟨.hbm, 351, rfl⟩
abbrev main_call17_v10 : Ref sig .tc := ⟨.hbm, 352, rfl⟩
abbrev main_call17_v11 : Ref sig .tc := ⟨.hbm, 353, rfl⟩
abbrev main_call17_c_0 : Ref sig .tc := ⟨.hbm, 354, rfl⟩
abbrev main_call17_v12 : Ref sig .tc := ⟨.hbm, 355, rfl⟩
abbrev main_call17_v13 : Ref sig .tc := ⟨.hbm, 356, rfl⟩
abbrev main_v74 : Ref sig .tc := ⟨.hbm, 357, rfl⟩
abbrev main_c_16 : Ref sig .tc := ⟨.hbm, 358, rfl⟩
abbrev main_call18_v0 : Ref sig .tc := ⟨.hbm, 359, rfl⟩
abbrev main_call18_c : Ref sig .tc := ⟨.hbm, 360, rfl⟩
abbrev main_call18_v1 : Ref sig .tc := ⟨.hbm, 361, rfl⟩
abbrev main_call18_c_0 : Ref sig .tc := ⟨.hbm, 362, rfl⟩
abbrev main_call18_v2 : Ref sig .tc := ⟨.hbm, 363, rfl⟩
abbrev main_call18_v3 : Ref sig .tc := ⟨.hbm, 364, rfl⟩
abbrev main_call18_v4 : Ref sig .tc := ⟨.hbm, 365, rfl⟩
abbrev main_call18_c_1 : Ref sig .tc := ⟨.hbm, 366, rfl⟩
abbrev main_call18_v5 : Ref sig .tc := ⟨.hbm, 367, rfl⟩
abbrev main_call18_v6 : Ref sig .tc := ⟨.hbm, 368, rfl⟩
abbrev main_call18_c_2 : Ref sig .tc := ⟨.hbm, 369, rfl⟩
abbrev main_call18_v7 : Ref sig .tc := ⟨.hbm, 370, rfl⟩
abbrev main_call18_v8 : Ref sig .tc := ⟨.hbm, 371, rfl⟩
abbrev main_call18_c_3 : Ref sig .tc := ⟨.hbm, 372, rfl⟩
abbrev main_call18_v9 : Ref sig .tc := ⟨.hbm, 373, rfl⟩
abbrev main_call18_v10 : Ref sig .tc := ⟨.hbm, 374, rfl⟩
abbrev main_call18_v11 : Ref sig .tc := ⟨.hbm, 375, rfl⟩
abbrev main_call18_v12 : Ref sig .tc := ⟨.hbm, 376, rfl⟩
abbrev main_call18_v13 : Ref sig .tc := ⟨.hbm, 377, rfl⟩
abbrev main_call18_v14 : Ref sig .tc := ⟨.hbm, 378, rfl⟩
abbrev main_v75 : Ref sig .tc := ⟨.hbm, 379, rfl⟩
abbrev main_v76 : Ref sig .tc := ⟨.hbm, 380, rfl⟩
abbrev main_cst_17 : Ref sig .tc := ⟨.hbm, 381, rfl⟩
abbrev main_call19_v0 : Ref sig .tc := ⟨.hbm, 382, rfl⟩
abbrev main_call19_v1 : Ref sig .tc := ⟨.hbm, 383, rfl⟩
abbrev main_v77 : Ref sig .tc := ⟨.hbm, 384, rfl⟩
abbrev main_v78 : Ref sig .tc := ⟨.hbm, 385, rfl⟩
abbrev main_cst_18 : Ref sig .tc := ⟨.hbm, 386, rfl⟩
abbrev main_v79 : Ref sig .tc := ⟨.hbm, 387, rfl⟩
abbrev main_v80 : Ref sig .tc := ⟨.hbm, 388, rfl⟩
abbrev main_v81 : Ref sig .tc := ⟨.hbm, 389, rfl⟩
abbrev main_v82 : Ref sig .tc := ⟨.hbm, 390, rfl⟩
abbrev main_v83 : Ref sig .tc := ⟨.hbm, 391, rfl⟩
abbrev main_c_19 : Ref sig .tc := ⟨.hbm, 392, rfl⟩
abbrev main_call20_v0 : Ref sig .tc := ⟨.hbm, 393, rfl⟩
abbrev main_call20_v1 : Ref sig .tc := ⟨.hbm, 394, rfl⟩
abbrev main_call20_v2 : Ref sig .tc := ⟨.hbm, 395, rfl⟩
abbrev main_call20_v3 : Ref sig .tc := ⟨.hbm, 396, rfl⟩
abbrev main_call20_v4 : Ref sig .tc := ⟨.hbm, 397, rfl⟩
abbrev main_call20_v5 : Ref sig .tc := ⟨.hbm, 398, rfl⟩
abbrev main_call20_v6 : Ref sig .tc := ⟨.hbm, 399, rfl⟩
abbrev main_call20_v7 : Ref sig .tc := ⟨.hbm, 400, rfl⟩
abbrev main_call20_v8 : Ref sig .tc := ⟨.hbm, 401, rfl⟩
abbrev main_call20_c : Ref sig .tc := ⟨.hbm, 402, rfl⟩
abbrev main_call20_v9 : Ref sig .tc := ⟨.hbm, 403, rfl⟩
abbrev main_call20_v10 : Ref sig .tc := ⟨.hbm, 404, rfl⟩
abbrev main_call20_v11 : Ref sig .tc := ⟨.hbm, 405, rfl⟩
abbrev main_call20_c_0 : Ref sig .tc := ⟨.hbm, 406, rfl⟩
abbrev main_call20_v12 : Ref sig .tc := ⟨.hbm, 407, rfl⟩
abbrev main_call20_v13 : Ref sig .tc := ⟨.hbm, 408, rfl⟩
abbrev main_v84 : Ref sig .tc := ⟨.hbm, 409, rfl⟩
abbrev main_v85 : Ref sig .tc := ⟨.hbm, 410, rfl⟩
abbrev main_c_20 : Ref sig .tc := ⟨.hbm, 411, rfl⟩
abbrev main_call21_v0 : Ref sig .tc := ⟨.hbm, 412, rfl⟩
abbrev main_call21_v1 : Ref sig .tc := ⟨.hbm, 413, rfl⟩
abbrev main_call21_v2 : Ref sig .tc := ⟨.hbm, 414, rfl⟩
abbrev main_call21_v3 : Ref sig .tc := ⟨.hbm, 415, rfl⟩
abbrev main_call21_v4 : Ref sig .tc := ⟨.hbm, 416, rfl⟩
abbrev main_call21_v5 : Ref sig .tc := ⟨.hbm, 417, rfl⟩
abbrev main_call21_v6 : Ref sig .tc := ⟨.hbm, 418, rfl⟩
abbrev main_call21_v7 : Ref sig .tc := ⟨.hbm, 419, rfl⟩
abbrev main_call21_v8 : Ref sig .tc := ⟨.hbm, 420, rfl⟩
abbrev main_call21_c : Ref sig .tc := ⟨.hbm, 421, rfl⟩
abbrev main_call21_v9 : Ref sig .tc := ⟨.hbm, 422, rfl⟩
abbrev main_call21_v10 : Ref sig .tc := ⟨.hbm, 423, rfl⟩
abbrev main_call21_v11 : Ref sig .tc := ⟨.hbm, 424, rfl⟩
abbrev main_call21_c_0 : Ref sig .tc := ⟨.hbm, 425, rfl⟩
abbrev main_call21_v12 : Ref sig .tc := ⟨.hbm, 426, rfl⟩
abbrev main_call21_v13 : Ref sig .tc := ⟨.hbm, 427, rfl⟩
abbrev main_v86 : Ref sig .tc := ⟨.hbm, 428, rfl⟩
abbrev main_c_21 : Ref sig .tc := ⟨.hbm, 429, rfl⟩
abbrev main_call22_v0 : Ref sig .tc := ⟨.hbm, 430, rfl⟩
abbrev main_call22_c : Ref sig .tc := ⟨.hbm, 431, rfl⟩
abbrev main_call22_v1 : Ref sig .tc := ⟨.hbm, 432, rfl⟩
abbrev main_call22_c_0 : Ref sig .tc := ⟨.hbm, 433, rfl⟩
abbrev main_call22_v2 : Ref sig .tc := ⟨.hbm, 434, rfl⟩
abbrev main_call22_v3 : Ref sig .tc := ⟨.hbm, 435, rfl⟩
abbrev main_call22_v4 : Ref sig .tc := ⟨.hbm, 436, rfl⟩
abbrev main_call22_c_1 : Ref sig .tc := ⟨.hbm, 437, rfl⟩
abbrev main_call22_v5 : Ref sig .tc := ⟨.hbm, 438, rfl⟩
abbrev main_call22_v6 : Ref sig .tc := ⟨.hbm, 439, rfl⟩
abbrev main_call22_c_2 : Ref sig .tc := ⟨.hbm, 440, rfl⟩
abbrev main_call22_v7 : Ref sig .tc := ⟨.hbm, 441, rfl⟩
abbrev main_call22_v8 : Ref sig .tc := ⟨.hbm, 442, rfl⟩
abbrev main_call22_c_3 : Ref sig .tc := ⟨.hbm, 443, rfl⟩
abbrev main_call22_v9 : Ref sig .tc := ⟨.hbm, 444, rfl⟩
abbrev main_call22_v10 : Ref sig .tc := ⟨.hbm, 445, rfl⟩
abbrev main_call22_v11 : Ref sig .tc := ⟨.hbm, 446, rfl⟩
abbrev main_call22_v12 : Ref sig .tc := ⟨.hbm, 447, rfl⟩
abbrev main_call22_v13 : Ref sig .tc := ⟨.hbm, 448, rfl⟩
abbrev main_call22_v14 : Ref sig .tc := ⟨.hbm, 449, rfl⟩
abbrev main_v87 : Ref sig .tc := ⟨.hbm, 450, rfl⟩
abbrev main_v88 : Ref sig .tc := ⟨.hbm, 451, rfl⟩
abbrev main_cst_22 : Ref sig .tc := ⟨.hbm, 452, rfl⟩
abbrev main_call23_v0 : Ref sig .tc := ⟨.hbm, 453, rfl⟩
abbrev main_call23_v1 : Ref sig .tc := ⟨.hbm, 454, rfl⟩
abbrev main_v89 : Ref sig .tc := ⟨.hbm, 455, rfl⟩
abbrev main_v90 : Ref sig .tc := ⟨.hbm, 456, rfl⟩
abbrev main_cst_23 : Ref sig .tc := ⟨.hbm, 457, rfl⟩
abbrev main_v91 : Ref sig .tc := ⟨.hbm, 458, rfl⟩
abbrev main_v92 : Ref sig .tc := ⟨.hbm, 459, rfl⟩
abbrev main_v93 : Ref sig .tc := ⟨.hbm, 460, rfl⟩
abbrev main_v94 : Ref sig .tc := ⟨.hbm, 461, rfl⟩
abbrev main_v95 : Ref sig .tc := ⟨.hbm, 462, rfl⟩
abbrev main_c_24 : Ref sig .tc := ⟨.hbm, 463, rfl⟩
abbrev main_call24_v0 : Ref sig .tc := ⟨.hbm, 464, rfl⟩
abbrev main_call24_v1 : Ref sig .tc := ⟨.hbm, 465, rfl⟩
abbrev main_call24_v2 : Ref sig .tc := ⟨.hbm, 466, rfl⟩
abbrev main_call24_v3 : Ref sig .tc := ⟨.hbm, 467, rfl⟩
abbrev main_call24_v4 : Ref sig .tc := ⟨.hbm, 468, rfl⟩
abbrev main_call24_v5 : Ref sig .tc := ⟨.hbm, 469, rfl⟩
abbrev main_call24_v6 : Ref sig .tc := ⟨.hbm, 470, rfl⟩
abbrev main_call24_v7 : Ref sig .tc := ⟨.hbm, 471, rfl⟩
abbrev main_call24_v8 : Ref sig .tc := ⟨.hbm, 472, rfl⟩
abbrev main_call24_c : Ref sig .tc := ⟨.hbm, 473, rfl⟩
abbrev main_call24_v9 : Ref sig .tc := ⟨.hbm, 474, rfl⟩
abbrev main_call24_v10 : Ref sig .tc := ⟨.hbm, 475, rfl⟩
abbrev main_call24_v11 : Ref sig .tc := ⟨.hbm, 476, rfl⟩
abbrev main_call24_c_0 : Ref sig .tc := ⟨.hbm, 477, rfl⟩
abbrev main_call24_v12 : Ref sig .tc := ⟨.hbm, 478, rfl⟩
abbrev main_call24_v13 : Ref sig .tc := ⟨.hbm, 479, rfl⟩
abbrev main_v96 : Ref sig .tc := ⟨.hbm, 480, rfl⟩
abbrev main_v97 : Ref sig .tc := ⟨.hbm, 481, rfl⟩
abbrev main_c_25 : Ref sig .tc := ⟨.hbm, 482, rfl⟩
abbrev main_call25_v0 : Ref sig .tc := ⟨.hbm, 483, rfl⟩
abbrev main_call25_v1 : Ref sig .tc := ⟨.hbm, 484, rfl⟩
abbrev main_call25_v2 : Ref sig .tc := ⟨.hbm, 485, rfl⟩
abbrev main_call25_v3 : Ref sig .tc := ⟨.hbm, 486, rfl⟩
abbrev main_call25_v4 : Ref sig .tc := ⟨.hbm, 487, rfl⟩
abbrev main_call25_v5 : Ref sig .tc := ⟨.hbm, 488, rfl⟩
abbrev main_call25_v6 : Ref sig .tc := ⟨.hbm, 489, rfl⟩
abbrev main_call25_v7 : Ref sig .tc := ⟨.hbm, 490, rfl⟩
abbrev main_call25_v8 : Ref sig .tc := ⟨.hbm, 491, rfl⟩
abbrev main_call25_c : Ref sig .tc := ⟨.hbm, 492, rfl⟩
abbrev main_call25_v9 : Ref sig .tc := ⟨.hbm, 493, rfl⟩
abbrev main_call25_v10 : Ref sig .tc := ⟨.hbm, 494, rfl⟩
abbrev main_call25_v11 : Ref sig .tc := ⟨.hbm, 495, rfl⟩
abbrev main_call25_c_0 : Ref sig .tc := ⟨.hbm, 496, rfl⟩
abbrev main_call25_v12 : Ref sig .tc := ⟨.hbm, 497, rfl⟩
abbrev main_call25_v13 : Ref sig .tc := ⟨.hbm, 498, rfl⟩
abbrev main_v98 : Ref sig .tc := ⟨.hbm, 499, rfl⟩
abbrev main_c_26 : Ref sig .tc := ⟨.hbm, 500, rfl⟩
abbrev main_call26_v0 : Ref sig .tc := ⟨.hbm, 501, rfl⟩
abbrev main_call26_c : Ref sig .tc := ⟨.hbm, 502, rfl⟩
abbrev main_call26_v1 : Ref sig .tc := ⟨.hbm, 503, rfl⟩
abbrev main_call26_c_0 : Ref sig .tc := ⟨.hbm, 504, rfl⟩
abbrev main_call26_v2 : Ref sig .tc := ⟨.hbm, 505, rfl⟩
abbrev main_call26_v3 : Ref sig .tc := ⟨.hbm, 506, rfl⟩
abbrev main_call26_v4 : Ref sig .tc := ⟨.hbm, 507, rfl⟩
abbrev main_call26_c_1 : Ref sig .tc := ⟨.hbm, 508, rfl⟩
abbrev main_call26_v5 : Ref sig .tc := ⟨.hbm, 509, rfl⟩
abbrev main_call26_v6 : Ref sig .tc := ⟨.hbm, 510, rfl⟩
abbrev main_call26_c_2 : Ref sig .tc := ⟨.hbm, 511, rfl⟩
abbrev main_call26_v7 : Ref sig .tc := ⟨.hbm, 512, rfl⟩
abbrev main_call26_v8 : Ref sig .tc := ⟨.hbm, 513, rfl⟩
abbrev main_call26_c_3 : Ref sig .tc := ⟨.hbm, 514, rfl⟩
abbrev main_call26_v9 : Ref sig .tc := ⟨.hbm, 515, rfl⟩
abbrev main_call26_v10 : Ref sig .tc := ⟨.hbm, 516, rfl⟩
abbrev main_call26_v11 : Ref sig .tc := ⟨.hbm, 517, rfl⟩
abbrev main_call26_v12 : Ref sig .tc := ⟨.hbm, 518, rfl⟩
abbrev main_call26_v13 : Ref sig .tc := ⟨.hbm, 519, rfl⟩
abbrev main_call26_v14 : Ref sig .tc := ⟨.hbm, 520, rfl⟩
abbrev main_v99 : Ref sig .tc := ⟨.hbm, 521, rfl⟩
abbrev main_v100 : Ref sig .tc := ⟨.hbm, 522, rfl⟩
abbrev main_cst_27 : Ref sig .tc := ⟨.hbm, 523, rfl⟩
abbrev main_call27_v0 : Ref sig .tc := ⟨.hbm, 524, rfl⟩
abbrev main_call27_v1 : Ref sig .tc := ⟨.hbm, 525, rfl⟩
abbrev main_v101 : Ref sig .tc := ⟨.hbm, 526, rfl⟩
abbrev main_v102 : Ref sig .tc := ⟨.hbm, 527, rfl⟩
abbrev main_cst_28 : Ref sig .tc := ⟨.hbm, 528, rfl⟩
abbrev main_v103 : Ref sig .tc := ⟨.hbm, 529, rfl⟩
abbrev main_v104 : Ref sig .tc := ⟨.hbm, 530, rfl⟩
abbrev main_v105 : Ref sig .tc := ⟨.hbm, 531, rfl⟩
abbrev main_v106 : Ref sig .tc := ⟨.hbm, 532, rfl⟩
abbrev main_c_29 : Ref sig .tc := ⟨.hbm, 533, rfl⟩
abbrev main_call28_v0 : Ref sig .tc := ⟨.hbm, 534, rfl⟩
abbrev main_call28_v1 : Ref sig .tc := ⟨.hbm, 535, rfl⟩
abbrev main_call28_v2 : Ref sig .tc := ⟨.hbm, 536, rfl⟩
abbrev main_call28_v3 : Ref sig .tc := ⟨.hbm, 537, rfl⟩
abbrev main_call28_v4 : Ref sig .tc := ⟨.hbm, 538, rfl⟩
abbrev main_call28_v5 : Ref sig .tc := ⟨.hbm, 539, rfl⟩
abbrev main_call28_v6 : Ref sig .tc := ⟨.hbm, 540, rfl⟩
abbrev main_call28_v7 : Ref sig .tc := ⟨.hbm, 541, rfl⟩
abbrev main_call28_v8 : Ref sig .tc := ⟨.hbm, 542, rfl⟩
abbrev main_call28_c : Ref sig .tc := ⟨.hbm, 543, rfl⟩
abbrev main_call28_v9 : Ref sig .tc := ⟨.hbm, 544, rfl⟩
abbrev main_call28_v10 : Ref sig .tc := ⟨.hbm, 545, rfl⟩
abbrev main_call28_v11 : Ref sig .tc := ⟨.hbm, 546, rfl⟩
abbrev main_call28_c_0 : Ref sig .tc := ⟨.hbm, 547, rfl⟩
abbrev main_call28_v12 : Ref sig .tc := ⟨.hbm, 548, rfl⟩
abbrev main_call28_v13 : Ref sig .tc := ⟨.hbm, 549, rfl⟩
abbrev main_v107 : Ref sig .tc := ⟨.hbm, 550, rfl⟩
abbrev main_v108 : Ref sig .tc := ⟨.hbm, 551, rfl⟩
abbrev main_c_30 : Ref sig .tc := ⟨.hbm, 552, rfl⟩
abbrev main_call29_v0 : Ref sig .tc := ⟨.hbm, 553, rfl⟩
abbrev main_call29_v1 : Ref sig .tc := ⟨.hbm, 554, rfl⟩
abbrev main_call29_v2 : Ref sig .tc := ⟨.hbm, 555, rfl⟩
abbrev main_call29_v3 : Ref sig .tc := ⟨.hbm, 556, rfl⟩
abbrev main_call29_v4 : Ref sig .tc := ⟨.hbm, 557, rfl⟩
abbrev main_call29_v5 : Ref sig .tc := ⟨.hbm, 558, rfl⟩
abbrev main_call29_v6 : Ref sig .tc := ⟨.hbm, 559, rfl⟩
abbrev main_call29_v7 : Ref sig .tc := ⟨.hbm, 560, rfl⟩
abbrev main_call29_v8 : Ref sig .tc := ⟨.hbm, 561, rfl⟩
abbrev main_call29_c : Ref sig .tc := ⟨.hbm, 562, rfl⟩
abbrev main_call29_v9 : Ref sig .tc := ⟨.hbm, 563, rfl⟩
abbrev main_call29_v10 : Ref sig .tc := ⟨.hbm, 564, rfl⟩
abbrev main_call29_v11 : Ref sig .tc := ⟨.hbm, 565, rfl⟩
abbrev main_call29_c_0 : Ref sig .tc := ⟨.hbm, 566, rfl⟩
abbrev main_call29_v12 : Ref sig .tc := ⟨.hbm, 567, rfl⟩
abbrev main_call29_v13 : Ref sig .tc := ⟨.hbm, 568, rfl⟩
abbrev main_v109 : Ref sig .tc := ⟨.hbm, 569, rfl⟩
abbrev main_c_31 : Ref sig .tc := ⟨.hbm, 570, rfl⟩
abbrev main_call30_v0 : Ref sig .tc := ⟨.hbm, 571, rfl⟩
abbrev main_call30_c : Ref sig .tc := ⟨.hbm, 572, rfl⟩
abbrev main_call30_v1 : Ref sig .tc := ⟨.hbm, 573, rfl⟩
abbrev main_call30_c_0 : Ref sig .tc := ⟨.hbm, 574, rfl⟩
abbrev main_call30_v2 : Ref sig .tc := ⟨.hbm, 575, rfl⟩
abbrev main_call30_v3 : Ref sig .tc := ⟨.hbm, 576, rfl⟩
abbrev main_call30_v4 : Ref sig .tc := ⟨.hbm, 577, rfl⟩
abbrev main_call30_c_1 : Ref sig .tc := ⟨.hbm, 578, rfl⟩
abbrev main_call30_v5 : Ref sig .tc := ⟨.hbm, 579, rfl⟩
abbrev main_call30_v6 : Ref sig .tc := ⟨.hbm, 580, rfl⟩
abbrev main_call30_c_2 : Ref sig .tc := ⟨.hbm, 581, rfl⟩
abbrev main_call30_v7 : Ref sig .tc := ⟨.hbm, 582, rfl⟩
abbrev main_call30_v8 : Ref sig .tc := ⟨.hbm, 583, rfl⟩
abbrev main_call30_c_3 : Ref sig .tc := ⟨.hbm, 584, rfl⟩
abbrev main_call30_v9 : Ref sig .tc := ⟨.hbm, 585, rfl⟩
abbrev main_call30_v10 : Ref sig .tc := ⟨.hbm, 586, rfl⟩
abbrev main_call30_v11 : Ref sig .tc := ⟨.hbm, 587, rfl⟩
abbrev main_call30_v12 : Ref sig .tc := ⟨.hbm, 588, rfl⟩
abbrev main_call30_v13 : Ref sig .tc := ⟨.hbm, 589, rfl⟩
abbrev main_call30_v14 : Ref sig .tc := ⟨.hbm, 590, rfl⟩
abbrev main_v110 : Ref sig .tc := ⟨.hbm, 591, rfl⟩
abbrev main_v111 : Ref sig .tc := ⟨.hbm, 592, rfl⟩
abbrev main_cst_32 : Ref sig .tc := ⟨.hbm, 593, rfl⟩
abbrev main_call31_v0 : Ref sig .tc := ⟨.hbm, 594, rfl⟩
abbrev main_call31_v1 : Ref sig .tc := ⟨.hbm, 595, rfl⟩
abbrev main_v112 : Ref sig .tc := ⟨.hbm, 596, rfl⟩
abbrev main_v113 : Ref sig .tc := ⟨.hbm, 597, rfl⟩
abbrev main_cst_33 : Ref sig .tc := ⟨.hbm, 598, rfl⟩
abbrev main_v114 : Ref sig .tc := ⟨.hbm, 599, rfl⟩
abbrev main_v115 : Ref sig .tc := ⟨.hbm, 600, rfl⟩
abbrev main_v116 : Ref sig .tc := ⟨.hbm, 601, rfl⟩
abbrev main_v117 : Ref sig .tc := ⟨.hbm, 602, rfl⟩
abbrev main_v118 : Ref sig .tc := ⟨.hbm, 603, rfl⟩
abbrev main_v119 : Ref sig .tc := ⟨.hbm, 604, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg6_1 : Ref sig .tc := ⟨.vmem, 33, rfl⟩
abbrev cc1_stg7_0 : Ref sig .tc := ⟨.vmem, 34, rfl⟩
abbrev cc1_stg7_1 : Ref sig .tc := ⟨.vmem, 35, rfl⟩
abbrev cc1_stg8_0 : Ref sig .tc := ⟨.vmem, 36, rfl⟩
abbrev cc1_stg8_1 : Ref sig .tc := ⟨.vmem, 37, rfl⟩
abbrev cc1_stg9_0 : Ref sig .tc := ⟨.vmem, 38, rfl⟩
abbrev cc1_stg9_1 : Ref sig .tc := ⟨.vmem, 39, rfl⟩
abbrev cc1_stg10_0 : Ref sig .tc := ⟨.vmem, 40, rfl⟩
abbrev cc1_stg10_1 : Ref sig .tc := ⟨.vmem, 41, rfl⟩
abbrev cc1_stg11_0 : Ref sig .tc := ⟨.vmem, 42, rfl⟩
abbrev cc1_stg11_1 : Ref sig .tc := ⟨.vmem, 43, rfl⟩
abbrev cc1_stg12_0 : Ref sig .tc := ⟨.vmem, 44, rfl⟩
abbrev cc1_stg12_1 : Ref sig .tc := ⟨.vmem, 45, rfl⟩
abbrev cc1_stg13_0 : Ref sig .tc := ⟨.vmem, 46, rfl⟩
abbrev cc1_stg13_1 : Ref sig .tc := ⟨.vmem, 47, rfl⟩
abbrev cc1_stg14_0 : Ref sig .tc := ⟨.vmem, 48, rfl⟩
abbrev cc1_stg14_1 : Ref sig .tc := ⟨.vmem, 49, rfl⟩
abbrev cc1_stg15_0 : Ref sig .tc := ⟨.vmem, 50, rfl⟩
abbrev cc1_stg15_1 : Ref sig .tc := ⟨.vmem, 51, rfl⟩
abbrev cc1_stg16_0 : Ref sig .tc := ⟨.vmem, 52, rfl⟩
abbrev cc1_stg16_1 : Ref sig .tc := ⟨.vmem, 53, rfl⟩
abbrev cc1_stg17_0 : Ref sig .tc := ⟨.vmem, 54, rfl⟩
abbrev cc1_stg17_1 : Ref sig .tc := ⟨.vmem, 55, rfl⟩
abbrev cc1_scratch0 : Ref sig .tc := ⟨.vmem, 56, rfl⟩
abbrev cc1_scratch1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem6_1 : DmaSem sig := 33
abbrev cc1_sem7_0 : DmaSem sig := 34
abbrev cc1_sem7_1 : DmaSem sig := 35
abbrev cc1_sem8_0 : DmaSem sig := 36
abbrev cc1_sem8_1 : DmaSem sig := 37
abbrev cc1_sem9_0 : DmaSem sig := 38
abbrev cc1_sem9_1 : DmaSem sig := 39
abbrev cc1_sem10_0 : DmaSem sig := 40
abbrev cc1_sem10_1 : DmaSem sig := 41
abbrev cc1_sem11_0 : DmaSem sig := 42
abbrev cc1_sem11_1 : DmaSem sig := 43
abbrev cc1_sem12_0 : DmaSem sig := 44
abbrev cc1_sem12_1 : DmaSem sig := 45
abbrev cc1_sem13_0 : DmaSem sig := 46
abbrev cc1_sem13_1 : DmaSem sig := 47
abbrev cc1_sem14_0 : DmaSem sig := 48
abbrev cc1_sem14_1 : DmaSem sig := 49
abbrev cc1_sem15_0 : DmaSem sig := 50
abbrev cc1_sem15_1 : DmaSem sig := 51
abbrev cc1_sem16_0 : DmaSem sig := 52
abbrev cc1_sem16_1 : DmaSem sig := 53
abbrev cc1_sem17_0 : DmaSem sig := 54
abbrev cc1_sem17_1 : DmaSem sig := 55

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c256_i32 : BitVec 32 := 256#32
  let v20 : BitVec 32 := Scalar.addi c0_i32 c256_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32 : BitVec 32 := 8#32
  let v239 : BitVec 32 := Scalar.muli arg11 c8_i32
  v239
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c8_i32 : BitVec 32 := 8#32
  let v239 : BitVec 32 := Scalar.muli arg11 c8_i32
  let v240 : BitVec 32 := v239
  let v244 : Index := Scalar.indexCast v240
  let c0_54 : Index := 0#32
  ![v244.toNat, 0]
@[reducible] def k0_t2_loop : Scf.Loop 32 :=
  let c0_i32_38 : BitVec 32 := 0#32
  let c256_i32_39 : BitVec 32 := 256#32
  let v223 : BitVec 32 := Scalar.addi c0_i32_38 c256_i32_39
  let c1_i32_40 : BitVec 32 := 1#32
  ⟨c0_i32_38, v223, c1_i32_40⟩
def k0_mult2 (k0_t2 : Fin k0_t2_loop.trips) : BitVec 32 :=
  let c0_i32_38 : BitVec 32 := 0#32
  let c1_i32_40 : BitVec 32 := 1#32
  let arg11 : BitVec 32 := Scf.iv c0_i32_38 c1_i32_40 k0_t2
  let c8_i32 : BitVec 32 := 8#32
  let v239 : BitVec 32 := Scalar.muli arg11 c8_i32
  v239
def k0_off2 (k0_t2 : Fin k0_t2_loop.trips) : Fin 2 → Nat :=
  let c0_i32_38 : BitVec 32 := 0#32
  let c1_i32_40 : BitVec 32 := 1#32
  let arg11 : BitVec 32 := Scf.iv c0_i32_38 c1_i32_40 k0_t2
  let c8_i32 : BitVec 32 := 8#32
  let v239 : BitVec 32 := Scalar.muli arg11 c8_i32
  let v240 : BitVec 32 := v239
  let v244 : Index := Scalar.indexCast v240
  let c0_54 : Index := 0#32
  ![v244.toNat, 0]
def k0_mult3 (k0_t2 : Fin k0_t2_loop.trips) : BitVec 32 :=
  let c0_i32_38 : BitVec 32 := 0#32
  let c1_i32_40 : BitVec 32 := 1#32
  let arg11 : BitVec 32 := Scf.iv c0_i32_38 c1_i32_40 k0_t2
  let c8_i32_56 : BitVec 32 := 8#32
  let v255 : BitVec 32 := Scalar.muli arg11 c8_i32_56
  v255
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![4], ![false]⟩

@[reducible] def k1_t1_loop : Scf.Loop 32 :=
  let c0_i32 : BitVec 32 := 0#32
  let c256_i32 : BitVec 32 := 256#32
  let v25 : BitVec 32 := Scalar.addi c0_i32 c256_i32
  let c1_i32 : BitVec 32 := 1#32
  ⟨c0_i32, v25, c1_i32⟩
def k1_mult1 (k1_t1 : Fin k1_t1_loop.trips) : BitVec 32 :=
  let c255_i32_100 : BitVec 32 := 255#32
  let c0_i32 : BitVec 32 := 0#32
  let c1_i32 : BitVec 32 := 1#32
  let arg21 : BitVec 32 := Scf.iv c0_i32 c1_i32 k1_t1
  let v321 : BitVec 32 := Scalar.subi c255_i32_100 arg21
  let c8_i32 : BitVec 32 := 8#32
  let v322 : BitVec 32 := Scalar.muli v321 c8_i32
  v322
def k1_off1 (k1_t1 : Fin k1_t1_loop.trips) : Fin 2 → Nat :=
  let c255_i32_100 : BitVec 32 := 255#32
  let c0_i32 : BitVec 32 := 0#32
  let c1_i32 : BitVec 32 := 1#32
  let arg21 : BitVec 32 := Scf.iv c0_i32 c1_i32 k1_t1
  let v321 : BitVec 32 := Scalar.subi c255_i32_100 arg21
  let c8_i32 : BitVec 32 := 8#32
  let v322 : BitVec 32 := Scalar.muli v321 c8_i32
  let v323 : BitVec 32 := v322
  let v327 : Index := Scalar.indexCast v323
  let c0_101 : Index := 0#32
  ![v327.toNat, 0]
@[reducible] def k1_t2_loop : Scf.Loop 32 :=
  let c0_i32_41 : BitVec 32 := 0#32
  let c255_i32 : BitVec 32 := 255#32
  let v230 : BitVec 32 := Scalar.addi c0_i32_41 c255_i32
  let c1_i32_42 : BitVec 32 := 1#32
  ⟨c0_i32_41, v230, c1_i32_42⟩
def k1_mult2 (k1_t2 : Fin k1_t2_loop.trips) : BitVec 32 :=
  let c255_i32_100 : BitVec 32 := 255#32
  let c0_i32_41 : BitVec 32 := 0#32
  let c1_i32_42 : BitVec 32 := 1#32
  let arg21 : BitVec 32 := Scf.iv c0_i32_41 c1_i32_42 k1_t2
  let v321 : BitVec 32 := Scalar.subi c255_i32_100 arg21
  let c8_i32 : BitVec 32 := 8#32
  let v322 : BitVec 32 := Scalar.muli v321 c8_i32
  v322
def k1_off2 (k1_t2 : Fin k1_t2_loop.trips) : Fin 2 → Nat :=
  let c255_i32_100 : BitVec 32 := 255#32
  let c0_i32_41 : BitVec 32 := 0#32
  let c1_i32_42 : BitVec 32 := 1#32
  let arg21 : BitVec 32 := Scf.iv c0_i32_41 c1_i32_42 k1_t2
  let v321 : BitVec 32 := Scalar.subi c255_i32_100 arg21
  let c8_i32 : BitVec 32 := 8#32
  let v322 : BitVec 32 := Scalar.muli v321 c8_i32
  let v323 : BitVec 32 := v322
  let v327 : Index := Scalar.indexCast v323
  let c0_101 : Index := 0#32
  ![v327.toNat, 0]
def k1_mult3 (k1_t2 : Fin k1_t2_loop.trips) : BitVec 32 :=
  let c255_i32_100 : BitVec 32 := 255#32
  let c0_i32_41 : BitVec 32 := 0#32
  let c1_i32_42 : BitVec 32 := 1#32
  let arg21 : BitVec 32 := Scf.iv c0_i32_41 c1_i32_42 k1_t2
  let v321 : BitVec 32 := Scalar.subi c255_i32_100 arg21
  let c8_i32_103 : BitVec 32 := 8#32
  let v336 : BitVec 32 := Scalar.muli v321 c8_i32_103
  v336
def k1_mult4 (k1_t2 : Fin k1_t2_loop.trips) : BitVec 32 :=
  let c255_i32_100 : BitVec 32 := 255#32
  let c0_i32_41 : BitVec 32 := 0#32
  let c1_i32_42 : BitVec 32 := 1#32
  let arg21 : BitVec 32 := Scf.iv c0_i32_41 c1_i32_42 k1_t2
  let v321 : BitVec 32 := Scalar.subi c255_i32_100 arg21
  let c1_i32_106 : BitVec 32 := 1#32
  let v346 : BitVec 32 := Scalar.subi v321 c1_i32_106
  let c8_i32_107 : BitVec 32 := 8#32
  let v347 : BitVec 32 := Scalar.muli v346 c8_i32_107
  v347
def k1_off3 (k1_t2 : Fin k1_t2_loop.trips) : Fin 2 → Nat :=
  let c255_i32_100 : BitVec 32 := 255#32
  let c0_i32_41 : BitVec 32 := 0#32
  let c1_i32_42 : BitVec 32 := 1#32
  let arg21 : BitVec 32 := Scf.iv c0_i32_41 c1_i32_42 k1_t2
  let v321 : BitVec 32 := Scalar.subi c255_i32_100 arg21
  let c1_i32_106 : BitVec 32 := 1#32
  let v346 : BitVec 32 := Scalar.subi v321 c1_i32_106
  let c8_i32_107 : BitVec 32 := 8#32
  let v347 : BitVec 32 := Scalar.muli v346 c8_i32_107
  let v348 : BitVec 32 := v347
  let v349 : Index := Scalar.indexCast v348
  let c0_108 : Index := 0#32
  ![v349.toNat, 0]
def k1_mult5 : BitVec 32 :=
  let c0_i32_44 : BitVec 32 := 0#32
  c0_i32_44
def k1_mult6 : BitVec 32 :=
  let c0_i32_47 : BitVec 32 := 0#32
  c0_i32_47
def k1_mult7 : BitVec 32 :=
  let c0_i32_49 : BitVec 32 := 0#32
  c0_i32_49
def k1_mult8 : BitVec 32 :=
  let c2040_i32 : BitVec 32 := 2040#32
  c2040_i32
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_17 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S128x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2048x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S128x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S128x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S128x512 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S128x512 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S1x512 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S1x512 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]
-- ==== MixFwd.lean ====
abbrev S2048x512 : Shape := ⟨2, ![2048, 512]⟩
abbrev S2048x1024 : Shape := ⟨2, ![2048, 1024]⟩
abbrev S1x1024x1024 : Shape := ⟨3, ![1, 1024, 1024]⟩
abbrev S1x1024 : Shape := ⟨2, ![1, 1024]⟩
abbrev S8x256x512 : Shape := ⟨3, ![8, 256, 512]⟩
abbrev S256x8x512 : Shape := ⟨3, ![256, 8, 512]⟩
abbrev S256x4096 : Shape := ⟨2, ![256, 4096]⟩
abbrev S1024x1024 : Shape := ⟨2, ![1024, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 17
  | .vmem => 17
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S8x256x512, .f32⟩
  | .hbm, ⟨7, _⟩ => ⟨S256x8x512, .f32⟩
  | .hbm, ⟨8, _⟩ => ⟨S256x4096, .f32⟩
  | .hbm, ⟨9, _⟩ => ⟨S256x4096, .bf16⟩
  | .hbm, ⟨10, _⟩ => ⟨S2048x512, .bf16⟩
  | .hbm, ⟨11, _⟩ => ⟨S1024x1024, .f32⟩
  | .hbm, ⟨12, _⟩ => ⟨S1024x1024, .bf16⟩
  | .hbm, ⟨13, _⟩ => ⟨S2048x1024, .bf16⟩
  | .hbm, ⟨14, _⟩ => ⟨S2048x1024, .f32⟩
  | .hbm, ⟨15, _⟩ => ⟨S2048x1024, .f32⟩
  | .hbm, ⟨16, _⟩ => ⟨S2048x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixOutIdeal.lean ====
abbrev S2048x512 : Shape := ⟨2, ![2048, 512]⟩
abbrev S2048x1024 : Shape := ⟨2, ![2048, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 46
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S1024x1024, .f32⟩
  | .hbm, ⟨8, _⟩ => ⟨S2048x1024, .f32⟩
  | .hbm, ⟨9, _⟩ => ⟨S1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .bf16⟩
  | .hbm, ⟨28, _⟩ => ⟨S1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S1x1024, .f32⟩
  | .hbm, ⟨43, _⟩ => ⟨S2048x1024, .f32⟩
  | .hbm, ⟨44, _⟩ => ⟨S2048x1024, .f32⟩
  | .hbm, ⟨45, _⟩ => ⟨S2048x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== InFwd.lean ====
abbrev S2048x1024 : Shape := ⟨2, ![2048, 1024]⟩
abbrev S2048 : Shape := ⟨1, ![2048]⟩
abbrev S1x1024 : Shape := ⟨2, ![1, 1024]⟩
abbrev S1x1024x1280 : Shape := ⟨3, ![1, 1024, 1280]⟩
abbrev S8 : Shape := ⟨1, ![8]⟩
abbrev S_ : Shape := ⟨0, ![]⟩
abbrev S48 : Shape := ⟨1, ![48]⟩
abbrev S16 : Shape := ⟨1, ![16]⟩
abbrev S64 : Shape := ⟨1, ![64]⟩
abbrev S128 : Shape := ⟨1, ![128]⟩
abbrev S1x128 : Shape := ⟨2, ![1, 128]⟩
abbrev S2048x1 : Shape := ⟨2, ![2048, 1]⟩
abbrev S2048x128 : Shape := ⟨2, ![2048, 128]⟩
abbrev S1024x1280 : Shape := ⟨2, ![1024, 1280]⟩
abbrev S1280x1024 : Shape := ⟨2, ![1280, 1024]⟩
abbrev S256x4096 : Shape := ⟨2, ![256, 4096]⟩
abbrev S2048x512 : Shape := ⟨2, ![2048, 512]⟩
abbrev S256x1024 : Shape := ⟨2, ![256, 1024]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S256x1280 : Shape := ⟨2, ![256, 1280]⟩
abbrev S1x512 : Shape := ⟨2, ![1, 512]⟩

abbrev nBuf : Space → Nat
  | .hbm => 45
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S1x1024, .f32⟩
  | .hbm, ⟨3, _⟩ => ⟨S1x1024x1280, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S48, .f32⟩
  | .hbm, ⟨17, _⟩ => ⟨S_, .f32⟩
  | .hbm, ⟨18, _⟩ => ⟨S8, .f32⟩
  | .hbm, ⟨19, _⟩ => ⟨S16, .f32⟩
  | .hbm, ⟨20, _⟩ => ⟨S64, .f32⟩
  | .hbm, ⟨21, _⟩ => ⟨S128, .f32⟩
  | .hbm, ⟨22, _⟩ => ⟨S1x128, .f32⟩
  | .hbm, ⟨23, _⟩ => ⟨S8, .f32⟩
  | .hbm, ⟨24, _⟩ => ⟨S16, .f32⟩
  | .hbm, ⟨25, _⟩ => ⟨S64, .f32⟩
  | .hbm, ⟨26, _⟩ => ⟨S128, .f32⟩
  | .hbm, ⟨27, _⟩ => ⟨S1x128, .f32⟩
  | .hbm, ⟨28, _⟩ => ⟨S2048x1, .i32⟩
  | .hbm, ⟨29, _⟩ => ⟨S2048x1, .f32⟩
  | .hbm, ⟨30, _⟩ => ⟨S2048x128, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S2048x128, .f32⟩
  | .hbm, ⟨35, _⟩ => ⟨S2048x128, .f32⟩
  | .hbm, ⟨36, _⟩ => ⟨S2048x128, .f32⟩
  | .hbm, ⟨37, _⟩ => ⟨S1024x1280, .f32⟩
  | .hbm, ⟨38, _⟩ => ⟨S1280x1024, .f32⟩
  | .hbm, ⟨39, _⟩ => ⟨S1280x1024, .bf16⟩
  | .hbm, ⟨40, _⟩ => ⟨S2048x1024, .bf16⟩
  | .hbm, ⟨41, _⟩ => ⟨S256x4096, .f32⟩
  | .hbm, ⟨42, _⟩ => ⟨S2048x512, .bf16⟩
  | .hbm, ⟨43, _⟩ => ⟨S2048x128, .bf16⟩
  | .hbm, ⟨44, _⟩ => ⟨S2048x128, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1280x1024, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x1024, .bf16⟩
  | .local _ .vmem, ⟨9, _⟩ => ⟨S256x1024, .bf16⟩
  | .local _ .vmem, ⟨10, _⟩ => ⟨S256x512, .f32⟩
  | .local _ .vmem, ⟨11, _⟩ => ⟨S256x512, .f32⟩
  | .local _ .vmem, ⟨12, _⟩ => ⟨S256x512, .bf16⟩
  | .local _ .vmem, ⟨13, _⟩ => ⟨S256x512, .bf16⟩
  | .local _ .vmem, ⟨14, _⟩ => ⟨S256x128, .bf16⟩
  | .local _ .vmem, ⟨15, _⟩ => ⟨S256x128, .bf16⟩
  | .local _ .vmem, ⟨16, _⟩ => ⟨S256x128, .bf16⟩
  | .local _ .vmem, ⟨17, _⟩ => ⟨S256x128, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31_0 : Ref sig .tc := ⟨.hbm, 40, rfl⟩
abbrev main_v31_1 : Ref sig .tc := ⟨.hbm, 41, rfl⟩
abbrev main_v31_2 : Ref sig .tc := ⟨.hbm, 42, rfl⟩
abbrev main_v31_3 : Ref sig .tc := ⟨.hbm, 43, rfl⟩
abbrev main_v31_4 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InOutIdeal.lean ====
abbrev S2048x1024 : Shape := ⟨2, ![2048, 1024]⟩
abbrev S2048 : Shape := ⟨1, ![2048]⟩
abbrev S1x1024 : Shape := ⟨2, ![1, 1024]⟩
abbrev S1x1024x1280 : Shape := ⟨3, ![1, 1024, 1280]⟩
abbrev S1024 : Shape := ⟨1, ![1024]⟩
abbrev S_ : Shape := ⟨0, ![]⟩
abbrev S2048x1 : Shape := ⟨2, ![2048, 1]⟩
abbrev S1024x1280 : Shape := ⟨2, ![1024, 1280]⟩
abbrev S2048x1280 : Shape := ⟨2, ![2048, 1280]⟩
abbrev S2048x512 : Shape := ⟨2, ![2048, 512]⟩
abbrev S2048x8x64 : Shape := ⟨3, ![2048, 8, 64]⟩
abbrev S8 : Shape := ⟨1, ![8]⟩
abbrev S1x8 : Shape := ⟨2, ![1, 8]⟩
abbrev S2048x8 : Shape := ⟨2, ![2048, 8]⟩
abbrev S2048x1x8 : Shape := ⟨3, ![2048, 1, 8]⟩
abbrev S2048x8x8 : Shape := ⟨3, ![2048, 8, 8]⟩
abbrev S2048x8x48 : Shape := ⟨3, ![2048, 8, 48]⟩
abbrev S2048x128 : Shape := ⟨2, ![2048, 128]⟩
abbrev S2048x2x64 : Shape := ⟨3, ![2048, 2, 64]⟩
abbrev S2048x2x8 : Shape := ⟨3, ![2048, 2, 8]⟩
abbrev S2048x2x48 : Shape := ⟨3, ![2048, 2, 48]⟩
abbrev S8x256x512 : Shape := ⟨3, ![8, 256, 512]⟩
abbrev S256x8x512 : Shape := ⟨3, ![256, 8, 512]⟩
abbrev S256x4096 : Shape := ⟨2, ![256, 4096]⟩

abbrev nBuf : Space → Nat
  | .hbm => 108
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S1x1024, .f32⟩
  | .hbm, ⟨3, _⟩ => ⟨S1x1024x1280, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S1024x1280, .f32⟩
  | .hbm, ⟨22, _⟩ => ⟨S2048x1280, .f32⟩
  | .hbm, ⟨23, _⟩ => ⟨S2048x512, .f32⟩
  | .hbm, ⟨24, _⟩ => ⟨S2048x8x64, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S2048, .f32⟩
  | .hbm, ⟨37, _⟩ => ⟨S2048x1, .f32⟩
  | .hbm, ⟨38, _⟩ => ⟨S1x8, .f32⟩
  | .hbm, ⟨39, _⟩ => ⟨S2048x8, .f32⟩
  | .hbm, ⟨40, _⟩ => ⟨S2048x8, .f32⟩
  | .hbm, ⟨41, _⟩ => ⟨S2048x8, .f32⟩
  | .hbm, ⟨42, _⟩ => ⟨S2048x8, .f32⟩
  | .hbm, ⟨43, _⟩ => ⟨S2048x1x8, .f32⟩
  | .hbm, ⟨44, _⟩ => ⟨S2048x8, .f32⟩
  | .hbm, ⟨45, _⟩ => ⟨S2048x1x8, .f32⟩
  | .hbm, ⟨46, _⟩ => ⟨S2048x8x8, .f32⟩
  | .hbm, ⟨47, _⟩ => ⟨S2048x8x8, .f32⟩
  | .hbm, ⟨48, _⟩ => ⟨S2048x8x8, .f32⟩
  | .hbm, ⟨49, _⟩ => ⟨S2048x8x8, .f32⟩
  | .hbm, ⟨50, _⟩ => ⟨S2048x8x8, .f32⟩
  | .hbm, ⟨51, _⟩ => ⟨S2048x8x8, .f32⟩
  | .hbm, ⟨52, _⟩ => ⟨S2048x8x8, .f32⟩
  | .hbm, ⟨53, _⟩ => ⟨S2048x8x8, .f32⟩
  | .hbm, ⟨54, _⟩ => ⟨S2048x8x8, .f32⟩
  | .hbm, ⟨55, _⟩ => ⟨S2048x8x8, .f32⟩
  | .hbm, ⟨56, _⟩ => ⟨S2048x8x8, .f32⟩
  | .hbm, ⟨57, _⟩ => ⟨S2048x8x8, .f32⟩
  | .hbm, ⟨58, _⟩ => ⟨S2048x8x48, .f32⟩
  | .hbm, ⟨59, _⟩ => ⟨S2048x8x64, .f32⟩
  | .hbm, ⟨60, _⟩ => ⟨S2048x512, .f32⟩
  | .hbm, ⟨61, _⟩ => ⟨S2048x128, .f32⟩
  | .hbm, ⟨62, _⟩ => ⟨S2048x2x64, .f32⟩
  | .hbm, ⟨63, _⟩ => ⟨S8, .f32⟩
  | .hbm, ⟨64, _⟩ => ⟨S8, .f32⟩
  | .hbm, ⟨65, _⟩ => ⟨S_, .f32⟩
  | .hbm, ⟨66, _⟩ => ⟨S8, .f32⟩
  | .hbm, ⟨67, _⟩ => ⟨S8, .f32⟩
  | .hbm, ⟨68, _⟩ => ⟨S_, .f32⟩
  | .hbm, ⟨69, _⟩ => ⟨S8, .f32⟩
  | .hbm, ⟨70, _⟩ => ⟨S8, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S2048, .f32⟩
  | .hbm, ⟨75, _⟩ => ⟨S2048x1, .f32⟩
  | .hbm, ⟨76, _⟩ => ⟨S1x8, .f32⟩
  | .hbm, ⟨77, _⟩ => ⟨S2048x8, .f32⟩
  | .hbm, ⟨78, _⟩ => ⟨S2048x8, .f32⟩
  | .hbm, ⟨79, _⟩ => ⟨S2048x8, .f32⟩
  | .hbm, ⟨80, _⟩ => ⟨S2048x8, .f32⟩
  | .hbm, ⟨81, _⟩ => ⟨S2048x1x8, .f32⟩
  | .hbm, ⟨82, _⟩ => ⟨S2048x8, .f32⟩
  | .hbm, ⟨83, _⟩ => ⟨S2048x1x8, .f32⟩
  | .hbm, ⟨84, _⟩ => ⟨S2048x2x8, .f32⟩
  | .hbm, ⟨85, _⟩ => ⟨S2048x2x8, .f32⟩
  | .hbm, ⟨86, _⟩ => ⟨S2048x2x8, .f32⟩
  | .hbm, ⟨87, _⟩ => ⟨S2048x2x8, .f32⟩
  | .hbm, ⟨88, _⟩ => ⟨S2048x2x8, .f32⟩
  | .hbm, ⟨89, _⟩ => ⟨S2048x2x8, .f32⟩
  | .hbm, ⟨90, _⟩ => ⟨S2048x2x8, .f32⟩
  | .hbm, ⟨91, _⟩ => ⟨S2048x2x8, .f32⟩
  | .hbm, ⟨92, _⟩ => ⟨S2048x2x8, .f32⟩
  | .hbm, ⟨93, _⟩ => ⟨S2048x2x8, .f32⟩
  | .hbm, ⟨94, _⟩ => ⟨S2048x2x8, .f32⟩
  | .hbm, ⟨95, _⟩ => ⟨S2048x2x8, .f32⟩
  | .hbm, ⟨96, _⟩ => ⟨S2048x2x48, .f32⟩
  | .hbm, ⟨97, _⟩ => ⟨S2048x2x64, .f32⟩
  | .hbm, ⟨98, _⟩ => ⟨S2048x128, .f32⟩
  | .hbm, ⟨99, _⟩ => ⟨S2048x512, .f32⟩
  | .hbm, ⟨100, _⟩ => ⟨S8x256x512, .f32⟩
  | .hbm, ⟨101, _⟩ => ⟨S256x8x512, .f32⟩
  | .hbm, ⟨102, _⟩ => ⟨S256x4096, .f32⟩
  | .hbm, ⟨103, _⟩ => ⟨S2048x1024, .bf16⟩
  | .hbm, ⟨104, _⟩ => ⟨S2048x512, .bf16⟩
  | .hbm, ⟨105, _⟩ => ⟨S2048x128, .bf16⟩
  | .hbm, ⟨106, _⟩ => ⟨S2048x128, .f32⟩
  | .hbm, ⟨107, _⟩ => ⟨S2048x128, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_5 : Ref sig .tc := ⟨.hbm, 65, rfl⟩
abbrev main_v55 : Ref sig .tc := ⟨.hbm, 66, rfl⟩
abbrev main_v56 : Ref sig .tc := ⟨.hbm, 67, rfl⟩
abbrev main_cst_6 : Ref sig .tc := ⟨.hbm, 68, rfl⟩
abbrev main_v57 : Ref sig .tc := ⟨.hbm, 69, rfl⟩
abbrev main_v58 : Ref sig .tc := ⟨.hbm, 70, rfl⟩
abbrev main_cst_7 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩

abbrev nD : Nat := 1
abbrev τ : Topo := Topo.v7x

variable {F : FTy → Type} [FloatOps F]
-- ==== GluFwd.lean ====
abbrev S2048x512 : Shape := ⟨2, ![2048, 512]⟩
abbrev S1x32x16 : Shape := ⟨3, ![1, 32, 16]⟩
abbrev S1x512x1024 : Shape := ⟨3, ![1, 512, 1024]⟩
abbrev S1x1024 : Shape := ⟨2, ![1, 1024]⟩
abbrev S1x512 : Shape := ⟨2, ![1, 512]⟩
abbrev S8x256x512 : Shape := ⟨3, ![8, 256, 512]⟩
abbrev S256x8x512 : Shape := ⟨3, ![256, 8, 512]⟩
abbrev S512x1024 : Shape := ⟨2, ![512, 1024]⟩
abbrev S1024x512 : Shape := ⟨2, ![1024, 512]⟩
abbrev S2048x1024 : Shape := ⟨2, ![2048, 1024]⟩
abbrev S256x4096 : Shape := ⟨2, ![256, 4096]⟩
abbrev S256x512 : Shape := ⟨2, ![256, 512]⟩
abbrev S256x1024 : Shape := ⟨2, ![256, 1024]⟩
abbrev S32x4096 : Shape := ⟨2, ![32, 4096]⟩
abbrev S4x256x128 : Shape := ⟨3, ![4, 256, 128]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S1x32x128 : Shape := ⟨3, ![1, 32, 128]⟩
abbrev S32x128 : Shape := ⟨2, ![32, 128]⟩

abbrev nBuf : Space → Nat
  | .hbm => 19
  | .vmem => 15
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S1x32x16, .f32⟩
  | .hbm, ⟨3, _⟩ => ⟨S1x512x1024, .f32⟩
  | .hbm, ⟨4, _⟩ => ⟨S1x1024, .f32⟩
  | .hbm, ⟨5, _⟩ => ⟨S1x512, .f32⟩
  | .hbm, ⟨6, _⟩ => ⟨S8x256x512, .f32⟩
  | .hbm, ⟨7, _⟩ => ⟨S256x8x512, .f32⟩
  | .hbm, ⟨8, _⟩ => ⟨S2048x512, .f32⟩
  | .hbm, ⟨9, _⟩ => ⟨S8x256x512, .f32⟩
  | .hbm, ⟨10, _⟩ => ⟨S256x8x512, .f32⟩
  | .hbm, ⟨11, _⟩ => ⟨S2048x512, .f32⟩
  | .hbm, ⟨12, _⟩ => ⟨S1x512, .f32⟩
  | .hbm, ⟨13, _⟩ => ⟨S512x1024, .f32⟩
  | .hbm, ⟨14, _⟩ => ⟨S1024x512, .f32⟩
  | .hbm, ⟨15, _⟩ => ⟨S1024x512, .bf16⟩
  | .hbm, ⟨16, _⟩ => ⟨S2048x512, .f32⟩
  | .hbm, ⟨17, _⟩ => ⟨S2048x1024, .f32⟩
  | .hbm, ⟨18, _⟩ => ⟨S256x4096, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S1024x512, .bf16⟩
  | .local _ .vmem, ⟨6, _⟩ => ⟨S1x1024, .f32⟩
  | .local _ .vmem, ⟨7, _⟩ => ⟨S1x512, .f32⟩
  | .local _ .vmem, ⟨8, _⟩ => ⟨S256x512, .f32⟩
  | .local _ .vmem, ⟨9, _⟩ => ⟨S256x512, .f32⟩
  | .local _ .vmem, ⟨10, _⟩ => ⟨S256x1024, .f32⟩
  | .local _ .vmem, ⟨11, _⟩ => ⟨S256x1024, .f32⟩
  | .local _ .vmem, ⟨12, _⟩ => ⟨S32x4096, .bf16⟩
  | .local _ .vmem, ⟨13, _⟩ => ⟨S32x4096, .bf16⟩
  | .local _ .vmem, ⟨14, _⟩ => ⟨S4x256x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GluOutIdeal.lean ====
abbrev S2048x512 : Shape := ⟨2, ![2048, 512]⟩
abbrev S1x32x16 : Shape := ⟨3, ![1, 32, 16]⟩
abbrev S1x512x1024 : Shape := ⟨3, ![1, 512, 1024]⟩
abbrev S1x1024 : Shape := ⟨2, ![1, 1024]⟩
abbrev S1x512 : Shape := ⟨2, ![1, 512]⟩
abbrev S32x16 : Shape := ⟨2, ![32, 16]⟩
abbrev S512 : Shape := ⟨1, ![512]⟩
abbrev S_ : Shape := ⟨0, ![]⟩
abbrev S512x1024 : Shape := ⟨2, ![512, 1024]⟩
abbrev S2048x1024 : Shape := ⟨2, ![2048, 1024]⟩
abbrev S1024 : Shape := ⟨1, ![1024]⟩
abbrev S8x256x512 : Shape := ⟨3, ![8, 256, 512]⟩
abbrev S256x8x512 : Shape := ⟨3, ![256, 8, 512]⟩
abbrev S8x256x1024 : Shape := ⟨3, ![8, 256, 1024]⟩
abbrev S256x8x1024 : Shape := ⟨3, ![256, 8, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S1x32x16, .f32⟩
  | .hbm, ⟨3, _⟩ => ⟨S1x512x1024, .f32⟩
  | .hbm, ⟨4, _⟩ => ⟨S1x1024, .f32⟩
  | .hbm, ⟨5, _⟩ => ⟨S1x512, .f32⟩
  | .hbm, ⟨6, _⟩ => ⟨S32x16, .f32⟩
  | .hbm, ⟨7, _⟩ => ⟨S512, .f32⟩
  | .hbm, ⟨8, _⟩ => ⟨S1x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S512x1024, .f32⟩
  | .hbm, ⟨30, _⟩ => ⟨S2048x1024, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S8x256x512, .f32⟩
  | .hbm, ⟨36, _⟩ => ⟨S256x8x512, .f32⟩
  | .hbm, ⟨37, _⟩ => ⟨S2048x512, .f32⟩
  | .hbm, ⟨38, _⟩ => ⟨S8x256x1024, .f32⟩
  | .hbm, ⟨39, _⟩ => ⟨S256x8x1024, .f32⟩
  | .hbm, ⟨40, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Proof.Reals.lean ====
/- Extended reals that are real numbers, the words of the constants the programs carry, and the row norm
   `x ↦ x * rsqrt (mean (x * x) + ε)` with its gradient in the two spellings the programs use. -/
module

public import Idealize.ShloMosaic.Lib.Pointwise
public import Idealize.ShloMosaic.Lib.IdealHost

@[expose] public section

noncomputable section

open Idealize.ShloMosaic
open scoped BigOperators

namespace Cert.Reals

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.neg {x : EReal} (hx : IsReal x) : IsReal (-x) := by
  obtain ⟨a, rfl⟩ := hx; exact ⟨-a, (EReal.coe_neg a).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} {s : Finset ι} {f : ι → EReal} (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- A family of real numbers is the coercion of one real function. -/
theorem exists_fun {ι : Type} {f : ι → EReal} (h : ∀ i, IsReal (f i)) : ∃ g : ι → ℝ, f = fun i => (g i : EReal) :=
  ⟨fun i => (h i).choose, funext fun i => (h i).choose_spec⟩

/-- The quotient of real numbers, at a divisor that is not zero. -/
theorem div_coe_coe (x : ℝ) {y : ℝ} (h : y ≠ 0) : Ideal.div (x : EReal) (y : EReal) = ((x / y : ℝ) : EReal) := by
  rw [Ideal.div_coe h, ← EReal.coe_mul, mul_one_div]

theorem rsqrt_coe_pos {x : ℝ} (h : 0 < x) : Ideal.rsqrt (x : EReal) = (((√x)⁻¹ : ℝ) : EReal) := by
  rw [Ideal.rsqrt_coe, if_neg h.not_gt, if_neg h.ne']

/-- What a test `|x| < ∞` that reads true says of its element. -/
theorem isReal_of_olt {s : Shape} {x : FVec Ideal s .f32} {h : (⟨0, ![]⟩ : Shape).BroadcastsInDim s ![]}
    (hx : cmpf .olt (Host.absf x) (broadcastInDim s ![] h (constant (F := Ideal) ⟨0, ![]⟩ .f32 0x7F800000#32)) = fun _ => 1#1)
    (i : s.Idx) : IsReal (x i) := by
  have h1 := congrFun hx i
  have h2 : BitVec.ofBool (decide (max (x i) (-(x i)) < Ideal.ofBits .f32 0x7F800000#32)) = 1#1 := h1
  have h3 : Ideal.ofBits .f32 0x7F800000#32 = ⊤ := by simp [Ideal.ofBits, Ideal.ieee]
  rw [h3] at h2
  generalize x i = y at h2
  induction y using EReal.rec with
  | bot => simp at h2
  | top => simp at h2
  | coe r => exact ⟨r, rfl⟩

/-! ## Constants -/

theorem word_1024 : Ideal.ofBits .f32 0x44800000#32 = ((1024 : ℝ) : EReal) := by
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul, -EReal.coe_neg]; norm_num

/-- The float nearest to 1e-6. -/
def eps : ℝ := 8796093 / 2 ^ 43

theorem eps_pos : 0 < eps := by unfold eps; positivity

theorem word_eps : Ideal.ofBits .f32 0x358637BD#32 = (eps : EReal) := by
  simp [Ideal.ofBits, Ideal.ieee, -EReal.coe_mul, eps]; norm_num

/-! ## The row norm -/

section RowNorm

variable {n : ℕ}

/-- `mean (x * x) + ε` of a row, the mean by division by `w`. -/
def var (w e : EReal) (x : Fin n → EReal) : EReal := Ideal.div (∑ k, x k * x k) w + e

/-- The gradient of the row norm for the cotangent `a`, as the version writes it out. -/
def normBack (w e : EReal) (x a : Fin n → EReal) (j : Fin n) : EReal :=
  Ideal.rsqrt (var w e x) *
    (a j - x j * Ideal.rsqrt (var w e x) * Ideal.div (∑ k, a k * (x k * Ideal.rsqrt (var w e x))) w)

/-- The cotangent of one square's row, as the transposed program forms it. -/
def normTurn (w e h : EReal) (x a : Fin n → EReal) : EReal :=
  Ideal.div ((∑ k, x k * a k) * (h * Ideal.div (Ideal.rsqrt (var w e x)) (var w e x))) w

/-- The same gradient as the transposed program spells it. -/
def normGrad (w e h : EReal) (x a : Fin n → EReal) (j : Fin n) : EReal :=
  a j * Ideal.rsqrt (var w e x) + x j * normTurn w e h x a + normTurn w e h x a * x j

theorem var_coe {w e : ℝ} (hw : 0 < w) (x : Fin n → ℝ) :
    var (w : EReal) (e : EReal) (fun k => (x k : EReal)) = (((∑ k, x k * x k) / w + e : ℝ) : EReal) := by
  simp only [var, ← EReal.coe_mul, ← coe_sum, div_coe_coe _ hw.ne', ← EReal.coe_add]

theorem var_pos {w e : ℝ} (hw : 0 < w) (he : 0 < e) (x : Fin n → ℝ) : 0 < (∑ k, x k * x k) / w + e :=
  add_pos_of_nonneg_of_pos (div_nonneg (Finset.sum_nonneg fun k _ => mul_self_nonneg (x k)) hw.le) he

theorem normBack_eq_normGrad {w e : ℝ} (hw : 0 < w) (he : 0 < e) {x a : Fin n → EReal} (hx : ∀ k, IsReal (x k))
    (ha : ∀ k, IsReal (a k)) (j : Fin n) :
    normBack (w : EReal) (e : EReal) x a j = normGrad (w : EReal) (e : EReal) ((-(1 / 2) : ℝ) : EReal) x a j := by
  obtain ⟨x, rfl⟩ := exists_fun hx
  obtain ⟨a, rfl⟩ := exists_fun ha
  have hv := var_pos hw he x
  simp only [normBack, normGrad, normTurn, var_coe hw, rsqrt_coe_pos hv, div_coe_coe _ hv.ne', div_coe_coe _ hw.ne',
    ← EReal.coe_mul, ← coe_sum, ← EReal.coe_add, ← EReal.coe_sub]
  generalize hV : (∑ k, x k * x k) / w + e = v at hv ⊢
  have hs : √v ≠ 0 := (Real.sqrt_pos.mpr hv).ne'
  have hvs : v = √v * √v := (Real.mul_self_sqrt hv.le).symm
  have hsum : ∑ k, a k * (x k * (√v)⁻¹) = (∑ k, x k * a k) * (√v)⁻¹ := by
    rw [Finset.sum_mul]; exact Finset.sum_congr rfl fun k _ => by ring
  rw [hsum]
  generalize ∑ k, x k * a k = S
  generalize √v = s at hs hvs
  subst hvs
  congr 1
  have hw' := hw.ne'
  field_simp
  ring

theorem rsqrt_var_real {w e : ℝ} (hw : 0 < w) (he : 0 < e) {x : Fin n → EReal} (hx : ∀ k, IsReal (x k)) :
    IsReal (Ideal.rsqrt (var (w : EReal) (e : EReal) x)) := by
  obtain ⟨x, rfl⟩ := exists_fun hx
  rw [var_coe hw, rsqrt_coe_pos (var_pos hw he x)]
  exact ⟨_, rfl⟩

theorem normBack_real {w e : ℝ} (hw : 0 < w) (he : 0 < e) {x a : Fin n → EReal} (hx : ∀ k, IsReal (x k))
    (ha : ∀ k, IsReal (a k)) (j : Fin n) : IsReal (normBack (w : EReal) (e : EReal) x a j) := by
  have hr := rsqrt_var_real hw he hx
  have hs : IsReal (∑ k, a k * (x k * Ideal.rsqrt (var (w : EReal) (e : EReal) x))) := IsReal.sum fun k _ => (ha k).mul ((hx k).mul hr)
  refine hr.mul ((ha j).sub (((hx j).mul hr).mul ?_))
  obtain ⟨s, hs⟩ := hs
  rw [hs, div_coe_coe _ hw.ne']
  exact ⟨_, rfl⟩

end RowNorm

end Cert.Reals

end
-- ==== Proof.OutValue.lean ====
module

public import proofs.«01_k».proof.Proof.Gen.OutBwdIdeal.Value
public import proofs.«01_k».proof.Proof.Gen.OutGradIdeal.Read
public import Idealize.ShloMosaic.Lib.Pipeline.ValueKit
public import proofs.«01_k».proof.Proof.Reals

@[expose] public section

set_option maxRecDepth 16384

noncomputable section

open Idealize.ShloMosaic Idealize.ShloMosaic.TcCoe Idealize.SL.Sem
open Idealize.ShloMosaic.Pipeline (Dat)
open scoped BigOperators

namespace Cert.OutBwdIdeal.Value

open Cert.OutBwdIdeal Cert.OutBwdIdeal.Gen Cert.Reals
open Cert.OutGradIdeal.Read

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, t.val]
    ∧ win0_6.index t = ![t.val, 0] ∧ win0_7.index t = ![0, 0] := (by decide +kernel : ∀ t : Fin grid0.N, _)

/-! ## The two programs' operations at an index -/

abbrev W : EReal := Ideal.ofBits .f32 0x44800000#32
abbrev E : EReal := Ideal.ofBits .f32 0x358637BD#32
abbrev H : EReal := Ideal.ofBits .f32 0xBF000000#32

theorem pay9_apply (x : FVec Ideal S256x1024 .f32) (g : FVec Ideal S1x1024 .f32) (dy : FVec Ideal S256x1024 .f32)
    (r : Fin 256) (l : Fin 1024) : k0_pay9 (F := Ideal) x g dy (ix2 r l) =
      normBack W E (fun k => x (ix2 r k)) (fun k => dy (ix2 r k) * g (ix2 0 k)) l := by
  pointwise [k0_pay4, k0_pay5, k0_pay6, k0_pay9, normBack, var]

theorem pay7_apply (x dy : FVec Ideal S256x1024 .f32) (l : Fin 1024) : k0_pay7 (F := Ideal) x dy (ix2 0 l) =
      ∑ r : Fin 256, dy (ix2 r l) * (x (ix2 r l) * Ideal.rsqrt (var W E fun k => x (ix2 r k))) := by
  pointwise [k0_pay4, k0_pay5, k0_pay6, k0_pay7, var]

section Reference

variable (x0 : FVec Ideal S2048x1024 .f32) (x1 : FVec Ideal S1x1024x1024 .f32) (x2 : FVec Ideal S1x1024 .f32)
  (x3 : FVec Ideal S2048x1024 .f32)

theorem mo_apply (r : Fin 2048) (l : Fin 1024) :
    val_main_v1 (F := Ideal) x0 x1 (ix2 r l) = ∑ k : Fin 1024, x0 (ix2 r k) * x1 (ix3 0 k l) := by
  pointwise [val_main_v0, val_main_v1]

theorem dmo_apply (r : Fin 2048) (l : Fin 1024) : val_main_v38 (F := Ideal) x0 x1 x2 x3 (ix2 r l) =
      normGrad W E H (fun k => val_main_v1 (F := Ideal) x0 x1 (ix2 r k)) (fun k => x3 (ix2 r k) * x2 (ix2 0 k)) l := by
  pointwise [val_main_v2, val_main_v3, val_main_v4, val_main_v5, val_main_v6, val_main_v7, val_main_v8, val_main_v9, val_main_cst, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_cst_0, val_main_cst_1, val_main_cst_2, val_main_cst_3, val_main_cst_4, val_main_cst_5, val_main_cst_6, val_main_cst_7, normGrad, normTurn, var, W, E, H, Finset.univ_unique, Finset.sum_singleton]

theorem dg_apply (l : Fin 1024) : val_main_v46 (F := Ideal) x0 x1 x3 (ix2 0 l) =
      ∑ r : Fin 2048, val_main_v1 (F := Ideal) x0 x1 (ix2 r l) *
        Ideal.rsqrt (var W E fun k => val_main_v1 (F := Ideal) x0 x1 (ix2 r k)) * x3 (ix2 r l) := by
  pointwise [val_main_v2, val_main_v3, val_main_v4, val_main_v5, val_main_v6, val_main_v7, val_main_v8, val_main_v9, val_main_cst, val_main_v10, val_main_v14, val_main_v15, val_main_v19, val_main_v20, val_main_v21, val_main_v24, val_main_v46, val_main_cst_0, val_main_cst_1, val_main_cst_3, val_main_cst_4, var, W, E, H, Finset.univ_unique, Finset.sum_singleton]

end Reference

variable (m : (ℓ : Loc nD τ sig) → Buf (Elt Ideal) ℓ)

theorem t_lt (t : Fin cfg0.N) : t.val < 8 := lt_of_lt_of_eq t.isLt N_0

/-- Row `r` of block `t`. -/
def row (t : Fin cfg0.N) (r : Fin 256) : Fin 2048 := ⟨t.val * 256 + r.val, by have := t_lt t; omega⟩

theorem emb0 (t : Fin cfg0.N) (r : Fin 256) (k : Fin 1024) : ((cfg0.win 0).blk t).view.emb (ix2 r k) = ix2 (row t r) k := by
  blk_ext [idx t, row]
theorem emb1 (t : Fin cfg0.N) (r : Fin 256) (k : Fin 1024) : ((cfg0.win 1).blk t).view.emb (ix2 r k) = ix2 (row t r) k := by
  blk_ext [idx t, row]
theorem emb2 (t : Fin cfg0.N) (r : Fin 1024) (k : Fin 1024) : ((cfg0.win 2).blk t).view.emb (ix2 r k) = ix2 r k := by
  blk_ext [idx t, row]
theorem emb3 (t : Fin cfg0.N) (k : Fin 1024) : ((cfg0.win 3).blk t).view.emb (ix2 0 k) = ix2 0 k := by
  blk_ext [idx t, row]
theorem emb4 (t : Fin cfg0.N) (r : Fin 256) (k : Fin 1024) : ((cfg0.win 4).blk t).view.emb (ix2 r k) = ix2 (row t r) k := by
  blk_ext [idx t, row]

theorem emb5 (t : Fin cfg0.N) (r : Fin 256) (k : Fin 512) : ((cfg0.win 5).blk t).view.emb (ix2 r k) =
    ix2 r (⟨t.val * 512 + k.val, by have := t_lt t; omega⟩ : Fin 4096) := by
  blk_ext [idx t]
theorem emb6 (t : Fin cfg0.N) (r : Fin 256) (k : Fin 512) : ((cfg0.win 6).blk t).view.emb (ix2 r k) = ix2 (row t r) k := by
  blk_ext [idx t, row]
theorem emb7 (t : Fin cfg0.N) (k : Fin 1024) : ((cfg0.win 7).blk t).view.emb (ix2 0 k) = ix2 0 k := by
  blk_ext [idx t, row]

variable (c : Dev nD)
abbrev X0 : FVec Ideal S2048x1024 .f32 := m ((c : Thread nD τ).loc main_arg0)
abbrev X1 : FVec Ideal S1x1024x1024 .f32 := m ((c : Thread nD τ).loc main_arg1)
abbrev X2 : FVec Ideal S1x1024 .f32 := m ((c : Thread nD τ).loc main_arg2)
abbrev X3 : FVec Ideal S2048x1024 .f32 := m ((c : Thread nD τ).loc main_arg3)

theorem mo_block (t : Fin cfg0.N) (r : Fin 256) (k : Fin 1024) :
    iblk m c 1 t (ix2 r k) = val_main_v1 (F := Ideal) (X0 m c) (X1 m c) (ix2 (row t r) k) := by
  rw [mo_apply]
  show V m c main_v3 (((cfg0.win 1).blk t).view.emb (ix2 r k)) = _
  rw [emb1]
  entry_read
  pointwise

theorem dy_block (t : Fin cfg0.N) (r : Fin 256) (k : Fin 1024) : iblk m c 0 t (ix2 r k) = X3 m c (ix2 (row t r) k) := by
  show V m c main_arg3 (((cfg0.win 0).blk t).view.emb (ix2 r k)) = _
  rw [emb0, V_main_arg3]

theorem g_block (t : Fin cfg0.N) (k : Fin 1024) : iblk m c 3 t (ix2 0 k) = X2 m c (ix2 0 k) := by
  show V m c main_arg2 (((cfg0.win 3).blk t).view.emb (ix2 0 k)) = _
  rw [emb3, V_main_arg2]

theorem w_block (t : Fin cfg0.N) (r : Fin 1024) (k : Fin 1024) : iblk m c 2 t (ix2 r k) = X1 m c (ix3 0 r k) := by
  show V m c main_v1 (((cfg0.win 2).blk t).view.emb (ix2 r k)) = _
  rw [emb2]
  entry_read
  pointwise

/-- Every argument is an array of real numbers. -/
def Finite : Prop := (∀ i, IsReal (X0 m c i)) ∧ (∀ i, IsReal (X1 m c i)) ∧ (∀ i, IsReal (X2 m c i)) ∧ ∀ i, IsReal (X3 m c i)

variable {m c}

theorem mo_real (h : Finite m c) (r : Fin 2048) (l : Fin 1024) :
    IsReal (val_main_v1 (F := Ideal) (X0 m c) (X1 m c) (ix2 r l)) := by
  rw [mo_apply]
  exact IsReal.sum fun k _ => (h.1 _).mul (h.2.1 _)

theorem dmo_point (h : Finite m c) (t : Fin cfg0.N) (r : Fin 256) (l : Fin 1024) :
    k0_pay9 (iblk m c 1 t) (iblk m c 3 t) (iblk m c 0 t) (ix2 r l) =
      val_main_v38 (F := Ideal) (X0 m c) (X1 m c) (X2 m c) (X3 m c) (ix2 (row t r) l) := by
  rw [pay9_apply, dmo_apply]
  simp only [mo_block, dy_block, g_block, W, E, H, word_1024, word_eps, word_neg_half]
  exact normBack_eq_normGrad (by norm_num) eps_pos (fun k => mo_real h _ _) (fun k => (h.2.2.2 _).mul (h.2.2.1 _)) l

theorem final4 (h : Finite m c) : (dats m 0 c).arrAt 4 (cfgs 0).N = val_main_v44 (F := Ideal) (X0 m c) (X1 m c) (X2 m c) (X3 m c) := by
  refine (dats m 0 c).arrAt_eq_of_covers 4 _ (by decide +kernel) fun t hf y => ?_
  have key : k0_pay9 (iblk m c 1 t) (iblk m c 3 t) (iblk m c 0 t) y =
      val_main_v44 (F := Ideal) (X0 m c) (X1 m c) (X2 m c) (X3 m c) (((cfg0.win 4).blk t).view.emb y) := by
    idx_vars y
    refine (dmo_point h t y0 y1).trans ?_
    rw [val_main_v44, emb4]; rfl
  blk_simp; rw [after0_4]
  by_cases h0 : t.val % 8 = 0
  · rw [outsAt0_A m c t h0 (by have := t_lt t; omega)]; frame_out; exact key
  · rw [outsAt0_B m c t h0 (by omega)]; frame_out; exact key

theorem final5 (h : Finite m c) : (dats m 0 c).arrAt 5 (cfgs 0).N = val_main_v43 (F := Ideal) (X0 m c) (X1 m c) (X2 m c) (X3 m c) := by
  refine (dats m 0 c).arrAt_eq_of_covers 5 _ (by decide +kernel) fun t hf y => ?_
  have key : k0_pay2 (F := Ideal) (k0_pay9 (F := Ideal) (iblk m c 1 t) (iblk m c 3 t) (iblk m c 0 t)) (iblk m c 2 t) y =
      val_main_v43 (F := Ideal) (X0 m c) (X1 m c) (X2 m c) (X3 m c) (((cfg0.win 5).blk t).view.emb y) := by
    idx_vars y
    rw [emb5]
    pointwise [k0_pay2, k0_pay1, val_main_v43, val_main_v42, val_main_v41, val_main_v40, val_main_v39, val_main_v0]
    simp only [dmo_point h, w_block]
    have := t_lt t
    refine Finset.sum_congr rfl fun k _ => ?_
    congr 3 <;> (apply Fin.ext; simp only [row]; omega)
  blk_simp; rw [after0_5]
  by_cases h0 : t.val % 8 = 0
  · rw [outsAt0_A m c t h0 (by have := t_lt t; omega)]; frame_out; exact key
  · rw [outsAt0_B m c t h0 (by omega)]; frame_out; exact key

theorem final6 (h : Finite m c) : (dats m 0 c).arrAt 6 (cfgs 0).N = val_main_v45 (F := Ideal) (X0 m c) (X1 m c) (X2 m c) (X3 m c) := by
  refine (dats m 0 c).arrAt_eq_of_covers 6 _ (by decide +kernel) fun t hf y => ?_
  have key : k0_pay3 (F := Ideal) (k0_pay9 (F := Ideal) (iblk m c 1 t) (iblk m c 3 t) (iblk m c 0 t)) (iblk m c 2 t) y =
      val_main_v45 (F := Ideal) (X0 m c) (X1 m c) (X2 m c) (X3 m c) (((cfg0.win 6).blk t).view.emb y) := by
    idx_vars y
    rw [emb6]
    pointwise [k0_pay3, k0_pay1, val_main_v45, val_main_v39, val_main_v0]
    simp only [dmo_point h, w_block]
  blk_simp; rw [after0_6]
  by_cases h0 : t.val % 8 = 0
  · rw [outsAt0_A m c t h0 (by have := t_lt t; omega)]; frame_out; exact key
  · rw [outsAt0_B m c t h0 (by omega)]; frame_out; exact key

theorem final7 : (dats m 0 c).arrAt 7 (cfgs 0).N = val_main_v46 (F := Ideal) (X0 m c) (X1 m c) (X3 m c) := by
  refine (dats m 0 c).arrAt_eq_of_after_last 7 t0_7 (by decide +kernel) _ fun j => ?_
  blk_simp
  rw [after0_7, Pipeline.eq_sum_fin_of_reset_step_apply_last (fun n h => (outsAt0 m c n h).2.2.2) 8 (fun _ => 0)
    (fun (p : Fin cfg0.N) j => k0_pay7 (F := Ideal) (iblk m c 1 p) (iblk m c 0 p) j)
    (fun t h j => by rw [outsAt0_A m c t h (by have := t_lt t; omega)]; frame_out; rw [zero_add])
    (fun t h j => by rw [outsAt0_B m c t h (by omega)]; frame_out; pointwise [k0_pay8])
    (le_of_eq N_0) t0_7 rfl j, zero_add]
  idx_vars j
  obtain rfl : j0 = 0 := Subsingleton.elim _ _
  rw [dg_apply]
  simp only [pay7_apply]
  refine Fin.sum_mul_add_congr (S := cfg0.N) (n := 256) fun p r hl => ?_
  simp only [mo_block, dy_block]
  exact mul_comm (G := EReal) _ _

end Cert.OutBwdIdeal.Value
-- ==== Proof.OutClaims.lean ====
/- The claims about the output projection's backward call and the gradient it computes. -/
module

public import proofs.«01_k».proof.Defs
public import proofs.«01_k».proof.Proof.Gen.OutBwd.Frame
public import proofs.«01_k».proof.Proof.Gen.OutGradIdeal.Run
public import proofs.«01_k».proof.Proof.OutValue
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

instance out_pre_facts : Cert.Pre_finite_out.Facts where
  bcast_S_S2048x1024 := by decide
  bcast_S_S1x1024x1024 := by decide
  bcast_S_S1x1024 := by decide

theorem out_frame : Cert.quiescent_OutBwd := fun m g _ => Cert.OutBwd.Gen.frame m g
theorem out_frame_ideal : Cert.quiescent_OutBwdIdeal := fun m g _ => Cert.OutBwdIdeal.Gen.frame m g
theorem out_frame_ideal_pre : Cert.quiescent_OutBwdIdeal_pre_finite_out := fun m g _ => Cert.OutBwdIdeal.Gen.frame m g
theorem out_grad_frame : Cert.quiescent_OutGradIdeal := fun m g _ => by
  hlo_run
  · simp
  · exact sem_eq_zero_of_no_sems (sig := Cert.OutGradIdeal.sig) (by decide) _
theorem out_grad_frame_pre : Cert.quiescent_OutGradIdeal_pre_finite_out := fun m g _ => out_grad_frame m g trivial

theorem out_finite {m : (ℓ : Loc Cert.OutBwdIdeal.nD Cert.OutBwdIdeal.τ Cert.OutBwdIdeal.sig) → Buf (Elt Ideal) ℓ}
    (h : Cert.Pre_OutBwdIdeal_finite_out m) (c : Dev Cert.OutBwdIdeal.nD) : Cert.OutBwdIdeal.Value.Finite m c :=
  ⟨Cert.Reals.isReal_of_olt (h c).1, Cert.Reals.isReal_of_olt (h c).2.1, Cert.Reals.isReal_of_olt (h c).2.2.1,
    Cert.Reals.isReal_of_olt (h c).2.2.2⟩

theorem out_algebraic : Cert.algebraic_OutBwdIdeal_OutGradIdeal_pre_finite_out := by
  pair_intro
  · run_from Cert.OutBwdIdeal.Gen.run_main m g
  · run_from Cert.OutGradIdeal.Value.run m' g'
    · rw [Cert.OutGradIdeal.Read.val_main_v44_eq, (hagree c).1, (hagree c).2.1, (hagree c).2.2.1, (hagree c).2.2.2]
      exact (Cert.OutBwdIdeal.Value.final4 (out_finite hpre c)).symm
    · rw [Cert.OutGradIdeal.Read.val_main_v43_eq, (hagree c).1, (hagree c).2.1, (hagree c).2.2.1, (hagree c).2.2.2]
      exact (Cert.OutBwdIdeal.Value.final5 (out_finite hpre c)).symm
    · rw [Cert.OutGradIdeal.Read.val_main_v45_eq, (hagree c).1, (hagree c).2.1, (hagree c).2.2.1, (hagree c).2.2.2]
      exact (Cert.OutBwdIdeal.Value.final6 (out_finite hpre c)).symm
    · exact Cert.OutBwdIdeal.Value.final7.symm

end Cert.Proof

end
-- ==== Proof.AttnRun.lean ====
/- The attention gradient's kernel body, run once for the first block and once for a later one: which pieces
   each output's staging buffer is left at. The second gradient block it stores into is the block before the
   point's own, at row `128 * (t - 1)`, clamped at the first. -/
module

public import proofs.«01_k».proof.Proof.Gen.AttnBwdIdeal.Launch
public import proofs.«01_k».proof.Proof.Gen.AttnBwdIdeal.Skeleton
public import proofs.«01_k».proof.Proof.Gen.AttnBwdIdeal.Points
public import proofs.«01_k».proof.Proof.Gen.AttnBwdIdeal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.AttnBwdIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBwdIdeal.Gen

variable {F : FTy → Type} [FloatOps F]

local notation "𝕄" => MT nD τ sig Unit (Elt F) ℕ (UR sig nD τ) ℕ

/-- The block before the point's own starts at row `128 * (i - 1)`, the first block's at zero. -/
theorem prev_off : ∀ i : grid0.Coords, k0_off1 i = ![128 * ((i 0).val - 1), 0] := by decide +kernel

instance closed_prev_off (i : grid0.Coords) : ClosedOff (k0_off1 i) := ⟨![128 * ((i 0).val - 1), 0], prev_off i⟩

/-- The first conditional of the body: the accumulators are cleared. -/
abbrev clears (i : grid0.Coords) : Prop :=
  (Scalar.cmpi .ne (Scalar.extui (Scalar.cmpi .eq (BitVec.ofNat 32 (i 0).val) 0#32)) 0#32) = 1#1
/-- The second: the sums over the blocks are cleared. -/
abbrev resets (i : grid0.Coords) : Prop := k0_cond2 i = 1#1
/-- The third: there is a block before. -/
abbrev hasPrev (i : grid0.Coords) : Prop := k0_cond3 i = 1#1

theorem clears_iff : ∀ t : Fin cfg0.N, clears (grid0.coords t) ↔ t.val = 0 :=
  (by decide +kernel : ∀ t : Fin grid0.N, clears (grid0.coords t) ↔ t.val = 0)
theorem resets_iff : ∀ t : Fin cfg0.N, resets (grid0.coords t) ↔ t.val = 0 :=
  (by decide +kernel : ∀ t : Fin grid0.N, resets (grid0.coords t) ↔ t.val = 0)
theorem hasPrev_iff : ∀ t : Fin cfg0.N, hasPrev (grid0.coords t) ↔ t.val ≠ 0 :=
  (by decide +kernel : ∀ t : Fin grid0.N, hasPrev (grid0.coords t) ↔ t.val ≠ 0)

section
variable (c : Dev nD) (i : grid0.Coords)
  (arg1 : Memref sig .tc .vmem S128x512 .f32) (harg1 : arg1.IsWhole)
  (arg2 : Memref sig .tc .vmem S128x128 .f32) (harg2 : arg2.IsWhole)
  (arg3 : Memref sig .tc .vmem S128x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x512 .f32) (harg6 : arg6.IsWhole)
  (arg7 : Memref sig .tc .vmem S128x512 .f32) (harg7 : arg7.IsWhole)
  (arg8 : Memref sig .tc .vmem S1x2x512x256 .f32) (harg8 : arg8.IsWhole)
  (arg9 : Memref sig .tc .vmem S1x512 .f32) (harg9 : arg9.IsWhole)
  (arg10 : Memref sig .tc .vmem S128x512 .f32) (harg10 : arg10.IsWhole)
  (arg11 : Memref sig .tc .vmem S2048x128 .f32) (harg11 : arg11.IsWhole)
  (arg12 : Memref sig .tc .vmem S2048x128 .f32) (harg12 : arg12.IsWhole)
  (arg13 : Memref sig .tc .vmem S1x128 .f32) (harg13 : arg13.IsWhole)
  (arg14 : Memref sig .tc .vmem S1x512 .f32) (harg14 : arg14.IsWhole)
  (x0 : Vec F S128x512 .f32) (x1 : Vec F S128x128 .f32) (x2 : Vec F S128x128 .f32) (x3 : Vec F S128x128 .f32) (x4 : Vec F S128x128 .f32) (x5 : Vec F S128x512 .f32) (x6 : Vec F S128x512 .f32) (x7 : Vec F S1x2x512x256 .f32) (x8 : Vec F S1x512 .f32)

set_option maxHeartbeats 2400000 in
/-- The body at the first block (no block before it): the two accumulators and both sums are cleared, then stored into. -/
def runA (hc0 : clears i) (hc1 : resets i) (hc2 : ¬hasPrev i) :
    Σ' (L9 : List (View.Piece (Elt F) S128x512 .f32)), Σ' (L10 : List (View.Piece (Elt F) S2048x128 .f32)), Σ' (L11 : List (View.Piece (Elt F) S2048x128 .f32)), Σ' (L12 : List (View.Piece (Elt F) S1x128 .f32)), { L13 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    iexists _; iexact H13

set_option maxHeartbeats 2400000 in
/-- The body at a later block: it adds into the accumulators at the block before and at its own block. -/
def runB (hc0 : ¬clears i) (hc1 : ¬resets i) (hc2 : hasPrev i)
    (xo10 : Vec F S2048x128 .f32) (xo11 : Vec F S2048x128 .f32) (xo12 : Vec F S1x128 .f32) (xo13 : Vec F S1x512 .f32) :
    Σ' (L9 : List (View.Piece (Elt F) S128x512 .f32)), Σ' (L10 : List (View.Piece (Elt F) S2048x128 .f32)), Σ' (L11 : List (View.Piece (Elt F) S2048x128 .f32)), Σ' (L12 : List (View.Piece (Elt F) S1x128 .f32)), { L13 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xo10 ∗ owns (c : Thread nD τ) arg12 fullShare xo11 ∗ owns (c : Thread nD τ) arg13 fullShare xo12 ∗ owns (c : Thread nD τ) arg14 fullShare xo13
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (arg11.view.loc (c : Thread nD τ) ↦[arg11.view.set]{fullShare} arg11.view.writes (Elt F) (harg11.unread xo10) L10) ∗ (arg12.view.loc (c : Thread nD τ) ↦[arg12.view.set]{fullShare} arg12.view.writes (Elt F) (harg12.unread xo11) L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%f13, %hf13, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hf12; obtain rfl := harg14.eq_unread hf13
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexact H10
    isplitl [H11]; · iexact H11
    isplitl [H12]; · iexists _; iexact H12
    iexists _; iexact H13

end

end Cert.AttnBwdIdeal.Attn

end
-- ==== Proof.AttnFrame.lean ====
/- The attention gradient's kernel frame: what each output's staging buffer holds after every point, the
   pipeline's proof data over it, and the run of the whole program. -/
module

public import proofs.«01_k».proof.Proof.AttnRun
public import Idealize.ShloMosaic.Lib.Claim

@[expose] public section

set_option maxRecDepth 16384

noncomputable section

namespace Cert.AttnBwdIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs -/

abbrev VO0_9 : View sig .tc .vmem S128x512 .f32 := (Memref.whole cc0_stg9_0 : Memref sig .tc .vmem S128x512 .f32).view
abbrev VO0_10 : View sig .tc .vmem S2048x128 .f32 := (Memref.whole cc0_stg10_0 : Memref sig .tc .vmem S2048x128 .f32).view
abbrev VO0_11 : View sig .tc .vmem S2048x128 .f32 := (Memref.whole cc0_stg11_0 : Memref sig .tc .vmem S2048x128 .f32).view
abbrev VO0_12 : View sig .tc .vmem S1x128 .f32 := (Memref.whole cc0_stg12_0 : Memref sig .tc .vmem S1x128 .f32).view
abbrev VO0_13 : View sig .tc .vmem S1x512 .f32 := (Memref.whole cc0_stg13_0 : Memref sig .tc .vmem S1x512 .f32).view
abbrev ms0_0 (t : Fin cfg0.N) : Memref sig .tc .vmem S128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x512x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2048x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2048x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x512 .f32 := win0_13.stage (cfg0.slots t 13)
abbrev hs0_13 (t : Fin cfg0.N) : (ms0_13 t).IsWhole := hstage0_13 ((cfg0.slots t 13).cast nbuf0_13)

theorem points (t : Fin cfg0.N) : t.val < 16 := lt_of_lt_of_eq t.isLt (show cfg0.N = 16 from N_0)

/-- The first point's run at the point's own memrefs and blocks. -/
abbrev firstRun (c : Dev nD) (t : Fin cfg0.N) (h : t.val = 0) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
    (iblk m c 0 t) (iblk m c 1 t) (iblk m c 2 t) (iblk m c 3 t) (iblk m c 4 t) (iblk m c 5 t) (iblk m c 6 t) (iblk m c 7 t) (iblk m c 8 t) ((clears_iff t).mpr h) ((resets_iff t).mpr h) (fun hp => (hasPrev_iff t).mp hp h)

/-- What the five outputs' staging buffers hold. -/
abbrev Held (F : FTy → Type) := Vec F S128x512 .f32 × Vec F S2048x128 .f32 × Vec F S2048x128 .f32 × Vec F S1x128 .f32 × Vec F S1x512 .f32

/-- A later point's run, over what the point before left. -/
abbrev laterRun (c : Dev nD) (t : Fin cfg0.N) (h : t.val ≠ 0) (s : Held F) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
    (iblk m c 0 t) (iblk m c 1 t) (iblk m c 2 t) (iblk m c 3 t) (iblk m c 4 t) (iblk m c 5 t) (iblk m c 6 t) (iblk m c 7 t) (iblk m c 8 t) (fun hc => h ((clears_iff t).mp hc)) (fun hc => h ((resets_iff t).mp hc)) ((hasPrev_iff t).mpr h)
    s.2.1 s.2.2.1 s.2.2.2.1 s.2.2.2.2

/-! ## The pieces cover their blocks -/

theorem first_cover_9 (c : Dev nD) (t : Fin cfg0.N) (h : t.val = 0) (y : S128x512.Idx) :
    ∃ pc ∈ (firstRun m c t h).1, y ∈ pc.1.set :=
  View.cover_of_tiledL (firstRun m c t h).1 S128x512.size (by sl_kernel_rfl) y
theorem first_cover_10 (c : Dev nD) (t : Fin cfg0.N) (h : t.val = 0) (y : S2048x128.Idx) :
    ∃ pc ∈ (firstRun m c t h).2.1, y ∈ pc.1.set :=
  View.cover_of_wholeMem (firstRun m c t h).2.1 (by sl_whole_mem) y
theorem first_cover_11 (c : Dev nD) (t : Fin cfg0.N) (h : t.val = 0) (y : S2048x128.Idx) :
    ∃ pc ∈ (firstRun m c t h).2.2.1, y ∈ pc.1.set :=
  View.cover_of_wholeMem (firstRun m c t h).2.2.1 (by sl_whole_mem) y
theorem first_cover_12 (c : Dev nD) (t : Fin cfg0.N) (h : t.val = 0) (y : S1x128.Idx) :
    ∃ pc ∈ (firstRun m c t h).2.2.2.1, y ∈ pc.1.set :=
  View.cover_of_tiledL (firstRun m c t h).2.2.2.1 S1x128.size (by sl_kernel_rfl) y
theorem first_cover_13 (c : Dev nD) (t : Fin cfg0.N) (h : t.val = 0) (y : S1x512.Idx) :
    ∃ pc ∈ (firstRun m c t h).2.2.2.2.val, y ∈ pc.1.set :=
  View.cover_of_tiledL (firstRun m c t h).2.2.2.2.val S1x512.size (by sl_kernel_rfl) y
theorem later_cover_9 (c : Dev nD) (t : Fin cfg0.N) (h : t.val ≠ 0) (s : Held F) (y : S128x512.Idx) :
    ∃ pc ∈ (laterRun m c t h s).1, y ∈ pc.1.set :=
  View.cover_of_tiledL (laterRun m c t h s).1 S128x512.size (by sl_kernel_rfl) y
theorem later_cover_12 (c : Dev nD) (t : Fin cfg0.N) (h : t.val ≠ 0) (s : Held F) (y : S1x128.Idx) :
    ∃ pc ∈ (laterRun m c t h s).2.2.2.1, y ∈ pc.1.set :=
  View.cover_of_tiledL (laterRun m c t h s).2.2.2.1 S1x128.size (by sl_kernel_rfl) y
theorem later_cover_13 (c : Dev nD) (t : Fin cfg0.N) (h : t.val ≠ 0) (s : Held F) (y : S1x512.Idx) :
    ∃ pc ∈ (laterRun m c t h s).2.2.2.2.val, y ∈ pc.1.set :=
  View.cover_of_tiledL (laterRun m c t h s).2.2.2.2.val S1x512.size (by sl_kernel_rfl) y

/-! ## What the staging buffers hold -/

/-- After the first point: its pieces, read back. -/
def first (c : Dev nD) (t : Fin cfg0.N) (h : t.val = 0) : Held F :=
  (VO0_9.read (Elt F) (VO0_9.writes (Elt F) VO0_9.junk (firstRun m c t h).1),
    VO0_10.read (Elt F) (VO0_10.writes (Elt F) VO0_10.junk (firstRun m c t h).2.1),
    VO0_11.read (Elt F) (VO0_11.writes (Elt F) VO0_11.junk (firstRun m c t h).2.2.1),
    VO0_12.read (Elt F) (VO0_12.writes (Elt F) VO0_12.junk (firstRun m c t h).2.2.2.1),
    VO0_13.read (Elt F) (VO0_13.writes (Elt F) VO0_13.junk (firstRun m c t h).2.2.2.2.val))

/-- After a later point: the two accumulators are stored into over what was held, the rest read back. -/
def later (c : Dev nD) (t : Fin cfg0.N) (h : t.val ≠ 0) (s : Held F) : Held F :=
  (VO0_9.read (Elt F) (VO0_9.writes (Elt F) VO0_9.junk (laterRun m c t h s).1),
    (ms0_10 t).view.read (Elt F) ((ms0_10 t).view.writes (Elt F) ((hs0_10 t).unread s.2.1) (laterRun m c t h s).2.1),
    (ms0_11 t).view.read (Elt F) ((ms0_11 t).view.writes (Elt F) ((hs0_11 t).unread s.2.2.1) (laterRun m c t h s).2.2.1),
    VO0_12.read (Elt F) (VO0_12.writes (Elt F) VO0_12.junk (laterRun m c t h s).2.2.2.1),
    VO0_13.read (Elt F) (VO0_13.writes (Elt F) VO0_13.junk (laterRun m c t h s).2.2.2.2.val))

/-- Point by point. -/
def held (c : Dev nD) : (n : ℕ) → n < cfg0.N → Held F
  | 0, hn => first m c ⟨0, hn⟩ rfl
  | n + 1, hn => later m c ⟨n + 1, hn⟩ (Nat.succ_ne_zero n) (held c n (Nat.lt_of_succ_lt hn))

theorem held_first (c : Dev nD) (t : Fin cfg0.N) (h : t.val = 0) : held m c t.val t.isLt = first m c t h := by
  obtain ⟨n, hn⟩ := t; cases n with
  | zero => rfl
  | succ n => exact absurd h (Nat.succ_ne_zero n)

/-- What the point before left. -/
abbrev prior (c : Dev nD) (t : Fin cfg0.N) : Held F := held m c (t.val - 1) (Nat.lt_of_le_of_lt (Nat.sub_le _ _) t.isLt)

theorem held_later (c : Dev nD) (t : Fin cfg0.N) (h : t.val ≠ 0) :
    held m c t.val t.isLt = later m c t h (prior m c t) := by
  obtain ⟨n, hn⟩ := t; cases n with
  | zero => exact absurd rfl h
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (held m c t.val t.isLt).1
    | ⟨10, _⟩ => (held m c t.val t.isLt).2.1
    | ⟨11, _⟩ => (held m c t.val t.isLt).2.2.1
    | ⟨12, _⟩ => (held m c t.val t.isLt).2.2.2.1
    | ⟨13, _⟩ => (held m c t.val t.isLt).2.2.2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = (held m c t.val t.isLt).1 := by dsimp only [dats]
theorem after_10 (c : Dev nD) (t : Fin cfg0.N) : (dats m 0 c).after 10 t = (held m c t.val t.isLt).2.1 := by dsimp only [dats]
theorem after_11 (c : Dev nD) (t : Fin cfg0.N) : (dats m 0 c).after 11 t = (held m c t.val t.isLt).2.2.1 := by dsimp only [dats]
theorem after_12 (c : Dev nD) (t : Fin cfg0.N) : (dats m 0 c).after 12 t = (held m c t.val t.isLt).2.2.2.1 := by dsimp only [dats]
theorem after_13 (c : Dev nD) (t : Fin cfg0.N) : (dats m 0 c).after 13 t = (held m c t.val t.isLt).2.2.2.2 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- No window is left idle. -/
theorem live_coords : ∀ (w : Fin cfg0.W) (i : grid0.Coords), cfg0.idle w i = false := by decide +kernel

theorem live (w : Fin cfg0.W) (t : Fin cfg0.N) : cfg0.idle w (grid0.coords t) = false := live_coords w _

theorem not_flushed (w : Fin cfg0.W) (hw : w = 10 ∨ w = 11 ∨ w = 12 ∨ w = 13) (t : Fin cfg0.N) (h : t.val ≠ 0) :
    (cfg0.win w).flush ⟨t.val - 1, Nat.lt_of_le_of_lt (Nat.sub_le _ _) t.isLt⟩ = false := by
  have hN := points t
  refine Bool.eq_false_iff.mpr fun hf => ?_
  rcases hw with rfl | rfl | rfl | rfl
  · have := (flush0_10 _).mp hf; dsimp only at this; omega
  · have := (flush0_11 _).mp hf; dsimp only at this; omega
  · have := (flush0_12 _).mp hf; dsimp only at this; omega
  · have := (flush0_13 _).mp hf; dsimp only at this; omega
theorem before_10 (c : Dev nD) (t : Fin cfg0.N) (h : t.val ≠ 0) (d) :
    (dats m 0 c).before 10 t d = (prior m c t).2.1 := by
  rw [Dat.before_out_kept _ 10 rfl t h (not_flushed 10 (by decide) t h) (live_coords 10) (fun _ _ => rfl)]
  dsimp only [dats]
theorem before_11 (c : Dev nD) (t : Fin cfg0.N) (h : t.val ≠ 0) (d) :
    (dats m 0 c).before 11 t d = (prior m c t).2.2.1 := by
  rw [Dat.before_out_kept _ 11 rfl t h (not_flushed 11 (by decide) t h) (live_coords 11) (fun _ _ => rfl)]
  dsimp only [dats]
theorem before_12 (c : Dev nD) (t : Fin cfg0.N) (h : t.val ≠ 0) (d) :
    (dats m 0 c).before 12 t d = (prior m c t).2.2.2.1 := by
  rw [Dat.before_out_kept _ 12 rfl t h (not_flushed 12 (by decide) t h) (live_coords 12) (fun _ _ => rfl)]
  dsimp only [dats]
theorem before_13 (c : Dev nD) (t : Fin cfg0.N) (h : t.val ≠ 0) (d) :
    (dats m 0 c).before 13 t d = (prior m c t).2.2.2.2 := by
  rw [Dat.before_out_kept _ 13 rfl t h (not_flushed 13 (by decide) t h) (live_coords 13) (fun _ _ => rfl)]
  dsimp only [dats]

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

theorem leaves (c : Dev nD) (t : Fin cfg0.N) (w : Fin cfg0.W) :
    (dats m 0 c).leavesExact w t = owns (c : Thread nD τ) ((cfg0.win w).stage (cfg0.slots t w)) fullShare ((dats m 0 c).after w t) := by
  unfold Dat.leavesExact; rw [live w t]

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl]
  simp only [leaves, after_0, after_1, after_2, after_3, after_4, after_5, after_6, after_7, after_8, after_9, after_10, after_11, after_12, after_13]
  by_cases h : t.val = 0
  · rw [held_first m c t h]
    unfold first; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((firstRun m c t h).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    iintro ⟨H0, H1, H2, H3, H4, H5, H6, H7, H8, ⟨%e9, H9⟩, ⟨%e10, H10⟩, ⟨%e11, H11⟩, ⟨%e12, H12⟩, ⟨%e13, H13⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (first_cover_9 m c t h)
    isplitl [H10]
    · unfold owns; iexists _; isplitr
      swap; · iexact H10
      ipureintro; exact View.read_writes_of_cover _ _ _ _ _ (first_cover_10 m c t h)
    isplitl [H11]
    · unfold owns; iexists _; isplitr
      swap; · iexact H11
      ipureintro; exact View.read_writes_of_cover _ _ _ _ _ (first_cover_11 m c t h)
    isplitl [H12]
    · unfold owns; iexists _; isplitr
      swap; · iexact H12
      ipureintro; exact View.read_writes_of_cover _ _ _ _ _ (first_cover_12 m c t h)
    unfold owns; iexists _; isplitr
    swap; · iexact H13
    ipureintro; exact View.read_writes_of_cover _ _ _ _ _ (first_cover_13 m c t h)
  · rw [held_later m c t h]
    simp only [before_10 m c t h, before_11 m c t h, before_12 m c t h, before_13 m c t h]
    unfold later; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((laterRun m c t h (prior m c t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [H12]; · iexact H12
    isplitl [H13]; · iexact H13
    iintro ⟨H0, H1, H2, H3, H4, H5, H6, H7, H8, ⟨%e9, H9⟩, H10, H11, ⟨%e12, H12⟩, ⟨%e13, H13⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (later_cover_9 m c t h _)
    isplitl [H10]
    · unfold owns; iexists _; isplitr
      swap; · iexact H10
      ipureintro; rfl
    isplitl [H11]
    · unfold owns; iexists _; isplitr
      swap; · iexact H11
      ipureintro; rfl
    isplitl [H12]
    · unfold owns; iexists _; isplitr
      swap; · iexact H12
      ipureintro; exact View.read_writes_of_cover _ _ _ _ _ (later_cover_12 m c t h _)
    unfold owns; iexists _; isplitr
    swap; · iexact H13
    ipureintro; exact View.read_writes_of_cover _ _ _ _ _ (later_cover_13 m c t h _)

/-- The body table's row. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.AttnBwdIdeal.Attn

end
-- ==== Proof.AttnTile.lean ====
/- The attention gradient's kernel body over the reals with infinities: each group of its vector operations is one
   function of a tile, read at an index. A head group's two queries heads are stacked along the rows, each with its own
   64 lanes and zeros in the others. -/
module

public import proofs.«01_k».proof.Proof.Gen.AttnBwdIdeal.Skeleton
public import Idealize.ShloMosaic.Lib.Pointwise
public import proofs.«01_k».proof.Proof.Reals

@[expose] public section

set_option maxRecDepth 16384

noncomputable section

open Idealize.ShloMosaic Idealize.ShloMosaic.TcCoe Idealize.SL.Sem
open scoped BigOperators

namespace Cert.AttnBwdIdeal.Tile

open Cert.AttnBwdIdeal Cert.AttnBwdIdeal.Gen Cert.Reals

abbrev W : EReal := Ideal.ofBits .f32 0x44000000#32
abbrev E : EReal := Ideal.ofBits .f32 0x358637BD#32
/-- The scores' factor. -/
abbrev C : EReal := Ideal.ofBits .f32 0x3E000000#32

abbrev Sq := FVec Ideal S256x256 .f32

/-! ## The functions of a tile -/

/-- Row `r` of the stack: query `r % 128`, the head of lane group `r / 128 + o`, zero in the other lanes. -/
def stack (o : ℕ) (x : FVec Ideal S128x256 .f32) : Sq := fun i =>
  if (i 1).val / 64 = (i 0).val / 128 + o then x (ix2 ⟨(i 0).val % 128, by omega⟩ (i 1)) else 0
/-- Half of a window's lanes repeated four times. -/
def spread (j : ℕ) (hj : j < 2) (x : FVec Ideal S256x128 .f32) : Sq := fun i => x (ix2 (i 0) ⟨64 * j + (i 1).val % 64, by omega⟩)
/-- The probabilities without the sink's column. -/
def keep (p : FVec Ideal S1x1x256x256 .f32) : Sq := fun i => if (i 1).val = 0 then 0 else p (ix4 0 0 (i 0) (i 1))
def rowsProd (x y : Sq) : Sq := fun i => ∑ l : Fin 256, x (ix2 (i 0) l) * y (ix2 (i 1) l)
def colsProd (x y : Sq) : Sq := fun i => ∑ r : Fin 256, x (ix2 r (i 0)) * y (ix2 r (i 1))
def prod (x y : Sq) : Sq := fun i => ∑ k : Fin 256, x (ix2 (i 0) k) * y (ix2 k (i 1))
def rowDot (x y : Sq) (r : Fin 256) : EReal := ∑ k : Fin 256, x (ix2 r k) * y (ix2 r k)
/-- The gradient of a softmax row with factor `C`. -/
def soft (p dp : Sq) : Sq := fun i => p i * (dp i - rowDot p dp (i 0)) * C
/-- The stack's two heads put back side by side. -/
def unstack (o : ℕ) (x : Sq) : FVec Ideal S128x256 .f32 := fun i =>
  (if (i 1).val / 64 = o then x (ix2 (Fin.castLE (by decide) (i 0 : Fin 128)) (i 1)) else 0)
    + (if (i 1).val / 64 = o + 1 then x (ix2 (Fin.natAdd 128 (i 0 : Fin 128)) (i 1)) else 0)
/-- The four head groups' lanes summed into half `j` of a window. -/
def fold (j : ℕ) (x : Sq) : FVec Ideal S256x128 .f32 := fun i =>
  if (i 1).val / 64 = j then ∑ g : Fin 4, x (ix2 (i 0) ⟨64 * g.val + (i 1).val % 64, by omega⟩) else 0
/-- Lane `e` of the sink's gradient holds the sum of one head's rows. -/
def lane (e : ℕ) (s : EReal) : FVec Ideal S1x128 .f32 := fun i => if (i 1).val = e then s else 0
def sinkSum (b : ℕ) (hb : b ≤ 128) (p : FVec Ideal S1x1x256x256 .f32) (dl : Fin 256 → EReal) : EReal :=
  ∑ q : Fin 128, p (ix4 0 0 ⟨b + q.val, by omega⟩ 0) * dl ⟨b + q.val, by omega⟩

/-! ## The operations are these functions -/

theorem group (l : Fin 256) : IntOp.shrsi .vector (BitVec.ofNat 32 l.val) 6#32 = BitVec.ofNat 32 (l.val / 64) := by
  revert l; decide +kernel
theorem group128 (l : Fin 128) : IntOp.shrsi .vector (BitVec.ofNat 32 l.val) 6#32 = BitVec.ofNat 32 (l.val / 64) := by
  revert l; decide +kernel
theorem low0 (l : Fin 256) : IntOp.addi 0#32 (IntOp.andi (BitVec.ofNat 32 l.val) 63#32) = BitVec.ofNat 32 (64 * 0 + l.val % 64) := by
  revert l; decide +kernel
theorem low1 (l : Fin 256) : IntOp.addi 64#32 (IntOp.andi (BitVec.ofNat 32 l.val) 63#32) = BitVec.ofNat 32 (64 * 1 + l.val % 64) := by
  revert l; decide +kernel
theorem word_eq (a b : ℕ) (ha : a < 4294967296) (hb : b < 4294967296) :
    IntOp.cmpi .eq (BitVec.ofNat 32 a) (BitVec.ofNat 32 b) = if a = b then 1#1 else 0#1 := by
  by_cases h : a = b
  · subst h; simp [IntOp.cmpi]
  · have hne : ¬ (BitVec.ofNat 32 a = BitVec.ofNat 32 b) := fun he => h (by
      have := congrArg BitVec.toNat he
      rwa [BitVec.toNat_ofNat, BitVec.toNat_ofNat, Nat.mod_eq_of_lt ha, Nat.mod_eq_of_lt hb] at this)
    simp only [IntOp.cmpi, if_neg h]; rw [beq_eq_false_iff_ne.mpr hne]; rfl
theorem pick {α : Type} (a b : ℕ) (ha : a < 4294967296) (hb : b < 4294967296) (x y : α) :
    Scalar.select (IntOp.cmpi .eq (BitVec.ofNat 32 a) (BitVec.ofNat 32 b)) x y = if a = b then x else y := by
  rw [word_eq a b ha hb]; by_cases h : a = b <;> simp [h, Scalar.select]

theorem one_hot (a b : ℕ) (ha : a < 4294967296) (hb : b < 4294967296) :
    FloatOps.sitofp (F := Ideal) FTy.f32 (BitVec.setWidth 32 (IntOp.cmpi .eq (BitVec.ofNat 32 a) (BitVec.ofNat 32 b)))
      = if a = b then (1 : EReal) else 0 := by
  rw [word_eq a b ha hb]
  by_cases h : a = b
  · rw [if_pos h, if_pos h]; show (((BitVec.setWidth 32 1#1).toInt : ℝ) : EReal) = 1; norm_num
  · rw [if_neg h, if_neg h]; show (((BitVec.setWidth 32 0#1).toInt : ℝ) : EReal) = 0; norm_num

theorem sum_one_hot (a : Fin 128) (f : Fin 128 → EReal) : ∑ c : Fin 128, f c * (if c.val = a.val then (1 : EReal) else 0) = f a := by
  rw [Finset.sum_eq_single a]
  · simp
  · intro c _ h; rw [if_neg (fun e => h (Fin.ext e)), mul_zero]
  · intro h; exact absurd (Finset.mem_univ _) h
theorem stack_cases (o : ℕ) (x : FVec Ideal S128x256 .f32) (r l : Fin 256) :
    (if h : r.val < 128 then (if l.val / 64 = o then x (ix2 ⟨r.val, h⟩ l) else 0)
      else if l.val / 64 = o + 1 then x (ix2 ⟨r.val - 128, by omega⟩ l) else 0) = stack o x (ix2 r l) := by
  show _ = if l.val / 64 = r.val / 128 + o then x (ix2 ⟨r.val % 128, _⟩ l) else 0
  by_cases h : r.val < 128
  · have h0 : r.val / 128 = 0 := by omega
    have h1 : (⟨r.val, h⟩ : Fin 128) = ⟨r.val % 128, by omega⟩ := Fin.ext (by simp; omega)
    rw [dif_pos h, h0, Nat.zero_add, h1]
  · have h0 : r.val / 128 = 1 := by omega
    have h1 : (⟨r.val - 128, by omega⟩ : Fin 128) = ⟨r.val % 128, by omega⟩ := Fin.ext (by simp; omega)
    rw [dif_neg h, h0, Nat.add_comm 1 o, h1]

variable (x : FVec Ideal S128x256 .f32) (z : FVec Ideal S128x512 .f32) (p : FVec Ideal S1x1x256x256 .f32)
  (w a b : FVec Ideal S256x128 .f32) (y v u : Sq)

theorem stack_0 : k0_pay25 (F := Ideal) x (k0_pay22 x) k0_pay23 k0_pay24 = stack 0 x := by
  funext i; idx_vars i
  pointwise [k0_pay25, k0_pay22, k0_pay23, k0_pay24, k0_pay21]
  simp (disch := omega) only [group, pick]
  exact stack_cases 0 x i0 i1
theorem stack_0' : k0_pay26 (F := Ideal) x = stack 0 x := by
  funext i; idx_vars i
  pointwise [k0_pay26]
  simp (disch := omega) only [group, pick]
  exact stack_cases 0 x i0 i1
theorem stack_2 : k0_pay41 (F := Ideal) x k0_pay39 k0_pay40 = stack 2 x := by
  funext i; idx_vars i
  pointwise [k0_pay41, k0_pay39, k0_pay40]
  simp (disch := omega) only [group, pick]
  exact stack_cases 2 x i0 i1
theorem stack_2' : k0_pay42 (F := Ideal) x = stack 2 x := by
  funext i; idx_vars i
  pointwise [k0_pay42]
  simp (disch := omega) only [group, pick]
  exact stack_cases 2 x i0 i1
theorem stack_0b : k0_pay66 (F := Ideal) x = stack 0 x := by
  funext i; idx_vars i
  pointwise [k0_pay66]
  simp (disch := omega) only [group, pick]
  exact stack_cases 0 x i0 i1
theorem stack_0b' : k0_pay67 (F := Ideal) z = stack 0 (k0_pay65 (F := Ideal) z) := by
  funext i; idx_vars i
  pointwise [k0_pay67]
  simp (disch := omega) only [group, pick]
  exact stack_cases 0 _ i0 i1
theorem stack_2b : k0_pay80 (F := Ideal) x = stack 2 x := by
  funext i; idx_vars i
  pointwise [k0_pay80]
  simp (disch := omega) only [group, pick]
  exact stack_cases 2 x i0 i1
theorem stack_2b' : k0_pay85 (F := Ideal) x (k0_pay82 x) k0_pay83 k0_pay84 = stack 2 x := by
  funext i; idx_vars i
  pointwise [k0_pay85, k0_pay82, k0_pay83, k0_pay84, k0_pay81]
  simp (disch := omega) only [group, pick]
  exact stack_cases 2 x i0 i1

theorem spread_0 (c d : FVec Ideal S128x128 .f32) : k0_pay18 (F := Ideal) c d = spread 0 (by decide) (k0_pay12 (F := Ideal) c d) := by
  funext i; idx_vars i
  pointwise [k0_pay18, k0_pay17]
  simp (disch := omega) only [low0, one_hot]
  exact sum_one_hot ⟨64 * 0 + i1.val % 64, by omega⟩ fun k => k0_pay12 (F := Ideal) c d (ix2 i0 k)
theorem spread_0' (c d : FVec Ideal S128x128 .f32) : k0_pay19 (F := Ideal) c d = spread 0 (by decide) (k0_pay13 (F := Ideal) c d) := by
  funext i; idx_vars i
  pointwise [k0_pay19, k0_pay17]
  simp (disch := omega) only [low0, one_hot]
  exact sum_one_hot ⟨64 * 0 + i1.val % 64, by omega⟩ fun k => k0_pay13 (F := Ideal) c d (ix2 i0 k)
theorem spread_1 : k0_pay63 (F := Ideal) (k0_pay61 (F := Ideal)) (k0_pay62 (F := Ideal) w) (constant S256x256 .f32 0x00000000#32) = spread 1 (by decide) w := by
  funext i; idx_vars i
  pointwise [k0_pay63, k0_pay61, k0_pay62]
  simp (disch := omega) only [low1, one_hot]
  exact sum_one_hot ⟨64 * 1 + i1.val % 64, by omega⟩ fun k => w (ix2 i0 k)
theorem spread_1' : k0_pay64 (F := Ideal) w (k0_pay61 (F := Ideal)) = spread 1 (by decide) w := by
  funext i; idx_vars i
  pointwise [k0_pay64, k0_pay61]
  simp (disch := omega) only [low1, one_hot]
  exact sum_one_hot ⟨64 * 1 + i1.val % 64, by omega⟩ fun k => w (ix2 i0 k)

theorem keep_0 : k0_pay28 (F := Ideal) p = keep p := by
  funext i; idx_vars i
  pointwise [k0_pay28, k0_pay27, keep]
  simp (disch := omega) only [pick]
theorem keep_2 : k0_pay45 (F := Ideal) p = keep p := by
  funext i; idx_vars i
  pointwise [k0_pay45, k0_pay43, keep]
  simp (disch := omega) only [pick]
theorem keep_0b : k0_pay70 (F := Ideal) (k0_pay68 (F := Ideal) p) = keep p := by
  funext i; idx_vars i
  pointwise [k0_pay70, k0_pay68, keep]
  simp (disch := omega) only [pick]
theorem keep_2b : k0_pay87 (F := Ideal) p = keep p := by
  funext i; idx_vars i
  pointwise [k0_pay87, k0_pay86, keep]
  simp (disch := omega) only [pick]

theorem rows_0 : k0_pay29 (F := Ideal) v x = rowsProd (stack 0 x) v := by
  funext i; idx_vars i
  pointwise [k0_pay29, rowsProd, stack_0']
theorem rows_2 : k0_pay46 (F := Ideal) v x = rowsProd (stack 2 x) v := by
  funext i; idx_vars i
  pointwise [k0_pay46, rowsProd, stack_2']
theorem rows_0b : k0_pay71 (F := Ideal) v u = rowsProd u v := by
  funext i; idx_vars i
  pointwise [k0_pay71, rowsProd]
theorem rows_2b : k0_pay88 (F := Ideal) v x (k0_pay82 (F := Ideal) x) k0_pay83 k0_pay84 = rowsProd (stack 2 x) v := by
  funext i; idx_vars i
  pointwise [k0_pay88, rowsProd, stack_2b']

theorem soft_0 : k0_pay31 (F := Ideal) v x p = soft (keep p) (rowsProd (stack 0 x) v) := by
  funext i; idx_vars i
  pointwise [k0_pay31, k0_pay30, soft, rowDot, keep_0, rows_0]
theorem soft_2 : k0_pay49 (F := Ideal) (k0_pay48 (F := Ideal) v x p) = soft (keep p) (rowsProd (stack 2 x) v) := by
  funext i; idx_vars i
  pointwise [k0_pay49, k0_pay48, k0_pay47, soft, rowDot, keep_2, rows_2]
theorem soft_0b : k0_pay73 (F := Ideal) v u (k0_pay68 (F := Ideal) p) = soft (keep p) (rowsProd u v) := by
  funext i; idx_vars i
  pointwise [k0_pay73, k0_pay72, soft, rowDot, keep_0b, rows_0b]
theorem soft_2b : k0_pay90 (F := Ideal) v x (k0_pay82 (F := Ideal) x) k0_pay83 k0_pay84 p = soft (keep p) (rowsProd (stack 2 x) v) := by
  funext i; idx_vars i
  pointwise [k0_pay90, k0_pay89, soft, rowDot, keep_2b, rows_2b]

theorem cols_0 : k0_pay36 (F := Ideal) u (k0_pay28 (F := Ideal) p) = colsProd (keep p) u := by
  funext i; idx_vars i
  pointwise [k0_pay36, colsProd, keep_0]
theorem cols_2 : k0_pay51 (F := Ideal) u (k0_pay45 (F := Ideal) p) = colsProd (keep p) u := by
  funext i; idx_vars i
  pointwise [k0_pay51, colsProd, keep_2]
theorem cols_0b : k0_pay75 (F := Ideal) u (k0_pay68 (F := Ideal) p) = colsProd (keep p) u := by
  funext i; idx_vars i
  pointwise [k0_pay75, colsProd, keep_0b]
theorem keys_0 : k0_pay37 (F := Ideal) y u = colsProd u y := by
  funext i; idx_vars i
  pointwise [k0_pay37, colsProd]
theorem keys_2 : k0_pay52 (F := Ideal) y u = colsProd (k0_pay49 (F := Ideal) u) y := by
  funext i; idx_vars i
  pointwise [k0_pay52, colsProd]
theorem keys_0b : k0_pay76 (F := Ideal) v y u (k0_pay68 (F := Ideal) p) = colsProd (soft (keep p) (rowsProd u v)) y := by
  funext i; idx_vars i
  pointwise [k0_pay76, colsProd, soft_0b]

theorem unstack_eq (o : ℕ) (i0 : Fin 128) (i1 : Fin 256) : unstack o y (ix2 i0 i1) =
    (if i1.val / 64 = o then y (ix2 ⟨i0.val, by omega⟩ i1) else 0) + (if i1.val / 64 = o + 1 then y (ix2 ⟨128 + i0.val, by omega⟩ i1) else 0) := rfl

theorem queries_0 : k0_pay38 (F := Ideal) v u = unstack 0 (prod u v) := by
  funext i; idx_vars i
  rw [unstack_eq]
  pointwise [k0_pay38, prod]
  simp (disch := omega) only [group, pick]
theorem queries_2 (a : FVec Ideal S128x256 .f32) : k0_pay58 (F := Ideal) a (k0_pay55 (F := Ideal) v u) (k0_pay56) (k0_pay57 (F := Ideal) v u) (Scalar.ofBits .f32 0x00000000#32)
    = fun i => a i + unstack 2 (prod (k0_pay49 (F := Ideal) u) v) i := by
  funext i; idx_vars i
  rw [unstack_eq]
  pointwise [k0_pay58, k0_pay55, k0_pay56, k0_pay57, k0_pay54, k0_pay53, prod]
  simp (disch := omega) only [group, pick]
theorem queries_0b : k0_pay79 (F := Ideal) (k0_pay77 (F := Ideal) v y u (k0_pay68 (F := Ideal) p)) k0_pay78 0#32 = unstack 0 (prod (soft (keep p) (rowsProd u y)) v) := by
  funext i; idx_vars i
  rw [unstack_eq]
  pointwise [k0_pay79, k0_pay78, k0_pay77, prod, soft_0b]
  simp (disch := omega) only [group, pick]
theorem queries_2b (a : FVec Ideal S128x256 .f32) : k0_pay93 (F := Ideal) v a u = fun i => a i + unstack 2 (prod u v) i := by
  funext i; idx_vars i
  rw [unstack_eq]
  pointwise [k0_pay93, prod]
  simp (disch := omega) only [group, pick]

theorem fold_eq (f : Fin 256 → EReal) (l : Fin 128) (h : l.val / 64 < 2) :
    f ⟨l.val, by omega⟩ + f ⟨128 + l.val, by omega⟩ + (f ⟨(l.val + 128 - 64) % 128, by omega⟩ + f ⟨128 + (l.val + 128 - 64) % 128, by omega⟩)
      = ∑ g : Fin 4, f ⟨64 * g.val + l.val % 64, by omega⟩ := by
  rw [Fin.sum_univ_four]
  rcases Nat.lt_or_ge l.val 64 with hl | hl
  · have e0 : (⟨l.val, by omega⟩ : Fin 256) = ⟨64 * 0 + l.val % 64, by omega⟩ := Fin.ext (by simp; omega)
    have e1 : (⟨(l.val + 128 - 64) % 128, by omega⟩ : Fin 256) = ⟨64 * 1 + l.val % 64, by omega⟩ := Fin.ext (by simp; omega)
    have e2 : (⟨128 + l.val, by omega⟩ : Fin 256) = ⟨64 * 2 + l.val % 64, by omega⟩ := Fin.ext (by simp; omega)
    have e3 : (⟨128 + (l.val + 128 - 64) % 128, by omega⟩ : Fin 256) = ⟨64 * 3 + l.val % 64, by omega⟩ := Fin.ext (by simp; omega)
    rw [e0, e1, e2, e3]; exact by ac_rfl
  · have e0 : (⟨l.val, by omega⟩ : Fin 256) = ⟨64 * 1 + l.val % 64, by omega⟩ := Fin.ext (by simp; omega)
    have e1 : (⟨(l.val + 128 - 64) % 128, by omega⟩ : Fin 256) = ⟨64 * 0 + l.val % 64, by omega⟩ := Fin.ext (by simp; omega)
    have e2 : (⟨128 + l.val, by omega⟩ : Fin 256) = ⟨64 * 3 + l.val % 64, by omega⟩ := Fin.ext (by simp; omega)
    have e3 : (⟨128 + (l.val + 128 - 64) % 128, by omega⟩ : Fin 256) = ⟨64 * 2 + l.val % 64, by omega⟩ := Fin.ext (by simp; omega)
    rw [e0, e1, e2, e3]; exact by ac_rfl
theorem folded (j : ℕ) (f : Fin 256 → EReal) (c : EReal) (l : Fin 128) :
    c + (if l.val / 64 = j then f ⟨l.val, by omega⟩ + f ⟨128 + l.val, by omega⟩
        + (f ⟨(l.val + 128 - 64) % 128, by omega⟩ + f ⟨128 + (l.val + 128 - 64) % 128, by omega⟩) else 0)
      = c + if l.val / 64 = j then ∑ g : Fin 4, f ⟨64 * g.val + l.val % 64, by omega⟩ else 0 := by
  rw [fold_eq f l (by omega)]

theorem window_0 : k0_pay59 (F := Ideal) w y v = fun i => w i + fold 0 (fun i => y i + v i) i := by
  funext i; idx_vars i
  pointwise [k0_pay59]
  simp (disch := omega) only [group128, pick]
  exact folded 0 (fun l => y (ix2 i0 l) + v (ix2 i0 l)) _ i1
theorem window_0' : k0_pay60 (F := Ideal) w y v = fun i => w i + fold 0 (fun i => y i + v i) i := by
  funext i; idx_vars i
  pointwise [k0_pay60]
  simp (disch := omega) only [group128, pick]
  exact folded 0 (fun l => y (ix2 i0 l) + v (ix2 i0 l)) _ i1
theorem window_1 : k0_pay94 (F := Ideal) w y u (k0_pay92 (F := Ideal) p) (constant S256x256 .f32 0x00000000#32) = fun i => w i + fold 1 (fun i => y i + colsProd (keep p) u i) i := by
  funext i; idx_vars i
  pointwise [k0_pay94, k0_pay92, keep_2b]
  simp (disch := omega) only [group128, pick]
  exact folded 1 (fun l => y (ix2 i0 l) + colsProd (keep p) u (ix2 i0 l)) _ i1
theorem window_1' : k0_pay96 (F := Ideal) w (k0_pay95 (F := Ideal) y v u) = fun i => w i + fold 1 (fun i => y i + colsProd u v i) i := by
  funext i; idx_vars i
  pointwise [k0_pay96, k0_pay95]
  simp (disch := omega) only [group128, pick]
  exact folded 1 (fun l => y (ix2 i0 l) + colsProd u v (ix2 i0 l)) _ i1

/-! ## The sink's gradient -/

theorem sink_0 (i1 : Fin 128) : k0_pay35 (F := Ideal) (iota .tc S1x128 32 [1] iota_S1x128_d1_w32) (k0_pay14 (F := Ideal)) (k0_pay32 (F := Ideal) v x p) (k0_pay33 (F := Ideal) v x p) k0_pay34 (ix2 0 i1)
    = 0 - lane 0 (sinkSum 0 (by decide) p (rowDot (keep p) (rowsProd (stack 0 x) v))) (ix2 0 i1)
        - lane 1 (sinkSum 128 (by decide) p (rowDot (keep p) (rowsProd (stack 0 x) v))) (ix2 0 i1) := by
  pointwise [k0_pay35, k0_pay14, k0_pay32, k0_pay33, k0_pay34, k0_pay30, k0_pay27, lane, sinkSum, rowDot, keep_0, rows_0]
  simp (disch := omega) only [pick, Nat.zero_add]
theorem sink_2 (c : FVec Ideal S1x128 .f32) (i1 : Fin 128) : k0_pay50 (F := Ideal) (iota .tc S1x128 32 [1] iota_S1x128_d1_w32) c (k0_pay44 (F := Ideal) p) (k0_pay47 (F := Ideal) v x p) (ix2 0 i1)
    = c (ix2 0 i1) - lane 2 (sinkSum 0 (by decide) p (rowDot (keep p) (rowsProd (stack 2 x) v))) (ix2 0 i1)
        - lane 3 (sinkSum 128 (by decide) p (rowDot (keep p) (rowsProd (stack 2 x) v))) (ix2 0 i1) := by
  pointwise [k0_pay50, k0_pay44, k0_pay47, k0_pay43, lane, sinkSum, rowDot, keep_2, rows_2]
  simp (disch := omega) only [pick, Nat.zero_add]
theorem sinkCol (r : Fin 256) : k0_pay69 (F := Ideal) p (ix2 r 0) = p (ix4 0 0 r 0) := by
  pointwise [k0_pay69, k0_pay68]
theorem sink_0b (c : FVec Ideal S1x128 .f32) (i1 : Fin 128) : k0_pay74 (F := Ideal) (iota .tc S1x128 32 [1] iota_S1x128_d1_w32) c v u (k0_pay68 (F := Ideal) p) (k0_pay69 (F := Ideal) p) (ix2 0 i1)
    = c (ix2 0 i1) - lane 4 (sinkSum 0 (by decide) p (rowDot (keep p) (rowsProd u v))) (ix2 0 i1)
        - lane 5 (sinkSum 128 (by decide) p (rowDot (keep p) (rowsProd u v))) (ix2 0 i1) := by
  pointwise [k0_pay74, sinkCol, k0_pay72, lane, sinkSum, rowDot, keep_0b, rows_0b]
  simp (disch := omega) only [pick, Nat.zero_add]
theorem sink_2b (c : FVec Ideal S1x128 .f32) (i1 : Fin 128) : k0_pay91 (F := Ideal) (iota .tc S1x128 32 [1] iota_S1x128_d1_w32) v x c (k0_pay82 (F := Ideal) x) k0_pay83 k0_pay84 p (ix2 0 i1)
    = c (ix2 0 i1) - lane 6 (sinkSum 0 (by decide) p (rowDot (keep p) (rowsProd (stack 2 x) v))) (ix2 0 i1)
        - lane 7 (sinkSum 128 (by decide) p (rowDot (keep p) (rowsProd (stack 2 x) v))) (ix2 0 i1) := by
  pointwise [k0_pay91, k0_pay86, k0_pay89, lane, sinkSum, rowDot, keep_2b, rows_2b]
  simp (disch := omega) only [pick, Nat.zero_add]

/-- A lane holding one head's sum. -/
theorem lanes (s : Fin 8 → EReal) (l : Fin 128) :
    0 - lane 0 (s 0) (ix2 0 l) - lane 1 (s 1) (ix2 0 l) - lane 2 (s 2) (ix2 0 l) - lane 3 (s 3) (ix2 0 l)
      - lane 4 (s 4) (ix2 0 l) - lane 5 (s 5) (ix2 0 l) - lane 6 (s 6) (ix2 0 l) - lane 7 (s 7) (ix2 0 l)
      = if h : l.val < 8 then - s ⟨l.val, h⟩ else 0 := by
  have hl : ∀ e (z : EReal), lane e z (ix2 0 l) = if l.val = e then z else 0 := fun _ _ => rfl
  simp only [hl]
  by_cases h : l.val < 8
  · rw [dif_pos h]
    obtain ⟨l, hlt⟩ := l
    simp only at h ⊢
    interval_cases l <;> simp
  · rw [dif_neg h]
    simp only [show l.val ≠ 0 by omega, show l.val ≠ 1 by omega, show l.val ≠ 2 by omega, show l.val ≠ 3 by omega,
      show l.val ≠ 4 by omega, show l.val ≠ 5 by omega, show l.val ≠ 6 by omega, show l.val ≠ 7 by omega, if_false, sub_zero]

/-! ## One key-value head of a tile -/

/-- The gradient of the scores of two heads. -/
def ds (o : ℕ) (x : FVec Ideal S128x256 .f32) (p : FVec Ideal S1x1x256x256 .f32) (v : Sq) : Sq := soft (keep p) (rowsProd (stack o x) v)
def dq (x : FVec Ideal S128x256 .f32) (p p' : FVec Ideal S1x1x256x256 .f32) (k v : Sq) : FVec Ideal S128x256 .f32 := fun i =>
  unstack 0 (prod (ds 0 x p v) k) i + unstack 2 (prod (ds 2 x p' v) k) i
def dk (j : ℕ) (q x : FVec Ideal S128x256 .f32) (p p' : FVec Ideal S1x1x256x256 .f32) (v : Sq) : FVec Ideal S256x128 .f32 :=
  fold j fun i => colsProd (ds 0 x p v) (stack 0 q) i + colsProd (ds 2 x p' v) (stack 2 q) i
def dv (j : ℕ) (x : FVec Ideal S128x256 .f32) (p p' : FVec Ideal S1x1x256x256 .f32) : FVec Ideal S256x128 .f32 :=
  fold j fun i => colsProd (keep p) (stack 0 x) i + colsProd (keep p') (stack 2 x) i
def sinkOf (x : FVec Ideal S128x256 .f32) (p p' : FVec Ideal S1x1x256x256 .f32) (v : Sq) (g : Fin 4) : EReal :=
  match g with
  | 0 => sinkSum 0 (by decide) p (rowDot (keep p) (rowsProd (stack 0 x) v))
  | 1 => sinkSum 128 (by decide) p (rowDot (keep p) (rowsProd (stack 0 x) v))
  | 2 => sinkSum 0 (by decide) p' (rowDot (keep p') (rowsProd (stack 2 x) v))
  | 3 => sinkSum 128 (by decide) p' (rowDot (keep p') (rowsProd (stack 2 x) v))

/-- A softmax row's gradient at a key, with factor `C`. -/
def softRow (P dP : Fin 256 → EReal) (k : Fin 256) : EReal := P k * (dP k - ∑ k, P k * dP k) * C

theorem softRow_congr {P dP P' dP' : Fin 256 → EReal} (h : ∀ k, P k = P' k) (hd : ∀ k, P' k = 0 ∨ dP k = dP' k) (k : Fin 256) :
    softRow P dP k = softRow P' dP' k := by
  have e : P = P' := funext h
  subst e
  have hs : ∑ k, P k * dP k = ∑ k, P k * dP' k := Finset.sum_congr rfl fun k _ => by
    rcases hd k with h0 | h1
    · rw [h0, zero_mul, zero_mul]
    · rw [h1]
  unfold softRow
  rcases hd k with h0 | h1
  · simp only [h0, zero_mul]
  · rw [h1, hs]

/-! Probability row of head `g`, query `q`, in the two stacks. -/
section Head
variable (p p' : FVec Ideal S1x1x256x256 .f32) (k : Sq) (o : ℕ)

theorem sum_lanes (f : Fin 256 → EReal) (c : ℕ) (hc : c < 4) :
    ∑ l : Fin 256, (if l.val / 64 = c then f l else 0) = ∑ d : Fin 64, f ⟨64 * c + d.val, by omega⟩ := by
  rw [Fin.sum_univ_tiles 4 64 rfl fun l => if l.val / 64 = c then f l else 0, Finset.sum_eq_single (⟨c, hc⟩ : Fin 4)]
  · refine Finset.sum_congr rfl fun d _ => ?_
    rw [if_pos (by simp; omega)]
    exact congrArg f (Fin.ext (by simp; omega))
  · intro b _ hb
    refine Finset.sum_eq_zero fun d _ => if_neg fun h => hb (Fin.ext ?_)
    simp at h ⊢; omega
  · intro h; exact absurd (Finset.mem_univ _) h

/-- A stacked row against a window: one head's lanes. -/
theorem rows_apply (o : ℕ) (x : FVec Ideal S128x256 .f32) (v : Sq) (r k : Fin 256) (ho : o ≤ 2) :
    rowsProd (stack o x) v (ix2 r k) =
      ∑ d : Fin 64, x (ix2 ⟨r.val % 128, by omega⟩ ⟨64 * (r.val / 128 + o) + d.val, by omega⟩) * v (ix2 k ⟨64 * (r.val / 128 + o) + d.val, by omega⟩) := by
  show ∑ l : Fin 256, (if l.val / 64 = r.val / 128 + o then x (ix2 ⟨r.val % 128, _⟩ l) else 0) * v (ix2 k l) = _
  rw [← sum_lanes (fun l => x (ix2 ⟨r.val % 128, by omega⟩ l) * v (ix2 k l)) (r.val / 128 + o) (by omega)]
  refine Finset.sum_congr rfl fun l _ => ?_
  split_ifs <;> simp

theorem sum_rows (f : Fin 256 → EReal) : ∑ r : Fin 256, f r = ∑ i : Fin 2, ∑ q : Fin 128, f ⟨i.val * 128 + q.val, by omega⟩ :=
  Fin.sum_univ_tiles 2 128 rfl f

/-- A column of the stack against a matrix of rows: the one head that has this lane. -/
theorem cols_apply (o : ℕ) (x : FVec Ideal S128x256 .f32) (y : Sq) (k l : Fin 256) :
    colsProd y (stack o x) (ix2 k l) = ∑ i : Fin 2, if l.val / 64 = i.val + o then
      ∑ q : Fin 128, y (ix2 ⟨i.val * 128 + q.val, by omega⟩ k) * x (ix2 q l) else 0 := by
  show ∑ r : Fin 256, y (ix2 r k) * stack o x (ix2 r l) = _
  rw [sum_rows]
  refine Finset.sum_congr rfl fun i _ => ?_
  have hs : ∀ q : Fin 128, stack o x (ix2 ⟨i.val * 128 + q.val, by omega⟩ l) = if l.val / 64 = i.val + o then x (ix2 q l) else 0 := fun q => by
    show (if l.val / 64 = (i.val * 128 + q.val) / 128 + o then x (ix2 ⟨(i.val * 128 + q.val) % 128, _⟩ l) else 0) = _
    have e1 : (i.val * 128 + q.val) / 128 = i.val := by omega
    have e2 : (⟨(i.val * 128 + q.val) % 128, by omega⟩ : Fin 128) = q := Fin.ext (by show (i.val * 128 + q.val) % 128 = q.val; omega)
    rw [e1, e2]
  simp only [hs]
  split_ifs
  · rfl
  · simp
end Head

/-! ## A tile's head at an index -/

/-- Half `j` of a query tile's lanes. -/
def half (j : Fin 2) (x : FVec Ideal S128x512 .f32) : FVec Ideal S128x256 .f32 := fun i => x (ix2 (i 0) ⟨256 * j.val + (i 1).val, by have h : (i 1).val < 256 := (i 1).isLt; omega⟩)
/-- The saved rows of one stack. -/
def part (j b : Fin 2) (p : FVec Ideal S1x2x512x256 .f32) : FVec Ideal S1x1x256x256 .f32 := fun i =>
  p (ix4 0 j ⟨256 * b.val + (i 2).val, by have h : (i 2).val < 256 := (i 2).isLt; omega⟩ (i 3))

variable (pr : FVec Ideal S1x2x512x256 .f32) (D Q : FVec Ideal S128x512 .f32) (kw vw : FVec Ideal S256x128 .f32)

def prob (j : Fin 2) (g : Fin 4) (q : Fin 128) (k : Fin 256) : EReal := if k.val = 0 then 0 else pr (ix4 0 j ⟨128 * g.val + q.val, by omega⟩ k)
def dprob (j : Fin 2) (g : Fin 4) (q : Fin 128) (k : Fin 256) : EReal :=
  ∑ d : Fin 64, D (ix2 q ⟨256 * j.val + 64 * g.val + d.val, by omega⟩) * vw (ix2 k ⟨64 * j.val + d.val, by omega⟩)

theorem keep_apply (j b i : Fin 2) (g : Fin 4) (hg : g.val = i.val + 2 * b.val) (q : Fin 128) (k : Fin 256) :
    keep (part j b pr) (ix2 ⟨i.val * 128 + q.val, by omega⟩ k) = prob pr j g q k := by
  have e : (⟨256 * b.val + (i.val * 128 + q.val), by omega⟩ : Fin 512) = ⟨128 * g.val + q.val, by omega⟩ := Fin.ext (by show 256 * b.val + (i.val * 128 + q.val) = 128 * g.val + q.val; omega)
  show (if k.val = 0 then (0 : EReal) else pr (ix4 0 j ⟨256 * b.val + (i.val * 128 + q.val), _⟩ k)) = _
  rw [e]; rfl

theorem rows_head (j b i : Fin 2) (g : Fin 4) (hg : g.val = i.val + 2 * b.val) (q : Fin 128) (k : Fin 256) :
    rowsProd (stack (2 * b.val) (half j D)) (spread j.val j.isLt vw) (ix2 ⟨i.val * 128 + q.val, by omega⟩ k) = dprob D vw j g q k := by
  rw [rows_apply _ _ _ _ _ (by omega)]
  refine Finset.sum_congr rfl fun d _ => ?_
  show D (ix2 _ ⟨256 * j.val + (64 * ((i.val * 128 + q.val) / 128 + 2 * b.val) + d.val), _⟩) * vw (ix2 k ⟨64 * j.val + (64 * ((i.val * 128 + q.val) / 128 + 2 * b.val) + d.val) % 64, _⟩) = _
  have e0 : (⟨(i.val * 128 + q.val) % 128, by omega⟩ : Fin 128) = q := Fin.ext (by show (i.val * 128 + q.val) % 128 = q.val; omega)
  have e1 : (⟨256 * j.val + (64 * ((i.val * 128 + q.val) / 128 + 2 * b.val) + d.val), by omega⟩ : Fin 512) = ⟨256 * j.val + 64 * g.val + d.val, by omega⟩ :=
    Fin.ext (by show 256 * j.val + (64 * ((i.val * 128 + q.val) / 128 + 2 * b.val) + d.val) = 256 * j.val + 64 * g.val + d.val; omega)
  have e2 : (⟨64 * j.val + (64 * ((i.val * 128 + q.val) / 128 + 2 * b.val) + d.val) % 64, by omega⟩ : Fin 128) = ⟨64 * j.val + d.val, by omega⟩ :=
    Fin.ext (by show 64 * j.val + (64 * ((i.val * 128 + q.val) / 128 + 2 * b.val) + d.val) % 64 = 64 * j.val + d.val; omega)
  rw [e0, e1, e2]; rfl

theorem ds_apply (j b i : Fin 2) (g : Fin 4) (hg : g.val = i.val + 2 * b.val) (q : Fin 128) (k : Fin 256) :
    ds (2 * b.val) (half j D) (part j b pr) (spread j.val j.isLt vw) (ix2 ⟨i.val * 128 + q.val, by omega⟩ k)
      = softRow (prob pr j g q) (dprob D vw j g q) k := by
  show keep (part j b pr) (ix2 ⟨i.val * 128 + q.val, by omega⟩ k) * (rowsProd (stack (2 * b.val) (half j D)) (spread j.val j.isLt vw) (ix2 ⟨i.val * 128 + q.val, by omega⟩ k)
    - ∑ k : Fin 256, keep (part j b pr) (ix2 ⟨i.val * 128 + q.val, by omega⟩ k) * rowsProd (stack (2 * b.val) (half j D)) (spread j.val j.isLt vw) (ix2 ⟨i.val * 128 + q.val, by omega⟩ k)) * C = _
  simp only [keep_apply pr j b i g hg, rows_head D vw j b i g hg]
  rfl

theorem unstack_apply (b i : Fin 2) (y : Sq) (q : Fin 128) (l : Fin 256) :
    unstack (2 * b.val) y (ix2 q l) = if l.val / 64 / 2 = b.val then y (ix2 ⟨l.val / 64 % 2 * 128 + q.val, by omega⟩ l) else 0 := by
  rw [unstack_eq]
  by_cases h0 : l.val / 64 = 2 * b.val
  · rw [if_pos h0, if_neg (by omega), if_pos (by omega), add_zero]
    exact congrArg (fun r => y (ix2 r l)) (Fin.ext (by show q.val = l.val / 64 % 2 * 128 + q.val; omega))
  · rw [if_neg h0, zero_add]
    by_cases h1 : l.val / 64 = 2 * b.val + 1
    · rw [if_pos h1, if_pos (by omega)]
      exact congrArg (fun r => y (ix2 r l)) (Fin.ext (by show 128 + q.val = l.val / 64 % 2 * 128 + q.val; omega))
    · rw [if_neg h1, if_neg (by omega)]

theorem dq_apply (j : Fin 2) (q : Fin 128) (l : Fin 256) :
    dq (half j D) (part j 0 pr) (part j 1 pr) (spread j.val j.isLt kw) (spread j.val j.isLt vw) (ix2 q l)
      = ∑ k : Fin 256, softRow (prob pr j ⟨l.val / 64, by omega⟩ q) (dprob D vw j ⟨l.val / 64, by omega⟩ q) k * kw (ix2 k ⟨64 * j.val + l.val % 64, by omega⟩) := by
  show unstack (2 * (0 : Fin 2).val) (prod (ds (2 * (0 : Fin 2).val) (half j D) (part j 0 pr) (spread j.val j.isLt vw)) (spread j.val j.isLt kw)) (ix2 q l)
    + unstack (2 * (1 : Fin 2).val) (prod (ds (2 * (1 : Fin 2).val) (half j D) (part j 1 pr) (spread j.val j.isLt vw)) (spread j.val j.isLt kw)) (ix2 q l) = _
  rw [unstack_apply 0 0, unstack_apply 1 0]
  have key : ∀ b : Fin 2, l.val / 64 / 2 = b.val → prod (ds (2 * b.val) (half j D) (part j b pr) (spread j.val j.isLt vw)) (spread j.val j.isLt kw) (ix2 ⟨l.val / 64 % 2 * 128 + q.val, by omega⟩ l)
      = ∑ k : Fin 256, softRow (prob pr j ⟨l.val / 64, by omega⟩ q) (dprob D vw j ⟨l.val / 64, by omega⟩ q) k * kw (ix2 k ⟨64 * j.val + l.val % 64, by omega⟩) := fun b hb =>
    Finset.sum_congr rfl fun k _ => by
      have h := ds_apply pr D vw j b ⟨l.val / 64 % 2, by omega⟩ ⟨l.val / 64, by omega⟩ (by show l.val / 64 = l.val / 64 % 2 + 2 * b.val; omega) q k
      rw [← h]; rfl
  by_cases h : l.val / 64 / 2 = (0 : Fin 2).val
  · rw [if_pos h, if_neg (by simp at h ⊢; omega), add_zero, key 0 h]
  · rw [if_neg h, if_pos (by simp at h ⊢; omega), zero_add, key 1 (by simp at h ⊢; omega)]

/-- A sum over the four heads by the two stacks. -/
theorem four (f : Fin 4 → EReal) : ∑ g, f g = (∑ i : Fin 2, f ⟨i.val, by omega⟩) + ∑ i : Fin 2, f ⟨i.val + 2, by omega⟩ := by
  rw [Fin.sum_univ_four, Fin.sum_univ_two, Fin.sum_univ_two]
  exact (by ac_rfl : f 0 + f 1 + f 2 + f 3 = (f 0 + f 1) + (f 2 + f 3))

/-- Two stacks' columns, folded: the sum over the four heads. -/
theorem fold_apply (j : Fin 2) (X : FVec Ideal S128x512 .f32) (y y' : Sq) (Y : Fin 4 → Fin 128 → Fin 256 → EReal)
    (hy : ∀ (i : Fin 2) q k, y (ix2 ⟨i.val * 128 + q.val, by omega⟩ k) = Y ⟨i.val, by omega⟩ q k)
    (hy' : ∀ (i : Fin 2) q k, y' (ix2 ⟨i.val * 128 + q.val, by omega⟩ k) = Y ⟨i.val + 2, by omega⟩ q k) (k : Fin 256) (l : Fin 128) :
    fold j.val (fun i => colsProd y (stack 0 (half j X)) i + colsProd y' (stack 2 (half j X)) i) (ix2 k l)
      = if l.val / 64 = j.val then ∑ g : Fin 4, ∑ q : Fin 128, Y g q k * X (ix2 q ⟨256 * j.val + 64 * g.val + l.val % 64, by omega⟩) else 0 := by
  show (if l.val / 64 = j.val then ∑ g : Fin 4, (colsProd y (stack 0 (half j X)) (ix2 k ⟨64 * g.val + l.val % 64, _⟩) + colsProd y' (stack 2 (half j X)) (ix2 k ⟨64 * g.val + l.val % 64, _⟩)) else 0) = _
  split_ifs with h
  · refine Finset.sum_congr rfl fun g _ => ?_
    rw [cols_apply, cols_apply]
    have hd : (64 * g.val + l.val % 64) / 64 = g.val := by omega
    have hx : ∀ q : Fin 128, half j X (ix2 q ⟨64 * g.val + l.val % 64, by omega⟩) = X (ix2 q ⟨256 * j.val + 64 * g.val + l.val % 64, by omega⟩) := fun q =>
      congrArg (fun z => X (ix2 q z)) (Fin.ext (by show 256 * j.val + (64 * g.val + l.val % 64) = 256 * j.val + 64 * g.val + l.val % 64; omega))
    simp only [hd, hy, hy', hx, Fin.sum_univ_two]
    obtain ⟨g, hg⟩ := g
    interval_cases g <;> simp
  · rfl

theorem dk_apply (j : Fin 2) (k : Fin 256) (l : Fin 128) :
    dk j.val (half j Q) (half j D) (part j 0 pr) (part j 1 pr) (spread j.val j.isLt vw) (ix2 k l)
      = if l.val / 64 = j.val then ∑ g : Fin 4, ∑ q : Fin 128, softRow (prob pr j g q) (dprob D vw j g q) k * Q (ix2 q ⟨256 * j.val + 64 * g.val + l.val % 64, by omega⟩) else 0 :=
  fold_apply j Q _ _ (fun g q k => softRow (prob pr j g q) (dprob D vw j g q) k)
    (fun i q k => ds_apply pr D vw j 0 i _ (by simp) q k) (fun i q k => ds_apply pr D vw j 1 i _ (by simp) q k) k l
theorem dv_apply (j : Fin 2) (k : Fin 256) (l : Fin 128) :
    dv j.val (half j D) (part j 0 pr) (part j 1 pr) (ix2 k l)
      = if l.val / 64 = j.val then ∑ g : Fin 4, ∑ q : Fin 128, prob pr j g q k * D (ix2 q ⟨256 * j.val + 64 * g.val + l.val % 64, by omega⟩) else 0 :=
  fold_apply j D _ _ (fun g q k => prob pr j g q k)
    (fun i q k => keep_apply pr j 0 i _ (by simp) q k) (fun i q k => keep_apply pr j 1 i _ (by simp) q k) k l

theorem sink_apply (j b i : Fin 2) (g : Fin 4) (hg : g.val = i.val + 2 * b.val) :
    sinkSum (i.val * 128) (by omega) (part j b pr) (rowDot (keep (part j b pr)) (rowsProd (stack (2 * b.val) (half j D)) (spread j.val j.isLt vw)))
      = ∑ q : Fin 128, pr (ix4 0 j ⟨128 * g.val + q.val, by omega⟩ 0) * ∑ k : Fin 256, prob pr j g q k * dprob D vw j g q k := by
  refine Finset.sum_congr rfl fun q _ => ?_
  have e : (⟨256 * b.val + (i.val * 128 + q.val), by omega⟩ : Fin 512) = ⟨128 * g.val + q.val, by omega⟩ := Fin.ext (by show 256 * b.val + (i.val * 128 + q.val) = 128 * g.val + q.val; omega)
  show pr (ix4 0 j ⟨256 * b.val + (i.val * 128 + q.val), _⟩ 0) * ∑ k : Fin 256, keep (part j b pr) (ix2 ⟨i.val * 128 + q.val, _⟩ k) * rowsProd (stack (2 * b.val) (half j D)) (spread j.val j.isLt vw) (ix2 ⟨i.val * 128 + q.val, _⟩ k) = _
  rw [e]
  simp only [keep_apply pr j b i g hg, rows_head D vw j b i g hg]

end Cert.AttnBwdIdeal.Tile

end
-- ==== Proof.AttnPoint.lean ====
/- What the attention gradient leaves at each point, as sums over heads, queries and keys. -/
module
public import proofs.«01_k».proof.Proof.AttnFrame
public import proofs.«01_k».proof.Proof.AttnTile
public import Idealize.ShloMosaic.Lib.WritesUnit
public import Idealize.ShloMosaic.Lib.Pipeline.ValueKit.Acc
@[expose] public section
set_option maxRecDepth 16384
noncomputable section
namespace Cert.AttnBwdIdeal.Attn
open Idealize.ShloMosaic Idealize.ShloMosaic.TcCoe Idealize.SL.Sem
open Cert.AttnBwdIdeal.Gen Cert.AttnBwdIdeal.Tile
open scoped BigOperators
open Cert.Reals

/-! ## Reading the blocks -/

section Loads
variable (X : S128x512.Idx → Elt Ideal .f32) (Y : S1x2x512x256.Idx → Elt Ideal .f32)
theorem load_half_0 (inb) : View.ld (Val := Elt Ideal) (e' := .f32) X (Rect.unit ![0, 0] ![128, 256] inb) = half 0 X := by
  funext i; idx_vars i
  pointwise [half]
theorem load_half_1 (inb) : View.ld (Val := Elt Ideal) (e' := .f32) X (Rect.unit ![0, 256] ![128, 256] inb) = half 1 X := by
  funext i; idx_vars i
  pointwise [half]
theorem load_part_00 (inb) : View.ld (Val := Elt Ideal) (e' := .f32) Y (Rect.unit ![0, 0, 0, 0] ![1, 1, 256, 256] inb) = part 0 0 Y := by
  funext i; idx_vars i
  pointwise [part]
theorem load_part_01 (inb) : View.ld (Val := Elt Ideal) (e' := .f32) Y (Rect.unit ![0, 0, 256, 0] ![1, 1, 256, 256] inb) = part 0 1 Y := by
  funext i; idx_vars i
  pointwise [part]
theorem load_part_10 (inb) : View.ld (Val := Elt Ideal) (e' := .f32) Y (Rect.unit ![0, 1, 0, 0] ![1, 1, 256, 256] inb) = part 1 0 Y := by
  funext i; idx_vars i
  pointwise [part]
theorem load_part_11 (inb) : View.ld (Val := Elt Ideal) (e' := .f32) Y (Rect.unit ![0, 1, 256, 0] ![1, 1, 256, 256] inb) = part 1 1 Y := by
  funext i; idx_vars i
  pointwise [part]
end Loads

theorem turn_0 (z : FVec Ideal S128x512 .f32) : k0_pay20 (F := Ideal) z = half 0 z := by
  funext i; idx_vars i
  pointwise [k0_pay20, half]
theorem turn_1 (z : FVec Ideal S128x512 .f32) : k0_pay65 (F := Ideal) z = half 1 z := by
  funext i; idx_vars i
  pointwise [k0_pay65, half]

/-! ## A point's tile gradients -/

section Tiles
variable (D Q : FVec Ideal S128x512 .f32) (pr : FVec Ideal S1x2x512x256 .f32) (kw vw : FVec Ideal S256x128 .f32)

/-- A head's softmax gradient row. -/
def dsRow (j : Fin 2) (g : Fin 4) (q : Fin 128) (k : Fin 256) : EReal := softRow (prob pr j g q) (dprob D vw j g q) k
def dqAt (q : Fin 128) (l : Fin 512) : EReal :=
  ∑ k : Fin 256, dsRow D pr vw ⟨l.val / 256, by omega⟩ ⟨l.val / 64 % 4, by omega⟩ q k * kw (ix2 k ⟨64 * (l.val / 256) + l.val % 64, by omega⟩)
def dkAt (k : Fin 256) (l : Fin 128) : EReal :=
  ∑ g : Fin 4, ∑ q : Fin 128, dsRow D pr vw ⟨l.val / 64, by omega⟩ g q k * Q (ix2 q ⟨256 * (l.val / 64) + 64 * g.val + l.val % 64, by omega⟩)
def dvAt (k : Fin 256) (l : Fin 128) : EReal :=
  ∑ g : Fin 4, ∑ q : Fin 128, prob pr ⟨l.val / 64, by omega⟩ g q k * D (ix2 q ⟨256 * (l.val / 64) + 64 * g.val + l.val % 64, by omega⟩)
def sinkAt (j : Fin 2) (g : Fin 4) : EReal :=
  ∑ q : Fin 128, pr (ix4 0 j ⟨128 * g.val + q.val, by omega⟩ 0) * ∑ k : Fin 256, prob pr j g q k * dprob D vw j g q k

/-- The two halves of the lanes side by side. -/
theorem queries_tile (q : Fin 128) (l : Fin 512) :
    k0_pay97 (F := Ideal) (dq (half 0 D) (part 0 0 pr) (part 0 1 pr) (spread 0 (by decide) kw) (spread 0 (by decide) vw))
      (dq (half 1 D) (part 1 0 pr) (part 1 1 pr) (spread 1 (by decide) kw) (spread 1 (by decide) vw)) (ix2 q l) = dqAt D pr kw vw q l := by
  pointwise [k0_pay97]
  split_ifs with h h'
  · refine (dq_apply pr D kw vw 0 q ⟨l.val, h⟩).trans ?_
    have e0 : (⟨l.val / 256, by omega⟩ : Fin 2) = 0 := Fin.ext (by show l.val / 256 = 0; omega)
    have e1 : (⟨l.val / 64 % 4, by omega⟩ : Fin 4) = ⟨l.val / 64, by omega⟩ := Fin.ext (by show l.val / 64 % 4 = l.val / 64; omega)
    show _ = ∑ k : Fin 256, dsRow D pr vw ⟨l.val / 256, _⟩ ⟨l.val / 64 % 4, _⟩ q k * kw (ix2 k ⟨64 * (l.val / 256) + l.val % 64, _⟩)
    rw [e0, e1]
    exact Finset.sum_congr rfl fun k _ => congrArg (fun z => _ * kw (ix2 k z)) (Fin.ext (by show 64 * 0 + l.val % 64 = 64 * (l.val / 256) + l.val % 64; omega))
  · refine (dq_apply pr D kw vw 1 q ⟨l.val - 256, by omega⟩).trans ?_
    have e0 : (⟨l.val / 256, by omega⟩ : Fin 2) = 1 := Fin.ext (by show l.val / 256 = 1; omega)
    have e1 : (⟨l.val / 64 % 4, by omega⟩ : Fin 4) = ⟨(l.val - 256) / 64, by omega⟩ := Fin.ext (by show l.val / 64 % 4 = (l.val - 256) / 64; omega)
    show _ = ∑ k : Fin 256, dsRow D pr vw ⟨l.val / 256, _⟩ ⟨l.val / 64 % 4, _⟩ q k * kw (ix2 k ⟨64 * (l.val / 256) + l.val % 64, _⟩)
    rw [e0, e1]
    exact Finset.sum_congr rfl fun k _ => congrArg (fun z => _ * kw (ix2 k z)) (Fin.ext (by show 64 * 1 + (l.val - 256) % 64 = 64 * (l.val / 256) + l.val % 64; omega))
  · exact absurd rfl h'

/-- Both key heads' lanes, from zero. -/
theorem two_heads (f : Fin 2 → EReal) (l : Fin 128) :
    (0 : EReal) + (if l.val / 64 = (0 : Fin 2).val then f 0 else 0) + (if l.val / 64 = (1 : Fin 2).val then f 1 else 0) = f ⟨l.val / 64, by omega⟩ := by
  have e : ((0 : Fin 2) : ℕ) = 0 ∧ ((1 : Fin 2) : ℕ) = 1 := ⟨rfl, rfl⟩
  rw [e.1, e.2]
  rcases (by omega : l.val / 64 = 0 ∨ l.val / 64 = 1) with h | h
  · rw [if_pos h, if_neg (by omega), zero_add, add_zero]; exact congrArg f (Fin.ext h.symm)
  · rw [if_neg (by omega), if_pos h, zero_add, zero_add]; exact congrArg f (Fin.ext h.symm)

theorem keys_tile (k : Fin 256) (l : Fin 128) :
    (0 : EReal) + dk 0 (half 0 Q) (half 0 D) (part 0 0 pr) (part 0 1 pr) (spread 0 (by decide) vw) (ix2 k l)
      + dk 1 (half 1 Q) (half 1 D) (part 1 0 pr) (part 1 1 pr) (spread 1 (by decide) vw) (ix2 k l) = dkAt D Q pr vw k l := by
  refine (congrArg₂ (fun a b => (0 : EReal) + a + b) (dk_apply pr D Q vw 0 k l) (dk_apply pr D Q vw 1 k l)).trans ?_
  exact two_heads (fun j => ∑ g : Fin 4, ∑ q : Fin 128, softRow (prob pr j g q) (dprob D vw j g q) k * Q (ix2 q ⟨256 * j.val + 64 * g.val + l.val % 64, by omega⟩)) l
theorem values_tile (k : Fin 256) (l : Fin 128) :
    (0 : EReal) + dv 0 (half 0 D) (part 0 0 pr) (part 0 1 pr) (ix2 k l)
      + dv 1 (half 1 D) (part 1 0 pr) (part 1 1 pr) (ix2 k l) = dvAt D pr k l := by
  refine (congrArg₂ (fun a b => (0 : EReal) + a + b) (dv_apply pr D 0 k l) (dv_apply pr D 1 k l)).trans ?_
  exact two_heads (fun j => ∑ g : Fin 4, ∑ q : Fin 128, prob pr j g q k * D (ix2 q ⟨256 * j.val + 64 * g.val + l.val % 64, by omega⟩)) l
end Tiles

/-! ## Adding a tile into the rows of an accumulator -/

theorem roll {sig : RefSig} {κ : Kind} {sp : Space} (v : View sig κ sp S2048x128 .f32) (f : v.ty.Contents (Elt Ideal)) (L) (o : Fin 2 → ℕ) (n : ℕ)
    (ho : o = ![128 * n, 0]) (inb : ∀ a : Fin 2, o a + S128x128.size a ≤ S2048x128.size a) (w A : FVec Ideal S128x128 .f32)
    (hw : ∀ x, w x = View.ld (Val := Elt Ideal) (e' := .f32) (v.read (Elt Ideal) (v.writes (Elt Ideal) f L)) (Rect.unit (s := S2048x128) o S128x128.size inb) x + A x)
    (r : Fin 2048) (l : Fin 128) :
    v.read (Elt Ideal) (v.writes (Elt Ideal) f (⟨Rect.unit (s := S2048x128) o S128x128.size inb, w⟩ :: L)) (ix2 r l)
      = v.read (Elt Ideal) (v.writes (Elt Ideal) f L) (ix2 r l) + if r.val / 128 = n then A (ix2 ⟨r.val % 128, by omega⟩ l) else 0 := by
  split_ifs with h
  · rw [View.read_writes_cons_rows_of_mem v f inb w L (ix2 r l) (ix2 ⟨r.val % 128, by omega⟩ l) ho (by show r.val = 128 * n + r.val % 128; omega) rfl, hw]
    refine congrArg (· + A (ix2 ⟨r.val % 128, by omega⟩ l)) (congrArg (v.read (Elt Ideal) (v.writes (Elt Ideal) f L)) ?_)
    subst ho
    funext a; refine Fin.ext ?_
    fin_cases a
    · show 128 * n + 1 * (r.val % 128) = r.val; omega
    · show 0 + 1 * l.val = l.val; omega
  · rw [View.read_writes_cons_rows_of_not_mem v f inb w L (ix2 r l) ho rfl (by show r.val < 128 * n ∨ 128 * n + 128 ≤ r.val; omega), add_zero]

section Sums
variable (D O : FVec Ideal S128x512 .f32) (pr : FVec Ideal S1x2x512x256 .f32) (vw : FVec Ideal S256x128 .f32)
/-- What a point adds to the sinks' gradient, lane by lane. -/
def sinkTile (l : Fin 128) : EReal := if h : l.val < 8 then -(sinkAt D pr vw ⟨l.val / 4, by omega⟩ ⟨l.val % 4, by omega⟩) else 0
/-- What a point adds to the scale's gradient. -/
def scaleTile (l : Fin 512) : EReal := ∑ r : Fin 128, D (ix2 r l) * (O (ix2 r l) * Ideal.rsqrt (var W E (fun k => O (ix2 r k))))

theorem add_12 (x y : FVec Ideal S1x128 .f32) (l : Fin 128) : k0_pay98 (F := Ideal) x y (ix2 0 l) = y (ix2 0 l) + x (ix2 0 l) := by
  pointwise [k0_pay98]
theorem start_12 (l : Fin 128) : k0_pay5 (F := Ideal) (ix2 0 l) = 0 := by
  pointwise [k0_pay5]
theorem scale_tile (l : Fin 512) : k0_pay10 (F := Ideal) O D (ix2 0 l) = scaleTile D O l := by
  pointwise [k0_pay10, k0_pay8, k0_pay7, k0_pay6, scaleTile, var, W, E]
theorem add_13 (x : FVec Ideal S1x512 .f32) (l : Fin 512) : k0_pay11 (F := Ideal) O D x (ix2 0 l) = x (ix2 0 l) + scaleTile D O l := by
  pointwise [k0_pay11, scale_tile]

theorem sink_tile (l : Fin 128) (x : FVec Ideal S1x128 .f32)
    (hx : x (ix2 0 l) = 0 - lane 0 (sinkSum 0 (by decide) (part 0 0 pr) (rowDot (keep (part 0 0 pr)) (rowsProd (stack 0 (half 0 D)) (spread 0 (by decide) vw)))) (ix2 0 l)
      - lane 1 (sinkSum 128 (by decide) (part 0 0 pr) (rowDot (keep (part 0 0 pr)) (rowsProd (stack 0 (half 0 D)) (spread 0 (by decide) vw)))) (ix2 0 l)
      - lane 2 (sinkSum 0 (by decide) (part 0 1 pr) (rowDot (keep (part 0 1 pr)) (rowsProd (stack 2 (half 0 D)) (spread 0 (by decide) vw)))) (ix2 0 l)
      - lane 3 (sinkSum 128 (by decide) (part 0 1 pr) (rowDot (keep (part 0 1 pr)) (rowsProd (stack 2 (half 0 D)) (spread 0 (by decide) vw)))) (ix2 0 l)
      - lane 4 (sinkSum 0 (by decide) (part 1 0 pr) (rowDot (keep (part 1 0 pr)) (rowsProd (stack 0 (half 1 D)) (spread 1 (by decide) vw)))) (ix2 0 l)
      - lane 5 (sinkSum 128 (by decide) (part 1 0 pr) (rowDot (keep (part 1 0 pr)) (rowsProd (stack 0 (half 1 D)) (spread 1 (by decide) vw)))) (ix2 0 l)
      - lane 6 (sinkSum 0 (by decide) (part 1 1 pr) (rowDot (keep (part 1 1 pr)) (rowsProd (stack 2 (half 1 D)) (spread 1 (by decide) vw)))) (ix2 0 l)
      - lane 7 (sinkSum 128 (by decide) (part 1 1 pr) (rowDot (keep (part 1 1 pr)) (rowsProd (stack 2 (half 1 D)) (spread 1 (by decide) vw)))) (ix2 0 l)) :
    x (ix2 0 l) = sinkTile D pr vw l := by
  rw [hx]
  have h := lanes (fun s => sinkAt D pr vw ⟨s.val / 4, by omega⟩ ⟨s.val % 4, by omega⟩) l
  refine Eq.trans ?_ h
  have e : ∀ j b i : Fin 2, ∀ g : Fin 4, g.val = i.val + 2 * b.val → sinkSum (i.val * 128) (by omega) (part j b pr)
      (rowDot (keep (part j b pr)) (rowsProd (stack (2 * b.val) (half j D)) (spread j.val j.isLt vw))) = sinkAt D pr vw j g :=
    fun j b i g hg => sink_apply pr D vw j b i g hg
  refine congrArg₂ (· - ·) (congrArg₂ (· - ·) (congrArg₂ (· - ·) (congrArg₂ (· - ·) (congrArg₂ (· - ·) (congrArg₂ (· - ·) (congrArg₂ (· - ·) (congrArg₂ (· - ·) rfl ?_) ?_) ?_) ?_) ?_) ?_) ?_) ?_
  · exact congrArg (fun z => lane 0 z (ix2 0 l)) (e 0 0 0 0 rfl)
  · exact congrArg (fun z => lane 1 z (ix2 0 l)) (e 0 0 1 1 rfl)
  · exact congrArg (fun z => lane 2 z (ix2 0 l)) (e 0 1 0 2 rfl)
  · exact congrArg (fun z => lane 3 z (ix2 0 l)) (e 0 1 1 3 rfl)
  · exact congrArg (fun z => lane 4 z (ix2 0 l)) (e 1 0 0 0 rfl)
  · exact congrArg (fun z => lane 5 z (ix2 0 l)) (e 1 0 1 1 rfl)
  · exact congrArg (fun z => lane 6 z (ix2 0 l)) (e 1 1 0 2 rfl)
  · exact congrArg (fun z => lane 7 z (ix2 0 l)) (e 1 1 1 3 rfl)
end Sums
variable (m : (ℓ : Loc nD τ sig) → Buf (Elt Ideal) ℓ) (c : Dev nD) (t : Fin cfg0.N)

/-- The cotangent of the attention's result at a point: through the norm. -/
def cot : FVec Ideal S128x512 .f32 := k0_pay9 (F := Ideal) (iblk m c 5 t) (iblk m c 8 t) (iblk m c 6 t)
def kwin : FVec Ideal S256x128 .f32 := k0_pay12 (F := Ideal) (iblk m c 1 t) (iblk m c 2 t)
def vwin : FVec Ideal S256x128 .f32 := k0_pay13 (F := Ideal) (iblk m c 3 t) (iblk m c 4 t)
def saved : FVec Ideal S1x2x512x256 .f32 := iblk m c 7 t

/-! ## What each point leaves -/

theorem own_rows : ∀ t : Fin cfg0.N, k0_off2 (grid0.coords t) = ![128 * t.val, 0] := (by decide +kernel : ∀ t : Fin grid0.N, _)
theorem prev_rows : ∀ t : Fin cfg0.N, k0_off1 (grid0.coords t) = ![128 * (t.val - 1), 0] := (by decide +kernel : ∀ t : Fin grid0.N, _)

/-- The accumulators' step: the window's first half to the block before, its second half to the point's own. -/
def step (n : ℕ) (W : Fin 256 → Fin 128 → EReal) (a : EReal) (r : Fin 2048) (l : Fin 128) : EReal :=
  a + (if r.val / 128 = n - 1 then W ⟨r.val % 128, by omega⟩ l else 0) + (if r.val / 128 = n then W ⟨128 + r.val % 128, by omega⟩ l else 0)

def dkw (m : (ℓ : Loc nD τ sig) → Buf (Elt Ideal) ℓ) (c : Dev nD) (t : Fin cfg0.N) := dkAt (cot m c t) (iblk m c 0 t) (saved m c t) (vwin m c t)
def dvw (m : (ℓ : Loc nD τ sig) → Buf (Elt Ideal) ℓ) (c : Dev nD) (t : Fin cfg0.N) := dvAt (cot m c t) (saved m c t)

theorem clear_10 (i : S2048x128.Idx) : k0_pay3 (F := Ideal) i = 0 := by
  idx_vars i
  pointwise [k0_pay3]
theorem clear_11 (i : S2048x128.Idx) : k0_pay4 (F := Ideal) i = 0 := by
  idx_vars i
  pointwise [k0_pay4]
theorem start_10 (i : S256x128.Idx) : k0_pay15 (F := Ideal) i = 0 := by
  idx_vars i
  pointwise [k0_pay15]
theorem start_11 (i : S256x128.Idx) : k0_pay16 (F := Ideal) i = 0 := by
  idx_vars i
  pointwise [k0_pay16]

section Adds
variable (v w : FVec Ideal S256x128 .f32) (x : FVec Ideal S128x128 .f32) (a : Fin 128) (b : Fin 128)
theorem add_prev_10 : k0_pay99 (F := Ideal) v w x (ix2 a b) = x (ix2 a b) + k0_pay96 (F := Ideal) v w (ix2 ⟨a.val, by omega⟩ b) := by
  pointwise [k0_pay99]
theorem add_own_10 : k0_pay100 (F := Ideal) v w x (ix2 a b) = x (ix2 a b) + k0_pay96 (F := Ideal) v w (ix2 ⟨128 + a.val, by omega⟩ b) := by
  pointwise [k0_pay100]
theorem add_prev_11 : k0_pay1 (F := Ideal) v x (ix2 a b) = x (ix2 a b) + v (ix2 ⟨a.val, by omega⟩ b) := by
  pointwise [k0_pay1]
theorem add_own_11 : k0_pay2 (F := Ideal) v x (ix2 a b) = x (ix2 a b) + v (ix2 ⟨128 + a.val, by omega⟩ b) := by
  pointwise [k0_pay2]
end Adds

theorem later_9 (h : t.val ≠ 0) (s : Held Ideal) (q : Fin 128) (l : Fin 512) :
    (later m c t h s).1 (ix2 q l) = dqAt (cot m c t) (saved m c t) (kwin m c t) (vwin m c t) q l := by
  unfold later laterRun runB
  dsimp only
  refine (View.read_writes_cons_unit_of_mem _ _ _ _ _ (ix2 q l) (ix2 q l) rfl (fun a => by fin_cases a <;> simp)).trans ?_
  simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.r_36, runB.sl.r_37, runB.sl.r_38, runB.sl.r_39, runB.sl.r_40, runB.sl.r_41, runB.sl.r_42, runB.sl.r_43, runB.sl.r_44, runB.sl.r_45, runB.sl.r_46, runB.sl.r_47, runB.sl.r_48, runB.sl.r_49, runB.sl.r_50, runB.sl.r_51, runB.sl.r_52, runB.sl.r_53, runB.sl.r_54, runB.sl.r_55, View.readAt_eq_ld, Memref.IsWhole.read_unread]
  simp (disch := decide) only [runB.sl.cst_91, runB.sl.cst_101, View.ld_unit_lit']
  simp only [load_half_0, load_half_1, load_part_00, load_part_01, load_part_10, load_part_11, turn_0, turn_1, stack_0, stack_0', stack_2, stack_2', stack_0b, stack_0b', stack_2b, stack_2b', spread_0, spread_0', spread_1, spread_1', soft_0, soft_2, soft_0b, soft_2b, cols_0, cols_2, cols_0b, keys_0, keys_2, keys_0b, queries_0, queries_2, queries_0b, queries_2b, window_0, window_0', window_1, window_1']
  exact queries_tile (cot m c t) (saved m c t) (kwin m c t) (vwin m c t) q l
theorem first_9 (h : t.val = 0) (q : Fin 128) (l : Fin 512) :
    (first m c t h).1 (ix2 q l) = dqAt (cot m c t) (saved m c t) (kwin m c t) (vwin m c t) q l := by
  unfold first firstRun runA
  dsimp only
  refine (View.read_writes_cons_unit_of_mem _ _ _ _ _ (ix2 q l) (ix2 q l) rfl (fun a => by fin_cases a <;> simp)).trans ?_
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.r_33, runA.sl.r_34, runA.sl.r_35, runA.sl.r_36, runA.sl.r_37, runA.sl.r_38, runA.sl.r_39, runA.sl.r_40, runA.sl.r_41, runA.sl.r_42, runA.sl.r_43, runA.sl.r_44, runA.sl.r_45, runA.sl.r_46, runA.sl.r_47, runA.sl.r_48, runA.sl.r_49, runA.sl.r_50, runA.sl.r_51, runA.sl.r_52, runA.sl.r_53, runA.sl.r_54, runA.sl.r_55, View.readAt_eq_ld, Memref.IsWhole.read_unread]
  simp (disch := decide) only [runA.sl.cst_91, runA.sl.cst_101, View.ld_unit_lit']
  simp only [load_half_0, load_half_1, load_part_00, load_part_01, load_part_10, load_part_11, turn_0, turn_1, stack_0, stack_0', stack_2, stack_2', stack_0b, stack_0b', stack_2b, stack_2b', spread_0, spread_0', spread_1, spread_1', soft_0, soft_2, soft_0b, soft_2b, cols_0, cols_2, cols_0b, keys_0, keys_2, keys_0b, queries_0, queries_2, queries_0b, queries_2b, window_0, window_0', window_1, window_1']
  exact queries_tile (cot m c t) (saved m c t) (kwin m c t) (vwin m c t) q l
theorem later_keys (k : Fin 256) (l : Fin 128) :
    k0_pay96 (F := Ideal) (runB.sl.r_31 c (ms0_0 t) (hs0_0 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 3 t) (iblk m c 4 t) (iblk m c 5 t) (iblk m c 6 t) (iblk m c 7 t) (iblk m c 8 t))
      (runB.sl.r_54 c (ms0_0 t) (hs0_0 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 3 t) (iblk m c 4 t) (iblk m c 5 t) (iblk m c 6 t) (iblk m c 7 t) (iblk m c 8 t)) (ix2 k l) = dkw m c t k l := by
  simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.r_36, runB.sl.r_37, runB.sl.r_38, runB.sl.r_39, runB.sl.r_40, runB.sl.r_41, runB.sl.r_42, runB.sl.r_43, runB.sl.r_44, runB.sl.r_45, runB.sl.r_46, runB.sl.r_47, runB.sl.r_48, runB.sl.r_49, runB.sl.r_50, runB.sl.r_51, runB.sl.r_52, runB.sl.r_53, runB.sl.r_54, runB.sl.r_55, View.readAt_eq_ld, Memref.IsWhole.read_unread]
  simp (disch := decide) only [runB.sl.cst_91, runB.sl.cst_101, View.ld_unit_lit']
  simp only [load_half_0, load_half_1, load_part_00, load_part_01, load_part_10, load_part_11, turn_0, turn_1, stack_0, stack_0', stack_2, stack_2', stack_0b, stack_0b', stack_2b, stack_2b', spread_0, spread_0', spread_1, spread_1', soft_0, soft_2, soft_0b, soft_2b, cols_0, cols_2, cols_0b, keys_0, keys_2, keys_0b, queries_0, queries_2, queries_0b, queries_2b, window_0, window_0', window_1, window_1', start_10, start_11]
  exact keys_tile (cot m c t) (iblk m c 0 t) (saved m c t) (vwin m c t) k l
theorem later_values (k : Fin 256) (l : Fin 128) :
    runB.sl.r_53 (F := Ideal) c (ms0_5 t) (hs0_5 t) (ms0_6 t) (hs0_6 t) (ms0_7 t) (hs0_7 t) (ms0_8 t) (hs0_8 t) (iblk m c 5 t) (iblk m c 6 t) (iblk m c 7 t) (iblk m c 8 t) (ix2 k l) = dvw m c t k l := by
  simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.r_36, runB.sl.r_37, runB.sl.r_38, runB.sl.r_39, runB.sl.r_40, runB.sl.r_41, runB.sl.r_42, runB.sl.r_43, runB.sl.r_44, runB.sl.r_45, runB.sl.r_46, runB.sl.r_47, runB.sl.r_48, runB.sl.r_49, runB.sl.r_50, runB.sl.r_51, runB.sl.r_52, runB.sl.r_53, runB.sl.r_54, runB.sl.r_55, View.readAt_eq_ld, Memref.IsWhole.read_unread]
  simp (disch := decide) only [runB.sl.cst_91, runB.sl.cst_101, View.ld_unit_lit']
  simp only [load_half_0, load_half_1, load_part_00, load_part_01, load_part_10, load_part_11, turn_0, turn_1, stack_0, stack_0', stack_2, stack_2', stack_0b, stack_0b', stack_2b, stack_2b', spread_0, spread_0', spread_1, spread_1', soft_0, soft_2, soft_0b, soft_2b, cols_0, cols_2, cols_0b, keys_0, keys_2, keys_0b, queries_0, queries_2, queries_0b, queries_2b, window_0, window_0', window_1, window_1', start_10, start_11]
  exact values_tile (cot m c t) (saved m c t) k l
theorem later_10 (h : t.val ≠ 0) (s : Held Ideal) (r : Fin 2048) (l : Fin 128) :
    (later m c t h s).2.1 (ix2 r l) = step t.val (dkw m c t) (s.2.1 (ix2 r l)) r l := by
  unfold later laterRun runB
  dsimp only
  refine (roll _ _ _ _ t.val (own_rows t) _ _ (fun x => dkw m c t ⟨128 + (x 0).val, by have h : (x 0).val < 128 := (x 0).isLt; omega⟩ (x 1)) (fun x => ?_) r l).trans ?_
  · idx_vars x
    exact (add_own_10 _ _ _ x0 x1).trans (congrArg (_ + ·) (later_keys m c t _ x1))
  · refine congrArg (· + _) ((roll _ _ _ _ (t.val - 1) (prev_rows t) _ _ (fun x => dkw m c t ⟨(x 0).val, by have h : (x 0).val < 128 := (x 0).isLt; omega⟩ (x 1)) (fun x => ?_) r l).trans ?_)
    · idx_vars x
      exact (add_prev_10 _ _ _ x0 x1).trans (congrArg (_ + ·) (later_keys m c t _ x1))
    · refine congrArg (· + _) (congrFun ((hs0_10 t).read_unread _) _)
theorem later_11 (h : t.val ≠ 0) (s : Held Ideal) (r : Fin 2048) (l : Fin 128) :
    (later m c t h s).2.2.1 (ix2 r l) = step t.val (dvw m c t) (s.2.2.1 (ix2 r l)) r l := by
  unfold later laterRun runB
  dsimp only
  refine (roll _ _ _ _ t.val (own_rows t) _ _ (fun x => dvw m c t ⟨128 + (x 0).val, by have h : (x 0).val < 128 := (x 0).isLt; omega⟩ (x 1)) (fun x => ?_) r l).trans ?_
  · idx_vars x
    exact (add_own_11 _ _ x0 x1).trans (congrArg (_ + ·) (later_values m c t _ x1))
  · refine congrArg (· + _) ((roll _ _ _ _ (t.val - 1) (prev_rows t) _ _ (fun x => dvw m c t ⟨(x 0).val, by have h : (x 0).val < 128 := (x 0).isLt; omega⟩ (x 1)) (fun x => ?_) r l).trans ?_)
    · idx_vars x
      exact (add_prev_11 _ _ x0 x1).trans (congrArg (_ + ·) (later_values m c t _ x1))
    · refine congrArg (· + _) (congrFun ((hs0_11 t).read_unread _) _)
theorem first_keys (k : Fin 256) (l : Fin 128) :
    k0_pay96 (F := Ideal) (runA.sl.r_31 c (ms0_0 t) (hs0_0 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 3 t) (iblk m c 4 t) (iblk m c 5 t) (iblk m c 6 t) (iblk m c 7 t) (iblk m c 8 t))
      (runA.sl.r_54 c (ms0_0 t) (hs0_0 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 3 t) (iblk m c 4 t) (iblk m c 5 t) (iblk m c 6 t) (iblk m c 7 t) (iblk m c 8 t)) (ix2 k l) = dkw m c t k l := by
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.r_33, runA.sl.r_34, runA.sl.r_35, runA.sl.r_36, runA.sl.r_37, runA.sl.r_38, runA.sl.r_39, runA.sl.r_40, runA.sl.r_41, runA.sl.r_42, runA.sl.r_43, runA.sl.r_44, runA.sl.r_45, runA.sl.r_46, runA.sl.r_47, runA.sl.r_48, runA.sl.r_49, runA.sl.r_50, runA.sl.r_51, runA.sl.r_52, runA.sl.r_53, runA.sl.r_54, runA.sl.r_55, View.readAt_eq_ld, Memref.IsWhole.read_unread]
  simp (disch := decide) only [runA.sl.cst_91, runA.sl.cst_101, View.ld_unit_lit']
  simp only [load_half_0, load_half_1, load_part_00, load_part_01, load_part_10, load_part_11, turn_0, turn_1, stack_0, stack_0', stack_2, stack_2', stack_0b, stack_0b', stack_2b, stack_2b', spread_0, spread_0', spread_1, spread_1', soft_0, soft_2, soft_0b, soft_2b, cols_0, cols_2, cols_0b, keys_0, keys_2, keys_0b, queries_0, queries_2, queries_0b, queries_2b, window_0, window_0', window_1, window_1', start_10, start_11]
  exact keys_tile (cot m c t) (iblk m c 0 t) (saved m c t) (vwin m c t) k l
theorem first_values (k : Fin 256) (l : Fin 128) :
    runA.sl.r_53 (F := Ideal) c (ms0_5 t) (hs0_5 t) (ms0_6 t) (hs0_6 t) (ms0_7 t) (hs0_7 t) (ms0_8 t) (hs0_8 t) (iblk m c 5 t) (iblk m c 6 t) (iblk m c 7 t) (iblk m c 8 t) (ix2 k l) = dvw m c t k l := by
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.r_33, runA.sl.r_34, runA.sl.r_35, runA.sl.r_36, runA.sl.r_37, runA.sl.r_38, runA.sl.r_39, runA.sl.r_40, runA.sl.r_41, runA.sl.r_42, runA.sl.r_43, runA.sl.r_44, runA.sl.r_45, runA.sl.r_46, runA.sl.r_47, runA.sl.r_48, runA.sl.r_49, runA.sl.r_50, runA.sl.r_51, runA.sl.r_52, runA.sl.r_53, runA.sl.r_54, runA.sl.r_55, View.readAt_eq_ld, Memref.IsWhole.read_unread]
  simp (disch := decide) only [runA.sl.cst_91, runA.sl.cst_101, View.ld_unit_lit']
  simp only [load_half_0, load_half_1, load_part_00, load_part_01, load_part_10, load_part_11, turn_0, turn_1, stack_0, stack_0', stack_2, stack_2', stack_0b, stack_0b', stack_2b, stack_2b', spread_0, spread_0', spread_1, spread_1', soft_0, soft_2, soft_0b, soft_2b, cols_0, cols_2, cols_0b, keys_0, keys_2, keys_0b, queries_0, queries_2, queries_0b, queries_2b, window_0, window_0', window_1, window_1', start_10, start_11]
  exact values_tile (cot m c t) (saved m c t) k l
theorem first_10 (h : t.val = 0) (r : Fin 2048) (l : Fin 128) :
    (first m c t h).2.1 (ix2 r l) = step t.val (dkw m c t) (0) r l := by
  refine (congrFun (View.read_writes_of_cover VO0_10 VO0_10.junk (ms0_10 t).view (ms0_10 t).view.junk _ (first_cover_10 m c t h)) (ix2 r l)).trans ?_
  unfold firstRun runA
  dsimp only
  refine (roll _ _ _ _ t.val (own_rows t) _ _ (fun x => dkw m c t ⟨128 + (x 0).val, by have h : (x 0).val < 128 := (x 0).isLt; omega⟩ (x 1)) (fun x => ?_) r l).trans ?_
  · idx_vars x
    exact (add_own_10 _ _ _ x0 x1).trans (congrArg (_ + ·) (first_keys m c t _ x1))
  · refine congrArg (· + _) ((roll _ _ _ _ (t.val - 1) (prev_rows t) _ _ (fun x => dkw m c t ⟨(x 0).val, by have h : (x 0).val < 128 := (x 0).isLt; omega⟩ (x 1)) (fun x => ?_) r l).trans ?_)
    · idx_vars x
      exact (add_prev_10 _ _ _ x0 x1).trans (congrArg (_ + ·) (first_keys m c t _ x1))
    · refine congrArg (· + _) ((View.read_writes_cons_unit_of_mem _ _ _ _ _ (ix2 r l) (ix2 r l) rfl (fun a => by fin_cases a <;> simp)).trans ?_)
      exact clear_10 _
theorem first_11 (h : t.val = 0) (r : Fin 2048) (l : Fin 128) :
    (first m c t h).2.2.1 (ix2 r l) = step t.val (dvw m c t) (0) r l := by
  refine (congrFun (View.read_writes_of_cover VO0_11 VO0_11.junk (ms0_11 t).view (ms0_11 t).view.junk _ (first_cover_11 m c t h)) (ix2 r l)).trans ?_
  unfold firstRun runA
  dsimp only
  refine (roll _ _ _ _ t.val (own_rows t) _ _ (fun x => dvw m c t ⟨128 + (x 0).val, by have h : (x 0).val < 128 := (x 0).isLt; omega⟩ (x 1)) (fun x => ?_) r l).trans ?_
  · idx_vars x
    exact (add_own_11 _ _ x0 x1).trans (congrArg (_ + ·) (first_values m c t _ x1))
  · refine congrArg (· + _) ((roll _ _ _ _ (t.val - 1) (prev_rows t) _ _ (fun x => dvw m c t ⟨(x 0).val, by have h : (x 0).val < 128 := (x 0).isLt; omega⟩ (x 1)) (fun x => ?_) r l).trans ?_)
    · idx_vars x
      exact (add_prev_11 _ _ x0 x1).trans (congrArg (_ + ·) (first_values m c t _ x1))
    · refine congrArg (· + _) ((View.read_writes_cons_unit_of_mem _ _ _ _ _ (ix2 r l) (ix2 r l) rfl (fun a => by fin_cases a <;> simp)).trans ?_)
      exact clear_11 _
theorem later_sinks (l : Fin 128) :
    runB.sl.r_50 (F := Ideal) c (ms0_3 t) (hs0_3 t) (ms0_4 t) (hs0_4 t) (ms0_5 t) (hs0_5 t) (ms0_6 t) (hs0_6 t) (ms0_7 t) (hs0_7 t) (ms0_8 t) (hs0_8 t) (iblk m c 3 t) (iblk m c 4 t) (iblk m c 5 t) (iblk m c 6 t) (iblk m c 7 t) (iblk m c 8 t) (ix2 0 l) = sinkTile (cot m c t) (saved m c t) (vwin m c t) l := by
  refine sink_tile _ _ _ l _ ?_
  simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.r_36, runB.sl.r_37, runB.sl.r_38, runB.sl.r_39, runB.sl.r_40, runB.sl.r_41, runB.sl.r_42, runB.sl.r_43, runB.sl.r_44, runB.sl.r_45, runB.sl.r_46, runB.sl.r_47, runB.sl.r_48, runB.sl.r_49, runB.sl.r_50, runB.sl.r_51, runB.sl.r_52, runB.sl.r_53, runB.sl.r_54, runB.sl.r_55, runB.sl.v43, View.readAt_eq_ld, Memref.IsWhole.read_unread]
  simp (disch := decide) only [View.ld_unit_lit']
  simp only [load_half_0, load_half_1, load_part_00, load_part_01, load_part_10, load_part_11, turn_0, turn_1, stack_0, stack_0', stack_2, stack_2', stack_0b, stack_0b', stack_2b, stack_2b', spread_0, spread_0', spread_1, spread_1', soft_0, soft_2, soft_0b, soft_2b, cols_0, cols_2, cols_0b, keys_0, keys_2, keys_0b, queries_0, queries_2, queries_0b, queries_2b, window_0, window_0', window_1, window_1']
  exact (sink_2b ..).trans (congrArg (· - _ - _) ((sink_0b ..).trans (congrArg (· - _ - _) ((sink_2 ..).trans (congrArg (· - _ - _) (sink_0 ..))))))
theorem later_12 (h : t.val ≠ 0) (s : Held Ideal) (l : Fin 128) :
    (later m c t h s).2.2.2.1 (ix2 0 l) = s.2.2.2.1 (ix2 0 l) + sinkTile (cot m c t) (saved m c t) (vwin m c t) l := by
  unfold later laterRun runB
  dsimp only
  refine (View.read_writes_cons_unit_of_mem _ _ _ _ _ (ix2 0 l) (ix2 0 l) rfl (fun a => by fin_cases a <;> simp)).trans ?_
  refine (add_12 _ _ l).trans (congrArg₂ (· + ·) (congrFun ?_ (ix2 0 l)) (later_sinks m c t l))
  simp (disch := decide) only [View.readAt_eq_ld, Memref.IsWhole.read_unread, View.ld_unit_lit']
theorem later_13 (h : t.val ≠ 0) (s : Held Ideal) (l : Fin 512) :
    (later m c t h s).2.2.2.2 (ix2 0 l) = s.2.2.2.2 (ix2 0 l) + scaleTile (iblk m c 6 t) (iblk m c 5 t) l := by
  unfold later laterRun runB
  dsimp only
  refine (View.read_writes_cons_unit_of_mem _ _ _ _ _ (ix2 0 l) (ix2 0 l) rfl (fun a => by fin_cases a <;> simp)).trans ?_
  refine (add_13 _ _ _ l).trans ?_
  simp (disch := decide) only [View.readAt_eq_ld, Memref.IsWhole.read_unread, View.ld_unit_lit']
  exact congrArg (· + _) (congrFun (View.ld_unit_lit' _ s.2.2.2.2 (by decide)) _)
theorem first_sinks (l : Fin 128) :
    runA.sl.r_50 (F := Ideal) c (ms0_3 t) (hs0_3 t) (ms0_4 t) (hs0_4 t) (ms0_5 t) (hs0_5 t) (ms0_6 t) (hs0_6 t) (ms0_7 t) (hs0_7 t) (ms0_8 t) (hs0_8 t) (iblk m c 3 t) (iblk m c 4 t) (iblk m c 5 t) (iblk m c 6 t) (iblk m c 7 t) (iblk m c 8 t) (ix2 0 l) = sinkTile (cot m c t) (saved m c t) (vwin m c t) l := by
  refine sink_tile _ _ _ l _ ?_
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.r_33, runA.sl.r_34, runA.sl.r_35, runA.sl.r_36, runA.sl.r_37, runA.sl.r_38, runA.sl.r_39, runA.sl.r_40, runA.sl.r_41, runA.sl.r_42, runA.sl.r_43, runA.sl.r_44, runA.sl.r_45, runA.sl.r_46, runA.sl.r_47, runA.sl.r_48, runA.sl.r_49, runA.sl.r_50, runA.sl.r_51, runA.sl.r_52, runA.sl.r_53, runA.sl.r_54, runA.sl.r_55, runA.sl.v43, View.readAt_eq_ld, Memref.IsWhole.read_unread]
  simp (disch := decide) only [View.ld_unit_lit']
  simp only [load_half_0, load_half_1, load_part_00, load_part_01, load_part_10, load_part_11, turn_0, turn_1, stack_0, stack_0', stack_2, stack_2', stack_0b, stack_0b', stack_2b, stack_2b', spread_0, spread_0', spread_1, spread_1', soft_0, soft_2, soft_0b, soft_2b, cols_0, cols_2, cols_0b, keys_0, keys_2, keys_0b, queries_0, queries_2, queries_0b, queries_2b, window_0, window_0', window_1, window_1']
  exact (sink_2b ..).trans (congrArg (· - _ - _) ((sink_0b ..).trans (congrArg (· - _ - _) ((sink_2 ..).trans (congrArg (· - _ - _) (sink_0 ..))))))
theorem first_12 (h : t.val = 0) (l : Fin 128) :
    (first m c t h).2.2.2.1 (ix2 0 l) = 0 + sinkTile (cot m c t) (saved m c t) (vwin m c t) l := by
  unfold first firstRun runA
  dsimp only
  refine (View.read_writes_cons_unit_of_mem _ _ _ _ _ (ix2 0 l) (ix2 0 l) rfl (fun a => by fin_cases a <;> simp)).trans ?_
  refine (add_12 _ _ l).trans (congrArg₂ (· + ·) ?_ (first_sinks m c t l))
  exact (congrFun (View.readCov_unit_lit' _ _ _ (by decide)) _).trans (start_12 l)
theorem first_13 (h : t.val = 0) (l : Fin 512) :
    (first m c t h).2.2.2.2 (ix2 0 l) = scaleTile (iblk m c 6 t) (iblk m c 5 t) l := by
  unfold first firstRun runA
  dsimp only
  refine (View.read_writes_cons_unit_of_mem _ _ _ _ _ (ix2 0 l) (ix2 0 l) rfl (fun a => by fin_cases a <;> simp)).trans ?_
  refine (scale_tile _ _ l).trans ?_
  simp (disch := decide) only [View.readAt_eq_ld, Memref.IsWhole.read_unread, View.ld_unit_lit']

end Cert.AttnBwdIdeal.Attn

end
-- ==== Proof.AttnRef.lean ====
/- The reference of the attention read stage by stage: its masked scores, the rows' softmax with the sink, the result
   and its row norm, and the gradients of all of them, each stage in terms of the ones before it. -/
module

public import proofs.«01_k».proof.Proof.Gen.AttnGradIdeal.Read
public import Idealize.ShloMosaic.Lib.Pointwise
public import proofs.«01_k».proof.Proof.Reals

@[expose] public section

set_option maxRecDepth 16384

noncomputable section

open Idealize.ShloMosaic Idealize.ShloMosaic.TcCoe Idealize.SL.Sem
open scoped BigOperators

namespace Cert.AttnGradIdeal.Value

open Cert.AttnGradIdeal Cert.AttnGradIdeal.Read Cert.Reals

variable (x0 : FVec Ideal S2048x512 .f32) (x1 x2 : FVec Ideal S2048x128 .f32) (x3 : FVec Ideal S1x8 .f32)
  (x4 : FVec Ideal S1x512 .f32) (x5 : FVec Ideal S2048x512 .f32)

section Stages
variable (n : Fin 16) (h : Fin 2) (g : Fin 4) (q : Fin 128) (k : Fin 256)

/-- A head's sink. -/
abbrev sinkOf (h : Fin 2) (g : Fin 4) : EReal := x3 (ix2 0 ⟨h.val * 4 + g.val, by omega⟩)
abbrev score (k : Fin 256) : EReal := val_main_v52_0 (F := Ideal) x0 x1 (ix5 n h g q k)
/-- A row's largest score. -/
abbrev scoreMax : EReal := Finset.univ.fold max ⊥ fun k => score x0 x1 n h g q k

theorem word_bot : Ideal.ofBits .f32 0xFF800000#32 = ⊥ := by simp [Ideal.ofBits, Ideal.ieee]

theorem v53_apply : val_main_v53 (F := Ideal) x0 x1 (ix4 n h g q) = scoreMax x0 x1 n h g q := by
  have e := word_bot
  pointwise [val_main_v53, val_main_cst_10, e]
theorem v57_apply : val_main_v57 (F := Ideal) x0 x1 (ix5 n h g q k) =
    FloatOps.uitofp (F := Ideal) .f32 (BitVec.ofBool (decide (score x0 x1 n h g q k = val_main_v53 (F := Ideal) x0 x1 (ix4 n h g q)))) := by
  pointwise [val_main_v57, val_main_v56, val_main_v55, val_main_v54]
theorem v58_apply : val_main_v58 (F := Ideal) x0 x1 (ix4 n h g q) = ∑ k, val_main_v57 (F := Ideal) x0 x1 (ix5 n h g q k) := by
  pointwise [val_main_v58, val_main_cst_11]
theorem v59_at (q : Fin 128) : idx_main_v59 (ix5 n h g q 0) = ix4 n h g q := by
  funext a; fin_cases a <;> rfl
theorem sink_at : val_main_v46 (F := Ideal) x3 (ix5 0 h g 0 0) = sinkOf x3 h g := by
  pointwise [val_main_v46, val_main_v0]
theorem v60_at (q : Fin 128) : idx_main_v60 (ix5 n h g q 0) = ix5 0 h g 0 0 := by
  funext a; fin_cases a <;> rfl
theorem v61_apply : val_main_v61 (F := Ideal) x0 x1 x3 (ix5 n h g q 0) = max (val_main_v53 (F := Ideal) x0 x1 (ix4 n h g q)) (sinkOf x3 h g) := by
  rw [val_main_v61_apply, val_main_v59_apply, val_main_v60_apply, v59_at, v60_at, sink_at]
  generalize val_main_v53 (F := Ideal) x0 x1 = y
  rfl
theorem v82_apply : val_main_v82 (F := Ideal) x0 x1 x3 (ix5 n h g q k) = Ideal.exp (score x0 x1 n h g q k - val_main_v61 (F := Ideal) x0 x1 x3 (ix5 n h g q 0)) := by
  pointwise [val_main_v82, val_main_v81, val_main_v80]
theorem v87_apply : val_main_v87 (F := Ideal) x0 x1 x3 (ix5 n h g q 0) = Ideal.exp (sinkOf x3 h g - val_main_v61 (F := Ideal) x0 x1 x3 (ix5 n h g q 0)) := by
  pointwise [val_main_v87, val_main_v86, val_main_v85, val_main_v46, val_main_v0]
theorem v88_apply : val_main_v88 (F := Ideal) x0 x1 x3 (ix5 n h g q 0) = (∑ k, val_main_v82 (F := Ideal) x0 x1 x3 (ix5 n h g q k)) + val_main_v87 (F := Ideal) x0 x1 x3 (ix5 n h g q 0) := by
  pointwise [val_main_v88, val_main_v84, val_main_v83, val_main_cst_18]
theorem v90_apply : val_main_v90 (F := Ideal) x0 x1 x3 (ix5 n h g q k) = Ideal.div (val_main_v82 (F := Ideal) x0 x1 x3 (ix5 n h g q k)) (val_main_v88 (F := Ideal) x0 x1 x3 (ix5 n h g q 0)) := by
  pointwise [val_main_v90, val_main_v89]
theorem v93_apply : val_main_v93 (F := Ideal) x0 x1 x3 (ix5 n h g q 0) = Ideal.div 1 (val_main_v88 (F := Ideal) x0 x1 x3 (ix5 n h g q 0) * val_main_v88 (F := Ideal) x0 x1 x3 (ix5 n h g q 0)) := by
  pointwise [val_main_v93, val_main_v92, val_main_cst_19, val_main_v91]
theorem v144_apply : val_main_v144 (F := Ideal) x0 x1 x2 x3 x4 x5 (ix5 n h g q 0) =
    -(∑ k, val_main_v136 (F := Ideal) x0 x1 x2 x3 x4 x5 (ix5 n h g q k) * val_main_v93 (F := Ideal) x0 x1 x3 (ix5 n h g q 0) * val_main_v82 (F := Ideal) x0 x1 x3 (ix5 n h g q k)) := by
  pointwise [val_main_v144, val_main_v143, val_main_v142, val_main_v141, val_main_v140, val_main_v139, val_main_cst_29]
theorem v147_apply : val_main_v147 (F := Ideal) x0 x1 x2 x3 x4 x5 (ix5 n h g q 0) =
    val_main_v144 (F := Ideal) x0 x1 x2 x3 x4 x5 (ix5 n h g q 0) * val_main_v87 (F := Ideal) x0 x1 x3 (ix5 n h g q 0) := by
  pointwise [val_main_v147]
theorem v154_apply : val_main_v154 (F := Ideal) x0 x1 x2 x3 x4 x5 (ix5 n h g q k) =
    (Ideal.div (val_main_v136 (F := Ideal) x0 x1 x2 x3 x4 x5 (ix5 n h g q k)) (val_main_v88 (F := Ideal) x0 x1 x3 (ix5 n h g q 0))
      + val_main_v144 (F := Ideal) x0 x1 x2 x3 x4 x5 (ix5 n h g q 0)) * val_main_v82 (F := Ideal) x0 x1 x3 (ix5 n h g q k) := by
  pointwise [val_main_v154, val_main_v153, val_main_v146, val_main_v145, val_main_v152, val_main_v151, val_main_cst_31]
  simp
theorem v158_apply : val_main_v158 (F := Ideal) x0 x1 x2 x3 x4 x5 (ix5 n h g q 0) =
    -val_main_v147 (F := Ideal) x0 x1 x2 x3 x4 x5 (ix5 n h g q 0) + ∑ k, -val_main_v154 (F := Ideal) x0 x1 x2 x3 x4 x5 (ix5 n h g q k) := by
  pointwise [val_main_v158, val_main_v150, val_main_v157, val_main_v156, val_main_v155, val_main_cst_32]
theorem v164_at (i : Fin 1) : idx_main_v164 (ix4 n h g q) i = ix5 n h g q 0 := by
  obtain rfl : i = 0 := Subsingleton.elim _ _
  funext a; fin_cases a <;> rfl
theorem v164_apply : val_main_v164 (F := Ideal) x0 x1 x2 x3 x4 x5 (ix4 n h g q) =
    val_main_v158 (F := Ideal) x0 x1 x2 x3 x4 x5 (ix5 n h g q 0) * val_main_v70 (F := Ideal) x0 x1 x3 (ix5 n h g q 0) := by
  rw [val_main_v164_apply, Fin.sum_univ_one, v164_at, val_main_v163_apply]
  generalize val_main_v158 (F := Ideal) x0 x1 x2 x3 x4 x5 = a
  generalize val_main_v70 (F := Ideal) x0 x1 x3 = b
  have z : val_main_cst_34 (F := Ideal) (Shape.Idx.first Gen.h_S_) = 0 := by
    pointwise [val_main_cst_34]
  rw [z, zero_add]
  rfl
theorem v171_apply : val_main_v171 (F := Ideal) x0 x1 x2 x3 x4 x5 (ix5 n h g q k) =
    Scalar.select (val_main_v52_1 (F := Ideal) (ix5 n h g q k)) ((val_main_v154 (F := Ideal) x0 x1 x2 x3 x4 x5 (ix5 n h g q k)
      + Ideal.div (val_main_v164 (F := Ideal) x0 x1 x2 x3 x4 x5 (ix4 n h g q)) (val_main_v58 (F := Ideal) x0 x1 (ix4 n h g q)) * val_main_v57 (F := Ideal) x0 x1 (ix5 n h g q k))
        * Ideal.ofBits .f32 0x3E000000#32) 0 := by
  pointwise [val_main_v171, val_main_v170, val_main_cst_35, val_main_v169, val_main_v168, val_main_call1_v0, val_main_call1_cst, val_main_v167, val_main_v166, val_main_v165]
theorem v159_apply : val_main_v159 (F := Ideal) x0 x1 x2 x3 x4 x5 (ix5 n h g q 0) = val_main_v158 (F := Ideal) x0 x1 x2 x3 x4 x5 (ix5 n h g q 0) * val_main_v79 (F := Ideal) x0 x1 x3 (ix5 n h g q 0) := by
  pointwise [val_main_v159]
end Stages
section Reads
variable (n : Fin 16) (h : Fin 2) (g : Fin 4) (q : Fin 128) (k : Fin 256) (d : Fin 64)

/-- The rows the block `n` attends to: the rows of the block before and its own. -/
def win (x : FVec Ideal S2048x128 .f32) (n : Fin 16) (k : Fin 256) (a : Fin 128) : EReal :=
  if hk : k.val < 128 then (if hn : n.val < 1 then 0 else x (ix2 ⟨(n.val - 1) * 128 + k.val, by omega⟩ a))
  else x (ix2 ⟨n.val * 128 + (k.val - 128), by omega⟩ a)

theorem v8_apply : val_main_v8 (F := Ideal) x1 (ix4 n k h d) = win x1 n k ⟨h.val * 64 + d.val, by omega⟩ := by
  unfold win
  pointwise [val_main_v8, val_main_v7, val_main_v6, val_main_v5, val_main_v4, val_main_v3, val_main_v2, val_main_cst, val_main_cst_0]
theorem v15_apply : val_main_v15 (F := Ideal) x2 (ix4 n k h d) = win x2 n k ⟨h.val * 64 + d.val, by omega⟩ := by
  unfold win
  pointwise [val_main_v15, val_main_v14, val_main_v13, val_main_v12, val_main_v11, val_main_v10, val_main_v9, val_main_cst_1, val_main_cst_2]
end Reads

section More
variable (n : Fin 16) (h : Fin 2) (g : Fin 4) (q : Fin 128) (k : Fin 256) (d : Fin 64) (r : Fin 2048)

theorem v52_1_apply : val_main_v52_1 (F := Ideal) (ix5 n h g q k) = val_main_v45 (F := Ideal) (ix3 n q k) := by
  pointwise [val_main_v52_1, val_main_v51]
theorem v47_apply : val_main_v47 (F := Ideal) x0 x1 (ix5 n h k q g) = ∑ x : Fin 64, val_main_v8 (F := Ideal) x1 (ix4 n k h x) * x0 (ix2 ⟨n.val * 128 + q.val, by omega⟩ ⟨h.val * 256 + g.val * 64 + x.val, by omega⟩) := by
  pointwise [val_main_v47, val_main_v1]
theorem v52_apply : val_main_v52_0 (F := Ideal) x0 x1 (ix5 n h g q k) = Scalar.select (val_main_v52_1 (F := Ideal) (ix5 n h g q k))
    (val_main_v47 (F := Ideal) x0 x1 (ix5 n h k q g) * Ideal.ofBits .f32 0x3E000000#32) ⊥ := by
  have e := word_bot
  pointwise [val_main_v52_0, val_main_v50, val_main_v49, val_main_v48, val_main_cst_8, val_main_call0_v2, val_main_cst_9]
  exact congrArg (Scalar.select _ _) e
theorem v96_apply (l : Fin 512) : val_main_v96 (F := Ideal) x0 x1 x2 x3 (ix2 r l) =
    ∑ x, val_main_v15 (F := Ideal) x2 (ix4 ⟨r.val / 128, by omega⟩ x ⟨l.val / 256, by omega⟩ ⟨l.val % 64, by omega⟩)
      * val_main_v90 (F := Ideal) x0 x1 x3 (ix5 ⟨r.val / 128, by omega⟩ ⟨l.val / 256, by omega⟩ ⟨l.val / 64 % 4, by omega⟩ ⟨r.val % 128, by omega⟩ x) := by
  pointwise [val_main_v96, val_main_v95, val_main_v94]
theorem v136_apply : val_main_v136 (F := Ideal) x0 x1 x2 x3 x4 x5 (ix5 n h g q k) =
    ∑ x : Fin 64, val_main_v133 (F := Ideal) x0 x1 x2 x3 x4 x5 (ix2 ⟨n.val * 128 + q.val, by omega⟩ ⟨h.val * 256 + g.val * 64 + x.val, by omega⟩)
      * val_main_v15 (F := Ideal) x2 (ix4 n k h x) := by
  pointwise [val_main_v136, val_main_v135, val_main_v134]
theorem v138_apply : val_main_v138 (F := Ideal) x0 x1 x2 x3 x4 x5 (ix4 n k h d) =
    ∑ g : Fin 4, ∑ q : Fin 128, val_main_v133 (F := Ideal) x0 x1 x2 x3 x4 x5 (ix2 ⟨n.val * 128 + q.val, by omega⟩ ⟨h.val * 256 + g.val * 64 + d.val, by omega⟩)
      * val_main_v90 (F := Ideal) x0 x1 x3 (ix5 n h g q k) := by
  pointwise [val_main_v138, val_main_v137, val_main_v135, val_main_v134]
theorem v176_apply : val_main_v176 (F := Ideal) x0 x1 x2 x3 x4 x5 (ix4 n k h d) =
    ∑ q : Fin 128, ∑ g : Fin 4, val_main_v171 (F := Ideal) x0 x1 x2 x3 x4 x5 (ix5 n h g q k)
      * x0 (ix2 ⟨n.val * 128 + q.val, by omega⟩ ⟨h.val * 256 + g.val * 64 + d.val, by omega⟩) := by
  pointwise [val_main_v176, val_main_v175, val_main_v172, val_main_v1]
theorem v192_apply (l : Fin 512) : val_main_v192 (F := Ideal) x0 x1 x2 x3 x4 x5 (ix2 r l) =
    ∑ x, val_main_v171 (F := Ideal) x0 x1 x2 x3 x4 x5 (ix5 ⟨r.val / 128, by omega⟩ ⟨l.val / 256, by omega⟩ ⟨l.val / 64 % 4, by omega⟩ ⟨r.val % 128, by omega⟩ x)
      * val_main_v8 (F := Ideal) x1 (ix4 ⟨r.val / 128, by omega⟩ x ⟨l.val / 256, by omega⟩ ⟨l.val % 64, by omega⟩) := by
  pointwise [val_main_v192, val_main_v174, val_main_v173, val_main_v172]
theorem v191_apply (a : Fin 128) : val_main_v191 (F := Ideal) x0 x1 x2 x3 x4 x5 (ix2 r a) =
    val_main_v176 (F := Ideal) x0 x1 x2 x3 x4 x5 (ix4 ⟨r.val / 128, by omega⟩ ⟨128 + r.val % 128, by omega⟩ ⟨a.val / 64, by omega⟩ ⟨a.val % 64, by omega⟩)
      + if hr : r.val / 128 < 15 then val_main_v176 (F := Ideal) x0 x1 x2 x3 x4 x5 (ix4 ⟨1 + r.val / 128, by omega⟩ ⟨r.val % 128, by omega⟩ ⟨a.val / 64, by omega⟩ ⟨a.val % 64, by omega⟩) else 0 := by
  pointwise [val_main_v191, val_main_v190, val_main_v186, val_main_v189, val_main_v188, val_main_v185, val_main_cst_37]
  refine congrArg _ ?_
  split_ifs with h1 h2 h2
  · rfl
  · exact absurd h1.1 h2
  · exact absurd ⟨h2, by omega, by omega, by omega⟩ h1
  · rfl
theorem v184_apply (a : Fin 128) : val_main_v184 (F := Ideal) x0 x1 x2 x3 x4 x5 (ix2 r a) =
    val_main_v138 (F := Ideal) x0 x1 x2 x3 x4 x5 (ix4 ⟨r.val / 128, by omega⟩ ⟨128 + r.val % 128, by omega⟩ ⟨a.val / 64, by omega⟩ ⟨a.val % 64, by omega⟩)
      + if hr : r.val / 128 < 15 then val_main_v138 (F := Ideal) x0 x1 x2 x3 x4 x5 (ix4 ⟨1 + r.val / 128, by omega⟩ ⟨r.val % 128, by omega⟩ ⟨a.val / 64, by omega⟩ ⟨a.val % 64, by omega⟩) else 0 := by
  pointwise [val_main_v184, val_main_v183, val_main_v179, val_main_v182, val_main_v181, val_main_v178, val_main_cst_36]
  refine congrArg _ ?_
  split_ifs with h1 h2 h2
  · rfl
  · exact absurd h1.1 h2
  · exact absurd ⟨h2, by omega, by omega, by omega⟩ h1
  · rfl
theorem v194_apply (a : Fin 128) : val_main_v194 (F := Ideal) x0 x1 x2 x3 x4 x5 (ix2 0 a) =
    if ha : a.val < 8 then val_main_v148 (F := Ideal) x0 x1 x2 x3 x4 x5 (ix3 ⟨a.val / 4, by omega⟩ ⟨a.val % 4, by omega⟩ 0)
      + val_main_v160 (F := Ideal) x0 x1 x2 x3 x4 x5 (ix3 ⟨a.val / 4, by omega⟩ ⟨a.val % 4, by omega⟩ 0) else 0 := by
  pointwise [val_main_v194, val_main_v193, val_main_v177, val_main_v162, val_main_v149, val_main_v161, val_main_call2_v0, val_main_c_38]
  refine dite_congr rfl (fun _ => rfl) fun _ => ?_
  show (((0#32 : BitVec 32).toInt : ℝ) : EReal) = 0
  simp
end More

section Mask
variable (n : Fin 16) (q : Fin 128) (k : Fin 256)
theorem v29_first (q : Fin 128) : val_main_v29 (F := Ideal) (ix2 q 0) = 0 := by
  pointwise [val_main_v29, val_main_v28, val_main_v27, val_main_v26, val_main_v25, val_main_v24, val_main_v23, val_main_v22, val_main_v21, val_main_v20,
    val_main_v19, val_main_v18, val_main_v17, val_main_v16, val_main_c, val_main_c_3, val_main_c_4]
  revert q
  decide
theorem v41_first (k : Fin 256) (hk : k.val < 128) : val_main_v41 (F := Ideal) (ix3 0 0 k) = 0 := by
  pointwise [val_main_v41, val_main_v40, val_main_v39, val_main_v38, val_main_v37, val_main_v36, val_main_v35, val_main_v34, val_main_v33, val_main_v32,
    val_main_v31, val_main_v30, val_main_v19, val_main_v18, val_main_c_5, val_main_c_6, val_main_c_7]
  revert k
  decide
theorem v45_apply : val_main_v45 (F := Ideal) (ix3 n q k) = val_main_v29 (F := Ideal) (ix2 q k) &&& val_main_v41 (F := Ideal) (ix3 n 0 k) := by
  pointwise [val_main_v45, val_main_v44, val_main_v43, val_main_v42]
  rfl
/-- A first position is masked, and so is the block before the first. -/
theorem masked (h : k.val = 0 ∨ (n.val = 0 ∧ k.val < 128)) : val_main_v45 (F := Ideal) (ix3 n q k) = 0 := by
  rw [v45_apply]
  rcases h with h | ⟨h, hk⟩
  · obtain rfl : k = 0 := Fin.ext h
    rw [v29_first]
    exact BitVec.zero_and
  · obtain rfl : n = 0 := Fin.ext h
    rw [v41_first k hk]
    exact BitVec.and_zero
end Mask
section Norm
variable (r : Fin 2048) (l : Fin 512)
/-- The width of the norm, its offset and the factor minus one half, as words. -/
abbrev width : EReal := Ideal.ofBits .f32 0x44000000#32
abbrev offset : EReal := Ideal.ofBits .f32 0x358637BD#32
abbrev negHalf : EReal := Ideal.ofBits .f32 0xBF000000#32
/-- A row of the attention's result, and the cotangent of its normed row. -/
abbrev attRow (r : Fin 2048) : Fin 512 → EReal := fun k => val_main_v96 (F := Ideal) x0 x1 x2 x3 (ix2 r k)
abbrev cotRow (r : Fin 2048) : Fin 512 → EReal := fun k => x5 (ix2 r k) * x4 (ix2 0 k)
theorem v105_apply : val_main_v105 (F := Ideal) x0 x1 x2 x3 (ix2 r 0) = Ideal.rsqrt (var width offset (attRow x0 x1 x2 x3 r)) := by
  pointwise [val_main_v105, val_main_v104, val_main_v103, val_main_v102, val_main_v101, val_main_v100, val_main_v99, val_main_v98, val_main_cst_20, val_main_cst_21, val_main_cst_22]
  rfl
theorem v104_apply : val_main_v104 (F := Ideal) x0 x1 x2 x3 (ix2 r 0) = var width offset (attRow x0 x1 x2 x3 r) := by
  pointwise [val_main_v104, val_main_v103, val_main_v102, val_main_v101, val_main_v100, val_main_v99, val_main_v98, val_main_cst_20, val_main_cst_21, val_main_cst_22]
  rfl
theorem v108_apply : val_main_v108 (F := Ideal) x0 x1 x2 x3 (ix2 r 0) =
    negHalf * Ideal.div (Ideal.rsqrt (var width offset (attRow x0 x1 x2 x3 r))) (var width offset (attRow x0 x1 x2 x3 r)) := by
  rw [← v105_apply, ← v104_apply]
  pointwise [val_main_v108, val_main_v107, val_main_v106, val_main_cst_23]
theorem v118_apply : val_main_v118 (F := Ideal) x4 x5 (ix2 r l) = cotRow x4 x5 r l := by
  pointwise [val_main_v118, val_main_v117, val_main_v111, val_main_v97]
theorem v125_apply : val_main_v125 (F := Ideal) x0 x1 x2 x3 x4 x5 (ix2 r 0) =
    (∑ x, attRow x0 x1 x2 x3 r x * cotRow x4 x5 r x) * val_main_v108 (F := Ideal) x0 x1 x2 x3 (ix2 r 0) := by
  pointwise [val_main_v125, val_main_v122, val_main_v121, val_main_v120, val_main_cst_26, v118_apply]
theorem v128_apply : val_main_v128 (F := Ideal) x0 x1 x2 x3 x4 x5 (ix1 r) =
    Ideal.div (val_main_v125 (F := Ideal) x0 x1 x2 x3 x4 x5 (ix2 r 0)) width := by
  pointwise [val_main_v128, val_main_v127, val_main_v126, val_main_cst_27, val_main_cst_28]
  rw [Fin.sum_univ_one]
theorem v129_apply : val_main_v129 (F := Ideal) x0 x1 x2 x3 x4 x5 (ix2 r l) = val_main_v128 (F := Ideal) x0 x1 x2 x3 x4 x5 (ix1 r) := by
  pointwise [val_main_v129]
theorem v133_apply : val_main_v133 (F := Ideal) x0 x1 x2 x3 x4 x5 (ix2 r l) =
    normGrad width offset negHalf (attRow x0 x1 x2 x3 r) (cotRow x4 x5 r) l := by
  have e : val_main_v129 (F := Ideal) x0 x1 x2 x3 x4 x5 (ix2 r l) = normTurn width offset negHalf (attRow x0 x1 x2 x3 r) (cotRow x4 x5 r) := by
    rw [v129_apply, v128_apply, v125_apply, v108_apply]; rfl
  unfold normGrad
  rw [← e, ← v105_apply, ← v118_apply]
  pointwise [val_main_v133, val_main_v132, val_main_v131, val_main_v130, val_main_v124, val_main_v123]
theorem v195_apply : val_main_v195 (F := Ideal) x0 x1 x2 x3 x5 (ix2 0 l) =
    ∑ x, val_main_v96 (F := Ideal) x0 x1 x2 x3 (ix2 x l) * val_main_v105 (F := Ideal) x0 x1 x2 x3 (ix2 x 0) * x5 (ix2 x l) := by
  pointwise [val_main_v195, val_main_v119, val_main_v116, val_main_v115, val_main_v114, val_main_v110, val_main_v109, val_main_cst_24, val_main_cst_25]
  rw [Fin.sum_univ_one]
end Norm
section Sums
variable (h : Fin 2) (g : Fin 4)
/-- A sum over the blocks and their rows. -/
theorem sum_rows (hr : (S16x2x4x128x1).ReducesTo [0, 3] S2x4x1) (v : (S16x2x4x128x1).Idx → EReal) (z : EReal) :
    Ideal.hostReduceAdd hr v z (ix3 h g 0) = z + ∑ n : Fin 16, ∑ q : Fin 128, v (ix5 n h g q 0) := by
  refine congrArg (z + ·) ((Finset.sum_filter_eq_sum_of_fiber _ (fun k : Fin 16 × Fin 128 => (ix5 k.1 h g k.2 0 : (S16x2x4x128x1).Idx))
    (fun _ _ e => Prod.ext (congrFun e 0) (congrFun e 3)) (fun i => ?_) v).trans (Fintype.sum_prod_type _))
  constructor
  · intro e
    refine ⟨(i 0, i 3), ?_⟩
    funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
    | ⟨4, _⟩ => exact (congrArg Fin.val (congrFun e 2)).symm
  · rintro ⟨k, rfl⟩
    funext b
    match b with
    | ⟨0, _⟩ => rfl
    | ⟨1, _⟩ => rfl
    | ⟨2, _⟩ => rfl
theorem v148_apply : val_main_v148 (F := Ideal) x0 x1 x2 x3 x4 x5 (ix3 h g 0) =
    ∑ n : Fin 16, ∑ q : Fin 128, val_main_v147 (F := Ideal) x0 x1 x2 x3 x4 x5 (ix5 n h g q 0) := by
  unfold val_main_v148
  generalize val_main_v147 (F := Ideal) x0 x1 x2 x3 x4 x5 = y
  refine (sum_rows h g _ y _).trans ?_
  rw [val_main_cst_30_apply, show (FloatOps.ofBits (F := Ideal) .f32 0x00000000#32 : EReal) = 0 from Ideal.ofBits_zero_f32, zero_add]
theorem v160_apply : val_main_v160 (F := Ideal) x0 x1 x2 x3 x4 x5 (ix3 h g 0) =
    ∑ n : Fin 16, ∑ q : Fin 128, val_main_v159 (F := Ideal) x0 x1 x2 x3 x4 x5 (ix5 n h g q 0) := by
  unfold val_main_v160
  generalize val_main_v159 (F := Ideal) x0 x1 x2 x3 x4 x5 = y
  refine (sum_rows h g _ y _).trans ?_
  rw [val_main_cst_33_apply, show (FloatOps.ofBits (F := Ideal) .f32 0x00000000#32 : EReal) = 0 from Ideal.ofBits_zero_f32, zero_add]
end Sums

end Cert.AttnGradIdeal.Value

end
-- ==== Proof.Softmax.lean ====
/- A row's softmax beside one extra entry, over the extended reals: the scores are real numbers or the mask `⊥`, the
   entry is a real number, and the gradient is the same in the two spellings the programs use. -/
module

public import proofs.«01_k».proof.Proof.Reals

@[expose] public section

noncomputable section

open Idealize.ShloMosaic
open scoped BigOperators

namespace Cert.Reals

variable {n : ℕ}

/-- The largest of some scores is a real number or the mask. -/
theorem fold_max_real {S : Fin n → EReal} (hS : ∀ k, S k = ⊥ ∨ IsReal (S k)) (s : Finset (Fin n)) :
    s.fold max ⊥ S = ⊥ ∨ IsReal (s.fold max ⊥ S) := by
  classical
  induction s using Finset.induction_on with
  | empty => exact Or.inl rfl
  | insert a s ha ih =>
    rw [Finset.fold_insert ha]
    rcases max_choice (S a) (s.fold max ⊥ S) with h | h <;> rw [h]
    · exact hS a
    · exact ih

/-- The shift of a row is a real number. -/
theorem shift_real {S : Fin n → EReal} {z : EReal} (hS : ∀ k, S k = ⊥ ∨ IsReal (S k)) (hz : IsReal z) :
    IsReal (max (Finset.univ.fold max ⊥ S) z) := by
  rcases fold_max_real hS Finset.univ with h | h
  · rw [h, max_eq_right bot_le]; exact hz
  · rcases max_choice (Finset.univ.fold max ⊥ S) z with h' | h' <;> rw [h'] <;> assumption

/-- The exponentials of a row are real numbers: zero at the mask, and positive at the extra entry. -/
theorem exp_row {S : Fin n → EReal} {z M : EReal} (hS : ∀ k, S k = ⊥ ∨ IsReal (S k)) (hz : IsReal z) (hM : IsReal M) :
    ∃ (e : Fin n → ℝ) (f : ℝ), (∀ k, Ideal.exp (S k - M) = (e k : EReal)) ∧ (∀ k, 0 ≤ e k) ∧ (∀ k, S k = ⊥ → e k = 0) ∧
      Ideal.exp (z - M) = (f : EReal) ∧ 0 < f := by
  obtain ⟨M, rfl⟩ := hM
  obtain ⟨z, rfl⟩ := hz
  have hr : ∀ k, ∃ a : ℝ, Ideal.exp (S k - (M : EReal)) = (a : EReal) ∧ 0 ≤ a ∧ (S k = ⊥ → a = 0) := by
    intro k
    rcases hS k with h | ⟨r, h⟩
    · exact ⟨0, by rw [h, EReal.bot_sub]; rfl, le_rfl, fun _ => rfl⟩
    · refine ⟨Real.exp (r - M), by rw [h, ← EReal.coe_sub]; rfl, (Real.exp_pos _).le, fun h' => ?_⟩
      rw [h] at h'; exact absurd h' (EReal.coe_ne_bot r)
  choose e he using hr
  exact ⟨e, Real.exp (z - M), fun k => (he k).1, fun k => (he k).2.1, fun k => (he k).2.2,
    by rw [← EReal.coe_sub]; rfl, Real.exp_pos _⟩

/-- The largest score is attained, so the count of the positions that attain it is not zero. -/
theorem count_ne_zero (S : Fin (n + 1) → EReal) :
    ∑ k, FloatOps.uitofp (F := Ideal) .f32 (BitVec.ofBool (decide (S k = Finset.univ.fold max ⊥ S))) ≠ (0 : EReal) := by
  obtain ⟨j, _, hj⟩ := Finset.exists_mem_eq_sup Finset.univ Finset.univ_nonempty S
  have hj : S j = Finset.univ.fold max ⊥ S := hj.symm
  have hnn : ∀ k, (0 : EReal) ≤ FloatOps.uitofp (F := Ideal) .f32 (BitVec.ofBool (decide (S k = Finset.univ.fold max ⊥ S))) := by
    intro k
    show (0 : EReal) ≤ (((BitVec.ofBool (decide (S k = Finset.univ.fold max ⊥ S))).toNat : ℝ) : EReal)
    exact_mod_cast Nat.zero_le _
  have h1 : FloatOps.uitofp (F := Ideal) .f32 (BitVec.ofBool (decide (S j = Finset.univ.fold max ⊥ S))) = (1 : EReal) := by
    rw [decide_eq_true hj]
    show ((((BitVec.ofBool true).toNat : ℕ) : ℝ) : EReal) = 1
    simp
  have h2 := Finset.single_le_sum (fun k _ => hnn k) (Finset.mem_univ j)
  intro h0
  rw [h0, h1] at h2
  exact absurd h2 (by norm_num)

section Backward

variable (e p : Fin n → ℝ) (f : ℝ)

/-- The denominator of a row, and the mean of a cotangent under its probabilities. -/
def den : EReal := (∑ k, (e k : EReal)) + (f : EReal)
def prob' (k : Fin n) : EReal := Ideal.div (e k : EReal) (den e f)
/-- The cotangent of the denominator. -/
def turn : EReal := -(∑ k, (p k : EReal) * Ideal.div 1 (den e f * den e f) * (e k : EReal))

variable {e p f}

theorem den_coe : den e f = ((∑ k, e k + f : ℝ) : EReal) := by rw [den, ← coe_sum, ← EReal.coe_add]
theorem prob_coe (hd : ∑ k, e k + f ≠ 0) (k : Fin n) : prob' e f k = ((e k / (∑ k, e k + f) : ℝ) : EReal) := by
  rw [prob', den_coe, div_coe_coe _ hd]
theorem turn_coe (hd : ∑ k, e k + f ≠ 0) :
    turn e p f = ((-((∑ k, p k * e k) / ((∑ k, e k + f) * (∑ k, e k + f))) : ℝ) : EReal) := by
  have h1 : (1 : EReal) = ((1 : ℝ) : EReal) := rfl
  rw [turn, den_coe, ← EReal.coe_mul, h1, div_coe_coe _ (mul_ne_zero hd hd)]
  simp only [← EReal.coe_mul, ← coe_sum, ← EReal.coe_neg]
  congr 2
  rw [Finset.sum_div]
  exact Finset.sum_congr rfl fun k _ => by ring

theorem mean_coe (hd : ∑ k, e k + f ≠ 0) :
    ∑ k, prob' e f k * (p k : EReal) = (((∑ k, p k * e k) / (∑ k, e k + f) : ℝ) : EReal) := by
  simp only [prob_coe hd, ← EReal.coe_mul, ← coe_sum]
  congr 1
  rw [Finset.sum_div]
  exact Finset.sum_congr rfl fun k _ => by ring

/-- The gradient of a score. -/
theorem back_eq (hd : ∑ k, e k + f ≠ 0) (k : Fin n) :
    (Ideal.div (p k : EReal) (den e f) + turn e p f) * (e k : EReal) =
      prob' e f k * ((p k : EReal) - ∑ k, prob' e f k * (p k : EReal)) := by
  rw [mean_coe hd, prob_coe hd, turn_coe hd, den_coe, div_coe_coe _ hd]
  simp only [← EReal.coe_mul, ← EReal.coe_add, ← EReal.coe_sub]
  congr 1
  field_simp
  ring

/-- The gradient of the extra entry. -/
theorem back_extra (hd : ∑ k, e k + f ≠ 0) :
    turn e p f * (f : EReal) = -(Ideal.div (f : EReal) (den e f) * ∑ k, prob' e f k * (p k : EReal)) := by
  rw [mean_coe hd, turn_coe hd, den_coe, div_coe_coe _ hd]
  simp only [← EReal.coe_mul, ← EReal.coe_neg]
  congr 1
  field_simp

/-- The gradient of the shift is zero. -/
theorem back_shift (hd : ∑ k, e k + f ≠ 0) :
    -(turn e p f * (f : EReal)) + ∑ k, -((Ideal.div (p k : EReal) (den e f) + turn e p f) * (e k : EReal)) = 0 := by
  rw [turn_coe hd, den_coe]
  simp only [div_coe_coe _ hd, ← EReal.coe_mul, ← EReal.coe_neg, ← EReal.coe_add, ← coe_sum]
  rw [← EReal.coe_zero]
  congr 1
  generalize hD : ∑ k, e k + f = D at hd ⊢
  generalize hA : ∑ k, p k * e k = A
  have h1 : ∑ k, -((p k / D + -(A / (D * D))) * e k) = -(A / D) + A / (D * D) * ∑ k, e k := by
    have h2 : A / D = ∑ k, p k * e k / D := by rw [← hA, Finset.sum_div]
    rw [h2, Finset.mul_sum, ← Finset.sum_neg_distrib, ← Finset.sum_add_distrib]
    exact Finset.sum_congr rfl fun k _ => by ring
  rw [h1, show ∑ k, e k = D - f by rw [← hD]; ring]
  field_simp
  ring

end Backward

end Cert.Reals

end
-- ==== Proof.AttnGrad.lean ====
/- The reference of the attention at real arguments: the probabilities of a row with its sink, what of them is zero, and
   the gradients of the scores and of the sink in terms of the probabilities. -/
module

public import proofs.«01_k».proof.Proof.AttnRef
public import proofs.«01_k».proof.Proof.AttnTile
public import proofs.«01_k».proof.Proof.Softmax

@[expose] public section

set_option maxRecDepth 16384

noncomputable section

open Idealize.ShloMosaic Idealize.ShloMosaic.TcCoe Idealize.SL.Sem
open scoped BigOperators

namespace Cert.AttnGradIdeal.Value

open Cert.AttnGradIdeal Cert.AttnGradIdeal.Read Cert.Reals
open Cert.AttnBwdIdeal.Tile (softRow C)

variable {x0 : FVec Ideal S2048x512 .f32} {x1 x2 : FVec Ideal S2048x128 .f32} {x3 : FVec Ideal S1x8 .f32}
  {x4 : FVec Ideal S1x512 .f32} {x5 : FVec Ideal S2048x512 .f32}

theorem word_eighth : Ideal.ofBits .f32 0x3E000000#32 = ((1 / 8 : ℝ) : EReal) := by
  simp [Ideal.ofBits, Ideal.ieee, -EReal.coe_mul]; norm_num
theorem word_512 : Ideal.ofBits .f32 0x44000000#32 = ((512 : ℝ) : EReal) := by
  simp [Ideal.ofBits, Ideal.ieee, -EReal.coe_mul]; norm_num

theorem win_real {x : FVec Ideal S2048x128 .f32} (hx : ∀ i, IsReal (x i)) (n : Fin 16) (k : Fin 256) (a : Fin 128) : IsReal (win x n k a) := by
  unfold win
  split_ifs
  · exact IsReal.zero
  · exact hx _
  · exact hx _

/-! ## A row of the attention -/

section Row

variable (h0 : ∀ i, IsReal (x0 i)) (h1 : ∀ i, IsReal (x1 i)) (h3 : ∀ i, IsReal (x3 i))
variable (n : Fin 16) (h : Fin 2) (g : Fin 4) (q : Fin 128)

include h0 h1 in
theorem score_cases (k : Fin 256) : score x0 x1 n h g q k = ⊥ ∨ IsReal (score x0 x1 n h g q k) := by
  unfold score
  rw [v52_apply]
  unfold Scalar.select
  split_ifs
  · refine Or.inr (IsReal.mul ?_ ⟨_, word_eighth⟩)
    rw [v47_apply]
    exact IsReal.sum fun x _ => IsReal.mul (by rw [v8_apply]; exact win_real h1 _ _ _) (h0 _)
  · exact Or.inl rfl

theorem score_masked (k : Fin 256) (hk : val_main_v45 (F := Ideal) (ix3 n q k) = 0) : score x0 x1 n h g q k = ⊥ := by
  unfold score
  rw [v52_apply, v52_1_apply, hk]
  exact if_neg (by decide)

include h0 h1 h3 in
/-- The exponentials of a row. -/
theorem row : ∃ (e : Fin 256 → ℝ) (f : ℝ), (∀ k, val_main_v82 (F := Ideal) x0 x1 x3 (ix5 n h g q k) = (e k : EReal)) ∧
    val_main_v87 (F := Ideal) x0 x1 x3 (ix5 n h g q 0) = (f : EReal) ∧
    val_main_v88 (F := Ideal) x0 x1 x3 (ix5 n h g q 0) = den e f ∧ ∑ k, e k + f ≠ 0 ∧
    (∀ k, val_main_v45 (F := Ideal) (ix3 n q k) = 0 → e k = 0) := by
  have hS := score_cases h0 h1 n h g q
  have hz : IsReal (sinkOf x3 h g) := h3 _
  obtain ⟨e, f, he, hnn, hm, hf, hpos⟩ := exp_row hS hz (shift_real hS hz)
  have hM : val_main_v61 (F := Ideal) x0 x1 x3 (ix5 n h g q 0) = max (Finset.univ.fold max ⊥ (score x0 x1 n h g q)) (sinkOf x3 h g) := by
    rw [v61_apply, v53_apply]
  have h82 : ∀ k, val_main_v82 (F := Ideal) x0 x1 x3 (ix5 n h g q k) = (e k : EReal) := fun k => by
    rw [v82_apply, hM]; exact he k
  have h87 : val_main_v87 (F := Ideal) x0 x1 x3 (ix5 n h g q 0) = (f : EReal) := by rw [v87_apply, hM]; exact hf
  refine ⟨e, f, h82, h87, ?_, ?_, fun k hk => hm k (score_masked n h g q k hk)⟩
  · rw [v88_apply, h87]
    exact congrArg (· + _) (Finset.sum_congr rfl fun k _ => h82 k)
  · exact (add_pos_of_nonneg_of_pos (Finset.sum_nonneg fun k _ => hnn k) hpos).ne'

include h0 h1 h3 in
theorem v90_real (k : Fin 256) : IsReal (val_main_v90 (F := Ideal) x0 x1 x3 (ix5 n h g q k)) := by
  obtain ⟨e, f, h82, h87, h88, hd, hm⟩ := row h0 h1 h3 n h g q
  rw [v90_apply, h82, h88]
  exact ⟨_, prob_coe hd k⟩

include h0 h1 h3 in
theorem v90_masked (k : Fin 256) (hk : k.val = 0 ∨ (n.val = 0 ∧ k.val < 128)) :
    val_main_v90 (F := Ideal) x0 x1 x3 (ix5 n h g q k) = 0 := by
  obtain ⟨e, f, h82, h87, h88, hd, hm⟩ := row h0 h1 h3 n h g q
  rw [v90_apply, h82, h88]
  refine (prob_coe hd k).trans ?_
  rw [hm k (masked n q k hk), zero_div]
  rfl

theorem v58_ne : val_main_v58 (F := Ideal) x0 x1 (ix4 n h g q) ≠ 0 := by
  rw [v58_apply]
  have e : ∀ k, val_main_v57 (F := Ideal) x0 x1 (ix5 n h g q k) =
      FloatOps.uitofp (F := Ideal) .f32 (BitVec.ofBool (decide (score x0 x1 n h g q k = Finset.univ.fold max ⊥ (score x0 x1 n h g q)))) := fun k => by
    rw [v57_apply, v53_apply]
  rw [Finset.sum_congr rfl fun k _ => e k]
  exact count_ne_zero (score x0 x1 n h g q)

end Row

/-! ## The attention's result and its row norm -/

section Norm

variable (h0 : ∀ i, IsReal (x0 i)) (h1 : ∀ i, IsReal (x1 i)) (h2 : ∀ i, IsReal (x2 i)) (h3 : ∀ i, IsReal (x3 i))
  (h4 : ∀ i, IsReal (x4 i)) (h5 : ∀ i, IsReal (x5 i))
include h0 h1 h2 h3

theorem att_real (r : Fin 2048) (l : Fin 512) : IsReal (attRow x0 x1 x2 x3 r l) := by
  unfold attRow
  rw [v96_apply]
  exact IsReal.sum fun x _ => IsReal.mul (by rw [v15_apply]; exact win_real h2 _ _ _) (v90_real h0 h1 h3 _ _ _ _ _)

include h4 h5

theorem back_eq_v133 (r : Fin 2048) (l : Fin 512) : normBack width offset (attRow x0 x1 x2 x3 r) (cotRow x4 x5 r) l =
    val_main_v133 (F := Ideal) x0 x1 x2 x3 x4 x5 (ix2 r l) := by
  rw [v133_apply, width, offset, negHalf, word_512, word_eps, word_neg_half]
  exact normBack_eq_normGrad (by norm_num) eps_pos (fun k => att_real h0 h1 h2 h3 r k) (fun k => IsReal.mul (h5 _) (h4 _)) l

theorem v133_real (r : Fin 2048) (l : Fin 512) : IsReal (val_main_v133 (F := Ideal) x0 x1 x2 x3 x4 x5 (ix2 r l)) := by
  rw [← back_eq_v133 h0 h1 h2 h3 h4 h5, width, offset, word_512, word_eps]
  exact normBack_real (by norm_num) eps_pos (fun k => att_real h0 h1 h2 h3 r k) (fun k => IsReal.mul (h5 _) (h4 _)) l

theorem v136_real (n : Fin 16) (h : Fin 2) (g : Fin 4) (q : Fin 128) (k : Fin 256) :
    IsReal (val_main_v136 (F := Ideal) x0 x1 x2 x3 x4 x5 (ix5 n h g q k)) := by
  rw [v136_apply]
  exact IsReal.sum fun x _ => IsReal.mul (v133_real h0 h1 h2 h3 h4 h5 _ _) (by rw [v15_apply]; exact win_real h2 _ _ _)

/-! ## The gradients of a row -/

variable (n : Fin 16) (h : Fin 2) (g : Fin 4) (q : Fin 128)

/-- A row's gradients: of the scores before the factor, of the sink, and of the shift. -/
theorem back :
    (∀ k, val_main_v154 (F := Ideal) x0 x1 x2 x3 x4 x5 (ix5 n h g q k) = val_main_v90 (F := Ideal) x0 x1 x3 (ix5 n h g q k)
      * (val_main_v136 (F := Ideal) x0 x1 x2 x3 x4 x5 (ix5 n h g q k)
        - ∑ k, val_main_v90 (F := Ideal) x0 x1 x3 (ix5 n h g q k) * val_main_v136 (F := Ideal) x0 x1 x2 x3 x4 x5 (ix5 n h g q k))) ∧
    val_main_v147 (F := Ideal) x0 x1 x2 x3 x4 x5 (ix5 n h g q 0) =
      -(Ideal.div (val_main_v87 (F := Ideal) x0 x1 x3 (ix5 n h g q 0)) (val_main_v88 (F := Ideal) x0 x1 x3 (ix5 n h g q 0))
        * ∑ k, val_main_v90 (F := Ideal) x0 x1 x3 (ix5 n h g q k) * val_main_v136 (F := Ideal) x0 x1 x2 x3 x4 x5 (ix5 n h g q k)) ∧
    val_main_v158 (F := Ideal) x0 x1 x2 x3 x4 x5 (ix5 n h g q 0) = 0 := by
  obtain ⟨e, f, h82, h87, h88, hd, hm⟩ := row h0 h1 h3 n h g q
  obtain ⟨p, hp⟩ := exists_fun (fun k => v136_real h0 h1 h2 h3 h4 h5 n h g q k)
  have hp : ∀ k, val_main_v136 (F := Ideal) x0 x1 x2 x3 x4 x5 (ix5 n h g q k) = (p k : EReal) := fun k => congrFun hp k
  have h90 : ∀ k, val_main_v90 (F := Ideal) x0 x1 x3 (ix5 n h g q k) = prob' e f k := fun k => by
    rw [v90_apply, h82, h88]; rfl
  have h144 : val_main_v144 (F := Ideal) x0 x1 x2 x3 x4 x5 (ix5 n h g q 0) = turn e p f := by
    rw [v144_apply, v93_apply, h88]
    exact congrArg Neg.neg (Finset.sum_congr rfl fun k _ => by rw [hp, h82])
  have h154 : ∀ k, val_main_v154 (F := Ideal) x0 x1 x2 x3 x4 x5 (ix5 n h g q k) =
      (Ideal.div (p k : EReal) (den e f) + turn e p f) * (e k : EReal) := fun k => by
    rw [v154_apply, h144, hp, h82, h88]
  have hs : ∑ k, val_main_v90 (F := Ideal) x0 x1 x3 (ix5 n h g q k) * val_main_v136 (F := Ideal) x0 x1 x2 x3 x4 x5 (ix5 n h g q k) =
      ∑ k, prob' e f k * (p k : EReal) := Finset.sum_congr rfl fun k _ => by rw [hp, h90]
  refine ⟨fun k => ?_, ?_, ?_⟩
  · rw [h154, hs, h90, hp]; exact back_eq hd k
  · rw [v147_apply, h144, h87, h88, hs]; exact back_extra hd
  · rw [v158_apply, v147_apply, h144, h87, Finset.sum_congr rfl fun k _ => congrArg Neg.neg (h154 k)]
    exact back_shift hd

/-- The gradient of a score. -/
theorem v171_eq (k : Fin 256) : val_main_v171 (F := Ideal) x0 x1 x2 x3 x4 x5 (ix5 n h g q k) =
    softRow (fun k => val_main_v90 (F := Ideal) x0 x1 x3 (ix5 n h g q k))
      (fun k => val_main_v136 (F := Ideal) x0 x1 x2 x3 x4 x5 (ix5 n h g q k)) k := by
  obtain ⟨b1, _, b3⟩ := back h0 h1 h2 h3 h4 h5 n h g q
  have hz : Ideal.div (val_main_v164 (F := Ideal) x0 x1 x2 x3 x4 x5 (ix4 n h g q)) (val_main_v58 (F := Ideal) x0 x1 (ix4 n h g q)) = 0 := by
    rw [v164_apply, b3, zero_mul]
    exact Ideal.zero_div (v58_ne n h g q)
  rw [v171_apply, hz, zero_mul, add_zero, b1, v52_1_apply]
  unfold Scalar.select softRow
  split_ifs with hc
  · rfl
  · have hk : val_main_v45 (F := Ideal) (ix3 n q k) = 0 := by
      generalize val_main_v45 (F := Ideal) (ix3 n q k) = w at hc
      revert w; decide
    obtain ⟨e, f, h82, h87, h88, hd, hm⟩ := row h0 h1 h3 n h g q
    have : val_main_v90 (F := Ideal) x0 x1 x3 (ix5 n h g q k) = 0 := by
      rw [v90_apply, h82, h88]
      refine (prob_coe hd k).trans ?_
      rw [hm k hk, zero_div]; rfl
    simp only [this, zero_mul]

/-- The gradient of a head's sink. -/
theorem sink_eq : val_main_v148 (F := Ideal) x0 x1 x2 x3 x4 x5 (ix3 h g 0) + val_main_v160 (F := Ideal) x0 x1 x2 x3 x4 x5 (ix3 h g 0) =
    ∑ n : Fin 16, ∑ q : Fin 128,
      -(Ideal.div (val_main_v87 (F := Ideal) x0 x1 x3 (ix5 n h g q 0)) (val_main_v88 (F := Ideal) x0 x1 x3 (ix5 n h g q 0))
        * ∑ k, val_main_v90 (F := Ideal) x0 x1 x3 (ix5 n h g q k) * val_main_v136 (F := Ideal) x0 x1 x2 x3 x4 x5 (ix5 n h g q k)) := by
  have hz : val_main_v160 (F := Ideal) x0 x1 x2 x3 x4 x5 (ix3 h g 0) = 0 := by
    rw [v160_apply]
    refine Finset.sum_eq_zero fun n _ => Finset.sum_eq_zero fun q _ => ?_
    rw [v159_apply, (back h0 h1 h2 h3 h4 h5 n h g q).2.2, zero_mul]
  rw [hz, add_zero, v148_apply]
  exact Finset.sum_congr rfl fun n _ => Finset.sum_congr rfl fun q _ => (back h0 h1 h2 h3 h4 h5 n h g q).2.1

/-- What multiplies a head's sink is a real number. -/
theorem sink_real : IsReal (Ideal.div (val_main_v87 (F := Ideal) x0 x1 x3 (ix5 n h g q 0)) (val_main_v88 (F := Ideal) x0 x1 x3 (ix5 n h g q 0))
        * ∑ k, val_main_v90 (F := Ideal) x0 x1 x3 (ix5 n h g q k) * val_main_v136 (F := Ideal) x0 x1 x2 x3 x4 x5 (ix5 n h g q k)) := by
  obtain ⟨e, f, h82, h87, h88, hd, hm⟩ := row h0 h1 h3 n h g q
  refine IsReal.mul ?_ (IsReal.sum fun k _ => (v90_real h0 h1 h3 n h g q k).mul (v136_real h0 h1 h2 h3 h4 h5 n h g q k))
  rw [h87, h88, den_coe]
  exact ⟨_, div_coe_coe _ hd⟩

end Norm

end Cert.AttnGradIdeal.Value

end
-- ==== Proof.AttnHost.lean ====
/- What the host hands to the attention backward call, and the blocks its grid points read. -/
module

public import proofs.«01_k».proof.Proof.AttnPoint
public import proofs.«01_k».proof.Proof.AttnGrad
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem
open scoped BigOperators

namespace Cert.AttnBwdIdeal.Attn

open Cert.AttnBwdIdeal Cert.AttnBwdIdeal.Gen Cert.AttnBwdIdeal.Tile Cert.Reals

variable (m : (ℓ : Loc nD τ sig) → Buf (Elt Ideal) ℓ) (c : Dev nD)
abbrev X0 : FVec Ideal S2048x512 .f32 := m ((c : Thread nD τ).loc main_arg0)
abbrev X1 : FVec Ideal S2048x128 .f32 := m ((c : Thread nD τ).loc main_arg1)
abbrev X2 : FVec Ideal S2048x128 .f32 := m ((c : Thread nD τ).loc main_arg2)
abbrev X3 : FVec Ideal S1x8 .f32 := m ((c : Thread nD τ).loc main_arg3)
abbrev X4 : FVec Ideal S1x512 .f32 := m ((c : Thread nD τ).loc main_arg4)
abbrev X5 : FVec Ideal S2048x512 .f32 := m ((c : Thread nD τ).loc main_arg5)

section
open Cert.AttnGradIdeal.Read
/-- The buffers after the host lines up to the masked scores. -/
def U (b : DevRef τ sig) := StableHlo.after (hostOps0 ++ hostOps0_1) (fun b => m (c, b)) b
theorem V_eq (b : Ref sig .tc) : V m c b = StableHlo.after (hostOps0_2 ++ (hostOps0_3 ++ hostOps0_4)) (U m c) (Proc.devRef .tc b) := by
  show StableHlo.after _ _ _ = _
  unfold U
  rw [show List.flatten [hostOps0, hostOps0_1, hostOps0_2, hostOps0_3, hostOps0_4] = (hostOps0 ++ hostOps0_1) ++ (hostOps0_2 ++ (hostOps0_3 ++ hostOps0_4)) from by
    simp only [List.flatten_cons, List.flatten_nil, List.append_nil, List.append_assoc]]
  rw [StableHlo.after_append]
theorem U50 : U m c (Proc.devRef .tc main_v50) = val_main_v52_0 (F := Ideal) (X0 m c) (X1 m c) := by
  unfold U
  after_reads_simp
  rfl
theorem U44 : U m c (Proc.devRef .tc main_v44) = val_main_v46 (F := Ideal) (X3 m c) := by
  unfold U
  after_reads_simp
  rfl
theorem U13 : U m c (Proc.devRef .tc main_v13) = val_main_v15 (F := Ideal) (X2 m c) := by
  unfold U
  after_reads_simp
  rfl
theorem kept_p : V m c main_v65 = val_main_v90 (F := Ideal) (X0 m c) (X1 m c) (X3 m c) := by
  rw [V_eq]
  have h := U50 m c
  have h' := U44 m c
  generalize U m c = u at h h' ⊢
  after_reads_simp
  rw [h, h']
  rfl
/-- The quotient of the sink's exponential by the row's denominator. -/
abbrev sinkProb : FVec Ideal S16x2x4x128x1 .f32 := Host.divf (val_main_v87 (F := Ideal) (X0 m c) (X1 m c) (X3 m c)) (val_main_v88 (F := Ideal) (X0 m c) (X1 m c) (X3 m c))
theorem kept_sink : V m c main_v66 = sinkProb m c := by
  rw [V_eq]
  have h := U50 m c
  have h' := U44 m c
  generalize U m c = u at h h' ⊢
  after_reads_simp
  rw [h, h']
  rfl
theorem kept_o : V m c main_v69 = val_main_v96 (F := Ideal) (X0 m c) (X1 m c) (X2 m c) (X3 m c) := by
  have e := kept_p m c
  rw [V_eq] at e ⊢
  have h := U13 m c
  generalize U m c = u at h e ⊢
  revert e
  after_reads_simp
  intro e
  rw [e, h]
  rfl
theorem U17 : U m c (Proc.devRef .tc main_v17) = broadcastInDim S1x256 ![1] bcast_S256_S1x256_1 (iotaInDim S256 32 0) := by
  unfold U
  after_reads_simp
/-- The saved probabilities: the sink's in the first column. -/
theorem kept_saved (n : Fin 16) (h : Fin 2) (g : Fin 4) (q : Fin 128) (k : Fin 256) :
    (V m c main_v73 : FVec Ideal S16x2x512x256 .f32) (ix4 n h ⟨128 * g.val + q.val, by omega⟩ k) =
      if k.val = 0 then sinkProb m c (ix5 n h g q 0) else val_main_v90 (F := Ideal) (X0 m c) (X1 m c) (X3 m c) (ix5 n h g q k) := by
  have e := kept_p m c
  have e' := kept_sink m c
  have w := U17 m c
  rw [V_eq] at e e' ⊢
  generalize U m c = u at w e e' ⊢
  revert e e'
  after_reads_simp
  intro e e'
  rw [e, e', w]
  generalize sinkProb m c = s
  generalize val_main_v90 (F := Ideal) (X0 m c) (X1 m c) (X3 m c) = y
  have h1 : (128 * g.val + q.val) / 128 = g.val := by omega
  have h2 : (128 * g.val + q.val) % 128 = q.val := by omega
  pointwise [h1, h2]
  clear e e' w h1 h2
  change select (broadcastInDim S16x2x4x128x256 ![3, 4] bcast_S1x256_S16x2x4x128x256_3_4 (cmpi CmpIPredicate.eq (broadcastInDim S1x256 ![1] bcast_S256_S1x256_1 (iotaInDim S256 32 0))
      (broadcastInDim S1x256 ![] bcast_S_S1x256 (constantI S_ 32 0#32)))) (broadcastInDim S16x2x4x128x256 ![0, 1, 2, 3, 4] bcast_S16x2x4x128x1_S16x2x4x128x256_0_1_2_3_4 s) y (ix5 n h g q k) = _
  pointwise []
  have d : ∀ k : Fin 256, IntOp.cmpi CmpIPredicate.eq (BitVec.ofNat 32 k.val) 0#32 = if k.val = 0 then 1 else 0 := by decide +kernel
  rw [d, Scalar.select]
  split_ifs <;> simp_all
end
theorem idx : ∀ t : Fin cfg0.N, win0_0.index t = ![t.val, 0] ∧ win0_1.index t = ![t.val - 1, 0] ∧ win0_2.index t = ![t.val, 0]
    ∧ win0_3.index t = ![t.val - 1, 0] ∧ win0_4.index t = ![t.val, 0] ∧ win0_5.index t = ![t.val, 0]
    ∧ win0_6.index t = ![t.val, 0] ∧ win0_7.index t = ![t.val, 0, 0, 0] ∧ win0_8.index t = ![0, 0] ∧ win0_9.index t = ![t.val, 0]
    ∧ win0_10.index t = ![0, 0] ∧ win0_11.index t = ![0, 0] ∧ win0_12.index t = ![0, 0] ∧ win0_13.index t = ![0, 0] :=
  (by decide +kernel : ∀ t : Fin grid0.N, _)
theorem t_lt (t : Fin cfg0.N) : t.val < 16 := points t
/-- Row `r` of block `t`. -/
def row (t : Fin cfg0.N) (r : Fin 128) : Fin 2048 := ⟨t.val * 128 + r.val, by have := t_lt t; omega⟩
/-- Row `r` of the block before. -/
def before (t : Fin cfg0.N) (r : Fin 128) : Fin 2048 := ⟨(t.val - 1) * 128 + r.val, by have := t_lt t; omega⟩
def at' (t : Fin cfg0.N) : Fin 16 := ⟨t.val, t_lt t⟩
variable (t : Fin cfg0.N) (r : Fin 128)
theorem emb0 (k : Fin 512) : ((cfg0.win 0).blk t).view.emb (ix2 r k) = ix2 (row t r) k := by blk_ext [idx t, row]
theorem emb1 (k : Fin 128) : ((cfg0.win 1).blk t).view.emb (ix2 r k) = ix2 (before t r) k := by blk_ext [idx t, before]
theorem emb2 (k : Fin 128) : ((cfg0.win 2).blk t).view.emb (ix2 r k) = ix2 (row t r) k := by blk_ext [idx t, row]
theorem emb3 (k : Fin 128) : ((cfg0.win 3).blk t).view.emb (ix2 r k) = ix2 (before t r) k := by blk_ext [idx t, before]
theorem emb4 (k : Fin 128) : ((cfg0.win 4).blk t).view.emb (ix2 r k) = ix2 (row t r) k := by blk_ext [idx t, row]
theorem emb5 (k : Fin 512) : ((cfg0.win 5).blk t).view.emb (ix2 r k) = ix2 (row t r) k := by blk_ext [idx t, row]
theorem emb6 (k : Fin 512) : ((cfg0.win 6).blk t).view.emb (ix2 r k) = ix2 (row t r) k := by blk_ext [idx t, row]
theorem emb7 (h : Fin 2) (s : Fin 512) (k : Fin 256) : ((cfg0.win 7).blk t).view.emb (ix4 0 h s k) = ix4 (at' t) h s k := by blk_ext [idx t, at']
theorem emb8 (k : Fin 512) : ((cfg0.win 8).blk t).view.emb (ix2 0 k) = ix2 0 k := by blk_ext [idx t]
theorem emb9 (k : Fin 512) : ((cfg0.win 9).blk t).view.emb (ix2 r k) = ix2 (row t r) k := by blk_ext [idx t, row]
theorem emb10 (r : Fin 2048) (k : Fin 128) : ((cfg0.win 10).blk t).view.emb (ix2 r k) = ix2 r k := by blk_ext [idx t]
theorem emb11 (r : Fin 2048) (k : Fin 128) : ((cfg0.win 11).blk t).view.emb (ix2 r k) = ix2 r k := by blk_ext [idx t]
theorem emb12 (k : Fin 128) : ((cfg0.win 12).blk t).view.emb (ix2 0 k) = ix2 0 k := by blk_ext [idx t]
theorem emb13 (k : Fin 512) : ((cfg0.win 13).blk t).view.emb (ix2 0 k) = ix2 0 k := by blk_ext [idx t]

theorem q_block (k : Fin 512) : iblk m c 0 t (ix2 r k) = X0 m c (ix2 (row t r) k) := by
  show V m c main_arg0 (((cfg0.win 0).blk t).view.emb _) = _
  rw [emb0, V_main_arg0]
theorem kb_block (k : Fin 128) : iblk m c 1 t (ix2 r k) = X1 m c (ix2 (before t r) k) := by
  show V m c main_arg1 (((cfg0.win 1).blk t).view.emb _) = _
  rw [emb1, V_main_arg1]
theorem kc_block (k : Fin 128) : iblk m c 2 t (ix2 r k) = X1 m c (ix2 (row t r) k) := by
  show V m c main_arg1 (((cfg0.win 2).blk t).view.emb _) = _
  rw [emb2, V_main_arg1]
theorem vb_block (k : Fin 128) : iblk m c 3 t (ix2 r k) = X2 m c (ix2 (before t r) k) := by
  show V m c main_arg2 (((cfg0.win 3).blk t).view.emb _) = _
  rw [emb3, V_main_arg2]
theorem vc_block (k : Fin 128) : iblk m c 4 t (ix2 r k) = X2 m c (ix2 (row t r) k) := by
  show V m c main_arg2 (((cfg0.win 4).blk t).view.emb _) = _
  rw [emb4, V_main_arg2]
open Cert.AttnGradIdeal.Value in
theorem o_block (k : Fin 512) : iblk m c 5 t (ix2 r k) = attRow (X0 m c) (X1 m c) (X2 m c) (X3 m c) (row t r) k := by
  show V m c main_v69 (((cfg0.win 5).blk t).view.emb _) = _
  rw [emb5, kept_o]
theorem dn_block (k : Fin 512) : iblk m c 6 t (ix2 r k) = X5 m c (ix2 (row t r) k) := by
  show V m c main_arg5 (((cfg0.win 6).blk t).view.emb _) = _
  rw [emb6, V_main_arg5]
theorem p_block (h : Fin 2) (g : Fin 4) (q : Fin 128) (k : Fin 256) : iblk m c 7 t (ix4 0 h ⟨128 * g.val + q.val, by omega⟩ k) =
      if k.val = 0 then sinkProb m c (ix5 (at' t) h g q 0) else Cert.AttnGradIdeal.Read.val_main_v90 (F := Ideal) (X0 m c) (X1 m c) (X3 m c) (ix5 (at' t) h g q k) := by
  show V m c main_v73 (((cfg0.win 7).blk t).view.emb _) = _
  rw [emb7]
  exact kept_saved m c (at' t) h g q k
theorem g_block (k : Fin 512) : iblk m c 8 t (ix2 0 k) = X4 m c (ix2 0 k) := by
  show V m c main_arg4 (((cfg0.win 8).blk t).view.emb _) = _
  rw [emb8, V_main_arg4]

theorem pay9_apply (x : FVec Ideal S128x512 .f32) (g : FVec Ideal S1x512 .f32) (dy : FVec Ideal S128x512 .f32) (r : Fin 128) (l : Fin 512) :
    k0_pay9 (F := Ideal) x g dy (ix2 r l) = normBack W E (fun k => x (ix2 r k)) (fun k => dy (ix2 r k) * g (ix2 0 k)) l := by
  pointwise [k0_pay4, k0_pay5, k0_pay6, k0_pay7, k0_pay8, k0_pay9, normBack, var]
open Cert.AttnGradIdeal.Value in
theorem cot_back (q : Fin 128) (l : Fin 512) : cot m c t (ix2 q l) =
    normBack width offset (attRow (X0 m c) (X1 m c) (X2 m c) (X3 m c) (row t q)) (cotRow (X4 m c) (X5 m c) (row t q)) l := by
  unfold cot
  refine (pay9_apply _ _ _ q l).trans ?_
  simp only [o_block, g_block, dn_block]
open Cert.AttnGradIdeal.Value in
theorem kwin_eq (k : Fin 256) (a : Fin 128) (h : ¬ (t.val = 0 ∧ k.val < 128)) : kwin m c t (ix2 k a) = win (X1 m c) (at' t) k a := by
  unfold kwin win
  pointwise [k0_pay12, kb_block, kc_block]
  split_ifs with h1 h2
  · exact absurd ⟨by simpa [at'] using h2, h1⟩ h
  all_goals first | rfl | exact absurd rfl ‹_›
open Cert.AttnGradIdeal.Value in
theorem vwin_eq (k : Fin 256) (a : Fin 128) (h : ¬ (t.val = 0 ∧ k.val < 128)) : vwin m c t (ix2 k a) = win (X2 m c) (at' t) k a := by
  unfold vwin win
  pointwise [k0_pay13, vb_block, vc_block]
  split_ifs with h1 h2
  · exact absurd ⟨by simpa [at'] using h2, h1⟩ h
  all_goals first | rfl | exact absurd rfl ‹_›

end Cert.AttnBwdIdeal.Attn

end
-- ==== Proof.AttnValue.lean ====
/- The five results of the attention backward call are the gradients of the reference. -/
module

public import proofs.«01_k».proof.Proof.AttnHost

@[expose] public section

set_option maxRecDepth 16384

noncomputable section

open Idealize.ShloMosaic Idealize.ShloMosaic.TcCoe Idealize.SL.Sem
open scoped BigOperators

namespace Cert.AttnBwdIdeal.Attn

open Cert.AttnBwdIdeal Cert.AttnBwdIdeal.Gen Cert.AttnBwdIdeal.Tile Cert.Reals

variable (m : (ℓ : Loc nD τ sig) → Buf (Elt Ideal) ℓ) (c : Dev nD) (t : Fin cfg0.N)
section Points
open Cert.AttnGradIdeal.Value Cert.AttnGradIdeal.Read

/-- Every entry of the six arguments is a real number. -/
abbrev Finite : Prop := (∀ i, IsReal (X0 m c i)) ∧ (∀ i, IsReal (X1 m c i)) ∧ (∀ i, IsReal (X2 m c i)) ∧ (∀ i, IsReal (X3 m c i))
  ∧ (∀ i, IsReal (X4 m c i)) ∧ ∀ i, IsReal (X5 m c i)
variable {m c} (H : Finite m c)
abbrev P90 : FVec Ideal Cert.AttnGradIdeal.S16x2x4x128x256 .f32 := val_main_v90 (F := Ideal) (X0 m c) (X1 m c) (X3 m c)
abbrev P136 : FVec Ideal Cert.AttnGradIdeal.S16x2x4x128x256 .f32 := val_main_v136 (F := Ideal) (X0 m c) (X1 m c) (X2 m c) (X3 m c) (X4 m c) (X5 m c)
abbrev P171 : FVec Ideal Cert.AttnGradIdeal.S16x2x4x128x256 .f32 := val_main_v171 (F := Ideal) (X0 m c) (X1 m c) (X2 m c) (X3 m c) (X4 m c) (X5 m c)
abbrev P133 : FVec Ideal Cert.AttnGradIdeal.S2048x512 .f32 := val_main_v133 (F := Ideal) (X0 m c) (X1 m c) (X2 m c) (X3 m c) (X4 m c) (X5 m c)

variable (j : Fin 2) (g : Fin 4) (q : Fin 128) (k : Fin 256)
include H
theorem cot_eq (l : Fin 512) : cot m c t (ix2 q l) = P133 (m := m) (c := c) (ix2 (row t q) l) := by
  rw [cot_back]
  exact back_eq_v133 H.1 H.2.1 H.2.2.1 H.2.2.2.1 H.2.2.2.2.1 H.2.2.2.2.2 (row t q) l
theorem p_zero (hk : k.val = 0 ∨ (t.val = 0 ∧ k.val < 128)) : P90 (m := m) (c := c) (ix5 (at' t) j g q k) = 0 :=
  v90_masked H.1 H.2.1 H.2.2.2.1 (at' t) j g q k hk
theorem prob_eq : prob (saved m c t) j g q k = P90 (m := m) (c := c) (ix5 (at' t) j g q k) := by
  unfold prob saved
  by_cases hk : k.val = 0
  · rw [if_pos hk, p_zero t H j g q k (Or.inl hk)]
  · rw [if_neg hk, p_block _ _ t, if_neg hk]
theorem dprob_eq (hk : ¬ (t.val = 0 ∧ k.val < 128)) : dprob (cot m c t) (vwin m c t) j g q k = P136 (m := m) (c := c) (ix5 (at' t) j g q k) := by
  rw [P136, v136_apply]
  unfold dprob
  refine Finset.sum_congr rfl fun d _ => ?_
  rw [cot_eq t H, vwin_eq _ _ t k _ hk, v15_apply]
  have e1 : (⟨256 * j.val + 64 * g.val + d.val, by omega⟩ : Fin 512) = ⟨j.val * 256 + g.val * 64 + d.val, by omega⟩ := Fin.ext (by show 256 * j.val + 64 * g.val + d.val = j.val * 256 + g.val * 64 + d.val; omega)
  have e2 : (⟨64 * j.val + d.val, by omega⟩ : Fin 128) = ⟨j.val * 64 + d.val, by omega⟩ := Fin.ext (by show 64 * j.val + d.val = j.val * 64 + d.val; omega)
  rw [e1, e2]
  rfl
theorem dsRow_eq : dsRow (cot m c t) (saved m c t) (vwin m c t) j g q k = P171 (m := m) (c := c) (ix5 (at' t) j g q k) := by
  rw [P171, v171_eq H.1 H.2.1 H.2.2.1 H.2.2.2.1 H.2.2.2.2.1 H.2.2.2.2.2]
  refine softRow_congr (fun k => prob_eq t H j g q k) (fun k => ?_) k
  by_cases hk : t.val = 0 ∧ k.val < 128
  · exact Or.inl (p_zero t H j g q k (Or.inr hk))
  · exact Or.inr (dprob_eq t H j g q k hk)
theorem ds_zero (hk : t.val = 0 ∧ k.val < 128) : P171 (m := m) (c := c) (ix5 (at' t) j g q k) = 0 := by
  rw [P171, v171_eq H.1 H.2.1 H.2.2.1 H.2.2.2.1 H.2.2.2.2.1 H.2.2.2.2.2, softRow]
  have := p_zero t H j g q k (Or.inr hk)
  rw [P90] at this
  rw [this, zero_mul, zero_mul]
theorem dq_eq (l : Fin 512) : dqAt (cot m c t) (saved m c t) (kwin m c t) (vwin m c t) q l =
    val_main_v192 (F := Ideal) (X0 m c) (X1 m c) (X2 m c) (X3 m c) (X4 m c) (X5 m c) (ix2 (row t q) l) := by
  rw [v192_apply]
  unfold dqAt
  have e1 : (⟨(row t q).val / 128, by have := (row t q).isLt; omega⟩ : Fin 16) = at' t := Fin.ext (by show (t.val * 128 + q.val) / 128 = t.val; omega)
  have e2 : (⟨(row t q).val % 128, by omega⟩ : Fin 128) = q := Fin.ext (by show (t.val * 128 + q.val) % 128 = q.val; omega)
  refine Finset.sum_congr rfl fun k _ => ?_
  rw [e1, e2, dsRow_eq t H]
  by_cases hk : t.val = 0 ∧ k.val < 128
  · have := ds_zero t H ⟨l.val / 256, by omega⟩ ⟨l.val / 64 % 4, by omega⟩ q k hk
    rw [this, zero_mul]
    exact (zero_mul _).symm.trans (by rw [← this])
  · rw [kwin_eq _ _ t k _ hk, v8_apply]
    have e3 : (⟨64 * (l.val / 256) + l.val % 64, by omega⟩ : Fin 128) = ⟨l.val / 256 * 64 + l.val % 64, by omega⟩ := Fin.ext (by show 64 * (l.val / 256) + l.val % 64 = l.val / 256 * 64 + l.val % 64; omega)
    rw [e3]
theorem dk_eq (a : Fin 128) : dkw m c t k a = val_main_v176 (F := Ideal) (X0 m c) (X1 m c) (X2 m c) (X3 m c) (X4 m c) (X5 m c)
    (ix4 (at' t) k ⟨a.val / 64, by omega⟩ ⟨a.val % 64, by omega⟩) := by
  rw [v176_apply, Finset.sum_comm]
  unfold dkw dkAt
  refine Finset.sum_congr rfl fun g _ => Finset.sum_congr rfl fun q _ => ?_
  have e : (⟨256 * (a.val / 64) + 64 * g.val + a.val % 64, by omega⟩ : Fin 512) = ⟨a.val / 64 * 256 + g.val * 64 + a.val % 64, by omega⟩ := Fin.ext (by show 256 * (a.val / 64) + 64 * g.val + a.val % 64 = a.val / 64 * 256 + g.val * 64 + a.val % 64; omega)
  rw [dsRow_eq t H, q_block, e]
  rfl
theorem dv_eq (a : Fin 128) : dvw m c t k a = val_main_v138 (F := Ideal) (X0 m c) (X1 m c) (X2 m c) (X3 m c) (X4 m c) (X5 m c)
    (ix4 (at' t) k ⟨a.val / 64, by omega⟩ ⟨a.val % 64, by omega⟩) := by
  rw [v138_apply]
  unfold dvw dvAt
  refine Finset.sum_congr rfl fun g _ => Finset.sum_congr rfl fun q _ => ?_
  have e : (⟨256 * (a.val / 64) + 64 * g.val + a.val % 64, by omega⟩ : Fin 512) = ⟨a.val / 64 * 256 + g.val * 64 + a.val % 64, by omega⟩ := Fin.ext (by show 256 * (a.val / 64) + 64 * g.val + a.val % 64 = a.val / 64 * 256 + g.val * 64 + a.val % 64; omega)
  rw [prob_eq t H, cot_eq t H, e, mul_comm (G := EReal)]
  rfl
theorem dk_zero (a : Fin 128) (hk : t.val = 0 ∧ k.val < 128) : dkw m c t k a = 0 := by
  unfold dkw dkAt
  refine Finset.sum_eq_zero fun g _ => Finset.sum_eq_zero fun q _ => ?_
  rw [dsRow_eq t H, ds_zero t H _ _ _ k hk, zero_mul]
theorem dv_zero (a : Fin 128) (hk : t.val = 0 ∧ k.val < 128) : dvw m c t k a = 0 := by
  unfold dvw dvAt
  refine Finset.sum_eq_zero fun g _ => Finset.sum_eq_zero fun q _ => ?_
  rw [prob_eq t H, p_zero t H _ _ _ k (Or.inr hk), zero_mul]
theorem sinkAt_eq : sinkAt (cot m c t) (saved m c t) (vwin m c t) j g = ∑ q : Fin 128, sinkProb m c (ix5 (at' t) j g q 0) *
    ∑ k, P90 (m := m) (c := c) (ix5 (at' t) j g q k) * P136 (m := m) (c := c) (ix5 (at' t) j g q k) := by
  unfold sinkAt
  refine Finset.sum_congr rfl fun q _ => ?_
  have e := p_block m c t j g q 0
  rw [if_pos (show (0 : Fin 256).val = 0 from rfl)] at e
  unfold saved at *
  rw [e]
  congr 1
  refine Finset.sum_congr rfl fun k _ => ?_
  have e2 := prob_eq t H j g q k
  unfold saved at e2
  rw [e2]
  by_cases hk : t.val = 0 ∧ k.val < 128
  · rw [p_zero t H j g q k (Or.inr hk), zero_mul, zero_mul]
  · rw [dprob_eq t H j g q k hk]
end Points
section Finals
open Cert.AttnGradIdeal.Value Cert.AttnGradIdeal.Read
variable {m c}

/-- The last point. -/
abbrev lastPoint : Fin cfg0.N := ⟨15, by decide +kernel⟩

def point (n : ℕ) (h : n < 16) : Fin cfg0.N := ⟨n, lt_of_lt_of_eq h N_0.symm⟩

/-- What one point adds to a row of a window's two halves. -/
def halves (W : Fin cfg0.N → Fin 256 → Fin 128 → EReal) (p : Fin cfg0.N) (r : Fin 2048) (l : Fin 128) : EReal :=
  (if r.val / 128 = p.val - 1 then W p ⟨r.val % 128, by omega⟩ l else 0) + (if r.val / 128 = p.val then W p ⟨128 + r.val % 128, by omega⟩ l else 0)
theorem step_eq (W : Fin cfg0.N → Fin 256 → Fin 128 → EReal) (p : Fin cfg0.N) (a : EReal) (r : Fin 2048) (l : Fin 128) :
    step p.val (W p) a r l = a + halves W p r l := by
  unfold step halves
  rw [add_assoc]
theorem sum_halves (W : Fin cfg0.N → Fin 256 → Fin 128 → EReal) (r : Fin 2048) (l : Fin 128)
    (z : ∀ p, p.val = 0 → W p ⟨r.val % 128, by omega⟩ l = 0) :
    ∑ p, halves W p r l = W (point (r.val / 128) (by omega)) ⟨128 + r.val % 128, by omega⟩ l
      + if hr : r.val / 128 < 15 then W (point (1 + r.val / 128) (by omega)) ⟨r.val % 128, by omega⟩ l else 0 := by
  unfold halves
  rw [Finset.sum_add_distrib, add_comm]
  congr 1
  · refine (Finset.sum_eq_single_of_mem (point (r.val / 128) (by omega)) (Finset.mem_univ _) fun p _ hp => if_neg fun e => hp (Fin.ext e.symm)).trans (if_pos rfl)
  · split_ifs with hr
    · refine (Finset.sum_eq_single_of_mem (point (1 + r.val / 128) (by omega)) (Finset.mem_univ _) fun p _ hp => ?_).trans (if_pos (by simp [point]))
      split_ifs with e
      · by_cases hz : p.val = 0
        · exact z p hz
        · exact absurd (Fin.ext (show p.val = 1 + r.val / 128 by omega)) hp
      · rfl
    · refine Finset.sum_eq_zero fun p _ => ?_
      have := t_lt p
      split_ifs with e
      · exact z p (by omega)
      · rfl

variable (H : Finite m c)
include H

theorem final9 : (dats m 0 c).arrAt 9 (cfgs 0).N = val_main_v192 (F := Ideal) (X0 m c) (X1 m c) (X2 m c) (X3 m c) (X4 m c) (X5 m c) := by
  refine (dats m 0 c).arrAt_eq_of_covers 9 _ (by decide +kernel) fun t hf y => ?_
  have key : (held m c t.val t.isLt).1 y =
      val_main_v192 (F := Ideal) (X0 m c) (X1 m c) (X2 m c) (X3 m c) (X4 m c) (X5 m c) (((cfg0.win 9).blk t).view.emb y) := by
    idx_vars y
    rw [emb9]
    refine Eq.trans ?_ (dq_eq t H y0 y1)
    by_cases h : t.val = 0
    · rw [held_first m c t h]; exact first_9 m c t h y0 y1
    · rw [held_later m c t h]; exact later_9 m c t h _ y0 y1
  blk_simp; rw [after_9]; exact key

theorem final10 : (dats m 0 c).arrAt 10 (cfgs 0).N = val_main_v191 (F := Ideal) (X0 m c) (X1 m c) (X2 m c) (X3 m c) (X4 m c) (X5 m c) := by
  refine (dats m 0 c).arrAt_eq_of_after_last 10 lastPoint (by decide +kernel) _ fun j => ?_
  blk_simp
  rw [after_10, Pipeline.eq_sum_fin_of_reset_step_apply_last (fun n h => (held m c n h).2.1) 16 (fun _ => 0)
    (fun (p : Fin cfg0.N) j => halves (dkw m c) p (j 0) (j 1))
    (fun t h j => by
      have h' : t.val = 0 := by have := t_lt t; omega
      idx_vars j; rw [held_first m c t h']; exact (first_10 m c t h' j0 j1).trans (step_eq (dkw m c) t 0 j0 j1))
    (fun t h j => by
      have h' : t.val ≠ 0 := by omega
      idx_vars j; rw [held_later m c t h']; exact (later_10 m c t h' _ j0 j1).trans (step_eq (dkw m c) t _ j0 j1))
    (le_of_eq N_0) lastPoint rfl j, zero_add]
  idx_vars j
  rw [v191_apply]
  refine (sum_halves (dkw m c) j0 j1 fun p hp => dk_zero p H _ j1 ⟨hp, by show j0.val % 128 < 128; omega⟩).trans ?_
  simp only [dk_eq _ H]
  rfl

theorem final11 : (dats m 0 c).arrAt 11 (cfgs 0).N = val_main_v184 (F := Ideal) (X0 m c) (X1 m c) (X2 m c) (X3 m c) (X4 m c) (X5 m c) := by
  refine (dats m 0 c).arrAt_eq_of_after_last 11 lastPoint (by decide +kernel) _ fun j => ?_
  blk_simp
  rw [after_11, Pipeline.eq_sum_fin_of_reset_step_apply_last (fun n h => (held m c n h).2.2.1) 16 (fun _ => 0)
    (fun (p : Fin cfg0.N) j => halves (dvw m c) p (j 0) (j 1))
    (fun t h j => by
      have h' : t.val = 0 := by have := t_lt t; omega
      idx_vars j; rw [held_first m c t h']; exact (first_11 m c t h' j0 j1).trans (step_eq (dvw m c) t 0 j0 j1))
    (fun t h j => by
      have h' : t.val ≠ 0 := by omega
      idx_vars j; rw [held_later m c t h']; exact (later_11 m c t h' _ j0 j1).trans (step_eq (dvw m c) t _ j0 j1))
    (le_of_eq N_0) lastPoint rfl j, zero_add]
  idx_vars j
  rw [v184_apply]
  refine (sum_halves (dvw m c) j0 j1 fun p hp => dv_zero p H _ j1 ⟨hp, by show j0.val % 128 < 128; omega⟩).trans ?_
  simp only [dv_eq _ H]
  rfl

theorem sinkTile_eq (h : Fin 2) (g : Fin 4) : -(sinkAt (cot m c t) (saved m c t) (vwin m c t) h g) = ∑ q : Fin 128, -(sinkProb m c (ix5 (at' t) h g q 0) *
    ∑ k, P90 (m := m) (c := c) (ix5 (at' t) h g q k) * P136 (m := m) (c := c) (ix5 (at' t) h g q k)) := by
  rw [sinkAt_eq t H]
  have hr := fun q : Fin 128 => sink_real H.1 H.2.1 H.2.2.1 H.2.2.2.1 H.2.2.2.2.1 H.2.2.2.2.2 (at' t) h g q
  choose f hf using hr
  have hq : ∀ q : Fin 128, sinkProb m c (ix5 (at' t) h g q 0) * ∑ k, P90 (m := m) (c := c) (ix5 (at' t) h g q k) * P136 (m := m) (c := c) (ix5 (at' t) h g q k) = ((f q : ℝ) : EReal) := hf
  simp only [hq, ← EReal.coe_neg, ← coe_sum, Finset.sum_neg_distrib]

theorem final12 : (dats m 0 c).arrAt 12 (cfgs 0).N = val_main_v194 (F := Ideal) (X0 m c) (X1 m c) (X2 m c) (X3 m c) (X4 m c) (X5 m c) := by
  refine (dats m 0 c).arrAt_eq_of_after_last 12 lastPoint (by decide +kernel) _ fun j => ?_
  blk_simp
  rw [after_12, Pipeline.eq_sum_fin_of_reset_step_apply_last (fun n h => (held m c n h).2.2.2.1) 16 (fun _ => 0)
    (fun (p : Fin cfg0.N) j => sinkTile (cot m c p) (saved m c p) (vwin m c p) (j 1))
    (fun t h j => by
      have h' : t.val = 0 := by have := t_lt t; omega
      idx_vars j; obtain rfl : j0 = 0 := Subsingleton.elim _ _
      rw [held_first m c t h']; exact first_12 m c t h' j1)
    (fun t h j => by
      have h' : t.val ≠ 0 := by omega
      idx_vars j; obtain rfl : j0 = 0 := Subsingleton.elim _ _
      rw [held_later m c t h']; exact later_12 m c t h' _ j1)
    (le_of_eq N_0) lastPoint rfl j, zero_add]
  idx_vars j
  obtain rfl : j0 = 0 := Subsingleton.elim _ _
  show (∑ p : Fin cfg0.N, sinkTile (cot m c p) (saved m c p) (vwin m c p) j1 : EReal) = val_main_v194 (F := Ideal) (X0 m c) (X1 m c) (X2 m c) (X3 m c) (X4 m c) (X5 m c) (ix2 0 j1)
  rw [v194_apply]
  by_cases h : j1.val < 8
  · rw [dif_pos h, sink_eq H.1 H.2.1 H.2.2.1 H.2.2.2.1 H.2.2.2.2.1 H.2.2.2.2.2]
    refine Eq.trans (Finset.sum_congr rfl fun p _ => (dif_pos h).trans (sinkTile_eq p H _ _)) ?_
    exact Fintype.sum_equiv (finCongr N_0) _ _ fun p => rfl
  · rw [dif_neg h]
    exact Finset.sum_eq_zero fun p _ => dif_neg h
omit H in
theorem final13 : (dats m 0 c).arrAt 13 (cfgs 0).N = val_main_v195 (F := Ideal) (X0 m c) (X1 m c) (X2 m c) (X3 m c) (X5 m c) := by
  refine (dats m 0 c).arrAt_eq_of_after_last 13 lastPoint (by decide +kernel) _ fun j => ?_
  blk_simp
  rw [after_13, Pipeline.eq_sum_fin_of_reset_step_apply_last (fun n h => (held m c n h).2.2.2.2) 16 (fun _ => 0)
    (fun (p : Fin cfg0.N) j => scaleTile (iblk m c 6 p) (iblk m c 5 p) (j 1))
    (fun t h j => by
      have h' : t.val = 0 := by have := t_lt t; omega
      idx_vars j; obtain rfl : j0 = 0 := Subsingleton.elim _ _
      rw [held_first m c t h', zero_add]; exact first_13 m c t h' j1)
    (fun t h j => by
      have h' : t.val ≠ 0 := by omega
      idx_vars j; obtain rfl : j0 = 0 := Subsingleton.elim _ _
      rw [held_later m c t h']; exact later_13 m c t h' _ j1)
    (le_of_eq N_0) lastPoint rfl j, zero_add]
  idx_vars j
  obtain rfl : j0 = 0 := Subsingleton.elim _ _
  rw [v195_apply]
  unfold scaleTile
  refine Fin.sum_mul_add_congr (S := cfg0.N) (n := 128) fun p r hl => ?_
  simp only [o_block, dn_block]
  rw [v105_apply]
  exact mul_comm (G := EReal) _ _

omit H in
theorem post9 (m : (ℓ : Loc nD τ sig) → Buf (Elt Ideal) ℓ) (r : PUnit × MemSt nD τ sig (Elt Ideal)) (h : Pipeline.FramePost cfgs (dats m) 0 (V m) r) (c : Dev nD) :
    r.2.mem ((c : Thread nD τ).loc main_v74_0) = (dats m 0 c).arrAt 9 (cfgs 0).N := (h c).1 9
omit H in
theorem post10 (m : (ℓ : Loc nD τ sig) → Buf (Elt Ideal) ℓ) (r : PUnit × MemSt nD τ sig (Elt Ideal)) (h : Pipeline.FramePost cfgs (dats m) 0 (V m) r) (c : Dev nD) :
    r.2.mem ((c : Thread nD τ).loc main_v74_1) = (dats m 0 c).arrAt 10 (cfgs 0).N := (h c).1 10
omit H in
theorem post11 (m : (ℓ : Loc nD τ sig) → Buf (Elt Ideal) ℓ) (r : PUnit × MemSt nD τ sig (Elt Ideal)) (h : Pipeline.FramePost cfgs (dats m) 0 (V m) r) (c : Dev nD) :
    r.2.mem ((c : Thread nD τ).loc main_v74_2) = (dats m 0 c).arrAt 11 (cfgs 0).N := (h c).1 11
omit H in
theorem post12 (m : (ℓ : Loc nD τ sig) → Buf (Elt Ideal) ℓ) (r : PUnit × MemSt nD τ sig (Elt Ideal)) (h : Pipeline.FramePost cfgs (dats m) 0 (V m) r) (c : Dev nD) :
    r.2.mem ((c : Thread nD τ).loc main_v74_3) = (dats m 0 c).arrAt 12 (cfgs 0).N := (h c).1 12
omit H in
theorem post13 (m : (ℓ : Loc nD τ sig) → Buf (Elt Ideal) ℓ) (r : PUnit × MemSt nD τ sig (Elt Ideal)) (h : Pipeline.FramePost cfgs (dats m) 0 (V m) r) (c : Dev nD) :
    r.2.mem ((c : Thread nD τ).loc main_v74_4) = (dats m 0 c).arrAt 13 (cfgs 0).N := (h c).1 13
omit H in
/-- Every run ends with the five gradients in the result arrays and the arguments unchanged. -/
theorem run (m : (ℓ : Loc nD τ sig) → Buf (Elt Ideal) ℓ) (ρ : Dev nD → PrngReg) (H : ∀ c, Finite m c) :
    θ_run (defs (F := Ideal)) (onTc (τ := τ) (main (F := Ideal))) ⟨m, fun _ => 0, ρ⟩ (fun r => ∀ c : Dev nD,
      (r.2.mem ((c.tc : Thread nD τ).loc main_v74_0) = val_main_v192 (F := Ideal) (X0 m c) (X1 m c) (X2 m c) (X3 m c) (X4 m c) (X5 m c)
      ∧ r.2.mem ((c.tc : Thread nD τ).loc main_v74_1) = val_main_v191 (F := Ideal) (X0 m c) (X1 m c) (X2 m c) (X3 m c) (X4 m c) (X5 m c)
      ∧ r.2.mem ((c.tc : Thread nD τ).loc main_v74_2) = val_main_v184 (F := Ideal) (X0 m c) (X1 m c) (X2 m c) (X3 m c) (X4 m c) (X5 m c)
      ∧ r.2.mem ((c.tc : Thread nD τ).loc main_v74_3) = val_main_v194 (F := Ideal) (X0 m c) (X1 m c) (X2 m c) (X3 m c) (X4 m c) (X5 m c)
      ∧ r.2.mem ((c.tc : Thread nD τ).loc main_v74_4) = val_main_v195 (F := Ideal) (X0 m c) (X1 m c) (X2 m c) (X3 m c) (X5 m c))) :=
  (θ_run (defs (F := Ideal)) _ _).mono (fun r h c =>
    ⟨(post9 m r h c).trans (final9 (H c)), (post10 m r h c).trans (final10 (H c)), (post11 m r h c).trans (final11 (H c)),
      (post12 m r h c).trans (final12 (H c)), (post13 m r h c).trans final13⟩) (run_main m ρ)
end Finals

end Cert.AttnBwdIdeal.Attn

end
-- ==== Proof.AttnClaims.lean ====
/- The claims about the attention's backward call and the gradient it computes. -/
module

public import proofs.«01_k».proof.Defs
public import proofs.«01_k».proof.Proof.Gen.AttnBwd
public import proofs.«01_k».proof.Proof.Gen.AttnGradIdeal.Run
public import proofs.«01_k».proof.Proof.AttnValue
public import Idealize.ShloMosaic.Lib.Claim
public import Idealize.ShloMosaic.Lib.Quiescent
public import Idealize.ShloMosaic.Lib.Tactic

@[expose] public section

set_option maxRecDepth 16384

noncomputable section

namespace Cert.Proof

open Idealize.ShloMosaic Idealize.ShloMosaic.TcCoe Idealize.ShloMosaic.Tactic Idealize.SL.Sem

instance attn_pre_facts : Cert.Pre_finite_attn.Facts where
  bcast_S_S2048x512 := by decide
  bcast_S_S2048x128 := by decide
  bcast_S_S1x8 := by decide
  bcast_S_S1x512 := by decide

theorem attn_frame_ideal : Cert.quiescent_AttnBwdIdeal := fun m g _ => Cert.AttnBwdIdeal.Attn.frame m g
theorem attn_frame_ideal_pre : Cert.quiescent_AttnBwdIdeal_pre_finite_attn := fun m g _ => Cert.AttnBwdIdeal.Attn.frame m g
/-- The frame of the second program's text run on words. -/
def attnOnWords : Prop :=
  ∀ (m : (ℓ : Loc Cert.AttnBwdIdeal.nD Cert.AttnBwdIdeal.τ Cert.AttnBwdIdeal.sig) → Buf (Elt Bits) ℓ)
    (g : Dev Cert.AttnBwdIdeal.nD → PrngReg), True →
    θ_run (Cert.AttnBwdIdeal.defs (F := Bits)) (onTc (τ := Cert.AttnBwdIdeal.τ) (Cert.AttnBwdIdeal.main (F := Bits)))
      ⟨m, fun _ => 0, g⟩ (fun r => (∀ c : Dev Cert.AttnBwdIdeal.nD,
        r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
        ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
        ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
        ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
        ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
        ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
        ∧ r.2.sem = fun _ => 0)

/-- The two programs are one text. -/
theorem attn_one_text : Cert.quiescent_AttnBwd = attnOnWords := by sl_kernel_rfl

theorem attn_frame : Cert.quiescent_AttnBwd :=
  attn_one_text.symm ▸ fun m g _ => Cert.AttnBwdIdeal.Attn.frame (F := Bits) m g
theorem attn_grad_frame : Cert.quiescent_AttnGradIdeal := fun m g _ => by
  hlo_run
  · simp
  · exact sem_eq_zero_of_no_sems (sig := Cert.AttnGradIdeal.sig) (by decide) _
theorem attn_grad_frame_pre : Cert.quiescent_AttnGradIdeal_pre_finite_attn := fun m g _ => attn_grad_frame m g trivial

theorem attn_finite {m : (ℓ : Loc Cert.AttnBwdIdeal.nD Cert.AttnBwdIdeal.τ Cert.AttnBwdIdeal.sig) → Buf (Elt Ideal) ℓ}
    (h : Cert.Pre_AttnBwdIdeal_finite_attn m) (c : Dev Cert.AttnBwdIdeal.nD) : Cert.AttnBwdIdeal.Attn.Finite m c :=
  ⟨Cert.Reals.isReal_of_olt (h c).1, Cert.Reals.isReal_of_olt (h c).2.1, Cert.Reals.isReal_of_olt (h c).2.2.1,
    Cert.Reals.isReal_of_olt (h c).2.2.2.1, Cert.Reals.isReal_of_olt (h c).2.2.2.2.1, Cert.Reals.isReal_of_olt (h c).2.2.2.2.2⟩

theorem attn_args_192 {x0 y0 : FVec Ideal Cert.AttnGradIdeal.S2048x512 .f32} {x1 y1 : FVec Ideal Cert.AttnGradIdeal.S2048x128 .f32} {x2 y2 : FVec Ideal Cert.AttnGradIdeal.S2048x128 .f32} {x3 y3 : FVec Ideal Cert.AttnGradIdeal.S1x8 .f32} {x4 y4 : FVec Ideal Cert.AttnGradIdeal.S1x512 .f32} {x5 y5 : FVec Ideal Cert.AttnGradIdeal.S2048x512 .f32} (e0 : x0 = y0) (e1 : x1 = y1) (e2 : x2 = y2) (e3 : x3 = y3) (e4 : x4 = y4) (e5 : x5 = y5) :
    Cert.AttnGradIdeal.Read.val_main_v192 (F := Ideal) x0 x1 x2 x3 x4 x5 = Cert.AttnGradIdeal.Read.val_main_v192 (F := Ideal) y0 y1 y2 y3 y4 y5 := by
  subst e0 e1 e2 e3 e4 e5; rfl
theorem attn_args_191 {x0 y0 : FVec Ideal Cert.AttnGradIdeal.S2048x512 .f32} {x1 y1 : FVec Ideal Cert.AttnGradIdeal.S2048x128 .f32} {x2 y2 : FVec Ideal Cert.AttnGradIdeal.S2048x128 .f32} {x3 y3 : FVec Ideal Cert.AttnGradIdeal.S1x8 .f32} {x4 y4 : FVec Ideal Cert.AttnGradIdeal.S1x512 .f32} {x5 y5 : FVec Ideal Cert.AttnGradIdeal.S2048x512 .f32} (e0 : x0 = y0) (e1 : x1 = y1) (e2 : x2 = y2) (e3 : x3 = y3) (e4 : x4 = y4) (e5 : x5 = y5) :
    Cert.AttnGradIdeal.Read.val_main_v191 (F := Ideal) x0 x1 x2 x3 x4 x5 = Cert.AttnGradIdeal.Read.val_main_v191 (F := Ideal) y0 y1 y2 y3 y4 y5 := by
  subst e0 e1 e2 e3 e4 e5; rfl
theorem attn_args_184 {x0 y0 : FVec Ideal Cert.AttnGradIdeal.S2048x512 .f32} {x1 y1 : FVec Ideal Cert.AttnGradIdeal.S2048x128 .f32} {x2 y2 : FVec Ideal Cert.AttnGradIdeal.S2048x128 .f32} {x3 y3 : FVec Ideal Cert.AttnGradIdeal.S1x8 .f32} {x4 y4 : FVec Ideal Cert.AttnGradIdeal.S1x512 .f32} {x5 y5 : FVec Ideal Cert.AttnGradIdeal.S2048x512 .f32} (e0 : x0 = y0) (e1 : x1 = y1) (e2 : x2 = y2) (e3 : x3 = y3) (e4 : x4 = y4) (e5 : x5 = y5) :
    Cert.AttnGradIdeal.Read.val_main_v184 (F := Ideal) x0 x1 x2 x3 x4 x5 = Cert.AttnGradIdeal.Read.val_main_v184 (F := Ideal) y0 y1 y2 y3 y4 y5 := by
  subst e0 e1 e2 e3 e4 e5; rfl
theorem attn_args_194 {x0 y0 : FVec Ideal Cert.AttnGradIdeal.S2048x512 .f32} {x1 y1 : FVec Ideal Cert.AttnGradIdeal.S2048x128 .f32} {x2 y2 : FVec Ideal Cert.AttnGradIdeal.S2048x128 .f32} {x3 y3 : FVec Ideal Cert.AttnGradIdeal.S1x8 .f32} {x4 y4 : FVec Ideal Cert.AttnGradIdeal.S1x512 .f32} {x5 y5 : FVec Ideal Cert.AttnGradIdeal.S2048x512 .f32} (e0 : x0 = y0) (e1 : x1 = y1) (e2 : x2 = y2) (e3 : x3 = y3) (e4 : x4 = y4) (e5 : x5 = y5) :
    Cert.AttnGradIdeal.Read.val_main_v194 (F := Ideal) x0 x1 x2 x3 x4 x5 = Cert.AttnGradIdeal.Read.val_main_v194 (F := Ideal) y0 y1 y2 y3 y4 y5 := by
  subst e0 e1 e2 e3 e4 e5; rfl
theorem attn_args_195 {x0 y0 : FVec Ideal Cert.AttnGradIdeal.S2048x512 .f32} {x1 y1 : FVec Ideal Cert.AttnGradIdeal.S2048x128 .f32} {x2 y2 : FVec Ideal Cert.AttnGradIdeal.S2048x128 .f32} {x3 y3 : FVec Ideal Cert.AttnGradIdeal.S1x8 .f32} {x5 y5 : FVec Ideal Cert.AttnGradIdeal.S2048x512 .f32} (e0 : x0 = y0) (e1 : x1 = y1) (e2 : x2 = y2) (e3 : x3 = y3) (e5 : x5 = y5) :
    Cert.AttnGradIdeal.Read.val_main_v195 (F := Ideal) x0 x1 x2 x3 x5 = Cert.AttnGradIdeal.Read.val_main_v195 (F := Ideal) y0 y1 y2 y3 y5 := by
  subst e0 e1 e2 e3 e5; rfl

theorem attn_algebraic : Cert.algebraic_AttnBwdIdeal_AttnGradIdeal_pre_finite_attn := by
  intro m g m' g' hpre hagree
  refine ⟨fun c => Cert.AttnGradIdeal.Read.val_main_v192 (F := Ideal) (Cert.AttnBwdIdeal.Attn.X0 m c) (Cert.AttnBwdIdeal.Attn.X1 m c) (Cert.AttnBwdIdeal.Attn.X2 m c) (Cert.AttnBwdIdeal.Attn.X3 m c) (Cert.AttnBwdIdeal.Attn.X4 m c) (Cert.AttnBwdIdeal.Attn.X5 m c),
    fun c => Cert.AttnGradIdeal.Read.val_main_v191 (F := Ideal) (Cert.AttnBwdIdeal.Attn.X0 m c) (Cert.AttnBwdIdeal.Attn.X1 m c) (Cert.AttnBwdIdeal.Attn.X2 m c) (Cert.AttnBwdIdeal.Attn.X3 m c) (Cert.AttnBwdIdeal.Attn.X4 m c) (Cert.AttnBwdIdeal.Attn.X5 m c),
    fun c => Cert.AttnGradIdeal.Read.val_main_v184 (F := Ideal) (Cert.AttnBwdIdeal.Attn.X0 m c) (Cert.AttnBwdIdeal.Attn.X1 m c) (Cert.AttnBwdIdeal.Attn.X2 m c) (Cert.AttnBwdIdeal.Attn.X3 m c) (Cert.AttnBwdIdeal.Attn.X4 m c) (Cert.AttnBwdIdeal.Attn.X5 m c),
    fun c => Cert.AttnGradIdeal.Read.val_main_v194 (F := Ideal) (Cert.AttnBwdIdeal.Attn.X0 m c) (Cert.AttnBwdIdeal.Attn.X1 m c) (Cert.AttnBwdIdeal.Attn.X2 m c) (Cert.AttnBwdIdeal.Attn.X3 m c) (Cert.AttnBwdIdeal.Attn.X4 m c) (Cert.AttnBwdIdeal.Attn.X5 m c),
    fun c => Cert.AttnGradIdeal.Read.val_main_v195 (F := Ideal) (Cert.AttnBwdIdeal.Attn.X0 m c) (Cert.AttnBwdIdeal.Attn.X1 m c) (Cert.AttnBwdIdeal.Attn.X2 m c) (Cert.AttnBwdIdeal.Attn.X3 m c) (Cert.AttnBwdIdeal.Attn.X5 m c), ?_, ?_⟩
  · refine (θ_run (Cert.AttnBwdIdeal.defs (F := Ideal)) _ _).mono (fun r h c => ?_)
      (θ_run_and (Cert.AttnBwdIdeal.Attn.run m g fun c => attn_finite hpre c) (Cert.AttnBwdIdeal.Attn.unchanged m g))
    obtain ⟨h0, h1, h2, h3, h4⟩ := h.1 c
    exact ⟨h0, h1, h2, h3, h4, h.2 c⟩
  · refine (θ_run (Cert.AttnGradIdeal.defs (F := Ideal)) _ _).mono (fun r h c => ?_) (Cert.AttnGradIdeal.Value.run m' g')
    obtain ⟨h0, h1, h2, h3, h4, ha⟩ := h c
    obtain ⟨e0, e1, e2, e3, e4, e5⟩ := hagree c
    refine ⟨h0.trans ?_, h1.trans ?_, h2.trans ?_, h3.trans ?_, h4.trans ?_, ha⟩
    · refine (Cert.AttnGradIdeal.Read.val_main_v192_eq _).trans ?_
      exact attn_args_192 e0 e1 e2 e3 e4 e5
    · refine (Cert.AttnGradIdeal.Read.val_main_v191_eq _).trans ?_
      exact attn_args_191 e0 e1 e2 e3 e4 e5
    · refine (Cert.AttnGradIdeal.Read.val_main_v184_eq _).trans ?_
      exact attn_args_184 e0 e1 e2 e3 e4 e5
    · refine (Cert.AttnGradIdeal.Read.val_main_v194_eq _).trans ?_
      exact attn_args_194 e0 e1 e2 e3 e4 e5
    · refine (Cert.AttnGradIdeal.Read.val_main_v195_eq _).trans ?_
      exact attn_args_195 e0 e1 e2 e3 e5

end Cert.Proof

end
-- ==== Proof.InHost.lean ====
/- The tables and operands the host hands to the input projection's backward call. -/
module

public import proofs.«01_k».proof.Proof.Gen.InBwdIdeal.Value
public import proofs.«01_k».proof.Proof.Gen.InGradIdeal.Read
public import Idealize.ShloMosaic.Lib.Pipeline.ValueKit
public import Idealize.ShloMosaic.Lib.StableHlo.RunRead
public import proofs.«01_k».proof.Proof.Reals

@[expose] public section

set_option maxRecDepth 16384

noncomputable section

open Idealize.ShloMosaic Idealize.ShloMosaic.TcCoe Idealize.SL.Sem
open Idealize.ShloMosaic.Pipeline (Dat)
open scoped BigOperators

namespace Cert.InBwdIdeal.Value

open Cert.InBwdIdeal Cert.InBwdIdeal.Gen Cert.Reals
open Cert.InGradIdeal.Read

variable (m : (ℓ : Loc nD τ sig) → Buf (Elt Ideal) ℓ) (c : Fin nD)
abbrev X1 : IVec S2048 32 := m ((c : Thread nD τ).loc main_arg1)
theorem V_eq (b : Ref sig .tc) : V m c b = StableHlo.after hostOps0 (fun b => m (c, b)) (Proc.devRef .tc b) := by
  show StableHlo.after _ _ _ = _
  simp only [List.flatten_cons, List.flatten_nil, List.append_nil]
theorem freq : StableHlo.upto hostOps0 (fun b => m (c, b)) 15 (Proc.devRef .tc main_v7) = val_main_v29 (F := Ideal) := by
  after_reads_simp
  rfl
theorem freq_lane (l : Fin 64) : (StableHlo.upto hostOps0 (fun b => m (c, b)) 17 (Proc.devRef .tc main_v11) : FVec Ideal S64 .f32) (ix1 l) =
    if h : l.val < 8 then val_main_v29 (F := Ideal) (ix1 ⟨l.val, h⟩) else if h : l.val - 8 < 8 then val_main_v29 (F := Ideal) (ix1 ⟨l.val - 8, h⟩) else (0 : EReal) := by
  have e : ∀ i : Fin 8, (StableHlo.upto hostOps0 (fun b => m (c, b)) 15 (Proc.devRef .tc main_v7) : FVec Ideal S8 .f32) (ix1 i) = val_main_v29 (F := Ideal) (ix1 i) := fun i => congrFun (freq m c) _
  generalize val_main_v29 (F := Ideal) = y at e ⊢
  after_reads_simp
  pointwise
  simp only [e]
  split_ifs
  all_goals first | rfl | omega | rw [dif_pos (by omega)]
theorem one_word : Ideal.ofBits .f32 0x3F800000#32 = (1 : EReal) := by
  simp [Ideal.ofBits, Ideal.ieee, -EReal.coe_mul]; norm_num
theorem ones (i : Fin 8) : (StableHlo.upto hostOps0 (fun b => m (c, b)) 20 (Proc.devRef .tc main_v9) : FVec Ideal S8 .f32) (ix1 i) = (1 : EReal) := by
  after_reads_simp
  pointwise
theorem minus_ones (i : Fin 8) : (StableHlo.upto hostOps0 (fun b => m (c, b)) 20 (Proc.devRef .tc main_v14) : FVec Ideal S8 .f32) (ix1 i) = (-1 : EReal) := by
  after_reads_simp
  pointwise
theorem sign_lane (l : Fin 64) : (StableHlo.upto hostOps0 (fun b => m (c, b)) 22 (Proc.devRef .tc main_v16) : FVec Ideal S64 .f32) (ix1 l) =
    if l.val < 8 then -1 else if l.val - 8 < 8 then 1 else (0 : EReal) := by
  have e := ones m c
  have e' := minus_ones m c
  after_reads_simp
  pointwise
  simp only [e, e']
  split_ifs <;> first | rfl | omega
abbrev posA (r : Fin 2048) : EReal := (((X1 m c (ix1 r)).toInt : ℝ) : EReal)
abbrev cosA (r : Fin 2048) (i : Fin 8) : EReal := val_main_v36 (F := Ideal) (X1 m c) (ix2 r i)
abbrev sinA (r : Fin 2048) (i : Fin 8) : EReal := val_main_v38 (F := Ideal) (X1 m c) (ix2 r i)
theorem cosA_eq (r : Fin 2048) (i : Fin 8)  : cosA m c r i = Ideal.cos (posA m c r * val_main_v29 (F := Ideal) (ix1 i)) := by
  show val_main_v36 (F := Ideal) _ _ = _
  pointwise [val_main_v36,val_main_v35, val_main_v34, val_main_v33, val_main_v32, val_main_v31, val_main_v30]
  rfl
theorem sinA_eq (r : Fin 2048) (i : Fin 8)  : sinA m c r i = Ideal.sin (posA m c r * val_main_v29 (F := Ideal) (ix1 i)) := by
  show val_main_v38 (F := Ideal) _ _ = _
  pointwise [val_main_v38,val_main_v35, val_main_v34, val_main_v33, val_main_v32, val_main_v31, val_main_v30]
  rfl
theorem angle (r : Fin 2048) (l : Fin 128) : (V (F := Ideal) m c main_v23 : FVec Ideal S2048x128 .f32) (ix2 r l) =
    posA m c r * (if h : l.val % 64 < 8 then val_main_v29 (F := Ideal) (ix1 ⟨l.val % 64, h⟩) else
      if h : l.val % 64 - 8 < 8 then val_main_v29 (F := Ideal) (ix1 ⟨l.val % 64 - 8, h⟩) else (0 : EReal)) := by
  have e := freq_lane m c
  rw [V_eq]
  after_reads_simp
  generalize val_main_v29 (F := Ideal) = y at e ⊢
  pointwise
  simp only [e]
  by_cases h : l.val < 64
  · simp only [h, dite_true, Nat.mod_eq_of_lt h]
    rfl
  · have : l.val % 64 = l.val - 64 := by omega
    simp only [h, dite_false, this]
    rfl
theorem sign (l : Fin 128) : (V (F := Ideal) m c main_v18 : FVec Ideal S1x128 .f32) (ix2 0 l) =
    if l.val % 64 < 8 then -1 else if l.val % 64 - 8 < 8 then 1 else (0 : EReal) := by
  have e := sign_lane m c
  rw [V_eq]
  after_reads_simp
  pointwise
  simp only [e]
  by_cases h : l.val < 64
  · simp only [h, dite_true, Nat.mod_eq_of_lt h]
  · have : l.val % 64 = l.val - 64 := by omega
    simp only [h, dite_false, this]
theorem cosT (r : Fin 2048) (l : Fin 128) : (V (F := Ideal) m c main_v24 : FVec Ideal S2048x128 .f32) (ix2 r l) =
    if h : l.val % 64 < 8 then cosA m c r ⟨l.val % 64, h⟩ else if h : l.val % 64 - 8 < 8 then cosA m c r ⟨l.val % 64 - 8, h⟩ else (1 : EReal) := by
  have e := angle m c r l
  rw [V_eq] at e ⊢
  have : (StableHlo.after hostOps0 (fun b => m (c, b)) (Proc.devRef .tc main_v24) : FVec Ideal S2048x128 .f32) (ix2 r l) =
      Ideal.cos ((StableHlo.after hostOps0 (fun b => m (c, b)) (Proc.devRef .tc main_v23) : FVec Ideal S2048x128 .f32) (ix2 r l)) := by
    after_reads_simp
    rfl
  refine this.trans ?_
  rw [e]
  simp only [cosA_eq]
  split_ifs
  · rfl
  · rfl
  · rw [mul_zero]
    show ((Real.cos 0 : ℝ) : EReal) = 1
    rw [Real.cos_zero]; rfl
theorem sinT (r : Fin 2048) (l : Fin 128) : (V (F := Ideal) m c main_v27 : FVec Ideal S2048x128 .f32) (ix2 r l) =
    if h : l.val % 64 < 8 then -sinA m c r ⟨l.val % 64, h⟩ else if h : l.val % 64 - 8 < 8 then sinA m c r ⟨l.val % 64 - 8, h⟩ else (0 : EReal) := by
  have e := angle m c r l
  have e' := sign m c l
  rw [V_eq] at e e' ⊢
  have : (StableHlo.after hostOps0 (fun b => m (c, b)) (Proc.devRef .tc main_v27) : FVec Ideal S2048x128 .f32) (ix2 r l) =
      Ideal.sin ((StableHlo.after hostOps0 (fun b => m (c, b)) (Proc.devRef .tc main_v23) : FVec Ideal S2048x128 .f32) (ix2 r l)) *
        (StableHlo.after hostOps0 (fun b => m (c, b)) (Proc.devRef .tc main_v18) : FVec Ideal S1x128 .f32) (ix2 0 l) := by
    after_reads_simp
    pointwise
  refine this.trans ?_
  rw [e, e']
  simp only [sinA_eq]
  split_ifs
  · rw [mul_neg, mul_one]
  · rw [mul_one]
  · rw [mul_zero]
theorem duT (r : Fin 256) (l : Fin 4096) : (V (F := Ideal) m c main_v30 : FVec Ideal S256x4096 .f32) (ix2 r l) =
    (m ((c : Thread nD τ).loc main_arg5) : FVec Ideal S2048x512 .f32) (ix2 ⟨l.val / 512 * 256 + r.val, by omega⟩ ⟨l.val % 512, by omega⟩) := by
  rw [V_eq]
  after_reads_simp
  pointwise
theorem wT (r : Fin 1280) (l : Fin 1024) : (V (F := Ideal) m c main_v33 : FVec Ideal S1280x1024 .bf16) (ix2 r l) =
    (m ((c : Thread nD τ).loc main_arg3) : FVec Ideal S1x1024x1280 .f32) (ix3 0 l r) := by
  rw [V_eq]
  after_reads_simp
  pointwise

theorem v29_real (i : Fin 8) : IsReal (val_main_v29 (F := Ideal) (ix1 i)) := by
  have h : val_main_v29 (F := Ideal) (ix1 i) = Ideal.pow (Ideal.ofBits .f32 0x48F42400#32)
      (Ideal.div (-(((BitVec.ofNat 32 i.val).toInt : ℝ) : EReal) * Ideal.ofBits .f32 0x40000000#32) (Ideal.ofBits .f32 0x41800000#32)) := by
    pointwise [val_main_v29, val_main_v28, val_main_v27, val_main_v26, val_main_v25, val_main_v24, val_main_v23, val_main_v22, val_main_cst_3, val_main_cst_4, val_main_cst_5]
    rfl
  have a : Ideal.ofBits .f32 0x48F42400#32 = ((500000 : ℝ) : EReal) := by
    simp [Ideal.ofBits, Ideal.ieee, -EReal.coe_mul]; norm_num
  have b : Ideal.ofBits .f32 0x40000000#32 = ((2 : ℝ) : EReal) := by
    simp [Ideal.ofBits, Ideal.ieee, -EReal.coe_mul]; norm_num
  have d : Ideal.ofBits .f32 0x41800000#32 = ((16 : ℝ) : EReal) := by
    simp [Ideal.ofBits, Ideal.ieee, -EReal.coe_mul]; norm_num
  rw [h, a, b, d, ← EReal.coe_neg, ← EReal.coe_mul, div_coe_coe _ (by norm_num), Ideal.pow_coe_coe]
  exact IsReal.coe _
theorem cosA_real (r : Fin 2048) (i : Fin 8) : IsReal (cosA m c r i) := by
  rw [cosA_eq]
  obtain ⟨y, h⟩ := v29_real i
  rw [h, ← EReal.coe_mul, Ideal.cos_coe]
  exact IsReal.coe _
theorem sinA_real (r : Fin 2048) (i : Fin 8) : IsReal (sinA m c r i) := by
  rw [sinA_eq]
  obtain ⟨y, h⟩ := v29_real i
  rw [h, ← EReal.coe_mul, Ideal.sin_coe]
  exact IsReal.coe _

end Cert.InBwdIdeal.Value
end
-- ==== Proof.InValue.lean ====
/- What the input projection's backward call computes at a grid point, and its gradient read at an index. -/
module

public import proofs.«01_k».proof.Proof.Gen.InBwdIdeal.Value
public import proofs.«01_k».proof.Proof.Gen.InGradIdeal.Read
public import Idealize.ShloMosaic.Lib.Pipeline.ValueKit
public import Idealize.ShloMosaic.Lib.StableHlo.RunRead
public import proofs.«01_k».proof.Proof.Reals
public import proofs.«01_k».proof.Proof.InHost

@[expose] public section

set_option maxRecDepth 16384

noncomputable section

open Idealize.ShloMosaic Idealize.ShloMosaic.TcCoe Idealize.SL.Sem
open Idealize.ShloMosaic.Pipeline (Dat)
open scoped BigOperators

namespace Cert.InBwdIdeal.Value

open Cert.InBwdIdeal Cert.InBwdIdeal.Gen Cert.Reals
open Cert.InGradIdeal.Read

/-- A rotation table's lane: `C` on the first sixteen lanes of a head, `o` on the others. -/
def lane (a b : Fin 8 → EReal) (o : EReal) (k : ℕ) : EReal :=
  if h : k < 8 then a ⟨k, h⟩ else if h : k - 8 < 8 then b ⟨k - 8, h⟩ else o
/-- The rotation's transpose on the lanes of a head. -/
def turn {n : ℕ} (hn : 64 ∣ n) (C S : Fin 8 → EReal) (d : Fin n → EReal) (l : Fin n) : EReal :=
  if h : l.val % 64 < 8 then d l * C ⟨l.val % 64, h⟩ + d ⟨l.val + 8, by omega⟩ * S ⟨l.val % 64, h⟩
  else if h : l.val % 64 - 8 < 8 then d l * C ⟨l.val % 64 - 8, h⟩ + -(d ⟨l.val - 8, by omega⟩ * S ⟨l.val % 64 - 8, h⟩)
  else d l
theorem turn_real {n : ℕ} (hn : 64 ∣ n) {C S : Fin 8 → EReal} {d : Fin n → EReal} (hC : ∀ i, IsReal (C i)) (hS : ∀ i, IsReal (S i))
    (hd : ∀ l, IsReal (d l)) (l : Fin n) : IsReal (turn hn C S d l) := by
  unfold turn
  split_ifs
  · exact ((hd _).mul (hC _)).add ((hd _).mul (hS _))
  · exact ((hd _).mul (hC _)).add ((hd _).mul (hS _)).neg
  · exact hd _
/-- The projection's cotangent: the four sections of its columns side by side. -/
def sections (C S : Fin 8 → EReal) (u q : Fin 512 → EReal) (k v : Fin 128 → EReal) (l : Fin 1280) : EReal :=
  if h : l.val < 512 then u ⟨l.val, h⟩ else if h : l.val - 512 < 512 then turn (by decide) C S q ⟨l.val - 512, h⟩ else
    if h : l.val - 512 - 512 < 128 then turn (by decide) C S k ⟨l.val - 512 - 512, h⟩ else v ⟨l.val - 512 - 512 - 128, by omega⟩
theorem sections_real {C S : Fin 8 → EReal} {u q : Fin 512 → EReal} {k v : Fin 128 → EReal} (hC : ∀ i, IsReal (C i)) (hS : ∀ i, IsReal (S i))
    (hu : ∀ i, IsReal (u i)) (hq : ∀ i, IsReal (q i)) (hk : ∀ i, IsReal (k i)) (hv : ∀ i, IsReal (v i)) (l : Fin 1280) : IsReal (sections C S u q k v l) := by
  unfold sections
  split_ifs
  · exact hu _
  · exact turn_real _ hC hS hq _
  · exact turn_real _ hC hS hk _
  · exact hv _
theorem below16 : ∀ l : Fin 512, IntOp.cmpi CmpIPredicate.slt (IntOp.andi (BitVec.ofNat 32 l.val) 63#32) 16#32 = if l.val % 64 < 16 then 1 else 0 := by decide +kernel
theorem below8 : ∀ l : Fin 512, IntOp.cmpi CmpIPredicate.slt (IntOp.andi (BitVec.ofNat 32 l.val) 63#32) 8#32 = if l.val % 64 < 8 then 1 else 0 := by decide +kernel
/-- A lane's word of the kernel's rotation. -/
theorem turn_word {n : ℕ} (hn : 64 ∣ n) (h : n ≤ 512) (C S : Fin 8 → EReal) (d : Fin n → EReal) (l i j : Fin n)
    (hi : l.val % 64 < 8 → i.val = l.val + 8) (hj : ¬ l.val % 64 < 8 → j.val = l.val - 8) :
    d l * lane C C 1 (l.val % 64) + Scalar.select (IntOp.cmpi CmpIPredicate.slt (IntOp.andi (BitVec.ofNat 32 l.val) 63#32) 8#32)
      (d i * lane (fun k => -S k) S 0 (i.val % 64))
      (Scalar.select (IntOp.cmpi CmpIPredicate.slt (IntOp.andi (BitVec.ofNat 32 l.val) 63#32) 16#32) (d j * lane (fun k => -S k) S 0 (j.val % 64)) 0) =
    turn hn C S d l := by
  rw [below8 ⟨l.val, by omega⟩, below16 ⟨l.val, by omega⟩]
  simp only [Scalar.select, turn]
  by_cases h1 : l.val % 64 < 8
  · have e : i = ⟨l.val + 8, by omega⟩ := Fin.ext (hi h1)
    subst e
    have e' : (l.val + 8) % 64 = l.val % 64 + 8 := by omega
    simp only [if_pos h1, dif_pos h1, lane, e', if_pos]
    rw [dif_neg (by omega), dif_pos (by omega)]
    rfl
  · have e : j = ⟨l.val - 8, by omega⟩ := Fin.ext (hj h1)
    subst e
    by_cases h2 : l.val % 64 - 8 < 8
    · have h3 : l.val % 64 < 16 := by omega
      have e' : (l.val - 8) % 64 = l.val % 64 - 8 := by omega
      simp only [h1, h2, h3, if_true, if_false, dite_true, dite_false, lane, e']
      simp [mul_neg]
    · have h3 : ¬ l.val % 64 < 16 := by omega
      simp only [h1, h2, h3, if_false, dite_false, lane]
      simp
section
variable (cs sn : FVec Ideal S256x128 .f32) (r : Fin 256) (C S : Fin 8 → EReal)
  (hc : ∀ l : Fin 128, cs (ix2 r l) = lane C C 1 (l.val % 64)) (hs : ∀ l : Fin 128, sn (ix2 r l) = lane (fun k => -S k) S 0 (l.val % 64))
include hc hs
theorem pay7_turn (d : FVec Ideal S256x512 .f32) (l : Fin 512) : k0_pay7 (F := Ideal) cs sn d (ix2 r l) = turn (by decide) C S (fun k => d (ix2 r k)) l := by
  have four (f : Fin 128 → EReal) (k : Fin 512) (g : ℕ → EReal) (hg : ∀ k : Fin 128, f k = g (k.val % 64)) :
      (if h : k.val < 128 then f ⟨k.val, h⟩ else if h : k.val - 128 < 128 then f ⟨k.val - 128, h⟩ else
        if h : k.val - 128 - 128 < 128 then f ⟨k.val - 128 - 128, h⟩ else f ⟨k.val - 128 - 128 - 128, by omega⟩) = g (k.val % 64) := by
    split_ifs <;> rw [hg] <;> refine congrArg g ?_
    · show (k.val - 128) % 64 = _
      omega
    · show (k.val - 128 - 128) % 64 = _
      omega
    · show (k.val - 128 - 128 - 128) % 64 = _
      omega
  refine Eq.trans ?_ (turn_word (by decide) le_rfl C S (fun k => d (ix2 r k)) l ⟨(l.val + 512 - 504) % 512, by omega⟩ ⟨(l.val + 512 - 8) % 512, by omega⟩ (fun h => ?_) fun h => ?_)
  · rw [← four (fun k => cs (ix2 r k)) l _ hc, ← four (fun k => sn (ix2 r k)) ⟨(l.val + 512 - 504) % 512, by omega⟩ _ hs, ← four (fun k => sn (ix2 r k)) ⟨(l.val + 512 - 8) % 512, by omega⟩ _ hs]
    pointwise [k0_pay7, k0_pay4, k0_pay5]
  · show (l.val + 512 - 504) % 512 = _
    omega
  · show (l.val + 512 - 8) % 512 = _
    omega
variable (d : FVec Ideal S256x128 .f32) (u : FVec Ideal S256x512 .f32) (q : FVec Ideal S256x512 .f32) (v : FVec Ideal S256x128 .f32)
theorem pay13_turn (l : Fin 1280) : k0_pay13 (F := Ideal) (k0_pay6 (F := Ideal) u) (k0_pay7 (F := Ideal) cs sn q) (k0_pay8 (F := Ideal) cs d) (k0_pay9 (F := Ideal) sn d) k0_pay10 k0_pay11 (k0_pay12 (F := Ideal) sn d) (Scalar.ofBits .f32 0x00000000#32) v (ix2 r l) =
    sections C S (fun k => u (ix2 r k)) (fun k => q (ix2 r k)) (fun k => d (ix2 r k)) (fun k => v (ix2 r k)) l := by
  unfold sections
  have w (l : Fin 128) := (turn_word (by decide) (by decide) C S (fun k => d (ix2 r k)) l ⟨(l.val + 128 - 120) % 128, by omega⟩ ⟨(l.val + 128 - 8) % 128, by omega⟩
    (fun h => by show (l.val + 128 - 120) % 128 = _; omega) fun h => by show (l.val + 128 - 8) % 128 = _; omega).symm
  simp only [w, ← pay7_turn cs sn r C S hc hs]
  pointwise [k0_pay13, k0_pay6, k0_pay8, k0_pay9, k0_pay10, k0_pay11, k0_pay12, k0_pay4, k0_pay5]
  simp only [hc, hs]
end
section Reference
variable (x1 : IVec S2048 32) (x2 : FVec Ideal S1x1024 .f32) (x3 : FVec Ideal S1x1024x1280 .f32) (x0 x4 : FVec Ideal S2048x1024 .f32) (x5 x6 : FVec Ideal S2048x512 .f32) (x7 x8 : FVec Ideal S2048x128 .f32)
theorem v134_turn (r : Fin 2048) (h : Fin 8) (e : Fin 64) : val_main_v134 (F := Ideal) x1 x6 (ix3 r h e) =
    turn (by decide) (fun i => val_main_v36 (F := Ideal) x1 (ix2 r i)) (fun i => val_main_v38 (F := Ideal) x1 (ix2 r i)) (fun k => x6 (ix2 r k)) ⟨h.val * 64 + e.val, by omega⟩ := by
  have e' : (h.val * 64 + e.val) % 64 = e.val := by omega
  simp only [turn, e']
  pointwise [val_main_v134, val_main_v133, val_main_v132, val_main_v131, val_main_v119, val_main_v118, val_main_v130, val_main_v127, val_main_v129,val_main_v121,val_main_v123,val_main_v126,val_main_v124, val_main_v115,val_main_v116,val_main_v117,val_main_v120,val_main_v122,val_main_v125,val_main_v128,val_main_v37,val_main_v39, val_main_cst_14, val_main_cst_15, val_main_cst_16]
  by_cases h1 : e.val < 8
  · have k1 : h.val * 64 + (8 + e.val) = h.val * 64 + e.val + 8 := by omega
    rw [dif_neg (by omega), dif_neg (by omega), dif_pos h1, dif_pos h1, zero_add, zero_add, add_comm (G := EReal)]
    simp only [k1]
  · by_cases h2 : e.val - 8 < 8
    · have k1 : h.val * 64 + (8 + (e.val - 8)) = h.val * 64 + e.val := by omega
      have k2 : h.val * 64 + (e.val - 8) = h.val * 64 + e.val - 8 := by omega
      rw [dif_neg (by omega), dif_pos ⟨by omega, h2⟩, dif_neg h1, dif_neg h1, dif_pos h2, zero_add, add_zero, EReal.neg_mul]
      simp only [k1, k2]
    · have k1 : h.val * 64 + (16 + (e.val - 16)) = h.val * 64 + e.val := by omega
      rw [dif_pos ⟨by omega, by omega⟩, dif_neg (by omega), dif_neg h1, dif_neg h1, dif_neg h2, add_zero, add_zero]
      simp only [k1]
theorem v111_turn (r : Fin 2048) (h : Fin 2) (e : Fin 64) : val_main_v111 (F := Ideal) x1 x7 (ix3 r h e) =
    turn (by decide) (fun i => val_main_v36 (F := Ideal) x1 (ix2 r i)) (fun i => val_main_v38 (F := Ideal) x1 (ix2 r i)) (fun k => x7 (ix2 r k)) ⟨h.val * 64 + e.val, by omega⟩ := by
  have e' : (h.val * 64 + e.val) % 64 = e.val := by omega
  have c : val_main_v36 (F := Ideal) x1 = val_main_v71 (F := Ideal) x1 := rfl
  have s : val_main_v38 (F := Ideal) x1 = val_main_v73 (F := Ideal) x1 := rfl
  simp only [turn, e', c, s]
  pointwise [val_main_v111, val_main_v110, val_main_v109, val_main_v108, val_main_v96, val_main_v95, val_main_v107, val_main_v104, val_main_v106,val_main_v98,val_main_v100,val_main_v103,val_main_v101, val_main_v92,val_main_v93,val_main_v94,val_main_v97,val_main_v99,val_main_v102,val_main_v105,val_main_v72,val_main_v74, val_main_cst_10, val_main_cst_11, val_main_cst_12]
  by_cases h1 : e.val < 8
  · have k1 : h.val * 64 + (8 + e.val) = h.val * 64 + e.val + 8 := by omega
    rw [dif_neg (by omega), dif_neg (by omega), dif_pos h1, dif_pos h1, zero_add, zero_add, add_comm (G := EReal)]
    simp only [k1]
  · by_cases h2 : e.val - 8 < 8
    · have k1 : h.val * 64 + (8 + (e.val - 8)) = h.val * 64 + e.val := by omega
      have k2 : h.val * 64 + (e.val - 8) = h.val * 64 + e.val - 8 := by omega
      rw [dif_neg (by omega), dif_pos ⟨by omega, h2⟩, dif_neg h1, dif_neg h1, dif_pos h2, zero_add, add_zero, EReal.neg_mul]
      simp only [k1, k2]
    · have k1 : h.val * 64 + (16 + (e.val - 16)) = h.val * 64 + e.val := by omega
      rw [dif_pos ⟨by omega, by omega⟩, dif_neg (by omega), dif_neg h1, dif_neg h1, dif_neg h2, add_zero, add_zero]
      simp only [k1]
theorem v139_apply (r : Fin 2048) (l : Fin 1280) : val_main_v139 (F := Ideal) x1 x5 x6 x7 x8 (ix2 r l) =
    sections (fun i => val_main_v36 (F := Ideal) x1 (ix2 r i)) (fun i => val_main_v38 (F := Ideal) x1 (ix2 r i)) (fun k => x5 (ix2 r k))
      (fun k => x6 (ix2 r k)) (fun k => x7 (ix2 r k)) (fun k => x8 (ix2 r k)) l := by
  have z : val_main_cst_9 (F := Ideal) (Shape.Idx.first Cert.InGradIdeal.Gen.h_S_) = (0 : EReal) := Ideal.ofBits_zero_f32
  have z1 : val_main_cst_13 (F := Ideal) (Shape.Idx.first Cert.InGradIdeal.Gen.h_S_) = (0 : EReal) := Ideal.ofBits_zero_f32
  have z2 : val_main_cst_17 (F := Ideal) (Shape.Idx.first Cert.InGradIdeal.Gen.h_S_) = (0 : EReal) := Ideal.ofBits_zero_f32
  have z3 : val_main_cst_18 (F := Ideal) (Shape.Idx.first Cert.InGradIdeal.Gen.h_S_) = (0 : EReal) := Ideal.ofBits_zero_f32
  pointwise [val_main_v139, val_main_v138, val_main_v137,val_main_v136, val_main_v135, val_main_v114, val_main_v113, val_main_v112, val_main_v91]
  simp only [v111_turn, v134_turn, z, z1, z2, z3, sections]
  have d (n : ℕ) : n / 64 * 64 + n % 64 = n := by omega
  simp only [d]
  by_cases h1 : l.val < 512
  · rw [dif_neg (by omega), dif_neg (by omega), dif_neg (by omega), dif_pos h1, dif_pos h1, zero_add, zero_add, zero_add]
  · by_cases h2 : l.val - 512 < 512
    · rw [dif_neg (by omega), dif_neg (by omega), dif_pos ⟨by omega, h2⟩, dif_neg h1, dif_neg h1, dif_pos h2, zero_add, zero_add, add_zero]
    · by_cases h3 : l.val - 512 - 512 < 128
      · have k1 : l.val - 1024 = l.val - 512 - 512 := by omega
        rw [dif_neg (by omega), dif_pos ⟨by omega, by omega⟩, dif_neg (by omega), dif_neg h1, dif_neg h1, dif_neg h2, dif_pos h3, zero_add, add_zero, add_zero]
        simp only [k1]
      · have k1 : l.val - 1152 = l.val - 512 - 512 - 128 := by omega
        rw [dif_pos ⟨by omega, by omega⟩, dif_neg (by omega), dif_neg (by omega), dif_neg h1, dif_neg h1, dif_neg h2, dif_neg h3, add_zero, add_zero, add_zero]
        simp only [k1]
theorem v140_apply (r : Fin 2048) (l : Fin 1024) : val_main_v140 (F := Ideal) x1 x3 x5 x6 x7 x8 (ix2 r l) =
    ∑ k : Fin 1280, val_main_v139 (F := Ideal) x1 x5 x6 x7 x8 (ix2 r k) * x3 (ix3 0 l k) := by
  pointwise [val_main_v140, val_main_v17]
abbrev W : EReal := Ideal.ofBits .f32 0x44800000#32
abbrev E : EReal := Ideal.ofBits .f32 0x358637BD#32
abbrev H : EReal := Ideal.ofBits .f32 0xBF000000#32
theorem v163_apply (l : Fin 1024) : val_main_v163 (F := Ideal) x0 x1 x3 x5 x6 x7 x8 (ix2 0 l) =
    ∑ r : Fin 2048, x0 (ix2 r l) * Ideal.rsqrt (var W E fun k => x0 (ix2 r k)) * val_main_v140 (F := Ideal) x1 x3 x5 x6 x7 x8 (ix2 r l) := by
  pointwise [val_main_v163, val_main_v141,val_main_v142, val_main_v143, val_main_v146, val_main_v13, val_main_v12, val_main_v8, val_main_v7, val_main_v6, val_main_v5, val_main_v4, val_main_v3, val_main_v2, val_main_v1, val_main_cst, val_main_cst_0, val_main_cst_1, val_main_cst_19, val_main_cst_20, var]
  exact Fin.sum_univ_one _
theorem v160_apply (r : Fin 2048) (l : Fin 1024) : val_main_v160 (F := Ideal) x0 x1 x2 x3 x5 x6 x7 x8 (ix2 r l) =
    normGrad W E H (fun k => x0 (ix2 r k)) (fun k => val_main_v140 (F := Ideal) x1 x3 x5 x6 x7 x8 (ix2 r k) * x2 (ix2 0 k)) l := by
  pointwise [val_main_v160, val_main_v159, val_main_v158, val_main_v157, val_main_v156, val_main_v155, val_main_v154, val_main_v153, val_main_v152, val_main_v151, val_main_v150, val_main_v149, val_main_v148, val_main_v147, val_main_v145, val_main_v144, val_main_v14, val_main_v0, val_main_v11, val_main_v10, val_main_v9, val_main_v8, val_main_v7, val_main_v6, val_main_v5, val_main_v4, val_main_v3, val_main_v2, val_main_v1, val_main_cst, val_main_cst_0, val_main_cst_1, val_main_cst_2, val_main_cst_21, val_main_cst_22, val_main_cst_23, normGrad, normTurn, var]
  simp only [Fin.sum_univ_one]
end Reference
theorem pay3_apply (x : FVec Ideal S256x1024 .f32) (g : FVec Ideal S1x1024 .f32) (d h : FVec Ideal S256x1024 .f32) (v6 : FVec Ideal S256x512 .f32) (v28 : FVec Ideal S256x512 .f32) (v30 : FVec Ideal S256x128 .f32) (v31 : FVec Ideal S256x128 .f32) (v34 : IVec S1x128 32) (v36 : IVec S1x128 1) (v37 : FVec Ideal S256x128 .f32) (cst_13 : EReal) (v49 : FVec Ideal S256x128 .f32) (v53 : FVec Ideal S1280x1024 .bf16)
    (e : k0_pay14 (F := Ideal) v6 v28 v30 v31 v34 v36 v37 cst_13 v49 v53 = d)
    (r : Fin 256) (l : Fin 1024) : k0_pay3 (F := Ideal) (k0_pay17 (F := Ideal) v6 v28 v30 v31 v34 v36 v37 cst_13 v49 v53 x g) (k0_pay18 (F := Ideal) x) h (ix2 r l) =
      h (ix2 r l) + normBack W E (fun k => x (ix2 r k)) (fun k => d (ix2 r k) * g (ix2 0 k)) l := by
  subst e
  pointwise [k0_pay3, k0_pay15, k0_pay16, k0_pay17, k0_pay18, normBack, var]
theorem pay1_apply (d x : FVec Ideal S256x1024 .f32) (l : Fin 1024) : k0_pay1 (F := Ideal) d (k0_pay16 (F := Ideal) x) (ix2 0 l) =
      ∑ r : Fin 256, d (ix2 r l) * (x (ix2 r l) * Ideal.rsqrt (var W E fun k => x (ix2 r k))) := by
  pointwise [k0_pay1, k0_pay15, k0_pay16, var]
theorem pay2_apply (d x : FVec Ideal S256x1024 .f32) (p : FVec Ideal S1x1024 .f32) (j : S1x1024.Idx) : k0_pay2 (F := Ideal) d x p j = p j + k0_pay1 (F := Ideal) d x j := by
  pointwise [k0_pay2]

theorem idx : ∀ t : Fin cfg0.N, (win0_0.index t = ![0, t.val] ∧ win0_1.index t = ![t.val, 0] ∧ win0_2.index t = ![t.val, 0]
    ∧ win0_3.index t = ![t.val, 0] ∧ win0_4.index t = ![t.val, 0] ∧ win0_5.index t = ![t.val, 0])
    ∧ win0_6.index t = ![t.val, 0] ∧ win0_7.index t = ![t.val, 0] ∧ win0_8.index t = ![0, 0] ∧ win0_9.index t = ![0, 0]
    ∧ win0_10.index t = ![t.val, 0] ∧ win0_11.index t = ![t.val, 0] ∧ win0_12.index t = ![0, 0] := (by decide +kernel : ∀ t : Fin grid0.N, _)
theorem t_lt (t : Fin cfg0.N) : t.val < 8 := lt_of_lt_of_eq t.isLt N_0
/-- Row `r` of block `t`. -/
def row (t : Fin cfg0.N) (r : Fin 256) : Fin 2048 := ⟨t.val * 256 + r.val, by have := t_lt t; omega⟩
theorem emb0 (t : Fin cfg0.N) (r : Fin 256) (k : Fin 512) : ((cfg0.win 0).blk t).view.emb (ix2 r k) =
    ix2 r (⟨t.val * 512 + k.val, by have := t_lt t; omega⟩ : Fin 4096) := by
  blk_ext [idx t]
theorem emb1 (t : Fin cfg0.N) (r : Fin 256) (k : Fin 512) : ((cfg0.win 1).blk t).view.emb (ix2 r k) = ix2 (row t r) k := by
  blk_ext [idx t, row]
theorem emb2 (t : Fin cfg0.N) (r : Fin 256) (k : Fin 128) : ((cfg0.win 2).blk t).view.emb (ix2 r k) = ix2 (row t r) k := by
  blk_ext [idx t, row]
theorem emb3 (t : Fin cfg0.N) (r : Fin 256) (k : Fin 128) : ((cfg0.win 3).blk t).view.emb (ix2 r k) = ix2 (row t r) k := by
  blk_ext [idx t, row]
theorem emb4 (t : Fin cfg0.N) (r : Fin 256) (k : Fin 128) : ((cfg0.win 4).blk t).view.emb (ix2 r k) = ix2 (row t r) k := by
  blk_ext [idx t, row]
theorem emb5 (t : Fin cfg0.N) (r : Fin 256) (k : Fin 128) : ((cfg0.win 5).blk t).view.emb (ix2 r k) = ix2 (row t r) k := by
  blk_ext [idx t, row]
theorem emb6 (t : Fin cfg0.N) (r : Fin 256) (k : Fin 1024) : ((cfg0.win 6).blk t).view.emb (ix2 r k) = ix2 (row t r) k := by
  blk_ext [idx t, row]
theorem emb7 (t : Fin cfg0.N) (r : Fin 256) (k : Fin 1024) : ((cfg0.win 7).blk t).view.emb (ix2 r k) = ix2 (row t r) k := by
  blk_ext [idx t, row]
theorem emb8 (t : Fin cfg0.N) (k : Fin 1024) : ((cfg0.win 8).blk t).view.emb (ix2 0 k) = ix2 0 k := by
  blk_ext [idx t]
theorem emb9 (t : Fin cfg0.N) (r : Fin 1280) (k : Fin 1024) : ((cfg0.win 9).blk t).view.emb (ix2 r k) = ix2 r k := by
  blk_ext [idx t]
theorem emb10 (t : Fin cfg0.N) (r : Fin 256) (k : Fin 1280) : ((cfg0.win 10).blk t).view.emb (ix2 r k) = ix2 (row t r) k := by
  blk_ext [idx t, row]
theorem emb11 (t : Fin cfg0.N) (r : Fin 256) (k : Fin 1024) : ((cfg0.win 11).blk t).view.emb (ix2 r k) = ix2 (row t r) k := by
  blk_ext [idx t, row]

variable (m : (ℓ : Loc nD τ sig) → Buf (Elt Ideal) ℓ) (c : Dev nD)
abbrev X0 : FVec Ideal S2048x1024 .f32 := m ((c : Thread nD τ).loc main_arg0)
abbrev X2 : FVec Ideal S1x1024 .f32 := m ((c : Thread nD τ).loc main_arg2)
abbrev X3 : FVec Ideal S1x1024x1280 .f32 := m ((c : Thread nD τ).loc main_arg3)
abbrev X4 : FVec Ideal S2048x1024 .f32 := m ((c : Thread nD τ).loc main_arg4)
abbrev X5 : FVec Ideal S2048x512 .f32 := m ((c : Thread nD τ).loc main_arg5)
abbrev X6 : FVec Ideal S2048x512 .f32 := m ((c : Thread nD τ).loc main_arg6)
abbrev X7 : FVec Ideal S2048x128 .f32 := m ((c : Thread nD τ).loc main_arg7)
abbrev X8 : FVec Ideal S2048x128 .f32 := m ((c : Thread nD τ).loc main_arg8)

theorem du_block (t : Fin cfg0.N) (r : Fin 256) (k : Fin 512) : iblk m c 0 t (ix2 r k) = X5 m c (ix2 (row t r) k) := by
  show V m c main_v30 (((cfg0.win 0).blk t).view.emb (ix2 r k)) = _
  rw [emb0]
  refine (duT m c _ _).trans ?_
  have := t_lt t
  refine congrArg _ (congrArg₂ ix2 (Fin.ext ?_) (Fin.ext ?_))
  · show (t.val * 512 + k.val) / 512 * 256 + r.val = t.val * 256 + r.val
    omega
  · show (t.val * 512 + k.val) % 512 = k.val
    omega
theorem dq_block (t : Fin cfg0.N) (r : Fin 256) (k : Fin 512) : iblk m c 1 t (ix2 r k) = X6 m c (ix2 (row t r) k) := by
  show V m c main_arg6 (((cfg0.win 1).blk t).view.emb (ix2 r k)) = _
  rw [emb1, V_main_arg6]
theorem dk_block (t : Fin cfg0.N) (r : Fin 256) (k : Fin 128) : iblk m c 2 t (ix2 r k) = X7 m c (ix2 (row t r) k) := by
  show V m c main_arg7 (((cfg0.win 2).blk t).view.emb (ix2 r k)) = _
  rw [emb2, V_main_arg7]
theorem dv_block (t : Fin cfg0.N) (r : Fin 256) (k : Fin 128) : iblk m c 3 t (ix2 r k) = X8 m c (ix2 (row t r) k) := by
  show V m c main_arg8 (((cfg0.win 3).blk t).view.emb (ix2 r k)) = _
  rw [emb3, V_main_arg8]
theorem cos_block (t : Fin cfg0.N) (r : Fin 256) (l : Fin 128) : iblk m c 4 t (ix2 r l) =
    lane (cosA m c (row t r)) (cosA m c (row t r)) 1 (l.val % 64) := by
  show V m c main_v24 (((cfg0.win 4).blk t).view.emb (ix2 r l)) = _
  rw [emb4]
  exact cosT m c _ _
theorem sin_block (t : Fin cfg0.N) (r : Fin 256) (l : Fin 128) : iblk m c 5 t (ix2 r l) =
    lane (fun i => -sinA m c (row t r) i) (sinA m c (row t r)) 0 (l.val % 64) := by
  show V m c main_v27 (((cfg0.win 5).blk t).view.emb (ix2 r l)) = _
  rw [emb5]
  exact sinT m c _ _
theorem x_block (t : Fin cfg0.N) (r : Fin 256) (k : Fin 1024) : iblk m c 6 t (ix2 r k) = X0 m c (ix2 (row t r) k) := by
  show V m c main_arg0 (((cfg0.win 6).blk t).view.emb (ix2 r k)) = _
  rw [emb6, V_main_arg0]
theorem dh_block (t : Fin cfg0.N) (r : Fin 256) (k : Fin 1024) : iblk m c 7 t (ix2 r k) = X4 m c (ix2 (row t r) k) := by
  show V m c main_arg4 (((cfg0.win 7).blk t).view.emb (ix2 r k)) = _
  rw [emb7, V_main_arg4]
theorem g_block (t : Fin cfg0.N) (k : Fin 1024) : iblk m c 8 t (ix2 0 k) = X2 m c (ix2 0 k) := by
  show V m c main_arg2 (((cfg0.win 8).blk t).view.emb (ix2 0 k)) = _
  rw [emb8, V_main_arg2]
theorem w_block (t : Fin cfg0.N) (r : Fin 1280) (k : Fin 1024) : iblk m c 9 t (ix2 r k) = X3 m c (ix3 0 k r) := by
  show V m c main_v33 (((cfg0.win 9).blk t).view.emb (ix2 r k)) = _
  rw [emb9]
  exact wT m c _ _

/-- The projection's cotangent at point `t`. -/
abbrev dproj (t : Fin cfg0.N) : FVec Ideal S256x1280 .bf16 :=
  k0_pay13 (F := Ideal) (k0_pay6 (F := Ideal) (iblk m c 0 t)) (k0_pay7 (F := Ideal) (iblk m c 4 t) (iblk m c 5 t) (iblk m c 1 t)) (k0_pay8 (F := Ideal) (iblk m c 4 t) (iblk m c 2 t))
    (k0_pay9 (F := Ideal) (iblk m c 5 t) (iblk m c 2 t)) k0_pay10 k0_pay11 (k0_pay12 (F := Ideal) (iblk m c 5 t) (iblk m c 2 t)) (Scalar.ofBits .f32 0x00000000#32) (iblk m c 3 t)
/-- The normalised rows' cotangent at point `t`. -/
abbrev dnorm (t : Fin cfg0.N) : FVec Ideal S256x1024 .f32 :=
  k0_pay14 (F := Ideal) (k0_pay6 (F := Ideal) (iblk m c 0 t)) (k0_pay7 (F := Ideal) (iblk m c 4 t) (iblk m c 5 t) (iblk m c 1 t)) (k0_pay8 (F := Ideal) (iblk m c 4 t) (iblk m c 2 t))
    (k0_pay9 (F := Ideal) (iblk m c 5 t) (iblk m c 2 t)) k0_pay10 k0_pay11 (k0_pay12 (F := Ideal) (iblk m c 5 t) (iblk m c 2 t)) (Scalar.ofBits .f32 0x00000000#32) (iblk m c 3 t) (iblk m c 9 t)
abbrev dprojRef := val_main_v139 (F := Ideal) (X1 m c) (X5 m c) (X6 m c) (X7 m c) (X8 m c)
abbrev dnormRef := val_main_v140 (F := Ideal) (X1 m c) (X3 m c) (X5 m c) (X6 m c) (X7 m c) (X8 m c)
theorem dproj_point (t : Fin cfg0.N) (r : Fin 256) (l : Fin 1280) : dproj m c t (ix2 r l) = dprojRef m c (ix2 (row t r) l) := by
  refine (pay13_turn _ _ r _ _ (cos_block m c t r) (sin_block m c t r) _ _ _ _ l).trans ((v139_apply (X1 m c) (X5 m c) (X6 m c) (X7 m c) (X8 m c) (row t r) l).trans ?_).symm
  simp only [du_block, dq_block, dk_block, dv_block]
theorem dnorm_point (t : Fin cfg0.N) (r : Fin 256) (l : Fin 1024) : dnorm m c t (ix2 r l) = dnormRef m c (ix2 (row t r) l) := by
  have e : dnorm m c t (ix2 r l) = ∑ k : Fin 1280, dproj m c t (ix2 r k) * iblk m c 9 t (ix2 k l) := by
    unfold dnorm dproj
    pointwise [k0_pay14]
  refine e.trans ?_
  simp only [dproj_point, w_block]
  exact (v140_apply (X1 m c) (X3 m c) (X5 m c) (X6 m c) (X7 m c) (X8 m c) (row t r) l).symm

/-- Every argument the gradient multiplies is an array of real numbers. -/
structure Finite : Prop where
  x : ∀ i, IsReal (X0 m c i)
  g : ∀ i, IsReal (X2 m c i)
  w : ∀ i, IsReal (X3 m c i)
  du : ∀ i, IsReal (X5 m c i)
  dq : ∀ i, IsReal (X6 m c i)
  dk : ∀ i, IsReal (X7 m c i)
  dv : ∀ i, IsReal (X8 m c i)

variable {m c}

theorem dnorm_real (h : Finite m c) (r : Fin 2048) (l : Fin 1024) : IsReal (dnormRef m c (ix2 r l)) := by
  unfold dnormRef
  rw [v140_apply]
  refine IsReal.sum fun k _ => IsReal.mul ?_ (h.w _)
  rw [v139_apply]
  exact sections_real (cosA_real m c r) (sinA_real m c r) (fun _ => h.du _) (fun _ => h.dq _) (fun _ => h.dk _) (fun _ => h.dv _) k

theorem final10 : (dats m 0 c).arrAt 10 (cfgs 0).N = val_main_v161 (F := Ideal) (X1 m c) (X5 m c) (X6 m c) (X7 m c) (X8 m c) := by
  refine (dats m 0 c).arrAt_eq_of_covers 10 _ (by decide +kernel) fun t hf y => ?_
  have key : dproj m c t y = val_main_v161 (F := Ideal) (X1 m c) (X5 m c) (X6 m c) (X7 m c) (X8 m c) (((cfg0.win 10).blk t).view.emb y) := by
    idx_vars y
    refine (dproj_point m c t y0 y1).trans ?_
    rw [emb10]; rfl
  blk_simp; rw [after0_10]
  by_cases h0 : t.val % 8 = 0
  · rw [outsAt0_A m c t h0 (by have := t_lt t; omega)]; frame_out; exact key
  · rw [outsAt0_B m c t h0 (by omega)]; frame_out; exact key

theorem final11 (h : Finite m c) : (dats m 0 c).arrAt 11 (cfgs 0).N =
    val_main_v162 (F := Ideal) (X0 m c) (X1 m c) (X2 m c) (X3 m c) (X4 m c) (X5 m c) (X6 m c) (X7 m c) (X8 m c) := by
  refine (dats m 0 c).arrAt_eq_of_covers 11 _ (by decide +kernel) fun t hf y => ?_
  have key : k0_pay3 (F := Ideal) (k0_pay17 (F := Ideal) (k0_pay6 (F := Ideal) (iblk m c 0 t)) (k0_pay7 (F := Ideal) (iblk m c 4 t) (iblk m c 5 t) (iblk m c 1 t)) (k0_pay8 (F := Ideal) (iblk m c 4 t) (iblk m c 2 t))
    (k0_pay9 (F := Ideal) (iblk m c 5 t) (iblk m c 2 t)) k0_pay10 k0_pay11 (k0_pay12 (F := Ideal) (iblk m c 5 t) (iblk m c 2 t)) (Scalar.ofBits .f32 0x00000000#32) (iblk m c 3 t) (iblk m c 9 t)
      (iblk m c 6 t) (iblk m c 8 t)) (k0_pay18 (F := Ideal) (iblk m c 6 t)) (iblk m c 7 t) y =
      val_main_v162 (F := Ideal) (X0 m c) (X1 m c) (X2 m c) (X3 m c) (X4 m c) (X5 m c) (X6 m c) (X7 m c) (X8 m c) (((cfg0.win 11).blk t).view.emb y) := by
    idx_vars y
    refine (pay3_apply _ _ (dnorm m c t) _ _ _ _ _ _ _ _ _ _ _ rfl y0 y1).trans ?_
    rw [emb11]
    have e : val_main_v162 (F := Ideal) (X0 m c) (X1 m c) (X2 m c) (X3 m c) (X4 m c) (X5 m c) (X6 m c) (X7 m c) (X8 m c) (ix2 (row t y0) y1) =
        X4 m c (ix2 (row t y0) y1) + val_main_v160 (F := Ideal) (X0 m c) (X1 m c) (X2 m c) (X3 m c) (X5 m c) (X6 m c) (X7 m c) (X8 m c) (ix2 (row t y0) y1) := rfl
    rw [e, v160_apply]
    simp only [x_block, dh_block, g_block, dnorm_point, W, E, H, word_1024, word_eps, word_neg_half]
    rw [normBack_eq_normGrad (by norm_num) eps_pos (fun k => h.x _) (fun k => (dnorm_real h _ _).mul (h.g _)) y1]
  blk_simp; rw [after0_11]
  by_cases h0 : t.val % 8 = 0
  · rw [outsAt0_A m c t h0 (by have := t_lt t; omega)]; frame_out; exact key
  · rw [outsAt0_B m c t h0 (by omega)]; frame_out; exact key

theorem final12 : (dats m 0 c).arrAt 12 (cfgs 0).N = val_main_v163 (F := Ideal) (X0 m c) (X1 m c) (X3 m c) (X5 m c) (X6 m c) (X7 m c) (X8 m c) := by
  refine (dats m 0 c).arrAt_eq_of_after_last 12 t0_7 (by decide +kernel) _ fun j => ?_
  blk_simp
  rw [after0_12, Pipeline.eq_sum_fin_of_reset_step_apply_last (fun n h => (outsAt0 m c n h).2.2) 8 (fun _ => 0)
    (fun (p : Fin cfg0.N) j => k0_pay1 (F := Ideal) (dnorm m c p) (k0_pay16 (F := Ideal) (iblk m c 6 p)) j)
    (fun t h j => by rw [outsAt0_A m c t h (by have := t_lt t; omega)]; frame_out; rw [zero_add])
    (fun t h j => by rw [outsAt0_B m c t h (by omega)]; frame_out; exact pay2_apply _ _ _ _)
    (le_of_eq N_0) t0_7 rfl j, zero_add]
  idx_vars j
  obtain rfl : j0 = 0 := Subsingleton.elim _ _
  rw [v163_apply]
  simp only [pay1_apply]
  refine Fin.sum_mul_add_congr (S := cfg0.N) (n := 256) fun p r hl => ?_
  simp only [x_block, dnorm_point]
  exact mul_comm (G := EReal) _ _

theorem run (m : (ℓ : Loc nD τ sig) → Buf (Elt Ideal) ℓ) (ρ : Dev nD → PrngReg) (H : ∀ c, Finite m c) :
    θ_run (defs (F := Ideal)) (onTc (τ := τ) (main (F := Ideal))) ⟨m, fun _ => 0, ρ⟩ (fun r => ∀ c : Dev nD,
      (r.2.mem ((c.tc : Thread nD τ).loc main_v34_0) = val_main_v161 (F := Ideal) (X1 m c) (X5 m c) (X6 m c) (X7 m c) (X8 m c)
      ∧ r.2.mem ((c.tc : Thread nD τ).loc main_v34_1) = val_main_v162 (F := Ideal) (X0 m c) (X1 m c) (X2 m c) (X3 m c) (X4 m c) (X5 m c) (X6 m c) (X7 m c) (X8 m c)
      ∧ r.2.mem ((c.tc : Thread nD τ).loc main_v34_2) = val_main_v163 (F := Ideal) (X0 m c) (X1 m c) (X3 m c) (X5 m c) (X6 m c) (X7 m c) (X8 m c))) :=
  (θ_run (defs (F := Ideal)) _ _).mono (fun r h c =>
    ⟨(post10 m r h c).trans final10, (post11 m r h c).trans (final11 (H c)), (post12 m r h c).trans final12⟩) (run_main m ρ)

end Cert.InBwdIdeal.Value
-- ==== Proof.InClaims.lean ====
/- The claims about the input projection's backward call and the gradient it computes. -/
module

public import proofs.«01_k».proof.Defs
public import proofs.«01_k».proof.Proof.Gen.InBwd.Frame
public import proofs.«01_k».proof.Proof.Gen.InGradIdeal.Run
public import proofs.«01_k».proof.Proof.InValue
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

instance in_pre_facts : Cert.Pre_finite_in.Facts where
  bcast_S_S2048x1024 := by decide
  bcast_S_S1x1024 := by decide
  bcast_S_S1x1024x1280 := by decide
  bcast_S_S2048x512 := by decide
  bcast_S_S2048x128 := by decide

theorem in_frame : Cert.quiescent_InBwd := fun m g _ => Cert.InBwd.Gen.frame m g
theorem in_frame_ideal : Cert.quiescent_InBwdIdeal := fun m g _ => Cert.InBwdIdeal.Gen.frame m g
theorem in_frame_ideal_pre : Cert.quiescent_InBwdIdeal_pre_finite_in := fun m g _ => Cert.InBwdIdeal.Gen.frame m g
theorem in_grad_frame : Cert.quiescent_InGradIdeal := fun m g _ => by
  hlo_run
  · simp
  · exact sem_eq_zero_of_no_sems (sig := Cert.InGradIdeal.sig) (by decide) _
theorem in_grad_frame_pre : Cert.quiescent_InGradIdeal_pre_finite_in := fun m g _ => in_grad_frame m g trivial

theorem in_finite {m : (ℓ : Loc Cert.InBwdIdeal.nD Cert.InBwdIdeal.τ Cert.InBwdIdeal.sig) → Buf (Elt Ideal) ℓ}
    (h : Cert.Pre_InBwdIdeal_finite_in m) (c : Dev Cert.InBwdIdeal.nD) : Cert.InBwdIdeal.Value.Finite m c :=
  ⟨Cert.Reals.isReal_of_olt (h c).1, Cert.Reals.isReal_of_olt (h c).2.1, Cert.Reals.isReal_of_olt (h c).2.2.1, Cert.Reals.isReal_of_olt (h c).2.2.2.1, Cert.Reals.isReal_of_olt (h c).2.2.2.2.1, Cert.Reals.isReal_of_olt (h c).2.2.2.2.2.1, Cert.Reals.isReal_of_olt (h c).2.2.2.2.2.2⟩

theorem in_args_161 {x1 y1 : (⟨Cert.InGradIdeal.S2048, .i32⟩ : BufTy).Contents (Elt Ideal)} {x5 y5 : (⟨Cert.InGradIdeal.S2048x512, .f32⟩ : BufTy).Contents (Elt Ideal)} {x6 y6 : (⟨Cert.InGradIdeal.S2048x512, .f32⟩ : BufTy).Contents (Elt Ideal)} {x7 y7 : (⟨Cert.InGradIdeal.S2048x128, .f32⟩ : BufTy).Contents (Elt Ideal)} {x8 y8 : (⟨Cert.InGradIdeal.S2048x128, .f32⟩ : BufTy).Contents (Elt Ideal)}
    (e1 : x1 = y1) (e5 : x5 = y5) (e6 : x6 = y6) (e7 : x7 = y7) (e8 : x8 = y8) :
    Cert.InGradIdeal.Read.val_main_v161 (F := Ideal) x1 x5 x6 x7 x8 = Cert.InGradIdeal.Read.val_main_v161 (F := Ideal) y1 y5 y6 y7 y8 := by
  subst e1 e5 e6 e7 e8; rfl
theorem in_args_162 {x0 y0 : (⟨Cert.InGradIdeal.S2048x1024, .f32⟩ : BufTy).Contents (Elt Ideal)} {x1 y1 : (⟨Cert.InGradIdeal.S2048, .i32⟩ : BufTy).Contents (Elt Ideal)} {x2 y2 : (⟨Cert.InGradIdeal.S1x1024, .f32⟩ : BufTy).Contents (Elt Ideal)} {x3 y3 : (⟨Cert.InGradIdeal.S1x1024x1280, .f32⟩ : BufTy).Contents (Elt Ideal)} {x4 y4 : (⟨Cert.InGradIdeal.S2048x1024, .f32⟩ : BufTy).Contents (Elt Ideal)} {x5 y5 : (⟨Cert.InGradIdeal.S2048x512, .f32⟩ : BufTy).Contents (Elt Ideal)} {x6 y6 : (⟨Cert.InGradIdeal.S2048x512, .f32⟩ : BufTy).Contents (Elt Ideal)} {x7 y7 : (⟨Cert.InGradIdeal.S2048x128, .f32⟩ : BufTy).Contents (Elt Ideal)} {x8 y8 : (⟨Cert.InGradIdeal.S2048x128, .f32⟩ : BufTy).Contents (Elt Ideal)}
    (e0 : x0 = y0) (e1 : x1 = y1) (e2 : x2 = y2) (e3 : x3 = y3) (e4 : x4 = y4) (e5 : x5 = y5) (e6 : x6 = y6) (e7 : x7 = y7) (e8 : x8 = y8) :
    Cert.InGradIdeal.Read.val_main_v162 (F := Ideal) x0 x1 x2 x3 x4 x5 x6 x7 x8 = Cert.InGradIdeal.Read.val_main_v162 (F := Ideal) y0 y1 y2 y3 y4 y5 y6 y7 y8 := by
  subst e0 e1 e2 e3 e4 e5 e6 e7 e8; rfl
theorem in_args_163 {x0 y0 : (⟨Cert.InGradIdeal.S2048x1024, .f32⟩ : BufTy).Contents (Elt Ideal)} {x1 y1 : (⟨Cert.InGradIdeal.S2048, .i32⟩ : BufTy).Contents (Elt Ideal)} {x3 y3 : (⟨Cert.InGradIdeal.S1x1024x1280, .f32⟩ : BufTy).Contents (Elt Ideal)} {x5 y5 : (⟨Cert.InGradIdeal.S2048x512, .f32⟩ : BufTy).Contents (Elt Ideal)} {x6 y6 : (⟨Cert.InGradIdeal.S2048x512, .f32⟩ : BufTy).Contents (Elt Ideal)} {x7 y7 : (⟨Cert.InGradIdeal.S2048x128, .f32⟩ : BufTy).Contents (Elt Ideal)} {x8 y8 : (⟨Cert.InGradIdeal.S2048x128, .f32⟩ : BufTy).Contents (Elt Ideal)}
    (e0 : x0 = y0) (e1 : x1 = y1) (e3 : x3 = y3) (e5 : x5 = y5) (e6 : x6 = y6) (e7 : x7 = y7) (e8 : x8 = y8) :
    Cert.InGradIdeal.Read.val_main_v163 (F := Ideal) x0 x1 x3 x5 x6 x7 x8 = Cert.InGradIdeal.Read.val_main_v163 (F := Ideal) y0 y1 y3 y5 y6 y7 y8 := by
  subst e0 e1 e3 e5 e6 e7 e8; rfl

theorem in_algebraic : Cert.algebraic_InBwdIdeal_InGradIdeal_pre_finite_in := by
  intro m g m' g' hpre hagree
  refine ⟨fun c => Cert.InGradIdeal.Read.val_main_v161 (F := Ideal) (Cert.InBwdIdeal.Value.X1 m c) (Cert.InBwdIdeal.Value.X5 m c) (Cert.InBwdIdeal.Value.X6 m c) (Cert.InBwdIdeal.Value.X7 m c) (Cert.InBwdIdeal.Value.X8 m c),
    fun c => Cert.InGradIdeal.Read.val_main_v162 (F := Ideal) (Cert.InBwdIdeal.Value.X0 m c) (Cert.InBwdIdeal.Value.X1 m c) (Cert.InBwdIdeal.Value.X2 m c) (Cert.InBwdIdeal.Value.X3 m c) (Cert.InBwdIdeal.Value.X4 m c) (Cert.InBwdIdeal.Value.X5 m c) (Cert.InBwdIdeal.Value.X6 m c) (Cert.InBwdIdeal.Value.X7 m c) (Cert.InBwdIdeal.Value.X8 m c),
    fun c => Cert.InGradIdeal.Read.val_main_v163 (F := Ideal) (Cert.InBwdIdeal.Value.X0 m c) (Cert.InBwdIdeal.Value.X1 m c) (Cert.InBwdIdeal.Value.X3 m c) (Cert.InBwdIdeal.Value.X5 m c) (Cert.InBwdIdeal.Value.X6 m c) (Cert.InBwdIdeal.Value.X7 m c) (Cert.InBwdIdeal.Value.X8 m c), ?_, ?_⟩
  · refine (θ_run (Cert.InBwdIdeal.defs (F := Ideal)) _ _).mono (fun r h c => ?_)
      (θ_run_and (Cert.InBwdIdeal.Value.run m g fun c => in_finite hpre c) (Cert.InBwdIdeal.Gen.unchanged m g))
    obtain ⟨h0, h1, h2⟩ := h.1 c
    exact ⟨h0, h1, h2, h.2 c⟩
  · refine (θ_run (Cert.InGradIdeal.defs (F := Ideal)) _ _).mono (fun r h c => ?_) (Cert.InGradIdeal.Value.run m' g')
    obtain ⟨h0, h1, h2, ha⟩ := h c
    obtain ⟨e0, e1, e2, e3, e4, e5, e6, e7, e8⟩ := hagree c
    refine ⟨h0.trans ?_, h1.trans ?_, h2.trans ?_, ha⟩
    · refine (Cert.InGradIdeal.Read.val_main_v161_eq _).trans ?_
      exact in_args_161 e1 e5 e6 e7 e8
    · refine (Cert.InGradIdeal.Read.val_main_v162_eq _).trans ?_
      exact in_args_162 e0 e1 e2 e3 e4 e5 e6 e7 e8
    · refine (Cert.InGradIdeal.Read.val_main_v163_eq _).trans ?_
      exact in_args_163 e0 e1 e3 e5 e6 e7 e8

end Cert.Proof

end
-- ==== Proof.GluHost.lean ====
/- The state-space output's gradient read at an index, and what the backward call's arguments and its staged cotangent hold. -/
module

public import proofs.«01_k».proof.Proof.Gen.GluBwdIdeal.Value
public import proofs.«01_k».proof.Proof.Gen.GluGradIdeal.Read
public import Idealize.ShloMosaic.Lib.Pipeline.ValueKit
public import Idealize.ShloMosaic.Lib.StableHlo.RunRead
public import proofs.«01_k».proof.Proof.Reals

@[expose] public section

set_option maxRecDepth 16384

noncomputable section

open Idealize.ShloMosaic Idealize.ShloMosaic.TcCoe Idealize.SL.Sem
open Idealize.ShloMosaic.Pipeline (Dat)
open scoped BigOperators

namespace Cert.GluBwdIdeal.Value

open Cert.GluBwdIdeal Cert.GluBwdIdeal.Gen Cert.Reals
open Cert.GluGradIdeal.Read

/-- The original row of a row in the order of the scan's steps. -/
def src (R : Fin 2048) : Fin 2048 := ⟨R.val % 8 * 256 + R.val / 8, by omega⟩
abbrev half : EReal := Ideal.ofBits .f32 0x3F000000#32
abbrev K : EReal := Ideal.ofBits .f32 0x3F4C422A#32
abbrev C3 : EReal := Ideal.ofBits .f32 0x3D372713#32
abbrev three : EReal := Ideal.ofBits .f32 0x40400000#32
/-- The tanh the activation and its derivative share. -/
def th (y : EReal) : EReal := Ideal.tanh (K * (y + C3 * y * y * y))
/-- The activation. -/
def gelu (y : EReal) : EReal := half * y * (1 + th y)
/-- Its derivative. -/
def geluGrad (y : EReal) : EReal := half * (1 + th y) + half * y * (1 - th y * th y) * K * (1 + three * (C3 * y * y))
abbrev W : EReal := Ideal.ofBits .f32 0x44000000#32
abbrev E : EReal := Ideal.ofBits .f32 0x358637BD#32
abbrev H : EReal := Ideal.ofBits .f32 0xBF000000#32
/-- The values of a row of the product: its first half. -/
def values (z : Fin 1024 → EReal) (k : Fin 512) : EReal := z ⟨k.val, by omega⟩
/-- The gates of a row of the product: its second half under the logistic function. -/
def gates (z : Fin 1024 → EReal) (k : Fin 512) : EReal := Ideal.logistic (z ⟨512 + k.val, by omega⟩)
/-- The gated row. -/
def gated (z : Fin 1024 → EReal) (k : Fin 512) : EReal := values z k * gates z k
/-- The product's cotangent for the gated row's cotangent `o`. -/
def gateBack (z : Fin 1024 → EReal) (o : Fin 512 → EReal) (l : Fin 1024) : EReal :=
  if h : l.val < 512 then o ⟨l.val, h⟩ * gates z ⟨l.val, h⟩ else
    o ⟨l.val - 512, by omega⟩ * values z ⟨l.val - 512, by omega⟩ * gates z ⟨l.val - 512, by omega⟩ * (1 - gates z ⟨l.val - 512, by omega⟩)
section Reference
variable (x0 x1 : FVec Ideal S2048x512 .f32) (x2 : FVec Ideal S1x32x16 .f32) (x3 : FVec Ideal S1x512x1024 .f32) (x4 : FVec Ideal S1x1024 .f32) (x5 : FVec Ideal S1x512 .f32) (x6 : FVec Ideal S2048x512 .f32)
theorem v16_apply (r : Fin 2048) (l : Fin 512) : val_main_v16 (F := Ideal) x0 x1 x2 (ix2 r l) = th (val_main_v5 (F := Ideal) x0 x1 x2 (ix2 r l)) := by
  pointwise [val_main_v16, val_main_v15, val_main_v14, val_main_v13, val_main_v12, val_main_v11, val_main_v7, val_main_v6, val_main_cst_0, val_main_cst_1, th]
  simp only [mul_assoc]
theorem v26_apply (r : Fin 2048) (l : Fin 512) : val_main_v26 (F := Ideal) x0 x1 x2 (ix2 r l) = gelu (val_main_v5 (F := Ideal) x0 x1 x2 (ix2 r l)) := by
  pointwise [val_main_v26, val_main_v25, val_main_v24, val_main_v23, val_main_v22, val_main_cst_4, val_main_cst_5, gelu]
  rw [v16_apply]
  exact (mul_left_comm _ half _).trans (mul_assoc _ _ _).symm
theorem v34_apply (r : Fin 2048) (l : Fin 512) : val_main_v34 (F := Ideal) x0 x1 x2 x3 x4 (ix2 r l) = values (fun k => val_main_v32 (F := Ideal) x0 x1 x2 x3 x4 (ix2 r k)) l := by
  unfold values
  pointwise [val_main_v34]
theorem v41_apply (r : Fin 2048) (l : Fin 512) : val_main_v41 (F := Ideal) x0 x1 x2 x3 x4 (ix2 r l) = gates (fun k => val_main_v32 (F := Ideal) x0 x1 x2 x3 x4 (ix2 r k)) l := by
  unfold gates Ideal.logistic
  pointwise [val_main_v41, val_main_v40, val_main_v39, val_main_v38, val_main_v37, val_main_v36, val_main_v35, val_main_cst_6, val_main_cst_7]
theorem v45_apply (r : Fin 2048) (l : Fin 512) : val_main_v45 (F := Ideal) x0 x1 x2 x3 x4 (ix2 r l) = gated (fun k => val_main_v32 (F := Ideal) x0 x1 x2 x3 x4 (ix2 r k)) l := by
  unfold gated
  rw [← v34_apply, ← v41_apply]
  rfl
theorem v81_apply (r : Fin 2048) (l : Fin 512) : val_main_v81 (F := Ideal) x0 x1 x2 x3 x4 x5 x6 (ix2 r l) =
    normGrad W E H (gated fun k => val_main_v32 (F := Ideal) x0 x1 x2 x3 x4 (ix2 r k)) (fun k => x6 (ix2 r k) * x5 (ix2 0 k)) l := by
  have e : (gated fun k => val_main_v32 (F := Ideal) x0 x1 x2 x3 x4 (ix2 r k)) = fun l => val_main_v45 (F := Ideal) x0 x1 x2 x3 x4 (ix2 r l) := funext fun l => (v45_apply x0 x1 x2 x3 x4 r l).symm
  rw [e]
  unfold normGrad normTurn var
  pointwise [val_main_v81, val_main_v80, val_main_v79, val_main_v78, val_main_v77, val_main_v76, val_main_v75, val_main_v74, val_main_v73, val_main_v72, val_main_v71, val_main_v70, val_main_v69, val_main_v68, val_main_v66, val_main_v65, val_main_v59, val_main_v33, val_main_v56, val_main_v55, val_main_v54, val_main_v53, val_main_v52, val_main_v51, val_main_v50, val_main_v49, val_main_v48, val_main_v47, val_main_v46, val_main_cst_9, val_main_cst_10, val_main_cst_11, val_main_cst_12, val_main_cst_15, val_main_cst_16, val_main_cst_17]
  simp only [Fin.sum_univ_one]
theorem v87_apply (r : Fin 2048) (l : Fin 1024) : val_main_v87 (F := Ideal) x0 x1 x2 x3 x4 x5 x6 (ix2 r l) =
    gateBack (fun k => val_main_v32 (F := Ideal) x0 x1 x2 x3 x4 (ix2 r k)) (fun k => val_main_v81 (F := Ideal) x0 x1 x2 x3 x4 x5 x6 (ix2 r k)) l := by
  have z : val_main_cst_18 (F := Ideal) (Shape.Idx.first Cert.GluGradIdeal.Gen.h_S_) = (0 : EReal) := Ideal.ofBits_zero_f32
  have z1 : val_main_cst_19 (F := Ideal) (Shape.Idx.first Cert.GluGradIdeal.Gen.h_S_) = (0 : EReal) := Ideal.ofBits_zero_f32
  unfold gateBack
  pointwise [val_main_v87, val_main_v86, val_main_v85, val_main_v84, val_main_v83, val_main_v82, val_main_v44, val_main_v43, val_main_v42, val_main_cst_8]
  simp only [z, z1, v34_apply, v41_apply]
  by_cases h : l.val < 512
  · rw [dif_neg (by omega), dif_pos h, dif_pos h, zero_add]
  · rw [dif_pos ⟨by omega, by omega⟩, dif_neg h, dif_neg h, add_zero, ← mul_assoc, mul_comm (values _ _)]
theorem v91_apply (r : Fin 2048) (l : Fin 512) : val_main_v91 (F := Ideal) x0 x1 x2 x3 x4 x5 x6 (ix2 r l) =
    ∑ k : Fin 1024, val_main_v87 (F := Ideal) x0 x1 x2 x3 x4 x5 x6 (ix2 r k) * x3 (ix3 0 l k) := by
  pointwise [val_main_v91, val_main_v28]
/-- The activation's cotangent as the transposed program spells it. -/
def geluBack (a y : EReal) : EReal :=
  a * (half * (1 + th y)) + K * (half * (y * a) * ((1 + th y) * (1 - th y))) + C3 * (K * (half * (y * a) * ((1 + th y) * (1 - th y)))) * (three * (y * y))
theorem v103_apply (r : Fin 2048) (l : Fin 512) : val_main_v103 (F := Ideal) x0 x1 x2 x3 x4 x5 x6 (ix2 r l) =
    geluBack (val_main_v91 (F := Ideal) x0 x1 x2 x3 x4 x5 x6 (ix2 r l)) (val_main_v5 (F := Ideal) x0 x1 x2 (ix2 r l)) := by
  unfold geluBack
  rw [← v16_apply]
  pointwise [val_main_v103, val_main_v102, val_main_v101, val_main_v100, val_main_v99, val_main_v98, val_main_v97, val_main_v96, val_main_v95, val_main_v94, val_main_v93, val_main_v92, val_main_v25, val_main_v24, val_main_v23, val_main_v22, val_main_v21, val_main_v20, val_main_v19, val_main_v18, val_main_v17, val_main_v10, val_main_v9, val_main_v8, val_main_cst, val_main_cst_2, val_main_cst_3, val_main_cst_4, val_main_cst_5, val_main_cst_22, val_main_cst_23, val_main_cst_24]
theorem v113_apply (r : Fin 2048) (l : Fin 512) : val_main_v113 (F := Ideal) x0 x1 x2 (ix2 r l) = val_main_v26 (F := Ideal) x0 x1 x2 (ix2 (src r) l) := by
  unfold src
  pointwise [val_main_v113, val_main_v112, val_main_v111, val_main_v110]
theorem v117_apply (r : Fin 2048) (l : Fin 1024) : val_main_v117 (F := Ideal) x0 x1 x2 x3 x4 x5 x6 (ix2 r l) = val_main_v87 (F := Ideal) x0 x1 x2 x3 x4 x5 x6 (ix2 (src r) l) := by
  unfold src
  pointwise [val_main_v117, val_main_v116, val_main_v115, val_main_v114]
theorem v121_apply (r : Fin 2048) (l : Fin 512) : val_main_v121 (F := Ideal) x0 x1 x2 x3 x4 x5 x6 (ix2 r l) = val_main_v103 (F := Ideal) x0 x1 x2 x3 x4 x5 x6 (ix2 (src r) l) := by
  unfold src
  pointwise [val_main_v121, val_main_v120, val_main_v119, val_main_v118]
theorem v124_apply (r : Fin 2048) (l : Fin 512) : val_main_v124 (F := Ideal) x0 x1 x2 x3 x4 x5 x6 (ix2 r l) =
    x2 (ix3 0 ⟨l.val / 16, by omega⟩ ⟨l.val % 16, by omega⟩) * val_main_v103 (F := Ideal) x0 x1 x2 x3 x4 x5 x6 (ix2 (src r) l) := by
  unfold src
  pointwise [val_main_v124, val_main_v123, val_main_v122, val_main_v105, val_main_v104, val_main_v2, val_main_v1, val_main_v0]
theorem v125_apply (l : Fin 512) : val_main_v125 (F := Ideal) x0 x1 x2 x3 x4 x6 (ix2 0 l) =
    ∑ r : Fin 2048, gated (fun k => val_main_v32 (F := Ideal) x0 x1 x2 x3 x4 (ix2 r k)) l *
      Ideal.rsqrt (var W E (gated fun k => val_main_v32 (F := Ideal) x0 x1 x2 x3 x4 (ix2 r k))) * x6 (ix2 r l) := by
  have e (r : Fin 2048) : (gated fun k => val_main_v32 (F := Ideal) x0 x1 x2 x3 x4 (ix2 r k)) = fun l => val_main_v45 (F := Ideal) x0 x1 x2 x3 x4 (ix2 r l) := funext fun l => (v45_apply x0 x1 x2 x3 x4 r l).symm
  simp only [e]
  unfold var
  pointwise [val_main_v125, val_main_v67, val_main_v64, val_main_v63, val_main_v62, val_main_v58, val_main_v57, val_main_v53, val_main_v52, val_main_v51, val_main_v50, val_main_v49, val_main_v48, val_main_v47, val_main_v46, val_main_cst_9, val_main_cst_10, val_main_cst_11, val_main_cst_13, val_main_cst_14]
  exact Fin.sum_univ_one _
theorem v126_apply (l : Fin 1024) : val_main_v126 (F := Ideal) x0 x1 x2 x3 x4 x5 x6 (ix2 0 l) = ∑ r : Fin 2048, val_main_v87 (F := Ideal) x0 x1 x2 x3 x4 x5 x6 (ix2 r l) := by
  pointwise [val_main_v126, val_main_v90, val_main_v89, val_main_v88, val_main_cst_20, val_main_cst_21]
  exact Fin.sum_univ_one _
theorem v127_apply (l : Fin 512) : val_main_v127 (F := Ideal) x0 x1 x2 x3 x4 x5 x6 (ix2 0 l) =
    ∑ r : Fin 2048, val_main_v103 (F := Ideal) x0 x1 x2 x3 x4 x5 x6 (ix2 r l) * x1 (ix2 r l) := by
  pointwise [val_main_v127, val_main_v109, val_main_v108, val_main_v107, val_main_v106, val_main_cst_25, val_main_cst_26]
  exact Fin.sum_univ_one _
end Reference
variable (m : (ℓ : Loc nD τ sig) → Buf (Elt Ideal) ℓ) (c : Dev nD)
abbrev X0 : FVec Ideal S2048x512 .f32 := m ((c : Thread nD τ).loc main_arg0)
abbrev X1 : FVec Ideal S2048x512 .f32 := m ((c : Thread nD τ).loc main_arg1)
abbrev X2 : FVec Ideal S1x32x16 .f32 := m ((c : Thread nD τ).loc main_arg2)
abbrev X3 : FVec Ideal S1x512x1024 .f32 := m ((c : Thread nD τ).loc main_arg3)
abbrev X4 : FVec Ideal S1x1024 .f32 := m ((c : Thread nD τ).loc main_arg4)
abbrev X5 : FVec Ideal S1x512 .f32 := m ((c : Thread nD τ).loc main_arg5)
abbrev X6 : FVec Ideal S2048x512 .f32 := m ((c : Thread nD τ).loc main_arg6)
abbrev Y : FVec Ideal S2048x512 .f32 := val_main_v5 (F := Ideal) (X0 m c) (X1 m c) (X2 m c)
abbrev Z : FVec Ideal S2048x1024 .f32 := val_main_v32 (F := Ideal) (X0 m c) (X1 m c) (X2 m c) (X3 m c) (X4 m c)
theorem V_eq (b : Ref sig .tc) : V m c b = StableHlo.after hostOps0 (fun b => m (c, b)) (Proc.devRef .tc b) := by
  show StableHlo.after _ _ _ = _
  simp only [List.flatten_cons, List.flatten_nil, List.append_nil]
theorem skipT (l : Fin 512) : (V (F := Ideal) m c main_v6 : FVec Ideal S1x512 .f32) (ix2 0 l) = X2 m c (ix3 0 ⟨l.val / 16, by omega⟩ ⟨l.val % 16, by omega⟩) := by
  rw [V_eq]
  after_reads_simp
  pointwise
theorem uT (r : Fin 2048) (l : Fin 512) : (V (F := Ideal) m c main_v5 : FVec Ideal S2048x512 .f32) (ix2 r l) = X1 m c (ix2 (src r) l) := by
  rw [V_eq]
  after_reads_simp
  unfold src
  pointwise
theorem wT (r : Fin 1024) (l : Fin 512) : (V (F := Ideal) m c main_v9 : FVec Ideal S1024x512 .bf16) (ix2 r l) = X3 m c (ix3 0 l r) := by
  rw [V_eq]
  after_reads_simp
  pointwise
theorem dnT (r : Fin 256) (l : Fin 4096) : (V (F := Ideal) m c main_v32 : FVec Ideal S256x4096 .f32) (ix2 r l) =
    X6 m c (ix2 ⟨l.val / 512 * 256 + r.val, by omega⟩ ⟨l.val % 512, by omega⟩) := by
  rw [V_eq]
  after_reads_simp
  pointwise
theorem yT (r : Fin 2048) (l : Fin 512) : (V (F := Ideal) m c main_v12 : FVec Ideal S2048x512 .f32) (ix2 r l) = Y m c (ix2 (src r) l) := by
  unfold Y
  rw [V_eq]
  after_reads_simp
  unfold src
  pointwise [val_main_v5, val_main_v4, val_main_v3, val_main_v2, val_main_v1, val_main_v0]
theorem actT (r : Fin 2048) (l : Fin 512) : (V (F := Ideal) m c main_v26 : FVec Ideal S2048x512 .bf16) (ix2 r l) = gelu (Y m c (ix2 (src r) l)) := by
  rw [← yT]
  rw [V_eq, V_eq]
  after_reads_simp
  unfold gelu th
  pointwise
abbrev act : FVec Ideal S2048x512 .bf16 := V (F := Ideal) m c main_v26
abbrev wRows : FVec Ideal S1024x512 .bf16 := V (F := Ideal) m c main_v9
theorem zT (r : Fin 2048) (l : Fin 1024) : (V (F := Ideal) m c main_v29 : FVec Ideal S2048x1024 .f32) (ix2 r l) = Z m c (ix2 (src r) l) := by
  have e : (V (F := Ideal) m c main_v29 : FVec Ideal S2048x1024 .f32) (ix2 r l) = (∑ k : Fin 512, act m c (ix2 r k) * wRows m c (ix2 l k)) + X4 m c (ix2 0 l) := by
    simp only [act, wRows, V_eq]
    after_reads_simp
    pointwise
  rw [e]
  unfold Z
  pointwise [val_main_v32, val_main_v31, val_main_v30, val_main_v29, val_main_v28, val_main_v27]
  exact congrArg (· + _) (Finset.sum_congr rfl fun k _ => congrArg₂ (· * ·) ((actT m c r k).trans (v26_apply _ _ _ _ _).symm) (wT m c l k))

section Stage
variable (x : FVec Ideal S32x4096 .f32)
/-- The staged cotangent: lane chunk, row, lane. -/
def staged (y : S4x256x128.Idx) : EReal :=
  x (ix2 ⟨(y 1).val / 8, by have : (y 1).val < 256 := (y 1).isLt; omega⟩ ⟨512 * ((y 1).val % 8) + 128 * (y 0).val + (y 2).val, by have : (y 0).val < 4 := (y 0).isLt; have : (y 2).val < 128 := (y 2).isLt; omega⟩)
theorem stage_inb (k : Fin 4) (b : Fin 8) : ∀ a, S1x32x128.size a = 0 ∨ (![k.val, b.val, 0] : Fin 3 → ℕ) a + (![1, 8, 1] : Fin 3 → ℕ) a * (S1x32x128.size a - 1) < S4x256x128.size a := fun a => by
  match a with
  | ⟨0, _⟩ => exact Or.inr (show k.val + 1 * (1 - 1) < 4 by omega)
  | ⟨1, _⟩ => exact Or.inr (show b.val + 8 * (32 - 1) < 256 by omega)
  | ⟨2, _⟩ => exact Or.inr (show 0 + 1 * (128 - 1) < 128 by omega)
theorem lane_inb (k : Fin 4) (b : Fin 8) : ∀ a, (![0, 512 * b.val + 128 * k.val] : Fin 2 → ℕ) a + S32x128.size a ≤ S32x4096.size a := fun a => by
  match a with
  | ⟨0, _⟩ => exact (show 0 + 32 ≤ 32 by omega)
  | ⟨1, _⟩ => exact (show 512 * b.val + 128 * k.val + 128 ≤ 4096 by omega)
/-- The lanes chunk `b` takes of the loaded rows. -/
abbrev chunk (k : Fin 4) (b : Fin 8) : FVec Ideal S32x128 .f32 :=
  View.ld (Val := Elt Ideal) (e' := .f32) x (Rect.unit (s := S32x4096) ![0, 512 * b.val + 128 * k.val] S32x128.size (lane_inb k b))
/-- The store of chunk `b`'s rows of lane chunk `k`. -/
def piece (k : Fin 4) (b : Fin 8) : View.Piece (Elt Ideal) S4x256x128 .f32 :=
  ⟨⟨⟨![k.val, b.val, 0], S1x32x128.size, ![1, 8, 1], stage_inb k b⟩, spos_1_8_1⟩,
    k0_pay4 (F := Ideal) (chunk x k b)⟩
/-- The stores, the last first. -/
def pieces : List (View.Piece (Elt Ideal) S4x256x128 .f32) :=
  [piece x 3 7, piece x 3 6, piece x 3 5, piece x 3 4, piece x 3 3, piece x 3 2, piece x 3 1, piece x 3 0,
    piece x 2 7, piece x 2 6, piece x 2 5, piece x 2 4, piece x 2 3, piece x 2 2, piece x 2 1, piece x 2 0,
    piece x 1 7, piece x 1 6, piece x 1 5, piece x 1 4, piece x 1 3, piece x 1 2, piece x 1 1, piece x 1 0,
    piece x 0 7, piece x 0 6, piece x 0 5, piece x 0 4, piece x 0 3, piece x 0 2, piece x 0 1, piece x 0 0]
theorem pieces_eq : pieces x = ((List.finRange 32).reverse.map fun i => piece x ⟨i.val / 8, by omega⟩ ⟨i.val % 8, by omega⟩) := rfl
theorem piece_agrees (k : Fin 4) (b : Fin 8) (y : (piece x k b).1.shape.Idx) : (piece x k b).2 y = staged x ((piece x k b).1.emb y) := by
  show k0_pay4 (F := Ideal) (chunk x k b) y = _
  have e : ∀ (v : FVec Ideal S32x128 .f32) (r : Fin 32) (l : Fin 128), k0_pay4 (F := Ideal) v (ix3 0 r l) = v (ix2 r l) := fun v r l => by pointwise [k0_pay4]
  change S1x32x128.Idx at y
  idx_vars y
  obtain rfl : y0 = 0 := Subsingleton.elim _ _
  refine (e _ y1 y2).trans ?_
  refine congrArg x ?_
  funext a
  match a with
  | ⟨0, _⟩ => exact Fin.ext (show 0 + 1 * y1.val = (b.val + 8 * y1.val) / 8 by omega)
  | ⟨1, _⟩ => exact Fin.ext (show 512 * b.val + 128 * k.val + 1 * y2.val = 512 * ((b.val + 8 * y1.val) % 8) + 128 * (k.val + 1 * 0) + (0 + 1 * y2.val) by omega)
theorem read_inb (k : Fin 4) : ∀ a, (![k.val, 0, 0] : Fin 3 → ℕ) a + S1x256x128.size a ≤ S4x256x128.size a := fun a => by
  match a with
  | ⟨0, _⟩ => exact (show k.val + 1 ≤ 4 by omega)
  | ⟨1, _⟩ => exact (show 0 + 256 ≤ 256 by omega)
  | ⟨2, _⟩ => exact (show 0 + 128 ≤ 128 by omega)
/-- Lane chunk `k` of the staged cotangent. -/
abbrev stage (k : Fin 4) : FVec Ideal S1x256x128 .f32 :=
  View.readCov (Val := Elt Ideal) (s := S4x256x128) (e := .f32) (View.whole cc0_scratch0) (pieces x) (Rect.unit (s := S4x256x128) ![k.val, 0, 0] S1x256x128.size (read_inb k)).toLoadRect
theorem stage_apply (k : Fin 4) (r : Fin 256) (l : Fin 128) : stage x k (ix3 0 r l) = x (ix2 ⟨r.val / 8, by omega⟩ ⟨512 * (r.val % 8) + 128 * k.val + l.val, by omega⟩) := by
  have mem : piece x k ⟨r.val % 8, by omega⟩ ∈ pieces x := by
    rw [pieces_eq]
    refine List.mem_map.2 ⟨⟨k.val * 8 + r.val % 8, by omega⟩, by simp, ?_⟩
    congr 1
    · exact Fin.ext (show (k.val * 8 + r.val % 8) / 8 = k.val by omega)
    · exact Fin.ext (show (k.val * 8 + r.val % 8) % 8 = r.val % 8 by omega)
  unfold stage
  rw [View.readCov_eq_canon']
  refine (View.canon_apply_of_pieces (staged x) (pieces x) (fun p hp y => ?_) _ ⟨_, mem, ?_⟩).trans ?_
  · rw [pieces_eq] at hp
    obtain ⟨i, _, rfl⟩ := List.mem_map.1 hp
    exact piece_agrees x _ _ y
  · rw [LoadRect.mem_set]
    intro a
    match a with
    | ⟨0, _⟩ => exact ⟨0, Nat.one_pos, show k.val + 1 * 0 = k.val + 1 * 0 from rfl⟩
    | ⟨1, _⟩ => exact ⟨r.val / 8, (show r.val / 8 < 32 by omega), show 0 + 1 * r.val = r.val % 8 + 8 * (r.val / 8) by omega⟩
    | ⟨2, _⟩ => exact ⟨l.val, l.isLt, show 0 + 1 * l.val = 0 + 1 * l.val from rfl⟩
  · refine congrArg x ?_
    funext a
    match a with
    | ⟨0, _⟩ => exact Fin.ext (show (0 + 1 * r.val) / 8 = r.val / 8 by omega)
    | ⟨1, _⟩ => exact Fin.ext (show 512 * ((0 + 1 * r.val) % 8) + 128 * (k.val + 1 * 0) + (0 + 1 * l.val) = _ by show _ = 512 * (r.val % 8) + 128 * k.val + l.val; omega)
end Stage

end Cert.GluBwdIdeal.Value

end
-- ==== Proof.GluValue.lean ====
/- What the state-space output's backward call leaves in its results. -/
module

public import proofs.«01_k».proof.Proof.Gen.GluBwdIdeal.Value
public import proofs.«01_k».proof.Proof.Gen.GluGradIdeal.Read
public import Idealize.ShloMosaic.Lib.Pipeline.ValueKit
public import Idealize.ShloMosaic.Lib.StableHlo.RunRead
public import proofs.«01_k».proof.Proof.Reals
public import proofs.«01_k».proof.Proof.GluHost

@[expose] public section

set_option maxRecDepth 16384

noncomputable section

open Idealize.ShloMosaic Idealize.ShloMosaic.TcCoe Idealize.SL.Sem
open Idealize.ShloMosaic.Pipeline (Dat)
open scoped BigOperators

namespace Cert.GluBwdIdeal.Value

open Cert.GluBwdIdeal Cert.GluBwdIdeal.Gen Cert.Reals
open Cert.GluGradIdeal.Read

variable (m : (ℓ : Loc nD τ sig) → Buf (Elt Ideal) ℓ) (c : Dev nD)

section Payloads
theorem pay39_apply (x : FVec Ideal S32x4096 .f32) (r : Fin 256) (l : Fin 512) :
    k0_pay39 (F := Ideal) (k0_pay38 (F := Ideal) (stage x 0)) (stage x 1) (stage x 2) (stage x 3) (ix2 r l) = x (ix2 ⟨r.val / 8, by omega⟩ ⟨512 * (r.val % 8) + l.val, by omega⟩) := by
  have e0 := stage_apply x 0 r
  have e1 := stage_apply x 1 r
  have e2 := stage_apply x 2 r
  have e3 := stage_apply x 3 r
  generalize stage x 0 = s0 at *
  generalize stage x 1 = s1 at *
  generalize stage x 2 = s2 at *
  generalize stage x 3 = s3 at *
  pointwise [k0_pay39, k0_pay38]
  simp only [e0, e1, e2, e3]
  split_ifs
  all_goals first
    | exact absurd rfl ‹¬ _›
    | refine congrArg x (congrArg (ix2 _) (Fin.ext ?_))
  all_goals first
    | (show 512 * (r.val % 8) + 128 * 0 + l.val = 512 * (r.val % 8) + l.val; omega)
    | (show 512 * (r.val % 8) + 128 * 1 + (l.val - 128) = 512 * (r.val % 8) + l.val; omega)
    | (show 512 * (r.val % 8) + 128 * 2 + (l.val - 128 - 128) = 512 * (r.val % 8) + l.val; omega)
    | (show 512 * (r.val % 8) + 128 * 3 + (l.val - 128 - 128 - 128) = 512 * (r.val % 8) + l.val; omega)
theorem pay41_apply (z : FVec Ideal S256x1024 .f32) (r : Fin 256) (l : Fin 512) : k0_pay41 (F := Ideal) z (ix2 r l) = values (fun k => z (ix2 r k)) l := by
  unfold values
  pointwise [k0_pay41, k0_pay40]
theorem pay42_apply (z : FVec Ideal S256x1024 .f32) (r : Fin 256) (l : Fin 512) : k0_pay42 (F := Ideal) z (ix2 r l) = gates (fun k => z (ix2 r k)) l := by
  unfold gates
  pointwise [k0_pay42, k0_pay40]
theorem pay43_apply (z : FVec Ideal S256x1024 .f32) (r : Fin 256) (l : Fin 512) : k0_pay43 (F := Ideal) z (ix2 r l) = gated (fun k => z (ix2 r k)) l := by
  unfold gated
  rw [← pay41_apply, ← pay42_apply]
  rfl
variable (v162 : FVec Ideal S256x128 .f32) (v163 v165 v167 : FVec Ideal S1x256x128 .f32) (d : FVec Ideal S256x512 .f32) (hd : k0_pay39 (F := Ideal) v162 v163 v165 v167 = d)
include hd
theorem pay46_apply (z : FVec Ideal S256x1024 .f32) (g : FVec Ideal S1x512 .f32) (r : Fin 256) (l : Fin 512) :
    k0_pay46 (F := Ideal) v162 v163 v165 v167 z g (ix2 r l) = normBack W E (gated fun k => z (ix2 r k)) (fun k => d (ix2 r k) * g (ix2 0 k)) l := by
  subst hd
  have e : (gated fun k => z (ix2 r k)) = fun l => k0_pay43 (F := Ideal) z (ix2 r l) := funext fun l => (pay43_apply z r l).symm
  rw [e]
  unfold normBack var
  pointwise [k0_pay46, k0_pay45, k0_pay44]
theorem pay47_apply (z : FVec Ideal S256x1024 .f32) (l : Fin 512) :
    k0_pay47 (F := Ideal) v162 v163 v165 v167 z (ix2 0 l) = ∑ r : Fin 256, d (ix2 r l) * (gated (fun k => z (ix2 r k)) l * Ideal.rsqrt (var W E (gated fun k => z (ix2 r k)))) := by
  subst hd
  have e (r : Fin 256) : (gated fun k => z (ix2 r k)) = fun l => k0_pay43 (F := Ideal) z (ix2 r l) := funext fun l => (pay43_apply z r l).symm
  simp only [e]
  unfold var
  pointwise [k0_pay47, k0_pay45, k0_pay44]
omit hd
theorem pay48_apply (p q : FVec Ideal S1x512 .f32) (j : S1x512.Idx) : k0_pay48 (F := Ideal) p q j = q j + p j := by
  pointwise [k0_pay48]
theorem pay1_apply (p q : FVec Ideal S1x512 .f32) (j : S1x512.Idx) : k0_pay1 (F := Ideal) p q j = q j + p j := by
  pointwise [k0_pay1]
theorem pay51_apply (a s o : FVec Ideal S256x512 .f32) (q : FVec Ideal S1x1024 .f32) (j : S1x1024.Idx) : k0_pay51 (F := Ideal) a s o q j = q j + k0_pay50 (F := Ideal) a s o j := by
  pointwise [k0_pay51]
theorem pay52_apply (z : FVec Ideal S256x1024 .f32) (o : FVec Ideal S256x512 .f32) (r : Fin 256) (l : Fin 1024) :
    k0_pay52 (F := Ideal) (k0_pay41 (F := Ideal) z) (k0_pay42 (F := Ideal) z) o (ix2 r l) = gateBack (fun k => z (ix2 r k)) (fun k => o (ix2 r k)) l := by
  have e1 := pay41_apply z r
  have e2 := pay42_apply z r
  generalize k0_pay41 (F := Ideal) z = a at *
  generalize k0_pay42 (F := Ideal) z = s at *
  unfold gateBack
  simp only [← e1, ← e2]
  pointwise [k0_pay52, k0_pay49]
theorem pay50_apply (a s o : FVec Ideal S256x512 .f32) (l : Fin 1024) :
    k0_pay50 (F := Ideal) a s o (ix2 0 l) = ∑ r : Fin 256, k0_pay52 (F := Ideal) a s o (ix2 r l) := by
  pointwise [k0_pay50, k0_pay52]
theorem pay54_apply (y : FVec Ideal S256x512 .f32) (r : Fin 256) (l : Fin 512) : k0_pay54 (F := Ideal) y (ix2 r l) = gelu (y (ix2 r l)) := by
  unfold gelu th
  pointwise [k0_pay54, k0_pay53]
theorem pay55_apply (b : FVec Ideal S256x1024 .bf16) (y : FVec Ideal S256x512 .f32) (w : FVec Ideal S1024x512 .bf16) (r : Fin 256) (l : Fin 512) :
    k0_pay55 (F := Ideal) b (k0_pay53 (F := Ideal) y) w (ix2 r l) = (∑ k : Fin 1024, b (ix2 r k) * w (ix2 k l)) * geluGrad (y (ix2 r l)) := by
  unfold geluGrad th
  pointwise [k0_pay55, k0_pay53]
theorem pay3_apply (v : FVec Ideal S256x512 .f32) (j : S256x512.Idx) : k0_pay3 (F := Ideal) v j = v j := by
  pointwise [k0_pay3]
theorem pay2_apply (v : FVec Ideal S256x512 .f32) (d : FVec Ideal S1x512 .f32) (r : Fin 256) (l : Fin 512) : k0_pay2 (F := Ideal) v d (ix2 r l) = d (ix2 0 l) * v (ix2 r l) := by
  pointwise [k0_pay2]
theorem pay56_apply (b : FVec Ideal S256x1024 .bf16) (y : FVec Ideal S256x512 .f32) (w : FVec Ideal S1024x512 .bf16) (u : FVec Ideal S256x512 .f32) (l : Fin 512) :
    k0_pay56 (F := Ideal) b y w u (ix2 0 l) = ∑ r : Fin 256, k0_pay55 (F := Ideal) b y w (ix2 r l) * u (ix2 r l) := by
  pointwise [k0_pay56]
end Payloads
theorem idx : ∀ t : Fin cfg0.N, (win0_0.index t = ![t.val, 0] ∧ win0_1.index t = ![t.val, 0] ∧ win0_2.index t = ![t.val, 0]
    ∧ win0_3.index t = ![t.val, 0] ∧ win0_4.index t = ![0, 0] ∧ win0_5.index t = ![0, 0])
    ∧ win0_6.index t = ![0, 0] ∧ win0_7.index t = ![t.val, 0] ∧ win0_8.index t = ![t.val, 0] ∧ win0_9.index t = ![t.val, 0]
    ∧ win0_10.index t = ![t.val, 0] ∧ win0_11.index t = ![0, 0] ∧ win0_12.index t = ![0, 0] ∧ win0_13.index t = ![0, 0] := (by decide +kernel : ∀ t : Fin grid0.N, _)
theorem t_lt (t : Fin cfg0.N) : t.val < 8 := lt_of_lt_of_eq t.isLt N_0
/-- Row `r` of block `t`. -/
def row (t : Fin cfg0.N) (r : Fin 256) : Fin 2048 := ⟨t.val * 256 + r.val, by have := t_lt t; omega⟩
/-- The original row of row `r` of block `t`. -/
abbrev origin (t : Fin cfg0.N) (r : Fin 256) : Fin 2048 := src (row t r)
theorem emb0 (t : Fin cfg0.N) (r : Fin 32) (k : Fin 4096) : ((cfg0.win 0).blk t).view.emb (ix2 r k) =
    ix2 (⟨t.val * 32 + r.val, by have := t_lt t; omega⟩ : Fin 256) k := by
  blk_ext [idx t]
theorem emb1 (t : Fin cfg0.N) (r : Fin 256) (k : Fin 512) : ((cfg0.win 1).blk t).view.emb (ix2 r k) = ix2 (row t r) k := by
  blk_ext [idx t, row]
theorem emb2 (t : Fin cfg0.N) (r : Fin 256) (k : Fin 1024) : ((cfg0.win 2).blk t).view.emb (ix2 r k) = ix2 (row t r) k := by
  blk_ext [idx t, row]
theorem emb3 (t : Fin cfg0.N) (r : Fin 256) (k : Fin 512) : ((cfg0.win 3).blk t).view.emb (ix2 r k) = ix2 (row t r) k := by
  blk_ext [idx t, row]
theorem emb4 (t : Fin cfg0.N) (k : Fin 512) : ((cfg0.win 4).blk t).view.emb (ix2 0 k) = ix2 0 k := by
  blk_ext [idx t]
theorem emb5 (t : Fin cfg0.N) (r : Fin 1024) (k : Fin 512) : ((cfg0.win 5).blk t).view.emb (ix2 r k) = ix2 r k := by
  blk_ext [idx t]
theorem emb6 (t : Fin cfg0.N) (k : Fin 512) : ((cfg0.win 6).blk t).view.emb (ix2 0 k) = ix2 0 k := by
  blk_ext [idx t]
theorem emb7 (t : Fin cfg0.N) (r : Fin 256) (k : Fin 512) : ((cfg0.win 7).blk t).view.emb (ix2 r k) = ix2 (row t r) k := by
  blk_ext [idx t, row]
theorem emb8 (t : Fin cfg0.N) (r : Fin 256) (k : Fin 1024) : ((cfg0.win 8).blk t).view.emb (ix2 r k) = ix2 (row t r) k := by
  blk_ext [idx t, row]
theorem emb9 (t : Fin cfg0.N) (r : Fin 256) (k : Fin 512) : ((cfg0.win 9).blk t).view.emb (ix2 r k) = ix2 (row t r) k := by
  blk_ext [idx t, row]
theorem emb10 (t : Fin cfg0.N) (r : Fin 256) (k : Fin 512) : ((cfg0.win 10).blk t).view.emb (ix2 r k) = ix2 (row t r) k := by
  blk_ext [idx t, row]
theorem dn_block (t : Fin cfg0.N) (r : Fin 256) (l : Fin 512) : k0_pay39 (F := Ideal) (k0_pay38 (F := Ideal) (stage (iblk m c 0 t) 0)) (stage (iblk m c 0 t) 1) (stage (iblk m c 0 t) 2) (stage (iblk m c 0 t) 3) (ix2 r l) =
    X6 m c (ix2 (origin t r) l) := by
  refine (pay39_apply _ r l).trans ?_
  show V m c main_v32 (((cfg0.win 0).blk t).view.emb (ix2 _ _)) = _
  rw [emb0]
  refine (dnT m c _ _).trans ?_
  have := t_lt t
  refine congrArg _ (congrArg₂ ix2 (Fin.ext ?_) (Fin.ext ?_))
  · show (512 * (r.val % 8) + l.val) / 512 * 256 + (t.val * 32 + r.val / 8) = (t.val * 256 + r.val) % 8 * 256 + (t.val * 256 + r.val) / 8
    omega
  · show (512 * (r.val % 8) + l.val) % 512 = l.val
    omega
theorem y_block (t : Fin cfg0.N) (r : Fin 256) (k : Fin 512) : iblk m c 1 t (ix2 r k) = Y m c (ix2 (origin t r) k) := by
  show V m c main_v12 (((cfg0.win 1).blk t).view.emb (ix2 r k)) = _
  rw [emb1]; exact yT m c _ _
theorem z_block (t : Fin cfg0.N) (r : Fin 256) (k : Fin 1024) : iblk m c 2 t (ix2 r k) = Z m c (ix2 (origin t r) k) := by
  show V m c main_v29 (((cfg0.win 2).blk t).view.emb (ix2 r k)) = _
  rw [emb2]; exact zT m c _ _
theorem u_block (t : Fin cfg0.N) (r : Fin 256) (k : Fin 512) : iblk m c 3 t (ix2 r k) = X1 m c (ix2 (origin t r) k) := by
  show V m c main_v5 (((cfg0.win 3).blk t).view.emb (ix2 r k)) = _
  rw [emb3]; exact uT m c _ _
theorem d_block (t : Fin cfg0.N) (l : Fin 512) : iblk m c 4 t (ix2 0 l) = X2 m c (ix3 0 ⟨l.val / 16, by omega⟩ ⟨l.val % 16, by omega⟩) := by
  show V m c main_v6 (((cfg0.win 4).blk t).view.emb (ix2 0 l)) = _
  rw [emb4]; exact skipT m c _
theorem w_block (t : Fin cfg0.N) (r : Fin 1024) (l : Fin 512) : iblk m c 5 t (ix2 r l) = X3 m c (ix3 0 l r) := by
  show V m c main_v9 (((cfg0.win 5).blk t).view.emb (ix2 r l)) = _
  rw [emb5]; exact wT m c _ _
theorem g_block (t : Fin cfg0.N) (l : Fin 512) : iblk m c 6 t (ix2 0 l) = X5 m c (ix2 0 l) := by
  show V m c main_arg5 (((cfg0.win 6).blk t).view.emb (ix2 0 l)) = _
  rw [emb6, V_main_arg5]

theorem sum_src (f : Fin 2048 → EReal) : ∑ R, f (src R) = ∑ R, f R := by
  have h : Function.Injective src := fun a b e => by
    have e' : a.val % 8 * 256 + a.val / 8 = b.val % 8 * 256 + b.val / 8 := congrArg Fin.val e
    exact Fin.ext (by omega)
  exact (Finite.injective_iff_bijective.1 h).sum_comp f
theorem word_512 : Ideal.ofBits .f32 0x44000000#32 = ((512 : ℝ) : EReal) := by
  simp [Ideal.ofBits, Ideal.ieee, -EReal.coe_mul]; norm_num
theorem half_real : IsReal half := ⟨1 / 2, by simp [half, Ideal.ofBits, Ideal.ieee, -EReal.coe_mul]; norm_num⟩
theorem K_real : IsReal K := ⟨13386282 / 2 ^ 24, by simp [K, Ideal.ofBits, Ideal.ieee, -EReal.coe_mul]; norm_num⟩
theorem C3_real : IsReal C3 := ⟨12003091 / 2 ^ 28, by simp [C3, Ideal.ofBits, Ideal.ieee, -EReal.coe_mul]; norm_num⟩
theorem three_real : IsReal three := ⟨3, by simp [three, Ideal.ofBits, Ideal.ieee, -EReal.coe_mul]; norm_num⟩
theorem th_real {y : EReal} (hy : IsReal y) : IsReal (th y) := by
  obtain ⟨a, ha⟩ := K_real.mul (hy.add (((C3_real.mul hy).mul hy).mul hy))
  unfold th
  rw [ha]
  exact ⟨Real.tanh a, rfl⟩
theorem gelu_real {y : EReal} (hy : IsReal y) : IsReal (gelu y) := (half_real.mul hy).mul (IsReal.one.add (th_real hy))
theorem mul_geluGrad {a y : EReal} (ha : IsReal a) (hy : IsReal y) : a * geluGrad y = geluBack a y := by
  have ht := th_real hy
  unfold geluGrad geluBack
  generalize th y = t at ht ⊢
  obtain ⟨a, rfl⟩ := ha
  obtain ⟨y, rfl⟩ := hy
  obtain ⟨t, rfl⟩ := ht
  obtain ⟨h, hh⟩ := half_real
  obtain ⟨k, hk⟩ := K_real
  obtain ⟨b, hb⟩ := C3_real
  obtain ⟨d, hd⟩ := three_real
  rw [hh, hk, hb, hd]
  norm_cast
  ring
theorem logistic_real {x : EReal} (hx : IsReal x) : IsReal (Ideal.logistic x) := by
  obtain ⟨x, rfl⟩ := hx
  unfold Ideal.logistic
  have e : Ideal.exp (-(x : EReal)) = ((Real.exp (-x) : ℝ) : EReal) := by rw [← EReal.coe_neg]; rfl
  rw [e, ← EReal.coe_one, ← EReal.coe_add, div_coe_coe _ (by positivity)]
  exact ⟨_, rfl⟩
section
variable {z : Fin 1024 → EReal} (hz : ∀ k, IsReal (z k))
include hz
theorem values_real (k : Fin 512) : IsReal (values z k) := hz _
theorem gates_real (k : Fin 512) : IsReal (gates z k) := logistic_real (hz _)
theorem gated_real (k : Fin 512) : IsReal (gated z k) := (values_real hz k).mul (gates_real hz k)
theorem gateBack_real {o : Fin 512 → EReal} (ho : ∀ k, IsReal (o k)) (l : Fin 1024) : IsReal (gateBack z o l) := by
  unfold gateBack
  split_ifs
  · exact (ho _).mul (gates_real hz _)
  · exact (((ho _).mul (values_real hz _)).mul (gates_real hz _)).mul (IsReal.one.sub (gates_real hz _))
end
/-- Every argument is an array of real numbers. -/
structure Finite : Prop where
  cx : ∀ i, IsReal (X0 m c i)
  u : ∀ i, IsReal (X1 m c i)
  d : ∀ i, IsReal (X2 m c i)
  w : ∀ i, IsReal (X3 m c i)
  b : ∀ i, IsReal (X4 m c i)
  g : ∀ i, IsReal (X5 m c i)
  dn : ∀ i, IsReal (X6 m c i)
/-- The gated row's cotangent at point `t`. -/
abbrev dout (t : Fin cfg0.N) : FVec Ideal S256x512 .f32 :=
  k0_pay46 (F := Ideal) (k0_pay38 (F := Ideal) (stage (iblk m c 0 t) 0)) (stage (iblk m c 0 t) 1) (stage (iblk m c 0 t) 2) (stage (iblk m c 0 t) 3) (iblk m c 2 t) (iblk m c 6 t)
/-- The product's cotangent at point `t`. -/
abbrev dz (t : Fin cfg0.N) : FVec Ideal S256x1024 .bf16 :=
  k0_pay52 (F := Ideal) (k0_pay41 (F := Ideal) (iblk m c 2 t)) (k0_pay42 (F := Ideal) (iblk m c 2 t)) (dout m c t)
/-- The activation's argument's cotangent at point `t`. -/
abbrev dy (t : Fin cfg0.N) : FVec Ideal S256x512 .f32 :=
  k0_pay55 (F := Ideal) (dz m c t) (k0_pay53 (F := Ideal) (iblk m c 1 t)) (iblk m c 5 t)
abbrev doutRef := val_main_v81 (F := Ideal) (X0 m c) (X1 m c) (X2 m c) (X3 m c) (X4 m c) (X5 m c) (X6 m c)
abbrev dzRef := val_main_v87 (F := Ideal) (X0 m c) (X1 m c) (X2 m c) (X3 m c) (X4 m c) (X5 m c) (X6 m c)
abbrev dyRef := val_main_v103 (F := Ideal) (X0 m c) (X1 m c) (X2 m c) (X3 m c) (X4 m c) (X5 m c) (X6 m c)
variable {m c}
section
variable (h : Finite m c)
include h
theorem Y_real (r : Fin 2048) (l : Fin 512) : IsReal (Y m c (ix2 r l)) := by
  have e : Y m c (ix2 r l) = X0 m c (ix2 r l) + X2 m c (ix3 0 ⟨l.val / 16, by omega⟩ ⟨l.val % 16, by omega⟩) * X1 m c (ix2 r l) := by
    unfold Y
    pointwise [val_main_v5, val_main_v4, val_main_v3, val_main_v2, val_main_v1, val_main_v0]
  rw [e]
  exact (h.cx _).add ((h.d _).mul (h.u _))
theorem Z_real (r : Fin 2048) (l : Fin 1024) : IsReal (Z m c (ix2 r l)) := by
  have e : Z m c (ix2 r l) = (∑ k : Fin 512, val_main_v26 (F := Ideal) (X0 m c) (X1 m c) (X2 m c) (ix2 r k) * X3 m c (ix3 0 k l)) + X4 m c (ix2 0 l) := by
    unfold Z
    pointwise [val_main_v32, val_main_v31, val_main_v30, val_main_v29, val_main_v28, val_main_v27]
  rw [e]
  refine (IsReal.sum fun k _ => IsReal.mul ?_ (h.w _)).add (h.b _)
  rw [v26_apply]
  exact gelu_real (Y_real h r k)
theorem dout_point (t : Fin cfg0.N) (r : Fin 256) (l : Fin 512) : dout m c t (ix2 r l) = doutRef m c (ix2 (origin t r) l) := by
  refine (pay46_apply _ _ _ _ _ rfl _ _ r l).trans ?_
  unfold doutRef
  rw [v81_apply]
  simp only [dn_block, z_block, g_block, W, E, H, word_512, word_eps, word_neg_half]
  exact normBack_eq_normGrad (by norm_num) eps_pos (gated_real fun k => Z_real h _ _) (fun k => (h.dn _).mul (h.g _)) l
theorem doutRef_real (t : Fin cfg0.N) (r : Fin 256) (l : Fin 512) : IsReal (doutRef m c (ix2 (origin t r) l)) := by
  rw [← dout_point h]
  refine Eq.subst (motive := IsReal) (pay46_apply _ _ _ _ _ rfl _ _ r l).symm ?_
  simp only [dn_block, z_block, g_block, W, E, word_512, word_eps]
  exact normBack_real (by norm_num) eps_pos (gated_real fun k => Z_real h _ _) (fun k => (h.dn _).mul (h.g _)) l
theorem dz_point (t : Fin cfg0.N) (r : Fin 256) (l : Fin 1024) : dz m c t (ix2 r l) = dzRef m c (ix2 (origin t r) l) := by
  refine (pay52_apply _ _ r l).trans ?_
  unfold dzRef
  rw [v87_apply]
  simp only [dout_point h, z_block]
theorem dzRef_real (t : Fin cfg0.N) (r : Fin 256) (l : Fin 1024) : IsReal (dzRef m c (ix2 (origin t r) l)) := by
  unfold dzRef
  rw [v87_apply]
  exact gateBack_real (fun k => Z_real h _ _) (fun k => doutRef_real h t r k) l
theorem dy_point (t : Fin cfg0.N) (r : Fin 256) (l : Fin 512) : dy m c t (ix2 r l) = dyRef m c (ix2 (origin t r) l) := by
  refine (pay55_apply _ _ _ r l).trans ?_
  unfold dyRef
  rw [v103_apply, v91_apply]
  simp only [dz_point h, w_block, y_block]
  exact mul_geluGrad (IsReal.sum fun k _ => (dzRef_real h t r k).mul (h.w _)) (Y_real h _ _)
end
theorem final7 : (dats m 0 c).arrAt 7 (cfgs 0).N = val_main_v113 (F := Ideal) (X0 m c) (X1 m c) (X2 m c) := by
  refine (dats m 0 c).arrAt_eq_of_covers 7 _ (by decide +kernel) fun t hf y => ?_
  have key : k0_pay54 (F := Ideal) (iblk m c 1 t) y = val_main_v113 (F := Ideal) (X0 m c) (X1 m c) (X2 m c) (((cfg0.win 7).blk t).view.emb y) := by
    idx_vars y
    rw [emb7, v113_apply, v26_apply]
    exact (pay54_apply _ y0 y1).trans (congrArg gelu (y_block m c t y0 y1))
  blk_simp; rw [after0_7]
  have := t_lt t
  by_cases h0 : t.val % 8 = 0
  · rw [outsAt0_A m c t h0 (by omega) h0 (by omega) h0 (by omega)]; frame_out; exact key
  · rw [outsAt0_B m c t h0 (by omega) h0 (by omega) h0 (by omega)]; frame_out; exact key
theorem final8 (h : Finite m c) : (dats m 0 c).arrAt 8 (cfgs 0).N = val_main_v117 (F := Ideal) (X0 m c) (X1 m c) (X2 m c) (X3 m c) (X4 m c) (X5 m c) (X6 m c) := by
  refine (dats m 0 c).arrAt_eq_of_covers 8 _ (by decide +kernel) fun t hf y => ?_
  have key : dz m c t y = val_main_v117 (F := Ideal) (X0 m c) (X1 m c) (X2 m c) (X3 m c) (X4 m c) (X5 m c) (X6 m c) (((cfg0.win 8).blk t).view.emb y) := by
    idx_vars y
    rw [emb8, v117_apply]
    exact dz_point h t y0 y1
  blk_simp; rw [after0_8]
  have := t_lt t
  by_cases h0 : t.val % 8 = 0
  · rw [outsAt0_A m c t h0 (by omega) h0 (by omega) h0 (by omega)]; frame_out; exact key
  · rw [outsAt0_B m c t h0 (by omega) h0 (by omega) h0 (by omega)]; frame_out; exact key
theorem final9 (h : Finite m c) : (dats m 0 c).arrAt 9 (cfgs 0).N = val_main_v121 (F := Ideal) (X0 m c) (X1 m c) (X2 m c) (X3 m c) (X4 m c) (X5 m c) (X6 m c) := by
  refine (dats m 0 c).arrAt_eq_of_covers 9 _ (by decide +kernel) fun t hf y => ?_
  have key : k0_pay3 (F := Ideal) (dy m c t) y = val_main_v121 (F := Ideal) (X0 m c) (X1 m c) (X2 m c) (X3 m c) (X4 m c) (X5 m c) (X6 m c) (((cfg0.win 9).blk t).view.emb y) := by
    idx_vars y
    rw [emb9, v121_apply]
    exact (pay3_apply _ _).trans (dy_point h t y0 y1)
  blk_simp; rw [after0_9]
  have := t_lt t
  by_cases h0 : t.val % 8 = 0
  · rw [outsAt0_A m c t h0 (by omega) h0 (by omega) h0 (by omega)]; frame_out; exact key
  · rw [outsAt0_B m c t h0 (by omega) h0 (by omega) h0 (by omega)]; frame_out; exact key
theorem final10 (h : Finite m c) : (dats m 0 c).arrAt 10 (cfgs 0).N = val_main_v124 (F := Ideal) (X0 m c) (X1 m c) (X2 m c) (X3 m c) (X4 m c) (X5 m c) (X6 m c) := by
  refine (dats m 0 c).arrAt_eq_of_covers 10 _ (by decide +kernel) fun t hf y => ?_
  have key : k0_pay2 (F := Ideal) (dy m c t) (iblk m c 4 t) y = val_main_v124 (F := Ideal) (X0 m c) (X1 m c) (X2 m c) (X3 m c) (X4 m c) (X5 m c) (X6 m c) (((cfg0.win 10).blk t).view.emb y) := by
    idx_vars y
    rw [emb10, v124_apply]
    exact (pay2_apply _ _ y0 y1).trans (congrArg₂ (· * ·) (d_block m c t y1) (dy_point h t y0 y1))
  blk_simp; rw [after0_10]
  have := t_lt t
  by_cases h0 : t.val % 8 = 0
  · rw [outsAt0_A m c t h0 (by omega) h0 (by omega) h0 (by omega)]; frame_out; exact key
  · rw [outsAt0_B m c t h0 (by omega) h0 (by omega) h0 (by omega)]; frame_out; exact key
theorem final11 : (dats m 0 c).arrAt 11 (cfgs 0).N = val_main_v125 (F := Ideal) (X0 m c) (X1 m c) (X2 m c) (X3 m c) (X4 m c) (X6 m c) := by
  refine (dats m 0 c).arrAt_eq_of_after_last 11 t0_7 (by decide +kernel) _ fun j => ?_
  blk_simp
  rw [after0_11, Pipeline.eq_sum_fin_of_reset_step_apply_last (fun n h => (outsAt0 m c n h).2.2.2.2.1) 8 (fun _ => 0)
    (fun (p : Fin cfg0.N) j => k0_pay47 (F := Ideal) (k0_pay38 (F := Ideal) (stage (iblk m c 0 p) 0)) (stage (iblk m c 0 p) 1) (stage (iblk m c 0 p) 2) (stage (iblk m c 0 p) 3) (iblk m c 2 p) j)
    (fun t h j => by rw [outsAt0_A m c t h (by have := t_lt t; omega) h (by have := t_lt t; omega) h (by have := t_lt t; omega)]; frame_out; rw [zero_add]; rfl)
    (fun t h j => by rw [outsAt0_B m c t h (by omega) h (by omega) h (by omega)]; frame_out; exact pay48_apply _ _ _)
    (le_of_eq N_0) t0_7 rfl j, zero_add]
  idx_vars j
  obtain rfl : j0 = 0 := Subsingleton.elim _ _
  rw [v125_apply, ← sum_src]
  simp only [pay47_apply _ _ _ _ _ rfl]
  refine Fin.sum_mul_add_congr (S := cfg0.N) (n := 256) fun p r hl => ?_
  simp only [z_block, dn_block]
  exact mul_comm (G := EReal) _ _
theorem final12 (h : Finite m c) : (dats m 0 c).arrAt 12 (cfgs 0).N = val_main_v126 (F := Ideal) (X0 m c) (X1 m c) (X2 m c) (X3 m c) (X4 m c) (X5 m c) (X6 m c) := by
  refine (dats m 0 c).arrAt_eq_of_after_last 12 t0_7 (by decide +kernel) _ fun j => ?_
  blk_simp
  rw [after0_12, Pipeline.eq_sum_fin_of_reset_step_apply_last (fun n h => (outsAt0 m c n h).2.2.2.2.2.1) 8 (fun _ => 0)
    (fun (p : Fin cfg0.N) j => k0_pay50 (F := Ideal) (k0_pay41 (F := Ideal) (iblk m c 2 p)) (k0_pay42 (F := Ideal) (iblk m c 2 p)) (dout m c p) j)
    (fun t h j => by rw [outsAt0_A m c t h (by have := t_lt t; omega) h (by have := t_lt t; omega) h (by have := t_lt t; omega)]; frame_out; rw [zero_add]; rfl)
    (fun t h j => by rw [outsAt0_B m c t h (by omega) h (by omega) h (by omega)]; frame_out; exact pay51_apply _ _ _ _ _)
    (le_of_eq N_0) t0_7 rfl j, zero_add]
  idx_vars j
  obtain rfl : j0 = 0 := Subsingleton.elim _ _
  rw [v126_apply, ← sum_src]
  simp only [pay50_apply]
  exact Fin.sum_mul_add_congr (S := cfg0.N) (n := 256) fun p r hl => dz_point h p r j1
theorem final13 (h : Finite m c) : (dats m 0 c).arrAt 13 (cfgs 0).N = val_main_v127 (F := Ideal) (X0 m c) (X1 m c) (X2 m c) (X3 m c) (X4 m c) (X5 m c) (X6 m c) := by
  refine (dats m 0 c).arrAt_eq_of_after_last 13 t0_7 (by decide +kernel) _ fun j => ?_
  blk_simp
  rw [after0_13, Pipeline.eq_sum_fin_of_reset_step_apply_last (fun n h => (outsAt0 m c n h).2.2.2.2.2.2) 8 (fun _ => 0)
    (fun (p : Fin cfg0.N) j => k0_pay56 (F := Ideal) (dz m c p) (k0_pay53 (F := Ideal) (iblk m c 1 p)) (iblk m c 5 p) (iblk m c 3 p) j)
    (fun t h j => by rw [outsAt0_A m c t h (by have := t_lt t; omega) h (by have := t_lt t; omega) h (by have := t_lt t; omega)]; frame_out; rw [zero_add]; rfl)
    (fun t h j => by rw [outsAt0_B m c t h (by omega) h (by omega) h (by omega)]; frame_out; exact pay1_apply _ _ _)
    (le_of_eq N_0) t0_7 rfl j, zero_add]
  idx_vars j
  obtain rfl : j0 = 0 := Subsingleton.elim _ _
  rw [v127_apply, ← sum_src]
  simp only [pay56_apply]
  exact Fin.sum_mul_add_congr (S := cfg0.N) (n := 256) fun p r hl => congrArg₂ (· * ·) (dy_point h p r j1) (u_block m c p r j1)

theorem run (m : (ℓ : Loc nD τ sig) → Buf (Elt Ideal) ℓ) (ρ : Dev nD → PrngReg) (H : ∀ c, Finite m c) :
    θ_run (defs (F := Ideal)) (onTc (τ := τ) (main (F := Ideal))) ⟨m, fun _ => 0, ρ⟩ (fun r => ∀ c : Dev nD,
      (r.2.mem ((c.tc : Thread nD τ).loc main_v33_0) = val_main_v113 (F := Ideal) (X0 m c) (X1 m c) (X2 m c)
      ∧ r.2.mem ((c.tc : Thread nD τ).loc main_v33_1) = val_main_v117 (F := Ideal) (X0 m c) (X1 m c) (X2 m c) (X3 m c) (X4 m c) (X5 m c) (X6 m c)
      ∧ r.2.mem ((c.tc : Thread nD τ).loc main_v33_2) = val_main_v121 (F := Ideal) (X0 m c) (X1 m c) (X2 m c) (X3 m c) (X4 m c) (X5 m c) (X6 m c)
      ∧ r.2.mem ((c.tc : Thread nD τ).loc main_v33_3) = val_main_v124 (F := Ideal) (X0 m c) (X1 m c) (X2 m c) (X3 m c) (X4 m c) (X5 m c) (X6 m c)
      ∧ r.2.mem ((c.tc : Thread nD τ).loc main_v33_4) = val_main_v125 (F := Ideal) (X0 m c) (X1 m c) (X2 m c) (X3 m c) (X4 m c) (X6 m c)
      ∧ r.2.mem ((c.tc : Thread nD τ).loc main_v33_5) = val_main_v126 (F := Ideal) (X0 m c) (X1 m c) (X2 m c) (X3 m c) (X4 m c) (X5 m c) (X6 m c)
      ∧ r.2.mem ((c.tc : Thread nD τ).loc main_v33_6) = val_main_v127 (F := Ideal) (X0 m c) (X1 m c) (X2 m c) (X3 m c) (X4 m c) (X5 m c) (X6 m c))) :=
  (θ_run (defs (F := Ideal)) _ _).mono (fun r h c =>
    ⟨(post7 m r h c).trans final7, (post8 m r h c).trans (final8 (H c)), (post9 m r h c).trans (final9 (H c)), (post10 m r h c).trans (final10 (H c)), (post11 m r h c).trans final11, (post12 m r h c).trans (final12 (H c)), (post13 m r h c).trans (final13 (H c))⟩) (run_main m ρ)

end Cert.GluBwdIdeal.Value

end
-- ==== Proof.GluClaims.lean ====
/- The claims about the state-space output's backward call and the gradient it computes. -/
module

public import proofs.«01_k».proof.Defs
public import proofs.«01_k».proof.Proof.Gen.GluBwd.Frame
public import proofs.«01_k».proof.Proof.Gen.GluGradIdeal.Run
public import proofs.«01_k».proof.Proof.GluValue
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

instance glu_pre_facts : Cert.Pre_finite_glu.Facts where
  bcast_S_S2048x512 := by decide
  bcast_S_S1x32x16 := by decide
  bcast_S_S1x512x1024 := by decide
  bcast_S_S1x1024 := by decide
  bcast_S_S1x512 := by decide

theorem glu_frame : Cert.quiescent_GluBwd := fun m g _ => Cert.GluBwd.Gen.frame m g
theorem glu_frame_ideal : Cert.quiescent_GluBwdIdeal := fun m g _ => Cert.GluBwdIdeal.Gen.frame m g
theorem glu_frame_ideal_pre : Cert.quiescent_GluBwdIdeal_pre_finite_glu := fun m g _ => Cert.GluBwdIdeal.Gen.frame m g
theorem glu_grad_frame : Cert.quiescent_GluGradIdeal := fun m g _ => by
  hlo_run
  · simp
  · exact sem_eq_zero_of_no_sems (sig := Cert.GluGradIdeal.sig) (by decide) _
theorem glu_grad_frame_pre : Cert.quiescent_GluGradIdeal_pre_finite_glu := fun m g _ => glu_grad_frame m g trivial

theorem glu_finite {m : (ℓ : Loc Cert.GluBwdIdeal.nD Cert.GluBwdIdeal.τ Cert.GluBwdIdeal.sig) → Buf (Elt Ideal) ℓ}
    (h : Cert.Pre_GluBwdIdeal_finite_glu m) (c : Dev Cert.GluBwdIdeal.nD) : Cert.GluBwdIdeal.Value.Finite m c :=
  ⟨Cert.Reals.isReal_of_olt (h c).1, Cert.Reals.isReal_of_olt (h c).2.1, Cert.Reals.isReal_of_olt (h c).2.2.1, Cert.Reals.isReal_of_olt (h c).2.2.2.1, Cert.Reals.isReal_of_olt (h c).2.2.2.2.1, Cert.Reals.isReal_of_olt (h c).2.2.2.2.2.1, Cert.Reals.isReal_of_olt (h c).2.2.2.2.2.2⟩

theorem glu_args_113 {x0 y0 : (⟨Cert.GluGradIdeal.S2048x512, .f32⟩ : BufTy).Contents (Elt Ideal)} {x1 y1 : (⟨Cert.GluGradIdeal.S2048x512, .f32⟩ : BufTy).Contents (Elt Ideal)} {x2 y2 : (⟨Cert.GluGradIdeal.S1x32x16, .f32⟩ : BufTy).Contents (Elt Ideal)}
    (e0 : x0 = y0) (e1 : x1 = y1) (e2 : x2 = y2) :
    Cert.GluGradIdeal.Read.val_main_v113 (F := Ideal) x0 x1 x2 = Cert.GluGradIdeal.Read.val_main_v113 (F := Ideal) y0 y1 y2 := by
  subst e0 e1 e2; rfl
theorem glu_args_117 {x0 y0 : (⟨Cert.GluGradIdeal.S2048x512, .f32⟩ : BufTy).Contents (Elt Ideal)} {x1 y1 : (⟨Cert.GluGradIdeal.S2048x512, .f32⟩ : BufTy).Contents (Elt Ideal)} {x2 y2 : (⟨Cert.GluGradIdeal.S1x32x16, .f32⟩ : BufTy).Contents (Elt Ideal)} {x3 y3 : (⟨Cert.GluGradIdeal.S1x512x1024, .f32⟩ : BufTy).Contents (Elt Ideal)} {x4 y4 : (⟨Cert.GluGradIdeal.S1x1024, .f32⟩ : BufTy).Contents (Elt Ideal)} {x5 y5 : (⟨Cert.GluGradIdeal.S1x512, .f32⟩ : BufTy).Contents (Elt Ideal)} {x6 y6 : (⟨Cert.GluGradIdeal.S2048x512, .f32⟩ : BufTy).Contents (Elt Ideal)}
    (e0 : x0 = y0) (e1 : x1 = y1) (e2 : x2 = y2) (e3 : x3 = y3) (e4 : x4 = y4) (e5 : x5 = y5) (e6 : x6 = y6) :
    Cert.GluGradIdeal.Read.val_main_v117 (F := Ideal) x0 x1 x2 x3 x4 x5 x6 = Cert.GluGradIdeal.Read.val_main_v117 (F := Ideal) y0 y1 y2 y3 y4 y5 y6 := by
  subst e0 e1 e2 e3 e4 e5 e6; rfl
theorem glu_args_121 {x0 y0 : (⟨Cert.GluGradIdeal.S2048x512, .f32⟩ : BufTy).Contents (Elt Ideal)} {x1 y1 : (⟨Cert.GluGradIdeal.S2048x512, .f32⟩ : BufTy).Contents (Elt Ideal)} {x2 y2 : (⟨Cert.GluGradIdeal.S1x32x16, .f32⟩ : BufTy).Contents (Elt Ideal)} {x3 y3 : (⟨Cert.GluGradIdeal.S1x512x1024, .f32⟩ : BufTy).Contents (Elt Ideal)} {x4 y4 : (⟨Cert.GluGradIdeal.S1x1024, .f32⟩ : BufTy).Contents (Elt Ideal)} {x5 y5 : (⟨Cert.GluGradIdeal.S1x512, .f32⟩ : BufTy).Contents (Elt Ideal)} {x6 y6 : (⟨Cert.GluGradIdeal.S2048x512, .f32⟩ : BufTy).Contents (Elt Ideal)}
    (e0 : x0 = y0) (e1 : x1 = y1) (e2 : x2 = y2) (e3 : x3 = y3) (e4 : x4 = y4) (e5 : x5 = y5) (e6 : x6 = y6) :
    Cert.GluGradIdeal.Read.val_main_v121 (F := Ideal) x0 x1 x2 x3 x4 x5 x6 = Cert.GluGradIdeal.Read.val_main_v121 (F := Ideal) y0 y1 y2 y3 y4 y5 y6 := by
  subst e0 e1 e2 e3 e4 e5 e6; rfl
theorem glu_args_124 {x0 y0 : (⟨Cert.GluGradIdeal.S2048x512, .f32⟩ : BufTy).Contents (Elt Ideal)} {x1 y1 : (⟨Cert.GluGradIdeal.S2048x512, .f32⟩ : BufTy).Contents (Elt Ideal)} {x2 y2 : (⟨Cert.GluGradIdeal.S1x32x16, .f32⟩ : BufTy).Contents (Elt Ideal)} {x3 y3 : (⟨Cert.GluGradIdeal.S1x512x1024, .f32⟩ : BufTy).Contents (Elt Ideal)} {x4 y4 : (⟨Cert.GluGradIdeal.S1x1024, .f32⟩ : BufTy).Contents (Elt Ideal)} {x5 y5 : (⟨Cert.GluGradIdeal.S1x512, .f32⟩ : BufTy).Contents (Elt Ideal)} {x6 y6 : (⟨Cert.GluGradIdeal.S2048x512, .f32⟩ : BufTy).Contents (Elt Ideal)}
    (e0 : x0 = y0) (e1 : x1 = y1) (e2 : x2 = y2) (e3 : x3 = y3) (e4 : x4 = y4) (e5 : x5 = y5) (e6 : x6 = y6) :
    Cert.GluGradIdeal.Read.val_main_v124 (F := Ideal) x0 x1 x2 x3 x4 x5 x6 = Cert.GluGradIdeal.Read.val_main_v124 (F := Ideal) y0 y1 y2 y3 y4 y5 y6 := by
  subst e0 e1 e2 e3 e4 e5 e6; rfl
theorem glu_args_125 {x0 y0 : (⟨Cert.GluGradIdeal.S2048x512, .f32⟩ : BufTy).Contents (Elt Ideal)} {x1 y1 : (⟨Cert.GluGradIdeal.S2048x512, .f32⟩ : BufTy).Contents (Elt Ideal)} {x2 y2 : (⟨Cert.GluGradIdeal.S1x32x16, .f32⟩ : BufTy).Contents (Elt Ideal)} {x3 y3 : (⟨Cert.GluGradIdeal.S1x512x1024, .f32⟩ : BufTy).Contents (Elt Ideal)} {x4 y4 : (⟨Cert.GluGradIdeal.S1x1024, .f32⟩ : BufTy).Contents (Elt Ideal)} {x6 y6 : (⟨Cert.GluGradIdeal.S2048x512, .f32⟩ : BufTy).Contents (Elt Ideal)}
    (e0 : x0 = y0) (e1 : x1 = y1) (e2 : x2 = y2) (e3 : x3 = y3) (e4 : x4 = y4) (e6 : x6 = y6) :
    Cert.GluGradIdeal.Read.val_main_v125 (F := Ideal) x0 x1 x2 x3 x4 x6 = Cert.GluGradIdeal.Read.val_main_v125 (F := Ideal) y0 y1 y2 y3 y4 y6 := by
  subst e0 e1 e2 e3 e4 e6; rfl
theorem glu_args_126 {x0 y0 : (⟨Cert.GluGradIdeal.S2048x512, .f32⟩ : BufTy).Contents (Elt Ideal)} {x1 y1 : (⟨Cert.GluGradIdeal.S2048x512, .f32⟩ : BufTy).Contents (Elt Ideal)} {x2 y2 : (⟨Cert.GluGradIdeal.S1x32x16, .f32⟩ : BufTy).Contents (Elt Ideal)} {x3 y3 : (⟨Cert.GluGradIdeal.S1x512x1024, .f32⟩ : BufTy).Contents (Elt Ideal)} {x4 y4 : (⟨Cert.GluGradIdeal.S1x1024, .f32⟩ : BufTy).Contents (Elt Ideal)} {x5 y5 : (⟨Cert.GluGradIdeal.S1x512, .f32⟩ : BufTy).Contents (Elt Ideal)} {x6 y6 : (⟨Cert.GluGradIdeal.S2048x512, .f32⟩ : BufTy).Contents (Elt Ideal)}
    (e0 : x0 = y0) (e1 : x1 = y1) (e2 : x2 = y2) (e3 : x3 = y3) (e4 : x4 = y4) (e5 : x5 = y5) (e6 : x6 = y6) :
    Cert.GluGradIdeal.Read.val_main_v126 (F := Ideal) x0 x1 x2 x3 x4 x5 x6 = Cert.GluGradIdeal.Read.val_main_v126 (F := Ideal) y0 y1 y2 y3 y4 y5 y6 := by
  subst e0 e1 e2 e3 e4 e5 e6; rfl
theorem glu_args_127 {x0 y0 : (⟨Cert.GluGradIdeal.S2048x512, .f32⟩ : BufTy).Contents (Elt Ideal)} {x1 y1 : (⟨Cert.GluGradIdeal.S2048x512, .f32⟩ : BufTy).Contents (Elt Ideal)} {x2 y2 : (⟨Cert.GluGradIdeal.S1x32x16, .f32⟩ : BufTy).Contents (Elt Ideal)} {x3 y3 : (⟨Cert.GluGradIdeal.S1x512x1024, .f32⟩ : BufTy).Contents (Elt Ideal)} {x4 y4 : (⟨Cert.GluGradIdeal.S1x1024, .f32⟩ : BufTy).Contents (Elt Ideal)} {x5 y5 : (⟨Cert.GluGradIdeal.S1x512, .f32⟩ : BufTy).Contents (Elt Ideal)} {x6 y6 : (⟨Cert.GluGradIdeal.S2048x512, .f32⟩ : BufTy).Contents (Elt Ideal)}
    (e0 : x0 = y0) (e1 : x1 = y1) (e2 : x2 = y2) (e3 : x3 = y3) (e4 : x4 = y4) (e5 : x5 = y5) (e6 : x6 = y6) :
    Cert.GluGradIdeal.Read.val_main_v127 (F := Ideal) x0 x1 x2 x3 x4 x5 x6 = Cert.GluGradIdeal.Read.val_main_v127 (F := Ideal) y0 y1 y2 y3 y4 y5 y6 := by
  subst e0 e1 e2 e3 e4 e5 e6; rfl

theorem glu_algebraic : Cert.algebraic_GluBwdIdeal_GluGradIdeal_pre_finite_glu := by
  intro m g m' g' hpre hagree
  refine ⟨fun c => Cert.GluGradIdeal.Read.val_main_v113 (F := Ideal) (Cert.GluBwdIdeal.Value.X0 m c) (Cert.GluBwdIdeal.Value.X1 m c) (Cert.GluBwdIdeal.Value.X2 m c),
    fun c => Cert.GluGradIdeal.Read.val_main_v117 (F := Ideal) (Cert.GluBwdIdeal.Value.X0 m c) (Cert.GluBwdIdeal.Value.X1 m c) (Cert.GluBwdIdeal.Value.X2 m c) (Cert.GluBwdIdeal.Value.X3 m c) (Cert.GluBwdIdeal.Value.X4 m c) (Cert.GluBwdIdeal.Value.X5 m c) (Cert.GluBwdIdeal.Value.X6 m c),
    fun c => Cert.GluGradIdeal.Read.val_main_v121 (F := Ideal) (Cert.GluBwdIdeal.Value.X0 m c) (Cert.GluBwdIdeal.Value.X1 m c) (Cert.GluBwdIdeal.Value.X2 m c) (Cert.GluBwdIdeal.Value.X3 m c) (Cert.GluBwdIdeal.Value.X4 m c) (Cert.GluBwdIdeal.Value.X5 m c) (Cert.GluBwdIdeal.Value.X6 m c),
    fun c => Cert.GluGradIdeal.Read.val_main_v124 (F := Ideal) (Cert.GluBwdIdeal.Value.X0 m c) (Cert.GluBwdIdeal.Value.X1 m c) (Cert.GluBwdIdeal.Value.X2 m c) (Cert.GluBwdIdeal.Value.X3 m c) (Cert.GluBwdIdeal.Value.X4 m c) (Cert.GluBwdIdeal.Value.X5 m c) (Cert.GluBwdIdeal.Value.X6 m c),
    fun c => Cert.GluGradIdeal.Read.val_main_v125 (F := Ideal) (Cert.GluBwdIdeal.Value.X0 m c) (Cert.GluBwdIdeal.Value.X1 m c) (Cert.GluBwdIdeal.Value.X2 m c) (Cert.GluBwdIdeal.Value.X3 m c) (Cert.GluBwdIdeal.Value.X4 m c) (Cert.GluBwdIdeal.Value.X6 m c),
    fun c => Cert.GluGradIdeal.Read.val_main_v126 (F := Ideal) (Cert.GluBwdIdeal.Value.X0 m c) (Cert.GluBwdIdeal.Value.X1 m c) (Cert.GluBwdIdeal.Value.X2 m c) (Cert.GluBwdIdeal.Value.X3 m c) (Cert.GluBwdIdeal.Value.X4 m c) (Cert.GluBwdIdeal.Value.X5 m c) (Cert.GluBwdIdeal.Value.X6 m c),
    fun c => Cert.GluGradIdeal.Read.val_main_v127 (F := Ideal) (Cert.GluBwdIdeal.Value.X0 m c) (Cert.GluBwdIdeal.Value.X1 m c) (Cert.GluBwdIdeal.Value.X2 m c) (Cert.GluBwdIdeal.Value.X3 m c) (Cert.GluBwdIdeal.Value.X4 m c) (Cert.GluBwdIdeal.Value.X5 m c) (Cert.GluBwdIdeal.Value.X6 m c), ?_, ?_⟩
  · refine (θ_run (Cert.GluBwdIdeal.defs (F := Ideal)) _ _).mono (fun r h c => ?_)
      (θ_run_and (Cert.GluBwdIdeal.Value.run m g fun c => glu_finite hpre c) (Cert.GluBwdIdeal.Gen.unchanged m g))
    obtain ⟨h0, h1, h2, h3, h4, h5, h6⟩ := h.1 c
    exact ⟨h0, h1, h2, h3, h4, h5, h6, h.2 c⟩
  · refine (θ_run (Cert.GluGradIdeal.defs (F := Ideal)) _ _).mono (fun r h c => ?_) (Cert.GluGradIdeal.Value.run m' g')
    obtain ⟨h0, h1, h2, h3, h4, h5, h6, ha⟩ := h c
    obtain ⟨e0, e1, e2, e3, e4, e5, e6⟩ := hagree c
    refine ⟨h0.trans ?_, h1.trans ?_, h2.trans ?_, h3.trans ?_, h4.trans ?_, h5.trans ?_, h6.trans ?_, ha⟩
    · refine (Cert.GluGradIdeal.Read.val_main_v113_eq _).trans ?_
      exact glu_args_113 e0 e1 e2
    · refine (Cert.GluGradIdeal.Read.val_main_v117_eq _).trans ?_
      exact glu_args_117 e0 e1 e2 e3 e4 e5 e6
    · refine (Cert.GluGradIdeal.Read.val_main_v121_eq _).trans ?_
      exact glu_args_121 e0 e1 e2 e3 e4 e5 e6
    · refine (Cert.GluGradIdeal.Read.val_main_v124_eq _).trans ?_
      exact glu_args_124 e0 e1 e2 e3 e4 e5 e6
    · refine (Cert.GluGradIdeal.Read.val_main_v125_eq _).trans ?_
      exact glu_args_125 e0 e1 e2 e3 e4 e6
    · refine (Cert.GluGradIdeal.Read.val_main_v126_eq _).trans ?_
      exact glu_args_126 e0 e1 e2 e3 e4 e5 e6
    · refine (Cert.GluGradIdeal.Read.val_main_v127_eq _).trans ?_
      exact glu_args_127 e0 e1 e2 e3 e4 e5 e6

end Cert.Proof

end
-- ==== Proof.FfnHost.lean ====
/- The gated layer's loss and gradient read at an index, and the steps of the version's call. -/
module

public import proofs.«01_k».proof.Proof.Gen.FfnBwdIdeal.Value
public import proofs.«01_k».proof.Proof.Gen.FfnGradIdeal.Read
public import Idealize.ShloMosaic.Lib.Pipeline.ValueKit
public import Idealize.ShloMosaic.Lib.StableHlo.RunRead
public import proofs.«01_k».proof.Proof.Reals

@[expose] public section

set_option maxRecDepth 16384

noncomputable section

open Idealize.ShloMosaic Idealize.ShloMosaic.TcCoe Idealize.SL.Sem
open Idealize.ShloMosaic.Pipeline (Dat)
open scoped BigOperators

namespace Cert.FfnBwdIdeal.Value

open Cert.FfnBwdIdeal Cert.FfnBwdIdeal.Gen Cert.Reals
open Cert.FfnGradIdeal.Read

abbrev half : EReal := Ideal.ofBits .f32 0x3F000000#32
abbrev two : EReal := Ideal.ofBits .f32 0x40000000#32
abbrev W : EReal := Ideal.ofBits .f32 0x44800000#32
abbrev E : EReal := Ideal.ofBits .f32 0x358637BD#32
abbrev H : EReal := Ideal.ofBits .f32 0xBF000000#32
def silu (x : EReal) : EReal := x * Ideal.logistic x
/-- The gradient of `silu` for the cotangent `a`, as the transposed program spells it. -/
def siluGrad (a x : EReal) : EReal := a * Ideal.logistic x + x * a * (Ideal.logistic x * (1 - Ideal.logistic x))
/-- The lane of the gate's row, and of the other factor's, in the product of both. -/
abbrev lo (j : Fin 2816) : Fin 5632 := ⟨j.val, by omega⟩
abbrev hi (j : Fin 2816) : Fin 5632 := ⟨2816 + j.val, by omega⟩
section Reference
variable (x0 x1 : FVec Ideal S2048x1024 .f32) (x2 : FVec Ideal S1x1024 .f32) (x3 : FVec Ideal S1x1024x5632 .f32) (x4 : FVec Ideal S1x2816x1024 .f32) (x5 : FVec Ideal S1x1024 .f32)
theorem v18_apply (r : Fin 2048) (j : Fin 5632) : val_main_v18 (F := Ideal) x0 x2 x3 (ix2 r j) =
    ∑ k : Fin 1024, x0 (ix2 r k) * Ideal.rsqrt (var W E fun k => x0 (ix2 r k)) * x2 (ix2 0 k) * x3 (ix3 0 k j) := by
  unfold var
  pointwise [val_main_v18, val_main_v17, val_main_v16, val_main_v15, val_main_v14, val_main_v13, val_main_v12, val_main_v8, val_main_v7, val_main_v6, val_main_v5, val_main_v4, val_main_v3, val_main_v2, val_main_v1, val_main_v0, val_main_cst, val_main_cst_0, val_main_cst_1]
theorem sig_apply (r : Fin 2048) (j : Fin 2816) : val_main_v20_2 (F := Ideal) x0 x2 x3 (ix2 r j) = Ideal.logistic (val_main_v18 (F := Ideal) x0 x2 x3 (ix2 r (lo j))) := by
  unfold Ideal.logistic lo
  pointwise [val_main_v20_2, val_main_call0_v4, val_main_call0_v3, val_main_call0_v2, val_main_call0_v1, val_main_call0_v0, val_main_call0_cst, val_main_call0_cst_0, val_main_v19]
theorem silu_apply (r : Fin 2048) (j : Fin 2816) : val_main_v20_0 (F := Ideal) x0 x2 x3 (ix2 r j) = silu (val_main_v18 (F := Ideal) x0 x2 x3 (ix2 r (lo j))) := by
  unfold silu
  rw [← sig_apply]
  unfold lo
  pointwise [val_main_v20_0, val_main_v19]
theorem v22_apply (r : Fin 2048) (j : Fin 2816) : val_main_v22 (F := Ideal) x0 x2 x3 (ix2 r j) = silu (val_main_v18 (F := Ideal) x0 x2 x3 (ix2 r (lo j))) * val_main_v18 (F := Ideal) x0 x2 x3 (ix2 r (hi j)) := by
  rw [← silu_apply]
  unfold hi
  pointwise [val_main_v22, val_main_v21]
theorem v24_apply (r : Fin 2048) (k : Fin 1024) : val_main_v24 (F := Ideal) x0 x2 x3 x4 (ix2 r k) = ∑ j : Fin 2816, val_main_v22 (F := Ideal) x0 x2 x3 (ix2 r j) * x4 (ix3 0 j k) := by
  pointwise [val_main_v24, val_main_v23]
theorem v43_apply (r : Fin 2048) (k : Fin 1024) : val_main_v43 (F := Ideal) x0 x1 x2 x3 x4 x5 (ix2 r k) =
    x0 (ix2 r k) + val_main_v24 (F := Ideal) x0 x2 x3 x4 (ix2 r k) * Ideal.rsqrt (var W E fun k => val_main_v24 (F := Ideal) x0 x2 x3 x4 (ix2 r k)) * x5 (ix2 0 k) - x1 (ix2 r k) := by
  unfold var
  pointwise [val_main_v43, val_main_v42, val_main_v41, val_main_v40, val_main_v39, val_main_v38, val_main_v37, val_main_v33, val_main_v32, val_main_v31, val_main_v30, val_main_v29, val_main_v28, val_main_v27, val_main_v26, val_main_v25, val_main_cst_3, val_main_cst_4, val_main_cst_5]
theorem v57_apply (r : Fin 2048) (k : Fin 1024) : val_main_v57 (F := Ideal) x0 x1 x2 x3 x4 x5 (ix2 r k) = Ideal.div (half * 1) W * (two * val_main_v43 (F := Ideal) x0 x1 x2 x3 x4 x5 (ix2 r k)) := by
  pointwise [val_main_v57, val_main_v56, val_main_v55, val_main_v54, val_main_v53, val_main_v52, val_main_v46, val_main_v45, val_main_cst_7, val_main_cst_12, val_main_cst_13, val_main_cst_14]
theorem v77_apply (r : Fin 2048) (k : Fin 1024) : val_main_v77 (F := Ideal) x0 x1 x2 x3 x4 x5 (ix2 r k) =
    normGrad W E H (fun k => val_main_v24 (F := Ideal) x0 x2 x3 x4 (ix2 r k)) (fun k => val_main_v57 (F := Ideal) x0 x1 x2 x3 x4 x5 (ix2 r k) * x5 (ix2 0 k)) k := by
  unfold normGrad normTurn var
  pointwise [val_main_v77, val_main_v76, val_main_v75, val_main_v74, val_main_v73, val_main_v72, val_main_v71, val_main_v70, val_main_v69, val_main_v68, val_main_v67, val_main_v66, val_main_v65, val_main_v64, val_main_v62, val_main_v61, val_main_v39, val_main_v36, val_main_v35, val_main_v34, val_main_v33, val_main_v32, val_main_v31, val_main_v30, val_main_v29, val_main_v28, val_main_v27, val_main_v26, val_main_v25, val_main_cst_3, val_main_cst_4, val_main_cst_5, val_main_cst_6, val_main_cst_17, val_main_cst_18, val_main_cst_19]
  simp only [Fin.sum_univ_one]
theorem v78_apply (r : Fin 2048) (j : Fin 2816) : val_main_v78 (F := Ideal) x0 x1 x2 x3 x4 x5 (ix2 r j) = ∑ k : Fin 1024, val_main_v77 (F := Ideal) x0 x1 x2 x3 x4 x5 (ix2 r k) * x4 (ix3 0 j k) := by
  pointwise [val_main_v78, val_main_v23]
theorem v80_apply (r : Fin 2048) (j : Fin 2816) : val_main_v80 (F := Ideal) x0 x1 x2 x3 x4 x5 (ix2 r j) = val_main_v78 (F := Ideal) x0 x1 x2 x3 x4 x5 (ix2 r j) * val_main_v18 (F := Ideal) x0 x2 x3 (ix2 r (hi j)) := by
  unfold hi
  pointwise [val_main_v80, val_main_v21]
theorem v82_apply (r : Fin 2048) (j : Fin 2816) : val_main_v82 (F := Ideal) x0 x1 x2 x3 x4 x5 (ix2 r j) = siluGrad (val_main_v80 (F := Ideal) x0 x1 x2 x3 x4 x5 (ix2 r j)) (val_main_v18 (F := Ideal) x0 x2 x3 (ix2 r (lo j))) := by
  unfold siluGrad
  rw [← sig_apply]
  unfold lo
  pointwise [val_main_v82, val_main_call1_v0, val_main_call1_v1, val_main_call1_v2, val_main_v20_1, val_main_call0_v7, val_main_call0_v6, val_main_call0_cst_1, val_main_v19]
theorem v84_apply (r : Fin 2048) (j : Fin 5632) : val_main_v84 (F := Ideal) x0 x1 x2 x3 x4 x5 (ix2 r j) =
    if h : j.val < 2816 then val_main_v82 (F := Ideal) x0 x1 x2 x3 x4 x5 (ix2 r ⟨j.val, h⟩) else silu (val_main_v18 (F := Ideal) x0 x2 x3 (ix2 r ⟨j.val - 2816, by omega⟩)) * val_main_v78 (F := Ideal) x0 x1 x2 x3 x4 x5 (ix2 r ⟨j.val - 2816, by omega⟩) := by
  have z : val_main_cst_20 (F := Ideal) (Shape.Idx.first Cert.FfnGradIdeal.Gen.h_S_) = (0 : EReal) := Ideal.ofBits_zero_f32
  have z1 : val_main_cst_21 (F := Ideal) (Shape.Idx.first Cert.FfnGradIdeal.Gen.h_S_) = (0 : EReal) := Ideal.ofBits_zero_f32
  pointwise [val_main_v84, val_main_v83, val_main_v81, val_main_v79]
  simp only [z, z1, silu_apply]
  by_cases h : j.val < 2816
  · rw [dif_neg (by omega), dif_pos h, dif_pos h, zero_add]
  · rw [dif_pos ⟨by omega, by omega⟩, dif_neg h, dif_neg h, add_zero]
theorem v85_apply (r : Fin 2048) (k : Fin 1024) : val_main_v85 (F := Ideal) x0 x1 x2 x3 x4 x5 (ix2 r k) = ∑ j : Fin 5632, val_main_v84 (F := Ideal) x0 x1 x2 x3 x4 x5 (ix2 r j) * x3 (ix3 0 k j) := by
  pointwise [val_main_v85, val_main_v17]
theorem v107_apply (r : Fin 2048) (j : Fin 2816) : val_main_v107 (F := Ideal) x0 x2 x3 (ix2 j r) = val_main_v22 (F := Ideal) x0 x2 x3 (ix2 r j) := by
  pointwise [val_main_v107, val_main_v106]
theorem v109_apply (r : Fin 2048) (j : Fin 5632) : val_main_v109 (F := Ideal) x0 x1 x2 x3 x4 x5 (ix2 j r) = val_main_v84 (F := Ideal) x0 x1 x2 x3 x4 x5 (ix2 r j) := by
  pointwise [val_main_v109, val_main_v108]
theorem v110_apply (r : Fin 2048) (k : Fin 1024) : val_main_v110 (F := Ideal) x0 x1 x2 x3 x4 x5 (ix2 r k) = val_main_v77 (F := Ideal) x0 x1 x2 x3 x4 x5 (ix2 r k) := by
  pointwise [val_main_v110]
theorem v111_apply (r : Fin 2048) (k : Fin 1024) : val_main_v111 (F := Ideal) x0 x1 x2 x3 x4 x5 (ix2 r k) = val_main_v57 (F := Ideal) x0 x1 x2 x3 x4 x5 (ix2 r k) +
    normGrad W E H (fun k => x0 (ix2 r k)) (fun k => val_main_v85 (F := Ideal) x0 x1 x2 x3 x4 x5 (ix2 r k) * x2 (ix2 0 k)) k := by
  unfold normGrad normTurn var
  pointwise [val_main_v111, val_main_v105, val_main_v104, val_main_v103, val_main_v102, val_main_v101, val_main_v100, val_main_v99, val_main_v98, val_main_v97, val_main_v96, val_main_v95, val_main_v94, val_main_v93, val_main_v92, val_main_v90, val_main_v89, val_main_v14, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_24, val_main_cst_25, val_main_cst_26]
  simp only [Fin.sum_univ_one]
theorem v112_apply (k : Fin 128) : val_main_v112 (F := Ideal) x0 x1 x2 x3 x4 x5 (ix2 0 k) = half * ∑ r : Fin 2048, Ideal.div (∑ k : Fin 1024, val_main_v43 (F := Ideal) x0 x1 x2 x3 x4 x5 (ix2 r k) * val_main_v43 (F := Ideal) x0 x1 x2 x3 x4 x5 (ix2 r k)) W := by
  pointwise [val_main_v112, val_main_v51, val_main_v50, val_main_v49, val_main_v48, val_main_v47, val_main_v44, val_main_cst_8, val_main_cst_9, val_main_cst_10, val_main_cst_11]
theorem v113_apply (k : Fin 1024) : val_main_v113 (F := Ideal) x0 x1 x2 x3 x4 x5 (ix2 0 k) = ∑ r : Fin 2048, val_main_v24 (F := Ideal) x0 x2 x3 x4 (ix2 r k) * Ideal.rsqrt (var W E fun k => val_main_v24 (F := Ideal) x0 x2 x3 x4 (ix2 r k)) * val_main_v57 (F := Ideal) x0 x1 x2 x3 x4 x5 (ix2 r k) := by
  unfold var
  pointwise [val_main_v113, val_main_v63, val_main_v60, val_main_v59, val_main_v58, val_main_v38, val_main_v37, val_main_v33, val_main_v32, val_main_v31, val_main_v30, val_main_v29, val_main_v28, val_main_v27, val_main_v26, val_main_cst_3, val_main_cst_4, val_main_cst_5, val_main_cst_15, val_main_cst_16]
  exact Fin.sum_univ_one _
theorem v114_apply (k : Fin 1024) : val_main_v114 (F := Ideal) x0 x1 x2 x3 x4 x5 (ix2 0 k) = ∑ r : Fin 2048, x0 (ix2 r k) * Ideal.rsqrt (var W E fun k => x0 (ix2 r k)) * val_main_v85 (F := Ideal) x0 x1 x2 x3 x4 x5 (ix2 r k) := by
  unfold var
  pointwise [val_main_v114, val_main_v91, val_main_v88, val_main_v87, val_main_v86, val_main_v13, val_main_v12, val_main_v8, val_main_v7, val_main_v6, val_main_v5, val_main_v4, val_main_v3, val_main_v2, val_main_v1, val_main_cst, val_main_cst_0, val_main_cst_1, val_main_cst_22, val_main_cst_23]
  exact Fin.sum_univ_one _
end Reference

section Payloads
variable (x : FVec Ideal S256x1024 .bf16) (wg wu wd : FVec Ideal S2816x1024 .bf16)
theorem pay4_apply (r : Fin 256) (j : Fin 2816) : k0_pay4 (F := Ideal) x wg (ix2 r j) = ∑ k : Fin 1024, x (ix2 r k) * wg (ix2 j k) := by
  pointwise [k0_pay4, k0_pay2, k0_pay1]
theorem pay5_apply (r : Fin 256) (j : Fin 2816) : k0_pay5 (F := Ideal) x wu (ix2 r j) = ∑ k : Fin 1024, x (ix2 r k) * wu (ix2 j k) := by
  pointwise [k0_pay5, k0_pay3, k0_pay1]
theorem pay6_apply (r : Fin 256) (j : Fin 2816) : k0_pay6 (F := Ideal) x wg wu (ix2 r j) = silu (k0_pay4 (F := Ideal) x wg (ix2 r j)) * k0_pay5 (F := Ideal) x wu (ix2 r j) := by
  unfold silu
  pointwise [k0_pay6, k0_pay4, k0_pay5, k0_pay3, k0_pay2]
theorem pay7_apply (r : Fin 256) (j : Fin 2816) : k0_pay7 (F := Ideal) x wg wu (ix2 j r) = k0_pay6 (F := Ideal) x wg wu (ix2 r j) := by
  pointwise [k0_pay7]
theorem pay8_apply (r : Fin 256) (k : Fin 1024) : k0_pay8 (F := Ideal) x wg wu wd (ix2 r k) = ∑ j : Fin 2816, k0_pay6 (F := Ideal) x wg wu (ix2 r j) * wd (ix2 j k) := by
  pointwise [k0_pay8]
theorem pay9_apply (r : Fin 256) : k0_pay9 (F := Ideal) x wg wu wd (ix2 r 0) = ∑ k : Fin 1024, k0_pay8 (F := Ideal) x wg wu wd (ix2 r k) * k0_pay8 (F := Ideal) x wg wu wd (ix2 r k) := by
  pointwise [k0_pay9]
section
variable (y h t : FVec Ideal S256x1024 .f32) (s : FVec Ideal S256x1 .f32) (g : FVec Ideal S1x1024 .f32)
theorem pay12_apply (hs : ∀ r : Fin 256, s (ix2 r 0) = ∑ k : Fin 1024, y (ix2 r k) * y (ix2 r k)) (r : Fin 256) (k : Fin 1024) :
    k0_pay12 (F := Ideal) y g s (k0_pay10 (F := Ideal)) h t (ix2 r k) = h (ix2 r k) + y (ix2 r k) * Ideal.rsqrt (var W E fun k => y (ix2 r k)) * g (ix2 0 k) - t (ix2 r k) := by
  unfold var
  rw [← hs]
  pointwise [k0_pay12, k0_pay11, k0_pay10]
theorem pay16_apply (hs : ∀ r : Fin 256, s (ix2 r 0) = ∑ k : Fin 1024, y (ix2 r k) * y (ix2 r k)) (r : Fin 256) (k : Fin 1024) :
    k0_pay16 (F := Ideal) y s (k0_pay10 (F := Ideal)) (ix2 r k) = y (ix2 r k) * Ideal.rsqrt (var W E fun k => y (ix2 r k)) := by
  unfold var
  rw [← hs]
  pointwise [k0_pay16, k0_pay11, k0_pay10]
theorem pay13_apply (n : FVec Ideal S256x1 .f32) (k : Fin 128) : k0_pay13 (F := Ideal) y g s n h t (ix2 0 k) =
    half * ∑ r : Fin 256, Ideal.div (∑ k : Fin 1024, k0_pay12 (F := Ideal) y g s n h t (ix2 r k) * k0_pay12 (F := Ideal) y g s n h t (ix2 r k)) W := by
  pointwise [k0_pay13]
theorem pay14_apply (n : FVec Ideal S256x1 .f32) (p : FVec Ideal S1x128 .f32) (j : S1x128.Idx) : k0_pay14 (F := Ideal) y g s n h t p j = p j + k0_pay13 (F := Ideal) y g s n h t j := by
  pointwise [k0_pay14]
theorem pay15_apply (n : FVec Ideal S256x1 .f32) (j : S256x1024.Idx) : k0_pay15 (F := Ideal) y g s n h t j = k0_pay12 (F := Ideal) y g s n h t j * Ideal.ofBits .f32 0x3A800000#32 := by
  pointwise [k0_pay15]
theorem pay21_apply (hs : ∀ r : Fin 256, s (ix2 r 0) = ∑ k : Fin 1024, y (ix2 r k) * y (ix2 r k)) (r : Fin 256) (k : Fin 1024) :
    k0_pay21 (F := Ideal) (k0_pay17 (F := Ideal) y g s (k0_pay10 (F := Ideal)) h t) (k0_pay18 (F := Ideal) s (k0_pay10 (F := Ideal))) (ix2 r k) =
      normBack W E (fun k => y (ix2 r k)) (fun k => k0_pay15 (F := Ideal) y g s (k0_pay10 (F := Ideal)) h t (ix2 r k) * g (ix2 0 k)) k := by
  unfold normBack
  simp only [← pay16_apply y s hs]
  unfold var
  rw [← hs]
  pointwise [k0_pay21, k0_pay17, k0_pay18, k0_pay11, k0_pay10]
end
theorem pay19_apply (a b : FVec Ideal S256x1024 .f32) (k : Fin 1024) : k0_pay19 (F := Ideal) a b (ix2 0 k) = ∑ r : Fin 256, a (ix2 r k) * b (ix2 r k) := by
  pointwise [k0_pay19]
theorem pay20_apply (a b : FVec Ideal S256x1024 .f32) (p : FVec Ideal S1x1024 .f32) (j : S1x1024.Idx) : k0_pay20 (F := Ideal) a b p j = p j + k0_pay19 (F := Ideal) a b j := by
  pointwise [k0_pay20]
section
variable (a b : FVec Ideal S256x1024 .f32) (gt up : FVec Ideal S256x2816 .f32)
theorem pay23_apply (r : Fin 256) (j : Fin 2816) : k0_pay23 (F := Ideal) a b wd (ix2 r j) = ∑ k : Fin 1024, k0_pay21 (F := Ideal) a b (ix2 r k) * wd (ix2 j k) := by
  pointwise [k0_pay23]
theorem pay26_apply (r : Fin 256) (j : Fin 2816) : k0_pay26 (F := Ideal) a b wd gt up (ix2 r j) =
    k0_pay23 (F := Ideal) a b wd (ix2 r j) * up (ix2 r j) * (Ideal.logistic (gt (ix2 r j)) + gt (ix2 r j) * Ideal.logistic (gt (ix2 r j)) * (Ideal.ofBits .f32 0x3F800000#32 - Ideal.logistic (gt (ix2 r j)))) := by
  pointwise [k0_pay26, k0_pay25, k0_pay24]
theorem pay27_apply (r : Fin 256) (j : Fin 2816) : k0_pay27 (F := Ideal) a b wd gt (ix2 r j) = k0_pay23 (F := Ideal) a b wd (ix2 r j) * silu (gt (ix2 r j)) := by
  unfold silu
  pointwise [k0_pay27, k0_pay25, k0_pay24]
theorem pay28_apply (r : Fin 256) (j : Fin 2816) : k0_pay28 (F := Ideal) a b wd gt up (ix2 j r) = k0_pay26 (F := Ideal) a b wd gt up (ix2 r j) := by
  pointwise [k0_pay28]
theorem pay29_apply (r : Fin 256) (j : Fin 2816) : k0_pay29 (F := Ideal) a b wd gt (ix2 j r) = k0_pay27 (F := Ideal) a b wd gt (ix2 r j) := by
  pointwise [k0_pay29]
theorem pay30_apply (j : S256x2816.Idx) : k0_pay30 (F := Ideal) a b wd gt up j = k0_pay26 (F := Ideal) a b wd gt up j := by
  pointwise [k0_pay30]
end
theorem pay31_apply (d : FVec Ideal S256x2816 .f32) (b : FVec Ideal S256x2816 .bf16) (r : Fin 256) (k : Fin 1024) :
    k0_pay31 (F := Ideal) (k0_pay22 (F := Ideal)) d wg b (constant (F := Ideal) S256x1024 .f32 0x00000000#32) wu (ix2 r k) =
      (∑ j : Fin 2816, b (ix2 r j) * wg (ix2 j k)) + ∑ j : Fin 2816, d (ix2 r j) * wu (ix2 j k) := by
  pointwise [k0_pay31, k0_pay22]
section
variable (h e z : FVec Ideal S256x1024 .f32) (d : FVec Ideal S256x2816 .f32) (b : FVec Ideal S256x2816 .bf16) (g : FVec Ideal S1x1024 .f32)
theorem pay34_apply (k : Fin 1024) : k0_pay34 (F := Ideal) h z d wg b e wu (ix2 0 k) =
    ∑ r : Fin 256, k0_pay31 (F := Ideal) z d wg b e wu (ix2 r k) * (h (ix2 r k) * Ideal.rsqrt (var W E fun k => h (ix2 r k))) := by
  unfold var
  pointwise [k0_pay34, k0_pay33, k0_pay32]
theorem pay35_apply (p : FVec Ideal S1x1024 .f32) (j : S1x1024.Idx) : k0_pay35 (F := Ideal) h z d wg b e wu p j = p j + k0_pay34 (F := Ideal) h z d wg b e wu j := by
  pointwise [k0_pay35]
theorem pay36_apply (u : FVec Ideal S256x1024 .f32) (r : Fin 256) (k : Fin 1024) : k0_pay36 (F := Ideal) h u z d wg b e wu g (ix2 r k) =
    u (ix2 r k) + normBack W E (fun k => h (ix2 r k)) (fun k => k0_pay31 (F := Ideal) z d wg b e wu (ix2 r k) * g (ix2 0 k)) k := by
  unfold normBack var
  pointwise [k0_pay36, k0_pay33, k0_pay32]
end
end Payloads

end Cert.FfnBwdIdeal.Value

end
-- ==== Proof.FfnValue.lean ====
/- What the gated layer's call leaves in its results. -/
module

public import proofs.«01_k».proof.Proof.Gen.FfnBwdIdeal.Value
public import proofs.«01_k».proof.Proof.Gen.FfnGradIdeal.Read
public import Idealize.ShloMosaic.Lib.Pipeline.ValueKit
public import Idealize.ShloMosaic.Lib.StableHlo.RunRead
public import proofs.«01_k».proof.Proof.Reals
public import proofs.«01_k».proof.Proof.FfnHost

@[expose] public section

set_option maxRecDepth 16384

noncomputable section

open Idealize.ShloMosaic Idealize.ShloMosaic.TcCoe Idealize.SL.Sem
open Idealize.ShloMosaic.Pipeline (Dat)
open scoped BigOperators

namespace Cert.FfnBwdIdeal.Value

open Cert.FfnBwdIdeal Cert.FfnBwdIdeal.Gen Cert.Reals
open Cert.FfnGradIdeal.Read

variable (m : (ℓ : Loc nD τ sig) → Buf (Elt Ideal) ℓ) (c : Dev nD)
abbrev X0 : FVec Ideal S2048x1024 .f32 := m ((c : Thread nD τ).loc main_arg0)
abbrev X1 : FVec Ideal S2048x1024 .f32 := m ((c : Thread nD τ).loc main_arg1)
abbrev X2 : FVec Ideal S1x1024 .f32 := m ((c : Thread nD τ).loc main_arg2)
abbrev X3 : FVec Ideal S1x1024x5632 .f32 := m ((c : Thread nD τ).loc main_arg3)
abbrev X4 : FVec Ideal S1x2816x1024 .f32 := m ((c : Thread nD τ).loc main_arg4)
abbrev X5 : FVec Ideal S1x1024 .f32 := m ((c : Thread nD τ).loc main_arg5)
theorem V_eq (b : Ref sig .tc) : V m c b = StableHlo.after hostOps0 (fun b => m (c, b)) (Proc.devRef .tc b) := by
  show StableHlo.after _ _ _ = _
  simp only [List.flatten_cons, List.flatten_nil, List.append_nil]
theorem hnT (r : Fin 2048) (k : Fin 1024) : (V (F := Ideal) m c main_v12 : FVec Ideal S2048x1024 .bf16) (ix2 r k) =
    X0 m c (ix2 r k) * Ideal.rsqrt (var W E fun k => X0 m c (ix2 r k)) * X2 m c (ix2 0 k) := by
  rw [V_eq]
  after_reads_simp
  unfold var
  pointwise
theorem wguT (j : Fin 5632) (k : Fin 1024) : (V (F := Ideal) m c main_v15 : FVec Ideal S5632x1024 .bf16) (ix2 j k) = X3 m c (ix3 0 k j) := by
  rw [V_eq]
  after_reads_simp
  pointwise
theorem wdT (j : Fin 2816) (k : Fin 1024) : (V (F := Ideal) m c main_v17 : FVec Ideal S2816x1024 .bf16) (ix2 j k) = X4 m c (ix3 0 j k) := by
  rw [V_eq]
  after_reads_simp
  pointwise
theorem idx : ∀ t : Fin cfg0.N, (win0_0.index t = ![t.val, 0] ∧ win0_1.index t = ![t.val, 0] ∧ win0_2.index t = ![t.val, 0]
    ∧ win0_3.index t = ![0, 0] ∧ win0_4.index t = ![0, 0] ∧ win0_5.index t = ![0, t.val])
    ∧ win0_6.index t = ![0, t.val] ∧ win0_7.index t = ![t.val, 0] ∧ win0_8.index t = ![t.val, 0] ∧ win0_9.index t = ![0, 0]
    ∧ win0_10.index t = ![0, 0] ∧ win0_11.index t = ![0, 0] := (by decide +kernel : ∀ t : Fin grid0.N, _)
theorem t_lt (t : Fin cfg0.N) : t.val < 8 := lt_of_lt_of_eq t.isLt N_0
/-- Row `r` of block `t`. -/
def row (t : Fin cfg0.N) (r : Fin 256) : Fin 2048 := ⟨t.val * 256 + r.val, by have := t_lt t; omega⟩
theorem emb0 (t : Fin cfg0.N) (r : Fin 256) (k : Fin 1024) : ((cfg0.win 0).blk t).view.emb (ix2 r k) = ix2 (row t r) k := by
  blk_ext [idx t, row]
theorem emb1 (t : Fin cfg0.N) (r : Fin 256) (k : Fin 1024) : ((cfg0.win 1).blk t).view.emb (ix2 r k) = ix2 (row t r) k := by
  blk_ext [idx t, row]
theorem emb2 (t : Fin cfg0.N) (r : Fin 256) (k : Fin 1024) : ((cfg0.win 2).blk t).view.emb (ix2 r k) = ix2 (row t r) k := by
  blk_ext [idx t, row]
theorem emb3 (t : Fin cfg0.N) (k : Fin 1024) : ((cfg0.win 3).blk t).view.emb (ix2 0 k) = ix2 0 k := by
  blk_ext [idx t]
theorem emb4 (t : Fin cfg0.N) (k : Fin 1024) : ((cfg0.win 4).blk t).view.emb (ix2 0 k) = ix2 0 k := by
  blk_ext [idx t]
theorem emb5 (t : Fin cfg0.N) (j : Fin 2816) (r : Fin 256) : ((cfg0.win 5).blk t).view.emb (ix2 j r) = ix2 j (row t r) := by
  blk_ext [idx t, row]
theorem emb6 (t : Fin cfg0.N) (j : Fin 5632) (r : Fin 256) : ((cfg0.win 6).blk t).view.emb (ix2 j r) = ix2 j (row t r) := by
  blk_ext [idx t, row]
theorem emb7 (t : Fin cfg0.N) (r : Fin 256) (k : Fin 1024) : ((cfg0.win 7).blk t).view.emb (ix2 r k) = ix2 (row t r) k := by
  blk_ext [idx t, row]
theorem emb8 (t : Fin cfg0.N) (r : Fin 256) (k : Fin 1024) : ((cfg0.win 8).blk t).view.emb (ix2 r k) = ix2 (row t r) k := by
  blk_ext [idx t, row]
theorem hn_block (t : Fin cfg0.N) (r : Fin 256) (k : Fin 1024) : iblk m c 0 t (ix2 r k) =
    X0 m c (ix2 (row t r) k) * Ideal.rsqrt (var W E fun k => X0 m c (ix2 (row t r) k)) * X2 m c (ix2 0 k) := by
  show V m c main_v12 (((cfg0.win 0).blk t).view.emb (ix2 r k)) = _
  rw [emb0]; exact hnT m c _ _
theorem h_block (t : Fin cfg0.N) (r : Fin 256) (k : Fin 1024) : iblk m c 1 t (ix2 r k) = X0 m c (ix2 (row t r) k) := by
  show V m c main_arg0 (((cfg0.win 1).blk t).view.emb (ix2 r k)) = _
  rw [emb1, V_main_arg0]
theorem t_block (t : Fin cfg0.N) (r : Fin 256) (k : Fin 1024) : iblk m c 2 t (ix2 r k) = X1 m c (ix2 (row t r) k) := by
  show V m c main_arg1 (((cfg0.win 2).blk t).view.emb (ix2 r k)) = _
  rw [emb2, V_main_arg1]
theorem g_block (t : Fin cfg0.N) (k : Fin 1024) : iblk m c 3 t (ix2 0 k) = X2 m c (ix2 0 k) := by
  show V m c main_arg2 (((cfg0.win 3).blk t).view.emb (ix2 0 k)) = _
  rw [emb3, V_main_arg2]
theorem g3_block (t : Fin cfg0.N) (k : Fin 1024) : iblk m c 4 t (ix2 0 k) = X5 m c (ix2 0 k) := by
  show V m c main_arg5 (((cfg0.win 4).blk t).view.emb (ix2 0 k)) = _
  rw [emb4, V_main_arg5]
section Weights
/-- The gate's rows of the weight, the other factor's, and the second weight. -/
def wg : FVec Ideal S2816x1024 .bf16 := View.ld (Val := Elt Ideal) (e' := .bf16) (V (F := Ideal) m c main_v15) (Rect.unit (s := S5632x1024) ![0, 0] S2816x1024.size inb_S5632x1024_S2816x1024_0_0)
def wu : FVec Ideal S2816x1024 .bf16 := View.ld (Val := Elt Ideal) (e' := .bf16) (V (F := Ideal) m c main_v15) (Rect.unit (s := S5632x1024) ![2816, 0] S2816x1024.size inb_S5632x1024_S2816x1024_2816_0)
def wd : FVec Ideal S2816x1024 .bf16 := V (F := Ideal) m c main_v17
theorem wg_apply (j : Fin 2816) (k : Fin 1024) : wg m c (ix2 j k) = X3 m c (ix3 0 k (lo j)) := by
  refine Eq.trans ?_ (wguT m c (lo j) k)
  refine congrArg (V (F := Ideal) m c main_v15) ?_
  funext a
  match a with
  | ⟨0, _⟩ => exact Fin.ext (show 0 + 1 * j.val = j.val by omega)
  | ⟨1, _⟩ => exact Fin.ext (show 0 + 1 * k.val = k.val by omega)
theorem wu_apply (j : Fin 2816) (k : Fin 1024) : wu m c (ix2 j k) = X3 m c (ix3 0 k (hi j)) := by
  refine Eq.trans ?_ (wguT m c (hi j) k)
  refine congrArg (V (F := Ideal) m c main_v15) ?_
  funext a
  match a with
  | ⟨0, _⟩ => exact Fin.ext (show 2816 + 1 * j.val = 2816 + j.val by omega)
  | ⟨1, _⟩ => exact Fin.ext (show 0 + 1 * k.val = k.val by omega)
theorem wd_apply (j : Fin 2816) (k : Fin 1024) : wd m c (ix2 j k) = X4 m c (ix3 0 j k) := wdT m c j k
/-- A buffer stored as a whole holds what was stored. -/
theorem canon_whole {s : Shape} {e : EltTy} (v : s.Idx → Elt Ideal e) : View.canon [(⟨Rect.whole s, v⟩ : View.Piece (Elt Ideal) s e)] = v := by
  funext y
  refine View.canon_apply_of_pieces v _ (fun p hp x => ?_) y ⟨_, List.mem_singleton_self _, ?_⟩
  · obtain rfl := List.mem_singleton.1 hp
    exact congrArg v (funext fun a => Fin.ext (show (x a).val = 0 + 1 * (x a).val by omega))
  · rw [LoadRect.mem_set]
    intro a
    exact ⟨(y a).val, (y a).isLt, show (y a).val = 0 + 1 * (y a).val by omega⟩
theorem read_whole {sp : Space} {s : Shape} {e : EltTy} {κ : Kind} (w : View sig κ sp s e) (v : s.Idx → Elt Ideal e) (l : Rect s) :
    w.readCov [(⟨Rect.whole s, v⟩ : View.Piece (Elt Ideal) s e)] l.toLoadRect = View.ld v l := by
  rw [View.readCov_eq_canon', canon_whole]
end Weights

section Carried
theorem carried : ∀ (n : ℕ) (h : n < cfg0.N), (outsAt0 m c n h).2.2.2.2.2.2.2.1 = V (F := Ideal) m c main_v15 ∧ (outsAt0 m c n h).2.2.2.2.2.2.2.2 = V (F := Ideal) m c main_v17 := by
  intro n
  induction n with
  | zero =>
    intro h
    rw [outsAt0_A m c ⟨0, h⟩ rfl rfl (Nat.not_succ_le_zero 0) rfl (Nat.not_succ_le_zero 0) rfl (Nat.not_succ_le_zero 0)]
    constructor
    · frame_out
      exact canon_whole (s := S5632x1024) (e := .bf16) _
    · frame_out
      exact canon_whole (s := S2816x1024) (e := .bf16) _
  | succ n ih =>
    intro h
    have := t_lt ⟨n + 1, h⟩
    have h0 : ¬ (n + 1) % 8 = 0 := by dsimp only at this; omega
    rw [outsAt0_B m c ⟨n + 1, h⟩ h0 h0 (by simp) h0 (by simp) h0 (by simp)]
    constructor
    · frame_out
      unfold sout0_B_0
      exact (ih _).1
    · frame_out
      unfold sout0_B_1
      exact (ih _).2
variable (v : FVec Ideal S5632x1024 .bf16) (w : FVec Ideal S2816x1024 .bf16) (gt up : FVec Ideal S256x2816 .f32)
/-- The gate's rows and the other factor's side by side. -/
def halves (y : S256x5632.Idx) : EReal := if h : (y 1).val < 2816 then gt (ix2 (y 0) ⟨(y 1).val, h⟩) else up (ix2 (y 0) ⟨(y 1).val - 2816, by have : (y 1).val < 5632 := (y 1).isLt; omega⟩)
theorem halves_canon (y : S256x5632.Idx) : View.canon [(⟨Rect.unit (s := S256x5632) ![0, 2816] S256x2816.size inb_S256x5632_S256x2816_0_2816, up⟩ : View.Piece (Elt Ideal) S256x5632 .f32),
      ⟨Rect.unit (s := S256x5632) ![0, 0] S256x2816.size inb_S256x5632_S256x2816_0_0, gt⟩] y = halves gt up y := by
  refine View.canon_apply_of_pieces (Val := Elt Ideal) (e := .f32) (halves gt up) _ (fun p hp x => ?_) y ?_
  · rcases List.mem_cons.1 hp with rfl | hp
    · have h : ¬ (2816 + 1 * (x 1).val < 2816) := by omega
      refine Eq.trans ?_ (dif_neg h).symm
      refine congrArg up (funext fun a => ?_)
      match a with
      | ⟨0, _⟩ => exact Fin.ext (show (x 0).val = 0 + 1 * (x 0).val by omega)
      | ⟨1, _⟩ => exact Fin.ext (show (x 1).val = 2816 + 1 * (x 1).val - 2816 by omega)
    · obtain rfl := List.mem_singleton.1 hp
      have hx : (x 1).val < 2816 := (x 1).isLt
      have h : 0 + 1 * (x 1).val < 2816 := by omega
      refine Eq.trans ?_ (dif_pos h).symm
      refine congrArg gt (funext fun a => ?_)
      match a with
      | ⟨0, _⟩ => exact Fin.ext (show (x 0).val = 0 + 1 * (x 0).val by omega)
      | ⟨1, _⟩ => exact Fin.ext (show (x 1).val = 0 + 1 * (x 1).val by omega)
  · have h0 : (y 0).val < 256 := (y 0).isLt
    have h1 : (y 1).val < 5632 := (y 1).isLt
    by_cases h : (y 1).val < 2816
    · refine ⟨_, List.mem_cons_of_mem _ (List.mem_singleton_self _), ?_⟩
      rw [LoadRect.mem_set]
      intro a
      match a with
      | ⟨0, _⟩ => exact ⟨(y 0).val, h0, show (y 0).val = 0 + 1 * (y 0).val by omega⟩
      | ⟨1, _⟩ => exact ⟨(y 1).val, h, show (y 1).val = 0 + 1 * (y 1).val by omega⟩
    · refine ⟨_, List.mem_cons_self, ?_⟩
      rw [LoadRect.mem_set]
      intro a
      match a with
      | ⟨0, _⟩ => exact ⟨(y 0).val, h0, show (y 0).val = 0 + 1 * (y 0).val by omega⟩
      | ⟨1, _⟩ => exact ⟨(y 1).val - 2816, (show (y 1).val - 2816 < 2816 by omega), show (y 1).val = 2816 + 1 * ((y 1).val - 2816) by omega⟩
theorem halves_lo {sp : Space} {κ : Kind} (q : View sig κ sp S256x5632 .f32) :
    q.readCov [(⟨Rect.unit (s := S256x5632) ![0, 2816] S256x2816.size inb_S256x5632_S256x2816_0_2816, up⟩ : View.Piece (Elt Ideal) S256x5632 .f32),
      ⟨Rect.unit (s := S256x5632) ![0, 0] S256x2816.size inb_S256x5632_S256x2816_0_0, gt⟩] (Rect.unit (s := S256x5632) ![0, 0] S256x2816.size inb_S256x5632_S256x2816_0_0).toLoadRect = gt := by
  rw [View.readCov_eq_canon']
  funext x
  have hx : (x 1).val < 2816 := (x 1).isLt
  have h : 0 + 1 * (x 1).val < 2816 := by omega
  refine (halves_canon gt up _).trans ((dif_pos h).trans (congrArg gt (funext fun a => ?_)))
  match a with
  | ⟨0, _⟩ => exact Fin.ext (show 0 + 1 * (x 0).val = (x 0).val by omega)
  | ⟨1, _⟩ => exact Fin.ext (show 0 + 1 * (x 1).val = (x 1).val by omega)
theorem halves_hi {sp : Space} {κ : Kind} (q : View sig κ sp S256x5632 .f32) :
    q.readCov [(⟨Rect.unit (s := S256x5632) ![0, 2816] S256x2816.size inb_S256x5632_S256x2816_0_2816, up⟩ : View.Piece (Elt Ideal) S256x5632 .f32),
      ⟨Rect.unit (s := S256x5632) ![0, 0] S256x2816.size inb_S256x5632_S256x2816_0_0, gt⟩] (Rect.unit (s := S256x5632) ![0, 2816] S256x2816.size inb_S256x5632_S256x2816_0_2816).toLoadRect = up := by
  rw [View.readCov_eq_canon']
  funext x
  have hx : (x 1).val < 2816 := (x 1).isLt
  have h : ¬ (2816 + 1 * (x 1).val < 2816) := by omega
  refine (halves_canon gt up _).trans ((dif_neg h).trans (congrArg up (funext fun a => ?_)))
  match a with
  | ⟨0, _⟩ => exact Fin.ext (show 0 + 1 * (x 0).val = (x 0).val by omega)
  | ⟨1, _⟩ => exact Fin.ext (show 2816 + 1 * (x 1).val - 2816 = (x 1).val by omega)
end Carried

section Reads
variable {sp : Space}
theorem wholeA0 {κ : Kind} (q : View sig κ sp S5632x1024 .bf16) : q.readCov [(⟨Rect.whole S5632x1024, ReadAs.same.apply (View.read (Elt Ideal) (View.whole main_v15) (V m c main_v15))⟩ : View.Piece (Elt Ideal) S5632x1024 .bf16)]
    (Rect.unit (s := S5632x1024) ![0, 0] S2816x1024.size inb_S5632x1024_S2816x1024_0_0).toLoadRect = wg m c := read_whole _ _ _
theorem wholeA1 {κ : Kind} (q : View sig κ sp S5632x1024 .bf16) : q.readCov [(⟨Rect.whole S5632x1024, ReadAs.same.apply (View.read (Elt Ideal) (View.whole main_v15) (V m c main_v15))⟩ : View.Piece (Elt Ideal) S5632x1024 .bf16)]
    (Rect.unit (s := S5632x1024) ![2816, 0] S2816x1024.size inb_S5632x1024_S2816x1024_2816_0).toLoadRect = wu m c := read_whole _ _ _
theorem ld_full (v : FVec Ideal S2816x1024 .bf16) : View.ld (Val := Elt Ideal) (e' := .bf16) v (Rect.unit (s := S2816x1024) ![0, 0] S2816x1024.size inb_S2816x1024_S2816x1024_0_0) = v := by
  funext x
  refine congrArg v (funext fun a => ?_)
  match a with
  | ⟨0, _⟩ => exact Fin.ext (show 0 + 1 * (x 0).val = (x 0).val by omega)
  | ⟨1, _⟩ => exact Fin.ext (show 0 + 1 * (x 1).val = (x 1).val by omega)
theorem wholeA2 {κ : Kind} (q : View sig κ sp S2816x1024 .bf16) : q.readCov [(⟨Rect.whole S2816x1024, ReadAs.same.apply (View.read (Elt Ideal) (View.whole main_v17) (V m c main_v17))⟩ : View.Piece (Elt Ideal) S2816x1024 .bf16)]
    (Rect.unit (s := S2816x1024) ![0, 0] S2816x1024.size inb_S2816x1024_S2816x1024_0_0).toLoadRect = wd m c := (read_whole _ _ _).trans (ld_full _)
theorem wholeB0 (h : (Memref.whole cc0_scratch0 : Memref sig .tc _ _ _).IsWhole) (n : ℕ) (hn : n < cfg0.N) : View.ld (View.read (Elt Ideal) (View.whole cc0_scratch0) (h.unread (outsAt0 m c n hn).2.2.2.2.2.2.2.1))
    (Rect.unit (s := S5632x1024) ![0, 0] S2816x1024.size inb_S5632x1024_S2816x1024_0_0) = wg m c := by
  rw [(carried m c n hn).1]
  exact congrArg (fun v => View.ld (Val := Elt Ideal) (e' := .bf16) v (Rect.unit (s := S5632x1024) ![0, 0] S2816x1024.size inb_S5632x1024_S2816x1024_0_0)) (h.read_unread _)
theorem wholeB1 (h : (Memref.whole cc0_scratch0 : Memref sig .tc _ _ _).IsWhole) (n : ℕ) (hn : n < cfg0.N) : View.ld (View.read (Elt Ideal) (View.whole cc0_scratch0) (h.unread (outsAt0 m c n hn).2.2.2.2.2.2.2.1))
    (Rect.unit (s := S5632x1024) ![2816, 0] S2816x1024.size inb_S5632x1024_S2816x1024_2816_0) = wu m c := by
  rw [(carried m c n hn).1]
  exact congrArg (fun v => View.ld (Val := Elt Ideal) (e' := .bf16) v (Rect.unit (s := S5632x1024) ![2816, 0] S2816x1024.size inb_S5632x1024_S2816x1024_2816_0)) (h.read_unread _)
theorem wholeB2 (h : (Memref.whole cc0_scratch1 : Memref sig .tc _ _ _).IsWhole) (n : ℕ) (hn : n < cfg0.N) : View.read (Elt Ideal) (View.whole cc0_scratch1) (h.unread (outsAt0 m c n hn).2.2.2.2.2.2.2.2) = wd m c := by
  rw [(carried m c n hn).2]
  exact h.read_unread _
end Reads
section Points
variable (t : Fin cfg0.N)
abbrev gateAt : FVec Ideal S256x2816 .f32 := k0_pay4 (F := Ideal) (iblk m c 0 t) (wg m c)
abbrev upAt : FVec Ideal S256x2816 .f32 := k0_pay5 (F := Ideal) (iblk m c 0 t) (wu m c)
abbrev actAt : FVec Ideal S256x2816 .f32 := k0_pay6 (F := Ideal) (iblk m c 0 t) (wg m c) (wu m c)
abbrev ffAt : FVec Ideal S256x1024 .f32 := k0_pay8 (F := Ideal) (iblk m c 0 t) (wg m c) (wu m c) (wd m c)
abbrev sumAt : FVec Ideal S256x1 .f32 := k0_pay9 (F := Ideal) (iblk m c 0 t) (wg m c) (wu m c) (wd m c)
abbrev errAt : FVec Ideal S256x1024 .f32 := k0_pay12 (F := Ideal) (ffAt m c t) (iblk m c 4 t) (sumAt m c t) (k0_pay10 (F := Ideal)) (iblk m c 1 t) (iblk m c 2 t)
abbrev dhAt : FVec Ideal S256x1024 .f32 := k0_pay15 (F := Ideal) (ffAt m c t) (iblk m c 4 t) (sumAt m c t) (k0_pay10 (F := Ideal)) (iblk m c 1 t) (iblk m c 2 t)
abbrev turnAt : FVec Ideal S256x1024 .f32 := k0_pay17 (F := Ideal) (ffAt m c t) (iblk m c 4 t) (sumAt m c t) (k0_pay10 (F := Ideal)) (iblk m c 1 t) (iblk m c 2 t)
abbrev scaleAt : FVec Ideal S256x1024 .f32 := k0_pay18 (F := Ideal) (sumAt m c t) (k0_pay10 (F := Ideal))
abbrev dffAt : FVec Ideal S256x1024 .bf16 := k0_pay21 (F := Ideal) (turnAt m c t) (scaleAt m c t)
abbrev dactAt : FVec Ideal S256x2816 .f32 := k0_pay23 (F := Ideal) (turnAt m c t) (scaleAt m c t) (wd m c)
abbrev dgateAt : FVec Ideal S256x2816 .f32 := k0_pay26 (F := Ideal) (turnAt m c t) (scaleAt m c t) (wd m c) (gateAt m c t) (upAt m c t)
abbrev dupAt : FVec Ideal S256x2816 .f32 := k0_pay27 (F := Ideal) (turnAt m c t) (scaleAt m c t) (wd m c) (gateAt m c t)
abbrev dgateLow : FVec Ideal S256x2816 .bf16 := k0_pay30 (F := Ideal) (turnAt m c t) (scaleAt m c t) (wd m c) (gateAt m c t) (upAt m c t)
abbrev dhnAt : FVec Ideal S256x1024 .f32 := k0_pay31 (F := Ideal) (k0_pay22 (F := Ideal)) (dupAt m c t) (wg m c) (dgateLow m c t) (constant (F := Ideal) S256x1024 .f32 0x00000000#32) (wu m c)
abbrev preRef := val_main_v18 (F := Ideal) (X0 m c) (X2 m c) (X3 m c)
abbrev ffRef := val_main_v24 (F := Ideal) (X0 m c) (X2 m c) (X3 m c) (X4 m c)
abbrev errRef := val_main_v43 (F := Ideal) (X0 m c) (X1 m c) (X2 m c) (X3 m c) (X4 m c) (X5 m c)
abbrev dhRef := val_main_v57 (F := Ideal) (X0 m c) (X1 m c) (X2 m c) (X3 m c) (X4 m c) (X5 m c)
abbrev dffRef := val_main_v77 (F := Ideal) (X0 m c) (X1 m c) (X2 m c) (X3 m c) (X4 m c) (X5 m c)
abbrev dactRef := val_main_v78 (F := Ideal) (X0 m c) (X1 m c) (X2 m c) (X3 m c) (X4 m c) (X5 m c)
abbrev dpreRef := val_main_v84 (F := Ideal) (X0 m c) (X1 m c) (X2 m c) (X3 m c) (X4 m c) (X5 m c)
abbrev dhnRef := val_main_v85 (F := Ideal) (X0 m c) (X1 m c) (X2 m c) (X3 m c) (X4 m c) (X5 m c)
theorem gate_point (r : Fin 256) (j : Fin 2816) : gateAt m c t (ix2 r j) = preRef m c (ix2 (row t r) (lo j)) := by
  refine (pay4_apply _ _ r j).trans ?_
  unfold preRef
  rw [v18_apply]
  simp only [hn_block, wg_apply]
theorem up_point (r : Fin 256) (j : Fin 2816) : upAt m c t (ix2 r j) = preRef m c (ix2 (row t r) (hi j)) := by
  refine (pay5_apply _ _ r j).trans ?_
  unfold preRef
  rw [v18_apply]
  simp only [hn_block, wu_apply]
theorem act_point (r : Fin 256) (j : Fin 2816) : actAt m c t (ix2 r j) = val_main_v22 (F := Ideal) (X0 m c) (X2 m c) (X3 m c) (ix2 (row t r) j) := by
  refine (pay6_apply _ _ _ r j).trans ?_
  rw [v22_apply]
  exact congrArg₂ (fun a b => silu a * b) (gate_point m c t r j) (up_point m c t r j)
theorem ff_point (r : Fin 256) (k : Fin 1024) : ffAt m c t (ix2 r k) = ffRef m c (ix2 (row t r) k) := by
  refine (pay8_apply _ _ _ _ r k).trans ?_
  unfold ffRef
  rw [v24_apply]
  exact Finset.sum_congr rfl fun j _ => congrArg₂ (· * ·) (act_point m c t r j) (wd_apply m c j k)
theorem err_point (r : Fin 256) (k : Fin 1024) : errAt m c t (ix2 r k) = errRef m c (ix2 (row t r) k) := by
  refine (pay12_apply _ _ _ _ _ (fun r => pay9_apply _ _ _ _ r) r k).trans ?_
  unfold errRef
  rw [v43_apply]
  simp only [ff_point, h_block, t_block, g3_block]
end Points

theorem word_half : half = ((1 / 2 : ℝ) : EReal) := by
  simp [half, Ideal.ofBits, Ideal.ieee, -EReal.coe_mul]; norm_num
theorem word_two : two = ((2 : ℝ) : EReal) := by
  simp [two, Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_inv : Ideal.ofBits .f32 0x3A800000#32 = ((1 / 1024 : ℝ) : EReal) := by
  simp [Ideal.ofBits, Ideal.ieee, -EReal.coe_mul]; norm_num
theorem logistic_real {x : EReal} (hx : IsReal x) : IsReal (Ideal.logistic x) := by
  obtain ⟨x, rfl⟩ := hx
  unfold Ideal.logistic
  have e : Ideal.exp (-(x : EReal)) = ((Real.exp (-x) : ℝ) : EReal) := by rw [← EReal.coe_neg]; rfl
  rw [e, ← EReal.coe_one, ← EReal.coe_add, div_coe_coe _ (by positivity)]
  exact ⟨_, rfl⟩
theorem silu_real {x : EReal} (hx : IsReal x) : IsReal (silu x) := hx.mul (logistic_real hx)
/-- The version's gradient of `silu` is the transposed one. -/
theorem mul_siluGrad {d u x : EReal} (hd : IsReal d) (hu : IsReal u) (hx : IsReal x) :
    d * u * (Ideal.logistic x + x * Ideal.logistic x * (Ideal.ofBits .f32 0x3F800000#32 - Ideal.logistic x)) = siluGrad (d * u) x := by
  have hl := logistic_real hx
  unfold siluGrad
  generalize Ideal.logistic x = l at hl ⊢
  obtain ⟨d, rfl⟩ := hd
  obtain ⟨u, rfl⟩ := hu
  obtain ⟨x, rfl⟩ := hx
  obtain ⟨l, rfl⟩ := hl
  rw [word_one, ← EReal.coe_one]
  norm_cast
  ring
theorem mul_sum_real {ι : Type} [Fintype ι] {a : EReal} {f : ι → EReal} (ha : IsReal a) (hf : ∀ i, IsReal (f i)) : ∑ i, a * f i = a * ∑ i, f i := by
  obtain ⟨a, rfl⟩ := ha
  obtain ⟨f, rfl⟩ := exists_fun hf
  simp only [← EReal.coe_mul, ← coe_sum, Finset.mul_sum]
theorem sum_halves (f : Fin 5632 → EReal) : ∑ j, f j = (∑ j : Fin 2816, f (lo j)) + ∑ j : Fin 2816, f (hi j) :=
  Fin.sum_univ_add (M := EReal) (a := 2816) (b := 2816) f
/-- Every argument is an array of real numbers. -/
structure Finite : Prop where
  h : ∀ i, IsReal (X0 m c i)
  t : ∀ i, IsReal (X1 m c i)
  g : ∀ i, IsReal (X2 m c i)
  w : ∀ i, IsReal (X3 m c i)
  d : ∀ i, IsReal (X4 m c i)
  p : ∀ i, IsReal (X5 m c i)
variable {m c}
section
variable (h : Finite m c)
include h
theorem pre_real (r : Fin 2048) (j : Fin 5632) : IsReal (preRef m c (ix2 r j)) := by
  unfold preRef
  rw [v18_apply]
  refine IsReal.sum fun k _ => (((h.h _).mul ?_).mul (h.g _)).mul (h.w _)
  rw [W, E, word_1024, word_eps]
  exact rsqrt_var_real (by norm_num) eps_pos fun k => h.h _
theorem act_real (r : Fin 2048) (j : Fin 2816) : IsReal (val_main_v22 (F := Ideal) (X0 m c) (X2 m c) (X3 m c) (ix2 r j)) := by
  rw [v22_apply]
  exact (silu_real (pre_real h r _)).mul (pre_real h r _)
theorem ff_real (r : Fin 2048) (k : Fin 1024) : IsReal (ffRef m c (ix2 r k)) := by
  unfold ffRef
  rw [v24_apply]
  exact IsReal.sum fun j _ => (act_real h r j).mul (h.d _)
theorem err_real (r : Fin 2048) (k : Fin 1024) : IsReal (errRef m c (ix2 r k)) := by
  unfold errRef
  rw [v43_apply]
  refine ((h.h _).add (((ff_real h r k).mul ?_).mul (h.p _))).sub (h.t _)
  rw [W, E, word_1024, word_eps]
  exact rsqrt_var_real (by norm_num) eps_pos fun k => ff_real h r k
theorem dh_real (r : Fin 2048) (k : Fin 1024) : IsReal (dhRef m c (ix2 r k)) := by
  unfold dhRef
  rw [v57_apply, W, word_half, word_two, word_1024, ← EReal.coe_one, ← EReal.coe_mul, div_coe_coe _ (by norm_num)]
  exact (IsReal.coe _).mul ((IsReal.coe _).mul (err_real h r k))
theorem dh_point (t : Fin cfg0.N) (r : Fin 256) (k : Fin 1024) : dhAt m c t (ix2 r k) = dhRef m c (ix2 (row t r) k) := by
  refine (pay15_apply _ _ _ _ _ _ _).trans ?_
  unfold dhRef
  rw [v57_apply, W, word_half, word_two, word_1024, word_inv, ← EReal.coe_one, ← EReal.coe_mul, div_coe_coe _ (by norm_num)]
  refine (congrArg (· * _) (err_point m c t r k)).trans ?_
  obtain ⟨e, he⟩ := err_real h (row t r) k
  show errRef m c (ix2 (row t r) k) * _ = _ * (_ * errRef m c (ix2 (row t r) k))
  rw [he, ← EReal.coe_mul, ← EReal.coe_mul, ← EReal.coe_mul]
  exact congrArg _ (by ring)
theorem dff_point (t : Fin cfg0.N) (r : Fin 256) (k : Fin 1024) : dffAt m c t (ix2 r k) = dffRef m c (ix2 (row t r) k) := by
  refine (pay21_apply _ _ _ _ _ (fun r => pay9_apply _ _ _ _ r) r k).trans ?_
  unfold dffRef
  rw [v77_apply]
  simp only [ff_point, dh_point h, g3_block, W, E, H, word_1024, word_eps, word_neg_half]
  exact normBack_eq_normGrad (by norm_num) eps_pos (fun k => ff_real h _ _) (fun k => (dh_real h _ _).mul (h.p _)) k
theorem dff_real (r : Fin 2048) (k : Fin 1024) : IsReal (dffRef m c (ix2 r k)) := by
  unfold dffRef
  rw [v77_apply, W, E, H, word_1024, word_eps, word_neg_half]
  refine Eq.subst (motive := IsReal) (normBack_eq_normGrad (by norm_num) eps_pos (fun k => ff_real h _ _) (fun k => (dh_real h _ _).mul (h.p _)) k) ?_
  exact normBack_real (by norm_num) eps_pos (fun k => ff_real h _ _) (fun k => (dh_real h _ _).mul (h.p _)) k
theorem dact_point (t : Fin cfg0.N) (r : Fin 256) (j : Fin 2816) : dactAt m c t (ix2 r j) = dactRef m c (ix2 (row t r) j) := by
  refine (pay23_apply _ _ _ r j).trans ?_
  unfold dactRef
  rw [v78_apply]
  exact Finset.sum_congr rfl fun k _ => congrArg₂ (· * ·) (dff_point h t r k) (wd_apply m c j k)
theorem dact_real (r : Fin 2048) (j : Fin 2816) : IsReal (dactRef m c (ix2 r j)) := by
  unfold dactRef
  rw [v78_apply]
  exact IsReal.sum fun k _ => (dff_real h r k).mul (h.d _)
omit h in
theorem dpre_lo (r : Fin 2048) (j : Fin 2816) : dpreRef m c (ix2 r (lo j)) = siluGrad (dactRef m c (ix2 r j) * preRef m c (ix2 r (hi j))) (preRef m c (ix2 r (lo j))) := by
  unfold dpreRef
  rw [v84_apply, dif_pos (show (lo j).val < 2816 from j.isLt), v82_apply, v80_apply]
omit h in
theorem dpre_hi (r : Fin 2048) (j : Fin 2816) : dpreRef m c (ix2 r (hi j)) = silu (preRef m c (ix2 r (lo j))) * dactRef m c (ix2 r j) := by
  unfold dpreRef
  rw [v84_apply, dif_neg (show ¬ (hi j).val < 2816 by show ¬ 2816 + j.val < 2816; omega)]
  have e : (hi j).val - 2816 = j.val := Nat.add_sub_cancel_left _ _
  simp only [e]
theorem dgate_point (t : Fin cfg0.N) (r : Fin 256) (j : Fin 2816) : dgateAt m c t (ix2 r j) = dpreRef m c (ix2 (row t r) (lo j)) := by
  refine (pay26_apply _ _ _ _ _ r j).trans ?_
  rw [dpre_lo]
  simp only [dact_point h, gate_point, up_point]
  exact mul_siluGrad (dact_real h _ _) (pre_real h _ _) (pre_real h _ _)
theorem dup_point (t : Fin cfg0.N) (r : Fin 256) (j : Fin 2816) : dupAt m c t (ix2 r j) = dpreRef m c (ix2 (row t r) (hi j)) := by
  refine (pay27_apply _ _ _ _ r j).trans ?_
  rw [dpre_hi]
  simp only [dact_point h, gate_point]
  exact mul_comm (G := EReal) _ _
theorem dpre_real (r : Fin 2048) (j : Fin 5632) : IsReal (dpreRef m c (ix2 r j)) := by
  by_cases hj : j.val < 2816
  · rw [show j = lo ⟨j.val, hj⟩ from rfl, dpre_lo]
    have hl := logistic_real (pre_real h r (lo ⟨j.val, hj⟩))
    have ha := (dact_real h r ⟨j.val, hj⟩).mul (pre_real h r (hi ⟨j.val, hj⟩))
    exact (ha.mul hl).add (((pre_real h r _).mul ha).mul (hl.mul (IsReal.one.sub hl)))
  · rw [show j = hi ⟨j.val - 2816, by omega⟩ from Fin.ext (show j.val = 2816 + (j.val - 2816) by omega), dpre_hi]
    exact (silu_real (pre_real h r _)).mul (dact_real h r _)
theorem dhn_point (t : Fin cfg0.N) (r : Fin 256) (k : Fin 1024) : dhnAt m c t (ix2 r k) = dhnRef m c (ix2 (row t r) k) := by
  refine (pay31_apply _ _ _ _ r k).trans ?_
  unfold dhnRef
  rw [v85_apply, sum_halves]
  refine congrArg₂ (· + ·) (Finset.sum_congr rfl fun j _ => congrArg₂ (· * ·) ?_ (wg_apply m c j k)) (Finset.sum_congr rfl fun j _ => congrArg₂ (· * ·) (dup_point h t r j) (wu_apply m c j k))
  exact (pay30_apply _ _ _ _ _ _).trans (dgate_point h t r j)
theorem dhn_real (r : Fin 2048) (k : Fin 1024) : IsReal (dhnRef m c (ix2 r k)) := by
  unfold dhnRef
  rw [v85_apply]
  exact IsReal.sum fun j _ => (dpre_real h r j).mul (h.w _)
end

section Same
variable (m c) (t : Fin cfg0.N) (a b d : FVec Ideal S2816x1024 .bf16)
abbrev ffOf : FVec Ideal S256x1024 .f32 := k0_pay8 (F := Ideal) (iblk m c 0 t) a b d
abbrev sumOf : FVec Ideal S256x1 .f32 := k0_pay9 (F := Ideal) (iblk m c 0 t) a b d
abbrev dhOf : FVec Ideal S256x1024 .f32 := k0_pay15 (F := Ideal) (ffOf m c t a b d) (iblk m c 4 t) (sumOf m c t a b d) (k0_pay10 (F := Ideal)) (iblk m c 1 t) (iblk m c 2 t)
abbrev turnOf : FVec Ideal S256x1024 .f32 := k0_pay17 (F := Ideal) (ffOf m c t a b d) (iblk m c 4 t) (sumOf m c t a b d) (k0_pay10 (F := Ideal)) (iblk m c 1 t) (iblk m c 2 t)
abbrev scaleOf : FVec Ideal S256x1024 .f32 := k0_pay18 (F := Ideal) (sumOf m c t a b d) (k0_pay10 (F := Ideal))
variable {m c a b d} {g u : FVec Ideal S256x2816 .f32}
/-- A function of the loaded weights, the gate and the other factor is its value at what they hold. -/
theorem same {α : Type} (P : FVec Ideal S2816x1024 .bf16 → FVec Ideal S2816x1024 .bf16 → FVec Ideal S2816x1024 .bf16 → FVec Ideal S256x2816 .f32 → FVec Ideal S256x2816 .f32 → α)
    (ha : a = wg m c) (hb : b = wu m c) (hd : d = wd m c) (hg : g = k0_pay4 (F := Ideal) (iblk m c 0 t) a) (hu : u = k0_pay5 (F := Ideal) (iblk m c 0 t) b) :
    P a b d g u = P (wg m c) (wu m c) (wd m c) (gateAt m c t) (upAt m c t) := by
  subst ha hb hd hg hu
  rfl
end Same
theorem final5 : (dats m 0 c).arrAt 5 (cfgs 0).N = val_main_v107 (F := Ideal) (X0 m c) (X2 m c) (X3 m c) := by
  refine (dats m 0 c).arrAt_eq_of_covers 5 _ (by decide +kernel) fun t hf y => ?_
  have key : k0_pay7 (F := Ideal) (iblk m c 0 t) (wg m c) (wu m c) y = val_main_v107 (F := Ideal) (X0 m c) (X2 m c) (X3 m c) (((cfg0.win 5).blk t).view.emb y) := by
    idx_vars y
    rw [emb5, v107_apply]
    exact (pay7_apply _ _ _ y1 y0).trans (act_point m c t y1 y0)
  blk_simp; rw [after0_5]
  have := t_lt t
  by_cases h0 : t.val % 8 = 0
  · rw [outsAt0_A m c t h0 h0 (by omega) h0 (by omega) h0 (by omega)]; frame_out; exact (same t (fun a b _ _ _ => k0_pay7 (F := Ideal) (iblk m c 0 t) a b y) (wholeA0 m c _) (wholeA1 m c _) rfl rfl rfl).trans key
  · rw [outsAt0_B m c t h0 h0 (by omega) h0 (by omega) h0 (by omega)]; frame_out; exact (same t (fun a b _ _ _ => k0_pay7 (F := Ideal) (iblk m c 0 t) a b y) (wholeB0 m c _ _ _) (wholeB1 m c _ _ _) rfl rfl rfl).trans key
theorem halvesT_canon (a b : FVec Ideal S2816x256 .bf16) (j : Fin 5632) (r : Fin 256) : View.canon [(⟨Rect.unit (s := S5632x256) ![2816, 0] S2816x256.size inb_S5632x256_S2816x256_2816_0, b⟩ : View.Piece (Elt Ideal) S5632x256 .bf16),
      ⟨Rect.unit (s := S5632x256) ![0, 0] S2816x256.size inb_S5632x256_S2816x256_0_0, a⟩] (ix2 j r) = if h : j.val < 2816 then a (ix2 ⟨j.val, h⟩ r) else b (ix2 ⟨j.val - 2816, by omega⟩ r) := by
  refine View.canon_apply_of_pieces (Val := Elt Ideal) (e := .bf16) (fun y : S5632x256.Idx => (if h : (y 0).val < 2816 then a (ix2 ⟨(y 0).val, h⟩ (y 1)) else b (ix2 ⟨(y 0).val - 2816, by have : (y 0).val < 5632 := (y 0).isLt; omega⟩ (y 1)) : EReal)) _ (fun p hp x => ?_) (ix2 j r) ?_
  · rcases List.mem_cons.1 hp with rfl | hp
    · have h : ¬ (2816 + 1 * (x 0).val < 2816) := by omega
      refine Eq.trans ?_ (dif_neg h).symm
      refine congrArg b (funext fun a => ?_)
      match a with
      | ⟨0, _⟩ => exact Fin.ext (show (x 0).val = 2816 + 1 * (x 0).val - 2816 by omega)
      | ⟨1, _⟩ => exact Fin.ext (show (x 1).val = 0 + 1 * (x 1).val by omega)
    · obtain rfl := List.mem_singleton.1 hp
      have hx : (x 0).val < 2816 := (x 0).isLt
      have h : 0 + 1 * (x 0).val < 2816 := by omega
      refine Eq.trans ?_ (dif_pos h).symm
      refine congrArg a (funext fun a => ?_)
      match a with
      | ⟨0, _⟩ => exact Fin.ext (show (x 0).val = 0 + 1 * (x 0).val by omega)
      | ⟨1, _⟩ => exact Fin.ext (show (x 1).val = 0 + 1 * (x 1).val by omega)
  · by_cases h : j.val < 2816
    · refine ⟨_, List.mem_cons_of_mem _ (List.mem_singleton_self _), ?_⟩
      rw [LoadRect.mem_set]
      intro a
      match a with
      | ⟨0, _⟩ => exact ⟨j.val, h, show j.val = 0 + 1 * j.val by omega⟩
      | ⟨1, _⟩ => exact ⟨r.val, r.isLt, show r.val = 0 + 1 * r.val by omega⟩
    · refine ⟨_, List.mem_cons_self, ?_⟩
      rw [LoadRect.mem_set]
      intro a
      match a with
      | ⟨0, _⟩ => exact ⟨j.val - 2816, (show j.val - 2816 < 2816 by omega), show j.val = 2816 + 1 * (j.val - 2816) by omega⟩
      | ⟨1, _⟩ => exact ⟨r.val, r.isLt, show r.val = 0 + 1 * r.val by omega⟩
theorem final6 (h : Finite m c) : (dats m 0 c).arrAt 6 (cfgs 0).N = val_main_v109 (F := Ideal) (X0 m c) (X1 m c) (X2 m c) (X3 m c) (X4 m c) (X5 m c) := by
  refine (dats m 0 c).arrAt_eq_of_covers 6 _ (by decide +kernel) fun t hf y => ?_
  have key : View.canon [(⟨Rect.unit (s := S5632x256) ![2816, 0] S2816x256.size inb_S5632x256_S2816x256_2816_0, k0_pay29 (F := Ideal) (turnAt m c t) (scaleAt m c t) (wd m c) (gateAt m c t)⟩ : View.Piece (Elt Ideal) S5632x256 .bf16),
      ⟨Rect.unit (s := S5632x256) ![0, 0] S2816x256.size inb_S5632x256_S2816x256_0_0, k0_pay28 (F := Ideal) (turnAt m c t) (scaleAt m c t) (wd m c) (gateAt m c t) (upAt m c t)⟩] y =
      val_main_v109 (F := Ideal) (X0 m c) (X1 m c) (X2 m c) (X3 m c) (X4 m c) (X5 m c) (((cfg0.win 6).blk t).view.emb y) := by
    idx_vars y
    rw [emb6, v109_apply]
    refine (halvesT_canon _ _ y0 y1).trans ?_
    split_ifs with hj
    · exact (pay28_apply _ _ _ _ _ y1 ⟨y0.val, hj⟩).trans (dgate_point h t y1 ⟨y0.val, hj⟩)
    · refine ((pay29_apply _ _ _ _ y1 ⟨y0.val - 2816, _⟩).trans (dup_point h t y1 ⟨y0.val - 2816, _⟩)).trans ?_
      refine congrArg (fun j => dpreRef m c (ix2 (row t y1) j)) (Fin.ext ?_)
      show 2816 + (y0.val - 2816) = y0.val
      omega
  blk_simp; rw [after0_6]
  have := t_lt t
  by_cases h0 : t.val % 8 = 0
  · rw [outsAt0_A m c t h0 h0 (by omega) h0 (by omega) h0 (by omega)]; frame_out; exact (same t (fun a b d g u => View.canon [(⟨Rect.unit (s := S5632x256) ![2816, 0] S2816x256.size inb_S5632x256_S2816x256_2816_0, k0_pay29 (F := Ideal) (turnOf m c t a b d) (scaleOf m c t a b d) d g⟩ : View.Piece (Elt Ideal) S5632x256 .bf16),
      ⟨Rect.unit (s := S5632x256) ![0, 0] S2816x256.size inb_S5632x256_S2816x256_0_0, k0_pay28 (F := Ideal) (turnOf m c t a b d) (scaleOf m c t a b d) d g u⟩] y) (wholeA0 m c _) (wholeA1 m c _) (wholeA2 m c _) (halves_lo _ _ _) (halves_hi _ _ _)).trans key
  · rw [outsAt0_B m c t h0 h0 (by omega) h0 (by omega) h0 (by omega)]; frame_out; exact (same t (fun a b d g u => View.canon [(⟨Rect.unit (s := S5632x256) ![2816, 0] S2816x256.size inb_S5632x256_S2816x256_2816_0, k0_pay29 (F := Ideal) (turnOf m c t a b d) (scaleOf m c t a b d) d g⟩ : View.Piece (Elt Ideal) S5632x256 .bf16),
      ⟨Rect.unit (s := S5632x256) ![0, 0] S2816x256.size inb_S5632x256_S2816x256_0_0, k0_pay28 (F := Ideal) (turnOf m c t a b d) (scaleOf m c t a b d) d g u⟩] y) (wholeB0 m c _ _ _) (wholeB1 m c _ _ _) (wholeB2 m c _ _ _) (halves_lo _ _ _) (halves_hi _ _ _)).trans key
theorem final7 (h : Finite m c) : (dats m 0 c).arrAt 7 (cfgs 0).N = val_main_v110 (F := Ideal) (X0 m c) (X1 m c) (X2 m c) (X3 m c) (X4 m c) (X5 m c) := by
  refine (dats m 0 c).arrAt_eq_of_covers 7 _ (by decide +kernel) fun t hf y => ?_
  have key : dffAt m c t y = val_main_v110 (F := Ideal) (X0 m c) (X1 m c) (X2 m c) (X3 m c) (X4 m c) (X5 m c) (((cfg0.win 7).blk t).view.emb y) := by
    idx_vars y
    rw [emb7, v110_apply]
    exact dff_point h t y0 y1
  blk_simp; rw [after0_7]
  have := t_lt t
  by_cases h0 : t.val % 8 = 0
  · rw [outsAt0_A m c t h0 h0 (by omega) h0 (by omega) h0 (by omega)]; frame_out; exact (same t (fun a b d _ _ => k0_pay21 (F := Ideal) (turnOf m c t a b d) (scaleOf m c t a b d) y) (wholeA0 m c _) (wholeA1 m c _) (wholeA2 m c _) rfl rfl).trans key
  · rw [outsAt0_B m c t h0 h0 (by omega) h0 (by omega) h0 (by omega)]; frame_out; exact (same t (fun a b d _ _ => k0_pay21 (F := Ideal) (turnOf m c t a b d) (scaleOf m c t a b d) y) (wholeB0 m c _ _ _) (wholeB1 m c _ _ _) (wholeB2 m c _ _ _) rfl rfl).trans key
theorem final8 (h : Finite m c) : (dats m 0 c).arrAt 8 (cfgs 0).N = val_main_v111 (F := Ideal) (X0 m c) (X1 m c) (X2 m c) (X3 m c) (X4 m c) (X5 m c) := by
  refine (dats m 0 c).arrAt_eq_of_covers 8 _ (by decide +kernel) fun t hf y => ?_
  have key : k0_pay36 (F := Ideal) (iblk m c 1 t) (dhAt m c t) (k0_pay22 (F := Ideal)) (dupAt m c t) (wg m c) (dgateLow m c t) (constant (F := Ideal) S256x1024 .f32 0x00000000#32) (wu m c) (iblk m c 3 t) y =
      val_main_v111 (F := Ideal) (X0 m c) (X1 m c) (X2 m c) (X3 m c) (X4 m c) (X5 m c) (((cfg0.win 8).blk t).view.emb y) := by
    idx_vars y
    rw [emb8, v111_apply]
    refine (pay36_apply _ _ _ _ _ _ _ _ _ y0 y1).trans (congrArg₂ (· + ·) (dh_point h t y0 y1) ?_)
    simp only [dhn_point h, h_block, g_block, W, E, H, word_1024, word_eps, word_neg_half]
    exact normBack_eq_normGrad (by norm_num) eps_pos (fun k => h.h _) (fun k => (dhn_real h _ _).mul (h.g _)) y1
  blk_simp; rw [after0_8]
  have := t_lt t
  by_cases h0 : t.val % 8 = 0
  · rw [outsAt0_A m c t h0 h0 (by omega) h0 (by omega) h0 (by omega)]; frame_out; exact (same t (fun a b d g u => k0_pay36 (F := Ideal) (iblk m c 1 t) (dhOf m c t a b d) (k0_pay22 (F := Ideal)) (k0_pay27 (F := Ideal) (turnOf m c t a b d) (scaleOf m c t a b d) d g) a (k0_pay30 (F := Ideal) (turnOf m c t a b d) (scaleOf m c t a b d) d g u) (constant (F := Ideal) S256x1024 .f32 0x00000000#32) b (iblk m c 3 t) y) (wholeA0 m c _) (wholeA1 m c _) (wholeA2 m c _) (halves_lo _ _ _) (halves_hi _ _ _)).trans key
  · rw [outsAt0_B m c t h0 h0 (by omega) h0 (by omega) h0 (by omega)]; frame_out; exact (same t (fun a b d g u => k0_pay36 (F := Ideal) (iblk m c 1 t) (dhOf m c t a b d) (k0_pay22 (F := Ideal)) (k0_pay27 (F := Ideal) (turnOf m c t a b d) (scaleOf m c t a b d) d g) a (k0_pay30 (F := Ideal) (turnOf m c t a b d) (scaleOf m c t a b d) d g u) (constant (F := Ideal) S256x1024 .f32 0x00000000#32) b (iblk m c 3 t) y) (wholeB0 m c _ _ _) (wholeB1 m c _ _ _) (wholeB2 m c _ _ _) (halves_lo _ _ _) (halves_hi _ _ _)).trans key
theorem final9 (h : Finite m c) : (dats m 0 c).arrAt 9 (cfgs 0).N = val_main_v112 (F := Ideal) (X0 m c) (X1 m c) (X2 m c) (X3 m c) (X4 m c) (X5 m c) := by
  refine (dats m 0 c).arrAt_eq_of_after_last 9 t0_7 (by decide +kernel) _ fun j => ?_
  blk_simp
  rw [after0_9, Pipeline.eq_sum_fin_of_reset_step_apply_last (fun n h => (outsAt0 m c n h).2.2.2.2.1) 8 (fun _ => 0)
    (fun (p : Fin cfg0.N) j => k0_pay13 (F := Ideal) (ffAt m c p) (iblk m c 4 p) (sumAt m c p) (k0_pay10 (F := Ideal)) (iblk m c 1 p) (iblk m c 2 p) j)
    (fun t h j => by have := t_lt t; rw [outsAt0_A m c t h h (by omega) h (by omega) h (by omega)]; frame_out; rw [zero_add]; exact same t (fun a b d _ _ => k0_pay13 (F := Ideal) (ffOf m c t a b d) (iblk m c 4 t) (sumOf m c t a b d) (k0_pay10 (F := Ideal)) (iblk m c 1 t) (iblk m c 2 t) j) (wholeA0 m c _) (wholeA1 m c _) (wholeA2 m c _) rfl rfl)
    (fun t h j => by have := t_lt t; rw [outsAt0_B m c t h h (by omega) h (by omega) h (by omega)]; frame_out; exact (pay14_apply _ _ _ _ _ _ _ _).trans (congrArg (_ + ·) (same t (fun a b d _ _ => k0_pay13 (F := Ideal) (ffOf m c t a b d) (iblk m c 4 t) (sumOf m c t a b d) (k0_pay10 (F := Ideal)) (iblk m c 1 t) (iblk m c 2 t) j) (wholeB0 m c _ _ _) (wholeB1 m c _ _ _) (wholeB2 m c _ _ _) rfl rfl)))
    (le_of_eq N_0) t0_7 rfl j, zero_add]
  idx_vars j
  obtain rfl : j0 = 0 := Subsingleton.elim _ _
  rw [v112_apply]
  have hh : IsReal half := ⟨_, word_half⟩
  have hd (r : Fin 2048) : IsReal (Ideal.div (∑ k : Fin 1024, errRef m c (ix2 r k) * errRef m c (ix2 r k)) W) := by
    obtain ⟨s, hs⟩ := IsReal.sum (s := Finset.univ) fun (k : Fin 1024) _ => (err_real h r k).mul (err_real h r k)
    rw [hs, W, word_1024, div_coe_coe _ (by norm_num)]
    exact ⟨_, rfl⟩
  simp only [pay13_apply, err_point]
  change (∑ p : Fin cfg0.N, half * ∑ r : Fin 256, Ideal.div (∑ k : Fin 1024, errRef m c (ix2 (row p r) k) * errRef m c (ix2 (row p r) k)) W : EReal) =
    half * ∑ r : Fin 2048, Ideal.div (∑ k : Fin 1024, errRef m c (ix2 r k) * errRef m c (ix2 r k)) W
  rw [← mul_sum_real hh hd, Finset.sum_congr rfl fun p _ => (mul_sum_real hh fun r => hd (row p r)).symm]
  exact Fin.sum_mul_add_congr (S := cfg0.N) (n := 256) fun p r hl => rfl
theorem final10 (h : Finite m c) : (dats m 0 c).arrAt 10 (cfgs 0).N = val_main_v113 (F := Ideal) (X0 m c) (X1 m c) (X2 m c) (X3 m c) (X4 m c) (X5 m c) := by
  refine (dats m 0 c).arrAt_eq_of_after_last 10 t0_7 (by decide +kernel) _ fun j => ?_
  blk_simp
  rw [after0_10, Pipeline.eq_sum_fin_of_reset_step_apply_last (fun n h => (outsAt0 m c n h).2.2.2.2.2.1) 8 (fun _ => 0)
    (fun (p : Fin cfg0.N) j => k0_pay19 (F := Ideal) (dhAt m c p) (k0_pay16 (F := Ideal) (ffAt m c p) (sumAt m c p) (k0_pay10 (F := Ideal))) j)
    (fun t h j => by have := t_lt t; rw [outsAt0_A m c t h h (by omega) h (by omega) h (by omega)]; frame_out; rw [zero_add]; exact same t (fun a b d _ _ => k0_pay19 (F := Ideal) (dhOf m c t a b d) (k0_pay16 (F := Ideal) (ffOf m c t a b d) (sumOf m c t a b d) (k0_pay10 (F := Ideal))) j) (wholeA0 m c _) (wholeA1 m c _) (wholeA2 m c _) rfl rfl)
    (fun t h j => by have := t_lt t; rw [outsAt0_B m c t h h (by omega) h (by omega) h (by omega)]; frame_out; exact (pay20_apply _ _ _ _).trans (congrArg (_ + ·) (same t (fun a b d _ _ => k0_pay19 (F := Ideal) (dhOf m c t a b d) (k0_pay16 (F := Ideal) (ffOf m c t a b d) (sumOf m c t a b d) (k0_pay10 (F := Ideal))) j) (wholeB0 m c _ _ _) (wholeB1 m c _ _ _) (wholeB2 m c _ _ _) rfl rfl)))
    (le_of_eq N_0) t0_7 rfl j, zero_add]
  idx_vars j
  obtain rfl : j0 = 0 := Subsingleton.elim _ _
  rw [v113_apply]
  simp only [pay19_apply, dh_point h]
  refine Fin.sum_mul_add_congr (S := cfg0.N) (n := 256) fun p r hl => ?_
  refine (congrArg (_ * ·) (pay16_apply _ _ (fun r => pay9_apply _ _ _ _ r) r j1)).trans ?_
  simp only [ff_point]
  exact mul_comm (G := EReal) _ _
theorem final11 (h : Finite m c) : (dats m 0 c).arrAt 11 (cfgs 0).N = val_main_v114 (F := Ideal) (X0 m c) (X1 m c) (X2 m c) (X3 m c) (X4 m c) (X5 m c) := by
  refine (dats m 0 c).arrAt_eq_of_after_last 11 t0_7 (by decide +kernel) _ fun j => ?_
  blk_simp
  rw [after0_11, Pipeline.eq_sum_fin_of_reset_step_apply_last (fun n h => (outsAt0 m c n h).2.2.2.2.2.2.1) 8 (fun _ => 0)
    (fun (p : Fin cfg0.N) j => k0_pay34 (F := Ideal) (iblk m c 1 p) (k0_pay22 (F := Ideal)) (dupAt m c p) (wg m c) (dgateLow m c p) (constant (F := Ideal) S256x1024 .f32 0x00000000#32) (wu m c) j)
    (fun t h j => by have := t_lt t; rw [outsAt0_A m c t h h (by omega) h (by omega) h (by omega)]; frame_out; rw [zero_add]; exact same t (fun a b d g u => k0_pay34 (F := Ideal) (iblk m c 1 t) (k0_pay22 (F := Ideal)) (k0_pay27 (F := Ideal) (turnOf m c t a b d) (scaleOf m c t a b d) d g) a (k0_pay30 (F := Ideal) (turnOf m c t a b d) (scaleOf m c t a b d) d g u) (constant (F := Ideal) S256x1024 .f32 0x00000000#32) b j) (wholeA0 m c _) (wholeA1 m c _) (wholeA2 m c _) (halves_lo _ _ _) (halves_hi _ _ _))
    (fun t h j => by have := t_lt t; rw [outsAt0_B m c t h h (by omega) h (by omega) h (by omega)]; frame_out; exact (pay35_apply _ _ _ _ _ _ _ _ _).trans (congrArg (_ + ·) (same t (fun a b d g u => k0_pay34 (F := Ideal) (iblk m c 1 t) (k0_pay22 (F := Ideal)) (k0_pay27 (F := Ideal) (turnOf m c t a b d) (scaleOf m c t a b d) d g) a (k0_pay30 (F := Ideal) (turnOf m c t a b d) (scaleOf m c t a b d) d g u) (constant (F := Ideal) S256x1024 .f32 0x00000000#32) b j) (wholeB0 m c _ _ _) (wholeB1 m c _ _ _) (wholeB2 m c _ _ _) (halves_lo _ _ _) (halves_hi _ _ _))))
    (le_of_eq N_0) t0_7 rfl j, zero_add]
  idx_vars j
  obtain rfl : j0 = 0 := Subsingleton.elim _ _
  rw [v114_apply]
  simp only [pay34_apply, dhn_point h, h_block]
  exact Fin.sum_mul_add_congr (S := cfg0.N) (n := 256) fun p r hl => mul_comm (G := EReal) _ _

theorem run (m : (ℓ : Loc nD τ sig) → Buf (Elt Ideal) ℓ) (ρ : Dev nD → PrngReg) (H : ∀ c, Finite m c) :
    θ_run (defs (F := Ideal)) (onTc (τ := τ) (main (F := Ideal))) ⟨m, fun _ => 0, ρ⟩ (fun r => ∀ c : Dev nD,
      (r.2.mem ((c.tc : Thread nD τ).loc main_v18_0) = val_main_v107 (F := Ideal) (X0 m c) (X2 m c) (X3 m c)
      ∧ r.2.mem ((c.tc : Thread nD τ).loc main_v18_1) = val_main_v109 (F := Ideal) (X0 m c) (X1 m c) (X2 m c) (X3 m c) (X4 m c) (X5 m c)
      ∧ r.2.mem ((c.tc : Thread nD τ).loc main_v18_2) = val_main_v110 (F := Ideal) (X0 m c) (X1 m c) (X2 m c) (X3 m c) (X4 m c) (X5 m c)
      ∧ r.2.mem ((c.tc : Thread nD τ).loc main_v18_3) = val_main_v111 (F := Ideal) (X0 m c) (X1 m c) (X2 m c) (X3 m c) (X4 m c) (X5 m c)
      ∧ r.2.mem ((c.tc : Thread nD τ).loc main_v18_4) = val_main_v112 (F := Ideal) (X0 m c) (X1 m c) (X2 m c) (X3 m c) (X4 m c) (X5 m c)
      ∧ r.2.mem ((c.tc : Thread nD τ).loc main_v18_5) = val_main_v113 (F := Ideal) (X0 m c) (X1 m c) (X2 m c) (X3 m c) (X4 m c) (X5 m c)
      ∧ r.2.mem ((c.tc : Thread nD τ).loc main_v18_6) = val_main_v114 (F := Ideal) (X0 m c) (X1 m c) (X2 m c) (X3 m c) (X4 m c) (X5 m c))) :=
  (θ_run (defs (F := Ideal)) _ _).mono (fun r h c =>
    ⟨(post5 m r h c).trans final5, (post6 m r h c).trans (final6 (H c)), (post7 m r h c).trans (final7 (H c)), (post8 m r h c).trans (final8 (H c)), (post9 m r h c).trans (final9 (H c)), (post10 m r h c).trans (final10 (H c)), (post11 m r h c).trans (final11 (H c))⟩) (run_main m ρ)

end Cert.FfnBwdIdeal.Value

end
-- ==== Proof.FfnClaims.lean ====
/- The claims about the gated layer's call and the gradient it computes. -/
module

public import proofs.«01_k».proof.Defs
public import proofs.«01_k».proof.Proof.Gen.FfnBwd.Frame
public import proofs.«01_k».proof.Proof.Gen.FfnGradIdeal.Run
public import proofs.«01_k».proof.Proof.FfnValue
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

instance ffn_pre_facts : Cert.Pre_finite_ffn.Facts where
  bcast_S_S2048x1024 := by decide
  bcast_S_S1x1024 := by decide
  bcast_S_S1x1024x5632 := by decide
  bcast_S_S1x2816x1024 := by decide

theorem ffn_frame : Cert.quiescent_FfnBwd := fun m g _ => Cert.FfnBwd.Gen.frame m g
theorem ffn_frame_ideal : Cert.quiescent_FfnBwdIdeal := fun m g _ => Cert.FfnBwdIdeal.Gen.frame m g
theorem ffn_frame_ideal_pre : Cert.quiescent_FfnBwdIdeal_pre_finite_ffn := fun m g _ => Cert.FfnBwdIdeal.Gen.frame m g
theorem ffn_grad_frame : Cert.quiescent_FfnGradIdeal := fun m g _ => by
  hlo_run
  · simp
  · exact sem_eq_zero_of_no_sems (sig := Cert.FfnGradIdeal.sig) (by decide) _
theorem ffn_grad_frame_pre : Cert.quiescent_FfnGradIdeal_pre_finite_ffn := fun m g _ => ffn_grad_frame m g trivial

theorem ffn_finite {m : (ℓ : Loc Cert.FfnBwdIdeal.nD Cert.FfnBwdIdeal.τ Cert.FfnBwdIdeal.sig) → Buf (Elt Ideal) ℓ}
    (h : Cert.Pre_FfnBwdIdeal_finite_ffn m) (c : Dev Cert.FfnBwdIdeal.nD) : Cert.FfnBwdIdeal.Value.Finite m c :=
  ⟨Cert.Reals.isReal_of_olt (h c).1, Cert.Reals.isReal_of_olt (h c).2.1, Cert.Reals.isReal_of_olt (h c).2.2.1, Cert.Reals.isReal_of_olt (h c).2.2.2.1, Cert.Reals.isReal_of_olt (h c).2.2.2.2.1, Cert.Reals.isReal_of_olt (h c).2.2.2.2.2⟩

theorem ffn_args_107 {x0 y0 : (⟨Cert.FfnGradIdeal.S2048x1024, .f32⟩ : BufTy).Contents (Elt Ideal)} {x2 y2 : (⟨Cert.FfnGradIdeal.S1x1024, .f32⟩ : BufTy).Contents (Elt Ideal)} {x3 y3 : (⟨Cert.FfnGradIdeal.S1x1024x5632, .f32⟩ : BufTy).Contents (Elt Ideal)}
    (e0 : x0 = y0) (e2 : x2 = y2) (e3 : x3 = y3) :
    Cert.FfnGradIdeal.Read.val_main_v107 (F := Ideal) x0 x2 x3 = Cert.FfnGradIdeal.Read.val_main_v107 (F := Ideal) y0 y2 y3 := by
  subst e0 e2 e3; rfl
theorem ffn_args_109 {x0 y0 : (⟨Cert.FfnGradIdeal.S2048x1024, .f32⟩ : BufTy).Contents (Elt Ideal)} {x1 y1 : (⟨Cert.FfnGradIdeal.S2048x1024, .f32⟩ : BufTy).Contents (Elt Ideal)} {x2 y2 : (⟨Cert.FfnGradIdeal.S1x1024, .f32⟩ : BufTy).Contents (Elt Ideal)} {x3 y3 : (⟨Cert.FfnGradIdeal.S1x1024x5632, .f32⟩ : BufTy).Contents (Elt Ideal)} {x4 y4 : (⟨Cert.FfnGradIdeal.S1x2816x1024, .f32⟩ : BufTy).Contents (Elt Ideal)} {x5 y5 : (⟨Cert.FfnGradIdeal.S1x1024, .f32⟩ : BufTy).Contents (Elt Ideal)}
    (e0 : x0 = y0) (e1 : x1 = y1) (e2 : x2 = y2) (e3 : x3 = y3) (e4 : x4 = y4) (e5 : x5 = y5) :
    Cert.FfnGradIdeal.Read.val_main_v109 (F := Ideal) x0 x1 x2 x3 x4 x5 = Cert.FfnGradIdeal.Read.val_main_v109 (F := Ideal) y0 y1 y2 y3 y4 y5 := by
  subst e0 e1 e2 e3 e4 e5; rfl
theorem ffn_args_110 {x0 y0 : (⟨Cert.FfnGradIdeal.S2048x1024, .f32⟩ : BufTy).Contents (Elt Ideal)} {x1 y1 : (⟨Cert.FfnGradIdeal.S2048x1024, .f32⟩ : BufTy).Contents (Elt Ideal)} {x2 y2 : (⟨Cert.FfnGradIdeal.S1x1024, .f32⟩ : BufTy).Contents (Elt Ideal)} {x3 y3 : (⟨Cert.FfnGradIdeal.S1x1024x5632, .f32⟩ : BufTy).Contents (Elt Ideal)} {x4 y4 : (⟨Cert.FfnGradIdeal.S1x2816x1024, .f32⟩ : BufTy).Contents (Elt Ideal)} {x5 y5 : (⟨Cert.FfnGradIdeal.S1x1024, .f32⟩ : BufTy).Contents (Elt Ideal)}
    (e0 : x0 = y0) (e1 : x1 = y1) (e2 : x2 = y2) (e3 : x3 = y3) (e4 : x4 = y4) (e5 : x5 = y5) :
    Cert.FfnGradIdeal.Read.val_main_v110 (F := Ideal) x0 x1 x2 x3 x4 x5 = Cert.FfnGradIdeal.Read.val_main_v110 (F := Ideal) y0 y1 y2 y3 y4 y5 := by
  subst e0 e1 e2 e3 e4 e5; rfl
theorem ffn_args_111 {x0 y0 : (⟨Cert.FfnGradIdeal.S2048x1024, .f32⟩ : BufTy).Contents (Elt Ideal)} {x1 y1 : (⟨Cert.FfnGradIdeal.S2048x1024, .f32⟩ : BufTy).Contents (Elt Ideal)} {x2 y2 : (⟨Cert.FfnGradIdeal.S1x1024, .f32⟩ : BufTy).Contents (Elt Ideal)} {x3 y3 : (⟨Cert.FfnGradIdeal.S1x1024x5632, .f32⟩ : BufTy).Contents (Elt Ideal)} {x4 y4 : (⟨Cert.FfnGradIdeal.S1x2816x1024, .f32⟩ : BufTy).Contents (Elt Ideal)} {x5 y5 : (⟨Cert.FfnGradIdeal.S1x1024, .f32⟩ : BufTy).Contents (Elt Ideal)}
    (e0 : x0 = y0) (e1 : x1 = y1) (e2 : x2 = y2) (e3 : x3 = y3) (e4 : x4 = y4) (e5 : x5 = y5) :
    Cert.FfnGradIdeal.Read.val_main_v111 (F := Ideal) x0 x1 x2 x3 x4 x5 = Cert.FfnGradIdeal.Read.val_main_v111 (F := Ideal) y0 y1 y2 y3 y4 y5 := by
  subst e0 e1 e2 e3 e4 e5; rfl
theorem ffn_args_112 {x0 y0 : (⟨Cert.FfnGradIdeal.S2048x1024, .f32⟩ : BufTy).Contents (Elt Ideal)} {x1 y1 : (⟨Cert.FfnGradIdeal.S2048x1024, .f32⟩ : BufTy).Contents (Elt Ideal)} {x2 y2 : (⟨Cert.FfnGradIdeal.S1x1024, .f32⟩ : BufTy).Contents (Elt Ideal)} {x3 y3 : (⟨Cert.FfnGradIdeal.S1x1024x5632, .f32⟩ : BufTy).Contents (Elt Ideal)} {x4 y4 : (⟨Cert.FfnGradIdeal.S1x2816x1024, .f32⟩ : BufTy).Contents (Elt Ideal)} {x5 y5 : (⟨Cert.FfnGradIdeal.S1x1024, .f32⟩ : BufTy).Contents (Elt Ideal)}
    (e0 : x0 = y0) (e1 : x1 = y1) (e2 : x2 = y2) (e3 : x3 = y3) (e4 : x4 = y4) (e5 : x5 = y5) :
    Cert.FfnGradIdeal.Read.val_main_v112 (F := Ideal) x0 x1 x2 x3 x4 x5 = Cert.FfnGradIdeal.Read.val_main_v112 (F := Ideal) y0 y1 y2 y3 y4 y5 := by
  subst e0 e1 e2 e3 e4 e5; rfl
theorem ffn_args_113 {x0 y0 : (⟨Cert.FfnGradIdeal.S2048x1024, .f32⟩ : BufTy).Contents (Elt Ideal)} {x1 y1 : (⟨Cert.FfnGradIdeal.S2048x1024, .f32⟩ : BufTy).Contents (Elt Ideal)} {x2 y2 : (⟨Cert.FfnGradIdeal.S1x1024, .f32⟩ : BufTy).Contents (Elt Ideal)} {x3 y3 : (⟨Cert.FfnGradIdeal.S1x1024x5632, .f32⟩ : BufTy).Contents (Elt Ideal)} {x4 y4 : (⟨Cert.FfnGradIdeal.S1x2816x1024, .f32⟩ : BufTy).Contents (Elt Ideal)} {x5 y5 : (⟨Cert.FfnGradIdeal.S1x1024, .f32⟩ : BufTy).Contents (Elt Ideal)}
    (e0 : x0 = y0) (e1 : x1 = y1) (e2 : x2 = y2) (e3 : x3 = y3) (e4 : x4 = y4) (e5 : x5 = y5) :
    Cert.FfnGradIdeal.Read.val_main_v113 (F := Ideal) x0 x1 x2 x3 x4 x5 = Cert.FfnGradIdeal.Read.val_main_v113 (F := Ideal) y0 y1 y2 y3 y4 y5 := by
  subst e0 e1 e2 e3 e4 e5; rfl
theorem ffn_args_114 {x0 y0 : (⟨Cert.FfnGradIdeal.S2048x1024, .f32⟩ : BufTy).Contents (Elt Ideal)} {x1 y1 : (⟨Cert.FfnGradIdeal.S2048x1024, .f32⟩ : BufTy).Contents (Elt Ideal)} {x2 y2 : (⟨Cert.FfnGradIdeal.S1x1024, .f32⟩ : BufTy).Contents (Elt Ideal)} {x3 y3 : (⟨Cert.FfnGradIdeal.S1x1024x5632, .f32⟩ : BufTy).Contents (Elt Ideal)} {x4 y4 : (⟨Cert.FfnGradIdeal.S1x2816x1024, .f32⟩ : BufTy).Contents (Elt Ideal)} {x5 y5 : (⟨Cert.FfnGradIdeal.S1x1024, .f32⟩ : BufTy).Contents (Elt Ideal)}
    (e0 : x0 = y0) (e1 : x1 = y1) (e2 : x2 = y2) (e3 : x3 = y3) (e4 : x4 = y4) (e5 : x5 = y5) :
    Cert.FfnGradIdeal.Read.val_main_v114 (F := Ideal) x0 x1 x2 x3 x4 x5 = Cert.FfnGradIdeal.Read.val_main_v114 (F := Ideal) y0 y1 y2 y3 y4 y5 := by
  subst e0 e1 e2 e3 e4 e5; rfl

theorem ffn_algebraic : Cert.algebraic_FfnBwdIdeal_FfnGradIdeal_pre_finite_ffn := by
  intro m g m' g' hpre hagree
  refine ⟨fun c => Cert.FfnGradIdeal.Read.val_main_v107 (F := Ideal) (Cert.FfnBwdIdeal.Value.X0 m c) (Cert.FfnBwdIdeal.Value.X2 m c) (Cert.FfnBwdIdeal.Value.X3 m c),
    fun c => Cert.FfnGradIdeal.Read.val_main_v109 (F := Ideal) (Cert.FfnBwdIdeal.Value.X0 m c) (Cert.FfnBwdIdeal.Value.X1 m c) (Cert.FfnBwdIdeal.Value.X2 m c) (Cert.FfnBwdIdeal.Value.X3 m c) (Cert.FfnBwdIdeal.Value.X4 m c) (Cert.FfnBwdIdeal.Value.X5 m c),
    fun c => Cert.FfnGradIdeal.Read.val_main_v110 (F := Ideal) (Cert.FfnBwdIdeal.Value.X0 m c) (Cert.FfnBwdIdeal.Value.X1 m c) (Cert.FfnBwdIdeal.Value.X2 m c) (Cert.FfnBwdIdeal.Value.X3 m c) (Cert.FfnBwdIdeal.Value.X4 m c) (Cert.FfnBwdIdeal.Value.X5 m c),
    fun c => Cert.FfnGradIdeal.Read.val_main_v111 (F := Ideal) (Cert.FfnBwdIdeal.Value.X0 m c) (Cert.FfnBwdIdeal.Value.X1 m c) (Cert.FfnBwdIdeal.Value.X2 m c) (Cert.FfnBwdIdeal.Value.X3 m c) (Cert.FfnBwdIdeal.Value.X4 m c) (Cert.FfnBwdIdeal.Value.X5 m c),
    fun c => Cert.FfnGradIdeal.Read.val_main_v112 (F := Ideal) (Cert.FfnBwdIdeal.Value.X0 m c) (Cert.FfnBwdIdeal.Value.X1 m c) (Cert.FfnBwdIdeal.Value.X2 m c) (Cert.FfnBwdIdeal.Value.X3 m c) (Cert.FfnBwdIdeal.Value.X4 m c) (Cert.FfnBwdIdeal.Value.X5 m c),
    fun c => Cert.FfnGradIdeal.Read.val_main_v113 (F := Ideal) (Cert.FfnBwdIdeal.Value.X0 m c) (Cert.FfnBwdIdeal.Value.X1 m c) (Cert.FfnBwdIdeal.Value.X2 m c) (Cert.FfnBwdIdeal.Value.X3 m c) (Cert.FfnBwdIdeal.Value.X4 m c) (Cert.FfnBwdIdeal.Value.X5 m c),
    fun c => Cert.FfnGradIdeal.Read.val_main_v114 (F := Ideal) (Cert.FfnBwdIdeal.Value.X0 m c) (Cert.FfnBwdIdeal.Value.X1 m c) (Cert.FfnBwdIdeal.Value.X2 m c) (Cert.FfnBwdIdeal.Value.X3 m c) (Cert.FfnBwdIdeal.Value.X4 m c) (Cert.FfnBwdIdeal.Value.X5 m c), ?_, ?_⟩
  · refine (θ_run (Cert.FfnBwdIdeal.defs (F := Ideal)) _ _).mono (fun r h c => ?_)
      (θ_run_and (Cert.FfnBwdIdeal.Value.run m g fun c => ffn_finite hpre c) (Cert.FfnBwdIdeal.Gen.unchanged m g))
    obtain ⟨h0, h1, h2, h3, h4, h5, h6⟩ := h.1 c
    exact ⟨h0, h1, h2, h3, h4, h5, h6, h.2 c⟩
  · refine (θ_run (Cert.FfnGradIdeal.defs (F := Ideal)) _ _).mono (fun r h c => ?_) (Cert.FfnGradIdeal.Value.run m' g')
    obtain ⟨h0, h1, h2, h3, h4, h5, h6, ha⟩ := h c
    obtain ⟨e0, e1, e2, e3, e4, e5⟩ := hagree c
    refine ⟨h0.trans ?_, h1.trans ?_, h2.trans ?_, h3.trans ?_, h4.trans ?_, h5.trans ?_, h6.trans ?_, ha⟩
    · refine (Cert.FfnGradIdeal.Read.val_main_v107_eq _).trans ?_
      exact ffn_args_107 e0 e2 e3
    · refine (Cert.FfnGradIdeal.Read.val_main_v109_eq _).trans ?_
      exact ffn_args_109 e0 e1 e2 e3 e4 e5
    · refine (Cert.FfnGradIdeal.Read.val_main_v110_eq _).trans ?_
      exact ffn_args_110 e0 e1 e2 e3 e4 e5
    · refine (Cert.FfnGradIdeal.Read.val_main_v111_eq _).trans ?_
      exact ffn_args_111 e0 e1 e2 e3 e4 e5
    · refine (Cert.FfnGradIdeal.Read.val_main_v112_eq _).trans ?_
      exact ffn_args_112 e0 e1 e2 e3 e4 e5
    · refine (Cert.FfnGradIdeal.Read.val_main_v113_eq _).trans ?_
      exact ffn_args_113 e0 e1 e2 e3 e4 e5
    · refine (Cert.FfnGradIdeal.Read.val_main_v114_eq _).trans ?_
      exact ffn_args_114 e0 e1 e2 e3 e4 e5

end Cert.Proof

end
-- ==== Proof.ParamMid.lean ====
/- The parameters' forward values and their derivatives: both programs compute them by the same operations. -/
module

public import proofs.«01_k».proof.Proof.Gen.ParamBwdIdeal.Value
public import proofs.«01_k».proof.Proof.Gen.ParamGradIdeal.Read
public import Idealize.ShloMosaic.Lib.Pipeline.ValueKit
public import Idealize.ShloMosaic.Lib.StableHlo.RunRead
public import proofs.«01_k».proof.Proof.Reals

@[expose] public section

set_option maxRecDepth 16384

noncomputable section

open Idealize.ShloMosaic Idealize.ShloMosaic.TcCoe Idealize.SL.Sem
open Idealize.ShloMosaic.Pipeline (Dat)
open scoped BigOperators

namespace Cert.ParamBwdIdeal.Value

open Cert.ParamBwdIdeal Cert.ParamBwdIdeal.Gen Cert.Reals
open Cert.ParamGradIdeal.Read

theorem word_eq (a b : ℕ) (ha : a < 4294967296) (hb : b < 4294967296) :
    IntOp.cmpi .eq (BitVec.ofNat 32 a) (BitVec.ofNat 32 b) = if a = b then 1#1 else 0#1 := by
  by_cases h : a = b
  · subst h; simp [IntOp.cmpi]
  · have hne : ¬ (BitVec.ofNat 32 a = BitVec.ofNat 32 b) := fun he => h (by
      have := congrArg BitVec.toNat he
      rwa [BitVec.toNat_ofNat, BitVec.toNat_ofNat, Nat.mod_eq_of_lt ha, Nat.mod_eq_of_lt hb] at this)
    simp only [IntOp.cmpi, if_neg h]; rw [beq_eq_false_iff_ne.mpr hne]; rfl
theorem pick {α : Type} (a b : ℕ) (ha : a < 4294967296) (hb : b < 4294967296) (x y : α) :
    Scalar.select (IntOp.cmpi .eq (BitVec.ofNat 32 a) (BitVec.ofNat 32 b)) x y = if a = b then x else y := by
  rw [word_eq a b ha hb]; by_cases h : a = b <;> simp [h, Scalar.select]
theorem one_hot (a b : ℕ) (ha : a < 4294967296) (hb : b < 4294967296) :
    FloatOps.sitofp (F := Ideal) FTy.f32 (BitVec.setWidth 32 (IntOp.cmpi .eq (BitVec.ofNat 32 a) (BitVec.ofNat 32 b)))
      = if a = b then (1 : EReal) else 0 := by
  rw [word_eq a b ha hb]
  by_cases h : a = b
  · rw [if_pos h, if_pos h]; show (((BitVec.setWidth 32 1#1).toInt : ℝ) : EReal) = 1; norm_num
  · rw [if_neg h, if_neg h]; show (((BitVec.setWidth 32 0#1).toInt : ℝ) : EReal) = 0; norm_num
theorem lane_group (n : ℕ) (h : n < 2048) : IntOp.shrsi .vector (BitVec.ofNat 32 n) 6#32 = BitVec.ofNat 32 (n / 64) :=
  (by decide +kernel : ∀ n : Fin 2048, IntOp.shrsi .vector (BitVec.ofNat 32 n.val) 6#32 = BitVec.ofNat 32 (n.val / 64)) ⟨n, h⟩
theorem lane_low (n : ℕ) (h : n < 2048) : IntOp.andi (BitVec.ofNat 32 n) 63#32 = BitVec.ofNat 32 (n % 64) :=
  (by decide +kernel : ∀ n : Fin 2048, IntOp.andi (BitVec.ofNat 32 n.val) 63#32 = BitVec.ofNat 32 (n.val % 64)) ⟨n, h⟩
theorem row_group (n : ℕ) (h : n < 512) : IntOp.shrsi .vector (BitVec.ofNat 32 n) 4#32 = BitVec.ofNat 32 (n / 16) :=
  (by decide +kernel : ∀ n : Fin 512, IntOp.shrsi .vector (BitVec.ofNat 32 n.val) 4#32 = BitVec.ofNat 32 (n.val / 16)) ⟨n, h⟩

/-- A sum with one term that is not zero. -/
theorem sum_only {n : ℕ} (f : Fin n → EReal) (a : Fin n) (h : ∀ b, b.val ≠ a.val → f b = 0) : ∑ b, f b = f a :=
  Finset.sum_eq_single a (fun b _ hb => h b fun e => hb (Fin.ext e)) fun ha => absurd (Finset.mem_univ _) ha

variable (x0 x1 : FVec Ideal S1x32x64 .f32) (x2 : FVec Ideal S1x32 .f32) (x3 x4 : FVec Ideal S1x32x64x16 .f32)
  (x5 x6 : FVec Ideal S32x64 .f32) (x7 x8 : FVec Ideal S32x64x16 .f32)

/-- The step sizes as a column. -/
def D : FVec Ideal S32x1 .f32 := fun i => x2 (ix2 0 (i 0))
/-- A table laid out as one row. -/
def row (x : FVec Ideal S32x64 .f32) : FVec Ideal S1x2048 .f32 := fun i =>
  x (ix2 (⟨(i 1).val / 64, by have h : (i 1).val < 2048 := (i 1).isLt; omega⟩ : Fin 32) (⟨(i 1).val % 64, by omega⟩ : Fin 64))

theorem column : k0_pay21 (F := Ideal) x2 = D x2 := by
  funext i; idx_vars i
  pointwise [k0_pay21, D]
  simp (disch := omega) only [pick]
  exact (sum_only (fun x : Fin 32 => if i0.val = x.val then x2 (ix2 0 x) else 0) i0 fun b hb => if_neg fun e => hb e.symm).trans (if_pos rfl)
theorem from_row (x : FVec Ideal S32x64 .f32) (g : Fin 32) (p : Fin 64) :
    (∑ n : Fin 2048, if g.val = n.val / 64 then row x (ix2 0 n) * (if n.val % 64 = p.val then (1 : EReal) else 0) else 0 : EReal)
      = x (ix2 g p) := by
  have hg := g.isLt
  have hp := p.isLt
  have only := sum_only (fun n : Fin 2048 => if g.val = n.val / 64 then row x (ix2 0 n) * (if n.val % 64 = p.val then (1 : EReal) else 0) else 0)
    ⟨64 * g.val + p.val, by omega⟩ fun n hn => by
      dsimp only at hn ⊢
      split_ifs with h1 h2
      · exact absurd (show n.val = 64 * g.val + p.val by omega) hn
      · exact mul_zero _
      · rfl
  refine only.trans ?_
  dsimp only
  rw [if_pos (by omega), if_pos (by omega), mul_one]
  exact congrArg x (congrArg₂ ix2 (Fin.ext (by show (64 * g.val + p.val) / 64 = g.val; omega)) (Fin.ext (by show (64 * g.val + p.val) % 64 = p.val; omega)))
theorem p68 : k0_pay68 (F := Ideal) (row x5) = x5 := by
  funext i; idx_vars i
  pointwise [k0_pay66, k0_pay67, k0_pay68]
  simp (disch := omega) only [pick, one_hot, lane_group, lane_low]
  exact from_row x5 _ _
theorem p26 : k0_pay26 (F := Ideal) (D x2) = (val_main_v15 (F := Ideal) x2) := by
  funext i; idx_vars i
  pointwise [k0_pay26, D, val_main_v15, val_main_v14, val_main_v13]
theorem p27 : k0_pay27 (F := Ideal) (D x2) (val_main_v2 (F := Ideal) x0) = (val_main_v18 (F := Ideal) x0 x2) := by
  funext i; idx_vars i
  pointwise [k0_pay27, val_main_v18, val_main_v17, val_main_v16]
  simp only [p26]
theorem p28 : k0_pay28 (F := Ideal) (D x2) (val_main_v12 (F := Ideal) x1) = (val_main_v20 (F := Ideal) x1 x2) := by
  funext i; idx_vars i
  pointwise [k0_pay28, val_main_v20, val_main_v19]
  simp only [p26]
theorem p32 : k0_pay32 (F := Ideal) (D x2) (val_main_v12 (F := Ideal) x1) = (val_main_v25 (F := Ideal) x1 x2) := by
  funext i; idx_vars i
  pointwise [k0_pay32, val_main_v25, val_main_v24]
  simp only [p26]
theorem p29 : k0_pay29 (F := Ideal) (D x2) (val_main_v12 (F := Ideal) x1) = (val_main_v21 (F := Ideal) x1 x2) := by
  funext i; idx_vars i
  pointwise [k0_pay29, val_main_v21]
  simp only [p28]
theorem p30 : k0_pay30 (F := Ideal) (D x2) (val_main_v12 (F := Ideal) x1) = (val_main_v22 (F := Ideal) x1 x2) := by
  funext i; idx_vars i
  pointwise [k0_pay30, val_main_v22]
  simp only [p28]
theorem p33 : k0_pay33 (F := Ideal) (D x2) (val_main_v12 (F := Ideal) x1) = (val_main_v26 (F := Ideal) x1 x2) := by
  funext i; idx_vars i
  pointwise [k0_pay33, val_main_v26]
  simp only [p32]
theorem p34 : k0_pay34 (F := Ideal) (D x2) (val_main_v12 (F := Ideal) x1) = (val_main_v27 (F := Ideal) x1 x2) := by
  funext i; idx_vars i
  pointwise [k0_pay34, val_main_v27]
  simp only [p32]
theorem p31 : k0_pay31 (F := Ideal) (D x2) (val_main_v12 (F := Ideal) x1) (val_main_v2 (F := Ideal) x0) = (val_main_v23 (F := Ideal) x0 x1 x2) := by
  funext i; idx_vars i
  pointwise [k0_pay31, val_main_v23]
  simp only [p27, p29]
theorem p35 : k0_pay35 (F := Ideal) (D x2) (val_main_v12 (F := Ideal) x1) (val_main_v2 (F := Ideal) x0) = (val_main_v28 (F := Ideal) x0 x1 x2) := by
  funext i; idx_vars i
  pointwise [k0_pay35, val_main_v28]
  simp only [p27, p33]
theorem p36 : k0_pay36 (F := Ideal) (val_main_v12 (F := Ideal) x1) (val_main_v2 (F := Ideal) x0) = (val_main_v31 (F := Ideal) x0 x1) := by
  funext i; idx_vars i
  pointwise [k0_pay36, val_main_v31, val_main_v29, val_main_v30]
theorem p37 : k0_pay37 (F := Ideal) (D x2) (val_main_v12 (F := Ideal) x1) (val_main_v2 (F := Ideal) x0) = (val_main_v33 (F := Ideal) x0 x1 x2) := by
  funext i; idx_vars i
  pointwise [k0_pay37, val_main_v33, val_main_v32, val_main_cst_5]
  simp only [p31]
theorem p38 : k0_pay38 (F := Ideal) (D x2) (val_main_v12 (F := Ideal) x1) (val_main_v2 (F := Ideal) x0) = (val_main_v36 (F := Ideal) x0 x1 x2) := by
  funext i; idx_vars i
  pointwise [k0_pay38, val_main_v36, val_main_v34, val_main_v35]
  simp only [p37, p35]
theorem p39 : k0_pay39 (F := Ideal) (D x2) (val_main_v12 (F := Ideal) x1) (val_main_v2 (F := Ideal) x0) = (val_main_v37 (F := Ideal) x0 x1 x2) := by
  funext i; idx_vars i
  pointwise [k0_pay39, val_main_v37]
  simp only [p38, p36]
theorem p40 : k0_pay40 (F := Ideal) (val_main_v12 (F := Ideal) x1) (val_main_v2 (F := Ideal) x0) = (val_main_v40 (F := Ideal) x0 x1) := by
  funext i; idx_vars i
  pointwise [k0_pay40, val_main_v40, val_main_v38, val_main_v39, val_main_cst_6]
  simp only [p36]
theorem p41 : k0_pay41 (F := Ideal) (D x2) (val_main_v12 (F := Ideal) x1) (val_main_v2 (F := Ideal) x0) = (val_main_v43 (F := Ideal) x0 x1 x2) := by
  funext i; idx_vars i
  pointwise [k0_pay41, val_main_v43, val_main_v42, val_main_cst_7]
  simp only [p31]
theorem p42 : k0_pay42 (F := Ideal) (D x2) (val_main_v12 (F := Ideal) x1) (val_main_v2 (F := Ideal) x0) = (val_main_v45 (F := Ideal) x0 x1 x2) := by
  funext i; idx_vars i
  pointwise [k0_pay42, val_main_v45, val_main_v41, val_main_v44]
  simp only [p35, p41]
theorem p43 : k0_pay43 (F := Ideal) (D x2) (val_main_v12 (F := Ideal) x1) (val_main_v2 (F := Ideal) x0) = (val_main_v46 (F := Ideal) x0 x1 x2) := by
  funext i; idx_vars i
  pointwise [k0_pay43, val_main_v46]
  simp only [p42, p36]
theorem p44 : k0_pay44 (F := Ideal) (val_main_v12 (F := Ideal) x1) (val_main_v2 (F := Ideal) x0) = (val_main_v49 (F := Ideal) x0 x1) := by
  funext i; idx_vars i
  pointwise [k0_pay44, val_main_v49, val_main_v47, val_main_v48, val_main_cst_8]
  simp only [p36]
theorem p69 : k0_pay69 (F := Ideal) (val_main_v31 (F := Ideal) x0 x1) (val_main_v94 (F := Ideal) x3 x4 x7 x8) = (val_main_v107 (F := Ideal) x0 x1 x3 x4 x7 x8) := by
  funext i; idx_vars i
  pointwise [k0_pay69, val_main_v107]
theorem p70 : k0_pay70 (F := Ideal) (val_main_v31 (F := Ideal) x0 x1) (val_main_v94 (F := Ideal) x3 x4 x7 x8) = (val_main_v108 (F := Ideal) x0 x1 x3 x4 x7 x8) := by
  funext i; idx_vars i
  pointwise [k0_pay70, val_main_v108]
  simp only [p69, zero_sub]
theorem p71 : k0_pay71 (F := Ideal) (val_main_v36 (F := Ideal) x0 x1 x2) (val_main_v40 (F := Ideal) x0 x1) (val_main_v45 (F := Ideal) x0 x1 x2) (val_main_v49 (F := Ideal) x0 x1) (val_main_v103 (F := Ideal) x3 x4 x7 x8) (val_main_v94 (F := Ideal) x3 x4 x7 x8) = (val_main_v118 (F := Ideal) x0 x1 x2 x3 x4 x7 x8) := by
  funext i; idx_vars i
  pointwise [k0_pay71, val_main_v118, val_main_v104, val_main_v105, val_main_v106, val_main_v115, val_main_v116, val_main_v117]
  simp only [zero_sub]
theorem p72 : k0_pay72 (F := Ideal) (val_main_v31 (F := Ideal) x0 x1) (val_main_v103 (F := Ideal) x3 x4 x7 x8) = (val_main_v119 (F := Ideal) x0 x1 x3 x4 x7 x8) := by
  funext i; idx_vars i
  pointwise [k0_pay72, val_main_v119]
theorem p73 : k0_pay73 (F := Ideal) (val_main_v12 (F := Ideal) x1) (val_main_v2 (F := Ideal) x0) (val_main_v31 (F := Ideal) x0 x1) (val_main_v103 (F := Ideal) x3 x4 x7 x8) (val_main_v94 (F := Ideal) x3 x4 x7 x8) (k0_pay66 (F := Ideal)) k0_pay67 (row x6) = (val_main_v123 (F := Ideal) x0 x1 x3 x4 x6 x7 x8) := by
  funext i; idx_vars i
  pointwise [k0_pay73, k0_pay66, k0_pay67, val_main_v123, val_main_v113, val_main_v114, val_main_v122]
  simp (disch := omega) only [pick, one_hot, lane_group, lane_low, from_row, p69, p72]
theorem p74 : k0_pay74 (F := Ideal) (val_main_v12 (F := Ideal) x1) (val_main_v2 (F := Ideal) x0) (val_main_v31 (F := Ideal) x0 x1) (val_main_v103 (F := Ideal) x3 x4 x7 x8) (val_main_v94 (F := Ideal) x3 x4 x7 x8) x5 = (val_main_v127 (F := Ideal) x0 x1 x3 x4 x5 x7 x8) := by
  funext i; idx_vars i
  pointwise [k0_pay74, val_main_v127, val_main_v110, val_main_v111, val_main_v126]
  simp only [p70, p72]
theorem p75 : k0_pay75 (F := Ideal) (val_main_v2 (F := Ideal) x0) (val_main_v28 (F := Ideal) x0 x1 x2) (val_main_v31 (F := Ideal) x0 x1) (val_main_v33 (F := Ideal) x0 x1 x2) (val_main_v36 (F := Ideal) x0 x1 x2) (val_main_v40 (F := Ideal) x0 x1) (val_main_v45 (F := Ideal) x0 x1 x2) (val_main_v49 (F := Ideal) x0 x1) (val_main_v103 (F := Ideal) x3 x4 x7 x8) (val_main_v94 (F := Ideal) x3 x4 x7 x8) = (val_main_v135 (F := Ideal) x0 x1 x2 x3 x4 x7 x8) := by
  funext i; idx_vars i
  pointwise [k0_pay75, val_main_v135, val_main_v112, val_main_v124, val_main_v125, val_main_v132, val_main_v133, val_main_v134]
  simp only [p69, p72, p71]
theorem p76 : k0_pay76 (F := Ideal) (val_main_v12 (F := Ideal) x1) (val_main_v2 (F := Ideal) x0) (val_main_v18 (F := Ideal) x0 x2) (val_main_v27 (F := Ideal) x1 x2) (val_main_v31 (F := Ideal) x0 x1) (val_main_v103 (F := Ideal) x3 x4 x7 x8) (val_main_v94 (F := Ideal) x3 x4 x7 x8) (k0_pay66 (F := Ideal)) k0_pay67 (row x6) = (val_main_v138 (F := Ideal) x0 x1 x2 x3 x4 x6 x7 x8) := by
  funext i; idx_vars i
  pointwise [k0_pay76, val_main_v138, val_main_v136]
  simp only [p73]
theorem p77 : k0_pay77 (F := Ideal) (val_main_v12 (F := Ideal) x1) (val_main_v2 (F := Ideal) x0) (val_main_v18 (F := Ideal) x0 x2) (val_main_v27 (F := Ideal) x1 x2) (val_main_v31 (F := Ideal) x0 x1) (val_main_v103 (F := Ideal) x3 x4 x7 x8) (val_main_v94 (F := Ideal) x3 x4 x7 x8) (k0_pay66 (F := Ideal)) k0_pay67 (row x6) = (val_main_v141 (F := Ideal) x0 x1 x2 x3 x4 x6 x7 x8) := by
  funext i; idx_vars i
  pointwise [k0_pay77, val_main_v141, val_main_v139, val_main_v140, val_main_cst_17]
  simp only [p76]
theorem p78 : k0_pay78 (F := Ideal) (val_main_v12 (F := Ideal) x1) (val_main_v2 (F := Ideal) x0) (val_main_v15 (F := Ideal) x2) (val_main_v18 (F := Ideal) x0 x2) (val_main_v27 (F := Ideal) x1 x2) (val_main_v28 (F := Ideal) x0 x1 x2) (val_main_v31 (F := Ideal) x0 x1) (val_main_v36 (F := Ideal) x0 x1 x2) (val_main_v40 (F := Ideal) x0 x1) (val_main_v43 (F := Ideal) x0 x1 x2) (val_main_v45 (F := Ideal) x0 x1 x2) (val_main_v49 (F := Ideal) x0 x1) (val_main_v103 (F := Ideal) x3 x4 x7 x8) (val_main_v94 (F := Ideal) x3 x4 x7 x8) (k0_pay66 (F := Ideal)) k0_pay67 (row x6) = (val_main_v144 (F := Ideal) x0 x1 x2 x3 x4 x6 x7 x8) := by
  funext i; idx_vars i
  pointwise [k0_pay78, val_main_v144, val_main_v109, val_main_v120, val_main_v121, val_main_v128, val_main_v129, val_main_v130, val_main_v131, val_main_v142, val_main_v143]
  simp only [p70, p72, p71, p76]
theorem p79 : k0_pay79 (F := Ideal) (val_main_v12 (F := Ideal) x1) (val_main_v2 (F := Ideal) x0) (val_main_v18 (F := Ideal) x0 x2) (val_main_v31 (F := Ideal) x0 x1) (val_main_v103 (F := Ideal) x3 x4 x7 x8) (val_main_v94 (F := Ideal) x3 x4 x7 x8) x5 = (val_main_v145 (F := Ideal) x0 x1 x2 x3 x4 x5 x7 x8) := by
  funext i; idx_vars i
  pointwise [k0_pay79, val_main_v145]
  simp only [p74]
theorem p80 : k0_pay80 (F := Ideal) (val_main_v12 (F := Ideal) x1) (val_main_v2 (F := Ideal) x0) (val_main_v21 (F := Ideal) x1 x2) (val_main_v26 (F := Ideal) x1 x2) (val_main_v31 (F := Ideal) x0 x1) (val_main_v103 (F := Ideal) x3 x4 x7 x8) (val_main_v94 (F := Ideal) x3 x4 x7 x8) (k0_pay66 (F := Ideal)) k0_pay67 x5 (row x6) = (val_main_v147 (F := Ideal) x0 x1 x2 x3 x4 x5 x6 x7 x8) := by
  funext i; idx_vars i
  pointwise [k0_pay80, val_main_v147, val_main_v137, val_main_v146]
  simp only [p73, p74]
theorem p1 : k0_pay1 (F := Ideal) (val_main_v22 (F := Ideal) x1 x2) (val_main_v145 (F := Ideal) x0 x1 x2 x3 x4 x5 x7 x8) = (val_main_v149 (F := Ideal) x0 x1 x2 x3 x4 x5 x7 x8) := by
  funext i; idx_vars i
  pointwise [k0_pay1, val_main_v149, val_main_v148]
  simp only [zero_sub]
theorem p2 : k0_pay2 (F := Ideal) (val_main_v18 (F := Ideal) x0 x2) (val_main_v147 (F := Ideal) x0 x1 x2 x3 x4 x5 x6 x7 x8) = (val_main_v157 (F := Ideal) x0 x1 x2 x3 x4 x5 x6 x7 x8) := by
  funext i; idx_vars i
  pointwise [k0_pay2, val_main_v157]
-- ==== Proof.ParamTile.lean ====
module

public import proofs.«01_k».proof.Proof.Gen.ParamBwdIdeal.Value
public import proofs.«01_k».proof.Proof.Gen.ParamGradIdeal.Read
public import Idealize.ShloMosaic.Lib.Pipeline.ValueKit
public import Idealize.ShloMosaic.Lib.StableHlo.RunRead
public import proofs.«01_k».proof.Proof.Reals
public import proofs.«01_k».proof.Proof.ParamMid

@[expose] public section

set_option maxRecDepth 16384

noncomputable section

open Idealize.ShloMosaic Idealize.ShloMosaic.TcCoe Idealize.SL.Sem
open Idealize.ShloMosaic.Pipeline (Dat)
open scoped BigOperators

namespace Cert.ParamBwdIdeal.Value

open Cert.ParamBwdIdeal Cert.ParamBwdIdeal.Gen Cert.Reals
open Cert.ParamGradIdeal.Read

/-! ## The packed cotangents, unpacked -/

section Packed
variable (T : ℕ → ℕ → ℕ → EReal)

/-- Every group's rows side by side, repeated down the rows. -/
def pack : FVec Ideal S128x2048 .f32 := fun i => T ((i 1).val / 64) ((i 0).val % 16) ((i 1).val % 64)
/-- Eight groups of it. -/
def quarter (k : ℕ) : FVec Ideal S128x512 .f32 := fun i => T (8 * k + (i 1).val / 64) ((i 0).val % 16) ((i 1).val % 64)
/-- The eight groups' rows below each other. -/
def slab (k : ℕ) : FVec Ideal S128x64 .f32 := fun i => T (8 * k + (i 0).val / 16) ((i 0).val % 16) (i 1).val
/-- All groups' rows below each other. -/
def tall : FVec Ideal S512x64 .f32 := fun i => T ((i 0).val / 16) ((i 0).val % 16) (i 1).val

theorem load_0 (inb) : View.ld (Val := Elt Ideal) (e' := .f32) (pack T) (Rect.unit (s := S128x2048) ![0, 0] ![128, 512] inb) = quarter T 0 := by
  funext i; idx_vars i
  pointwise [pack, quarter]
theorem load_1 (inb) : View.ld (Val := Elt Ideal) (e' := .f32) (pack T) (Rect.unit (s := S128x2048) ![0, 512] ![128, 512] inb) = quarter T 1 := by
  funext i; idx_vars i
  pointwise [pack, quarter]
  congr 1 <;> omega
theorem load_2 (inb) : View.ld (Val := Elt Ideal) (e' := .f32) (pack T) (Rect.unit (s := S128x2048) ![0, 1024] ![128, 512] inb) = quarter T 2 := by
  funext i; idx_vars i
  pointwise [pack, quarter]
  congr 1 <;> omega
theorem load_3 (inb) : View.ld (Val := Elt Ideal) (e' := .f32) (pack T) (Rect.unit (s := S128x2048) ![0, 1536] ![128, 512] inb) = quarter T 3 := by
  funext i; idx_vars i
  pointwise [pack, quarter]
  congr 1 <;> omega

theorem unpack (k : ℕ) : k0_pay11 (F := Ideal) k0_pay9 (quarter T k) = slab T k := by
  funext i; idx_vars i
  pointwise [k0_pay9, k0_pay11, quarter, slab]
  simp (disch := omega) only [pick, lane_group, row_group]
  have h0 := i0.isLt
  have h1 := i1.isLt
  have hq : i0.val / 16 < 8 := by omega
  rw [show (i1.val + 128 - 64) % 128 = i1.val + 64 by omega, show i1.val / 64 = 0 by omega, show (128 + i1.val) / 64 = 2 by omega,
    show (256 + i1.val) / 64 = 4 by omega, show (384 + i1.val) / 64 = 6 by omega, show (i1.val + 64) / 64 = 1 by omega,
    show (128 + (i1.val + 64)) / 64 = 3 by omega, show (256 + (i1.val + 64)) / 64 = 5 by omega,
    show (384 + (i1.val + 64)) / 64 = 7 by omega, show i1.val % 64 = i1.val by omega, show (128 + i1.val) % 64 = i1.val by omega,
    show (256 + i1.val) % 64 = i1.val by omega, show (384 + i1.val) % 64 = i1.val by omega, show (i1.val + 64) % 64 = i1.val by omega,
    show (128 + (i1.val + 64)) % 64 = i1.val by omega, show (256 + (i1.val + 64)) % 64 = i1.val by omega,
    show (384 + (i1.val + 64)) % 64 = i1.val by omega]
  generalize i0.val / 16 = q at hq ⊢
  interval_cases q <;> simp
theorem stack_slabs : k0_pay14 (F := Ideal) (slab T 0) (slab T 1) (slab T 2) (slab T 3) = tall T := by
  funext i; idx_vars i
  pointwise [k0_pay14, slab, tall]
  have h0 := i0.isLt
  split_ifs <;> first | rfl | exact congrArg₂ (fun a b => T a b i1.val) (by omega) (by omega)
end Packed

variable (x0 x1 : FVec Ideal S1x32x64 .f32) (x2 : FVec Ideal S1x32 .f32) (x3 x4 : FVec Ideal S1x32x64x16 .f32)
  (x7 x8 : FVec Ideal S32x64x16 .f32) (x9 x10 : FVec Ideal S32x16x64 .f32)

/-- The four tables by group, channel and state. -/
def gains (x : FVec Ideal S1x32x64x16 .f32) (g h p : ℕ) : EReal := x (ix4 0 (Fin.ofNat 32 g) (Fin.ofNat 64 p) (Fin.ofNat 16 h))
def inward (x : FVec Ideal S32x64x16 .f32) (g h p : ℕ) : EReal := x (ix3 (Fin.ofNat 32 g) (Fin.ofNat 64 p) (Fin.ofNat 16 h))
def outward (x : FVec Ideal S32x16x64 .f32) (g h p : ℕ) : EReal := x (ix3 (Fin.ofNat 32 g) (Fin.ofNat 16 h) (Fin.ofNat 64 p))
theorem ofNat_val {n : ℕ} [NeZero n] (a : Fin n) : Fin.ofNat n a.val = a := Fin.ext (Nat.mod_eq_of_lt a.isLt)

/-! ## Sums over one group's rows -/

theorem sum_group (g : Fin 32) (f : Fin 512 → EReal) :
    (∑ r : Fin 512, (if r.val / 16 = g.val then (1 : EReal) else 0) * f r) = ∑ h : Fin 16, f ⟨16 * g.val + h.val, by omega⟩ := by
  rw [← (finProdFinEquiv (m := 32) (n := 16)).sum_comp, Fintype.sum_prod_type]
  have e (a : Fin 32) (b : Fin 16) : (finProdFinEquiv (a, b)).val = b.val + 16 * a.val := rfl
  refine (sum_only _ g fun b hb => Finset.sum_eq_zero fun h _ => ?_).trans (Finset.sum_congr rfl fun h _ => ?_)
  · rw [if_neg (by rw [e]; omega), zero_mul]
  · rw [if_pos (by rw [e]; omega), one_mul]
    exact congrArg f (Fin.ext (by rw [e]; show h.val + 16 * g.val = 16 * g.val + h.val; omega))

theorem tall_at (T : ℕ → ℕ → ℕ → EReal) (g : Fin 32) (h : Fin 16) (p : Fin 64) (l : 16 * g.val + h.val < 512) :
    tall T (ix2 (⟨16 * g.val + h.val, l⟩ : Fin 512) p) = T g.val h.val p.val := by
  show T ((16 * g.val + h.val) / 16) ((16 * g.val + h.val) % 16) p.val = _
  exact congrArg₂ (fun a b => T a b p.val) (by omega) (by omega)

theorem real_factor : k0_pay64 (F := Ideal) (tall (inward x7)) (tall (inward x8)) (tall (gains x3)) (tall (gains x4)) k0_pay45
    = val_main_v103 (F := Ideal) x3 x4 x7 x8 := by
  funext i; idx_vars i
  pointwise [k0_pay45, k0_pay64, val_main_v103, val_main_v83, val_main_v81, val_main_v80, val_main_v79, val_main_v68, val_main_v60, val_main_cst_12, val_main_cst_11, val_main_v102, val_main_v99, val_main_v98, val_main_v97, val_main_v84, val_main_v51, val_main_cst_16, val_main_cst_15]
  simp (disch := omega) only [one_hot, row_group]
  refine (sum_group i0 fun r => (tall (inward x7) (ix2 r i1) * tall (gains x3) (ix2 r i1) + tall (inward x8) (ix2 r i1) * tall (gains x4) (ix2 r i1) : EReal)).trans ?_
  simp only [tall_at, inward, gains, ofNat_val, Fin.sum_univ_one, Finset.sum_add_distrib]
  exact add_comm _ _
theorem imag_factor : k0_pay65 (F := Ideal) (tall (inward x7)) (tall (inward x8)) (tall (gains x3)) (tall (gains x4)) k0_pay45
    = val_main_v94 (F := Ideal) x3 x4 x7 x8 := by
  funext i; idx_vars i
  pointwise [k0_pay45, k0_pay65, val_main_v94, val_main_v76, val_main_v74, val_main_v73, val_main_v72, val_main_v69, val_main_v64, val_main_cst_10, val_main_cst_9, val_main_v93, val_main_v90, val_main_v89, val_main_v88, val_main_v85, val_main_v55, val_main_cst_14, val_main_cst_13]
  simp (disch := omega) only [one_hot, row_group]
  refine (sum_group i0 fun r => (tall (inward x8) (ix2 r i1) * tall (gains x3) (ix2 r i1) - tall (inward x7) (ix2 r i1) * tall (gains x4) (ix2 r i1) : EReal)).trans ?_
  simp only [tall_at, inward, gains, ofNat_val, Fin.sum_univ_one, sub_eq_add_neg, Finset.sum_add_distrib, EReal.neg_mul]
theorem spread_real (f : FVec Ideal S32x64 .f32) (r : Fin 512) (p : Fin 64) : k0_pay46 (F := Ideal) f k0_pay45 (ix2 r p) = f (ix2 ⟨r.val / 16, by omega⟩ p) := by
  pointwise [k0_pay45, k0_pay46]
  simp (disch := omega) only [one_hot, row_group]
  refine (sum_only (fun g : Fin 32 => ((if r.val / 16 = g.val then (1 : EReal) else 0) * f (ix2 g p) : EReal)) ⟨r.val / 16, by omega⟩ fun b hb => ?_).trans ?_
  · dsimp only at hb ⊢
    rw [if_neg (fun e => hb e.symm), zero_mul]
  · dsimp only
    rw [if_pos rfl, one_mul]
theorem spread_imag (f : FVec Ideal S32x64 .f32) : k0_pay47 (F := Ideal) f k0_pay45 = k0_pay46 (F := Ideal) f k0_pay45 := rfl

/-! ## Two tables side by side -/

theorem sum_lane (f : Fin 64 → EReal) (l : Fin 128) :
    (∑ p : Fin 64, f p * (if l.val = p.val then (1 : EReal) else 0)) = if h : l.val < 64 then f ⟨l.val, h⟩ else 0 := by
  split_ifs with h
  · refine (sum_only _ ⟨l.val, h⟩ fun b hb => ?_).trans ?_
    · rw [if_neg (fun e => hb e.symm), mul_zero]
    · rw [if_pos rfl, mul_one]
  · exact Finset.sum_eq_zero fun p _ => by rw [if_neg (by omega), mul_zero]
theorem sum_lane_high (f : Fin 64 → EReal) (l : Fin 128) :
    (∑ p : Fin 64, f p * (if l.val = p.val + 64 then (1 : EReal) else 0)) = if h : l.val < 64 then 0 else f ⟨l.val - 64, by omega⟩ := by
  split_ifs with h
  · exact Finset.sum_eq_zero fun p _ => by rw [if_neg (by omega), mul_zero]
  · refine (sum_only _ ⟨l.val - 64, by omega⟩ fun b hb => ?_).trans ?_
    · dsimp only at hb
      rw [if_neg (by omega), mul_zero]
    · rw [if_pos (by dsimp only; omega), mul_one]
theorem lift (n : ℕ) (h : n < 64) : IntOp.addi (BitVec.ofNat 32 n) 64#32 = BitVec.ofNat 32 (n + 64) :=
  (by decide +kernel : ∀ n : Fin 64, IntOp.addi (BitVec.ofNat 32 n.val) 64#32 = BitVec.ofNat 32 (n.val + 64)) ⟨n, h⟩

def beside (x y : FVec Ideal S512x64 .f32) : FVec Ideal S512x128 .bf16 :=
  truncf .bf16 (addf (matmul dot_S512x64_S64x128_S512x128_1_0_0_1_n_n (some .fp32) x k0_pay5 (constant S512x128 .f32 0x00000000#32))
    (matmul dot_S512x64_S64x128_S512x128_1_0_0_1_n_n (some .fp32) y k0_pay6 (constant S512x128 .f32 0x00000000#32))) bitsLt_bf16_f32
theorem beside_apply (x y : FVec Ideal S512x64 .f32) (r : Fin 512) (l : Fin 128) : beside x y (ix2 r l) =
    if h : l.val < 64 then x (ix2 r ⟨l.val, h⟩) else y (ix2 r ⟨l.val - 64, by omega⟩) := by
  pointwise [beside, k0_pay5, k0_pay6]
  simp (disch := omega) only [one_hot, lift]
  rw [sum_lane (fun p => x (ix2 r p)) l, sum_lane_high (fun p => y (ix2 r p)) l]
  split_ifs
  · exact add_zero _
  · exact zero_add _
theorem pay53_eq (v22 : IVec S128x512 1) (v : FVec Ideal S512x64 .f32) (a b : FVec Ideal S128x64 .f32) (c d : FVec Ideal S128x512 .f32) :
    k0_pay53 (F := Ideal) k0_pay5 k0_pay6 v22 v a b (k0_pay51 v22 c) (k0_pay52 v22 c) d
      = beside v (k0_pay14 a b (k0_pay11 v22 c) (k0_pay11 v22 d)) := rfl
theorem pay63_eq (v22 : IVec S128x512 1) (v : FVec Ideal S512x64 .f32) (a b : FVec Ideal S128x64 .f32) (c d : FVec Ideal S128x512 .f32) :
    k0_pay63 (F := Ideal) k0_pay5 k0_pay6 v (k0_pay57 (k0_pay55 v22 c) (k0_pay56 v22 c)) a b (k0_pay60 v22 d) (k0_pay61 v22 d) (k0_pay62 v22 d)
      = beside v (subf (broadcast S512x64 (Scalar.ofBits .f32 0x00000000#32)) (k0_pay14 (k0_pay11 v22 c) a b (k0_pay11 v22 d))) := rfl

theorem tall_in (x : FVec Ideal S32x64x16 .f32) (r : Fin 512) (p : Fin 64) :
    tall (inward x) (ix2 r p) = x (ix3 ⟨r.val / 16, by omega⟩ p ⟨r.val % 16, by omega⟩) := by
  show x (ix3 (Fin.ofNat 32 (r.val / 16)) (Fin.ofNat 64 p.val) (Fin.ofNat 16 (r.val % 16))) = _
  rw [ofNat_val, ← ofNat_val (⟨r.val / 16, by omega⟩ : Fin 32), ← ofNat_val (⟨r.val % 16, by omega⟩ : Fin 16)]
theorem tall_out (x : FVec Ideal S32x16x64 .f32) (r : Fin 512) (p : Fin 64) :
    tall (outward x) (ix2 r p) = x (ix3 ⟨r.val / 16, by omega⟩ ⟨r.val % 16, by omega⟩ p) := by
  show x (ix3 (Fin.ofNat 32 (r.val / 16)) (Fin.ofNat 16 (r.val % 16)) (Fin.ofNat 64 p.val)) = _
  rw [ofNat_val, ← ofNat_val (⟨r.val / 16, by omega⟩ : Fin 32), ← ofNat_val (⟨r.val % 16, by omega⟩ : Fin 16)]
/-- The cotangent the kernel is handed with its sign turned. -/
def turned (x : FVec Ideal S32x16x64 .f32) (g h p : ℕ) : EReal := -outward x g h p

theorem gain_re : beside (k0_pay48 (F := Ideal) (tall (inward x7)) (tall (inward x8)) (val_main_v37 (F := Ideal) x0 x1 x2) (val_main_v46 (F := Ideal) x0 x1 x2) k0_pay45)
      (tall (outward x9)) = val_main_v175 (F := Ideal) x0 x1 x2 x7 x8 x9 := by
  funext i; idx_vars i
  rw [beside_apply]
  pointwise [k0_pay48, spread_imag, spread_real, val_main_v175, val_main_v173, val_main_v172, val_main_v171, val_main_v101, val_main_v75, val_main_v71, val_main_v70, val_main_v63, val_main_v69, val_main_v100, val_main_v96, val_main_v95, val_main_v50, val_main_v84, val_main_v174]
  simp only [tall_in, tall_out]
  split_ifs <;> first | contradiction | exact add_comm _ _ | rfl
theorem sub_turn (a b d : EReal) : a - b * d = a + b * -d := by rw [sub_eq_add_neg, mul_neg]
theorem turn_turn (a : EReal) : 0 - -a = a := by rw [zero_sub, neg_neg]
theorem gain_im : beside (k0_pay54 (F := Ideal) (tall (inward x7)) (tall (inward x8)) (k0_pay46 (F := Ideal) (val_main_v37 (F := Ideal) x0 x1 x2) k0_pay45)
        (k0_pay47 (F := Ideal) (val_main_v46 (F := Ideal) x0 x1 x2) k0_pay45))
      (subf (broadcast S512x64 (Scalar.ofBits .f32 0x00000000#32)) (tall (turned x10))) = val_main_v180 (F := Ideal) x0 x1 x2 x7 x8 x10 := by
  funext i; idx_vars i
  rw [beside_apply]
  have e : ∀ (r : Fin 512) (p : Fin 64), tall (turned x10) (ix2 r p) = (-tall (outward x10) (ix2 r p) : EReal) := fun _ _ => rfl
  pointwise [k0_pay54, spread_imag, spread_real, val_main_v180, val_main_v178, val_main_v177, val_main_v176, val_main_v92, val_main_v82, val_main_v78, val_main_v77, val_main_v59, val_main_v68, val_main_v91, val_main_v87, val_main_v86, val_main_v54, val_main_v85, val_main_v179]
  simp only [e, tall_in, tall_out]
  split_ifs
  · exact sub_turn _ _ _
  all_goals first | contradiction | exact turn_turn _

variable (x5 x6 : FVec Ideal S32x64 .f32) (x11 : FVec Ideal S1x512 .f32)

theorem decay_grad : k0_pay3 (F := Ideal) k0_pay5 k0_pay6 (val_main_v11 (F := Ideal) x0) (val_main_v15 (F := Ideal) x2) (val_main_v18 (F := Ideal) x0 x2)
      (val_main_v22 (F := Ideal) x1 x2) (val_main_v135 (F := Ideal) x0 x1 x2 x3 x4 x7 x8) (val_main_v144 (F := Ideal) x0 x1 x2 x3 x4 x6 x7 x8)
      (val_main_v145 (F := Ideal) x0 x1 x2 x3 x4 x5 x7 x8) (val_main_v147 (F := Ideal) x0 x1 x2 x3 x4 x5 x6 x7 x8)
    = val_main_v183 (F := Ideal) x0 x1 x2 x3 x4 x5 x6 x7 x8 := by
  funext i; idx_vars i
  pointwise [k0_pay3, k0_pay5, k0_pay6, val_main_v183, val_main_v181, val_main_v182, val_main_v168, val_main_v156, val_main_v155, val_main_v154, val_main_v170, val_main_v169, val_main_v164, val_main_v163, val_main_v162]
  simp (disch := omega) only [p1, p2, one_hot, lift]
  rw [sum_lane, sum_lane_high]
  by_cases h : i1.val < 64
  · simp only [dif_pos h]; exact add_zero _
  · simp only [dif_neg h]; exact zero_add _
theorem step_grad (r : Fin 16) (g : Fin 32) : k0_pay4 (F := Ideal) (val_main_v12 (F := Ideal) x1) (val_main_v2 (F := Ideal) x0) (val_main_v15 (F := Ideal) x2) (val_main_v18 (F := Ideal) x0 x2)
      (val_main_v22 (F := Ideal) x1 x2) (val_main_v141 (F := Ideal) x0 x1 x2 x3 x4 x6 x7 x8)
      (val_main_v145 (F := Ideal) x0 x1 x2 x3 x4 x5 x7 x8) (val_main_v147 (F := Ideal) x0 x1 x2 x3 x4 x5 x6 x7 x8) (ix2 r g)
    = val_main_v189 (F := Ideal) x0 x1 x2 x3 x4 x5 x6 x7 x8 (ix2 r ⟨g.val, by omega⟩) := by
  pointwise [k0_pay4, val_main_v189, val_main_v187, val_main_v167, val_main_v166, val_main_v165, val_main_v161, val_main_v153, val_main_v152, val_main_v151, val_main_v150, val_main_v160, val_main_v159, val_main_v158, val_main_v15, val_main_cst_18, val_main_cst_19, val_main_cst_20]
  simp (disch := omega) only [p1, p2, one_hot]
  refine (sum_only _ g fun b hb => ?_).trans ?_
  · rw [if_neg hb, mul_zero]
  · rw [if_pos rfl, mul_one, Fin.sum_univ_one]
end Cert.ParamBwdIdeal.Value
-- ==== Proof.ParamValue.lean ====
module

public import proofs.«01_k».proof.Proof.Gen.ParamBwdIdeal.Value
public import proofs.«01_k».proof.Proof.Gen.ParamGradIdeal.Read
public import Idealize.ShloMosaic.Lib.Pipeline.ValueKit
public import Idealize.ShloMosaic.Lib.StableHlo.RunRead
public import proofs.«01_k».proof.Proof.Reals
public import proofs.«01_k».proof.Proof.ParamTile

@[expose] public section

set_option maxRecDepth 16384

noncomputable section

open Idealize.ShloMosaic Idealize.ShloMosaic.TcCoe Idealize.SL.Sem
open Idealize.ShloMosaic.Pipeline (Dat)
open scoped BigOperators

namespace Cert.ParamBwdIdeal.Value

open Cert.ParamBwdIdeal Cert.ParamBwdIdeal.Gen Cert.Reals
open Cert.ParamGradIdeal.Read

variable (m : (ℓ : Loc nD τ sig) → Buf (Elt Ideal) ℓ) (c : Dev nD)

abbrev X0 : FVec Ideal S1x32x64 .f32 := m ((c : Thread nD τ).loc main_arg0)
abbrev X1 : FVec Ideal S1x32x64 .f32 := m ((c : Thread nD τ).loc main_arg1)
abbrev X2 : FVec Ideal S1x32 .f32 := m ((c : Thread nD τ).loc main_arg2)
abbrev X3 : FVec Ideal S1x32x64x16 .f32 := m ((c : Thread nD τ).loc main_arg3)
abbrev X4 : FVec Ideal S1x32x64x16 .f32 := m ((c : Thread nD τ).loc main_arg4)
abbrev X5 : FVec Ideal S32x64 .f32 := m ((c : Thread nD τ).loc main_arg5)
abbrev X6 : FVec Ideal S32x64 .f32 := m ((c : Thread nD τ).loc main_arg6)
abbrev X7 : FVec Ideal S32x64x16 .f32 := m ((c : Thread nD τ).loc main_arg7)
abbrev X8 : FVec Ideal S32x64x16 .f32 := m ((c : Thread nD τ).loc main_arg8)
abbrev X9 : FVec Ideal S32x16x64 .f32 := m ((c : Thread nD τ).loc main_arg9)
abbrev X10 : FVec Ideal S32x16x64 .f32 := m ((c : Thread nD τ).loc main_arg10)
abbrev X11 : FVec Ideal S1x512 .f32 := m ((c : Thread nD τ).loc main_arg11)

theorem V_eq (b : Ref sig .tc) : V m c b = StableHlo.after hostOps0 (fun b => m (c, b)) (Proc.devRef .tc b) := by
  show StableHlo.after _ _ _ = _
  simp only [List.flatten_cons, List.flatten_nil, List.append_nil]

theorem pack_in (x : FVec Ideal S32x64x16 .f32) (r : Fin 128) (n : Fin 2048) :
    pack (inward x) (ix2 r n) = x (ix3 ⟨n.val / 64, by omega⟩ ⟨n.val % 64, by omega⟩ ⟨r.val % 16, by omega⟩) := by
  show x (ix3 (Fin.ofNat 32 (n.val / 64)) (Fin.ofNat 64 (n.val % 64)) (Fin.ofNat 16 (r.val % 16))) = _
  rw [← ofNat_val (⟨n.val / 64, by omega⟩ : Fin 32), ← ofNat_val (⟨n.val % 64, by omega⟩ : Fin 64), ← ofNat_val (⟨r.val % 16, by omega⟩ : Fin 16)]
theorem pack_out (x : FVec Ideal S32x16x64 .f32) (r : Fin 128) (n : Fin 2048) :
    pack (outward x) (ix2 r n) = x (ix3 ⟨n.val / 64, by omega⟩ ⟨r.val % 16, by omega⟩ ⟨n.val % 64, by omega⟩) := by
  show x (ix3 (Fin.ofNat 32 (n.val / 64)) (Fin.ofNat 16 (r.val % 16)) (Fin.ofNat 64 (n.val % 64))) = _
  rw [← ofNat_val (⟨n.val / 64, by omega⟩ : Fin 32), ← ofNat_val (⟨n.val % 64, by omega⟩ : Fin 64), ← ofNat_val (⟨r.val % 16, by omega⟩ : Fin 16)]
theorem pack_turned (x : FVec Ideal S32x16x64 .f32) (i : S128x2048.Idx) : pack (turned x) i = (-pack (outward x) i : EReal) := rfl
theorem tall_gains (x : FVec Ideal S1x32x64x16 .f32) (r : Fin 512) (p : Fin 64) :
    tall (gains x) (ix2 r p) = x (ix4 0 ⟨r.val / 16, by omega⟩ p ⟨r.val % 16, by omega⟩) := by
  show x (ix4 0 (Fin.ofNat 32 (r.val / 16)) (Fin.ofNat 64 p.val) (Fin.ofNat 16 (r.val % 16))) = _
  rw [ofNat_val, ← ofNat_val (⟨r.val / 16, by omega⟩ : Fin 32), ← ofNat_val (⟨r.val % 16, by omega⟩ : Fin 16)]

/-! ## What the host hands to the call -/

theorem host0 : V m c main_v8 = row (X5 m c) := by
  funext i; idx_vars i
  rw [V_eq]; after_reads_simp; pointwise [row]
theorem host1 : V m c main_v9 = row (X6 m c) := by
  funext i; idx_vars i
  rw [V_eq]; after_reads_simp; pointwise [row]
theorem host2 : V m c main_v14 = pack (inward (X7 m c)) := by
  funext i; idx_vars i
  rw [pack_in, V_eq]; after_reads_simp; pointwise
theorem host3 : V m c main_v19 = pack (inward (X8 m c)) := by
  funext i; idx_vars i
  rw [pack_in, V_eq]; after_reads_simp; pointwise
theorem host4 : V m c main_v23 = pack (outward (X9 m c)) := by
  funext i; idx_vars i
  rw [pack_out, V_eq]; after_reads_simp; pointwise
theorem host5 : V m c main_v28 = pack (turned (X10 m c)) := by
  funext i; idx_vars i
  rw [pack_turned, pack_out, V_eq]; after_reads_simp; pointwise
theorem host6 : V m c main_v0 = val_main_v0 (F := Ideal) (X0 m c) := by
  funext i; idx_vars i
  rw [V_eq]; after_reads_simp; pointwise [val_main_v0]
theorem host7 : V m c main_v1 = val_main_v12 (F := Ideal) (X1 m c) := by
  funext i; idx_vars i
  rw [V_eq]; after_reads_simp; pointwise [val_main_v12]
theorem host8 : V m c main_arg2 = X2 m c := by
  rw [V_eq]; after_reads_simp
theorem host9 : V m c main_v4 = tall (gains (X3 m c)) := by
  funext i; idx_vars i
  rw [tall_gains, V_eq]; after_reads_simp; pointwise
theorem host10 : V m c main_v7 = tall (gains (X4 m c)) := by
  funext i; idx_vars i
  rw [tall_gains, V_eq]; after_reads_simp; pointwise
theorem host11 : V m c main_v29 = val_main_v184 (F := Ideal) (X11 m c) := by
  funext i; idx_vars i
  rw [V_eq]; after_reads_simp; pointwise [val_main_v184]

/-! ## Every window is its whole array -/

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] := (by decide +kernel : ∀ t : Fin grid0.N, _)

theorem block0 (t : Fin cfg0.N) : iblk m c 0 t = row (X5 m c) := by
  rw [← host0]; funext y
  have e : ((cfg0.win 0).blk t).view.emb y = y := by idx_vars y; blk_ext [idx t]
  show V m c main_v8 (((cfg0.win 0).blk t).view.emb y) = _
  rw [e]
theorem block1 (t : Fin cfg0.N) : iblk m c 1 t = row (X6 m c) := by
  rw [← host1]; funext y
  have e : ((cfg0.win 1).blk t).view.emb y = y := by idx_vars y; blk_ext [idx t]
  show V m c main_v9 (((cfg0.win 1).blk t).view.emb y) = _
  rw [e]
theorem block2 (t : Fin cfg0.N) : iblk m c 2 t = pack (inward (X7 m c)) := by
  rw [← host2]; funext y
  have e : ((cfg0.win 2).blk t).view.emb y = y := by idx_vars y; blk_ext [idx t]
  show V m c main_v14 (((cfg0.win 2).blk t).view.emb y) = _
  rw [e]
theorem block3 (t : Fin cfg0.N) : iblk m c 3 t = pack (inward (X8 m c)) := by
  rw [← host3]; funext y
  have e : ((cfg0.win 3).blk t).view.emb y = y := by idx_vars y; blk_ext [idx t]
  show V m c main_v19 (((cfg0.win 3).blk t).view.emb y) = _
  rw [e]
theorem block4 (t : Fin cfg0.N) : iblk m c 4 t = pack (outward (X9 m c)) := by
  rw [← host4]; funext y
  have e : ((cfg0.win 4).blk t).view.emb y = y := by idx_vars y; blk_ext [idx t]
  show V m c main_v23 (((cfg0.win 4).blk t).view.emb y) = _
  rw [e]
theorem block5 (t : Fin cfg0.N) : iblk m c 5 t = pack (turned (X10 m c)) := by
  rw [← host5]; funext y
  have e : ((cfg0.win 5).blk t).view.emb y = y := by idx_vars y; blk_ext [idx t]
  show V m c main_v28 (((cfg0.win 5).blk t).view.emb y) = _
  rw [e]
theorem block6 (t : Fin cfg0.N) : iblk m c 6 t = val_main_v0 (F := Ideal) (X0 m c) := by
  rw [← host6]; funext y
  have e : ((cfg0.win 6).blk t).view.emb y = y := by idx_vars y; blk_ext [idx t]
  show V m c main_v0 (((cfg0.win 6).blk t).view.emb y) = _
  rw [e]
theorem block7 (t : Fin cfg0.N) : iblk m c 7 t = val_main_v12 (F := Ideal) (X1 m c) := by
  rw [← host7]; funext y
  have e : ((cfg0.win 7).blk t).view.emb y = y := by idx_vars y; blk_ext [idx t]
  show V m c main_v1 (((cfg0.win 7).blk t).view.emb y) = _
  rw [e]
theorem block8 (t : Fin cfg0.N) : iblk m c 8 t = X2 m c := by
  rw [← host8]; funext y
  have e : ((cfg0.win 8).blk t).view.emb y = y := by idx_vars y; blk_ext [idx t]
  show V m c main_arg2 (((cfg0.win 8).blk t).view.emb y) = _
  rw [e]
theorem block9 (t : Fin cfg0.N) : iblk m c 9 t = tall (gains (X3 m c)) := by
  rw [← host9]; funext y
  have e : ((cfg0.win 9).blk t).view.emb y = y := by idx_vars y; blk_ext [idx t]
  show V m c main_v4 (((cfg0.win 9).blk t).view.emb y) = _
  rw [e]
theorem block10 (t : Fin cfg0.N) : iblk m c 10 t = tall (gains (X4 m c)) := by
  rw [← host10]; funext y
  have e : ((cfg0.win 10).blk t).view.emb y = y := by idx_vars y; blk_ext [idx t]
  show V m c main_v7 (((cfg0.win 10).blk t).view.emb y) = _
  rw [e]
theorem block11 (t : Fin cfg0.N) : iblk m c 11 t = val_main_v184 (F := Ideal) (X11 m c) := by
  rw [← host11]; funext y
  have e : ((cfg0.win 11).blk t).view.emb y = y := by idx_vars y; blk_ext [idx t]
  show V m c main_v29 (((cfg0.win 11).blk t).view.emb y) = _
  rw [e]

/-! ## The stores, last first -/

theorem canon_piece (a b h w : ℕ) (inb) (f : FVec Ideal (⟨2, ![h, w]⟩ : Shape) .bf16) (L : List (View.Piece (Elt Ideal) S1104x128 .bf16)) (r : Fin 1104) (l : Fin 128) :
    View.canon (Val := Elt Ideal) (e := .bf16) ((⟨Rect.unit (s := S1104x128) ![a, b] ![h, w] inb, f⟩ : View.Piece (Elt Ideal) S1104x128 .bf16) :: L) (ix2 r l)
      = if hy : (a ≤ r.val ∧ r.val < a + h) ∧ (b ≤ l.val ∧ l.val < b + w)
        then f (ix2 ⟨r.val - a, by omega⟩ ⟨l.val - b, by omega⟩) else View.canon (Val := Elt Ideal) (e := .bf16) L (ix2 r l) := by
  split_ifs with hy
  · have e : ix2 r l = (Rect.unit (s := S1104x128) ![a, b] ![h, w] inb).emb (ix2 (⟨r.val - a, by omega⟩ : Fin h) (⟨l.val - b, by omega⟩ : Fin w)) := by
      funext x
      apply Fin.ext
      rw [ValueKit.rect_emb_unit_val]
      match x with
      | ⟨0, _⟩ => show r.val = a + (r.val - a); omega
      | ⟨1, _⟩ => show l.val = b + (l.val - b); omega
    rw [e]
    exact View.canon_cons_emb _ _ _ _
  · refine View.canon_cons_of_not_mem _ _ fun hm => hy ?_
    have hs := (Rect.mem_set_unit (inb := inb)).1 hm
    exact ⟨hs 0, hs 1⟩

/-! ## The payloads -/

theorem unpack10 (T : ℕ → ℕ → ℕ → EReal) (k : ℕ) : k0_pay10 (F := Ideal) (quarter T k) = slab T k := unpack T k
theorem unpack12 (T : ℕ → ℕ → ℕ → EReal) (k : ℕ) : k0_pay12 (F := Ideal) k0_pay9 (quarter T k) = slab T k := unpack T k
theorem unpack13 (T : ℕ → ℕ → ℕ → EReal) (k : ℕ) : k0_pay13 (F := Ideal) k0_pay9 (quarter T k) = slab T k := unpack T k
theorem unpack15 (T : ℕ → ℕ → ℕ → EReal) (k : ℕ) : k0_pay15 (F := Ideal) k0_pay9 (quarter T k) = slab T k := unpack T k
theorem unpack16 (T : ℕ → ℕ → ℕ → EReal) (k : ℕ) : k0_pay16 (F := Ideal) k0_pay9 (quarter T k) = slab T k := unpack T k
theorem unpack49 (T : ℕ → ℕ → ℕ → EReal) (k : ℕ) : k0_pay49 (F := Ideal) k0_pay9 (quarter T k) = slab T k := unpack T k
theorem unpack50 (T : ℕ → ℕ → ℕ → EReal) (k : ℕ) : k0_pay50 (F := Ideal) k0_pay9 (quarter T k) = slab T k := unpack T k
theorem unpack58 (T : ℕ → ℕ → ℕ → EReal) (k : ℕ) : k0_pay58 (F := Ideal) k0_pay9 (quarter T k) = slab T k := unpack T k
theorem unpack59 (T : ℕ → ℕ → ℕ → EReal) (k : ℕ) : k0_pay59 (F := Ideal) k0_pay9 (quarter T k) = slab T k := unpack T k
theorem pay18_eq (v22 : IVec S128x512 1) (a b : FVec Ideal S128x64 .f32) (d e : FVec Ideal S128x512 .f32) :
    k0_pay18 (F := Ideal) v22 a b (k0_pay17 v22 d) e = k0_pay14 a b (k0_pay11 v22 d) (k0_pay11 v22 e) := rfl
theorem whole (x : FVec Ideal S32x64 .f32) : k0_pay23 (F := Ideal) x = x := by
  funext i; idx_vars i
  pointwise [k0_pay23]
theorem whole' (x : FVec Ideal S32x64 .f32) : k0_pay22 (F := Ideal) x = x := whole x
theorem whole_re (x : FVec Ideal S512x64 .f32) : k0_pay19 (F := Ideal) x = x := by
  funext i; idx_vars i
  pointwise [k0_pay19]
theorem whole_im (x : FVec Ideal S512x64 .f32) : k0_pay20 (F := Ideal) x = x := whole_re x
theorem clipped (x0 : FVec Ideal S1x32x64 .f32) : k0_pay24 (F := Ideal) (val_main_v0 (F := Ideal) x0) = val_main_v2 (F := Ideal) x0 := by
  funext i; idx_vars i
  pointwise [k0_pay24, k0_pay22, val_main_v2, val_main_v1, val_main_cst]
theorem clip_grad (x0 : FVec Ideal S1x32x64 .f32) : k0_pay25 (F := Ideal) (val_main_v0 (F := Ideal) x0) (Scalar.ofBits .f32 0xB8D1B717#32) = val_main_v11 (F := Ideal) x0 := by
  funext i; idx_vars i
  pointwise [k0_pay25, val_main_v11, val_main_v10, val_main_v9, val_main_v8, val_main_v7, val_main_v6, val_main_v5, val_main_v4, val_main_v3, val_main_cst_0, val_main_cst_1, val_main_cst_2, val_main_cst_3, val_main_cst_4]

/-- The last rows' lanes after the step sizes' hold zero. -/
theorem step_rest (x0 x1 : FVec Ideal S1x32x64 .f32) (x2 : FVec Ideal S1x32 .f32) (x3 x4 : FVec Ideal S1x32x64x16 .f32)
    (x5 x6 : FVec Ideal S32x64 .f32) (x7 x8 : FVec Ideal S32x64x16 .f32) (r : Fin 16) (l : Fin 128) (h : ¬ l.val < 32) :
    val_main_v189 (F := Ideal) x0 x1 x2 x3 x4 x5 x6 x7 x8 (ix2 r l) = (0 : EReal) := by
  pointwise [val_main_v189, val_main_v188, val_main_cst_22]
  exact dif_neg h

/-- The stores, the last one first, leave the five results below each other. -/
theorem place (k4 : S16x32.Idx → EReal) (f1 f2 : S512x128.Idx → EReal) (f3 : S32x128.Idx → EReal) (f4 : S32x16.Idx → EReal) (last : Cert.ParamGradIdeal.S16x128.Idx → EReal) (z : EReal)
    (step : ∀ (r : Fin 16) (g : Fin 32), k4 (ix2 r g) = last (ix2 r ⟨g.val, by omega⟩)) (rest : ∀ (r : Fin 16) (l : Fin 128), ¬ l.val < 32 → last (ix2 r l) = 0)
    (r : Fin 1104) (l : Fin 128) :
    (if h : 1088 ≤ r.val ∧ l.val < 32 then k4 (ix2 ⟨r.val - 1088, by omega⟩ ⟨l.val, h.2⟩)
      else if h : 1024 ≤ r.val ∧ r.val < 1056 then f3 (ix2 ⟨r.val - 1024, by omega⟩ l)
      else if h : 512 ≤ r.val ∧ r.val < 1024 then f2 (ix2 ⟨r.val - 512, by omega⟩ l)
      else if h : r.val < 512 then f1 (ix2 ⟨r.val, h⟩ l)
      else if h : (1056 ≤ r.val ∧ r.val < 1088) ∧ l.val < 16 then f4 (ix2 ⟨r.val - 1056, by omega⟩ ⟨l.val, h.2⟩)
      else if h : 1056 ≤ r.val then 0 else z)
    = if h : r.val < 512 then f1 (ix2 ⟨r.val, h⟩ l)
      else if h : r.val - 512 < 512 then f2 (ix2 ⟨r.val - 512, h⟩ l)
      else if h : r.val - 512 - 512 < 32 then f3 (ix2 ⟨r.val - 512 - 512, h⟩ l)
      else if h : r.val - 512 - 512 - 32 < 32 then
        if h' : l.val < 16 then f4 (ix2 ⟨r.val - 512 - 512 - 32, h⟩ ⟨l.val, h'⟩) else 0
      else last (ix2 ⟨r.val - 512 - 512 - 32 - 32, by omega⟩ l) := by
  have hr := r.isLt
  simp only [Nat.sub_sub, Nat.reduceAdd, step]
  by_cases h1 : r.val < 512
  · simp only [h1, show ¬ 1088 ≤ r.val by omega, show ¬ 1024 ≤ r.val by omega, show ¬ 512 ≤ r.val by omega, false_and, dite_false, dite_true]
  by_cases h2 : r.val < 1024
  · simp only [h1, h2, show ¬ 1088 ≤ r.val by omega, show ¬ 1024 ≤ r.val by omega, show 512 ≤ r.val by omega, show r.val - 512 < 512 by omega, false_and, and_self, dite_false, dite_true]
  by_cases h3 : r.val < 1056
  · simp only [h1, h2, h3, show ¬ 1088 ≤ r.val by omega, show 1024 ≤ r.val by omega, show ¬ r.val - 512 < 512 by omega, show r.val - 1024 < 32 by omega, false_and, and_self, dite_false, dite_true]
  by_cases h4 : r.val < 1088
  · by_cases h5 : l.val < 16
    · simp only [h1, h2, h3, h4, h5, show ¬ 1088 ≤ r.val by omega, show 1056 ≤ r.val by omega, show ¬ r.val - 512 < 512 by omega, show ¬ r.val - 1024 < 32 by omega,
        show r.val - 1056 < 32 by omega, false_and, and_false, and_self, dite_false, dite_true]
    · simp only [h1, h2, h3, h4, h5, show ¬ 1088 ≤ r.val by omega, show 1056 ≤ r.val by omega, show ¬ r.val - 512 < 512 by omega, show ¬ r.val - 1024 < 32 by omega,
        show r.val - 1056 < 32 by omega, false_and, and_false, and_self, dite_false, dite_true]
  by_cases h5 : l.val < 32
  · simp only [h1, h5, show 1088 ≤ r.val by omega, show ¬ r.val - 512 < 512 by omega, show ¬ r.val - 1024 < 32 by omega, show ¬ r.val - 1056 < 32 by omega, and_self, dite_false, dite_true]
  · simp only [h1, h2, h3, h4, h5, rest _ _ h5, show 1056 ≤ r.val by omega, show ¬ r.val - 512 < 512 by omega, show ¬ r.val - 1024 < 32 by omega, show ¬ r.val - 1056 < 32 by omega,
      and_false, false_and, dite_false, dite_true]

theorem final12 : (dats m 0 c).arrAt 12 (cfgs 0).N
    = val_main_v191 (F := Ideal) (X0 m c) (X1 m c) (X2 m c) (X3 m c) (X4 m c) (X5 m c) (X6 m c) (X7 m c) (X8 m c) (X9 m c) (X10 m c) (X11 m c) := by
  refine (dats m 0 c).arrAt_eq_of_covers 12 _ (by decide +kernel) fun t hf y => ?_
  blk_simp; rw [after0_12]
  have e : ((cfg0.win 12).blk t).view.emb y = y := by idx_vars y; blk_ext [idx t]
  rw [e]
  unfold outsAt0; frame_out
  idx_vars y
  simp only [block0, block1, block2, block3, block4, block5, block6, block7, block8, block9, block10, block11]
  simp only [load_0, load_1, load_2, load_3, pay18_eq, pay53_eq, pay63_eq, unpack, unpack10, unpack12, unpack13, unpack15, unpack16, unpack49, unpack50, unpack58, unpack59, stack_slabs,
    whole, whole', whole_re, whole_im, clipped, clip_grad, column, real_factor, imag_factor, p68,
    p26, p27, p28, p29, p30, p31, p32, p33, p34, p35, p36, p37, p38, p39, p40, p41, p42, p43, p44,
    p69, p70, p71, p72, p73, p74, p75, p76, p77, p78, p79, p80, gain_re, gain_im, decay_grad]
  rw [canon_piece, canon_piece, canon_piece, canon_piece, canon_piece, canon_piece]
  pointwise [val_main_v191, val_main_v190, val_main_v186, val_main_v185, k0_pay7, k0_pay8, val_main_cst_21]
  have step := step_grad (X0 m c) (X1 m c) (X2 m c) (X3 m c) (X4 m c) (X7 m c) (X8 m c) (X5 m c) (X6 m c)
  have rest := step_rest (X0 m c) (X1 m c) (X2 m c) (X3 m c) (X4 m c) (X5 m c) (X6 m c) (X7 m c) (X8 m c)
  exact place _ _ _ _ _ _ _ step rest y0 y1

end Cert.ParamBwdIdeal.Value
-- ==== Proof.ParamClaims.lean ====
/- The claims about the backward call of the recurrence's parameters and the gradient it computes. -/
module

public import proofs.«01_k».proof.Defs
public import proofs.«01_k».proof.Proof.Gen.ParamBwd.Frame
public import proofs.«01_k».proof.Proof.Gen.ParamGradIdeal.Run
public import proofs.«01_k».proof.Proof.ParamValue
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

theorem param_frame : Cert.quiescent_ParamBwd := fun m g _ => Cert.ParamBwd.Gen.frame m g
theorem param_frame_ideal : Cert.quiescent_ParamBwdIdeal := fun m g _ => Cert.ParamBwdIdeal.Gen.frame m g
theorem param_grad_frame : Cert.quiescent_ParamGradIdeal := fun m g _ => by
  hlo_run
  · simp
  · exact sem_eq_zero_of_no_sems (sig := Cert.ParamGradIdeal.sig) (by decide) _

theorem param_algebraic : Cert.algebraic_ParamBwdIdeal_ParamGradIdeal := by
  pair_intro
  · run_from Cert.ParamBwdIdeal.Gen.run_main m g
  · run_from Cert.ParamGradIdeal.Value.run m' g'
    obtain ⟨e0, e1, e2, e3, e4, e5, e6, e7, e8, e9, e10, e11⟩ := hagree c
    rw [Cert.ParamGradIdeal.Read.val_main_v191_eq]
    change Cert.ParamGradIdeal.Read.val_main_v191 (F := Ideal) (m' (c.tc.loc Cert.ParamGradIdeal.main_arg0)) (m' (c.tc.loc Cert.ParamGradIdeal.main_arg1)) (m' (c.tc.loc Cert.ParamGradIdeal.main_arg2))
      (m' (c.tc.loc Cert.ParamGradIdeal.main_arg3)) (m' (c.tc.loc Cert.ParamGradIdeal.main_arg4)) (m' (c.tc.loc Cert.ParamGradIdeal.main_arg5))
      (m' (c.tc.loc Cert.ParamGradIdeal.main_arg6)) (m' (c.tc.loc Cert.ParamGradIdeal.main_arg7)) (m' (c.tc.loc Cert.ParamGradIdeal.main_arg8))
      (m' (c.tc.loc Cert.ParamGradIdeal.main_arg9)) (m' (c.tc.loc Cert.ParamGradIdeal.main_arg10)) (m' (c.tc.loc Cert.ParamGradIdeal.main_arg11)) = _
    rw [e0, e1, e2, e3, e4, e5, e6, e7, e8, e9, e10, e11]
    exact (Cert.ParamBwdIdeal.Value.final12 _ _).symm

end Cert.Proof

end
-- ==== Proof.FwdRows.lean ====
/- One row of the attention's softmax over the reals with infinities: its largest score with the sink, its exponentials,
   its denominator and its weights. No entry is assumed to be a real number. -/
module

public import proofs.«01_k».proof.Proof.Reals

@[expose] public section

noncomputable section

open Idealize.ShloMosaic
open scoped BigOperators

namespace Cert.Rows

/-- The largest score of a row, the sink's among them. -/
def top (s : Fin 256 → EReal) (b : EReal) : EReal := max (Finset.univ.fold max ⊥ s) b
def ex (s : Fin 256 → EReal) (b : EReal) (k : Fin 256) : EReal := Ideal.exp (s k - top s b)
def exSink (s : Fin 256 → EReal) (b : EReal) : EReal := Ideal.exp (b - top s b)
def den (s : Fin 256 → EReal) (b : EReal) : EReal := (∑ k, ex s b k) + exSink s b
/-- The weight of a position. -/
def prob (s : Fin 256 → EReal) (b : EReal) (k : Fin 256) : EReal := Ideal.div (ex s b k) (den s b)
def probSink (s : Fin 256 → EReal) (b : EReal) : EReal := Ideal.div (exSink s b) (den s b)

theorem exp_nonneg (x : EReal) : 0 ≤ Ideal.exp x := by
  induction x using EReal.rec with
  | bot => exact le_refl _
  | coe r => exact EReal.coe_nonneg.mpr (Real.exp_pos r).le
  | top => exact le_top

variable (s : Fin 256 → EReal) (b : EReal)

theorem ex_masked (k : Fin 256) (h : s k = ⊥) : ex s b k = 0 := by
  rw [ex, h, EReal.bot_sub]; rfl
theorem ex_of_den (h : den s b = 0) (k : Fin 256) : ex s b k = 0 := by
  have h0 : ∀ k ∈ Finset.univ, 0 ≤ ex s b k := fun k _ => exp_nonneg _
  have h1 : ex s b k ≤ ∑ k, ex s b k := Finset.single_le_sum h0 (Finset.mem_univ k)
  have h2 : (∑ k, ex s b k) ≤ den s b := le_add_of_nonneg_right (exp_nonneg _)
  exact le_antisymm (by rw [← h]; exact h1.trans h2) (exp_nonneg _)
theorem prob_masked (h : den s b ≠ 0) (k : Fin 256) (hk : s k = ⊥) : prob s b k = 0 := by
  rw [prob, ex_masked s b k hk, Ideal.div, if_neg h, zero_mul]
theorem prob_of_den (h : den s b = 0) (k : Fin 256) : prob s b k = ⊥ := by
  rw [prob, ex_of_den s b h, h, Ideal.div, if_pos rfl, if_neg (lt_irrefl _)]

theorem twice_bot_mul (x : EReal) : ⊥ * x + ⊥ * x = ⊥ * x := by
  rcases lt_trichotomy x 0 with h | h | h
  · rw [EReal.bot_mul_of_neg h]; rfl
  · rw [h, mul_zero, add_zero]
  · rw [EReal.bot_mul_of_pos h]; rfl
theorem twice_sum {ι : Type} (f : ι → EReal) (hf : ∀ i, f i + f i = f i) (S : Finset ι) :
    (∑ i ∈ S, f i) + ∑ i ∈ S, f i = ∑ i ∈ S, f i := by
  rw [← Finset.sum_add_distrib]
  exact Finset.sum_congr rfl fun i _ => hf i

/-- In the first block the positions before it are masked. The products over the window are the same whether those
    positions hold the block's own rows again or zeros. -/
theorem first_block (h : ∀ k : Fin 256, k.val < 128 → s k = ⊥) (v : Fin 128 → EReal) :
    ∑ k : Fin 256, prob s b k * v ⟨k.val % 128, by omega⟩
      = ∑ k : Fin 256, prob s b k * (if k.val < 128 then 0 else v ⟨k.val % 128, by omega⟩) := by
  by_cases hd : den s b = 0
  · have e : ∀ f : Fin 256 → EReal, ∑ k, f k = (∑ k : Fin 128, f ⟨k.val, by omega⟩) + ∑ k : Fin 128, f ⟨128 + k.val, by omega⟩ := by
      intro f
      exact Fin.sum_univ_add (a := 128) (b := 128) f
    rw [e, e]
    simp only [prob_of_den s b hd]
    have h1 : ∀ k : Fin 128, (⟨k.val % 128, by omega⟩ : Fin 128) = k := fun k => Fin.ext (Nat.mod_eq_of_lt k.isLt)
    have h2 : ∀ k : Fin 128, (⟨(128 + k.val) % 128, by omega⟩ : Fin 128) = k := fun k => Fin.ext (by show (128 + k.val) % 128 = k.val; omega)
    have h3 : ∀ k : Fin 128, k.val < 128 := fun k => k.isLt
    have h4 : ∀ k : Fin 128, ¬ (128 + k.val < 128) := fun k => by omega
    simp only [h1, h2, h3, h4, if_true, if_false, mul_zero, Finset.sum_const_zero, zero_add]
    exact twice_sum _ (fun k => twice_bot_mul _) _
  · refine Finset.sum_congr rfl fun k _ => ?_
    by_cases hk : k.val < 128
    · rw [prob_masked s b hd k (h k hk), zero_mul, zero_mul]
    · rw [if_neg hk]

/-- Whether query `q` of block `n` sees position `k` of its window. -/
def sees (t q k : BitVec 32) : BitVec 1 :=
  IntOp.andi (IntOp.andi (IntOp.cmpi .sge (IntOp.subi (IntOp.addi q 128#32) k) 0#32) (IntOp.cmpi .slt (IntOp.subi (IntOp.addi q 128#32) k) 128#32))
    (IntOp.cmpi .sge (IntOp.addi (IntOp.subi (IntOp.muli t 128#32) 128#32) k) 0#32)

end Cert.Rows

end
-- ==== Proof.FwdTile.lean ====
/- The attention's forward kernel body over the reals with infinities: each group of its vector operations read at an
   index. The four heads of a group are stacked along the rows, each with its own 64 lanes and zeros in the others. -/
module

public import proofs.«01_k».proof.Proof.Gen.AttnFwdIdeal.Skeleton
public import Idealize.ShloMosaic.Lib.Pointwise
public import proofs.«01_k».proof.Proof.AttnTile
public import proofs.«01_k».proof.Proof.FwdRows

@[expose] public section

set_option maxRecDepth 16384

noncomputable section

open Idealize.ShloMosaic Idealize.ShloMosaic.TcCoe Idealize.SL.Sem
open scoped BigOperators

namespace Cert.AttnFwdIdeal.Tile

open Cert.AttnFwdIdeal Cert.AttnFwdIdeal.Gen Cert.Rows
open Cert.AttnBwdIdeal.Tile (group low0 low1 word_eq pick one_hot sum_one_hot sum_lanes)

/-- The scores' factor. -/
abbrev C : EReal := Ideal.ofBits .f32 0x3E000000#32

/-- Row `r` of the stack: query `r % 128`, the head of lane group `r / 128`, zero in the other lanes. -/
def stack (x : FVec Ideal S128x256 .bf16) : FVec Ideal S512x256 .bf16 := fun i =>
  if (i 1).val / 64 = (i 0).val / 128 then x (ix2 ⟨(i 0).val % 128, by omega⟩ (i 1)) else 0
/-- Half of a window's lanes repeated four times. -/
def spread (j : ℕ) (hj : j < 2) (x : FVec Ideal S256x128 .bf16) : FVec Ideal S256x256 .bf16 := fun i => x (ix2 (i 0) ⟨64 * j + (i 1).val % 64, by omega⟩)
/-- A stack's row against a window's row: the one head's lanes. -/
def dots (x : FVec Ideal S128x256 .bf16) (v : FVec Ideal S256x256 .bf16) (r : Fin 512) (k : Fin 256) : EReal :=
  ∑ d : Fin 64, x (ix2 ⟨r.val % 128, by omega⟩ ⟨64 * (r.val / 128) + d.val, by omega⟩) * v (ix2 k ⟨64 * (r.val / 128) + d.val, by omega⟩)
/-- The stack's heads put back side by side. -/
def unstack (y : FVec Ideal S512x256 .f32) : FVec Ideal S128x256 .f32 := fun i => y (ix2 ⟨128 * ((i 1).val / 64) + (i 0).val, by
  have h0 : (i 0).val < 128 := (i 0).isLt
  have h1 : (i 1).val < 256 := (i 1).isLt
  omega⟩ (i 1))
/-- Four sinks, each on one head's rows. -/
def sinks (a b c d : EReal) (r : Fin 512) : EReal :=
  if r.val / 128 = 3 then d else if r.val / 128 = 2 then c else if r.val / 128 = 1 then b else a

theorem low7 (r : Fin 512) : IntOp.andi (BitVec.ofNat 32 r.val) 127#32 = BitVec.ofNat 32 (r.val % 128) := by
  revert r; decide +kernel
theorem group7 (r : Fin 512) : IntOp.shrsi .vector (BitVec.ofNat 32 r.val) 7#32 = BitVec.ofNat 32 (r.val / 128) := by
  revert r; decide +kernel
theorem mask_bot : (Named.named (F := Ideal) (φ := .f32) κ "mask" 0xF149F2CA#32 : EReal) = ⊥ := rfl
theorem word_bot : Ideal.ofBits .f32 0xFF800000#32 = ⊥ := by simp [Ideal.ofBits, Ideal.ieee]

variable (x : FVec Ideal S128x256 .bf16) (w : FVec Ideal S256x128 .bf16) (v : FVec Ideal S256x256 .bf16) (y : FVec Ideal S512x256 .f32)
  (c d : FVec Ideal S128x128 .bf16) (t : BitVec 32)

theorem spread_k0 : k0_pay6 (F := Ideal) c d = spread 0 (by decide) (k0_pay3 (F := Ideal) c d) := by
  funext i; idx_vars i
  pointwise [k0_pay6, k0_pay5]
  simp (disch := omega) only [low0, one_hot]
  exact sum_one_hot ⟨64 * 0 + i1.val % 64, by omega⟩ fun k => k0_pay3 (F := Ideal) c d (ix2 i0 k)
theorem spread_v0 : k0_pay7 (F := Ideal) c d = spread 0 (by decide) (k0_pay4 (F := Ideal) c d) := by
  funext i; idx_vars i
  pointwise [k0_pay7, k0_pay5]
  simp (disch := omega) only [low0, one_hot]
  exact sum_one_hot ⟨64 * 0 + i1.val % 64, by omega⟩ fun k => k0_pay4 (F := Ideal) c d (ix2 i0 k)
theorem spread_k1 : k0_pay28 (F := Ideal) w = spread 1 (by decide) w := by
  funext i; idx_vars i
  pointwise [k0_pay28, k0_pay27]
  simp (disch := omega) only [low1, one_hot]
  exact sum_one_hot ⟨64 * 1 + i1.val % 64, by omega⟩ fun k => w (ix2 i0 k)
theorem spread_v1 : k0_pay29 (F := Ideal) w = spread 1 (by decide) w := by
  funext i; idx_vars i
  pointwise [k0_pay29, k0_pay27]
  simp (disch := omega) only [low1, one_hot]
  exact sum_one_hot ⟨64 * 1 + i1.val % 64, by omega⟩ fun k => w (ix2 i0 k)
theorem window_k (k : Fin 256) (a : Fin 128) : k0_pay3 (F := Ideal) c d (ix2 k a) = if h : k.val < 128 then c (ix2 ⟨k.val, h⟩ a) else d (ix2 ⟨k.val - 128, by omega⟩ a) := by
  pointwise [k0_pay3]
theorem window_v (k : Fin 256) (a : Fin 128) : k0_pay4 (F := Ideal) c d (ix2 k a) = if h : k.val < 128 then c (ix2 ⟨k.val, h⟩ a) else d (ix2 ⟨k.val - 128, by omega⟩ a) := by
  pointwise [k0_pay4]

/-- Four heads' rows one under the other. -/
theorem stack_cases (r : Fin 512) (l : Fin 256) (f : Fin 128 → ℕ → EReal) (hf : ∀ q e, f q e = if l.val / 64 = e then x (ix2 q l) else 0) :
    (if h : r.val < 128 then f ⟨r.val, h⟩ 0 else if h1 : r.val - 128 < 128 then f ⟨r.val - 128, h1⟩ 1
      else if h2 : r.val - 128 - 128 < 128 then f ⟨r.val - 128 - 128, h2⟩ 2 else f ⟨r.val - 128 - 128 - 128, by omega⟩ 3) = stack x (ix2 r l) := by
  show _ = if l.val / 64 = r.val / 128 then x (ix2 ⟨r.val % 128, _⟩ l) else 0
  by_cases h : r.val < 128
  · rw [dif_pos h, hf, show r.val / 128 = 0 by omega, show (⟨r.val, h⟩ : Fin 128) = ⟨r.val % 128, by omega⟩ from Fin.ext (by simp; omega)]
  · rw [dif_neg h]
    by_cases h1 : r.val - 128 < 128
    · rw [dif_pos h1, hf, show r.val / 128 = 1 by omega, show (⟨r.val - 128, h1⟩ : Fin 128) = ⟨r.val % 128, by omega⟩ from Fin.ext (by simp; omega)]
    · rw [dif_neg h1]
      by_cases h2 : r.val - 128 - 128 < 128
      · rw [dif_pos h2, hf, show r.val / 128 = 2 by omega, show (⟨r.val - 128 - 128, h2⟩ : Fin 128) = ⟨r.val % 128, by omega⟩ from Fin.ext (by simp; omega)]
      · rw [dif_neg h2, hf, show r.val / 128 = 3 by omega, show (⟨r.val - 128 - 128 - 128, by omega⟩ : Fin 128) = ⟨r.val % 128, by omega⟩ from Fin.ext (by simp; omega)]
theorem stack_1 : k0_pay30 (F := Ideal) x = stack x := by
  funext i; idx_vars i
  pointwise [k0_pay30]
  simp (disch := omega) only [group, pick]
  exact stack_cases x i0 i1 (fun q e => if i1.val / 64 = e then x (ix2 q i1) else 0) fun _ _ => rfl
theorem dots_of_stack (r : Fin 512) (k : Fin 256) : ∑ l : Fin 256, stack x (ix2 r l) * v (ix2 k l) = dots x v r k := by
  unfold dots
  rw [← sum_lanes (fun l => x (ix2 ⟨r.val % 128, by omega⟩ l) * v (ix2 k l)) (r.val / 128) (by omega)]
  refine Finset.sum_congr rfl fun l _ => ?_
  show (if l.val / 64 = r.val / 128 then _ else _) * _ = _
  split_ifs <;> simp
theorem scores_0 (r : Fin 512) (k : Fin 256) :
    k0_pay14 (F := Ideal) v (k0_pay8 (F := Ideal) x) k0_pay9 (k0_pay10 (F := Ideal) x) (k0_pay11 (F := Ideal)) k0_pay12 (ix2 r k) = dots x v r k * C := by
  rw [← dots_of_stack]
  have e : ∀ l : Fin 256, stack x (ix2 r l) = k0_pay30 (F := Ideal) x (ix2 r l) := fun l => by rw [stack_1]
  simp only [e]
  pointwise [k0_pay14, k0_pay8, k0_pay9, k0_pay10, k0_pay11, k0_pay12, k0_pay30]
theorem masked_0 (r : Fin 512) (k : Fin 256) :
    k0_pay16 (F := Ideal) t y (iota .tc S512x256 32 [1] iota_S512x256_d1_w32) k0_pay15 (ix2 r k)
      = Scalar.select (sees t (BitVec.ofNat 32 (r.val % 128)) (BitVec.ofNat 32 k.val)) (y (ix2 r k)) ⊥ := by
  unfold sees
  rw [← mask_bot]
  pointwise [k0_pay16, k0_pay15]
  rw [low7]
  rfl
theorem masked_1 (r : Fin 512) (k : Fin 256) :
    k0_pay34 (F := Ideal) t v (k0_pay30 (F := Ideal) x) (ix2 r k)
      = Scalar.select (sees t (BitVec.ofNat 32 (r.val % 128)) (BitVec.ofNat 32 k.val)) (dots x v r k * C) ⊥ := by
  rw [stack_1, ← dots_of_stack]
  generalize stack x = z
  unfold sees
  rw [← mask_bot]
  pointwise [k0_pay34]
  rw [low7]
  rfl
theorem sinks_0 (a b c d : EReal) (r : Fin 512) : k0_pay13 (F := Ideal) a b c d (ix2 r 0) = sinks a b c d r := by
  unfold sinks
  pointwise [k0_pay13]
  simp (disch := omega) only [group7, pick]
theorem sinks_1 (a b c d : EReal) (r : Fin 512) : k0_pay33 (F := Ideal) k0_pay31 (k0_pay32 (F := Ideal) a b c) d (ix2 r 0) = sinks a b c d r := by
  unfold sinks
  pointwise [k0_pay33, k0_pay32, k0_pay31]
  simp (disch := omega) only [group7, pick]

/-! ## The rows' softmax -/

section First
variable (z : FVec Ideal S512x1 .f32) (a b : IVec S512x256 32) (r : Fin 512) (k : Fin 256)
abbrev s0 : Fin 256 → EReal := fun k => k0_pay16 (F := Ideal) t y a b (ix2 r k)
theorem top_0 : k0_pay17 (F := Ideal) t z y a b (ix2 r 0) = top (s0 y t a b r) (z (ix2 r 0)) := by
  unfold top s0
  have e := word_bot
  generalize hs : k0_pay16 (F := Ideal) t y a b = s
  pointwise [k0_pay17, hs, e]
theorem ex_0 : k0_pay18 (F := Ideal) t z y a b (ix2 r k) = ex (s0 y t a b r) (z (ix2 r 0)) k := by
  unfold ex
  rw [← top_0]
  generalize hs : k0_pay16 (F := Ideal) t y a b = s
  generalize hm : k0_pay17 (F := Ideal) t z y a b = u
  pointwise [k0_pay18, s0, hs, hm]
theorem exSink_0 : k0_pay19 (F := Ideal) t z y a b (ix2 r 0) = exSink (s0 y t a b r) (z (ix2 r 0)) := by
  unfold exSink
  rw [← top_0]
  generalize hm : k0_pay17 (F := Ideal) t z y a b = u
  pointwise [k0_pay19, hm]
theorem den_0 : k0_pay20 (F := Ideal) t z y a b (ix2 r 0) = den (s0 y t a b r) (z (ix2 r 0)) := by
  unfold den
  rw [← exSink_0]
  simp only [← ex_0]
  generalize hs : k0_pay18 (F := Ideal) t z y a b = s
  generalize hm : k0_pay19 (F := Ideal) t z y a b = u
  pointwise [k0_pay20, hs, hm]
theorem prob_0 : k0_pay21 (F := Ideal) t z y a b (ix2 r k) = prob (s0 y t a b r) (z (ix2 r 0)) k := by
  unfold prob
  rw [← ex_0, ← den_0]
  generalize hs : k0_pay18 (F := Ideal) t z y a b = s
  generalize hm : k0_pay20 (F := Ideal) t z y a b = u
  pointwise [k0_pay21, hs, hm]
theorem weights_0 : k0_pay22 (F := Ideal) t z y a b (ix4 0 0 r k) = Scalar.select (IntOp.cmpi .eq (BitVec.ofNat 32 k.val) 0#32)
    (probSink (s0 y t a b r) (z (ix2 r 0))) (prob (s0 y t a b r) (z (ix2 r 0)) k) := by
  unfold probSink
  rw [← exSink_0, ← den_0, ← prob_0]
  generalize hs : k0_pay19 (F := Ideal) t z y a b = s
  generalize hm : k0_pay20 (F := Ideal) t z y a b = u
  generalize hp : k0_pay21 (F := Ideal) t z y a b = p
  pointwise [k0_pay22, hs, hm, hp]
theorem prod_0 (l : Fin 256) : k0_pay23 (F := Ideal) t v z y a b (ix2 r l) = ∑ k, prob (s0 y t a b r) (z (ix2 r 0)) k * v (ix2 k l) := by
  simp only [← prob_0]
  generalize hp : k0_pay21 (F := Ideal) t z y a b = p
  pointwise [k0_pay23, hp]
end First
section Second
variable (u : FVec Ideal S512x256 .bf16) (a : IVec S512x1 32) (z : FVec Ideal S512x1 .f32) (e : EReal) (r : Fin 512) (k : Fin 256)
abbrev s1 : Fin 256 → EReal := fun k => k0_pay34 (F := Ideal) t v u (ix2 r k)
abbrev b1 : EReal := k0_pay33 (F := Ideal) a z e (ix2 r 0)
theorem top_1 : k0_pay35 (F := Ideal) t v u a z e (ix2 r 0) = top (s1 v t u r) (b1 a z e r) := by
  unfold top s1 b1
  have e' := word_bot
  generalize hs : k0_pay34 (F := Ideal) t v u = s
  generalize hb : k0_pay33 (F := Ideal) a z e = b
  pointwise [k0_pay35, hs, hb, e']
theorem ex_1 : k0_pay36 (F := Ideal) t v u a z e (ix2 r k) = ex (s1 v t u r) (b1 a z e r) k := by
  unfold ex
  rw [← top_1]
  unfold s1
  generalize hs : k0_pay34 (F := Ideal) t v u = s
  generalize hm : k0_pay35 (F := Ideal) t v u a z e = w
  pointwise [k0_pay36, hs, hm]
theorem exSink_1 : k0_pay37 (F := Ideal) t v u a z e (ix2 r 0) = exSink (s1 v t u r) (b1 a z e r) := by
  unfold exSink
  rw [← top_1]
  unfold b1
  generalize hs : k0_pay33 (F := Ideal) a z e = s
  generalize hm : k0_pay35 (F := Ideal) t v u a z e = w
  pointwise [k0_pay37, hs, hm]
theorem den_1 : k0_pay38 (F := Ideal) t v u a z e (ix2 r 0) = den (s1 v t u r) (b1 a z e r) := by
  unfold den
  rw [← exSink_1]
  simp only [← ex_1]
  generalize hs : k0_pay36 (F := Ideal) t v u a z e = s
  generalize hm : k0_pay37 (F := Ideal) t v u a z e = w
  pointwise [k0_pay38, hs, hm]
theorem prob_1 : k0_pay39 (F := Ideal) t v u a z e (ix2 r k) = prob (s1 v t u r) (b1 a z e r) k := by
  unfold prob
  rw [← ex_1, ← den_1]
  generalize hs : k0_pay36 (F := Ideal) t v u a z e = s
  generalize hm : k0_pay38 (F := Ideal) t v u a z e = w
  pointwise [k0_pay39, hs, hm]
theorem probSink_1 : k0_pay40 (F := Ideal) t v u a z e (ix2 r 0) = probSink (s1 v t u r) (b1 a z e r) := by
  unfold probSink
  rw [← exSink_1, ← den_1]
  generalize hs : k0_pay37 (F := Ideal) t v u a z e = s
  generalize hm : k0_pay38 (F := Ideal) t v u a z e = w
  pointwise [k0_pay40, hs, hm]
theorem weights_1 : k0_pay42 (F := Ideal) (k0_pay39 (F := Ideal) t v u a z e) (k0_pay40 (F := Ideal) t v u a z e) (iota .tc S512x256 32 [1] iota_S512x256_d1_w32) k0_pay41 (ix4 0 0 r k)
    = Scalar.select (IntOp.cmpi .eq (BitVec.ofNat 32 k.val) 0#32) (probSink (s1 v t u r) (b1 a z e r)) (prob (s1 v t u r) (b1 a z e r) k) := by
  rw [← prob_1, ← probSink_1]
  generalize k0_pay39 (F := Ideal) t v u a z e = s
  generalize k0_pay40 (F := Ideal) t v u a z e = w
  pointwise [k0_pay42, k0_pay41]
theorem prod_1 (g : FVec Ideal S256x256 .bf16) (l : Fin 256) : k0_pay43 (F := Ideal) g (k0_pay39 (F := Ideal) t v u a z e) (ix2 r l)
    = ∑ k, prob (s1 v t u r) (b1 a z e r) k * g (ix2 k l) := by
  simp only [← prob_1]
  generalize k0_pay39 (F := Ideal) t v u a z e = p
  pointwise [k0_pay43]
end Second

/-! ## The heads side by side, and the norm -/

theorem unstack_cases (i0 : Fin 128) (i1 : Fin 256) :
    (if i1.val / 64 = 0 then y (ix2 ⟨i0.val, by omega⟩ i1) else 0) + (if i1.val / 64 = 1 then y (ix2 ⟨128 + i0.val, by omega⟩ i1) else 0)
      + (if i1.val / 64 = 2 then y (ix2 ⟨256 + i0.val, by omega⟩ i1) else 0) + (if i1.val / 64 = 3 then y (ix2 ⟨384 + i0.val, by omega⟩ i1) else 0)
      = unstack y (ix2 i0 i1) := by
  show _ = y (ix2 ⟨128 * (i1.val / 64) + i0.val, _⟩ i1)
  have h : i1.val / 64 = 0 ∨ i1.val / 64 = 1 ∨ i1.val / 64 = 2 ∨ i1.val / 64 = 3 := by omega
  rcases h with h | h | h | h <;> simp [h]
theorem unstack_0 : k0_pay26 (F := Ideal) y k0_pay24 k0_pay25 = unstack y := by
  funext i; idx_vars i
  rw [← unstack_cases]
  pointwise [k0_pay26, k0_pay24, k0_pay25]
  simp (disch := omega) only [group, pick]
theorem unstack_1 (g : FVec Ideal S256x256 .bf16) (i : S128x256.Idx) : k0_pay45 (F := Ideal) g y i + k0_pay46 (F := Ideal) g y i = unstack (k0_pay43 (F := Ideal) g y) i := by
  idx_vars i
  rw [← unstack_cases]
  generalize hz : k0_pay43 (F := Ideal) g y = z
  pointwise [k0_pay45, k0_pay46, k0_pay44, hz]
  simp (disch := omega) only [group, pick]
theorem halves (a b c : FVec Ideal S128x256 .f32) (q : Fin 128) (l : Fin 512) : k0_pay1 (F := Ideal) a b c (ix2 q l) =
    if h : l.val < 256 then a (ix2 q ⟨l.val, h⟩) else b (ix2 q ⟨l.val - 256, by omega⟩) + c (ix2 q ⟨l.val - 256, by omega⟩) := by
  pointwise [k0_pay1]
theorem norm (a b c : FVec Ideal S128x256 .f32) (e : FVec Ideal S1x512 .f32) (q : Fin 128) (l : Fin 512) : k0_pay2 (F := Ideal) a b c e (ix2 q l) =
    k0_pay1 (F := Ideal) a b c (ix2 q l) * Ideal.rsqrt (Ideal.div (∑ x, k0_pay1 (F := Ideal) a b c (ix2 q x) * k0_pay1 (F := Ideal) a b c (ix2 q x)) (Ideal.ofBits .f32 0x44000000#32) + Ideal.ofBits .f32 0x358637BD#32) * e (ix2 0 l) := by
  generalize hz : k0_pay1 (F := Ideal) a b c = z
  pointwise [k0_pay2, hz]

end Cert.AttnFwdIdeal.Tile

end
-- ==== Proof.FwdRef.lean ====
/- The reference of the attention's forward call stage by stage: its windows, its masked scores, the rows' softmax with the
   sink, the result, the stored weights and the row norm. -/
module

public import proofs.«01_k».proof.Proof.Gen.AttnOutIdeal.Read
public import Idealize.ShloMosaic.Lib.Pointwise
public import proofs.«01_k».proof.Proof.FwdRows

@[expose] public section

set_option maxRecDepth 16384

noncomputable section

open Idealize.ShloMosaic Idealize.ShloMosaic.TcCoe Idealize.SL.Sem
open scoped BigOperators

namespace Cert.AttnOutIdeal.Value

open Cert.AttnOutIdeal Cert.AttnOutIdeal.Read Cert.Rows

variable (x0 : FVec Ideal S2048x512 .f32) (x1 x2 : FVec Ideal S2048x128 .f32) (x3 : FVec Ideal S1x8 .f32) (x4 : FVec Ideal S1x512 .f32)
  (n : Fin 16) (h : Fin 2) (g : Fin 4) (q : Fin 128) (k : Fin 256) (d : Fin 64) (r : Fin 2048)

theorem word_bot : Ideal.ofBits .f32 0xFF800000#32 = ⊥ := by simp [Ideal.ofBits, Ideal.ieee]

/-- The rows the block `n` attends to: the rows of the block before and its own. -/
def win (x : FVec Ideal S2048x128 .f32) (n : Fin 16) (k : Fin 256) (a : Fin 128) : EReal :=
  if hk : k.val < 128 then (if hn : n.val < 1 then 0 else x (ix2 ⟨(n.val - 1) * 128 + k.val, by omega⟩ a))
  else x (ix2 ⟨n.val * 128 + (k.val - 128), by omega⟩ a)
/-- A head's sink. -/
def sinkOf (h : Fin 2) (g : Fin 4) : EReal := x3 (ix2 0 ⟨h.val * 4 + g.val, by omega⟩)
/-- A row's masked scores. -/
def score (k : Fin 256) : EReal :=
  Scalar.select (sees (BitVec.ofNat 32 n.val) (BitVec.ofNat 32 q.val) (BitVec.ofNat 32 k.val))
    ((∑ x : Fin 64, win x1 n k ⟨h.val * 64 + x.val, by omega⟩ * x0 (ix2 ⟨n.val * 128 + q.val, by omega⟩ ⟨h.val * 256 + g.val * 64 + x.val, by omega⟩))
      * Ideal.ofBits .f32 0x3E000000#32) ⊥

theorem v7_apply : val_main_v7 (F := Ideal) x1 (ix4 n k h d) = win x1 n k ⟨h.val * 64 + d.val, by omega⟩ := by
  unfold win
  pointwise [val_main_v7, val_main_v6, val_main_v5, val_main_v4, val_main_v3, val_main_v2, val_main_cst]
theorem v13_apply : val_main_v13 (F := Ideal) x2 (ix4 n k h d) = win x2 n k ⟨h.val * 64 + d.val, by omega⟩ := by
  unfold win
  pointwise [val_main_v13, val_main_v12, val_main_v11, val_main_v10, val_main_v9, val_main_v8, val_main_cst_0]
theorem v43_apply : val_main_v43 (F := Ideal) (ix3 n q k) = sees (BitVec.ofNat 32 n.val) (BitVec.ofNat 32 q.val) (BitVec.ofNat 32 k.val) := by
  unfold sees
  pointwise [val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_c, val_main_c_1, val_main_c_2, val_main_c_3, val_main_c_4, val_main_c_5]
theorem v45_apply : val_main_v45 (F := Ideal) x0 x1 (ix5 n h k q g) = ∑ x : Fin 64, val_main_v7 (F := Ideal) x1 (ix4 n k h x) * x0 (ix2 ⟨n.val * 128 + q.val, by omega⟩ ⟨h.val * 256 + g.val * 64 + x.val, by omega⟩) := by
  pointwise [val_main_v45, val_main_v1]
theorem v50_at : val_main_v50 (F := Ideal) x0 x1 (ix5 n h g q k) = Scalar.select (val_main_v43 (F := Ideal) (ix3 n q k))
    (val_main_v45 (F := Ideal) x0 x1 (ix5 n h k q g) * Ideal.ofBits .f32 0x3E000000#32) ⊥ := by
  have e := word_bot
  pointwise [val_main_v50, val_main_v49, val_main_v48, val_main_v47, val_main_v46, val_main_cst_6, val_main_call0_v2, val_main_call0_v1, val_main_call0_v0, val_main_cst_7]
  exact congrArg (Scalar.select _ _) e
theorem v50_apply : val_main_v50 (F := Ideal) x0 x1 (ix5 n h g q k) = score x0 x1 n h g q k := by
  rw [v50_at, v43_apply, v45_apply]
  simp only [v7_apply]
  rfl
theorem v51_apply : val_main_v51 (F := Ideal) x0 x1 (ix4 n h g q) = Finset.univ.fold max ⊥ (score x0 x1 n h g q) := by
  have e := word_bot
  have e' := fun k => v50_apply x0 x1 n h g q k
  rw [show score x0 x1 n h g q = fun k => val_main_v50 (F := Ideal) x0 x1 (ix5 n h g q k) from funext fun k => (e' k).symm]
  pointwise [val_main_v51, val_main_cst_8, e]
theorem sink_at : val_main_v44 (F := Ideal) x3 (ix5 0 h g 0 0) = sinkOf x3 h g := by
  unfold sinkOf
  pointwise [val_main_v44, val_main_v0]
theorem v52_idx : idx_main_v52 (ix5 n h g q 0) = ix4 n h g q := by
  funext a; fin_cases a <;> rfl
theorem v53_idx : idx_main_v53 (ix5 n h g q 0) = ix5 0 h g 0 0 := by
  funext a; fin_cases a <;> rfl
theorem v54_at : val_main_v54 (F := Ideal) x0 x1 x3 (ix5 n h g q 0) = max (val_main_v51 (F := Ideal) x0 x1 (ix4 n h g q)) (val_main_v44 (F := Ideal) x3 (ix5 0 h g 0 0)) := by
  rw [val_main_v54_apply, val_main_v52_apply, val_main_v53_apply, v52_idx, v53_idx]
  generalize val_main_v51 (F := Ideal) x0 x1 = y
  generalize val_main_v44 (F := Ideal) x3 = z
  rfl
theorem v54_apply : val_main_v54 (F := Ideal) x0 x1 x3 (ix5 n h g q 0) = top (score x0 x1 n h g q) (sinkOf x3 h g) := by
  rw [v54_at, v51_apply, sink_at]; rfl
theorem v57_at : val_main_v57 (F := Ideal) x0 x1 x3 (ix5 n h g q k) = Ideal.exp (val_main_v50 (F := Ideal) x0 x1 (ix5 n h g q k) - val_main_v54 (F := Ideal) x0 x1 x3 (ix5 n h g q 0)) := by
  pointwise [val_main_v57, val_main_v56, val_main_v55]
theorem v57_apply : val_main_v57 (F := Ideal) x0 x1 x3 (ix5 n h g q k) = ex (score x0 x1 n h g q) (sinkOf x3 h g) k := by
  rw [v57_at, v50_apply, v54_apply]; rfl
theorem v62_at : val_main_v62 (F := Ideal) x0 x1 x3 (ix5 n h g q 0) = Ideal.exp (val_main_v44 (F := Ideal) x3 (ix5 0 h g 0 0) - val_main_v54 (F := Ideal) x0 x1 x3 (ix5 n h g q 0)) := by
  pointwise [val_main_v62, val_main_v61, val_main_v60]
theorem v62_apply : val_main_v62 (F := Ideal) x0 x1 x3 (ix5 n h g q 0) = exSink (score x0 x1 n h g q) (sinkOf x3 h g) := by
  rw [v62_at, sink_at, v54_apply]; rfl
theorem v63_at : val_main_v63 (F := Ideal) x0 x1 x3 (ix5 n h g q 0) = (∑ k, val_main_v57 (F := Ideal) x0 x1 x3 (ix5 n h g q k)) + val_main_v62 (F := Ideal) x0 x1 x3 (ix5 n h g q 0) := by
  pointwise [val_main_v63, val_main_v59, val_main_v58, val_main_cst_9]
theorem v63_apply : val_main_v63 (F := Ideal) x0 x1 x3 (ix5 n h g q 0) = den (score x0 x1 n h g q) (sinkOf x3 h g) := by
  rw [v63_at, v62_apply]; simp only [v57_apply]; rfl
theorem v65_at : val_main_v65 (F := Ideal) x0 x1 x3 (ix5 n h g q k) = Ideal.div (val_main_v57 (F := Ideal) x0 x1 x3 (ix5 n h g q k)) (val_main_v63 (F := Ideal) x0 x1 x3 (ix5 n h g q 0)) := by
  pointwise [val_main_v65, val_main_v64]
theorem v65_apply : val_main_v65 (F := Ideal) x0 x1 x3 (ix5 n h g q k) = prob (score x0 x1 n h g q) (sinkOf x3 h g) k := by
  rw [v65_at, v57_apply, v63_apply]; rfl
theorem v68_at (l : Fin 512) : val_main_v68 (F := Ideal) x0 x1 x2 x3 (ix2 r l) =
    ∑ x, val_main_v13 (F := Ideal) x2 (ix4 ⟨r.val / 128, by omega⟩ x ⟨l.val / 256, by omega⟩ ⟨l.val % 64, by omega⟩)
      * val_main_v65 (F := Ideal) x0 x1 x3 (ix5 ⟨r.val / 128, by omega⟩ ⟨l.val / 256, by omega⟩ ⟨l.val / 64 % 4, by omega⟩ ⟨r.val % 128, by omega⟩ x) := by
  pointwise [val_main_v68, val_main_v67, val_main_v66]
/-- The attention's result: a lane's sum over its window. -/
theorem v68_apply (l : Fin 512) : val_main_v68 (F := Ideal) x0 x1 x2 x3 (ix2 r l) =
    ∑ x, win x2 ⟨r.val / 128, by omega⟩ x ⟨l.val / 256 * 64 + l.val % 64, by omega⟩
      * prob (score x0 x1 ⟨r.val / 128, by omega⟩ ⟨l.val / 256, by omega⟩ ⟨l.val / 64 % 4, by omega⟩ ⟨r.val % 128, by omega⟩)
          (sinkOf x3 ⟨l.val / 256, by omega⟩ ⟨l.val / 64 % 4, by omega⟩) x := by
  rw [v68_at]; simp only [v13_apply, v65_apply]
/-- The norm of the rows. -/
theorem v83_apply (l : Fin 512) : val_main_v83 (F := Ideal) x0 x1 x2 x3 x4 (ix2 r l) =
    val_main_v68 (F := Ideal) x0 x1 x2 x3 (ix2 r l)
      * Ideal.rsqrt (Ideal.div (∑ x, val_main_v68 (F := Ideal) x0 x1 x2 x3 (ix2 r x) * val_main_v68 (F := Ideal) x0 x1 x2 x3 (ix2 r x)) (Ideal.ofBits .f32 0x44000000#32) + Ideal.ofBits .f32 0x358637BD#32)
      * x4 (ix2 0 l) := by
  pointwise [val_main_v83, val_main_v82, val_main_v81, val_main_v80, val_main_v79, val_main_v78, val_main_v77, val_main_v76, val_main_v75, val_main_v74, val_main_v73, val_main_v72, val_main_v71, val_main_v70, val_main_v69, val_main_cst_10, val_main_cst_11, val_main_cst_12]

/-! ## The stored weights -/

theorem again_ex : val_main_v135 (F := Ideal) x0 x1 x3 = val_main_v57 (F := Ideal) x0 x1 x3 := rfl
theorem again_sink : val_main_v138 (F := Ideal) x0 x1 x3 = val_main_v62 (F := Ideal) x0 x1 x3 := rfl
theorem again_den : val_main_v141 (F := Ideal) x0 x1 x3 = val_main_v63 (F := Ideal) x0 x1 x3 := rfl
theorem v148_at (s : Fin 512) : val_main_v148 (F := Ideal) x0 x1 x3 (ix4 n h s k) =
    Scalar.select (IntOp.cmpi .eq (BitVec.ofNat 32 k.val) 0#32)
      (Ideal.div (val_main_v138 (F := Ideal) x0 x1 x3 (ix5 n h ⟨s.val / 128, by omega⟩ ⟨s.val % 128, by omega⟩ 0)) (val_main_v141 (F := Ideal) x0 x1 x3 (ix5 n h ⟨s.val / 128, by omega⟩ ⟨s.val % 128, by omega⟩ 0)))
      (Ideal.div (val_main_v135 (F := Ideal) x0 x1 x3 (ix5 n h ⟨s.val / 128, by omega⟩ ⟨s.val % 128, by omega⟩ k)) (val_main_v141 (F := Ideal) x0 x1 x3 (ix5 n h ⟨s.val / 128, by omega⟩ ⟨s.val % 128, by omega⟩ 0))) := by
  pointwise [val_main_v148, val_main_v147, val_main_v146, val_main_v145, val_main_v144, val_main_v143, val_main_v142, val_main_c_24, val_main_v95, val_main_v94, val_main_call2_v0, val_main_call2_v1]
theorem v148_apply (s : Fin 512) : val_main_v148 (F := Ideal) x0 x1 x3 (ix4 n h s k) =
    Scalar.select (IntOp.cmpi .eq (BitVec.ofNat 32 k.val) 0#32)
      (probSink (score x0 x1 n h ⟨s.val / 128, by omega⟩ ⟨s.val % 128, by omega⟩) (sinkOf x3 h ⟨s.val / 128, by omega⟩))
      (prob (score x0 x1 n h ⟨s.val / 128, by omega⟩ ⟨s.val % 128, by omega⟩) (sinkOf x3 h ⟨s.val / 128, by omega⟩) k) := by
  rw [v148_at, again_ex, again_sink, again_den, v57_apply, v62_apply, v63_apply]; rfl

end Cert.AttnOutIdeal.Value

end
-- ==== Proof.FwdValue.lean ====
/- The three results of the attention's forward call are those of the reference. -/
module

public import proofs.«01_k».proof.Proof.Gen.AttnFwdIdeal.Value
public import proofs.«01_k».proof.Proof.FwdTile
public import proofs.«01_k».proof.Proof.FwdRef
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem
open scoped BigOperators

namespace Cert.AttnFwdIdeal.Fwd

open Cert.AttnFwdIdeal Cert.AttnFwdIdeal.Gen Cert.AttnFwdIdeal.Tile Cert.Rows
open Cert.AttnOutIdeal.Value (win sinkOf score v68_apply v83_apply v148_apply)
open Cert.AttnOutIdeal.Read (val_main_v68 val_main_v83 val_main_v148)

variable (m : (ℓ : Loc nD τ sig) → Buf (Elt Ideal) ℓ) (c : Dev nD)
abbrev X0 : FVec Ideal S2048x512 .f32 := m ((c : Thread nD τ).loc main_arg0)
abbrev X1 : FVec Ideal S2048x128 .f32 := m ((c : Thread nD τ).loc main_arg1)
abbrev X2 : FVec Ideal S2048x128 .f32 := m ((c : Thread nD τ).loc main_arg2)
abbrev X3 : FVec Ideal S1x8 .f32 := m ((c : Thread nD τ).loc main_arg3)
abbrev X4 : FVec Ideal S1x512 .f32 := m ((c : Thread nD τ).loc main_arg4)

theorem V0 : V m c main_v0 = truncf .bf16 (X0 m c) bitsLt_bf16_f32 := by
  after_reads_simp
theorem V1 : V m c main_v1 = truncf .bf16 (X1 m c) bitsLt_bf16_f32 := by
  after_reads_simp
theorem V2 : V m c main_v2 = truncf .bf16 (X2 m c) bitsLt_bf16_f32 := by
  after_reads_simp
theorem V3 : V m c main_v3 = shapeCast S8 (X3 m c) shapeCasts_S1x8_S8 := by
  after_reads_simp
  rfl

theorem idx : ∀ t : Fin cfg0.N, win0_0.index t = ![t.val, 0] ∧ win0_1.index t = ![t.val - 1, 0] ∧ win0_2.index t = ![t.val, 0]
    ∧ win0_3.index t = ![t.val - 1, 0] ∧ win0_4.index t = ![t.val, 0] ∧ win0_5.index t = ![0]
    ∧ win0_6.index t = ![0, 0] ∧ win0_7.index t = ![t.val, 0] ∧ win0_8.index t = ![t.val, 0] ∧ win0_9.index t = ![t.val, 0, 0, 0] :=
  (by decide +kernel : ∀ t : Fin grid0.N, _)
theorem t_lt (t : Fin cfg0.N) : t.val < 16 := t.isLt
theorem coord : ∀ t : Fin cfg0.N, (grid0.coords t 0).val = t.val := (by decide +kernel : ∀ t : Fin grid0.N, _)
/-- Row `r` of block `t`. -/
def row (t : Fin cfg0.N) (r : Fin 128) : Fin 2048 := ⟨t.val * 128 + r.val, by have := t_lt t; omega⟩
/-- Row `r` of the block before. -/
def before (t : Fin cfg0.N) (r : Fin 128) : Fin 2048 := ⟨(t.val - 1) * 128 + r.val, by have := t_lt t; omega⟩
def at' (t : Fin cfg0.N) : Fin 16 := ⟨t.val, t_lt t⟩
variable (t : Fin cfg0.N) (r : Fin 128)
theorem emb0 (k : Fin 512) : ((cfg0.win 0).blk t).view.emb (ix2 r k) = ix2 (row t r) k := by blk_ext [idx t, row]
theorem emb1 (k : Fin 128) : ((cfg0.win 1).blk t).view.emb (ix2 r k) = ix2 (before t r) k := by blk_ext [idx t, before]
theorem emb2 (k : Fin 128) : ((cfg0.win 2).blk t).view.emb (ix2 r k) = ix2 (row t r) k := by blk_ext [idx t, row]
theorem emb3 (k : Fin 128) : ((cfg0.win 3).blk t).view.emb (ix2 r k) = ix2 (before t r) k := by blk_ext [idx t, before]
theorem emb4 (k : Fin 128) : ((cfg0.win 4).blk t).view.emb (ix2 r k) = ix2 (row t r) k := by blk_ext [idx t, row]
theorem emb5 (k : Fin 8) : ((cfg0.win 5).blk t).view.emb (ix1 k) = ix1 k := by blk_ext [idx t]
theorem emb6 (k : Fin 512) : ((cfg0.win 6).blk t).view.emb (ix2 0 k) = ix2 0 k := by blk_ext [idx t]
theorem emb7 (k : Fin 512) : ((cfg0.win 7).blk t).view.emb (ix2 r k) = ix2 (row t r) k := by blk_ext [idx t, row]
theorem emb8 (k : Fin 512) : ((cfg0.win 8).blk t).view.emb (ix2 r k) = ix2 (row t r) k := by blk_ext [idx t, row]
theorem emb9 (h : Fin 2) (s : Fin 512) (k : Fin 256) : ((cfg0.win 9).blk t).view.emb (ix4 0 h s k) = ix4 (at' t) h s k := by blk_ext [idx t, at']

theorem q_block (k : Fin 512) : iblk m c 0 t (ix2 r k) = X0 m c (ix2 (row t r) k) := by
  show V m c main_v0 (((cfg0.win 0).blk t).view.emb _) = _
  rw [emb0, V0]; rfl
theorem kb_block (k : Fin 128) : iblk m c 1 t (ix2 r k) = X1 m c (ix2 (before t r) k) := by
  show V m c main_v1 (((cfg0.win 1).blk t).view.emb _) = _
  rw [emb1, V1]; rfl
theorem kc_block (k : Fin 128) : iblk m c 2 t (ix2 r k) = X1 m c (ix2 (row t r) k) := by
  show V m c main_v1 (((cfg0.win 2).blk t).view.emb _) = _
  rw [emb2, V1]; rfl
theorem vb_block (k : Fin 128) : iblk m c 3 t (ix2 r k) = X2 m c (ix2 (before t r) k) := by
  show V m c main_v2 (((cfg0.win 3).blk t).view.emb _) = _
  rw [emb3, V2]; rfl
theorem vc_block (k : Fin 128) : iblk m c 4 t (ix2 r k) = X2 m c (ix2 (row t r) k) := by
  show V m c main_v2 (((cfg0.win 4).blk t).view.emb _) = _
  rw [emb4, V2]; rfl
theorem sink_block (k : Fin 8) : iblk m c 5 t (ix1 k) = X3 m c (ix2 0 k) := by
  show V m c main_v3 (((cfg0.win 5).blk t).view.emb _) = _
  rw [emb5, V3]
  generalize X3 m c = x
  pointwise []
theorem g_block (k : Fin 512) : iblk m c 6 t (ix2 0 k) = X4 m c (ix2 0 k) := by
  show V m c main_arg4 (((cfg0.win 6).blk t).view.emb _) = _
  rw [emb6, V_main_arg4]

/-! ## A grid point's tile -/

/-- Half `j` of the queries' lanes. -/
def half (j : Fin 2) (x : FVec Ideal S128x512 .bf16) : FVec Ideal S128x256 .bf16 := fun i => x (ix2 (i 0) ⟨256 * j.val + (i 1).val, by
  have h : (i 1).val < 256 := (i 1).isLt
  omega⟩)
section Tiles
variable (Q : FVec Ideal S128x512 .bf16) (Kb Kc Vb Vc : FVec Ideal S128x128 .bf16) (K : FVec Ideal S8 .f32) (G : FVec Ideal S1x512 .f32) (T : ℕ)
theorem load_half_0 (inb) : View.ld (Val := Elt Ideal) (e' := .bf16) Q (Rect.unit ![0, 0] ![128, 256] inb) = half 0 Q := by
  funext i; idx_vars i
  pointwise [half]
theorem load_half_1 (inb) : View.ld (Val := Elt Ideal) (e' := .bf16) Q (Rect.unit ![0, 256] ![128, 256] inb) = half 1 Q := by
  funext i; idx_vars i
  pointwise [half]
theorem load_sink (n : ℕ) (hn : n < 8) (inb) (h) : View.ld (Val := Elt Ideal) (e' := .f32) K (Rect.unit (s := S8) ![n] ![1] inb) (Shape.Idx.first h) = K (ix1 ⟨n, hn⟩) := by
  refine congrArg K (funext fun a => ?_)
  fin_cases a
  exact Fin.ext (show n + 1 * 0 = n by omega)

abbrev A : BitVec 32 := BitVec.ofNat 32 T
abbrev lanes : IVec S512x256 32 := iota .tc S512x256 32 [1] iota_S512x256_d1_w32
abbrev H0 : FVec Ideal S128x256 .bf16 := View.ld (Val := Elt Ideal) (e' := .bf16) Q (Rect.unit ![0, 0] ![128, 256] inb_S128x512_S128x256_0_0)
abbrev H1 : FVec Ideal S128x256 .bf16 := View.ld (Val := Elt Ideal) (e' := .bf16) Q (Rect.unit ![0, 256] ![128, 256] inb_S128x512_S128x256_0_256)
abbrev SC0 : FVec Ideal S512x256 .f32 := k0_pay14 (F := Ideal) (k0_pay6 (F := Ideal) Kb Kc) (k0_pay8 (F := Ideal) (H0 Q)) k0_pay9 (k0_pay10 (F := Ideal) (H0 Q)) (k0_pay11 (F := Ideal)) k0_pay12
abbrev Z0 : FVec Ideal S512x1 .f32 := k0_pay13 (F := Ideal) (View.ld (Val := Elt Ideal) (e' := .f32) K (Rect.unit ![0] ![1] inb_S8_S1_0) (Shape.Idx.first (by decide)))
  (View.ld (Val := Elt Ideal) (e' := .f32) K (Rect.unit ![1] ![1] inb_S8_S1_1) (Shape.Idx.first (by decide)))
  (View.ld (Val := Elt Ideal) (e' := .f32) K (Rect.unit ![2] ![1] inb_S8_S1_2) (Shape.Idx.first (by decide)))
  (View.ld (Val := Elt Ideal) (e' := .f32) K (Rect.unit ![3] ![1] inb_S8_S1_3) (Shape.Idx.first (by decide)))
abbrev Z1 : FVec Ideal S512x1 .f32 := k0_pay32 (F := Ideal) (View.ld (Val := Elt Ideal) (e' := .f32) K (Rect.unit ![4] ![1] inb_S8_S1_4) (Shape.Idx.first (by decide)))
  (View.ld (Val := Elt Ideal) (e' := .f32) K (Rect.unit ![5] ![1] inb_S8_S1_5) (Shape.Idx.first (by decide)))
  (View.ld (Val := Elt Ideal) (e' := .f32) K (Rect.unit ![6] ![1] inb_S8_S1_6) (Shape.Idx.first (by decide)))
abbrev E1 : EReal := View.ld (Val := Elt Ideal) (e' := .f32) K (Rect.unit ![7] ![1] inb_S8_S1_7) (Shape.Idx.first (by decide))
abbrev P1 : FVec Ideal S512x256 .f32 := k0_pay39 (F := Ideal) (A T) (k0_pay28 (F := Ideal) (k0_pay3 (F := Ideal) Kb Kc)) (k0_pay30 (F := Ideal) (H1 Q)) k0_pay31 (Z1 K) (E1 K)
abbrev PS1 : FVec Ideal S512x1 .f32 := k0_pay40 (F := Ideal) (A T) (k0_pay28 (F := Ideal) (k0_pay3 (F := Ideal) Kb Kc)) (k0_pay30 (F := Ideal) (H1 Q)) k0_pay31 (Z1 K) (E1 K)
abbrev O0 : FVec Ideal S128x256 .f32 := k0_pay26 (F := Ideal) (k0_pay23 (F := Ideal) (A T) (k0_pay7 (F := Ideal) Vb Vc) (Z0 K) (SC0 Q Kb Kc) lanes k0_pay15) k0_pay24 k0_pay25
abbrev O1a : FVec Ideal S128x256 .f32 := k0_pay45 (F := Ideal) (k0_pay29 (F := Ideal) (k0_pay4 (F := Ideal) Vb Vc)) (P1 Q Kb Kc K T)
abbrev O1b : FVec Ideal S128x256 .f32 := k0_pay46 (F := Ideal) (k0_pay29 (F := Ideal) (k0_pay4 (F := Ideal) Vb Vc)) (P1 Q Kb Kc K T)
abbrev OO : FVec Ideal S128x512 .f32 := k0_pay1 (F := Ideal) (O0 Q Kb Kc Vb Vc K T) (O1a Q Kb Kc Vb Vc K T) (O1b Q Kb Kc Vb Vc K T)
abbrev NN : FVec Ideal S128x512 .bf16 := k0_pay2 (F := Ideal) (O0 Q Kb Kc Vb Vc K T) (O1a Q Kb Kc Vb Vc K T) (O1b Q Kb Kc Vb Vc K T) G
abbrev W0 : FVec Ideal S1x1x512x256 .f32 := k0_pay22 (F := Ideal) (A T) (Z0 K) (SC0 Q Kb Kc) lanes k0_pay15
abbrev W1 : FVec Ideal S1x1x512x256 .f32 := k0_pay42 (F := Ideal) (P1 Q Kb Kc K T) (PS1 Q Kb Kc K T) lanes k0_pay41

/-- A stacked row's masked scores. -/
def krow (j : Fin 2) (r : Fin 512) (k : Fin 256) : EReal :=
  Scalar.select (sees (A T) (BitVec.ofNat 32 (r.val % 128)) (BitVec.ofNat 32 k.val))
    (dots (half j Q) (spread j.val j.isLt (k0_pay3 (F := Ideal) Kb Kc)) r k * C) ⊥
/-- A stacked row's sink. -/
def ksink (j : Fin 2) (r : Fin 512) : EReal := K (ix1 ⟨4 * j.val + r.val / 128, by omega⟩)
theorem row_0 (r : Fin 512) : s0 (SC0 Q Kb Kc) (A T) lanes k0_pay15 r = krow Q Kb Kc T 0 r := by
  funext k
  refine (masked_0 _ _ r k).trans ?_
  unfold SC0 H0
  rw [scores_0, spread_k0, load_half_0]; rfl
theorem row_1 (r : Fin 512) : s1 (k0_pay28 (F := Ideal) (k0_pay3 (F := Ideal) Kb Kc)) (A T) (k0_pay30 (F := Ideal) (H1 Q)) r = krow Q Kb Kc T 1 r := by
  funext k
  refine (masked_1 _ _ _ r k).trans ?_
  rw [spread_k1, H1, load_half_1]; rfl
theorem four (r : Fin 512) (j : Fin 2) : sinks (K (ix1 ⟨4 * j.val + 0, by omega⟩)) (K (ix1 ⟨4 * j.val + 1, by omega⟩)) (K (ix1 ⟨4 * j.val + 2, by omega⟩)) (K (ix1 ⟨4 * j.val + 3, by omega⟩)) r = ksink K j r := by
  have h : r.val / 128 = 0 ∨ r.val / 128 = 1 ∨ r.val / 128 = 2 ∨ r.val / 128 = 3 := by omega
  unfold sinks ksink
  rcases h with h | h | h | h <;> simp [h]
theorem sink_0 (r : Fin 512) : Z0 K (ix2 r 0) = ksink K 0 r := by
  refine (sinks_0 _ _ _ _ r).trans ?_
  rw [load_sink K 0 (by decide), load_sink K 1 (by decide), load_sink K 2 (by decide), load_sink K 3 (by decide)]
  exact four K r 0
theorem sink_1 (r : Fin 512) : b1 k0_pay31 (Z1 K) (E1 K) r = ksink K 1 r := by
  refine (sinks_1 _ _ _ _ r).trans ?_
  rw [load_sink K 4 (by decide), load_sink K 5 (by decide), load_sink K 6 (by decide), E1, load_sink K 7 (by decide)]
  exact four K r 1

/-- A lane of half `j` of the result. -/
def outAt (j : Fin 2) (q : Fin 128) (l : Fin 256) : EReal :=
  ∑ k : Fin 256, prob (krow Q Kb Kc T j ⟨128 * (l.val / 64) + q.val, by omega⟩) (ksink K j ⟨128 * (l.val / 64) + q.val, by omega⟩) k
    * k0_pay4 (F := Ideal) Vb Vc (ix2 k ⟨64 * j.val + l.val % 64, by omega⟩)
theorem out_lo (q : Fin 128) (l : Fin 256) : OO Q Kb Kc Vb Vc K T (ix2 q ⟨256 * (0 : Fin 2).val + l.val, by simp; omega⟩) = outAt Q Kb Kc Vb Vc K T 0 q l := by
  have hl : 256 * (0 : Fin 2).val + l.val < 256 := by simp
  refine (halves _ _ _ q _).trans ?_
  rw [dif_pos hl, show (⟨256 * (0 : Fin 2).val + l.val, hl⟩ : Fin 256) = l from Fin.ext (by simp), O0, unstack_0]
  refine (prod_0 _ _ _ _ _ _ _ l).trans ?_
  rw [row_0, sink_0, spread_v0]
  rfl
theorem out_hi (q : Fin 128) (l : Fin 256) : OO Q Kb Kc Vb Vc K T (ix2 q ⟨256 * (1 : Fin 2).val + l.val, by simp; omega⟩) = outAt Q Kb Kc Vb Vc K T 1 q l := by
  have hl : ¬ 256 * (1 : Fin 2).val + l.val < 256 := by simp
  refine (halves _ _ _ q _).trans ?_
  rw [dif_neg hl, show (⟨256 * (1 : Fin 2).val + l.val - 256, by simp⟩ : Fin 256) = l from Fin.ext (by simp), unstack_1]
  refine (prod_1 _ _ _ _ _ _ _ _ l).trans ?_
  rw [row_1, sink_1, spread_v1]
  rfl
/-- A stored weight. -/
def weightAt (j : Fin 2) (s : Fin 512) (k : Fin 256) : EReal :=
  Scalar.select (IntOp.cmpi .eq (BitVec.ofNat 32 k.val) 0#32) (probSink (krow Q Kb Kc T j s) (ksink K j s)) (prob (krow Q Kb Kc T j s) (ksink K j s) k)
theorem w_0 (s : Fin 512) (k : Fin 256) : W0 Q Kb Kc K T (ix4 0 0 s k) = weightAt Q Kb Kc K T 0 s k := by
  refine (weights_0 _ _ _ _ _ s k).trans ?_
  rw [row_0, sink_0]; rfl
theorem w_1 (s : Fin 512) (k : Fin 256) : W1 Q Kb Kc K T (ix4 0 0 s k) = weightAt Q Kb Kc K T 1 s k := by
  refine (weights_1 _ _ _ _ _ _ s k).trans ?_
  rw [row_1, sink_1]; rfl
end Tiles

/-! ## The tile of point `t` is the reference's block `t` -/

theorem sees_first (q : BitVec 32) (k : Fin 256) (h : k.val < 128) : sees (BitVec.ofNat 32 0) q (BitVec.ofNat 32 k.val) = 0#1 := by
  have e : ∀ k : Fin 256, k.val < 128 → IntOp.cmpi .sge (IntOp.addi (IntOp.subi (IntOp.muli (BitVec.ofNat 32 0) 128#32) 128#32) (BitVec.ofNat 32 k.val)) 0#32 = 0#1 := by decide +kernel
  unfold sees
  rw [e k h]
  exact BitVec.and_zero

section Points
abbrev Qb : FVec Ideal S128x512 .bf16 := iblk m c 0 t
abbrev KB : FVec Ideal S128x128 .bf16 := iblk m c 1 t
abbrev KC : FVec Ideal S128x128 .bf16 := iblk m c 2 t
abbrev VB : FVec Ideal S128x128 .bf16 := iblk m c 3 t
abbrev VC : FVec Ideal S128x128 .bf16 := iblk m c 4 t
abbrev SK : FVec Ideal S8 .f32 := iblk m c 5 t
abbrev GB : FVec Ideal S1x512 .f32 := iblk m c 6 t

theorem before_eq (h : t.val ≠ 0) (r : Fin 128) (hr : (t.val - 1) * 128 + r.val < 2048) : before t r = ⟨((at' t).val - 1) * 128 + r.val, hr⟩ := rfl
theorem kwin (k : Fin 256) (a : Fin 128) (h : ¬ (t.val = 0 ∧ k.val < 128)) : k0_pay3 (F := Ideal) (KB m c t) (KC m c t) (ix2 k a) = win (X1 m c) (at' t) k a := by
  rw [window_k]; unfold win
  by_cases hk : k.val < 128
  · have h1 : ¬ (at' t).val < 1 := by show ¬ t.val < 1; omega
    rw [dif_pos hk, dif_pos hk, dif_neg h1]; exact kb_block m c t ⟨k.val, hk⟩ a
  · rw [dif_neg hk, dif_neg hk]; exact kc_block m c t ⟨k.val - 128, by omega⟩ a
theorem vwin (k : Fin 256) (a : Fin 128) (h : ¬ (t.val = 0 ∧ k.val < 128)) : k0_pay4 (F := Ideal) (VB m c t) (VC m c t) (ix2 k a) = win (X2 m c) (at' t) k a := by
  rw [window_v]; unfold win
  by_cases hk : k.val < 128
  · have h1 : ¬ (at' t).val < 1 := by show ¬ t.val < 1; omega
    rw [dif_pos hk, dif_pos hk, dif_neg h1]; exact vb_block m c t ⟨k.val, hk⟩ a
  · rw [dif_neg hk, dif_neg hk]; exact vc_block m c t ⟨k.val - 128, by omega⟩ a
theorem sel_zero (a b : EReal) : Scalar.select 0#1 a b = b := rfl
theorem row_eq (j : Fin 2) (g : Fin 4) (q : Fin 128) : krow (Qb m c t) (KB m c t) (KC m c t) t.val j ⟨128 * g.val + q.val, by omega⟩ = score (X0 m c) (X1 m c) (at' t) j g q := by
  funext k
  have e1 : (128 * g.val + q.val) % 128 = q.val := by omega
  have e2 : (128 * g.val + q.val) / 128 = g.val := by omega
  have e3 : (at' t).val = t.val := rfl
  unfold krow score
  simp only [e1, e3, A]
  by_cases hk : t.val = 0 ∧ k.val < 128
  · have z : ∀ w, sees (BitVec.ofNat 32 t.val) w (BitVec.ofNat 32 k.val) = 0#1 := fun w => by rw [hk.1]; exact sees_first w k hk.2
    rw [z, sel_zero, sel_zero]
  · unfold dots C
    refine congrArg (fun y => Scalar.select _ (y * Ideal.ofBits .f32 0x3E000000#32) ⊥) ?_
    refine Finset.sum_congr rfl fun d _ => ?_
    simp only [e1, e2]
    have a1 : spread j.val j.isLt (k0_pay3 (F := Ideal) (KB m c t) (KC m c t)) (ix2 k ⟨64 * g.val + d.val, by omega⟩) = win (X1 m c) (at' t) k ⟨j.val * 64 + d.val, by omega⟩ := by
      rw [← kwin m c t k _ hk]
      exact congrArg (fun a => k0_pay3 (F := Ideal) (KB m c t) (KC m c t) (ix2 k a)) (Fin.ext (by show 64 * j.val + (64 * g.val + d.val) % 64 = j.val * 64 + d.val; omega))
    have a2 : half j (Qb m c t) (ix2 q ⟨64 * g.val + d.val, by omega⟩) = X0 m c (ix2 ⟨(at' t).val * 128 + q.val, by have := (at' t).isLt; omega⟩ ⟨j.val * 256 + g.val * 64 + d.val, by omega⟩) := by
      refine (q_block m c t q _).trans ?_
      exact congrArg (fun a => X0 m c (ix2 (row t q) a)) (Fin.ext (by show 256 * j.val + (64 * g.val + d.val) = j.val * 256 + g.val * 64 + d.val; omega))
    rw [mul_comm (G := EReal)]
    exact congrArg₂ (· * ·) a1 a2
theorem sink_eq (j : Fin 2) (g : Fin 4) (q : Fin 128) : ksink (SK m c t) j ⟨128 * g.val + q.val, by omega⟩ = sinkOf (X3 m c) j g := by
  unfold ksink sinkOf
  refine (sink_block m c t _).trans ?_
  exact congrArg (fun a => X3 m c (ix2 0 a)) (Fin.ext (by show 4 * j.val + (128 * g.val + q.val) / 128 = j.val * 4 + g.val; omega))
theorem first_masked (h0 : t.val = 0) (j : Fin 2) (g : Fin 4) (q : Fin 128) (k : Fin 256) (hk : k.val < 128) : score (X0 m c) (X1 m c) (at' t) j g q k = ⊥ := by
  unfold score
  have z : ∀ w, sees (BitVec.ofNat 32 (at' t).val) w (BitVec.ofNat 32 k.val) = 0#1 := fun w => by
    show sees (BitVec.ofNat 32 t.val) w _ = _
    rw [h0]; exact sees_first w k hk
  rw [z, sel_zero]
theorem out_eq (j : Fin 2) (q : Fin 128) (l : Fin 256) : outAt (Qb m c t) (KB m c t) (KC m c t) (VB m c t) (VC m c t) (SK m c t) t.val j q l
    = val_main_v68 (F := Ideal) (X0 m c) (X1 m c) (X2 m c) (X3 m c) (ix2 (row t q) ⟨256 * j.val + l.val, by omega⟩) := by
  have n1 : (⟨(row t q).val / 128, by have := (row t q).isLt; omega⟩ : Fin 16) = at' t := Fin.ext (by show (t.val * 128 + q.val) / 128 = t.val; omega)
  have n2 : (⟨(row t q).val % 128, by omega⟩ : Fin 128) = q := Fin.ext (by show (t.val * 128 + q.val) % 128 = q.val; omega)
  have n3 : (⟨(256 * j.val + l.val) / 256, by omega⟩ : Fin 2) = j := Fin.ext (by show (256 * j.val + l.val) / 256 = j.val; omega)
  have n4 : (⟨(256 * j.val + l.val) / 64 % 4, by omega⟩ : Fin 4) = ⟨l.val / 64, by omega⟩ := Fin.ext (by show (256 * j.val + l.val) / 64 % 4 = l.val / 64; omega)
  have n5 : (⟨(256 * j.val + l.val) / 256 * 64 + (256 * j.val + l.val) % 64, by omega⟩ : Fin 128) = ⟨64 * j.val + l.val % 64, by omega⟩ := Fin.ext (by show (256 * j.val + l.val) / 256 * 64 + (256 * j.val + l.val) % 64 = 64 * j.val + l.val % 64; omega)
  rw [v68_apply]
  simp only [n1, n2, n3, n4, n5]
  unfold outAt
  have r1 := row_eq m c t j ⟨l.val / 64, by omega⟩ q
  have r2 := sink_eq m c t j ⟨l.val / 64, by omega⟩ q
  simp only [r1, r2]
  by_cases h0 : t.val = 0
  · have w1 : ∀ k : Fin 256, k0_pay4 (F := Ideal) (VB m c t) (VC m c t) (ix2 k ⟨64 * j.val + l.val % 64, by omega⟩)
        = (fun r : Fin 128 => X2 m c (ix2 (row t r) ⟨64 * j.val + l.val % 64, by omega⟩)) ⟨k.val % 128, by omega⟩ := by
      intro k
      rw [window_v]
      by_cases hk : k.val < 128
      · rw [dif_pos hk]
        refine (vb_block m c t ⟨k.val, hk⟩ _).trans ?_
        exact congrArg (fun a => X2 m c (ix2 a _)) (Fin.ext (by show (t.val - 1) * 128 + k.val = t.val * 128 + k.val % 128; omega))
      · rw [dif_neg hk]
        refine (vc_block m c t ⟨k.val - 128, by omega⟩ _).trans ?_
        exact congrArg (fun a => X2 m c (ix2 a _)) (Fin.ext (by show t.val * 128 + (k.val - 128) = t.val * 128 + k.val % 128; omega))
    have w2 : ∀ k : Fin 256, win (X2 m c) (at' t) k ⟨64 * j.val + l.val % 64, by omega⟩
        = if k.val < 128 then 0 else (fun r : Fin 128 => X2 m c (ix2 (row t r) ⟨64 * j.val + l.val % 64, by omega⟩)) ⟨k.val % 128, by omega⟩ := by
      intro k
      unfold win
      by_cases hk : k.val < 128
      · have h1 : (at' t).val < 1 := by show t.val < 1; omega
        rw [dif_pos hk, dif_pos h1, if_pos hk]
      · rw [dif_neg hk, if_neg hk]
        exact congrArg (fun a => X2 m c (ix2 a _)) (Fin.ext (by show t.val * 128 + (k.val - 128) = t.val * 128 + k.val % 128; omega))
    simp only [w1, w2]
    refine (first_block _ _ (fun k hk => first_masked m c t h0 j ⟨l.val / 64, by omega⟩ q k hk) (fun r : Fin 128 => X2 m c (ix2 (row t r) ⟨64 * j.val + l.val % 64, by omega⟩))).trans ?_
    exact Finset.sum_congr rfl fun k _ => mul_comm (G := EReal) _ _
  · refine Finset.sum_congr rfl fun k _ => ?_
    rw [vwin m c t k _ (by tauto), mul_comm (G := EReal)]
theorem o_eq (q : Fin 128) (l : Fin 512) : OO (Qb m c t) (KB m c t) (KC m c t) (VB m c t) (VC m c t) (SK m c t) t.val (ix2 q l)
    = val_main_v68 (F := Ideal) (X0 m c) (X1 m c) (X2 m c) (X3 m c) (ix2 (row t q) l) := by
  by_cases h : l.val < 256
  · have e := (out_lo (Qb m c t) (KB m c t) (KC m c t) (VB m c t) (VC m c t) (SK m c t) t.val q ⟨l.val, h⟩).trans (out_eq m c t 0 q ⟨l.val, h⟩)
    have e' : (⟨256 * (0 : Fin 2).val + l.val, by simp⟩ : Fin 512) = l := Fin.ext (by simp)
    simp only [e'] at e
    exact e
  · have e := (out_hi (Qb m c t) (KB m c t) (KC m c t) (VB m c t) (VC m c t) (SK m c t) t.val q ⟨l.val - 256, by omega⟩).trans (out_eq m c t 1 q ⟨l.val - 256, by omega⟩)
    have e' : (⟨256 * (1 : Fin 2).val + (l.val - 256), by simp; omega⟩ : Fin 512) = l := Fin.ext (by simp; omega)
    simp only [e'] at e
    exact e
theorem n_eq (q : Fin 128) (l : Fin 512) : NN (Qb m c t) (KB m c t) (KC m c t) (VB m c t) (VC m c t) (SK m c t) (GB m c t) t.val (ix2 q l)
    = val_main_v83 (F := Ideal) (X0 m c) (X1 m c) (X2 m c) (X3 m c) (X4 m c) (ix2 (row t q) l) := by
  refine (norm _ _ _ _ q l).trans ?_
  rw [v83_apply]
  have e := fun l => o_eq m c t q l
  simp only [OO] at e
  simp only [e]
  exact congrArg (fun y => _ * y) (g_block m c t l)
theorem w_eq (j : Fin 2) (s : Fin 512) (k : Fin 256) : weightAt (Qb m c t) (KB m c t) (KC m c t) (SK m c t) t.val j s k
    = val_main_v148 (F := Ideal) (X0 m c) (X1 m c) (X3 m c) (ix4 (at' t) j s k) := by
  rw [v148_apply]
  unfold weightAt
  have r1 := row_eq m c t j ⟨s.val / 128, by omega⟩ ⟨s.val % 128, by omega⟩
  have r2 := sink_eq m c t j ⟨s.val / 128, by omega⟩ ⟨s.val % 128, by omega⟩
  have e : (⟨128 * (s.val / 128) + s.val % 128, by omega⟩ : Fin 512) = s := Fin.ext (by show 128 * (s.val / 128) + s.val % 128 = s.val; omega)
  simp only [e] at r1 r2
  rw [r1, r2]
end Points

/-! ## The results -/

theorem final7 : (dats m 0 c).arrAt 7 (cfgs 0).N = val_main_v68 (F := Ideal) (X0 m c) (X1 m c) (X2 m c) (X3 m c) := by
  refine (dats m 0 c).arrAt_eq_of_covers 7 _ (by decide +kernel) fun t hf y => ?_
  blk_simp; rw [after0_7]
  idx_vars y
  rw [emb7]
  unfold outsAt0; frame_out
  rw [coord]
  exact o_eq m c t y0 y1
theorem final8 : (dats m 0 c).arrAt 8 (cfgs 0).N = val_main_v83 (F := Ideal) (X0 m c) (X1 m c) (X2 m c) (X3 m c) (X4 m c) := by
  refine (dats m 0 c).arrAt_eq_of_covers 8 _ (by decide +kernel) fun t hf y => ?_
  blk_simp; rw [after0_8]
  idx_vars y
  rw [emb8]
  unfold outsAt0; frame_out
  rw [coord]
  exact n_eq m c t y0 y1
theorem final9 : (dats m 0 c).arrAt 9 (cfgs 0).N = val_main_v148 (F := Ideal) (X0 m c) (X1 m c) (X3 m c) := by
  refine (dats m 0 c).arrAt_eq_of_covers 9 _ (by decide +kernel) fun t hf y => ?_
  blk_simp; rw [after0_9]
  idx_vars y
  obtain rfl : y0 = 0 := Subsingleton.elim _ _
  rw [emb9, ← w_eq]
  unfold outsAt0; frame_out
  rw [coord]
  refine View.canon_apply_of_pieces (Val := Elt Ideal) (e := .f32)
    (fun y : S1x2x512x256.Idx => (weightAt (Qb m c t) (KB m c t) (KC m c t) (SK m c t) t.val (y 1) (y 2) (y 3) : EReal)) _ (fun p hp x => ?_) (ix4 0 y1 y2 y3) ?_
  · rcases List.mem_cons.1 hp with rfl | hp
    · idx_vars x
      obtain rfl : x0 = 0 := Subsingleton.elim _ _
      obtain rfl : x1 = 0 := Subsingleton.elim _ _
      refine (w_1 (Qb m c t) (KB m c t) (KC m c t) (SK m c t) t.val x2 x3).trans ?_
      exact congrArg₂ (weightAt (Qb m c t) (KB m c t) (KC m c t) (SK m c t) t.val 1) (Fin.ext (show x2.val = 0 + 1 * x2.val by omega)) (Fin.ext (show x3.val = 0 + 1 * x3.val by omega))
    · obtain rfl := List.mem_singleton.1 hp
      idx_vars x
      obtain rfl : x0 = 0 := Subsingleton.elim _ _
      obtain rfl : x1 = 0 := Subsingleton.elim _ _
      refine (w_0 (Qb m c t) (KB m c t) (KC m c t) (SK m c t) t.val x2 x3).trans ?_
      exact congrArg₂ (weightAt (Qb m c t) (KB m c t) (KC m c t) (SK m c t) t.val 0) (Fin.ext (show x2.val = 0 + 1 * x2.val by omega)) (Fin.ext (show x3.val = 0 + 1 * x3.val by omega))
  · by_cases h : y1.val = 1
    · refine ⟨_, List.mem_cons_self, ?_⟩
      rw [LoadRect.mem_set]
      intro a
      match a with
      | ⟨0, _⟩ => exact ⟨0, Nat.one_pos, rfl⟩
      | ⟨1, _⟩ => exact ⟨0, Nat.one_pos, h⟩
      | ⟨2, _⟩ => exact ⟨y2.val, y2.isLt, show y2.val = 0 + 1 * y2.val by omega⟩
      | ⟨3, _⟩ => exact ⟨y3.val, y3.isLt, show y3.val = 0 + 1 * y3.val by omega⟩
    · refine ⟨_, List.mem_cons_of_mem _ (List.mem_singleton_self _), ?_⟩
      rw [LoadRect.mem_set]
      intro a
      match a with
      | ⟨0, _⟩ => exact ⟨0, Nat.one_pos, rfl⟩
      | ⟨1, _⟩ => exact ⟨0, Nat.one_pos, show y1.val = 0 by omega⟩
      | ⟨2, _⟩ => exact ⟨y2.val, y2.isLt, show y2.val = 0 + 1 * y2.val by omega⟩
      | ⟨3, _⟩ => exact ⟨y3.val, y3.isLt, show y3.val = 0 + 1 * y3.val by omega⟩

end Cert.AttnFwdIdeal.Fwd

end
-- ==== Proof.FwdClaims.lean ====
/- The claims about the windowed attention's forward call and the plain attention with a sink. -/
module

public import proofs.«01_k».proof.Defs
public import proofs.«01_k».proof.Proof.Gen.AttnFwd.Frame
public import proofs.«01_k».proof.Proof.Gen.AttnOutIdeal.Run
public import proofs.«01_k».proof.Proof.FwdValue
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

theorem attn_fwd_frame : Cert.quiescent_AttnFwd := fun m g _ => Cert.AttnFwd.Gen.frame m g
theorem attn_fwd_frame_ideal : Cert.quiescent_AttnFwdIdeal := fun m g _ => Cert.AttnFwdIdeal.Gen.frame m g
theorem attn_out_frame : Cert.quiescent_AttnOutIdeal := fun m g _ => by
  hlo_run
  · simp
  · exact sem_eq_zero_of_no_sems (sig := Cert.AttnOutIdeal.sig) (by decide) _

/-- The mask's constant −1e30 is the one constant named: the idealized call reads −∞ there. -/
theorem attn_fwd_preserves : Cert.preserves_AttnFwd_AttnFwdIdeal := by
  unfold Cert.preserves_AttnFwd_AttnFwdIdeal IdealRules.named_const.Statement
  exact ⟨rfl, fun _ => rfl, rfl⟩

set_option maxHeartbeats 0 in
theorem attn_fwd_algebraic : Cert.algebraic_AttnFwdIdeal_AttnOutIdeal := by
  pair_intro
  · run_from Cert.AttnFwdIdeal.Gen.run_main m g
  · run_from Cert.AttnOutIdeal.Value.run m' g'
    all_goals obtain ⟨e0, e1, e2, e3, e4⟩ := hagree c
    · rw [Cert.AttnOutIdeal.Read.val_main_v68_eq]
      change Cert.AttnOutIdeal.Read.val_main_v68 (F := Ideal) (m' (c.tc.loc Cert.AttnOutIdeal.main_arg0)) (m' (c.tc.loc Cert.AttnOutIdeal.main_arg1)) (m' (c.tc.loc Cert.AttnOutIdeal.main_arg2)) (m' (c.tc.loc Cert.AttnOutIdeal.main_arg3)) = _
      rw [e0, e1, e2, e3]
      exact (Cert.AttnFwdIdeal.Fwd.final7 _ _).symm
    · rw [← e4]
      refine (Cert.AttnOutIdeal.Read.val_main_v83_eq (F := Ideal) (StableHlo.launchContents m' c)).trans ?_
      change Cert.AttnOutIdeal.Read.val_main_v83 (F := Ideal) (m' (c.tc.loc Cert.AttnOutIdeal.main_arg0)) (m' (c.tc.loc Cert.AttnOutIdeal.main_arg1)) (m' (c.tc.loc Cert.AttnOutIdeal.main_arg2)) (m' (c.tc.loc Cert.AttnOutIdeal.main_arg3)) (m' (c.tc.loc Cert.AttnOutIdeal.main_arg4)) = _
      rw [e0, e1, e2, e3, e4]
      exact (Cert.AttnFwdIdeal.Fwd.final8 _ _).symm
    · rw [Cert.AttnOutIdeal.Read.val_main_v148_eq]
      change Cert.AttnOutIdeal.Read.val_main_v148 (F := Ideal) (m' (c.tc.loc Cert.AttnOutIdeal.main_arg0)) (m' (c.tc.loc Cert.AttnOutIdeal.main_arg1)) (m' (c.tc.loc Cert.AttnOutIdeal.main_arg3)) = _
      rw [e0, e1, e3]
      exact (Cert.AttnFwdIdeal.Fwd.final9 _ _).symm

end Cert.Proof

end
-- ==== Proof.CoreClaims.lean ====
/- The claims about the recurrence's backward call. -/
module

public import proofs.«01_k».proof.Defs
public import proofs.«01_k».proof.Proof.Gen.CoreBwd.Frame
public import proofs.«01_k».proof.Proof.Gen.CoreBwdIdeal.Frame
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

theorem core_frame : Cert.quiescent_CoreBwd := fun m g _ => Cert.CoreBwd.Gen.frame m g
theorem core_frame_ideal : Cert.quiescent_CoreBwdIdeal := fun m g _ => Cert.CoreBwdIdeal.Gen.frame m g

end Cert.Proof

end
-- ==== Proof.MixValue.lean ====
/- The four results of the output projection's forward call are those of the reference. -/
module

public import proofs.«01_k».proof.Proof.Gen.MixFwdIdeal.Value
public import proofs.«01_k».proof.Proof.Gen.MixOutIdeal.Read
public import proofs.«01_k».proof.Proof.Reals
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem
open scoped BigOperators

namespace Cert.MixFwdIdeal.Mix

open Cert.MixFwdIdeal Cert.MixFwdIdeal.Gen
open Cert.Reals (var)
open Cert.MixOutIdeal.Read

abbrev W : EReal := Ideal.ofBits .f32 0x44800000#32
abbrev E : EReal := Ideal.ofBits .f32 0x358637BD#32

/-! ## The call's tile -/

section Tile
variable (a b : FVec Ideal S256x512 .bf16) (w : FVec Ideal S1024x1024 .bf16) (g e : FVec Ideal S1x1024 .f32) (x : FVec Ideal S256x1024 .f32)
theorem joined (q : Fin 256) (l : Fin 1024) : k0_pay2 (F := Ideal) a b (ix2 q l) =
    if h : l.val < 512 then a (ix2 q ⟨l.val, h⟩) else b (ix2 q ⟨l.val - 512, by omega⟩) := by
  pointwise [k0_pay2]
theorem product (q : Fin 256) (l : Fin 1024) : k0_pay3 (F := Ideal) a b w (ix2 q l) = ∑ k : Fin 1024, k0_pay2 (F := Ideal) a b (ix2 q k) * w (ix2 k l) := by
  generalize hz : k0_pay2 (F := Ideal) a b = z
  pointwise [k0_pay3, hz]
theorem added (q : Fin 256) (l : Fin 1024) : k0_pay4 (F := Ideal) a b w g x (ix2 q l) =
    x (ix2 q l) + k0_pay3 (F := Ideal) a b w (ix2 q l) * Ideal.rsqrt (var W E fun k => k0_pay3 (F := Ideal) a b w (ix2 q k)) * g (ix2 0 l) := by
  generalize hz : k0_pay3 (F := Ideal) a b w = z
  pointwise [k0_pay4, hz, var, W, E]
theorem normed (q : Fin 256) (l : Fin 1024) : k0_pay1 (F := Ideal) (k0_pay4 (F := Ideal) a b w g x) e (k0_pay5 (F := Ideal) a b w g x) (ix2 q l) =
    k0_pay4 (F := Ideal) a b w g x (ix2 q l) * Ideal.rsqrt (var W E fun k => k0_pay4 (F := Ideal) a b w g x (ix2 q k)) * e (ix2 0 l) := by
  unfold k0_pay5
  generalize hz : k0_pay4 (F := Ideal) a b w g x = z
  pointwise [k0_pay1, var, W, E]
end Tile

/-! ## The reference -/

section Reference
variable (x0 x1 : FVec Ideal S2048x512 .f32) (x2 : FVec Ideal S2048x1024 .f32) (x3 : FVec Ideal S1x1024x1024 .f32) (x4 x5 : FVec Ideal S1x1024 .f32)
theorem v0_apply (r : Fin 2048) (l : Fin 1024) : val_main_v0 (F := Ideal) x0 x1 (ix2 r l) =
    if h : l.val < 512 then x0 (ix2 r ⟨l.val, h⟩) else x1 (ix2 r ⟨l.val - 512, by omega⟩) := by
  pointwise [val_main_v0]
theorem v2_apply (r : Fin 2048) (l : Fin 1024) : val_main_v2 (F := Ideal) x0 x1 x3 (ix2 r l) = ∑ k : Fin 1024, val_main_v0 (F := Ideal) x0 x1 (ix2 r k) * x3 (ix3 0 k l) := by
  unfold val_main_v2
  generalize hz : val_main_v0 (F := Ideal) x0 x1 = z
  pointwise [val_main_v1]
theorem v17_apply (r : Fin 2048) (l : Fin 1024) : val_main_v17 (F := Ideal) x0 x1 x2 x3 x4 (ix2 r l) =
    x2 (ix2 r l) + val_main_v2 (F := Ideal) x0 x1 x3 (ix2 r l) * Ideal.rsqrt (var W E fun k => val_main_v2 (F := Ideal) x0 x1 x3 (ix2 r k)) * x4 (ix2 0 l) := by
  unfold val_main_v17 val_main_v16 val_main_v13 val_main_v12 val_main_v11 val_main_v10 val_main_v8 val_main_v6 val_main_v5 val_main_v4
  generalize hz : val_main_v2 (F := Ideal) x0 x1 x3 = z
  pointwise [val_main_v15, val_main_v14, val_main_v3, val_main_v9, val_main_v7, val_main_cst, val_main_cst_0, val_main_cst_1, var, W, E]
theorem v33_apply (r : Fin 2048) (l : Fin 1024) : val_main_v33 (F := Ideal) x0 x1 x2 x3 x4 x5 (ix2 r l) =
    val_main_v17 (F := Ideal) x0 x1 x2 x3 x4 (ix2 r l) * Ideal.rsqrt (var W E fun k => val_main_v17 (F := Ideal) x0 x1 x2 x3 x4 (ix2 r k)) * x5 (ix2 0 l) := by
  unfold val_main_v33 val_main_v32 val_main_v29 val_main_v28 val_main_v27 val_main_v26 val_main_v24 val_main_v22 val_main_v21 val_main_v20
  generalize hz : val_main_v17 (F := Ideal) x0 x1 x2 x3 x4 = z
  pointwise [val_main_v31, val_main_v30, val_main_v19, val_main_v25, val_main_v23, val_main_cst_2, val_main_cst_3, val_main_cst_4, var, W, E]
end Reference

/-! ## The blocks -/

variable (m : (ℓ : Loc nD τ sig) → Buf (Elt Ideal) ℓ) (c : Dev nD)
abbrev X0 : FVec Ideal S2048x512 .f32 := m ((c : Thread nD τ).loc main_arg0)
abbrev X1 : FVec Ideal S2048x512 .f32 := m ((c : Thread nD τ).loc main_arg1)
abbrev X2 : FVec Ideal S2048x1024 .f32 := m ((c : Thread nD τ).loc main_arg2)
abbrev X3 : FVec Ideal S1x1024x1024 .f32 := m ((c : Thread nD τ).loc main_arg3)
abbrev X4 : FVec Ideal S1x1024 .f32 := m ((c : Thread nD τ).loc main_arg4)
abbrev X5 : FVec Ideal S1x1024 .f32 := m ((c : Thread nD τ).loc main_arg5)

theorem idx : ∀ t : Fin cfg0.N, win0_0.index t = ![0, t.val] ∧ win0_1.index t = ![t.val, 0] ∧ win0_2.index t = ![t.val, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0] ∧ win0_9.index t = ![t.val, 0] :=
  (by decide +kernel : ∀ t : Fin grid0.N, _)
theorem t_lt (t : Fin cfg0.N) : t.val < 8 := t.isLt
/-- Row `r` of block `t`. -/
def row (t : Fin cfg0.N) (r : Fin 256) : Fin 2048 := ⟨t.val * 256 + r.val, by have := t_lt t; omega⟩
variable (t : Fin cfg0.N) (r : Fin 256)
theorem emb0 (k : Fin 512) : ((cfg0.win 0).blk t).view.emb (ix2 r k) = ix2 r (⟨t.val * 512 + k.val, by have := t_lt t; omega⟩ : Fin 4096) := by blk_ext [idx t]
theorem emb1 (k : Fin 512) : ((cfg0.win 1).blk t).view.emb (ix2 r k) = ix2 (row t r) k := by blk_ext [idx t, row]
theorem emb2 (k : Fin 1024) : ((cfg0.win 2).blk t).view.emb (ix2 r k) = ix2 (row t r) k := by blk_ext [idx t, row]
theorem emb3 (l k : Fin 1024) : ((cfg0.win 3).blk t).view.emb (ix2 l k) = ix2 l k := by blk_ext [idx t]
theorem emb4 (k : Fin 1024) : ((cfg0.win 4).blk t).view.emb (ix2 0 k) = ix2 0 k := by blk_ext [idx t]
theorem emb5 (k : Fin 1024) : ((cfg0.win 5).blk t).view.emb (ix2 0 k) = ix2 0 k := by blk_ext [idx t]
theorem emb6 (k : Fin 1024) : ((cfg0.win 6).blk t).view.emb (ix2 r k) = ix2 (row t r) k := by blk_ext [idx t, row]
theorem emb7 (k : Fin 1024) : ((cfg0.win 7).blk t).view.emb (ix2 r k) = ix2 (row t r) k := by blk_ext [idx t, row]
theorem emb8 (k : Fin 1024) : ((cfg0.win 8).blk t).view.emb (ix2 r k) = ix2 (row t r) k := by blk_ext [idx t, row]
theorem emb9 (k : Fin 1024) : ((cfg0.win 9).blk t).view.emb (ix2 r k) = ix2 (row t r) k := by blk_ext [idx t, row]

theorem s_block (k : Fin 512) : iblk m c 0 t (ix2 r k) = X0 m c (ix2 (row t r) k) := by
  show V m c main_v3 (((cfg0.win 0).blk t).view.emb _) = _
  rw [emb0]
  have e : V m c main_v3 = truncf .bf16 (shapeCast S256x4096 (transpose S256x8x512 [1, 0, 2] (shapeCast S8x256x512 (X0 m c) shapeCasts_S2048x512_S8x256x512) transposes_S8x256x512_S256x8x512_1_0_2) shapeCasts_S256x8x512_S256x4096) bitsLt_bf16_f32 := by
    after_reads_simp
    rfl
  have := t_lt t
  rw [e]
  generalize X0 m c = x
  pointwise [row]
theorem a_block (k : Fin 512) : iblk m c 1 t (ix2 r k) = X1 m c (ix2 (row t r) k) := by
  show V m c main_v4 (((cfg0.win 1).blk t).view.emb _) = _
  have e : V m c main_v4 = truncf .bf16 (X1 m c) bitsLt_bf16_f32 := by after_reads_simp
  rw [emb1, e]; rfl
theorem x_block (k : Fin 1024) : iblk m c 2 t (ix2 r k) = X2 m c (ix2 (row t r) k) := by
  show V m c main_arg2 (((cfg0.win 2).blk t).view.emb _) = _
  rw [emb2, V_main_arg2]
theorem w_block (l k : Fin 1024) : iblk m c 3 t (ix2 l k) = X3 m c (ix3 0 l k) := by
  show V m c main_v6 (((cfg0.win 3).blk t).view.emb _) = _
  rw [emb3]
  entry_read
  pointwise
theorem g_block (k : Fin 1024) : iblk m c 4 t (ix2 0 k) = X4 m c (ix2 0 k) := by
  show V m c main_arg4 (((cfg0.win 4).blk t).view.emb _) = _
  rw [emb4, V_main_arg4]
theorem e_block (k : Fin 1024) : iblk m c 5 t (ix2 0 k) = X5 m c (ix2 0 k) := by
  show V m c main_arg5 (((cfg0.win 5).blk t).view.emb _) = _
  rw [emb5, V_main_arg5]

theorem joined_eq (l : Fin 1024) : k0_pay2 (F := Ideal) (iblk m c 0 t) (iblk m c 1 t) (ix2 r l) = val_main_v0 (F := Ideal) (X0 m c) (X1 m c) (ix2 (row t r) l) := by
  refine (joined _ _ r l).trans ((v0_apply _ _ _ l).trans ?_).symm
  by_cases h : l.val < 512
  · rw [dif_pos h, dif_pos h]; exact (s_block m c t r ⟨l.val, h⟩).symm
  · rw [dif_neg h, dif_neg h]; exact (a_block m c t r ⟨l.val - 512, by omega⟩).symm
theorem product_eq (l : Fin 1024) : k0_pay3 (F := Ideal) (iblk m c 0 t) (iblk m c 1 t) (iblk m c 3 t) (ix2 r l) = val_main_v2 (F := Ideal) (X0 m c) (X1 m c) (X3 m c) (ix2 (row t r) l) := by
  refine (product _ _ _ r l).trans ((v2_apply _ _ _ _ l).trans ?_).symm
  exact Finset.sum_congr rfl fun k _ => congrArg₂ (· * ·) (joined_eq m c t r k).symm (w_block m c t k l).symm
theorem added_eq (l : Fin 1024) : k0_pay4 (F := Ideal) (iblk m c 0 t) (iblk m c 1 t) (iblk m c 3 t) (iblk m c 4 t) (iblk m c 2 t) (ix2 r l)
    = val_main_v17 (F := Ideal) (X0 m c) (X1 m c) (X2 m c) (X3 m c) (X4 m c) (ix2 (row t r) l) := by
  refine (added _ _ _ _ _ r l).trans ((v17_apply _ _ _ _ _ _ l).trans ?_).symm
  simp only [← product_eq m c t r]
  exact congrArg₂ (· + ·) (x_block m c t r l).symm (congrArg (_ * ·) (g_block m c t l).symm)
theorem normed_eq (l : Fin 1024) : k0_pay1 (F := Ideal) (k0_pay4 (F := Ideal) (iblk m c 0 t) (iblk m c 1 t) (iblk m c 3 t) (iblk m c 4 t) (iblk m c 2 t)) (iblk m c 5 t)
      (k0_pay5 (F := Ideal) (iblk m c 0 t) (iblk m c 1 t) (iblk m c 3 t) (iblk m c 4 t) (iblk m c 2 t)) (ix2 r l)
    = val_main_v33 (F := Ideal) (X0 m c) (X1 m c) (X2 m c) (X3 m c) (X4 m c) (X5 m c) (ix2 (row t r) l) := by
  refine (normed _ _ _ _ _ _ r l).trans ((v33_apply _ _ _ _ _ _ _ l).trans ?_).symm
  simp only [← added_eq m c t r]
  exact congrArg (_ * ·) (e_block m c t l).symm

/-! ## The results -/

theorem final6 : (dats m 0 c).arrAt 6 (cfgs 0).N = val_main_v18 (F := Ideal) (X0 m c) (X1 m c) := by
  refine (dats m 0 c).arrAt_eq_of_covers 6 _ (by decide +kernel) fun t hf y => ?_
  blk_simp; rw [after0_6]
  idx_vars y
  rw [emb6]
  frame_out
  exact joined_eq m c t y0 y1
theorem final7 : (dats m 0 c).arrAt 7 (cfgs 0).N = val_main_v2 (F := Ideal) (X0 m c) (X1 m c) (X3 m c) := by
  refine (dats m 0 c).arrAt_eq_of_covers 7 _ (by decide +kernel) fun t hf y => ?_
  blk_simp; rw [after0_7]
  idx_vars y
  rw [emb7]
  frame_out
  exact product_eq m c t y0 y1
theorem final8 : (dats m 0 c).arrAt 8 (cfgs 0).N = val_main_v17 (F := Ideal) (X0 m c) (X1 m c) (X2 m c) (X3 m c) (X4 m c) := by
  refine (dats m 0 c).arrAt_eq_of_covers 8 _ (by decide +kernel) fun t hf y => ?_
  blk_simp; rw [after0_8]
  idx_vars y
  rw [emb8]
  frame_out
  exact added_eq m c t y0 y1
theorem final9 : (dats m 0 c).arrAt 9 (cfgs 0).N = val_main_v33 (F := Ideal) (X0 m c) (X1 m c) (X2 m c) (X3 m c) (X4 m c) (X5 m c) := by
  refine (dats m 0 c).arrAt_eq_of_covers 9 _ (by decide +kernel) fun t hf y => ?_
  blk_simp; rw [after0_9]
  idx_vars y
  rw [emb9]
  frame_out
  exact normed_eq m c t y0 y1

end Cert.MixFwdIdeal.Mix

end
-- ==== Proof.MixClaims.lean ====
/- The claims about the output projection's forward call and the plain projection with its two norms. -/
module

public import proofs.«01_k».proof.Defs
public import proofs.«01_k».proof.Proof.Gen.MixFwd.Frame
public import proofs.«01_k».proof.Proof.Gen.MixOutIdeal.Run
public import proofs.«01_k».proof.Proof.MixValue
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

theorem mix_frame : Cert.quiescent_MixFwd := fun m g _ => Cert.MixFwd.Gen.frame m g
theorem mix_frame_ideal : Cert.quiescent_MixFwdIdeal := fun m g _ => Cert.MixFwdIdeal.Gen.frame m g
theorem mix_out_frame : Cert.quiescent_MixOutIdeal := fun m g _ => by
  hlo_run
  · simp
  · exact sem_eq_zero_of_no_sems (sig := Cert.MixOutIdeal.sig) (by decide) _

set_option maxHeartbeats 0 in
theorem mix_algebraic : Cert.algebraic_MixFwdIdeal_MixOutIdeal := by
  pair_intro
  · run_from Cert.MixFwdIdeal.Gen.run_main m g
  · run_from Cert.MixOutIdeal.Value.run m' g'
    all_goals obtain ⟨e0, e1, e2, e3, e4, e5⟩ := hagree c
    · rw [Cert.MixOutIdeal.Read.val_main_v18_eq]
      exact (Cert.MixFwdIdeal.Mix.final6 _ _).symm
    · exact (Cert.MixFwdIdeal.Mix.final7 _ _).symm
    · rw [Cert.MixOutIdeal.Read.val_main_v17_eq]
      exact (Cert.MixFwdIdeal.Mix.final8 _ _).symm
    · rw [Cert.MixOutIdeal.Read.val_main_v33_eq]
      change Cert.MixOutIdeal.Read.val_main_v33 (F := Ideal) (m' (c.tc.loc Cert.MixOutIdeal.main_arg0)) (m' (c.tc.loc Cert.MixOutIdeal.main_arg1)) (m' (c.tc.loc Cert.MixOutIdeal.main_arg2)) (m' (c.tc.loc Cert.MixOutIdeal.main_arg3)) (m' (c.tc.loc Cert.MixOutIdeal.main_arg4)) (m' (c.tc.loc Cert.MixOutIdeal.main_arg5)) = _
      rw [e0, e1, e2, e3, e4, e5]
      exact (Cert.MixFwdIdeal.Mix.final9 _ _).symm

end Cert.Proof

end
-- ==== Proof.InFwdHost.lean ====
/- The tables and operands the host hands to the input projection's forward call. -/
module

public import proofs.«01_k».proof.Proof.Gen.InFwdIdeal.Value
public import proofs.«01_k».proof.Proof.Gen.InOutIdeal.Read
public import Idealize.ShloMosaic.Lib.Pipeline.ValueKit
public import Idealize.ShloMosaic.Lib.StableHlo.RunRead
public import proofs.«01_k».proof.Proof.Reals

@[expose] public section

set_option maxRecDepth 16384

noncomputable section

open Idealize.ShloMosaic Idealize.ShloMosaic.TcCoe Idealize.SL.Sem
open Idealize.ShloMosaic.Pipeline (Dat)
open scoped BigOperators

namespace Cert.InFwdIdeal.Fwd

open Cert.InFwdIdeal Cert.InFwdIdeal.Gen Cert.InFwdIdeal.Value Cert.Reals
open Cert.InOutIdeal.Read

variable (m : (ℓ : Loc nD τ sig) → Buf (Elt Ideal) ℓ) (c : Fin nD)
abbrev X1 : IVec S2048 32 := m ((c : Thread nD τ).loc main_arg1)
theorem V_eq (b : Ref sig .tc) : V m c b = StableHlo.after hostOps0 (fun b => m (c, b)) (Proc.devRef .tc b) := by
  show StableHlo.after _ _ _ = _
  simp only [List.flatten_cons, List.flatten_nil, List.append_nil]
theorem freq : StableHlo.upto hostOps0 (fun b => m (c, b)) 15 (Proc.devRef .tc main_v7) = val_main_v25 (F := Ideal) := by
  after_reads_simp
  rfl
theorem freq_lane (l : Fin 64) : (StableHlo.upto hostOps0 (fun b => m (c, b)) 17 (Proc.devRef .tc main_v11) : FVec Ideal S64 .f32) (ix1 l) =
    if h : l.val < 8 then val_main_v25 (F := Ideal) (ix1 ⟨l.val, h⟩) else if h : l.val - 8 < 8 then val_main_v25 (F := Ideal) (ix1 ⟨l.val - 8, h⟩) else (0 : EReal) := by
  have e : ∀ i : Fin 8, (StableHlo.upto hostOps0 (fun b => m (c, b)) 15 (Proc.devRef .tc main_v7) : FVec Ideal S8 .f32) (ix1 i) = val_main_v25 (F := Ideal) (ix1 i) := fun i => congrFun (freq m c) _
  generalize val_main_v25 (F := Ideal) = y at e ⊢
  after_reads_simp
  pointwise
  simp only [e]
  split_ifs
  all_goals first | rfl | omega | rw [dif_pos (by omega)]
theorem one_word : Ideal.ofBits .f32 0x3F800000#32 = (1 : EReal) := by
  simp [Ideal.ofBits, Ideal.ieee, -EReal.coe_mul]; norm_num
theorem ones (i : Fin 8) : (StableHlo.upto hostOps0 (fun b => m (c, b)) 20 (Proc.devRef .tc main_v9) : FVec Ideal S8 .f32) (ix1 i) = (1 : EReal) := by
  after_reads_simp
  pointwise
theorem minus_ones (i : Fin 8) : (StableHlo.upto hostOps0 (fun b => m (c, b)) 20 (Proc.devRef .tc main_v14) : FVec Ideal S8 .f32) (ix1 i) = (-1 : EReal) := by
  after_reads_simp
  pointwise
theorem sign_lane (l : Fin 64) : (StableHlo.upto hostOps0 (fun b => m (c, b)) 22 (Proc.devRef .tc main_v16) : FVec Ideal S64 .f32) (ix1 l) =
    if l.val < 8 then -1 else if l.val - 8 < 8 then 1 else (0 : EReal) := by
  have e := ones m c
  have e' := minus_ones m c
  after_reads_simp
  pointwise
  simp only [e, e']
  split_ifs <;> first | rfl | omega
abbrev posA (r : Fin 2048) : EReal := (((X1 m c (ix1 r)).toInt : ℝ) : EReal)
abbrev cosA (r : Fin 2048) (i : Fin 8) : EReal := val_main_v32 (F := Ideal) (X1 m c) (ix2 r i)
abbrev sinA (r : Fin 2048) (i : Fin 8) : EReal := val_main_v34 (F := Ideal) (X1 m c) (ix2 r i)
theorem cosA_eq (r : Fin 2048) (i : Fin 8)  : cosA m c r i = Ideal.cos (posA m c r * val_main_v25 (F := Ideal) (ix1 i)) := by
  show val_main_v32 (F := Ideal) _ _ = _
  pointwise [val_main_v32,val_main_v31, val_main_v30, val_main_v29, val_main_v28, val_main_v27, val_main_v26]
  rfl
theorem sinA_eq (r : Fin 2048) (i : Fin 8)  : sinA m c r i = Ideal.sin (posA m c r * val_main_v25 (F := Ideal) (ix1 i)) := by
  show val_main_v34 (F := Ideal) _ _ = _
  pointwise [val_main_v34,val_main_v31, val_main_v30, val_main_v29, val_main_v28, val_main_v27, val_main_v26]
  rfl
theorem angle (r : Fin 2048) (l : Fin 128) : (V (F := Ideal) m c main_v23 : FVec Ideal S2048x128 .f32) (ix2 r l) =
    posA m c r * (if h : l.val % 64 < 8 then val_main_v25 (F := Ideal) (ix1 ⟨l.val % 64, h⟩) else
      if h : l.val % 64 - 8 < 8 then val_main_v25 (F := Ideal) (ix1 ⟨l.val % 64 - 8, h⟩) else (0 : EReal)) := by
  have e := freq_lane m c
  rw [V_eq]
  after_reads_simp
  generalize val_main_v25 (F := Ideal) = y at e ⊢
  pointwise
  simp only [e]
  by_cases h : l.val < 64
  · simp only [h, dite_true, Nat.mod_eq_of_lt h]
    rfl
  · have : l.val % 64 = l.val - 64 := by omega
    simp only [h, dite_false, this]
    rfl
theorem sign (l : Fin 128) : (V (F := Ideal) m c main_v18 : FVec Ideal S1x128 .f32) (ix2 0 l) =
    if l.val % 64 < 8 then -1 else if l.val % 64 - 8 < 8 then 1 else (0 : EReal) := by
  have e := sign_lane m c
  rw [V_eq]
  after_reads_simp
  pointwise
  simp only [e]
  by_cases h : l.val < 64
  · simp only [h, dite_true, Nat.mod_eq_of_lt h]
  · have : l.val % 64 = l.val - 64 := by omega
    simp only [h, dite_false, this]
theorem cosT (r : Fin 2048) (l : Fin 128) : (V (F := Ideal) m c main_v24 : FVec Ideal S2048x128 .f32) (ix2 r l) =
    if h : l.val % 64 < 8 then cosA m c r ⟨l.val % 64, h⟩ else if h : l.val % 64 - 8 < 8 then cosA m c r ⟨l.val % 64 - 8, h⟩ else (1 : EReal) := by
  have e := angle m c r l
  rw [V_eq] at e ⊢
  have : (StableHlo.after hostOps0 (fun b => m (c, b)) (Proc.devRef .tc main_v24) : FVec Ideal S2048x128 .f32) (ix2 r l) =
      Ideal.cos ((StableHlo.after hostOps0 (fun b => m (c, b)) (Proc.devRef .tc main_v23) : FVec Ideal S2048x128 .f32) (ix2 r l)) := by
    after_reads_simp
    rfl
  refine this.trans ?_
  rw [e]
  simp only [cosA_eq]
  split_ifs
  · rfl
  · rfl
  · rw [mul_zero]
    show ((Real.cos 0 : ℝ) : EReal) = 1
    rw [Real.cos_zero]; rfl
theorem sinT (r : Fin 2048) (l : Fin 128) : (V (F := Ideal) m c main_v27 : FVec Ideal S2048x128 .f32) (ix2 r l) =
    if h : l.val % 64 < 8 then -sinA m c r ⟨l.val % 64, h⟩ else if h : l.val % 64 - 8 < 8 then sinA m c r ⟨l.val % 64 - 8, h⟩ else (0 : EReal) := by
  have e := angle m c r l
  have e' := sign m c l
  rw [V_eq] at e e' ⊢
  have : (StableHlo.after hostOps0 (fun b => m (c, b)) (Proc.devRef .tc main_v27) : FVec Ideal S2048x128 .f32) (ix2 r l) =
      Ideal.sin ((StableHlo.after hostOps0 (fun b => m (c, b)) (Proc.devRef .tc main_v23) : FVec Ideal S2048x128 .f32) (ix2 r l)) *
        (StableHlo.after hostOps0 (fun b => m (c, b)) (Proc.devRef .tc main_v18) : FVec Ideal S1x128 .f32) (ix2 0 l) := by
    after_reads_simp
    pointwise
  refine this.trans ?_
  rw [e, e']
  simp only [sinA_eq]
  split_ifs
  · rw [mul_neg, mul_one]
  · rw [mul_one]
  · rw [mul_zero]
theorem wT (r : Fin 1280) (l : Fin 1024) : (V (F := Ideal) m c main_v30 : FVec Ideal S1280x1024 .bf16) (ix2 r l) =
    (m ((c : Thread nD τ).loc main_arg3) : FVec Ideal S1x1024x1280 .f32) (ix3 0 l r) := by
  rw [V_eq]
  after_reads_simp
  pointwise

end Cert.InFwdIdeal.Fwd
end
-- ==== Proof.InFwdValue.lean ====
/- The five results of the input projection's forward call are those of the reference. -/
module

public import proofs.«01_k».proof.Proof.Gen.InFwdIdeal.Value
public import proofs.«01_k».proof.Proof.Gen.InOutIdeal.Read
public import Idealize.ShloMosaic.Lib.Pipeline.ValueKit
public import Idealize.ShloMosaic.Lib.StableHlo.RunRead
public import proofs.«01_k».proof.Proof.Reals
public import proofs.«01_k».proof.Proof.InFwdHost

@[expose] public section

set_option maxRecDepth 16384

noncomputable section

open Idealize.ShloMosaic Idealize.ShloMosaic.TcCoe Idealize.SL.Sem
open scoped BigOperators

namespace Cert.InFwdIdeal.Fwd

open Cert.InFwdIdeal Cert.InFwdIdeal.Gen
open Cert.Reals (var)
open Cert.InOutIdeal.Read

abbrev W : EReal := Ideal.ofBits .f32 0x44800000#32
abbrev E : EReal := Ideal.ofBits .f32 0x358637BD#32

/-! ## The rotation -/

/-- A rotation table's lane: `a`, then `b` on the first sixteen lanes of a head, `o` on the others. -/
def lane (a b : Fin 8 → EReal) (o : EReal) (k : ℕ) : EReal :=
  if h : k < 8 then a ⟨k, h⟩ else if h : k - 8 < 8 then b ⟨k - 8, h⟩ else o
/-- The rotation on the lanes of a head. -/
def turn {n : ℕ} (hn : 64 ∣ n) (C S : Fin 8 → EReal) (d : Fin n → EReal) (l : Fin n) : EReal :=
  if h : l.val % 64 < 8 then d l * C ⟨l.val % 64, h⟩ - d ⟨l.val + 8, by omega⟩ * S ⟨l.val % 64, h⟩
  else if h : l.val % 64 - 8 < 8 then d l * C ⟨l.val % 64 - 8, h⟩ + d ⟨l.val - 8, by omega⟩ * S ⟨l.val % 64 - 8, h⟩
  else d l
theorem below16 : ∀ l : Fin 512, IntOp.cmpi CmpIPredicate.slt (IntOp.andi (BitVec.ofNat 32 l.val) 63#32) 16#32 = if l.val % 64 < 16 then 1 else 0 := by decide +kernel
theorem below8 : ∀ l : Fin 512, IntOp.cmpi CmpIPredicate.slt (IntOp.andi (BitVec.ofNat 32 l.val) 63#32) 8#32 = if l.val % 64 < 8 then 1 else 0 := by decide +kernel
/-- A lane's word of the kernel's rotation. -/
theorem turn_word {n : ℕ} (hn : 64 ∣ n) (h : n ≤ 512) (C S : Fin 8 → EReal) (d : Fin n → EReal) (l i j : Fin n)
    (hi : l.val % 64 < 8 → i.val = l.val + 8) (hj : ¬ l.val % 64 < 8 → j.val = l.val - 8) :
    d l * lane C C 1 (l.val % 64) + Scalar.select (IntOp.cmpi CmpIPredicate.slt (IntOp.andi (BitVec.ofNat 32 l.val) 63#32) 8#32) (d i)
      (Scalar.select (IntOp.cmpi CmpIPredicate.slt (IntOp.andi (BitVec.ofNat 32 l.val) 63#32) 16#32) (d j) 0) * lane (fun k => -S k) S 0 (l.val % 64) =
    turn hn C S d l := by
  rw [below8 ⟨l.val, by omega⟩, below16 ⟨l.val, by omega⟩]
  simp only [Scalar.select, turn]
  by_cases h1 : l.val % 64 < 8
  · have e : i = ⟨l.val + 8, by omega⟩ := Fin.ext (hi h1)
    subst e
    simp only [h1, if_true, dite_true, lane]
    rw [mul_neg]
    rfl
  · have e : j = ⟨l.val - 8, by omega⟩ := Fin.ext (hj h1)
    subst e
    by_cases h2 : l.val % 64 - 8 < 8
    · have h3 : l.val % 64 < 16 := by omega
      simp [h1, h2, h3, lane]
    · have h3 : ¬ l.val % 64 < 16 := by omega
      simp [h1, h2, h3, lane]

/-! ## The call's tile -/

section Tile
variable (x : FVec Ideal S256x1024 .f32) (g : FVec Ideal S1x1024 .f32) (w : FVec Ideal S1280x1024 .bf16) (cs sn : FVec Ideal S256x128 .f32)
theorem normed (q : Fin 256) (l : Fin 1024) : k0_pay4 (F := Ideal) x g (ix2 q l) = x (ix2 q l) * Ideal.rsqrt (var W E fun k => x (ix2 q k)) * g (ix2 0 l) := by
  pointwise [k0_pay4, var, W, E]
theorem product (q : Fin 256) (l : Fin 1280) : k0_pay5 (F := Ideal) x g w (ix2 q l) = ∑ k : Fin 1024, k0_pay4 (F := Ideal) x g (ix2 q k) * w (ix2 l k) := by
  unfold k0_pay5
  generalize hz : k0_pay4 (F := Ideal) x g = z
  pointwise
theorem first (q : Fin 256) (l : Fin 512) : k0_pay6 (F := Ideal) x g w (ix2 q l) = k0_pay5 (F := Ideal) x g w (ix2 q ⟨l.val, by omega⟩) := by
  unfold k0_pay6
  generalize hz : k0_pay5 (F := Ideal) x g w = z
  pointwise
theorem second (q : Fin 256) (l : Fin 512) : k0_pay7 (F := Ideal) x g w (ix2 q l) = k0_pay5 (F := Ideal) x g w (ix2 q ⟨512 + l.val, by omega⟩) := by
  unfold k0_pay7
  generalize hz : k0_pay5 (F := Ideal) x g w = z
  pointwise
theorem third (q : Fin 256) (l : Fin 128) : k0_pay8 (F := Ideal) x g w (ix2 q l) = k0_pay5 (F := Ideal) x g w (ix2 q ⟨1024 + l.val, by omega⟩) := by
  unfold k0_pay8
  generalize hz : k0_pay5 (F := Ideal) x g w = z
  pointwise
theorem fourth (z : FVec Ideal S256x1280 .f32) (q : Fin 256) (l : Fin 128) : k0_pay3 (F := Ideal) z (ix2 q l) = z (ix2 q ⟨1152 + l.val, by omega⟩) := by
  pointwise [k0_pay3]
variable (r : Fin 256) (C S : Fin 8 → EReal)
  (hc : ∀ l : Fin 128, cs (ix2 r l) = lane C C 1 (l.val % 64)) (hs : ∀ l : Fin 128, sn (ix2 r l) = lane (fun k => -S k) S 0 (l.val % 64))
include hc hs
theorem turned (l : Fin 512) : k0_pay1 (F := Ideal) (k0_pay7 (F := Ideal) x g w) (k0_pay10 (F := Ideal) sn) (k0_pay11 (F := Ideal) x g w cs) k0_pay12 k0_pay13 (k0_pay14 (F := Ideal) x g w) (Scalar.ofBits .f32 0x00000000#32) (ix2 r l)
    = turn (by decide) C S (fun k => k0_pay5 (F := Ideal) x g w (ix2 r ⟨512 + k.val, by omega⟩)) l := by
  have four (f : Fin 128 → EReal) (k : Fin 512) (g : ℕ → EReal) (hg : ∀ k : Fin 128, f k = g (k.val % 64)) :
      (if h : k.val < 128 then f ⟨k.val, h⟩ else if h : k.val - 128 < 128 then f ⟨k.val - 128, h⟩ else
        if h : k.val - 128 - 128 < 128 then f ⟨k.val - 128 - 128, h⟩ else f ⟨k.val - 128 - 128 - 128, by omega⟩) = g (k.val % 64) := by
    split_ifs <;> rw [hg] <;> refine congrArg g ?_
    · show (k.val - 128) % 64 = _
      omega
    · show (k.val - 128 - 128) % 64 = _
      omega
    · show (k.val - 128 - 128 - 128) % 64 = _
      omega
  simp only [← second x g w r]
  unfold k0_pay11 k0_pay14
  generalize k0_pay7 (F := Ideal) x g w = z
  refine Eq.trans ?_ (turn_word (by decide) le_rfl C S (fun k => z (ix2 r k)) l ⟨(l.val + 512 - 504) % 512, by omega⟩ ⟨(l.val + 512 - 8) % 512, by omega⟩ (fun h => ?_) fun h => ?_)
  · rw [← four (fun k => cs (ix2 r k)) l _ hc, ← four (fun k => sn (ix2 r k)) l _ hs]
    pointwise [k0_pay1, k0_pay9, k0_pay10, k0_pay12, k0_pay13]
  · show (l.val + 512 - 504) % 512 = _
    omega
  · show (l.val + 512 - 8) % 512 = _
    omega
theorem turned_keys (l : Fin 128) : k0_pay2 (F := Ideal) (k0_pay8 (F := Ideal) x g w) (k0_pay9 (F := Ideal) cs) (k0_pay10 (F := Ideal) sn) (ix2 r l)
    = turn (by decide) C S (fun k => k0_pay5 (F := Ideal) x g w (ix2 r ⟨1024 + k.val, by omega⟩)) l := by
  simp only [← third x g w r]
  generalize k0_pay8 (F := Ideal) x g w = z
  refine Eq.trans ?_ (turn_word (by decide) (by decide) C S (fun k => z (ix2 r k)) l ⟨(l.val + 128 - 120) % 128, by omega⟩ ⟨(l.val + 128 - 8) % 128, by omega⟩ (fun h => ?_) fun h => ?_)
  · rw [← hc, ← hs]
    pointwise [k0_pay2, k0_pay9, k0_pay10]
  · show (l.val + 128 - 120) % 128 = _
    omega
  · show (l.val + 128 - 8) % 128 = _
    omega
end Tile

/-! ## The reference -/

section Reference
variable (x0 : FVec Ideal S2048x1024 .f32) (x1 : IVec S2048 32) (x2 : FVec Ideal S1x1024 .f32) (x3 : FVec Ideal S1x1024x1280 .f32)
theorem v13_apply (r : Fin 2048) (l : Fin 1024) : val_main_v13 (F := Ideal) x0 x2 (ix2 r l) = x0 (ix2 r l) * Ideal.rsqrt (var W E fun k => x0 (ix2 r k)) * x2 (ix2 0 l) := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, var, W, E]
theorem v15_apply (r : Fin 2048) (l : Fin 1280) : val_main_v15 (F := Ideal) x0 x2 x3 (ix2 r l) = ∑ k : Fin 1024, val_main_v13 (F := Ideal) x0 x2 (ix2 r k) * x3 (ix3 0 k l) := by
  unfold val_main_v15
  generalize hz : val_main_v13 (F := Ideal) x0 x2 = z
  pointwise [val_main_v14]
theorem v49_turn (r : Fin 2048) (h : Fin 8) (e : Fin 64) : val_main_v49 (F := Ideal) x0 x1 x2 x3 (ix3 r h e) =
    turn (n := 512) (by decide) (fun i => val_main_v32 (F := Ideal) x1 (ix2 r i)) (fun i => val_main_v34 (F := Ideal) x1 (ix2 r i)) (fun k => val_main_v15 (F := Ideal) x0 x2 x3 (ix2 r ⟨512 + k.val, by omega⟩)) ⟨h.val * 64 + e.val, by omega⟩ := by
  have e' : (h.val * 64 + e.val) % 64 = e.val := by omega
  simp only [turn, e']
  unfold val_main_v49 val_main_v42 val_main_v47 val_main_v48 val_main_v39 val_main_v41 val_main_v44 val_main_v46 val_main_v36 val_main_v37 val_main_v17 val_main_v16 val_main_v38 val_main_v40 val_main_v43 val_main_v45 val_main_v33 val_main_v35
  generalize val_main_v15 (F := Ideal) x0 x2 x3 = z
  generalize val_main_v32 (F := Ideal) x1 = C
  generalize val_main_v34 (F := Ideal) x1 = S
  pointwise
  by_cases h1 : e.val < 8
  · have k1 : 512 + (h.val * 64 + (8 + e.val)) = 512 + (h.val * 64 + e.val + 8) := by omega
    simp only [h1, dite_true, k1]
  · by_cases h2 : e.val - 8 < 8
    · have k1 : 512 + (h.val * 64 + (8 + (e.val - 8))) = 512 + (h.val * 64 + e.val) := by omega
      have k2 : 512 + (h.val * 64 + (e.val - 8)) = 512 + (h.val * 64 + e.val - 8) := by omega
      simp only [h1, h2, dite_true, dite_false, k1, k2]
    · have k1 : 512 + (h.val * 64 + (16 + (e.val - 8 - 8))) = 512 + (h.val * 64 + e.val) := by omega
      simp only [h1, h2, dite_false, k1]
theorem v84_turn (r : Fin 2048) (h : Fin 2) (e : Fin 64) : val_main_v84 (F := Ideal) x0 x1 x2 x3 (ix3 r h e) =
    turn (n := 128) (by decide) (fun i => val_main_v32 (F := Ideal) x1 (ix2 r i)) (fun i => val_main_v34 (F := Ideal) x1 (ix2 r i)) (fun k => val_main_v15 (F := Ideal) x0 x2 x3 (ix2 r ⟨1024 + k.val, by omega⟩)) ⟨h.val * 64 + e.val, by omega⟩ := by
  have e' : (h.val * 64 + e.val) % 64 = e.val := by omega
  have c : val_main_v32 (F := Ideal) x1 = val_main_v67 (F := Ideal) x1 := rfl
  have s : val_main_v34 (F := Ideal) x1 = val_main_v69 (F := Ideal) x1 := rfl
  simp only [turn, e', c, s]
  unfold val_main_v84 val_main_v77 val_main_v82 val_main_v83 val_main_v74 val_main_v76 val_main_v79 val_main_v81 val_main_v71 val_main_v72 val_main_v52 val_main_v51 val_main_v73 val_main_v75 val_main_v78 val_main_v80 val_main_v68 val_main_v70
  generalize val_main_v15 (F := Ideal) x0 x2 x3 = z
  generalize val_main_v67 (F := Ideal) x1 = C
  generalize val_main_v69 (F := Ideal) x1 = S
  pointwise
  by_cases h1 : e.val < 8
  · have k1 : 1024 + (h.val * 64 + (8 + e.val)) = 1024 + (h.val * 64 + e.val + 8) := by omega
    simp only [h1, dite_true, k1]
  · by_cases h2 : e.val - 8 < 8
    · have k1 : 1024 + (h.val * 64 + (8 + (e.val - 8))) = 1024 + (h.val * 64 + e.val) := by omega
      have k2 : 1024 + (h.val * 64 + (e.val - 8)) = 1024 + (h.val * 64 + e.val - 8) := by omega
      simp only [h1, h2, dite_true, dite_false, k1, k2]
    · have k1 : 1024 + (h.val * 64 + (16 + (e.val - 8 - 8))) = 1024 + (h.val * 64 + e.val) := by omega
      simp only [h1, h2, dite_false, k1]
theorem v91_turn (r : Fin 2048) (l : Fin 512) : val_main_v91 (F := Ideal) x0 x1 x2 x3 (ix2 r l) =
    turn (by decide) (fun i => val_main_v32 (F := Ideal) x1 (ix2 r i)) (fun i => val_main_v34 (F := Ideal) x1 (ix2 r i)) (fun k => val_main_v15 (F := Ideal) x0 x2 x3 (ix2 r ⟨512 + k.val, by omega⟩)) l := by
  have e : (⟨l.val / 64 * 64 + l.val % 64, by omega⟩ : Fin 512) = l := Fin.ext (by show l.val / 64 * 64 + l.val % 64 = _; omega)
  refine Eq.trans ?_ ((v49_turn x0 x1 x2 x3 r ⟨l.val / 64, by omega⟩ ⟨l.val % 64, by omega⟩).trans (congrArg _ e))
  unfold val_main_v91 val_main_v50
  generalize val_main_v49 (F := Ideal) x0 x1 x2 x3 = z
  pointwise
theorem v92_turn (r : Fin 2048) (l : Fin 128) : val_main_v92 (F := Ideal) x0 x1 x2 x3 (ix2 r l) =
    turn (by decide) (fun i => val_main_v32 (F := Ideal) x1 (ix2 r i)) (fun i => val_main_v34 (F := Ideal) x1 (ix2 r i)) (fun k => val_main_v15 (F := Ideal) x0 x2 x3 (ix2 r ⟨1024 + k.val, by omega⟩)) l := by
  have e : (⟨l.val / 64 * 64 + l.val % 64, by omega⟩ : Fin 128) = l := Fin.ext (by show l.val / 64 * 64 + l.val % 64 = _; omega)
  refine Eq.trans ?_ ((v84_turn x0 x1 x2 x3 r ⟨l.val / 64, by omega⟩ ⟨l.val % 64, by omega⟩).trans (congrArg _ e))
  unfold val_main_v92 val_main_v85
  generalize val_main_v84 (F := Ideal) x0 x1 x2 x3 = z
  pointwise
theorem v94_apply (r : Fin 2048) (l : Fin 128) : val_main_v94 (F := Ideal) x0 x2 x3 (ix2 r l) = val_main_v15 (F := Ideal) x0 x2 x3 (ix2 r ⟨1152 + l.val, by omega⟩) := by
  unfold val_main_v94 val_main_v93
  generalize val_main_v15 (F := Ideal) x0 x2 x3 = z
  pointwise
theorem v89_apply (r : Fin 256) (s : Fin 8) (l : Fin 512) : val_main_v89 (F := Ideal) x0 x2 x3 (ix2 r ⟨s.val * 512 + l.val, by omega⟩) =
    val_main_v15 (F := Ideal) x0 x2 x3 (ix2 ⟨s.val * 256 + r.val, by omega⟩ ⟨l.val, by omega⟩) := by
  unfold val_main_v89 val_main_v88 val_main_v87 val_main_v86
  generalize val_main_v15 (F := Ideal) x0 x2 x3 = z
  pointwise
end Reference

/-! ## The blocks -/

variable (m : (ℓ : Loc nD τ sig) → Buf (Elt Ideal) ℓ) (c : Dev nD)
abbrev X0 : FVec Ideal S2048x1024 .f32 := m ((c : Thread nD τ).loc main_arg0)
abbrev X2 : FVec Ideal S1x1024 .f32 := m ((c : Thread nD τ).loc main_arg2)
abbrev X3 : FVec Ideal S1x1024x1280 .f32 := m ((c : Thread nD τ).loc main_arg3)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![0, t.val] ∧ win0_7.index t = ![t.val, 0] ∧ win0_8.index t = ![t.val, 0] ∧ win0_9.index t = ![t.val, 0] :=
  (by decide +kernel : ∀ t : Fin grid0.N, _)
theorem t_lt (t : Fin cfg0.N) : t.val < 8 := t.isLt
/-- Row `r` of block `t`. -/
def row (t : Fin cfg0.N) (r : Fin 256) : Fin 2048 := ⟨t.val * 256 + r.val, by have := t_lt t; omega⟩
variable (t : Fin cfg0.N) (r : Fin 256)
theorem emb0 (k : Fin 1024) : ((cfg0.win 0).blk t).view.emb (ix2 r k) = ix2 (row t r) k := by blk_ext [idx t, row]
theorem emb1 (k : Fin 1024) : ((cfg0.win 1).blk t).view.emb (ix2 0 k) = ix2 0 k := by blk_ext [idx t]
theorem emb2 (l : Fin 1280) (k : Fin 1024) : ((cfg0.win 2).blk t).view.emb (ix2 l k) = ix2 l k := by blk_ext [idx t]
theorem emb3 (k : Fin 128) : ((cfg0.win 3).blk t).view.emb (ix2 r k) = ix2 (row t r) k := by blk_ext [idx t, row]
theorem emb4 (k : Fin 128) : ((cfg0.win 4).blk t).view.emb (ix2 r k) = ix2 (row t r) k := by blk_ext [idx t, row]
theorem emb5 (k : Fin 1024) : ((cfg0.win 5).blk t).view.emb (ix2 r k) = ix2 (row t r) k := by blk_ext [idx t, row]
theorem emb6 (k : Fin 512) : ((cfg0.win 6).blk t).view.emb (ix2 r k) = ix2 r (⟨t.val * 512 + k.val, by have := t_lt t; omega⟩ : Fin 4096) := by blk_ext [idx t]
theorem emb7 (k : Fin 512) : ((cfg0.win 7).blk t).view.emb (ix2 r k) = ix2 (row t r) k := by blk_ext [idx t, row]
theorem emb8 (k : Fin 128) : ((cfg0.win 8).blk t).view.emb (ix2 r k) = ix2 (row t r) k := by blk_ext [idx t, row]
theorem emb9 (k : Fin 128) : ((cfg0.win 9).blk t).view.emb (ix2 r k) = ix2 (row t r) k := by blk_ext [idx t, row]

theorem x_block (k : Fin 1024) : iblk m c 0 t (ix2 r k) = X0 m c (ix2 (row t r) k) := by
  show V m c main_arg0 (((cfg0.win 0).blk t).view.emb _) = _
  rw [emb0, V_main_arg0]
theorem g_block (k : Fin 1024) : iblk m c 1 t (ix2 0 k) = X2 m c (ix2 0 k) := by
  show V m c main_arg2 (((cfg0.win 1).blk t).view.emb _) = _
  rw [emb1, V_main_arg2]
theorem w_block (l : Fin 1280) (k : Fin 1024) : iblk m c 2 t (ix2 l k) = X3 m c (ix3 0 k l) := by
  show V m c main_v30 (((cfg0.win 2).blk t).view.emb _) = _
  rw [emb2]
  exact wT m c l k
theorem cos_block (l : Fin 128) : iblk m c 3 t (ix2 r l) = lane (cosA m c (row t r)) (cosA m c (row t r)) 1 (l.val % 64) := by
  show V m c main_v24 (((cfg0.win 3).blk t).view.emb _) = _
  rw [emb3]
  exact cosT m c (row t r) l
theorem sin_block (l : Fin 128) : iblk m c 4 t (ix2 r l) = lane (fun k => -sinA m c (row t r) k) (sinA m c (row t r)) 0 (l.val % 64) := by
  show V m c main_v27 (((cfg0.win 4).blk t).view.emb _) = _
  rw [emb4]
  exact sinT m c (row t r) l

theorem normed_eq (l : Fin 1024) : k0_pay4 (F := Ideal) (iblk m c 0 t) (iblk m c 1 t) (ix2 r l) = val_main_v13 (F := Ideal) (X0 m c) (X2 m c) (ix2 (row t r) l) := by
  refine (normed _ _ r l).trans ((v13_apply _ _ _ l).trans ?_).symm
  simp only [← x_block m c t r]
  exact congrArg (_ * ·) (g_block m c t l).symm
theorem product_eq (l : Fin 1280) : k0_pay5 (F := Ideal) (iblk m c 0 t) (iblk m c 1 t) (iblk m c 2 t) (ix2 r l) = val_main_v15 (F := Ideal) (X0 m c) (X2 m c) (X3 m c) (ix2 (row t r) l) := by
  refine (product _ _ _ r l).trans ((v15_apply _ _ _ _ l).trans ?_).symm
  exact Finset.sum_congr rfl fun k _ => congrArg₂ (· * ·) (normed_eq m c t r k).symm (w_block m c t l k).symm

theorem sin_tile (a : FVec Ideal S256x1024 .f32) (b : FVec Ideal S1x1024 .f32) (w : FVec Ideal S1280x1024 .bf16) (cs sn : FVec Ideal S256x128 .f32) :
    k0_pay15 (F := Ideal) a b w cs sn = k0_pay10 (F := Ideal) sn := by
  unfold k0_pay15
  simp (disch := decide) only [View.ld_unit_lit']
theorem turned_eq (l : Fin 512) : k0_pay1 (F := Ideal) (k0_pay7 (F := Ideal) (iblk m c 0 t) (iblk m c 1 t) (iblk m c 2 t)) (k0_pay10 (F := Ideal) (iblk m c 4 t)) (k0_pay11 (F := Ideal) (iblk m c 0 t) (iblk m c 1 t) (iblk m c 2 t) (iblk m c 3 t))
      k0_pay12 k0_pay13 (k0_pay14 (F := Ideal) (iblk m c 0 t) (iblk m c 1 t) (iblk m c 2 t)) (Scalar.ofBits .f32 0x00000000#32) (ix2 r l) = val_main_v91 (F := Ideal) (X0 m c) (X1 m c) (X2 m c) (X3 m c) (ix2 (row t r) l) := by
  rw [turned (iblk m c 0 t) (iblk m c 1 t) (iblk m c 2 t) (iblk m c 3 t) (iblk m c 4 t) r _ _ (cos_block m c t r) (sin_block m c t r) l, v91_turn]
  simp only [product_eq m c t r]
theorem turned_keys_eq (l : Fin 128) : k0_pay2 (F := Ideal) (k0_pay8 (F := Ideal) (iblk m c 0 t) (iblk m c 1 t) (iblk m c 2 t)) (k0_pay9 (F := Ideal) (iblk m c 3 t)) (k0_pay10 (F := Ideal) (iblk m c 4 t)) (ix2 r l)
    = val_main_v92 (F := Ideal) (X0 m c) (X1 m c) (X2 m c) (X3 m c) (ix2 (row t r) l) := by
  rw [turned_keys (iblk m c 0 t) (iblk m c 1 t) (iblk m c 2 t) (iblk m c 3 t) (iblk m c 4 t) r _ _ (cos_block m c t r) (sin_block m c t r) l, v92_turn]
  simp only [product_eq m c t r]

/-! ## The results -/

theorem final5 : (dats m 0 c).arrAt 5 (cfgs 0).N = val_main_v90 (F := Ideal) (X0 m c) (X2 m c) := by
  refine (dats m 0 c).arrAt_eq_of_covers 5 _ (by decide +kernel) fun t hf y => ?_
  blk_simp; rw [after0_5]
  idx_vars y
  rw [emb5]
  frame_out
  exact normed_eq m c t y0 y1
theorem final6 : (dats m 0 c).arrAt 6 (cfgs 0).N = val_main_v89 (F := Ideal) (X0 m c) (X2 m c) (X3 m c) := by
  refine (dats m 0 c).arrAt_eq_of_covers 6 _ (by decide +kernel) fun t hf y => ?_
  blk_simp; rw [after0_6]
  idx_vars y
  rw [emb6]
  frame_out
  exact (first _ _ _ y0 y1).trans ((product_eq m c t y0 ⟨y1.val, by omega⟩).trans (v89_apply _ _ _ y0 ⟨t.val, t_lt t⟩ y1).symm)
theorem final7 : (dats m 0 c).arrAt 7 (cfgs 0).N = val_main_v91 (F := Ideal) (X0 m c) (X1 m c) (X2 m c) (X3 m c) := by
  refine (dats m 0 c).arrAt_eq_of_covers 7 _ (by decide +kernel) fun t hf y => ?_
  blk_simp; rw [after0_7]
  idx_vars y
  rw [emb7]
  frame_out
  rw [sin_tile]
  exact turned_eq m c t y0 y1
theorem final8 : (dats m 0 c).arrAt 8 (cfgs 0).N = val_main_v92 (F := Ideal) (X0 m c) (X1 m c) (X2 m c) (X3 m c) := by
  refine (dats m 0 c).arrAt_eq_of_covers 8 _ (by decide +kernel) fun t hf y => ?_
  blk_simp; rw [after0_8]
  idx_vars y
  rw [emb8]
  frame_out
  rw [sin_tile]
  exact turned_keys_eq m c t y0 y1
theorem final9 : (dats m 0 c).arrAt 9 (cfgs 0).N = val_main_v94 (F := Ideal) (X0 m c) (X2 m c) (X3 m c) := by
  refine (dats m 0 c).arrAt_eq_of_covers 9 _ (by decide +kernel) fun t hf y => ?_
  blk_simp; rw [after0_9]
  idx_vars y
  rw [emb9]
  frame_out
  exact (fourth _ y0 y1).trans ((product_eq m c t y0 ⟨1152 + y1.val, by omega⟩).trans (v94_apply _ _ _ _ y1).symm)

end Cert.InFwdIdeal.Fwd

end
-- ==== Proof.InFwdClaims.lean ====
/- The claims about the input projection's forward call and the plain projection with its norm and rotation. -/
module

public import proofs.«01_k».proof.Defs
public import proofs.«01_k».proof.Proof.Gen.InFwd.Frame
public import proofs.«01_k».proof.Proof.Gen.InOutIdeal.Run
public import proofs.«01_k».proof.Proof.InFwdValue
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

theorem in_fwd_frame : Cert.quiescent_InFwd := fun m g _ => Cert.InFwd.Gen.frame m g
theorem in_fwd_frame_ideal : Cert.quiescent_InFwdIdeal := fun m g _ => Cert.InFwdIdeal.Gen.frame m g
theorem in_out_frame : Cert.quiescent_InOutIdeal := fun m g _ => by
  hlo_run
  · simp
  · exact sem_eq_zero_of_no_sems (sig := Cert.InOutIdeal.sig) (by decide) _

set_option maxHeartbeats 0 in
theorem in_fwd_algebraic : Cert.algebraic_InFwdIdeal_InOutIdeal := by
  pair_intro
  · run_from Cert.InFwdIdeal.Gen.run_main m g
  · run_from Cert.InOutIdeal.Value.run m' g'
    all_goals obtain ⟨e0, e1, e2, e3⟩ := hagree c
    · rw [Cert.InOutIdeal.Read.val_main_v90_eq]
      exact (Cert.InFwdIdeal.Fwd.final5 _ _).symm
    · rw [Cert.InOutIdeal.Read.val_main_v89_eq]
      exact (Cert.InFwdIdeal.Fwd.final6 _ _).symm
    · rw [Cert.InOutIdeal.Read.val_main_v91_eq]
      change Cert.InOutIdeal.Read.val_main_v91 (F := Ideal) (m' (c.tc.loc Cert.InOutIdeal.main_arg0)) (m' (c.tc.loc Cert.InOutIdeal.main_arg1)) (m' (c.tc.loc Cert.InOutIdeal.main_arg2)) (m' (c.tc.loc Cert.InOutIdeal.main_arg3)) = _
      rw [e0, e1, e2, e3]
      exact (Cert.InFwdIdeal.Fwd.final7 _ _).symm
    · rw [Cert.InOutIdeal.Read.val_main_v92_eq]
      change Cert.InOutIdeal.Read.val_main_v92 (F := Ideal) (m' (c.tc.loc Cert.InOutIdeal.main_arg0)) (m' (c.tc.loc Cert.InOutIdeal.main_arg1)) (m' (c.tc.loc Cert.InOutIdeal.main_arg2)) (m' (c.tc.loc Cert.InOutIdeal.main_arg3)) = _
      rw [e0, e1, e2, e3]
      exact (Cert.InFwdIdeal.Fwd.final8 _ _).symm
    · rw [Cert.InOutIdeal.Read.val_main_v94_eq]
      exact (Cert.InFwdIdeal.Fwd.final9 _ _).symm

end Cert.Proof

end
-- ==== Proof.GluFwdValue.lean ====
/- The two results of the state-space output's forward call that its backward call takes are those of the reference. -/
module

public import proofs.«01_k».proof.Proof.Gen.GluFwdIdeal.Value
public import proofs.«01_k».proof.Proof.Gen.GluOutIdeal.Read
public import Idealize.ShloMosaic.Lib.Pipeline.ValueKit
public import Idealize.ShloMosaic.Lib.StableHlo.RunRead
public import proofs.«01_k».proof.Proof.Reals

@[expose] public section

set_option maxRecDepth 16384

noncomputable section

open Idealize.ShloMosaic Idealize.ShloMosaic.TcCoe Idealize.SL.Sem
open scoped BigOperators

namespace Cert.GluFwdIdeal.Fwd

open Cert.GluFwdIdeal Cert.GluFwdIdeal.Gen
open Cert.GluOutIdeal.Read

def th (y : EReal) : EReal := Ideal.tanh (Ideal.ofBits .f32 0x3F4C422A#32 * (y + Ideal.ofBits .f32 0x3D372713#32 * y * y * y))
def gelu (y : EReal) : EReal := Ideal.ofBits .f32 0x3F000000#32 * y * (1 + th y)

/-! ## The call's tile -/

section Tile
variable (a u : FVec Ideal S256x512 .f32) (d : FVec Ideal S1x512 .f32) (w : FVec Ideal S1024x512 .bf16) (b : FVec Ideal S1x1024 .f32)
theorem skip (q : Fin 256) (l : Fin 512) : k0_pay2 (F := Ideal) a d u (ix2 q l) = a (ix2 q l) + d (ix2 0 l) * u (ix2 q l) := by
  pointwise [k0_pay2]
theorem product (q : Fin 256) (l : Fin 1024) : k0_pay3 (F := Ideal) a d u w b (ix2 q l) = ∑ k : Fin 512, gelu (k0_pay2 (F := Ideal) a d u (ix2 q k)) * w (ix2 l k) + b (ix2 0 l) := by
  unfold k0_pay3
  generalize hz : k0_pay2 (F := Ideal) a d u = z
  pointwise [gelu, th]
end Tile

/-! ## The reference -/

section Reference
variable (x0 x1 : FVec Ideal S2048x512 .f32) (x2 : FVec Ideal S1x32x16 .f32) (x3 : FVec Ideal S1x512x1024 .f32) (x4 : FVec Ideal S1x1024 .f32)
theorem v5_apply (r : Fin 2048) (l : Fin 512) : val_main_v5 (F := Ideal) x0 x1 x2 (ix2 r l) = x0 (ix2 r l) + x2 (ix3 0 ⟨l.val / 16, by omega⟩ ⟨l.val % 16, by omega⟩) * x1 (ix2 r l) := by
  pointwise [val_main_v5, val_main_v4, val_main_v3, val_main_v2, val_main_v1, val_main_v0]
theorem v18_apply (r : Fin 2048) (l : Fin 512) : val_main_v18 (F := Ideal) x0 x1 x2 (ix2 r l) = gelu (val_main_v5 (F := Ideal) x0 x1 x2 (ix2 r l)) := by
  unfold val_main_v18 val_main_v17 val_main_v15 val_main_v13 val_main_v12 val_main_v10 val_main_v9 val_main_v7 val_main_v6
  generalize hz : val_main_v5 (F := Ideal) x0 x1 x2 = z
  refine Eq.trans ?_ (show z (ix2 r l) * (Ideal.ofBits .f32 0x3F000000#32 * (1 + Ideal.tanh (Ideal.ofBits .f32 0x3F4C422A#32 * (z (ix2 r l) + Ideal.ofBits .f32 0x3D372713#32 * (z (ix2 r l) * z (ix2 r l) * z (ix2 r l)))))) = _ by
    unfold gelu th
    simp only [mul_assoc]
    rw [mul_left_comm])
  pointwise [val_main_v16, val_main_v14, val_main_v11, val_main_v8, val_main_cst, val_main_cst_0, val_main_cst_1, val_main_cst_2]
theorem v24_apply (r : Fin 2048) (l : Fin 1024) : val_main_v24 (F := Ideal) x0 x1 x2 x3 x4 (ix2 r l) = ∑ k : Fin 512, val_main_v18 (F := Ideal) x0 x1 x2 (ix2 r k) * x3 (ix3 0 k l) + x4 (ix2 0 l) := by
  unfold val_main_v24 val_main_v20
  generalize hz : val_main_v18 (F := Ideal) x0 x1 x2 = z
  pointwise [val_main_v19, val_main_v23, val_main_v22, val_main_v21]
/-- The time of row `r` in the order of steps. -/
def time (r : Fin 2048) : Fin 2048 := ⟨r.val % 8 * 256 + r.val / 8, by omega⟩
theorem v27_apply (r : Fin 2048) (l : Fin 512) : val_main_v27 (F := Ideal) x0 x1 x2 (ix2 r l) = val_main_v5 (F := Ideal) x0 x1 x2 (ix2 (time r) l) := by
  unfold val_main_v27 val_main_v26 val_main_v25
  generalize hz : val_main_v5 (F := Ideal) x0 x1 x2 = z
  pointwise [time]
theorem v30_apply (r : Fin 2048) (l : Fin 1024) : val_main_v30 (F := Ideal) x0 x1 x2 x3 x4 (ix2 r l) = val_main_v24 (F := Ideal) x0 x1 x2 x3 x4 (ix2 (time r) l) := by
  unfold val_main_v30 val_main_v29 val_main_v28
  generalize hz : val_main_v24 (F := Ideal) x0 x1 x2 x3 x4 = z
  pointwise [time]
end Reference

/-! ## The blocks -/

variable (m : (ℓ : Loc nD τ sig) → Buf (Elt Ideal) ℓ) (c : Dev nD)
abbrev X0 : FVec Ideal S2048x512 .f32 := m ((c : Thread nD τ).loc main_arg0)
abbrev X1 : FVec Ideal S2048x512 .f32 := m ((c : Thread nD τ).loc main_arg1)
abbrev X2 : FVec Ideal S1x32x16 .f32 := m ((c : Thread nD τ).loc main_arg2)
abbrev X3 : FVec Ideal S1x512x1024 .f32 := m ((c : Thread nD τ).loc main_arg3)
abbrev X4 : FVec Ideal S1x1024 .f32 := m ((c : Thread nD τ).loc main_arg4)
theorem V_eq (b : Ref sig .tc) : V m c b = StableHlo.after hostOps0 (fun b => m (c, b)) (Proc.devRef .tc b) := by
  show StableHlo.after _ _ _ = _
  simp only [List.flatten_cons, List.flatten_nil, List.append_nil]
theorem conv (r : Fin 2048) (l : Fin 512) : (V (F := Ideal) m c main_v2 : FVec Ideal S2048x512 .f32) (ix2 r l) = X0 m c (ix2 (time r) l) := by
  rw [V_eq]
  after_reads_simp
  pointwise [time]
theorem input (r : Fin 2048) (l : Fin 512) : (V (F := Ideal) m c main_v5 : FVec Ideal S2048x512 .f32) (ix2 r l) = X1 m c (ix2 (time r) l) := by
  rw [V_eq]
  after_reads_simp
  pointwise [time]
theorem gains (l : Fin 512) : (V (F := Ideal) m c main_v6 : FVec Ideal S1x512 .f32) (ix2 0 l) = X2 m c (ix3 0 ⟨l.val / 16, by omega⟩ ⟨l.val % 16, by omega⟩) := by
  rw [V_eq]
  after_reads_simp
  pointwise
theorem wT (r : Fin 1024) (l : Fin 512) : (V (F := Ideal) m c main_v9 : FVec Ideal S1024x512 .bf16) (ix2 r l) = X3 m c (ix3 0 l r) := by
  rw [V_eq]
  after_reads_simp
  pointwise

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_6.index t = ![t.val, 0] ∧ win0_7.index t = ![t.val, 0] :=
  (by decide +kernel : ∀ t : Fin grid0.N, _)
theorem t_lt (t : Fin cfg0.N) : t.val < 8 := t.isLt
/-- Row `r` of block `t`. -/
def row (t : Fin cfg0.N) (r : Fin 256) : Fin 2048 := ⟨t.val * 256 + r.val, by have := t_lt t; omega⟩
variable (t : Fin cfg0.N) (r : Fin 256)
theorem emb0 (k : Fin 512) : ((cfg0.win 0).blk t).view.emb (ix2 r k) = ix2 (row t r) k := by blk_ext [idx t, row]
theorem emb1 (k : Fin 512) : ((cfg0.win 1).blk t).view.emb (ix2 r k) = ix2 (row t r) k := by blk_ext [idx t, row]
theorem emb2 (k : Fin 512) : ((cfg0.win 2).blk t).view.emb (ix2 0 k) = ix2 0 k := by blk_ext [idx t]
theorem emb3 (l : Fin 1024) (k : Fin 512) : ((cfg0.win 3).blk t).view.emb (ix2 l k) = ix2 l k := by blk_ext [idx t]
theorem emb4 (k : Fin 1024) : ((cfg0.win 4).blk t).view.emb (ix2 0 k) = ix2 0 k := by blk_ext [idx t]
theorem emb6 (k : Fin 512) : ((cfg0.win 6).blk t).view.emb (ix2 r k) = ix2 (row t r) k := by blk_ext [idx t, row]
theorem emb7 (k : Fin 1024) : ((cfg0.win 7).blk t).view.emb (ix2 r k) = ix2 (row t r) k := by blk_ext [idx t, row]

theorem conv_block (k : Fin 512) : iblk m c 0 t (ix2 r k) = X0 m c (ix2 (time (row t r)) k) := by
  show V m c main_v2 (((cfg0.win 0).blk t).view.emb _) = _
  rw [emb0]
  exact conv m c (row t r) k
theorem input_block (k : Fin 512) : iblk m c 1 t (ix2 r k) = X1 m c (ix2 (time (row t r)) k) := by
  show V m c main_v5 (((cfg0.win 1).blk t).view.emb _) = _
  rw [emb1]
  exact input m c (row t r) k
theorem gain_block (k : Fin 512) : iblk m c 2 t (ix2 0 k) = X2 m c (ix3 0 ⟨k.val / 16, by omega⟩ ⟨k.val % 16, by omega⟩) := by
  show V m c main_v6 (((cfg0.win 2).blk t).view.emb _) = _
  rw [emb2]
  exact gains m c k
theorem w_block (l : Fin 1024) (k : Fin 512) : iblk m c 3 t (ix2 l k) = X3 m c (ix3 0 k l) := by
  show V m c main_v9 (((cfg0.win 3).blk t).view.emb _) = _
  rw [emb3]
  exact wT m c l k
theorem b_block (k : Fin 1024) : iblk m c 4 t (ix2 0 k) = X4 m c (ix2 0 k) := by
  show V m c main_arg4 (((cfg0.win 4).blk t).view.emb _) = _
  rw [emb4, V_main_arg4]

theorem skip_eq (l : Fin 512) : k0_pay2 (F := Ideal) (iblk m c 0 t) (iblk m c 2 t) (iblk m c 1 t) (ix2 r l) = val_main_v5 (F := Ideal) (X0 m c) (X1 m c) (X2 m c) (ix2 (time (row t r)) l) := by
  refine (skip _ _ _ r l).trans ((v5_apply _ _ _ _ l).trans ?_).symm
  exact congrArg₂ (· + ·) (conv_block m c t r l).symm (congrArg₂ (· * ·) (gain_block m c t l).symm (input_block m c t r l).symm)
theorem product_eq (l : Fin 1024) : k0_pay3 (F := Ideal) (iblk m c 0 t) (iblk m c 2 t) (iblk m c 1 t) (iblk m c 3 t) (iblk m c 4 t) (ix2 r l) =
    val_main_v24 (F := Ideal) (X0 m c) (X1 m c) (X2 m c) (X3 m c) (X4 m c) (ix2 (time (row t r)) l) := by
  refine (product _ _ _ _ _ r l).trans ((v24_apply _ _ _ _ _ _ l).trans ?_).symm
  refine congrArg₂ (· + ·) (Finset.sum_congr rfl fun k _ => congrArg₂ (· * ·) ?_ (w_block m c t l k).symm) (b_block m c t l).symm
  exact (v18_apply _ _ _ _ k).trans (congrArg gelu (skip_eq m c t r k).symm)

/-! ## The results -/

theorem final6 : (dats m 0 c).arrAt 6 (cfgs 0).N = val_main_v27 (F := Ideal) (X0 m c) (X1 m c) (X2 m c) := by
  refine (dats m 0 c).arrAt_eq_of_covers 6 _ (by decide +kernel) fun t hf y => ?_
  blk_simp; rw [after0_6]
  idx_vars y
  rw [emb6]
  unfold outsAt0; frame_out
  exact (skip_eq m c t y0 y1).trans (v27_apply _ _ _ (row t y0) y1).symm
theorem final7 : (dats m 0 c).arrAt 7 (cfgs 0).N = val_main_v30 (F := Ideal) (X0 m c) (X1 m c) (X2 m c) (X3 m c) (X4 m c) := by
  refine (dats m 0 c).arrAt_eq_of_covers 7 _ (by decide +kernel) fun t hf y => ?_
  blk_simp; rw [after0_7]
  idx_vars y
  rw [emb7]
  unfold outsAt0; frame_out
  exact (product_eq m c t y0 y1).trans (v30_apply _ _ _ _ _ (row t y0) y1).symm

end Cert.GluFwdIdeal.Fwd

end
-- ==== Proof.GluFwdClaims.lean ====
/- The claims about the state-space output's forward call and the plain skip, gelu and product. -/
module

public import proofs.«01_k».proof.Defs
public import proofs.«01_k».proof.Proof.Gen.GluFwd.Frame
public import proofs.«01_k».proof.Proof.Gen.GluOutIdeal.Run
public import proofs.«01_k».proof.Proof.GluFwdValue
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

theorem glu_fwd_frame : Cert.quiescent_GluFwd := fun m g _ => Cert.GluFwd.Gen.frame m g
theorem glu_fwd_frame_ideal : Cert.quiescent_GluFwdIdeal := fun m g _ => Cert.GluFwdIdeal.Gen.frame m g
theorem glu_out_frame : Cert.quiescent_GluOutIdeal := fun m g _ => by
  hlo_run
  · simp
  · exact sem_eq_zero_of_no_sems (sig := Cert.GluOutIdeal.sig) (by decide) _

set_option maxHeartbeats 0 in
theorem glu_fwd_algebraic : Cert.algebraic_GluFwdIdeal_GluOutIdeal := by
  pair_intro
  · run_from Cert.GluFwdIdeal.Gen.run_main m g
  · run_from Cert.GluOutIdeal.Value.run m' g'
    all_goals obtain ⟨e0, e1, e2, e3, e4, e5⟩ := hagree c
    · rw [Cert.GluOutIdeal.Read.val_main_v27_eq]
      exact (Cert.GluFwdIdeal.Fwd.final6 _ _).symm
    · rw [Cert.GluOutIdeal.Read.val_main_v30_eq]
      exact (Cert.GluFwdIdeal.Fwd.final7 _ _).symm

end Cert.Proof

end
-- ==== Proof.lean ====
module

public import proofs.«01_k».proof.Defs
public import proofs.«01_k».proof.Proof.Gen.OutBwd
public import proofs.«01_k».proof.Proof.Gen.OutBwdIdeal
public import proofs.«01_k».proof.Proof.Gen.OutGradIdeal
public import proofs.«01_k».proof.Proof.Gen.OutBwdIdeal.Value
public import proofs.«01_k».proof.Proof.Gen.OutGradIdeal.Run
public import proofs.«01_k».proof.Proof.Gen.OutGradIdeal.Read
public import proofs.«01_k».proof.Proof.Gen.AttnBwd
public import proofs.«01_k».proof.Proof.Gen.AttnBwdIdeal
public import proofs.«01_k».proof.Proof.Gen.AttnGradIdeal
public import proofs.«01_k».proof.Proof.Gen.AttnBwdIdeal.Frame
public import proofs.«01_k».proof.Proof.Gen.AttnGradIdeal.Run
public import proofs.«01_k».proof.Proof.Gen.AttnGradIdeal.Read
public import proofs.«01_k».proof.Proof.Gen.InBwd
public import proofs.«01_k».proof.Proof.Gen.InBwd.Frame
public import proofs.«01_k».proof.Proof.Gen.InBwdIdeal
public import proofs.«01_k».proof.Proof.Gen.InBwdIdeal.Frame
public import proofs.«01_k».proof.Proof.Gen.InBwdIdeal.Value
public import proofs.«01_k».proof.Proof.Gen.InGradIdeal
public import proofs.«01_k».proof.Proof.Gen.InGradIdeal.Run
public import proofs.«01_k».proof.Proof.Gen.InGradIdeal.Read
public import proofs.«01_k».proof.Proof.Gen.GluBwd
public import proofs.«01_k».proof.Proof.Gen.GluBwd.Frame
public import proofs.«01_k».proof.Proof.Gen.GluBwdIdeal
public import proofs.«01_k».proof.Proof.Gen.GluBwdIdeal.Frame
public import proofs.«01_k».proof.Proof.Gen.GluBwdIdeal.Value
public import proofs.«01_k».proof.Proof.Gen.GluGradIdeal
public import proofs.«01_k».proof.Proof.Gen.GluGradIdeal.Run
public import proofs.«01_k».proof.Proof.Gen.GluGradIdeal.Read
public import proofs.«01_k».proof.Proof.Gen.FfnBwd
public import proofs.«01_k».proof.Proof.Gen.FfnBwd.Frame
public import proofs.«01_k».proof.Proof.Gen.FfnBwdIdeal
public import proofs.«01_k».proof.Proof.Gen.FfnBwdIdeal.Frame
public import proofs.«01_k».proof.Proof.Gen.FfnBwdIdeal.Value
public import proofs.«01_k».proof.Proof.Gen.FfnGradIdeal
public import proofs.«01_k».proof.Proof.Gen.FfnGradIdeal.Run
public import proofs.«01_k».proof.Proof.Gen.FfnGradIdeal.Read
public import proofs.«01_k».proof.Proof.Gen.ParamBwd
public import proofs.«01_k».proof.Proof.Gen.ParamBwd.Frame
public import proofs.«01_k».proof.Proof.Gen.ParamBwdIdeal
public import proofs.«01_k».proof.Proof.Gen.ParamBwdIdeal.Frame
public import proofs.«01_k».proof.Proof.Gen.ParamBwdIdeal.Value
public import proofs.«01_k».proof.Proof.Gen.ParamGradIdeal
public import proofs.«01_k».proof.Proof.Gen.ParamGradIdeal.Run
public import proofs.«01_k».proof.Proof.Gen.ParamGradIdeal.Read
public import proofs.«01_k».proof.Proof.OutClaims
public import proofs.«01_k».proof.Proof.AttnClaims
public import proofs.«01_k».proof.Proof.InClaims
public import proofs.«01_k».proof.Proof.GluClaims
public import proofs.«01_k».proof.Proof.FfnClaims
public import proofs.«01_k».proof.Proof.ParamClaims
public import proofs.«01_k».proof.Proof.FwdClaims
public import proofs.«01_k».proof.Proof.CoreClaims
public import proofs.«01_k».proof.Proof.MixClaims
public import proofs.«01_k».proof.Proof.InFwdClaims
public import proofs.«01_k».proof.Proof.GluFwdClaims
public import Idealize.ShloMosaic.Adequacy
public import proofs.«01_k».proof.Proof.Gen.AttnFwd.Frame
public import proofs.«01_k».proof.Proof.Gen.AttnFwdIdeal.Frame
public import proofs.«01_k».proof.Proof.Gen.AttnFwdIdeal.Value
public import proofs.«01_k».proof.Proof.Gen.AttnOutIdeal.Run
public import proofs.«01_k».proof.Proof.Gen.AttnOutIdeal.Read
public import proofs.«01_k».proof.Proof.Gen.AttnFwd
public import proofs.«01_k».proof.Proof.Gen.AttnFwdIdeal
public import proofs.«01_k».proof.Proof.Gen.AttnOutIdeal
public import proofs.«01_k».proof.Proof.Gen.CoreBwd.Frame
public import proofs.«01_k».proof.Proof.Gen.CoreBwdIdeal.Frame
public import proofs.«01_k».proof.Proof.Gen.CoreBwd
public import proofs.«01_k».proof.Proof.Gen.CoreBwdIdeal
public import proofs.«01_k».proof.Proof.Gen.MixFwd
public import proofs.«01_k».proof.Proof.Gen.MixFwd.Frame
public import proofs.«01_k».proof.Proof.Gen.MixFwdIdeal
public import proofs.«01_k».proof.Proof.Gen.MixFwdIdeal.Frame
public import proofs.«01_k».proof.Proof.Gen.MixFwdIdeal.Value
public import proofs.«01_k».proof.Proof.Gen.MixOutIdeal
public import proofs.«01_k».proof.Proof.Gen.MixOutIdeal.Run
public import proofs.«01_k».proof.Proof.Gen.MixOutIdeal.Read
public import proofs.«01_k».proof.Proof.Gen.InFwd
public import proofs.«01_k».proof.Proof.Gen.InFwd.Frame
public import proofs.«01_k».proof.Proof.Gen.InFwdIdeal
public import proofs.«01_k».proof.Proof.Gen.InFwdIdeal.Frame
public import proofs.«01_k».proof.Proof.Gen.InFwdIdeal.Value
public import proofs.«01_k».proof.Proof.Gen.InOutIdeal
public import proofs.«01_k».proof.Proof.Gen.InOutIdeal.Run
public import proofs.«01_k».proof.Proof.Gen.InOutIdeal.Read
public import proofs.«01_k».proof.Proof.Gen.GluFwd
public import proofs.«01_k».proof.Proof.Gen.GluFwd.Frame
public import proofs.«01_k».proof.Proof.Gen.GluFwdIdeal
public import proofs.«01_k».proof.Proof.Gen.GluFwdIdeal.Frame
public import proofs.«01_k».proof.Proof.Gen.GluFwdIdeal.Value
public import proofs.«01_k».proof.Proof.Gen.GluOutIdeal
public import proofs.«01_k».proof.Proof.Gen.GluOutIdeal.Run
public import proofs.«01_k».proof.Proof.Gen.GluOutIdeal.Read
public import Idealize.ShloMosaic.Init

@[expose] public section

noncomputable section

namespace Cert.Proof

open Idealize.ShloMosaic Idealize.SL.Sem

theorem claim : Cert.Claim :=
  ⟨Cert.OutBwd.Gen.facts, Cert.OutBwdIdeal.Gen.facts, Cert.OutGradIdeal.Gen.facts,
    Cert.AttnBwd.Gen.facts, Cert.AttnBwdIdeal.Gen.facts, Cert.AttnGradIdeal.Gen.facts,
    Cert.InBwd.Gen.facts, Cert.InBwdIdeal.Gen.facts, Cert.InGradIdeal.Gen.facts,
    Cert.GluBwd.Gen.facts, Cert.GluBwdIdeal.Gen.facts, Cert.GluGradIdeal.Gen.facts,
    Cert.FfnBwd.Gen.facts, Cert.FfnBwdIdeal.Gen.facts, Cert.FfnGradIdeal.Gen.facts,
    Cert.ParamBwd.Gen.facts, Cert.ParamBwdIdeal.Gen.facts, Cert.ParamGradIdeal.Gen.facts,
    Cert.AttnFwd.Gen.facts, Cert.AttnFwdIdeal.Gen.facts, Cert.AttnOutIdeal.Gen.facts,
    Cert.CoreBwd.Gen.facts, Cert.CoreBwdIdeal.Gen.facts, Cert.MixFwd.Gen.facts, Cert.MixFwdIdeal.Gen.facts, Cert.MixOutIdeal.Gen.facts,
    Cert.InFwd.Gen.facts, Cert.InFwdIdeal.Gen.facts, Cert.InOutIdeal.Gen.facts,
    Cert.GluFwd.Gen.facts, Cert.GluFwdIdeal.Gen.facts, Cert.GluOutIdeal.Gen.facts,
    out_pre_facts, attn_pre_facts, in_pre_facts, glu_pre_facts, ffn_pre_facts,
    out_frame, out_frame_ideal, out_frame_ideal_pre, out_grad_frame, out_grad_frame_pre,
    attn_frame, attn_frame_ideal, attn_frame_ideal_pre, attn_grad_frame, attn_grad_frame_pre,
    in_frame, in_frame_ideal, in_frame_ideal_pre, in_grad_frame, in_grad_frame_pre,
    glu_frame, glu_frame_ideal, glu_frame_ideal_pre, glu_grad_frame, glu_grad_frame_pre,
    ffn_frame, ffn_frame_ideal, ffn_frame_ideal_pre, ffn_grad_frame, ffn_grad_frame_pre,
    param_frame, param_frame_ideal, param_grad_frame,
    attn_fwd_frame, attn_fwd_frame_ideal, attn_out_frame,
    core_frame, core_frame_ideal, mix_frame, mix_frame_ideal, mix_out_frame,
    in_fwd_frame, in_fwd_frame_ideal, in_out_frame, glu_fwd_frame, glu_fwd_frame_ideal, glu_out_frame,
    trivial, out_algebraic, trivial, attn_algebraic, trivial, in_algebraic, trivial, glu_algebraic, trivial, ffn_algebraic, trivial, param_algebraic,
    attn_fwd_preserves, attn_fwd_algebraic, trivial, trivial, mix_algebraic, trivial, in_fwd_algebraic, trivial, glu_fwd_algebraic⟩

end Cert.Proof

end
